-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v8_0)) (v1 : (c : Dev Cert.Kernel17Ideal.nD) → Buf (Elt Ideal) ((c.tc : Thread Cert.Kernel17Ideal.nD Cert.Kernel17Ideal.τ).loc Cert.Kernel17Ideal.main_v8_1)) (v2 : (c : Dev Cert.Kernel17Ideal.nD) → Buf (Elt Ideal) ((c.tc : Thread Cert.Kernel17Ideal.nD Cert.Kernel17Ideal.τ).loc Cert.Kernel17Ideal.main_v8_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8_0) = v0 c
          ∧ r.2.mem ((c.tc : Thread Cert.Kernel17Ideal.nD Cert.Kernel17Ideal.τ).loc Cert.Kernel17Ideal.main_v8_1) = v1 c
          ∧ r.2.mem ((c.tc : Thread Cert.Kernel17Ideal.nD Cert.Kernel17Ideal.τ).loc Cert.Kernel17Ideal.main_v8_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v36) = v1 c
          ∧ r.2.mem ((c.tc : Thread Cert.Reference17Ideal.nD Cert.Reference17Ideal.τ).loc Cert.Reference17Ideal.main_v17) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v67) = v0 c
          ∧ r.2.mem ((c.tc : Thread Cert.Reference18Ideal.nD Cert.Reference18Ideal.τ).loc Cert.Reference18Ideal.main_v62) = v1 c
          ∧ r.2.mem ((c.tc : Thread Cert.Reference18Ideal.nD Cert.Reference18Ideal.τ).loc Cert.Reference18Ideal.main_v30) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v9_0)) (v1 : (c : Dev Cert.Kernel19Ideal.nD) → Buf (Elt Ideal) ((c.tc : Thread Cert.Kernel19Ideal.nD Cert.Kernel19Ideal.τ).loc Cert.Kernel19Ideal.main_v9_1)) (v2 : (c : Dev Cert.Kernel19Ideal.nD) → Buf (Elt Ideal) ((c.tc : Thread Cert.Kernel19Ideal.nD Cert.Kernel19Ideal.τ).loc Cert.Kernel19Ideal.main_v9_2)) (v3 : (c : Dev Cert.Kernel19Ideal.nD) → Buf (Elt Ideal) ((c.tc : Thread Cert.Kernel19Ideal.nD Cert.Kernel19Ideal.τ).loc Cert.Kernel19Ideal.main_v9_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v9_0) = v0 c
          ∧ r.2.mem ((c.tc : Thread Cert.Kernel19Ideal.nD Cert.Kernel19Ideal.τ).loc Cert.Kernel19Ideal.main_v9_1) = v1 c
          ∧ r.2.mem ((c.tc : Thread Cert.Kernel19Ideal.nD Cert.Kernel19Ideal.τ).loc Cert.Kernel19Ideal.main_v9_2) = v2 c
          ∧ r.2.mem ((c.tc : Thread Cert.Kernel19Ideal.nD Cert.Kernel19Ideal.τ).loc Cert.Kernel19Ideal.main_v9_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v17) = v1 c
          ∧ r.2.mem ((c.tc : Thread Cert.Reference19Ideal.nD Cert.Reference19Ideal.τ).loc Cert.Reference19Ideal.main_v13) = v2 c
          ∧ r.2.mem ((c.tc : Thread Cert.Reference19Ideal.nD Cert.Reference19Ideal.τ).loc Cert.Reference19Ideal.main_v22) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v49) = v0 c
          ∧ r.2.mem ((c.tc : Thread Cert.Reference20Ideal.nD Cert.Reference20Ideal.τ).loc Cert.Reference20Ideal.main_v48) = v1 c
          ∧ r.2.mem ((c.tc : Thread Cert.Reference20Ideal.nD Cert.Reference20Ideal.τ).loc Cert.Reference20Ideal.main_v50) = v2 c
          ∧ r.2.mem ((c.tc : Thread Cert.Reference20Ideal.nD Cert.Reference20Ideal.τ).loc Cert.Reference20Ideal.main_v32) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite2 : Cert.Pre_finite2.Facts) (hPre_finite18 : Cert.Pre_finite18.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4096x5120 : Shape := ⟨2, ![4096, 5120]⟩
abbrev S4x256x64 : Shape := ⟨3, ![4, 256, 64]⟩
abbrev S4x4x4096 : Shape := ⟨3, ![4, 4, 4096]⟩
abbrev S4096x2048 : Shape := ⟨2, ![4096, 2048]⟩
abbrev S4096x1024 : Shape := ⟨2, ![4096, 1024]⟩
abbrev S_ : Shape := ⟨0, ![]⟩

class Facts : Prop where
  slices_S4096x5120_S4096x1024_0_2560 : S4096x5120.Slices ![0, 2560] S4096x1024
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4x256x64 : S_.BroadcastsInDim S4x256x64 (![] : Fin 0 → Fin S4x256x64.rank)
  reducesTo_S4x256x64_S_d0_1_2 : S4x256x64.ReducesTo [0, 1, 2] S_
  bcast_S_S4x4x4096 : S_.BroadcastsInDim S4x4x4096 (![] : Fin 0 → Fin S4x4x4096.rank)
  reducesTo_S4x4x4096_S_d0_1_2 : S4x4x4096.ReducesTo [0, 1, 2] S_

variable [Facts]

def fn_part1 {F : FTy → Type} [FloatOps F] (main_v1 : FVec F S4096x1024 .f32) (main_v5 : IVec S_ 1) (main_v10 : IVec S_ 1) (main_v15 : IVec S_ 1) (main_v16 : FVec F S4x4x4096 .f32) (main_cst_4 : FVec F S_ .f32) : IVec S_ 1 :=
  let main_v17 : FVec F S4x4x4096 .f32 := broadcastInDim S4x4x4096 ![] bcast_S_S4x4x4096 main_cst_4
  let main_v18 : IVec S4x4x4096 1 := cmpf .olt main_v16 main_v17
  let main_c_5 : IVec S_ 1 := constantI S_ 1 1#1
  let main_v19 : IVec S_ 1 := (fun x v => Host.reduce IntOp.andi x v reducesTo_S4x4x4096_S_d0_1_2 h_S_) main_v18 main_c_5
  let main_v20 : FVec F S4096x1024 .f32 := Host.absf main_v1
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v5 main_v10
  let main_v25 : IVec S_ 1 := andi main_v24 main_v15
  let main_v26 : IVec S_ 1 := andi main_v25 main_v19
  let main_v27 : IVec S_ 1 := andi main_v26 main_v23
  main_v27

def fn {F : FTy → Type} [FloatOps F] (main_arg0 : FVec F S4096x5120 .f32) (main_arg1 : FVec F S4x256x64 .bf16) (main_arg2 : FVec F S4x256x64 .bf16) (main_arg3 : FVec F S4x4x4096 .f32) (main_arg4 : FVec F S4096x2048 .f32) : IVec S_ 1 :=
  let main_v0 : FVec F S4096x1024 .f32 := (extractStridedSlice S4096x1024 ![0, 2560] · slices_S4096x5120_S4096x1024_0_2560) main_arg0
  let main_v1 : FVec F S4096x1024 .f32 := (extractStridedSlice S4096x1024 ![0, 1024] · slices_S4096x2048_S4096x1024_0_1024) main_arg4
  let main_v2 : FVec F S4096x1024 .f32 := Host.absf main_v0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S4x256x64 .f32 := (extf .f32 · bitsLt_bf16_f32) main_arg1
  let main_v7 : FVec F S4x256x64 .f32 := Host.absf main_v6
  let main_cst_0 : FVec F S_ .f32 := constant S_ .f32 0x7F800000#32
  let main_v8 : FVec F S4x256x64 .f32 := broadcastInDim S4x256x64 ![] bcast_S_S4x256x64 main_cst_0
  let main_v9 : IVec S4x256x64 1 := cmpf .olt main_v7 main_v8
  let main_c_1 : IVec S_ 1 := constantI S_ 1 1#1
  let main_v10 : IVec S_ 1 := (fun x v => Host.reduce IntOp.andi x v reducesTo_S4x256x64_S_d0_1_2 h_S_) main_v9 main_c_1
  let main_v11 : FVec F S4x256x64 .f32 := (extf .f32 · bitsLt_bf16_f32) main_arg2
  let main_v12 : FVec F S4x256x64 .f32 := Host.absf main_v11
  let main_cst_2 : FVec F S_ .f32 := constant S_ .f32 0x7F800000#32
  let main_v13 : FVec F S4x256x64 .f32 := broadcastInDim S4x256x64 ![] bcast_S_S4x256x64 main_cst_2
  let main_v14 : IVec S4x256x64 1 := cmpf .olt main_v12 main_v13
  let main_c_3 : IVec S_ 1 := constantI S_ 1 1#1
  let main_v15 : IVec S_ 1 := (fun x v => Host.reduce IntOp.andi x v reducesTo_S4x256x64_S_d0_1_2 h_S_) main_v14 main_c_3
  let main_v16 : FVec F S4x4x4096 .f32 := Host.absf main_arg3
  let main_cst_4 : FVec F S_ .f32 := constant S_ .f32 0x7F800000#32
  fn_part1 (F := F) main_v1 main_v5 main_v10 main_v15 main_v16 main_cst_4
-- ==== Pre_finite18.lean ====
abbrev S4096x5120 : Shape := ⟨2, ![4096, 5120]⟩
abbrev S4x1536 : Shape := ⟨2, ![4, 1536]⟩
abbrev S1x1536 : Shape := ⟨2, ![1, 1536]⟩
abbrev S4096x1536 : Shape := ⟨2, ![4096, 1536]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel

variable [Facts]

def fn {F : FTy → Type} [FloatOps F] (main_arg0 : FVec F S4096x5120 .f32) (main_arg1 : FVec F S4x1536 .f32) (main_arg2 : FVec F S1x1536 .f32) (main_arg3 : FVec F S4096x1536 .f32) : IVec S_ 1 :=
  let main_v0 : FVec F S4096x1536 .f32 := Host.absf main_arg3
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  main_v3
-- ==== Pre_finite19.lean ====
abbrev S4x256x1024 : Shape := ⟨3, ![4, 256, 1024]⟩
abbrev S1x2048 : Shape := ⟨2, ![1, 2048]⟩
abbrev S2048x256 : Shape := ⟨2, ![2048, 256]⟩
abbrev S256x64 : Shape := ⟨2, ![256, 64]⟩
abbrev S4x256x64 : Shape := ⟨3, ![4, 256, 64]⟩
abbrev S_ : Shape := ⟨0, ![]⟩

class Facts : Prop where
  bcast_S_S4x256x64 : S_.BroadcastsInDim S4x256x64 (![] : Fin 0 → Fin S4x256x64.rank)
  reducesTo_S4x256x64_S_d0_1_2 : S4x256x64.ReducesTo [0, 1, 2] S_
  h_S_ : 0 < S_.numel
  bitsLt_bf16_f32 : FTy.bits .bf16 < FTy.bits .f32
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S4x256x1024 .f32) (main_arg1 : FVec F S1x2048 .f32) (main_arg2 : FVec F S2048x256 .bf16) (main_arg3 : FVec F S256x64 .bf16) (main_arg4 : FVec F S4x256x64 .f32) : IVec S_ 1 :=
  let main_v0 : FVec F S4x256x64 .f32 := Host.absf main_arg4
  let main_cst : FVec F S_ .f32 := constant S_ .f32 0x7F800000#32
  let main_v1 : FVec F S4x256x64 .f32 := broadcastInDim S4x256x64 ![] bcast_S_S4x256x64 main_cst
  let main_v2 : IVec S4x256x64 1 := cmpf .olt main_v0 main_v1
  let main_c : IVec S_ 1 := constantI S_ 1 1#1
  let main_v3 : IVec S_ 1 := (fun x v => Host.reduce IntOp.andi x v reducesTo_S4x256x64_S_d0_1_2 h_S_) main_v2 main_c
  let main_v4 : FVec F S256x64 .f32 := (extf .f32 · bitsLt_bf16_f32) main_arg3
  let main_v5 : FVec F S256x64 .f32 := Host.absf main_v4
  let main_cst_0 : FVec F S_ .f32 := constant S_ .f32 0x7F800000#32
  let main_v6 : FVec F S256x64 .f32 := broadcastInDim S256x64 ![] bcast_S_S256x64 main_cst_0
  let main_v7 : IVec S256x64 1 := cmpf .olt main_v5 main_v6
  let main_c_1 : IVec S_ 1 := constantI S_ 1 1#1
  let main_v8 : IVec S_ 1 := (fun x v => Host.reduce IntOp.andi x v reducesTo_S256x64_S_d0_1 h_S_) main_v7 main_c_1
  let main_v9 : IVec S_ 1 := andi main_v3 main_v8
  main_v9
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : FVec F S4096x5632 .f32 := (extf .f32 · bitsLt_bf16_f32) main_arg3
  let main_v11 : FVec F S4096x5632 .f32 := Host.absf main_v10
  let main_cst_2 : FVec F S_ .f32 := constant S_ .f32 0x7F800000#32
  let main_v12 : FVec F S4096x5632 .f32 := broadcastInDim S4096x5632 ![] bcast_S_S4096x5632 main_cst_2
  let main_v13 : IVec S4096x5632 1 := cmpf .olt main_v11 main_v12
  let main_c_3 : IVec S_ 1 := constantI S_ 1 1#1
  let main_v14 : IVec S_ 1 := (fun x v => Host.reduce IntOp.andi x v reducesTo_S4096x5632_S_d0_1 h_S_) main_v13 main_c_3
  let main_v15 : IVec S_ 1 := andi main_v4 main_v9
  let main_v16 : IVec S_ 1 := andi main_v15 main_v14
  main_v16
-- ==== Kernel.lean ====
abbrev S4096x5120 : Shape := ⟨2, ![4096, 5120]⟩
abbrev S4x256x64 : Shape := ⟨3, ![4, 256, 64]⟩
abbrev S4x4x4096 : Shape := ⟨3, ![4, 4, 4096]⟩
abbrev S4096x2048 : Shape := ⟨2, ![4096, 2048]⟩
abbrev S4096x1024 : Shape := ⟨2, ![4096, 1024]⟩
abbrev S4096x4x4x64 : Shape := ⟨4, ![4096, 4, 4, 64]⟩
abbrev S4x256x4096x4 : Shape := ⟨4, ![4, 256, 4096, 4]⟩
abbrev S4x4x4096x256 : Shape := ⟨4, ![4, 4, 4096, 256]⟩
abbrev S_ : Shape := ⟨0, ![]⟩
abbrev S256 : Shape := ⟨1, ![256]⟩
abbrev S1x256 : Shape := ⟨2, ![1, 256]⟩
abbrev S4096 : Shape := ⟨1, ![4096]⟩
abbrev S4096x1 : Shape := ⟨2, ![4096, 1]⟩
abbrev S4096x256 : Shape := ⟨2, ![4096, 256]⟩
abbrev S4x4x4096x1 : Shape := ⟨4, ![4, 4, 4096, 1]⟩
abbrev S1x1x4096x256 : Shape := ⟨4, ![1, 1, 4096, 256]⟩
abbrev S4x64x4x4096 : Shape := ⟨4, ![4, 64, 4, 4096]⟩
abbrev S4x1x256x64 : Shape := ⟨4, ![4, 1, 256, 64]⟩
abbrev S4x1x64x256 : Shape := ⟨4, ![4, 1, 64, 256]⟩
abbrev S512x256 : Shape := ⟨2, ![512, 256]⟩
abbrev S1x256x64 : Shape := ⟨3, ![1, 256, 64]⟩
abbrev S1x1x64x256 : Shape := ⟨4, ![1, 1, 64, 256]⟩
abbrev S1x4x512 : Shape := ⟨3, ![1, 4, 512]⟩
abbrev S64x2048 : Shape := ⟨2, ![64, 2048]⟩
abbrev S2x256x2048 : Shape := ⟨3, ![2, 256, 2048]⟩
abbrev S512x64 : Shape := ⟨2, ![512, 64]⟩
abbrev S2048x64 : Shape := ⟨2, ![2048, 64]⟩
abbrev S1x1x512 : Shape := ⟨3, ![1, 1, 512]⟩
abbrev S1x512 : Shape := ⟨2, ![1, 512]⟩
abbrev S1x2048 : Shape := ⟨2, ![1, 2048]⟩
abbrev S8x64 : Shape := ⟨2, ![8, 64]⟩
abbrev S8x2048 : Shape := ⟨2, ![8, 2048]⟩
abbrev S2048x8 : Shape := ⟨2, ![2048, 8]⟩
abbrev S2048x1 : Shape := ⟨2, ![2048, 1]⟩
abbrev S256x64 : Shape := ⟨2, ![256, 64]⟩
abbrev S256x2048 : Shape := ⟨2, ![256, 2048]⟩
abbrev S256x512 : Shape := ⟨2, ![256, 512]⟩
abbrev S1x256x2048 : Shape := ⟨3, ![1, 256, 2048]⟩
abbrev S64x256 : Shape := ⟨2, ![64, 256]⟩
abbrev S64x512 : Shape := ⟨2, ![64, 512]⟩

abbrev nBuf : Space → Nat
  | .hbm => 72
  | .vmem => 27
  | .smem => 0
  | _ => 0

abbrev bufTy : (tb : Table) → Fin (tcTables nBuf tb) → BufTy
  | .hbm, ⟨0, _⟩ => ⟨S4096x5120, .f32⟩
  | .hbm, ⟨1, _⟩ => ⟨S4x256x64, .bf16⟩
  | .hbm, ⟨2, _⟩ => ⟨S4x256x64, .bf16⟩
  | .hbm, ⟨3, _⟩ => ⟨S4x4x4096, .f32⟩
  | .hbm, ⟨4, _⟩ => ⟨S4096x2048, .f32⟩
  | .hbm, ⟨5, _⟩ => ⟨S4096x1024, .f32⟩
  | .hbm, ⟨6, _⟩ => ⟨S4x256x64, .f32⟩
  | .hbm, ⟨7, _⟩ => ⟨S4096x4x4x64, .f32⟩
  | .hbm, ⟨8, _⟩ => ⟨S4x256x4096x4, .f32⟩
  | .hbm, ⟨9, _⟩ => ⟨S4x4x4096x256, .f32⟩
  | .hbm, ⟨10, _⟩ => ⟨S_, .f32⟩
  | .hbm, ⟨11, _⟩ => ⟨S4x4x4096x256, .f32⟩
  | .hbm, ⟨12, _⟩ => ⟨S4x4x4096x256, .f32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S1x256, .i32⟩
  | .hbm, ⟨21, _⟩ => ⟨S4096, .i32⟩
  | .hbm, ⟨22, _⟩ => ⟨S4096x1, .i32⟩
  | .hbm, ⟨23, _⟩ => ⟨S4096x256, .i32⟩
  | .hbm, ⟨24, _⟩ => ⟨S4096x256, .i32⟩
  | .hbm, ⟨25, _⟩ => ⟨S4096x256, .i1⟩
  | .hbm, ⟨26, _⟩ => ⟨S_, .f32⟩
  | .hbm, ⟨27, _⟩ => ⟨S_, .f32⟩
  | .hbm, ⟨28, _⟩ => ⟨S4x4x4096x256, .i1⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x4096x256, .f32⟩
  | .hbm, ⟨37, _⟩ => ⟨S_, .f32⟩
  | .hbm, ⟨38, _⟩ => ⟨S4x4x4096, .f32⟩
  | .hbm, ⟨39, _⟩ => ⟨S4x4x4096x1, .f32⟩
  | .hbm, ⟨40, _⟩ => ⟨S4x4x4096x1, .f32⟩
  | .hbm, ⟨41, _⟩ => ⟨S4x4x4096x1, .f32⟩
  | .hbm, ⟨42, _⟩ => ⟨S4x4x4096, .f32⟩
  | .hbm, ⟨43, _⟩ => ⟨S4x4x4096x256, .f32⟩
  | .hbm, ⟨44, _⟩ => ⟨S4x4x4096x256, .f32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S1x256, .i32⟩
  | .hbm, ⟨53, _⟩ => ⟨S4096, .i32⟩
  | .hbm, ⟨54, _⟩ => ⟨S4096x1, .i32⟩
  | .hbm, ⟨55, _⟩ => ⟨S4096x256, .i32⟩
  | .hbm, ⟨56, _⟩ => ⟨S4096x256, .i32⟩
  | .hbm, ⟨57, _⟩ => ⟨S4096x256, .i1⟩
  | .hbm, ⟨58, _⟩ => ⟨S4096x256, .f32⟩
  | .hbm, ⟨59, _⟩ => ⟨S1x1x4096x256, .f32⟩
  | .hbm, ⟨60, _⟩ => ⟨S4x4x4096x256, .f32⟩
  | .hbm, ⟨61, _⟩ => ⟨S4x4x4096x256, .f32⟩
  | .hbm, ⟨62, _⟩ => ⟨S4x256x64, .f32⟩
  | .hbm, ⟨63, _⟩ => ⟨S4x64x4x4096, .f32⟩
  | .hbm, ⟨64, _⟩ => ⟨S4096x4x4x64, .f32⟩
  | .hbm, ⟨65, _⟩ => ⟨S4096x1024, .f32⟩
  | .hbm, ⟨66, _⟩ => ⟨S4x1x256x64, .bf16⟩
  | .hbm, ⟨67, _⟩ => ⟨S4x1x64x256, .bf16⟩
  | .hbm, ⟨68, _⟩ => ⟨S4096x1024, .f32⟩
  | .hbm, ⟨69, _⟩ => ⟨S4x256x64, .f32⟩
  | .hbm, ⟨70, _⟩ => ⟨S4x256x64, .f32⟩
  | .hbm, ⟨71, _⟩ => ⟨S4x4x4096, .f32⟩
  | .local _ .vmem, ⟨0, _⟩ => ⟨S512x256, .f32⟩
  | .local _ .vmem, ⟨1, _⟩ => ⟨S512x256, .f32⟩
  | .local _ .vmem, ⟨2, _⟩ => ⟨S1x256x64, .bf16⟩
  | .local _ .vmem, ⟨3, _⟩ => ⟨S1x256x64, .bf16⟩
  | .local _ .vmem, ⟨4, _⟩ => ⟨S1x1x64x256, .bf16⟩
  | .local _ .vmem, ⟨5, _⟩ => ⟨S1x1x64x256, .bf16⟩
  | .local _ .vmem, ⟨6, _⟩ => ⟨S1x256x64, .bf16⟩
  | .local _ .vmem, ⟨7, _⟩ => ⟨S1x256x64, .bf16⟩
  | .local _ .vmem, ⟨8, _⟩ => ⟨S512x256, .f32⟩
  | .local _ .vmem, ⟨9, _⟩ => ⟨S512x256, .f32⟩
  | .local _ .vmem, ⟨10, _⟩ => ⟨S1x4x512, .f32⟩
  | .local _ .vmem, ⟨11, _⟩ => ⟨S1x4x512, .f32⟩
  | .local _ .vmem, ⟨12, _⟩ => ⟨S512x256, .f32⟩
  | .local _ .vmem, ⟨13, _⟩ => ⟨S512x256, .f32⟩
  | .local _ .vmem, ⟨14, _⟩ => ⟨S1x4x512, .f32⟩
  | .local _ .vmem, ⟨15, _⟩ => ⟨S1x4x512, .f32⟩
  | .local _ .vmem, ⟨16, _⟩ => ⟨S512x256, .f32⟩
  | .local _ .vmem, ⟨17, _⟩ => ⟨S512x256, .f32⟩
  | .local _ .vmem, ⟨18, _⟩ => ⟨S1x256x64, .f32⟩
  | .local _ .vmem, ⟨19, _⟩ => ⟨S1x256x64, .f32⟩
  | .local _ .vmem, ⟨20, _⟩ => ⟨S1x256x64, .f32⟩
  | .local _ .vmem, ⟨21, _⟩ => ⟨S1x256x64, .f32⟩
  | .local _ .vmem, ⟨22, _⟩ => ⟨S1x4x512, .f32⟩
  | .local _ .vmem, ⟨23, _⟩ => ⟨S1x4x512, .f32⟩
  | .local _ .vmem, ⟨24, _⟩ => ⟨S64x2048, .f32⟩
  | .local _ .vmem, ⟨25, _⟩ => ⟨S2x256x2048, .f32⟩
  | .local _ .vmem, ⟨26, _⟩ => ⟨S2x256x2048, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x5120 : Shape := ⟨2, ![4096, 5120]⟩
abbrev S4x256x64 : Shape := ⟨3, ![4, 256, 64]⟩
abbrev S4x4x4096 : Shape := ⟨3, ![4, 4, 4096]⟩
abbrev S4096x2048 : Shape := ⟨2, ![4096, 2048]⟩
abbrev S4096x1024 : Shape := ⟨2, ![4096, 1024]⟩
abbrev S4096x4x4x64 : Shape := ⟨4, ![4096, 4, 4, 64]⟩
abbrev S4x256x4096x4 : Shape := ⟨4, ![4, 256, 4096, 4]⟩
abbrev S4x4x4096x256 : Shape := ⟨4, ![4, 4, 4096, 256]⟩
abbrev S_ : Shape := ⟨0, ![]⟩
abbrev S256 : Shape := ⟨1, ![256]⟩
abbrev S1x256 : Shape := ⟨2, ![1, 256]⟩
abbrev S4096 : Shape := ⟨1, ![4096]⟩
abbrev S4096x1 : Shape := ⟨2, ![4096, 1]⟩
abbrev S4096x256 : Shape := ⟨2, ![4096, 256]⟩
abbrev S4x4x4096x1 : Shape := ⟨4, ![4, 4, 4096, 1]⟩
abbrev S1x1x4096x256 : Shape := ⟨4, ![1, 1, 4096, 256]⟩
abbrev S4x64x4x4096 : Shape := ⟨4, ![4, 64, 4, 4096]⟩
abbrev S4096x4x4 : Shape := ⟨3, ![4096, 4, 4]⟩
abbrev S4096x4x4x1 : Shape := ⟨4, ![4096, 4, 4, 1]⟩
abbrev S4x64x256 : Shape := ⟨3, ![4, 64, 256]⟩
abbrev S4x4096x4x64 : Shape := ⟨4, ![4, 4096, 4, 64]⟩

abbrev nBuf : Space → Nat
  | .hbm => 151
  | .vmem => 0
  | .smem => 0
  | _ => 0

abbrev hbmTy0_0 (i : Nat) : BufTy := match i % 128 with
  | 0 => ⟨S4096x5120, .f32⟩
  | 1 => ⟨S4x256x64, .bf16⟩
  | 2 => ⟨S4x256x64, .bf16⟩
  | 3 => ⟨S4x4x4096, .f32⟩
  | 4 => ⟨S4096x2048, .f32⟩
  | 5 => ⟨S4096x1024, .f32⟩
  | 6 => ⟨S4x256x64, .f32⟩
  | 7 => ⟨S4x256x64, .f32⟩
  | 8 => ⟨S4096x4x4x64, .f32⟩
  | 9 => ⟨S4x256x4096x4, .f32⟩
  | 10 => ⟨S4x4x4096x256, .f32⟩
  | 11 => ⟨S_, .f32⟩
  | 12 => ⟨S4x4x4096x256, .f32⟩
  | 13 => ⟨S4x4x4096x256, .f32⟩
  | 14 => ⟨S256, .i32⟩
  | 15 => ⟨S_, .i32⟩
  | 16 => ⟨S256, .i32⟩
  | 17 => ⟨S256, .i32⟩
  | 18 => ⟨S_, .i32⟩
  | 19 => ⟨S256, .i32⟩
  | 20 => ⟨S256, .i32⟩
  | 21 => ⟨S1x256, .i32⟩
  | 22 => ⟨S4096, .i32⟩
  | 23 => ⟨S4096x1, .i32⟩
  | 24 => ⟨S4096x256, .i32⟩
  | 25 => ⟨S4096x256, .i32⟩
  | 26 => ⟨S4096x256, .i1⟩
  | 27 => ⟨S_, .f32⟩
  | 28 => ⟨S_, .f32⟩
  | 29 => ⟨S4x4x4096x256, .i1⟩
  | 30 => ⟨S4x4x4096x256, .f32⟩
  | 31 => ⟨S4x4x4096x256, .f32⟩
  | 32 => ⟨S_, .f32⟩
  | 33 => ⟨S4x4x4096x256, .f32⟩
  | 34 => ⟨S_, .f32⟩
  | 35 => ⟨S4x4x4096, .f32⟩
  | 36 => ⟨S4x4x4096x1, .f32⟩
  | 37 => ⟨S4x4x4096x256, .f32⟩
  | 38 => ⟨S4x4x4096x256, .i1⟩
  | 39 => ⟨S4x4x4096x256, .f32⟩
  | 40 => ⟨S_, .f32⟩
  | 41 => ⟨S4x4x4096, .f32⟩
  | 42 => ⟨S_, .f32⟩
  | 43 => ⟨S4x4x4096, .f32⟩
  | 44 => ⟨S4x4x4096, .f32⟩
  | 45 => ⟨S_, .f32⟩
  | 46 => ⟨S4x4x4096, .f32⟩
  | 47 => ⟨S4x4x4096, .i1⟩
  | 48 => ⟨S_, .f32⟩
  | 49 => ⟨S4x4x4096, .f32⟩
  | 50 => ⟨S4x4x4096, .i1⟩
  | 51 => ⟨S_, .f32⟩
  | 52 => ⟨S4x4x4096, .f32⟩
  | 53 => ⟨S_, .f32⟩
  | 54 => ⟨S4x4x4096, .f32⟩
  | 55 => ⟨S_, .f32⟩
  | 56 => ⟨S4x4x4096, .f32⟩
  | 57 => ⟨S4x4x4096, .f32⟩
  | 58 => ⟨S4x4x4096, .f32⟩
  | 59 => ⟨S4x4x4096x1, .f32⟩
  | 60 => ⟨S4x4x4096x256, .f32⟩
  | 61 => ⟨S4x4x4096x256, .f32⟩
  | 62 => ⟨S4x4x4096x256, .f32⟩
  | 63 => ⟨S_, .f32⟩
  | 64 => ⟨S4x4x4096, .f32⟩
  | 65 => ⟨S4x4x4096x1, .f32⟩
  | 66 => ⟨S4x4x4096x256, .f32⟩
  | 67 => ⟨S4x4x4096x256, .f32⟩
  | 68 => ⟨S4x4x4096x1, .f32⟩
  | 69 => ⟨S_, .f32⟩
  | 70 => ⟨S4x4x4096x1, .f32⟩
  | 71 => ⟨S4x4x4096x1, .f32⟩
  | 72 => ⟨S256, .i32⟩
  | 73 => ⟨S_, .i32⟩
  | 74 => ⟨S256, .i32⟩
  | 75 => ⟨S256, .i32⟩
  | 76 => ⟨S_, .i32⟩
  | 77 => ⟨S256, .i32⟩
  | 78 => ⟨S256, .i32⟩
  | 79 => ⟨S1x256, .i32⟩
  | 80 => ⟨S4096, .i32⟩
  | 81 => ⟨S4096x1, .i32⟩
  | 82 => ⟨S4096x256, .i32⟩
  | 83 => ⟨S4096x256, .i32⟩
  | 84 => ⟨S4096x256, .i1⟩
  | 85 => ⟨S4096x256, .f32⟩
  | 86 => ⟨S1x1x4096x256, .f32⟩
  | 87 => ⟨S4x4x4096x256, .f32⟩
  | 88 => ⟨S4x4x4096x256, .f32⟩
  | 89 => ⟨S4x64x4x4096, .f32⟩
  | 90 => ⟨S4096x4x4x64, .f32⟩
  | 91 => ⟨S4x4x4096, .f32⟩
  | 92 => ⟨S4x4x4096, .f32⟩
  | 93 => ⟨S_, .f32⟩
  | 94 => ⟨S4x4x4096, .f32⟩
  | 95 => ⟨S4x4x4096, .f32⟩
  | 96 => ⟨S_, .f32⟩
  | 97 => ⟨S4x4x4096, .f32⟩
  | 98 => ⟨S4x4x4096, .f32⟩
  | 99 => ⟨S_, .f32⟩
  | 100 => ⟨S4x4x4096, .f32⟩
  | 101 => ⟨S4x4x4096, .f32⟩
  | 102 => ⟨S4x4x4096, .f32⟩
  | 103 => ⟨S4096x4x4, .f32⟩
  | 104 => ⟨S4096x4x4x1, .f32⟩
  | 105 => ⟨S4096x4x4x64, .f32⟩
  | 106 => ⟨S4096x4x4x64, .f32⟩
  | 107 => ⟨S4096x1024, .f32⟩
  | 108 => ⟨S4096x1024, .f32⟩
  | 109 => ⟨S4096x4x4x64, .f32⟩
  | 110 => ⟨S4096x4x4x64, .f32⟩
  | 111 => ⟨S4096x4x4x64, .f32⟩
  | 112 => ⟨S4096x4x4x64, .f32⟩
  | 113 => ⟨S_, .f32⟩
  | 114 => ⟨S4096x4x4, .f32⟩
  | 115 => ⟨S4096x4x4x1, .f32⟩
  | 116 => ⟨S_, .f32⟩
  | 117 => ⟨S4096x4x4, .f32⟩
  | 118 => ⟨S4x4x4096, .f32⟩
  | 119 => ⟨S4x4x4096, .f32⟩
  | 120 => ⟨S4x64x4x4096, .f32⟩
  | 121 => ⟨S4x4x4096x256, .f32⟩
  | 122 => ⟨S4x64x256, .f32⟩
  | 123 => ⟨S4x256x64, .f32⟩
  | 124 => ⟨S4x4x4096x256, .f32⟩
  | 125 => ⟨S4x4x4096x256, .f32⟩
  | 126 => ⟨S4x4x4096x256, .f32⟩
  | 127 => ⟨S4x4x4096x256, .f32⟩
  | _ => ⟨S4096x5120, .f32⟩

abbrev hbmTy0_1 (i : Nat) : BufTy := match i % 128 with
  | 0 => ⟨S4x4x4096x256, .f32⟩
  | 1 => ⟨S_, .f32⟩
  | 2 => ⟨S4x4x4096, .f32⟩
  | 3 => ⟨S4x4x4096x1, .f32⟩
  | 4 => ⟨S4x4x4096x1, .f32⟩
  | 5 => ⟨S4x4x4096x256, .f32⟩
  | 6 => ⟨S4x4x4096x256, .f32⟩
  | 7 => ⟨S_, .f32⟩
  | 8 => ⟨S4x4x4096, .f32⟩
  | 9 => ⟨S4x4x4096x256, .f32⟩
  | 10 => ⟨S4x4x4096x256, .f32⟩
  | 11 => ⟨S4x4x4096x256, .f32⟩
  | 12 => ⟨S_, .f32⟩
  | 13 => ⟨S4x4x4096x256, .f32⟩
  | 14 => ⟨S4x4x4096x256, .f32⟩
  | 15 => ⟨S_, .f32⟩
  | 16 => ⟨S4x4x4096x256, .f32⟩
  | 17 => ⟨S4x4x4096x256, .f32⟩
  | 18 => ⟨S4x256x4096x4, .f32⟩
  | 19 => ⟨S4x4096x4x64, .f32⟩
  | 20 => ⟨S4096x4x4x64, .f32⟩
  | 21 => ⟨S4x256x64, .f32⟩
  | 22 => ⟨S4096x1024, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_call0_v0 : Ref sig .tc := ⟨.hbm, 28, rfl⟩
abbrev main_v19_1 : Ref sig .tc := ⟨.hbm, 29, rfl⟩
abbrev main_call0_v2 : Ref sig .tc := ⟨.hbm, 30, rfl⟩
abbrev main_v19_0 : Ref sig .tc := ⟨.hbm, 31, rfl⟩
abbrev main_call0_cst : Ref sig .tc := ⟨.hbm, 32, rfl⟩
abbrev main_v19_2 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_20 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_call1_cst : Ref sig .tc := ⟨.hbm, 140, rfl⟩
abbrev main_call1_v0 : Ref sig .tc := ⟨.hbm, 141, rfl⟩
abbrev main_v107 : Ref sig .tc := ⟨.hbm, 142, rfl⟩
abbrev main_cst_21 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S5632x2048, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x2048 : Shape := ⟨2, ![4096, 2048]⟩
abbrev S4096x5632 : Shape := ⟨2, ![4096, 5632]⟩
abbrev S2048x5632 : Shape := ⟨2, ![2048, 5632]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x2048, .f32⟩
  | .hbm, ⟨7, _⟩ => ⟨S2048x5632, .f32⟩
  | .hbm, ⟨8, _⟩ => ⟨S4096x5632, .f32⟩
  | .hbm, ⟨9, _⟩ => ⟨S4096x5632, .bf16⟩
  | .hbm, ⟨10, _⟩ => ⟨S4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S4096x5120 : Shape := ⟨2, ![4096, 5120]⟩
abbrev S2048x5120 : Shape := ⟨2, ![2048, 5120]⟩
abbrev S1024x2048 : Shape := ⟨2, ![1024, 2048]⟩
abbrev S1024x1280 : Shape := ⟨2, ![1024, 1280]⟩
abbrev S2048x1280 : Shape := ⟨2, ![2048, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1280, .bf16⟩
  | .local _ .vmem, ⟨3, _⟩ => ⟨S1024x1280, .bf16⟩
  | .local _ .vmem, ⟨4, _⟩ => ⟨S2048x1280, .bf16⟩
  | .local _ .vmem, ⟨5, _⟩ => ⟨S2048x1280, .bf16⟩
  | .local _ .vmem, ⟨6, _⟩ => ⟨S2048x1280, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S_, .f32⟩
  | .hbm, ⟨3, _⟩ => ⟨S2048x5120, .f32⟩
  | .hbm, ⟨4, _⟩ => ⟨S4096x2048, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S4096x128 : Shape := ⟨2, ![4096, 128]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x128, .bf16⟩
  | .local _ .vmem, ⟨3, _⟩ => ⟨S1024x128, .bf16⟩
  | .local _ .vmem, ⟨4, _⟩ => ⟨S2048x128, .f32⟩
  | .local _ .vmem, ⟨5, _⟩ => ⟨S2048x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x5120 : Shape := ⟨2, ![4096, 5120]⟩
abbrev S2048x5120 : Shape := ⟨2, ![2048, 5120]⟩
abbrev S4096x2048 : Shape := ⟨2, ![4096, 2048]⟩
abbrev S1024x2560 : Shape := ⟨2, ![1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S_, .f32⟩
  | .hbm, ⟨3, _⟩ => ⟨S4096x2048, .f32⟩
  | .hbm, ⟨4, _⟩ => ⟨S2048x5120, .f32⟩
  | .hbm, ⟨5, _⟩ => ⟨S4096x5120, .f32⟩
  | .hbm, ⟨6, _⟩ => ⟨S4096x5120, .f32⟩
  | .hbm, ⟨7, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x128 : Shape := ⟨2, ![4096, 128]⟩
abbrev S2048x128 : Shape := ⟨2, ![2048, 128]⟩
abbrev S4096x2048 : Shape := ⟨2, ![4096, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x128 : Shape := ⟨2, ![4096, 128]⟩
abbrev S2048x128 : Shape := ⟨2, ![2048, 128]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x128, .f32⟩
  | .hbm, ⟨6, _⟩ => ⟨S4096x128, .f32⟩
  | .hbm, ⟨7, _⟩ => ⟨S4096x128, .f32⟩
  | .hbm, ⟨8, _⟩ => ⟨S4096x2048, .f32⟩
  | .hbm, ⟨9, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S256x2048 : Shape := ⟨2, ![256, 2048]⟩
abbrev S256x1 : Shape := ⟨2, ![256, 1]⟩
abbrev S2048 : Shape := ⟨1, ![2048]⟩
abbrev S256 : Shape := ⟨1, ![256]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .bf16⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel18.lean ====
abbrev S4096x5120 : Shape := ⟨2, ![4096, 5120]⟩
abbrev S4x1536 : Shape := ⟨2, ![4, 1536]⟩
abbrev S1x1536 : Shape := ⟨2, ![1, 1536]⟩
abbrev S4096x1536 : Shape := ⟨2, ![4096, 1536]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S4096x5120, .f32⟩
  | .hbm, ⟨1, _⟩ => ⟨S4x1536, .f32⟩
  | .hbm, ⟨2, _⟩ => ⟨S1x1536, .f32⟩
  | .hbm, ⟨3, _⟩ => ⟨S4096x1536, .f32⟩
  | .hbm, ⟨4, _⟩ => ⟨S4096x1536, .bf16⟩
  | .hbm, ⟨5, _⟩ => ⟨S4x1536, .f32⟩
  | .hbm, ⟨6, _⟩ => ⟨S1x1536, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4096x5120 : Shape := ⟨2, ![4096, 5120]⟩
abbrev S4x1536 : Shape := ⟨2, ![4, 1536]⟩
abbrev S1x1536 : Shape := ⟨2, ![1, 1536]⟩
abbrev S4096x1536 : Shape := ⟨2, ![4096, 1536]⟩
abbrev S_ : Shape := ⟨0, ![]⟩
abbrev S3x1536 : Shape := ⟨2, ![3, 1536]⟩
abbrev S4099x1536 : Shape := ⟨2, ![4099, 1536]⟩
abbrev S1536 : Shape := ⟨1, ![1536]⟩

abbrev nBuf : Space → Nat
  | .hbm => 103
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4x1536, .f32⟩
  | .hbm, ⟨2, _⟩ => ⟨S1x1536, .f32⟩
  | .hbm, ⟨3, _⟩ => ⟨S4096x1536, .f32⟩
  | .hbm, ⟨4, _⟩ => ⟨S4096x1536, .f32⟩
  | .hbm, ⟨5, _⟩ => ⟨S_, .f32⟩
  | .hbm, ⟨6, _⟩ => ⟨S3x1536, .f32⟩
  | .hbm, ⟨7, _⟩ => ⟨S4099x1536, .f32⟩
  | .hbm, ⟨8, _⟩ => ⟨S_, .f32⟩
  | .hbm, ⟨9, _⟩ => ⟨S3x1536, .f32⟩
  | .hbm, ⟨10, _⟩ => ⟨S4096x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S1x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S1x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S_, .f32⟩
  | .hbm, ⟨37, _⟩ => ⟨S4096x1536, .f32⟩
  | .hbm, ⟨38, _⟩ => ⟨S4096x1536, .f32⟩
  | .hbm, ⟨39, _⟩ => ⟨S_, .f32⟩
  | .hbm, ⟨40, _⟩ => ⟨S4096x1536, .f32⟩
  | .hbm, ⟨41, _⟩ => ⟨S4096x1536, .f32⟩
  | .hbm, ⟨42, _⟩ => ⟨S_, .f32⟩
  | .hbm, ⟨43, _⟩ => ⟨S4096x1536, .f32⟩
  | .hbm, ⟨44, _⟩ => ⟨S4096x1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1536, .f32⟩
  | .hbm, ⟨51, _⟩ => ⟨S_, .f32⟩
  | .hbm, ⟨52, _⟩ => ⟨S1536, .f32⟩
  | .hbm, ⟨53, _⟩ => ⟨S1x1536, .f32⟩
  | .hbm, ⟨54, _⟩ => ⟨S4096x1536, .f32⟩
  | .hbm, ⟨55, _⟩ => ⟨S_, .f32⟩
  | .hbm, ⟨56, _⟩ => ⟨S1536, .f32⟩
  | .hbm, ⟨57, _⟩ => ⟨S1x1536, .f32⟩
  | .hbm, ⟨58, _⟩ => ⟨S4096x1536, .f32⟩
  | .hbm, ⟨59, _⟩ => ⟨S4096x1536, .f32⟩
  | .hbm, ⟨60, _⟩ => ⟨S_, .f32⟩
  | .hbm, ⟨61, _⟩ => ⟨S4x1536, .f32⟩
  | .hbm, ⟨62, _⟩ => ⟨S_, .f32⟩
  | .hbm, ⟨63, _⟩ => ⟨S4099x1536, .f32⟩
  | .hbm, ⟨64, _⟩ => ⟨S4096x1536, .f32⟩
  | .hbm, ⟨65, _⟩ => ⟨S_, .f32⟩
  | .hbm, ⟨66, _⟩ => ⟨S1536, .f32⟩
  | .hbm, ⟨67, _⟩ => ⟨S1x1536, .f32⟩
  | .hbm, ⟨68, _⟩ => ⟨S4096x1536, .f32⟩
  | .hbm, ⟨69, _⟩ => ⟨S4096x1536, .f32⟩
  | .hbm, ⟨70, _⟩ => ⟨S_, .f32⟩
  | .hbm, ⟨71, _⟩ => ⟨S4x1536, .f32⟩
  | .hbm, ⟨72, _⟩ => ⟨S4x1536, .f32⟩
  | .hbm, ⟨73, _⟩ => ⟨S_, .f32⟩
  | .hbm, ⟨74, _⟩ => ⟨S4099x1536, .f32⟩
  | .hbm, ⟨75, _⟩ => ⟨S4099x1536, .f32⟩
  | .hbm, ⟨76, _⟩ => ⟨S4096x1536, .f32⟩
  | .hbm, ⟨77, _⟩ => ⟨S_, .f32⟩
  | .hbm, ⟨78, _⟩ => ⟨S1536, .f32⟩
  | .hbm, ⟨79, _⟩ => ⟨S1x1536, .f32⟩
  | .hbm, ⟨80, _⟩ => ⟨S4096x1536, .f32⟩
  | .hbm, ⟨81, _⟩ => ⟨S4096x1536, .f32⟩
  | .hbm, ⟨82, _⟩ => ⟨S_, .f32⟩
  | .hbm, ⟨83, _⟩ => ⟨S4x1536, .f32⟩
  | .hbm, ⟨84, _⟩ => ⟨S4x1536, .f32⟩
  | .hbm, ⟨85, _⟩ => ⟨S_, .f32⟩
  | .hbm, ⟨86, _⟩ => ⟨S4099x1536, .f32⟩
  | .hbm, ⟨87, _⟩ => ⟨S4099x1536, .f32⟩
  | .hbm, ⟨88, _⟩ => ⟨S4096x1536, .f32⟩
  | .hbm, ⟨89, _⟩ => ⟨S_, .f32⟩
  | .hbm, ⟨90, _⟩ => ⟨S1536, .f32⟩
  | .hbm, ⟨91, _⟩ => ⟨S1x1536, .f32⟩
  | .hbm, ⟨92, _⟩ => ⟨S4096x1536, .f32⟩
  | .hbm, ⟨93, _⟩ => ⟨S4096x1536, .f32⟩
  | .hbm, ⟨94, _⟩ => ⟨S_, .f32⟩
  | .hbm, ⟨95, _⟩ => ⟨S4x1536, .f32⟩
  | .hbm, ⟨96, _⟩ => ⟨S4x1536, .f32⟩
  | .hbm, ⟨97, _⟩ => ⟨S_, .f32⟩
  | .hbm, ⟨98, _⟩ => ⟨S4099x1536, .f32⟩
  | .hbm, ⟨99, _⟩ => ⟨S4099x1536, .f32⟩
  | .hbm, ⟨100, _⟩ => ⟨S3x1536, .f32⟩
  | .hbm, ⟨101, _⟩ => ⟨S4096x1536, .f32⟩
  | .hbm, ⟨102, _⟩ => ⟨S4096x1536, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]
-- ==== Kernel19.lean ====
abbrev S4x256x1024 : Shape := ⟨3, ![4, 256, 1024]⟩
abbrev S1x2048 : Shape := ⟨2, ![1, 2048]⟩
abbrev S2048x256 : Shape := ⟨2, ![2048, 256]⟩
abbrev S256x64 : Shape := ⟨2, ![256, 64]⟩
abbrev S4x256x64 : Shape := ⟨3, ![4, 256, 64]⟩
abbrev S4x255x1024 : Shape := ⟨3, ![4, 255, 1024]⟩
abbrev S4x255x2048 : Shape := ⟨3, ![4, 255, 2048]⟩
abbrev S1x1x2048 : Shape := ⟨3, ![1, 1, 2048]⟩
abbrev S4x255x256 : Shape := ⟨3, ![4, 255, 256]⟩
abbrev S_ : Shape := ⟨0, ![]⟩
abbrev S4x256x256 : Shape := ⟨3, ![4, 256, 256]⟩
abbrev S1x256x1024 : Shape := ⟨3, ![1, 256, 1024]⟩
abbrev S1x256x256 : Shape := ⟨3, ![1, 256, 256]⟩
abbrev S1x256x64 : Shape := ⟨3, ![1, 256, 64]⟩
abbrev S256x1024 : Shape := ⟨2, ![256, 1024]⟩
abbrev S256x256 : Shape := ⟨2, ![256, 256]⟩
abbrev S1024x256 : Shape := ⟨2, ![1024, 256]⟩
abbrev S1x1024 : Shape := ⟨2, ![1, 1024]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S1x2048, .f32⟩
  | .hbm, ⟨2, _⟩ => ⟨S2048x256, .bf16⟩
  | .hbm, ⟨3, _⟩ => ⟨S256x64, .bf16⟩
  | .hbm, ⟨4, _⟩ => ⟨S4x256x64, .f32⟩
  | .hbm, ⟨5, _⟩ => ⟨S4x255x1024, .f32⟩
  | .hbm, ⟨6, _⟩ => ⟨S4x255x1024, .f32⟩
  | .hbm, ⟨7, _⟩ => ⟨S4x255x2048, .f32⟩
  | .hbm, ⟨8, _⟩ => ⟨S1x1x2048, .f32⟩
  | .hbm, ⟨9, _⟩ => ⟨S4x255x2048, .f32⟩
  | .hbm, ⟨10, _⟩ => ⟨S4x255x2048, .f32⟩
  | .hbm, ⟨11, _⟩ => ⟨S2048x256, .f32⟩
  | .hbm, ⟨12, _⟩ => ⟨S4x255x256, .f32⟩
  | .hbm, ⟨13, _⟩ => ⟨S_, .i32⟩
  | .hbm, ⟨14, _⟩ => ⟨S_, .f32⟩
  | .hbm, ⟨15, _⟩ => ⟨S4x256x256, .f32⟩
  | .hbm, ⟨16, _⟩ => ⟨S4x256x1024, .f32⟩
  | .hbm, ⟨17, _⟩ => ⟨S2048x256, .f32⟩
  | .hbm, ⟨18, _⟩ => ⟨S256x64, .f32⟩
  | .hbm, ⟨19, _⟩ => ⟨S1x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048, .f32⟩
  | .local _ .vmem, ⟨3, _⟩ => ⟨S2048x256, .bf16⟩
  | .local _ .vmem, ⟨4, _⟩ => ⟨S256x64, .bf16⟩
  | .local _ .vmem, ⟨5, _⟩ => ⟨S1x256x256, .f32⟩
  | .local _ .vmem, ⟨6, _⟩ => ⟨S1x256x256, .f32⟩
  | .local _ .vmem, ⟨7, _⟩ => ⟨S1x256x64, .f32⟩
  | .local _ .vmem, ⟨8, _⟩ => ⟨S1x256x64, .f32⟩
  | .local _ .vmem, ⟨9, _⟩ => ⟨S1x256x1024, .f32⟩
  | .local _ .vmem, ⟨10, _⟩ => ⟨S1x256x1024, .f32⟩
  | .local _ .vmem, ⟨11, _⟩ => ⟨S2048x256, .f32⟩
  | .local _ .vmem, ⟨12, _⟩ => ⟨S256x64, .f32⟩
  | .local _ .vmem, ⟨13, _⟩ => ⟨S1x2048, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference19Ideal.lean ====
abbrev S4x256x1024 : Shape := ⟨3, ![4, 256, 1024]⟩
abbrev S1x2048 : Shape := ⟨2, ![1, 2048]⟩
abbrev S2048x256 : Shape := ⟨2, ![2048, 256]⟩
abbrev S256x64 : Shape := ⟨2, ![256, 64]⟩
abbrev S4x256x64 : Shape := ⟨3, ![4, 256, 64]⟩
abbrev S4x255x1024 : Shape := ⟨3, ![4, 255, 1024]⟩
abbrev S4x255x2048 : Shape := ⟨3, ![4, 255, 2048]⟩
abbrev S1x1x2048 : Shape := ⟨3, ![1, 1, 2048]⟩
abbrev S4x255x256 : Shape := ⟨3, ![4, 255, 256]⟩
abbrev S_ : Shape := ⟨0, ![]⟩
abbrev S4x255x64 : Shape := ⟨3, ![4, 255, 64]⟩
abbrev S64x256 : Shape := ⟨2, ![64, 256]⟩
abbrev S256x2048 : Shape := ⟨2, ![256, 2048]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x2048, .f32⟩
  | .hbm, ⟨2, _⟩ => ⟨S2048x256, .bf16⟩
  | .hbm, ⟨3, _⟩ => ⟨S256x64, .bf16⟩
  | .hbm, ⟨4, _⟩ => ⟨S4x256x64, .f32⟩
  | .hbm, ⟨5, _⟩ => ⟨S2048x256, .f32⟩
  | .hbm, ⟨6, _⟩ => ⟨S256x64, .f32⟩
  | .hbm, ⟨7, _⟩ => ⟨S4x255x1024, .f32⟩
  | .hbm, ⟨8, _⟩ => ⟨S4x255x1024, .f32⟩
  | .hbm, ⟨9, _⟩ => ⟨S4x255x2048, .f32⟩
  | .hbm, ⟨10, _⟩ => ⟨S1x1x2048, .f32⟩
  | .hbm, ⟨11, _⟩ => ⟨S4x255x2048, .f32⟩
  | .hbm, ⟨12, _⟩ => ⟨S4x255x2048, .f32⟩
  | .hbm, ⟨13, _⟩ => ⟨S4x255x256, .f32⟩
  | .hbm, ⟨14, _⟩ => ⟨S4x255x256, .f32⟩
  | .hbm, ⟨15, _⟩ => ⟨S4x255x256, .f32⟩
  | .hbm, ⟨16, _⟩ => ⟨S_, .f32⟩
  | .hbm, ⟨17, _⟩ => ⟨S4x255x256, .f32⟩
  | .hbm, ⟨18, _⟩ => ⟨S4x255x256, .f32⟩
  | .hbm, ⟨19, _⟩ => ⟨S_, .f32⟩
  | .hbm, ⟨20, _⟩ => ⟨S4x255x256, .f32⟩
  | .hbm, ⟨21, _⟩ => ⟨S4x255x256, .f32⟩
  | .hbm, ⟨22, _⟩ => ⟨S_, .f32⟩
  | .hbm, ⟨23, _⟩ => ⟨S4x255x256, .f32⟩
  | .hbm, ⟨24, _⟩ => ⟨S4x255x256, .f32⟩
  | .hbm, ⟨25, _⟩ => ⟨S4x255x256, .f32⟩
  | .hbm, ⟨26, _⟩ => ⟨S4x255x256, .f32⟩
  | .hbm, ⟨27, _⟩ => ⟨S4x255x64, .f32⟩
  | .hbm, ⟨28, _⟩ => ⟨S4x255x64, .f32⟩
  | .hbm, ⟨29, _⟩ => ⟨S64x256, .f32⟩
  | .hbm, ⟨30, _⟩ => ⟨S256x64, .f32⟩
  | .hbm, ⟨31, _⟩ => ⟨S4x255x256, .f32⟩
  | .hbm, ⟨32, _⟩ => ⟨S4x255x256, .f32⟩
  | .hbm, ⟨33, _⟩ => ⟨S4x255x256, .f32⟩
  | .hbm, ⟨34, _⟩ => ⟨S4x255x256, .f32⟩
  | .hbm, ⟨35, _⟩ => ⟨S4x255x256, .f32⟩
  | .hbm, ⟨36, _⟩ => ⟨S256x2048, .f32⟩
  | .hbm, ⟨37, _⟩ => ⟨S2048x256, .f32⟩
  | .hbm, ⟨38, _⟩ => ⟨S4x255x2048, .f32⟩
  | .hbm, ⟨39, _⟩ => ⟨S_, .f32⟩
  | .hbm, ⟨40, _⟩ => ⟨S2048, .f32⟩
  | .hbm, ⟨41, _⟩ => ⟨S1x1x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4x255x1024, .f32⟩
  | .hbm, ⟨46, _⟩ => ⟨S4x255x1024, .f32⟩
  | .hbm, ⟨47, _⟩ => ⟨S_, .f32⟩
  | .hbm, ⟨48, _⟩ => ⟨S4x256x1024, .f32⟩
  | .hbm, ⟨49, _⟩ => ⟨S_, .f32⟩
  | .hbm, ⟨50, _⟩ => ⟨S4x256x1024, .f32⟩
  | .hbm, ⟨51, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S1x128, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x128, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel21.lean ====
abbrev S8x2048x648 : Shape := ⟨3, ![8, 2048, 648]⟩
abbrev S2048x648 : Shape := ⟨2, ![2048, 648]⟩
abbrev S8x256x648 : Shape := ⟨3, ![8, 256, 648]⟩
abbrev S256x648 : Shape := ⟨2, ![256, 648]⟩
abbrev S1x256x648 : Shape := ⟨3, ![1, 256, 648]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x648, .bf16⟩
  | .hbm, ⟨1, _⟩ => ⟨S2048x648, .f32⟩
  | .hbm, ⟨2, _⟩ => ⟨S2048x648, .f32⟩
  | .hbm, ⟨3, _⟩ => ⟨S2048x648, .f32⟩
  | .hbm, ⟨4, _⟩ => ⟨S2048x648, .f32⟩
  | .hbm, ⟨5, _⟩ => ⟨S2048x648, .f32⟩
  | .hbm, ⟨6, _⟩ => ⟨S2048x648, .f32⟩
  | .hbm, ⟨7, _⟩ => ⟨S2048x648, .f32⟩
  | .local _ .vmem, ⟨0, _⟩ => ⟨S8x256x648, .bf16⟩
  | .local _ .vmem, ⟨1, _⟩ => ⟨S8x256x648, .bf16⟩
  | .local _ .vmem, ⟨2, _⟩ => ⟨S256x648, .f32⟩
  | .local _ .vmem, ⟨3, _⟩ => ⟨S256x648, .f32⟩
  | .local _ .vmem, ⟨4, _⟩ => ⟨S256x648, .f32⟩
  | .local _ .vmem, ⟨5, _⟩ => ⟨S256x648, .f32⟩
  | .local _ .vmem, ⟨6, _⟩ => ⟨S256x648, .f32⟩
  | .local _ .vmem, ⟨7, _⟩ => ⟨S256x648, .f32⟩
  | .local _ .vmem, ⟨8, _⟩ => ⟨S256x648, .f32⟩
  | .local _ .vmem, ⟨9, _⟩ => ⟨S256x648, .f32⟩
  | .local _ .vmem, ⟨10, _⟩ => ⟨S256x648, .f32⟩
  | .local _ .vmem, ⟨11, _⟩ => ⟨S256x648, .f32⟩
  | .local _ .vmem, ⟨12, _⟩ => ⟨S256x648, .f32⟩
  | .local _ .vmem, ⟨13, _⟩ => ⟨S256x648, .f32⟩
  | .local _ .vmem, ⟨14, _⟩ => ⟨S256x648, .f32⟩
  | .local _ .vmem, ⟨15, _⟩ => ⟨S256x648, .f32⟩
  | _, _ => ⟨S8x2048x648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x2048x648 : Shape := ⟨3, ![8, 2048, 648]⟩
abbrev S2048x648 : Shape := ⟨2, ![2048, 648]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x648, .bf16⟩
  | .hbm, ⟨1, _⟩ => ⟨S2048x648, .f32⟩
  | .hbm, ⟨2, _⟩ => ⟨S2048x648, .f32⟩
  | .hbm, ⟨3, _⟩ => ⟨S2048x648, .f32⟩
  | .hbm, ⟨4, _⟩ => ⟨S8x2048x648, .f32⟩
  | .hbm, ⟨5, _⟩ => ⟨S_, .f32⟩
  | .hbm, ⟨6, _⟩ => ⟨S2048x648, .f32⟩
  | .hbm, ⟨7, _⟩ => ⟨S_, .f32⟩
  | .hbm, ⟨8, _⟩ => ⟨S2048x648, .f32⟩
  | .hbm, ⟨9, _⟩ => ⟨S2048x648, .f32⟩
  | .hbm, ⟨10, _⟩ => ⟨S_, .f32⟩
  | .hbm, ⟨11, _⟩ => ⟨S2048x648, .f32⟩
  | .hbm, ⟨12, _⟩ => ⟨S2048x648, .f32⟩
  | .hbm, ⟨13, _⟩ => ⟨S2048x648, .f32⟩
  | .hbm, ⟨14, _⟩ => ⟨S_, .f32⟩
  | .hbm, ⟨15, _⟩ => ⟨S2048x648, .f32⟩
  | .hbm, ⟨16, _⟩ => ⟨S2048x648, .f32⟩
  | .hbm, ⟨17, _⟩ => ⟨S2048x648, .f32⟩
  | .hbm, ⟨18, _⟩ => ⟨S_, .f32⟩
  | .hbm, ⟨19, _⟩ => ⟨S2048x648, .f32⟩
  | .hbm, ⟨20, _⟩ => ⟨S2048x648, .f32⟩
  | .hbm, ⟨21, _⟩ => ⟨S2048x648, .f32⟩
  | .hbm, ⟨22, _⟩ => ⟨S_, .f32⟩
  | .hbm, ⟨23, _⟩ => ⟨S2048x648, .f32⟩
  | .hbm, ⟨24, _⟩ => ⟨S2048x648, .f32⟩
  | .hbm, ⟨25, _⟩ => ⟨S_, .f32⟩
  | .hbm, ⟨26, _⟩ => ⟨S2048x648, .f32⟩
  | .hbm, ⟨27, _⟩ => ⟨S2048x648, .f32⟩
  | .hbm, ⟨28, _⟩ => ⟨S2048x648, .f32⟩
  | .hbm, ⟨29, _⟩ => ⟨S_, .f32⟩
  | .hbm, ⟨30, _⟩ => ⟨S2048x648, .f32⟩
  | .hbm, ⟨31, _⟩ => ⟨S2048x648, .f32⟩
  | .hbm, ⟨32, _⟩ => ⟨S2048x648, .f32⟩
  | .hbm, ⟨33, _⟩ => ⟨S_, .f32⟩
  | .hbm, ⟨34, _⟩ => ⟨S2048x648, .f32⟩
  | .hbm, ⟨35, _⟩ => ⟨S2048x648, .f32⟩
  | .hbm, ⟨36, _⟩ => ⟨S2048x648, .f32⟩
  | .hbm, ⟨37, _⟩ => ⟨S_, .f32⟩
  | .hbm, ⟨38, _⟩ => ⟨S2048x648, .f32⟩
  | .hbm, ⟨39, _⟩ => ⟨S2048x648, .f32⟩
  | _, _ => ⟨S8x2048x648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x2048x704 : Shape := ⟨3, ![8, 2048, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x2048x704 : Shape := ⟨3, ![8, 2048, 704]⟩
abbrev S2048x704 : Shape := ⟨2, ![2048, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .f32⟩
  | .hbm, ⟨5, _⟩ => ⟨S_, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S_, .f32⟩
  | .hbm, ⟨11, _⟩ => ⟨S2048x704, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S_, .f32⟩
  | .hbm, ⟨26, _⟩ => ⟨S2048x704, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x704x2048 : Shape := ⟨3, ![8, 704, 2048]⟩
abbrev S704x2048 : Shape := ⟨2, ![704, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x704x2048 : Shape := ⟨3, ![8, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S8x256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S8x256x256 : Shape := ⟨3, ![8, 256, 256]⟩
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise
public import Idealize.ShloMosaic.Lib.Pipeline.Value
public import Idealize.ShloMosaic.Lib.IdealHost

@[expose] public section

set_option maxRecDepth 16384

noncomputable section

namespace Cert.KernelIdeal.Hand

open Cert.KernelIdeal Cert.KernelIdeal.Gen Idealize.ShloMosaic

/-- A real number as an ideal value. -/
abbrev cE (x : ℝ) : EReal := (x : EReal)

theorem cE_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem lit_eighth : Ideal.ofBits .f32 0x3E000000#32 = ((1/8 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]
/-- The mask constant, as the real number the float stands for. -/
def neg : ℝ := -1000000015047466219876688855040
theorem lit_neg : Ideal.ofBits .f32 0xF149F2CA#32 = ((neg : ℝ) : EReal) := by
  simp [Ideal.ofBits, Ideal.ieee, -EReal.coe_mul, neg]; norm_num

/-! ## The rows of a block: four heads of 512 positions -/

/-- The head of row `r` of a block. -/
def gr (r : Fin 2048) : Fin 4 := ⟨r.val / 512, by omega⟩
/-- The position in the block of row `r`. -/
def tr (r : Fin 2048) : Fin 512 := ⟨r.val % 512, by omega⟩

theorem pick4 {α : Type} (F : Fin 4 → Fin 512 → α) (r : Fin 2048) :
    (if h : r.val < 512 then F 0 ⟨r.val, h⟩ else if h : r.val - 512 < 512 then F 1 ⟨r.val - 512, h⟩
      else if h : r.val - 512 - 512 < 512 then F 2 ⟨r.val - 512 - 512, h⟩ else F 3 ⟨r.val - 512 - 512 - 512, by omega⟩)
      = F (gr r) (tr r) := by
  have key : ∀ (g : Fin 4) (n : Nat) (hn : n < 512), r.val = 512 * g.val + n → F g ⟨n, hn⟩ = F (gr r) (tr r) := by
    intro g n hn h
    have e1 : gr r = g := Fin.ext (by show r.val / 512 = g.val; omega)
    have e2 : tr r = ⟨n, hn⟩ := Fin.ext (by show r.val % 512 = n; omega)
    rw [e1, e2]
  split_ifs with h0 h1 h2
  · exact key 0 _ _ (by show r.val = 512 * 0 + r.val; omega)
  · exact key 1 _ _ (by show r.val = 512 * 1 + (r.val - 512); omega)
  · exact key 2 _ _ (by show r.val = 512 * 2 + (r.val - 512 - 512); omega)
  · exact key 3 _ _ (by show r.val = 512 * 3 + (r.val - 512 - 512 - 512); omega)

/-- The stacked rows hold what each head's rows hold. -/
theorem concat_rows {v0 v1 v2 v3 : FVec Ideal S512x64 .f32} {F : Fin 4 → Fin 512 → Fin 64 → ℝ}
    (h0 : ∀ t d, v0 (ix2 t d) = cE (F 0 t d)) (h1 : ∀ t d, v1 (ix2 t d) = cE (F 1 t d))
    (h2 : ∀ t d, v2 (ix2 t d) = cE (F 2 t d)) (h3 : ∀ t d, v3 (ix2 t d) = cE (F 3 t d)) (r : Fin 2048) (d : Fin 64) :
    concatenate S2048x64 0 [⟨S512x64, v0⟩, ⟨S512x64, v1⟩, ⟨S512x64, v2⟩, ⟨S512x64, v3⟩] concatenates_S512x64_S512x64_S512x64_S512x64_S2048x64_d0 (ix2 r d)
      = ((F (gr r) (tr r) d : ℝ) : EReal) := by
  pointwise
  simp only [h0, h1, h2, h3]
  exact pick4 (fun g t => ((F g t d : ℝ) : EReal)) r

theorem concat_cols {v0 v1 v2 v3 : FVec Ideal S1x512 .f32} {F : Fin 4 → Fin 512 → ℝ}
    (h0 : ∀ t, v0 (ix2 0 t) = cE (F 0 t)) (h1 : ∀ t, v1 (ix2 0 t) = cE (F 1 t))
    (h2 : ∀ t, v2 (ix2 0 t) = cE (F 2 t)) (h3 : ∀ t, v3 (ix2 0 t) = cE (F 3 t)) (r : Fin 2048) :
    concatenate S1x2048 1 [⟨S1x512, v0⟩, ⟨S1x512, v1⟩, ⟨S1x512, v2⟩, ⟨S1x512, v3⟩] concatenates_S1x512_S1x512_S1x512_S1x512_S1x2048_d1 (ix2 0 r)
      = ((F (gr r) (tr r) : ℝ) : EReal) := by
  pointwise
  simp only [h0, h1, h2, h3]
  exact pick4 (fun g t => ((F g t : ℝ) : EReal)) r

theorem concat_mask {v : FVec Ideal S256x512 .f32} {F : Fin 256 → Fin 512 → ℝ}
    (h : ∀ i t, v (ix2 i t) = cE (F i t)) (i : Fin 256) (r : Fin 2048) :
    concatenate S256x2048 1 [⟨S256x512, v⟩, ⟨S256x512, v⟩, ⟨S256x512, v⟩, ⟨S256x512, v⟩] concatenates_S256x512_S256x512_S256x512_S256x512_S256x2048_d1 (ix2 i r)
      = ((F i (tr r) : ℝ) : EReal) := by
  pointwise
  simp only [h]
  exact pick4 (fun _ t => ((F i t : ℝ) : EReal)) r

/-! ## The mask -/

/-- Whether the compressed key `i` is visible from position `t` of block `b`. -/
abbrev vis (b : Nat) (i : Fin 256) (t : Fin 512) : Prop := 16 * i.val + 31 ≤ 512 * b + t.val

theorem sle_eq (b : Nat) (hb : b < 8) (i : Fin 256) (t : Fin 512) :
    IntOp.cmpi CmpIPredicate.sle (IntOp.addi (IntOp.muli (IntOp.addi (0#32) (BitVec.ofNat 32 i.val)) 16#32) 31#32)
      (IntOp.addi (BitVec.ofNat 32 (512 * b)) (BitVec.ofNat 32 t.val)) = if vis b i t then 1#1 else 0#1 := by
  have hi := i.isLt
  have ht := t.isLt
  have e1 : IntOp.addi (IntOp.muli (IntOp.addi (0#32) (BitVec.ofNat 32 i.val)) 16#32) 31#32 = BitVec.ofNat 32 (16 * i.val + 31) := by
    apply BitVec.eq_of_toNat_eq
    simp only [IntOp.addi, IntOp.muli, BitVec.toNat_add, BitVec.toNat_mul, BitVec.toNat_ofNat]
    omega
  have e2 : IntOp.addi (BitVec.ofNat 32 (512 * b)) (BitVec.ofNat 32 t.val) = BitVec.ofNat 32 (512 * b + t.val) := by
    apply BitVec.eq_of_toNat_eq
    simp only [IntOp.addi, BitVec.toNat_add, BitVec.toNat_ofNat]
    omega
  rw [e1, e2]
  have e3 : ∀ n : Nat, n < 2^31 → (BitVec.ofNat 32 n).toInt = (n : Int) := by
    intro n hn
    rw [BitVec.toInt_ofNat', ]
    simp only [Int.bmod_def]
    omega
  simp only [IntOp.cmpi, BitVec.sle, e3 (16 * i.val + 31) (by omega), e3 (512 * b + t.val) (by omega)]
  unfold vis
  split_ifs with h
  · simp only [Nat.cast_le.mpr h, decide_true]; rfl
  · have : ¬ ((16 * i.val + 31 : Nat) : Int) ≤ ((512 * b + t.val : Nat) : Int) := by omega
    simp only [this, decide_false]; rfl

/-! ## The payloads, on real inputs -/

section
variable {Qb DYb Ob : Fin 4 → Fin 512 → Fin 64 → ℝ} {Gb Lb : Fin 4 → Fin 512 → ℝ} {Kb Vb : Fin 256 → Fin 64 → ℝ}

/-- The logistic function. -/
def sgm (x : ℝ) : ℝ := 1 / (1 + Real.exp (-x))

theorem sgm_eq (x : ℝ) : Ideal.div 1 (1 + Ideal.exp (0 - ((x : ℝ) : EReal))) = ((sgm x : ℝ) : EReal) := by
  have h : (1 + Real.exp (-x)) ≠ 0 := by positivity
  have e : (0 - ((x : ℝ) : EReal)) = (((-x : ℝ)) : EReal) := by rw [zero_sub]; rfl
  rw [e]
  show Ideal.div 1 (1 + ((Real.exp (-x) : ℝ) : EReal)) = _
  have e2 : (1 + ((Real.exp (-x) : ℝ) : EReal)) = ((1 + Real.exp (-x) : ℝ) : EReal) := by rw [EReal.coe_add]; rfl
  rw [e2, Ideal.div_coe h, one_mul]
  rfl

theorem pay3_apply {v0 v1 v2 v3 : FVec Ideal S512x64 .f32}
    (h0 : ∀ t d, v0 (ix2 t d) = cE (Qb 0 t d)) (h1 : ∀ t d, v1 (ix2 t d) = cE (Qb 1 t d))
    (h2 : ∀ t d, v2 (ix2 t d) = cE (Qb 2 t d)) (h3 : ∀ t d, v3 (ix2 t d) = cE (Qb 3 t d)) (r : Fin 2048) (d : Fin 64) :
    k0_pay3 (F := Ideal) v0 v1 v2 v3 (ix2 r d) = cE (Qb (gr r) (tr r) d * (1 / 8)) := by
  have hc := concat_rows h0 h1 h2 h3 r d
  pointwise at hc
  pointwise [k0_pay3]
  rw [hc, lit_eighth, ← EReal.coe_mul]

theorem pay4_apply {v0 v1 v2 v3 : FVec Ideal S512x64 .f32}
    (h0 : ∀ t d, v0 (ix2 t d) = cE (DYb 0 t d)) (h1 : ∀ t d, v1 (ix2 t d) = cE (DYb 1 t d))
    (h2 : ∀ t d, v2 (ix2 t d) = cE (DYb 2 t d)) (h3 : ∀ t d, v3 (ix2 t d) = cE (DYb 3 t d)) (r : Fin 2048) (d : Fin 64) :
    k0_pay4 (F := Ideal) v0 v1 v2 v3 (ix2 r d) = cE (DYb (gr r) (tr r) d) := concat_rows h0 h1 h2 h3 r d

theorem pay5_apply (v : Vec Ideal S1x1x512 .f32) (t : Fin 512) : k0_pay5 v (ix2 0 t) = v (ix3 0 0 t) := by pointwise [k0_pay5]
theorem pay6_apply (v : Vec Ideal S1x1x512 .f32) (t : Fin 512) : k0_pay6 v (ix2 0 t) = v (ix3 0 0 t) := by pointwise [k0_pay6]
theorem pay7_apply (v : Vec Ideal S1x1x512 .f32) (t : Fin 512) : k0_pay7 v (ix2 0 t) = v (ix3 0 0 t) := by pointwise [k0_pay7]
theorem pay8_apply (v : Vec Ideal S1x1x512 .f32) (t : Fin 512) : k0_pay8 v (ix2 0 t) = v (ix3 0 0 t) := by pointwise [k0_pay8]

theorem pay9_apply {v0 v1 v2 v3 : FVec Ideal S1x512 .f32}
    (h0 : ∀ t, v0 (ix2 0 t) = cE (Gb 0 t)) (h1 : ∀ t, v1 (ix2 0 t) = cE (Gb 1 t))
    (h2 : ∀ t, v2 (ix2 0 t) = cE (Gb 2 t)) (h3 : ∀ t, v3 (ix2 0 t) = cE (Gb 3 t)) (r : Fin 2048) :
    k0_pay9 v0 v1 v2 v3 (ix2 0 r) = cE (sgm (Gb (gr r) (tr r))) := by
  have hc := concat_cols h0 h1 h2 h3 r
  pointwise at hc
  pointwise [k0_pay9]
  rw [hc, sgm_eq]

/-- What the output gradient and the attention's output have in common at a row. -/
def dyo (DYb Ob : Fin 4 → Fin 512 → Fin 64 → ℝ) (g : Fin 4) (t : Fin 512) : ℝ := ∑ d, DYb g t d * Ob g t d

theorem pay10_apply {v16 : FVec Ideal S2048x64 .f32} {v0 v1 v2 v3 : FVec Ideal S512x64 .f32}
    (h : ∀ r d, v16 (ix2 r d) = cE (DYb (gr r) (tr r) d))
    (h0 : ∀ t d, v0 (ix2 t d) = cE (Ob 0 t d)) (h1 : ∀ t d, v1 (ix2 t d) = cE (Ob 1 t d))
    (h2 : ∀ t d, v2 (ix2 t d) = cE (Ob 2 t d)) (h3 : ∀ t d, v3 (ix2 t d) = cE (Ob 3 t d)) (r : Fin 2048) :
    k0_pay10 v16 v0 v1 v2 v3 (ix2 0 r) = cE (dyo DYb Ob (gr r) (tr r)) := by
  have hc := fun d => concat_rows h0 h1 h2 h3 r d
  pointwise at hc
  pointwise [k0_pay10]
  simp only [h, hc, ← EReal.coe_mul, ← EReal.coe_sub, sub_self, cE_sum, ← EReal.coe_add, Finset.sum_const_zero, add_zero]
  rfl

section
variable {v16 : FVec Ideal S2048x64 .f32} {v0 v1 v2 v3 : FVec Ideal S512x64 .f32} {w0 w1 w2 w3 : FVec Ideal S1x512 .f32}
    (h : ∀ r d, v16 (ix2 r d) = cE (DYb (gr r) (tr r) d))
    (h0 : ∀ t d, v0 (ix2 t d) = cE (Ob 0 t d)) (h1 : ∀ t d, v1 (ix2 t d) = cE (Ob 1 t d))
    (h2 : ∀ t d, v2 (ix2 t d) = cE (Ob 2 t d)) (h3 : ∀ t d, v3 (ix2 t d) = cE (Ob 3 t d))
    (g0 : ∀ t, w0 (ix2 0 t) = cE (Gb 0 t)) (g1 : ∀ t, w1 (ix2 0 t) = cE (Gb 1 t))
    (g2 : ∀ t, w2 (ix2 0 t) = cE (Gb 2 t)) (g3 : ∀ t, w3 (ix2 0 t) = cE (Gb 3 t)) (r : Fin 2048)
include h h0 h1 h2 h3 g0 g1 g2 g3

theorem pay11_apply : k0_pay11 v16 w0 w1 w2 w3 v0 v1 v2 v3 (ix2 0 r) = cE (sgm (Gb (gr r) (tr r)) * dyo DYb Ob (gr r) (tr r)) := by
  unfold k0_pay11
  show k0_pay9 w0 w1 w2 w3 (ix2 0 r) * k0_pay10 v16 v0 v1 v2 v3 (ix2 0 r) = _
  rw [pay9_apply g0 g1 g2 g3, pay10_apply h h0 h1 h2 h3, ← EReal.coe_mul]

/-- The gradient of the gate's logit. -/
theorem pay12_apply : k0_pay12 v16 w0 w1 w2 w3 v0 v1 v2 v3 (ix2 0 r)
    = cE (dyo DYb Ob (gr r) (tr r) * (sgm (Gb (gr r) (tr r)) * (1 - sgm (Gb (gr r) (tr r))))) := by
  have e9 := pay9_apply g0 g1 g2 g3 r
  have e10 := pay10_apply h h0 h1 h2 h3 r
  pointwise [k0_pay12]
  rw [e9, e10]
  simp only [EReal.coe_mul, EReal.coe_sub]
  rfl
end

theorem pay18_apply {v0 v1 v2 v3 : FVec Ideal S1x1x512 .f32}
    (h0 : ∀ t, v0 (ix3 0 0 t) = cE (Lb 0 t)) (h1 : ∀ t, v1 (ix3 0 0 t) = cE (Lb 1 t))
    (h2 : ∀ t, v2 (ix3 0 0 t) = cE (Lb 2 t)) (h3 : ∀ t, v3 (ix3 0 0 t) = cE (Lb 3 t)) (r : Fin 2048) :
    k0_pay18 (F := Ideal) v0 v1 v2 v3 (ix2 0 r) = cE (Lb (gr r) (tr r)) := by
  unfold k0_pay18
  exact concat_cols (fun t => (pay5_apply v0 t).trans (h0 t)) (fun t => (pay5_apply v1 t).trans (h1 t))
    (fun t => (pay5_apply v2 t).trans (h2 t)) (fun t => (pay5_apply v3 t).trans (h3 t)) r

theorem pay19_apply {v16 : FVec Ideal S2048x64 .f32} {v32 : FVec Ideal S1x2048 .f32}
    (h : ∀ r d, v16 (ix2 r d) = cE (DYb (gr r) (tr r) d)) (hg : ∀ r, v32 (ix2 0 r) = cE (sgm (Gb (gr r) (tr r)))) (r : Fin 2048) (d : Fin 64) :
    k0_pay19 v16 v32 (ix2 r d) = cE (DYb (gr r) (tr r) d * sgm (Gb (gr r) (tr r))) := by
  pointwise [k0_pay19]
  rw [h, hg, ← EReal.coe_mul]

/-- The bias the mask adds. -/
def bias (b : Nat) (i : Fin 256) (t : Fin 512) : ℝ := if vis b i t then 0 else neg
/-- The mask as a factor. -/
def mkf (b : Nat) (i : Fin 256) (t : Fin 512) : ℝ := if vis b i t then 1 else 0

theorem pay21_apply {v11 : FVec Ideal S2048x64 .bf16} {v95 : Vec Ideal S1x256x64 .bf16} (b : Nat) (hb : b < 8)
    (hq : ∀ r d, v11 (ix2 r d) = cE (Qb (gr r) (tr r) d * (1 / 8))) (hk : ∀ i d, v95 (ix3 0 i d) = cE (Kb i d)) (i : Fin 256) (r : Fin 2048) :
    k0_pay21 (BitVec.ofNat 32 (512 * b)) v11 v95 (ix3 0 i r)
      = cE ((∑ d, Kb i d * (Qb (gr r) (tr r) d * (1 / 8))) + bias b i (tr r)) := by
  have hc := concat_mask (v := select (cmpi .sle (addi (muli (addi (broadcast S256x512 0#32) (iota .tc S256x512 32 [0] iota_S256x512_d0_w32)) (broadcast S256x512 16#32)) (broadcast S256x512 31#32))
      (addi (broadcast S256x512 (BitVec.ofNat 32 (512 * b))) (iota .tc S256x512 32 [1] iota_S256x512_d1_w32)))
      (broadcast S256x512 (Ideal.ofBits FTy.f32 0#32)) (broadcast S256x512 (Ideal.ofBits FTy.f32 0xF149F2CA#32))) (F := bias b) (by
    intro i t
    pointwise
    rw [sle_eq b hb i t, lit_neg]
    unfold bias
    split_ifs <;> rfl) i r
  pointwise at hc
  pointwise [k0_pay21]
  rw [hc]
  simp only [hq, hk, ← EReal.coe_mul, cE_sum, ← EReal.coe_add]

theorem pay22_apply {v90 : FVec Ideal S2048x64 .bf16} {v117 : Vec Ideal S1x256x64 .bf16}
    (hq : ∀ r d, v90 (ix2 r d) = cE (DYb (gr r) (tr r) d * sgm (Gb (gr r) (tr r)))) (hk : ∀ i d, v117 (ix3 0 i d) = cE (Vb i d)) (i : Fin 256) (r : Fin 2048) :
    k0_pay22 v90 v117 (ix3 0 i r) = cE (∑ d, Vb i d * (DYb (gr r) (tr r) d * sgm (Gb (gr r) (tr r)))) := by
  pointwise [k0_pay22]
  simp only [hq, hk, ← EReal.coe_mul, cE_sum]

theorem pay23_apply {v83 : FVec Ideal S1x2048 .f32} {v123 : Vec Ideal S1x256x2048 .f32} {L : Fin 2048 → ℝ} {s : Fin 256 → Fin 2048 → ℝ}
    (hl : ∀ r, v83 (ix2 0 r) = cE (L r)) (hs : ∀ i r, v123 (ix3 0 i r) = cE (s i r)) (i : Fin 256) (r : Fin 2048) :
    k0_pay23 v83 v123 (ix2 i r) = cE (Real.exp (s i r - L r)) := by
  pointwise [k0_pay23]
  rw [hl, hs, ← EReal.coe_sub]
  rfl

theorem pay26_apply {v127 : FVec Ideal S256x2048 .f32} {e : Fin 256 → Fin 2048 → ℝ} (b : Nat) (hb : b < 8)
    (he : ∀ i r, v127 (ix2 i r) = cE (e i r)) (i : Fin 256) (r : Fin 2048) :
    k0_pay26 v127 k0_pay24 (iota .tc S256x512 32 [1] iota_S256x512_d1_w32) (k0_pay25 (BitVec.ofNat 32 (512 * b))) (ix2 i r) = cE (e i r * mkf b i (tr r)) := by
  have hc := concat_mask (v := sitofp .f32 (extui 32 (cmpi .sle (addi (muli k0_pay24 (broadcast S256x512 16#32)) (broadcast S256x512 31#32))
      (addi (k0_pay25 (BitVec.ofNat 32 (512 * b))) (iota .tc S256x512 32 [1] iota_S256x512_d1_w32))) natLt_1_32)) (F := mkf b) (by
    intro i t
    pointwise [k0_pay24, k0_pay25]
    rw [sle_eq b hb i t]
    unfold mkf
    split_ifs
    · show (((1 : ℤ) : ℝ) : EReal) = _; norm_num
    · show (((0 : ℤ) : ℝ) : EReal) = _; norm_num) i r
  pointwise at hc
  pointwise [k0_pay26]
  rw [hc, he, ← EReal.coe_mul]

theorem pay27_apply {v54 : FVec Ideal S1x2048 .f32} {v127 : FVec Ideal S256x2048 .f32} {v130 v131 v132 : IVec S256x512 32} {v143 : Vec Ideal S1x256x2048 .f32}
    {D : Fin 2048 → ℝ} {p dp : Fin 256 → Fin 2048 → ℝ}
    (hp : ∀ i r, k0_pay26 v127 v130 v131 v132 (ix2 i r) = cE (p i r)) (hd : ∀ r, v54 (ix2 0 r) = cE (D r)) (hdp : ∀ i r, v143 (ix3 0 i r) = cE (dp i r)) (i : Fin 256) (r : Fin 2048) :
    k0_pay27 v54 v127 v130 v131 v132 v143 (ix2 i r) = cE (p i r * (dp i r - D r)) := by
  have e := hp i r
  pointwise [k0_pay27]
  rw [e, hd, hdp, ← EReal.coe_sub, ← EReal.coe_mul]

section
variable {v54 : FVec Ideal S1x2048 .f32} {v127 : FVec Ideal S256x2048 .f32} {v130 v131 v132 : IVec S256x512 32} {v143 : Vec Ideal S1x256x2048 .f32}
    {ds : Fin 256 → Fin 2048 → ℝ} (hds : ∀ i r, k0_pay27 v54 v127 v130 v131 v132 v143 (ix2 i r) = cE (ds i r))
include hds

theorem pay28_apply {v148 : Vec Ideal S64x2048 .f32} {v149 : Vec Ideal S1x1x64x256 .bf16}
    (h0 : ∀ d r, v148 (ix2 d r) = cE 0) (hk : ∀ d i, v149 (ix4 0 0 d i) = cE (Kb i d)) (d : Fin 64) (r : Fin 2048) :
    k0_pay28 v54 v127 v130 v131 v132 v143 v148 v149 (ix2 d r) = cE (∑ i, Kb i d * ds i r) := by
  pointwise [k0_pay28]
  simp only [hds, hk, h0, ← EReal.coe_mul, cE_sum, ← EReal.coe_add, zero_add]

theorem pay29_apply {v11 : FVec Ideal S2048x64 .bf16} {v157 : Vec Ideal S1x256x64 .f32} {a : Fin 256 → Fin 64 → ℝ}
    (hq : ∀ r d, v11 (ix2 r d) = cE (Qb (gr r) (tr r) d * (1 / 8))) (ha : ∀ i d, v157 (ix3 0 i d) = cE (a i d)) (i : Fin 256) (d : Fin 64) :
    k0_pay29 v11 v54 v127 v130 v131 v132 v143 v157 (ix3 0 i d) = cE (a i d + ∑ r, ds i r * (Qb (gr r) (tr r) d * (1 / 8))) := by
  pointwise [k0_pay29]
  simp only [hds, hq, ha, ← EReal.coe_mul, cE_sum, ← EReal.coe_add]
end

theorem pay31_apply {v90 : FVec Ideal S2048x64 .bf16} {v142 : FVec Ideal S256x2048 .f32} {v165 : Vec Ideal S1x256x64 .f32} {a : Fin 256 → Fin 64 → ℝ} {p : Fin 256 → Fin 2048 → ℝ}
    (hq : ∀ r d, v90 (ix2 r d) = cE (DYb (gr r) (tr r) d * sgm (Gb (gr r) (tr r)))) (hp : ∀ i r, v142 (ix2 i r) = cE (p i r)) (ha : ∀ i d, v165 (ix3 0 i d) = cE (a i d)) (i : Fin 256) (d : Fin 64) :
    k0_pay31 v90 v142 (k0_pay30 v165) (ix3 0 i d) = cE (a i d + ∑ r, p i r * (DYb (gr r) (tr r) d * sgm (Gb (gr r) (tr r)))) := by
  pointwise [k0_pay31, k0_pay30]
  simp only [hp, hq, ha, ← EReal.coe_mul, cE_sum, ← EReal.coe_add]

theorem pay32_apply (v : Vec Ideal S64x512 .f32) (t : Fin 512) (d : Fin 64) : k0_pay32 v (ix2 t d) = v (ix2 d t) * ((1 / 8 : ℝ) : EReal) := by
  pointwise [k0_pay32]
  rw [lit_eighth]
theorem pay33_apply (v : Vec Ideal S64x512 .f32) (t : Fin 512) (d : Fin 64) : k0_pay33 v (ix2 t d) = v (ix2 d t) * ((1 / 8 : ℝ) : EReal) := by
  pointwise [k0_pay33]
  rw [lit_eighth]
theorem pay34_apply (v : Vec Ideal S64x512 .f32) (t : Fin 512) (d : Fin 64) : k0_pay34 v (ix2 t d) = v (ix2 d t) * ((1 / 8 : ℝ) : EReal) := by
  pointwise [k0_pay34]
  rw [lit_eighth]
theorem pay35_apply (v : Vec Ideal S64x512 .f32) (t : Fin 512) (d : Fin 64) : k0_pay35 v (ix2 t d) = v (ix2 d t) * ((1 / 8 : ℝ) : EReal) := by
  pointwise [k0_pay35]
  rw [lit_eighth]

theorem pay13_apply (v16 w0 w1 w2 w3 v0 v1 v2 v3) (t : Fin 512) :
    k0_pay13 (F := Ideal) v16 w0 w1 w2 w3 v0 v1 v2 v3 (ix3 0 0 t) = k0_pay12 v16 w0 w1 w2 w3 v0 v1 v2 v3 (ix2 0 ⟨512 * 0 + t.val, by omega⟩) := by
  pointwise [k0_pay13]
theorem pay15_apply (v16 w0 w1 w2 w3 v0 v1 v2 v3) (t : Fin 512) :
    k0_pay15 (F := Ideal) (k0_pay14 v16 w0 w1 w2 w3 v0 v1 v2 v3) (ix3 0 0 t) = k0_pay12 v16 w0 w1 w2 w3 v0 v1 v2 v3 (ix2 0 ⟨512 * 1 + t.val, by omega⟩) := by
  pointwise [k0_pay15, k0_pay14]
theorem pay16_apply (v : FVec Ideal S1x2048 .f32) (t : Fin 512) :
    k0_pay16 v (ix3 0 0 t) = v (ix2 0 ⟨512 * 2 + t.val, by omega⟩) := by
  pointwise [k0_pay16]
theorem pay17_apply (v : FVec Ideal S1x2048 .f32) (t : Fin 512) :
    k0_pay17 v (ix3 0 0 t) = v (ix2 0 ⟨512 * 3 + t.val, by omega⟩) := by
  pointwise [k0_pay17]
theorem pay1_apply (i : Fin 256) (d : Fin 64) : k0_pay1 (F := Ideal) (ix3 0 i d) = cE 0 := by pointwise [k0_pay1]; rfl
theorem pay2_apply (i : Fin 256) (d : Fin 64) : k0_pay2 (F := Ideal) (ix3 0 i d) = cE 0 := by pointwise [k0_pay2]; rfl
theorem pay20_apply (d : Fin 64) (r : Fin 2048) : k0_pay20 (F := Ideal) (ix2 d r) = cE 0 := by pointwise [k0_pay20]; rfl

end

end Cert.KernelIdeal.Hand
-- ==== Proof.Blk.lean ====
module

public import proofs.«01_k».proof.Proof.Gen.KernelIdeal.Value
public import proofs.«01_k».proof.Proof.Pay
public import Idealize.ShloMosaic.Lib.Pointwise
public import Idealize.ShloMosaic.Lib.Pipeline.Value
public import Idealize.ShloMosaic.Lib.IdealHost
public import Idealize.ShloMosaic.Lib.VecWindow
public import Idealize.ShloMosaic.Lib.Pipeline.ValueKit.Tiles

@[expose] public section

set_option maxRecDepth 16384

noncomputable section

namespace Cert.KernelIdeal.Hand

open Idealize.ShloMosaic.TcCoe Idealize.SL.Sem
open Idealize.ShloMosaic.Pipeline (Dat)
open Cert.KernelIdeal Cert.KernelIdeal.Gen Idealize.ShloMosaic

/-! ## The block's stages, as terms over the input blocks -/

/-- The 64 columns of one head of a block of 512 rows. -/
abbrev hd0 (x : Vec Ideal S512x256 .f32) : Vec Ideal S512x64 .f32 := View.ld x (Rect.unit ![0, 0] ![512, 64] inb_S512x256_S512x64_0_0)
abbrev hd1 (x : Vec Ideal S512x256 .f32) : Vec Ideal S512x64 .f32 := View.ld x (Rect.unit ![0, 64] ![512, 64] inb_S512x256_S512x64_0_64)
abbrev hd2 (x : Vec Ideal S512x256 .f32) : Vec Ideal S512x64 .f32 := View.ld x (Rect.unit ![0, 128] ![512, 64] inb_S512x256_S512x64_0_128)
abbrev hd3 (x : Vec Ideal S512x256 .f32) : Vec Ideal S512x64 .f32 := View.ld x (Rect.unit ![0, 192] ![512, 64] inb_S512x256_S512x64_0_192)
/-- The row of one head of a block of four rows. -/
abbrev rw0 (x : Vec Ideal S1x4x512 .f32) : Vec Ideal S1x1x512 .f32 := View.ld x (Rect.unit ![0, 0, 0] ![1, 1, 512] inb_S1x4x512_S1x1x512_0_0_0)
abbrev rw1 (x : Vec Ideal S1x4x512 .f32) : Vec Ideal S1x1x512 .f32 := View.ld x (Rect.unit ![0, 1, 0] ![1, 1, 512] inb_S1x4x512_S1x1x512_0_1_0)
abbrev rw2 (x : Vec Ideal S1x4x512 .f32) : Vec Ideal S1x1x512 .f32 := View.ld x (Rect.unit ![0, 2, 0] ![1, 1, 512] inb_S1x4x512_S1x1x512_0_2_0)
abbrev rw3 (x : Vec Ideal S1x4x512 .f32) : Vec Ideal S1x1x512 .f32 := View.ld x (Rect.unit ![0, 3, 0] ![1, 1, 512] inb_S1x4x512_S1x1x512_0_3_0)

def QS (x0 : Vec Ideal S512x256 .f32) := k0_pay3 (hd0 x0) (hd1 x0) (hd2 x0) (hd3 x0)
def DYS (x6 : Vec Ideal S512x256 .f32) := k0_pay4 (hd0 x6) (hd1 x6) (hd2 x6) (hd3 x6)
def GATE (x7 : Vec Ideal S1x4x512 .f32) := k0_pay9 (k0_pay5 (rw0 x7)) (k0_pay6 (rw1 x7)) (k0_pay7 (rw2 x7)) (k0_pay8 (rw3 x7))
def DEL (x4 x6 : Vec Ideal S512x256 .f32) (x7 : Vec Ideal S1x4x512 .f32) :=
  k0_pay11 (DYS x6) (k0_pay5 (rw0 x7)) (k0_pay6 (rw1 x7)) (k0_pay7 (rw2 x7)) (k0_pay8 (rw3 x7)) (hd0 x4) (hd1 x4) (hd2 x4) (hd3 x4)
def DGT (x4 x6 : Vec Ideal S512x256 .f32) (x7 : Vec Ideal S1x4x512 .f32) :=
  k0_pay12 (DYS x6) (k0_pay5 (rw0 x7)) (k0_pay6 (rw1 x7)) (k0_pay7 (rw2 x7)) (k0_pay8 (rw3 x7)) (hd0 x4) (hd1 x4) (hd2 x4) (hd3 x4)
def LSE (x5 : Vec Ideal S1x4x512 .f32) := k0_pay18 (rw0 x5) (rw1 x5) (rw2 x5) (rw3 x5)
def DOS (x6 : Vec Ideal S512x256 .f32) (x7 : Vec Ideal S1x4x512 .f32) := k0_pay19 (DYS x6) (GATE x7)
abbrev whk (x : Vec Ideal S1x256x64 .bf16) : Vec Ideal S1x256x64 .bf16 := View.ld x (Rect.unit ![0, 0, 0] ![1, 256, 64] inb_S1x256x64_S1x256x64_0_0_0)
abbrev whf (x : Vec Ideal S1x256x64 .f32) : Vec Ideal S1x256x64 .f32 := View.ld x (Rect.unit ![0, 0, 0] ![1, 256, 64] inb_S1x256x64_S1x256x64_0_0_0)
abbrev wht (x : Vec Ideal S1x1x64x256 .bf16) : Vec Ideal S1x1x64x256 .bf16 := View.ld x (Rect.unit ![0, 0, 0, 0] ![1, 1, 64, 256] inb_S1x1x64x256_S1x1x64x256_0_0_0_0)
def EXPS (b : BitVec 32) (x0 : Vec Ideal S512x256 .f32) (x1 : Vec Ideal S1x256x64 .bf16) (x5 : Vec Ideal S1x4x512 .f32) := k0_pay23 (LSE x5) (k0_pay21 b (QS x0) (whk x1))
def DPV (x3 : Vec Ideal S1x256x64 .bf16) (x6 : Vec Ideal S512x256 .f32) (x7 : Vec Ideal S1x4x512 .f32) := k0_pay22 (DOS x6 x7) (whk x3)
abbrev cols : IVec S256x512 32 := iota .tc S256x512 32 [1] iota_S256x512_d1_w32
def DQT (b : BitVec 32) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) :=
  k0_pay28 (DEL x4 x6 x7) (EXPS b x0 x1 x5) k0_pay24 cols (k0_pay25 b) (DPV x3 x6 x7) (k0_pay20 (F := Ideal)) (wht x2)
def DKT (b : BitVec 32) (x0 : Vec Ideal S512x256 .f32) (x1 : Vec Ideal S1x256x64 .bf16) (x3 : Vec Ideal S1x256x64 .bf16) (x4 : Vec Ideal S512x256 .f32) (x5 : Vec Ideal S1x4x512 .f32) (x6 : Vec Ideal S512x256 .f32) (x7 : Vec Ideal S1x4x512 .f32) (a : Vec Ideal S1x256x64 .f32) :=
  k0_pay29 (QS x0) (DEL x4 x6 x7) (EXPS b x0 x1 x5) k0_pay24 cols (k0_pay25 b) (DPV x3 x6 x7) a
def DVT (b : BitVec 32) (x0 : Vec Ideal S512x256 .f32) (x1 : Vec Ideal S1x256x64 .bf16) (x5 : Vec Ideal S1x4x512 .f32) (x6 : Vec Ideal S512x256 .f32) (x7 : Vec Ideal S1x4x512 .f32) (a : Vec Ideal S1x256x64 .f32) :=
  k0_pay31 (DOS x6 x7) (k0_pay26 (EXPS b x0 x1 x5) k0_pay24 cols (k0_pay25 b)) (k0_pay30 a)
/-- The first position of a block, as the kernel computes it. -/
abbrev blk0 (i : grid0.Coords) : BitVec 32 := Scalar.muli (BitVec.ofNat 32 (i 1).val) 512#32
/-- The four stores of the query gradient. -/
def DQL (D : Vec Ideal S64x2048 .f32) : List (View.Piece (Elt Ideal) S512x256 .f32) :=
  [⟨Rect.unit ![0, 192] ![512, 64] inb_S512x256_S512x64_0_192, k0_pay35 (View.ld D (Rect.unit ![0, 1536] ![64, 512] inb_S64x2048_S64x512_0_1536))⟩,
   ⟨Rect.unit ![0, 128] ![512, 64] inb_S512x256_S512x64_0_128, k0_pay34 (View.ld D (Rect.unit ![0, 1024] ![64, 512] inb_S64x2048_S64x512_0_1024))⟩,
   ⟨Rect.unit ![0, 64] ![512, 64] inb_S512x256_S512x64_0_64, k0_pay33 (View.ld D (Rect.unit ![0, 512] ![64, 512] inb_S64x2048_S64x512_0_512))⟩,
   ⟨Rect.unit ![0, 0] ![512, 64] inb_S512x256_S512x64_0_0, k0_pay32 (View.ld D (Rect.unit ![0, 0] ![64, 512] inb_S64x2048_S64x512_0_0))⟩]
def DGL (x4 x6 : Vec Ideal S512x256 .f32) (x7 : Vec Ideal S1x4x512 .f32) : List (View.Piece (Elt Ideal) S1x4x512 .f32) :=
  [⟨Rect.unit ![0, 3, 0] ![1, 1, 512] inb_S1x4x512_S1x1x512_0_3_0, k0_pay17 (DGT x4 x6 x7)⟩,
   ⟨Rect.unit ![0, 2, 0] ![1, 1, 512] inb_S1x4x512_S1x1x512_0_2_0, k0_pay16 (DGT x4 x6 x7)⟩,
   ⟨Rect.unit ![0, 1, 0] ![1, 1, 512] inb_S1x4x512_S1x1x512_0_1_0, k0_pay15 (k0_pay14 (DYS x6) (k0_pay5 (rw0 x7)) (k0_pay6 (rw1 x7)) (k0_pay7 (rw2 x7)) (k0_pay8 (rw3 x7)) (hd0 x4) (hd1 x4) (hd2 x4) (hd3 x4))⟩,
   ⟨Rect.unit ![0, 0, 0] ![1, 1, 512] inb_S1x4x512_S1x1x512_0_0_0, k0_pay13 (DYS x6) (k0_pay5 (rw0 x7)) (k0_pay6 (rw1 x7)) (k0_pay7 (rw2 x7)) (k0_pay8 (rw3 x7)) (hd0 x4) (hd1 x4) (hd2 x4) (hd3 x4)⟩]

theorem readCov_within {sig : RefSig} {κ : Kind} {sp : Space} (v : View sig κ sp S64x2048 .f32) (w : Vec Ideal S64x2048 .f32) (L : List (View.Piece (Elt Ideal) S64x2048 .f32)) (r : Rect S64x2048) :
    v.readCov ((⟨Rect.unit ![0, 0] ![64, 2048] inb_S64x2048_S64x2048_0_0, w⟩ : View.Piece (Elt Ideal) S64x2048 .f32) :: L) r.toLoadRect = View.ld w r := by
  rw [View.readCov_eq_canon']
  funext j
  exact congrFun (View.canon_cons_unit_zero (S := S64x2048) (funext fun a => by fin_cases a <;> rfl) inb_S64x2048_S64x2048_0_0 w L) _

theorem canon_whole (w : Vec Ideal S1x256x64 .f32) (L : List (View.Piece (Elt Ideal) S1x256x64 .f32)) :
    View.canon ((⟨Rect.unit ![0, 0, 0] ![1, 256, 64] inb_S1x256x64_S1x256x64_0_0_0, w⟩ : View.Piece (Elt Ideal) S1x256x64 .f32) :: L) = w :=
  View.canon_cons_unit_zero (S := S1x256x64) (funext fun a => by fin_cases a <;> rfl) inb_S1x256x64_S1x256x64_0_0_0 w L

section
variable (c : Dev nD) (i : grid0.Coords) (arg2 : Memref sig .tc .vmem S512x256 .f32) (harg2 : arg2.IsWhole)
  (arg3 : Memref sig .tc .vmem S1x256x64 .bf16) (harg3 : arg3.IsWhole)
  (arg4 : Memref sig .tc .vmem S1x1x64x256 .bf16) (harg4 : arg4.IsWhole)
  (arg5 : Memref sig .tc .vmem S1x256x64 .bf16) (harg5 : arg5.IsWhole)
  (arg6 : Memref sig .tc .vmem S512x256 .f32) (harg6 : arg6.IsWhole)
  (arg7 : Memref sig .tc .vmem S1x4x512 .f32) (harg7 : arg7.IsWhole)
  (arg8 : Memref sig .tc .vmem S512x256 .f32) (harg8 : arg8.IsWhole)
  (arg9 : Memref sig .tc .vmem S1x4x512 .f32) (harg9 : arg9.IsWhole)
  (arg10 : Memref sig .tc .vmem S512x256 .f32) (harg10 : arg10.IsWhole)
  (arg11 : Memref sig .tc .vmem S1x256x64 .f32) (harg11 : arg11.IsWhole)
  (arg12 : Memref sig .tc .vmem S1x256x64 .f32) (harg12 : arg12.IsWhole)
  (arg13 : Memref sig .tc .vmem S1x4x512 .f32) (harg13 : arg13.IsWhole)
  (arg14 : Memref sig .tc .vmem S64x2048 .f32) (harg14 : arg14.IsWhole)
  (arg15 : Memref sig .tc .vmem S2x256x2048 .f32) (harg15 : arg15.IsWhole)
  (arg16 : Memref sig .tc .vmem S2x256x2048 .f32) (harg16 : arg16.IsWhole)

set_option maxHeartbeats 1000000 in
theorem out0_A_8_eq  (hc0 : cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (DQL (DQT (blk0 i) x0 x1 x2 x3 x4 x5 x6 x7)) := by
  unfold out0_A_8
  rw [View.read_writes_eq_canon _ _ _ (cover0_A_8 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, readCov_within]
  rfl

set_option maxHeartbeats 1000000 in
theorem out0_A_9_eq  (hc0 : cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = DKT (blk0 i) x0 x1 x3 x4 x5 x6 x7 (k0_pay1 (F := Ideal)) := by
  unfold out0_A_9
  rw [View.read_writes_eq_canon _ _ _ (cover0_A_9 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, readCov_within, canon_whole]
  rfl

set_option maxHeartbeats 1000000 in
theorem out0_A_10_eq  (hc0 : cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = DVT (blk0 i) x0 x1 x5 x6 x7 (k0_pay2 (F := Ideal)) := by
  unfold out0_A_10
  rw [View.read_writes_eq_canon _ _ _ (cover0_A_10 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, readCov_within, canon_whole]
  rfl

set_option maxHeartbeats 1000000 in
theorem out0_A_11_eq  (hc0 : cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (DGL x4 x6 x7) := by
  unfold out0_A_11
  rw [View.read_writes_eq_canon _ _ _ (cover0_A_11 _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, readCov_within]
  rfl

set_option maxHeartbeats 1000000 in
theorem out0_B_8_eq  (hc0 : ¬cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) (xo9 : Vec Ideal S1x256x64 .f32) (xo10 : Vec Ideal S1x256x64 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 xo10 = View.canon (DQL (DQT (blk0 i) x0 x1 x2 x3 x4 x5 x6 x7)) := by
  unfold out0_B_8
  rw [View.read_writes_eq_canon _ _ _ (cover0_B_8 _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, readCov_within]
  rfl

set_option maxHeartbeats 1000000 in
theorem out0_B_9_eq  (hc0 : ¬cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) (xo9 : Vec Ideal S1x256x64 .f32) (xo10 : Vec Ideal S1x256x64 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 xo10 = DKT (blk0 i) x0 x1 x3 x4 x5 x6 x7 (whf xo9) := by
  unfold out0_B_9
  rw [View.read_writes_eq_canon _ _ _ (cover0_B_9 _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, readCov_within, canon_whole]
  rfl

set_option maxHeartbeats 1000000 in
theorem out0_B_10_eq  (hc0 : ¬cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) (xo9 : Vec Ideal S1x256x64 .f32) (xo10 : Vec Ideal S1x256x64 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 xo10 = DVT (blk0 i) x0 x1 x5 x6 x7 (whf xo10) := by
  unfold out0_B_10
  rw [View.read_writes_eq_canon _ _ _ (cover0_B_10 _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, readCov_within, canon_whole]
  rfl

set_option maxHeartbeats 1000000 in
theorem out0_B_11_eq  (hc0 : ¬cond0_0 i) (x0 : Vec Ideal S512x256 .f32) (x1 : Vec Ideal S1x256x64 .bf16) (x2 : Vec Ideal S1x1x64x256 .bf16) (x3 : Vec Ideal S1x256x64 .bf16) (x4 : Vec Ideal S512x256 .f32) (x5 : Vec Ideal S1x4x512 .f32) (x6 : Vec Ideal S512x256 .f32) (x7 : Vec Ideal S1x4x512 .f32) (xo9 : Vec Ideal S1x256x64 .f32) (xo10 : Vec Ideal S1x256x64 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 xo10 = View.canon (DGL x4 x6 x7) := by
  unfold out0_B_11
  rw [View.read_writes_eq_canon _ _ _ (cover0_B_11 _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, readCov_within]
  rfl

end

end Cert.KernelIdeal.Hand
-- ==== Proof.BlkReal.lean ====
module

public import proofs.«01_k».proof.Proof.Blk

@[expose] public section

set_option maxRecDepth 16384

noncomputable section

namespace Cert.KernelIdeal.Hand

open Idealize.ShloMosaic.TcCoe Idealize.SL.Sem
open Idealize.ShloMosaic.Pipeline (Dat)
open Cert.KernelIdeal Cert.KernelIdeal.Gen Idealize.ShloMosaic

/-- Column `64 g + d` of a block of four heads. -/
def col (g : Fin 4) (d : Fin 64) : Fin 256 := ⟨64 * g.val + d.val, by omega⟩
/-- Row `512 g + t` of the four heads stacked. -/
def rr (g : Fin 4) (t : Fin 512) : Fin 2048 := ⟨512 * g.val + t.val, by omega⟩

theorem gr_rr (g : Fin 4) (t : Fin 512) : gr (rr g t) = g := Fin.ext (by show (512 * g.val + t.val) / 512 = g.val; omega)
theorem tr_rr (g : Fin 4) (t : Fin 512) : tr (rr g t) = t := Fin.ext (by show (512 * g.val + t.val) % 512 = t.val; omega)

section
variable (x : Vec Ideal S512x256 .f32) (t : Fin 512) (d : Fin 64)
theorem hd0_apply : hd0 x (ix2 t d) = x (ix2 t (col 0 d)) :=
  View.ld_unit_apply_of x _ _ _ _ _ fun a => by match a with
    | ⟨0, _⟩ => show t.val = 0 + t.val; omega
    | ⟨1, _⟩ => show 64 * 0 + d.val = 0 + d.val; omega
theorem hd1_apply : hd1 x (ix2 t d) = x (ix2 t (col 1 d)) :=
  View.ld_unit_apply_of x _ _ _ _ _ fun a => by match a with
    | ⟨0, _⟩ => show t.val = 0 + t.val; omega
    | ⟨1, _⟩ => show 64 * 1 + d.val = 64 + d.val; omega
theorem hd2_apply : hd2 x (ix2 t d) = x (ix2 t (col 2 d)) :=
  View.ld_unit_apply_of x _ _ _ _ _ fun a => by match a with
    | ⟨0, _⟩ => show t.val = 0 + t.val; omega
    | ⟨1, _⟩ => show 64 * 2 + d.val = 128 + d.val; omega
theorem hd3_apply : hd3 x (ix2 t d) = x (ix2 t (col 3 d)) :=
  View.ld_unit_apply_of x _ _ _ _ _ fun a => by match a with
    | ⟨0, _⟩ => show t.val = 0 + t.val; omega
    | ⟨1, _⟩ => show 64 * 3 + d.val = 192 + d.val; omega
end

section
variable (x : Vec Ideal S1x4x512 .f32) (t : Fin 512)
theorem rw0_apply : rw0 x (ix3 0 0 t) = x (ix3 0 0 t) :=
  View.ld_unit_apply_of x _ _ _ _ _ fun a => by match a with
    | ⟨0, _⟩ => rfl
    | ⟨1, _⟩ => rfl
    | ⟨2, _⟩ => show t.val = 0 + t.val; omega
theorem rw1_apply : rw1 x (ix3 0 0 t) = x (ix3 0 1 t) :=
  View.ld_unit_apply_of x _ _ _ _ _ fun a => by match a with
    | ⟨0, _⟩ => rfl
    | ⟨1, _⟩ => rfl
    | ⟨2, _⟩ => show t.val = 0 + t.val; omega
theorem rw2_apply : rw2 x (ix3 0 0 t) = x (ix3 0 2 t) :=
  View.ld_unit_apply_of x _ _ _ _ _ fun a => by match a with
    | ⟨0, _⟩ => rfl
    | ⟨1, _⟩ => rfl
    | ⟨2, _⟩ => show t.val = 0 + t.val; omega
theorem rw3_apply : rw3 x (ix3 0 0 t) = x (ix3 0 3 t) :=
  View.ld_unit_apply_of x _ _ _ _ _ fun a => by match a with
    | ⟨0, _⟩ => rfl
    | ⟨1, _⟩ => rfl
    | ⟨2, _⟩ => show t.val = 0 + t.val; omega
end

theorem whk_eq (x : Vec Ideal S1x256x64 .bf16) : whk x = x :=
  View.ld_unit_zero (S := S1x256x64) (funext fun a => by fin_cases a <;> rfl) inb_S1x256x64_S1x256x64_0_0_0 x
theorem whf_eq (x : Vec Ideal S1x256x64 .f32) : whf x = x :=
  View.ld_unit_zero (S := S1x256x64) (funext fun a => by fin_cases a <;> rfl) inb_S1x256x64_S1x256x64_0_0_0 x
theorem wht_eq (x : Vec Ideal S1x1x64x256 .bf16) : wht x = x :=
  View.ld_unit_zero (S := S1x1x64x256) (funext fun a => by fin_cases a <;> rfl) inb_S1x1x64x256_S1x1x64x256_0_0_0_0 x

/-! ## A block over the reals -/

/-- What a block of the kernel's inputs holds, as real numbers. -/
structure Blk where
  q : Fin 4 → Fin 512 → Fin 64 → ℝ
  k : Fin 256 → Fin 64 → ℝ
  v : Fin 256 → Fin 64 → ℝ
  o : Fin 4 → Fin 512 → Fin 64 → ℝ
  l : Fin 4 → Fin 512 → ℝ
  dy : Fin 4 → Fin 512 → Fin 64 → ℝ
  g : Fin 4 → Fin 512 → ℝ

namespace Blk
variable (B : Blk) (b : Nat)
/-- The masked score of key `i` at row `r`. -/
def sc (i : Fin 256) (r : Fin 2048) : ℝ := (∑ d, B.k i d * (B.q (gr r) (tr r) d * (1 / 8))) + bias b i (tr r)
/-- The masked probability. -/
def pr (i : Fin 256) (r : Fin 2048) : ℝ := Real.exp (B.sc b i r - B.l (gr r) (tr r)) * mkf b i (tr r)
/-- The gated output gradient. -/
def dos (r : Fin 2048) (d : Fin 64) : ℝ := B.dy (gr r) (tr r) d * sgm (B.g (gr r) (tr r))
def dp (i : Fin 256) (r : Fin 2048) : ℝ := ∑ d, B.v i d * B.dos r d
def del (r : Fin 2048) : ℝ := sgm (B.g (gr r) (tr r)) * dyo B.dy B.o (gr r) (tr r)
def ds (i : Fin 256) (r : Fin 2048) : ℝ := B.pr b i r * (B.dp i r - B.del r)
def dq (r : Fin 2048) (d : Fin 64) : ℝ := (∑ i, B.k i d * B.ds b i r) * (1 / 8)
def dk (i : Fin 256) (d : Fin 64) : ℝ := ∑ r, B.ds b i r * (B.q (gr r) (tr r) d * (1 / 8))
def dv (i : Fin 256) (d : Fin 64) : ℝ := ∑ r, B.pr b i r * B.dos r d
def dg (g : Fin 4) (t : Fin 512) : ℝ := dyo B.dy B.o g t * (sgm (B.g g t) * (1 - sgm (B.g g t)))

/-- The eight input blocks hold the block's real numbers. -/
structure Holds (x0 : Vec Ideal S512x256 .f32) (x1 : Vec Ideal S1x256x64 .bf16) (x2 : Vec Ideal S1x1x64x256 .bf16) (x3 : Vec Ideal S1x256x64 .bf16)
    (x4 : Vec Ideal S512x256 .f32) (x5 : Vec Ideal S1x4x512 .f32) (x6 : Vec Ideal S512x256 .f32) (x7 : Vec Ideal S1x4x512 .f32) : Prop where
  h0 : ∀ g t d, x0 (ix2 t (col g d)) = cE (B.q g t d)
  h1 : ∀ i d, x1 (ix3 0 i d) = cE (B.k i d)
  h2 : ∀ d i, x2 (ix4 0 0 d i) = cE (B.k i d)
  h3 : ∀ i d, x3 (ix3 0 i d) = cE (B.v i d)
  h4 : ∀ g t d, x4 (ix2 t (col g d)) = cE (B.o g t d)
  h5 : ∀ g t, x5 (ix3 0 g t) = cE (B.l g t)
  h6 : ∀ g t d, x6 (ix2 t (col g d)) = cE (B.dy g t d)
  h7 : ∀ g t, x7 (ix3 0 g t) = cE (B.g g t)
end Blk

section
variable {B : Blk} {x0 : Vec Ideal S512x256 .f32} {x1 : Vec Ideal S1x256x64 .bf16} {x2 : Vec Ideal S1x1x64x256 .bf16} {x3 : Vec Ideal S1x256x64 .bf16}
    {x4 : Vec Ideal S512x256 .f32} {x5 : Vec Ideal S1x4x512 .f32} {x6 : Vec Ideal S512x256 .f32} {x7 : Vec Ideal S1x4x512 .f32}
    (H : B.Holds x0 x1 x2 x3 x4 x5 x6 x7) (b : Nat) (hb : b < 8)
include H

theorem QS_apply (r : Fin 2048) (d : Fin 64) : QS x0 (ix2 r d) = cE (B.q (gr r) (tr r) d * (1 / 8)) :=
  pay3_apply (fun t d => (hd0_apply x0 t d).trans (H.h0 0 t d)) (fun t d => (hd1_apply x0 t d).trans (H.h0 1 t d))
    (fun t d => (hd2_apply x0 t d).trans (H.h0 2 t d)) (fun t d => (hd3_apply x0 t d).trans (H.h0 3 t d)) r d
theorem DYS_apply (r : Fin 2048) (d : Fin 64) : DYS x6 (ix2 r d) = cE (B.dy (gr r) (tr r) d) :=
  pay4_apply (fun t d => (hd0_apply x6 t d).trans (H.h6 0 t d)) (fun t d => (hd1_apply x6 t d).trans (H.h6 1 t d))
    (fun t d => (hd2_apply x6 t d).trans (H.h6 2 t d)) (fun t d => (hd3_apply x6 t d).trans (H.h6 3 t d)) r d
theorem g0 (t : Fin 512) : k0_pay5 (rw0 x7) (ix2 0 t) = cE (B.g 0 t) := (pay5_apply _ t).trans ((rw0_apply x7 t).trans (H.h7 0 t))
theorem g1 (t : Fin 512) : k0_pay6 (rw1 x7) (ix2 0 t) = cE (B.g 1 t) := (pay6_apply _ t).trans ((rw1_apply x7 t).trans (H.h7 1 t))
theorem g2 (t : Fin 512) : k0_pay7 (rw2 x7) (ix2 0 t) = cE (B.g 2 t) := (pay7_apply _ t).trans ((rw2_apply x7 t).trans (H.h7 2 t))
theorem g3 (t : Fin 512) : k0_pay8 (rw3 x7) (ix2 0 t) = cE (B.g 3 t) := (pay8_apply _ t).trans ((rw3_apply x7 t).trans (H.h7 3 t))
theorem GATE_apply (r : Fin 2048) : GATE x7 (ix2 0 r) = cE (sgm (B.g (gr r) (tr r))) := pay9_apply (g0 H) (g1 H) (g2 H) (g3 H) r
theorem DEL_apply (r : Fin 2048) : DEL x4 x6 x7 (ix2 0 r) = cE (B.del r) :=
  pay11_apply (DYS_apply H) (fun t d => (hd0_apply x4 t d).trans (H.h4 0 t d)) (fun t d => (hd1_apply x4 t d).trans (H.h4 1 t d))
    (fun t d => (hd2_apply x4 t d).trans (H.h4 2 t d)) (fun t d => (hd3_apply x4 t d).trans (H.h4 3 t d)) (g0 H) (g1 H) (g2 H) (g3 H) r
theorem DGT_apply (r : Fin 2048) : DGT x4 x6 x7 (ix2 0 r) = cE (B.dg (gr r) (tr r)) :=
  pay12_apply (DYS_apply H) (fun t d => (hd0_apply x4 t d).trans (H.h4 0 t d)) (fun t d => (hd1_apply x4 t d).trans (H.h4 1 t d))
    (fun t d => (hd2_apply x4 t d).trans (H.h4 2 t d)) (fun t d => (hd3_apply x4 t d).trans (H.h4 3 t d)) (g0 H) (g1 H) (g2 H) (g3 H) r
theorem LSE_apply (r : Fin 2048) : LSE x5 (ix2 0 r) = cE (B.l (gr r) (tr r)) :=
  pay18_apply (fun t => (rw0_apply x5 t).trans (H.h5 0 t)) (fun t => (rw1_apply x5 t).trans (H.h5 1 t))
    (fun t => (rw2_apply x5 t).trans (H.h5 2 t)) (fun t => (rw3_apply x5 t).trans (H.h5 3 t)) r
theorem DOS_apply (r : Fin 2048) (d : Fin 64) : DOS x6 x7 (ix2 r d) = cE (B.dos r d) := pay19_apply (DYS_apply H) (GATE_apply H) r d
theorem DPV_apply (i : Fin 256) (r : Fin 2048) : DPV x3 x6 x7 (ix3 0 i r) = cE (B.dp i r) := by
  unfold DPV
  rw [whk_eq]
  exact pay22_apply (DOS_apply H) H.h3 i r

include hb
theorem EXPS_apply (i : Fin 256) (r : Fin 2048) : EXPS (BitVec.ofNat 32 (512 * b)) x0 x1 x5 (ix2 i r) = cE (Real.exp (B.sc b i r - B.l (gr r) (tr r))) := by
  unfold EXPS
  rw [whk_eq]
  exact pay23_apply (LSE_apply H) (pay21_apply b hb (QS_apply H) H.h1) i r
theorem PR_apply (i : Fin 256) (r : Fin 2048) :
    k0_pay26 (EXPS (BitVec.ofNat 32 (512 * b)) x0 x1 x5) k0_pay24 cols (k0_pay25 (BitVec.ofNat 32 (512 * b))) (ix2 i r) = cE (B.pr b i r) :=
  pay26_apply b hb (EXPS_apply H b hb) i r
theorem DS_apply (i : Fin 256) (r : Fin 2048) :
    k0_pay27 (DEL x4 x6 x7) (EXPS (BitVec.ofNat 32 (512 * b)) x0 x1 x5) k0_pay24 cols (k0_pay25 (BitVec.ofNat 32 (512 * b))) (DPV x3 x6 x7) (ix2 i r) = cE (B.ds b i r) :=
  pay27_apply (PR_apply H b hb) (DEL_apply H) (DPV_apply H) i r

theorem DKT_apply {a : Vec Ideal S1x256x64 .f32} {A : Fin 256 → Fin 64 → ℝ} (ha : ∀ i d, a (ix3 0 i d) = cE (A i d)) (i : Fin 256) (d : Fin 64) :
    DKT (BitVec.ofNat 32 (512 * b)) x0 x1 x3 x4 x5 x6 x7 a (ix3 0 i d) = cE (A i d + B.dk b i d) :=
  pay29_apply (DS_apply H b hb) (QS_apply H) ha i d
theorem DVT_apply {a : Vec Ideal S1x256x64 .f32} {A : Fin 256 → Fin 64 → ℝ} (ha : ∀ i d, a (ix3 0 i d) = cE (A i d)) (i : Fin 256) (d : Fin 64) :
    DVT (BitVec.ofNat 32 (512 * b)) x0 x1 x5 x6 x7 a (ix3 0 i d) = cE (A i d + B.dv b i d) :=
  pay31_apply (DOS_apply H) (PR_apply H b hb) ha i d
theorem DQT_apply (d : Fin 64) (r : Fin 2048) :
    DQT (BitVec.ofNat 32 (512 * b)) x0 x1 x2 x3 x4 x5 x6 x7 (ix2 d r) = cE (∑ i, B.k i d * B.ds b i r) := by
  unfold DQT
  rw [wht_eq]
  exact pay28_apply (DS_apply H b hb) pay20_apply H.h2 d r
end

/-- The column of a row of the query gradient's block. -/
def ccol (c : Fin 256) : Fin 64 := ⟨c.val % 64, by omega⟩
def chead (c : Fin 256) : Fin 4 := ⟨c.val / 64, by omega⟩

theorem DQL_apply {D : Vec Ideal S64x2048 .f32} {E : Fin 64 → Fin 2048 → ℝ} (hD : ∀ d r, D (ix2 d r) = cE (E d r)) (t : Fin 512) (c : Fin 256) :
    View.canon (DQL D) (ix2 t c) = cE (E (ccol c) (rr (chead c) t) * (1 / 8)) := by
  refine View.canon_apply_of_pieces (fun y : S512x256.Idx => (cE (E (ccol (y 1)) (rr (chead (y 1)) (y 0)) * (1 / 8)) : EReal)) (DQL D) ?_ (ix2 t c) ?_
  · have key : ∀ (g : Fin 4) (w : Vec Ideal S512x64 .f32) (u : Vec Ideal S64x512 .f32) (off : Fin 2 → Nat) (inb)
        (ho : off = ![0, 64 * g.val]) (hw : ∀ t d, w (ix2 t d) = u (ix2 d t) * ((1 / 8 : ℝ) : EReal)) (hu : ∀ d t, u (ix2 d t) = D (ix2 d (rr g t))),
        ∀ x : (Rect.unit (s := S512x256) off ![512, 64] inb).shape.Idx, w x
          = (cE (E (ccol (((Rect.unit (s := S512x256) off ![512, 64] inb).emb x) 1)) (rr (chead (((Rect.unit (s := S512x256) off ![512, 64] inb).emb x) 1)) (((Rect.unit (s := S512x256) off ![512, 64] inb).emb x) 0)) * (1 / 8)) : EReal) := by
      intro g w u off inb ho hw hu x
      subst ho
      obtain ⟨t, d, rfl⟩ : ∃ (t : Fin 512) (d : Fin 64), x = ix2 t d := ⟨x 0, x 1, by funext a; match a with | ⟨0, _⟩ => rfl | ⟨1, _⟩ => rfl⟩
      have e0 : ((Rect.unit (s := S512x256) ![0, 64 * g.val] ![512, 64] inb).emb (ix2 t d)) 0 = t := Fin.ext (by show 0 + 1 * t.val = t.val; omega)
      have e1 : ((Rect.unit (s := S512x256) ![0, 64 * g.val] ![512, 64] inb).emb (ix2 t d)) 1 = col g d := Fin.ext (by show 64 * g.val + 1 * d.val = 64 * g.val + d.val; omega)
      rw [e0, e1, hw, hu, hD, ← EReal.coe_mul]
      have e2 : ccol (col g d) = d := Fin.ext (by show (64 * g.val + d.val) % 64 = d.val; omega)
      have e3 : chead (col g d) = g := Fin.ext (by show (64 * g.val + d.val) / 64 = g.val; omega)
      rw [e2, e3]
    intro p hp
    simp only [DQL, List.mem_cons, List.not_mem_nil, or_false] at hp
    have ldu : ∀ (g : Fin 4) (inb : ∀ a, (![0, 512 * g.val] : Fin 2 → Nat) a + (![64, 512] : Fin 2 → Nat) a ≤ S64x2048.size a) (d : Fin 64) (t : Fin 512),
        (View.ld D (Rect.unit ![0, 512 * g.val] ![64, 512] inb) : Vec Ideal S64x512 .f32) (ix2 d t) = D (ix2 d (rr g t)) := fun g inb d t =>
      View.ld_unit_apply_of D _ _ _ _ _ fun a => by match a with
        | ⟨0, _⟩ => show d.val = 0 + d.val; omega
        | ⟨1, _⟩ => rfl
    rcases hp with rfl | rfl | rfl | rfl
    · exact key 3 _ (View.ld D (Rect.unit ![0, 1536] ![64, 512] inb_S64x2048_S64x512_0_1536)) ![0, 192] inb_S512x256_S512x64_0_192 rfl (pay35_apply _) (ldu 3 _)
    · exact key 2 _ (View.ld D (Rect.unit ![0, 1024] ![64, 512] inb_S64x2048_S64x512_0_1024)) ![0, 128] inb_S512x256_S512x64_0_128 rfl (pay34_apply _) (ldu 2 _)
    · exact key 1 _ (View.ld D (Rect.unit ![0, 512] ![64, 512] inb_S64x2048_S64x512_0_512)) ![0, 64] inb_S512x256_S512x64_0_64 rfl (pay33_apply _) (ldu 1 _)
    · exact key 0 _ (View.ld D (Rect.unit ![0, 0] ![64, 512] inb_S64x2048_S64x512_0_0)) ![0, 0] inb_S512x256_S512x64_0_0 rfl (pay32_apply _) (ldu 0 _)
  · have mem : ∀ (g : Nat) (inb), 64 * g ≤ c.val → c.val < 64 * g + 64 → (ix2 t c : S512x256.Idx) ∈ (Rect.unit (s := S512x256) ![0, 64 * g] ![512, 64] inb).set := by
      intro g inb h1 h2
      rw [Rect.mem_set_unit]
      intro a
      match a with
      | ⟨0, _⟩ => exact ⟨Nat.zero_le _, by show t.val < 0 + 512; omega⟩
      | ⟨1, _⟩ => exact ⟨h1, h2⟩
    have hc := c.isLt
    by_cases h1 : c.val < 64
    · exact ⟨_, List.mem_cons_of_mem _ (List.mem_cons_of_mem _ (List.mem_cons_of_mem _ List.mem_cons_self)), mem 0 inb_S512x256_S512x64_0_0 (by omega) (by omega)⟩
    by_cases h2 : c.val < 128
    · exact ⟨_, List.mem_cons_of_mem _ (List.mem_cons_of_mem _ List.mem_cons_self), mem 1 inb_S512x256_S512x64_0_64 (by omega) (by omega)⟩
    by_cases h3 : c.val < 192
    · exact ⟨_, List.mem_cons_of_mem _ List.mem_cons_self, mem 2 inb_S512x256_S512x64_0_128 (by omega) (by omega)⟩
    · exact ⟨_, List.mem_cons_self, mem 3 inb_S512x256_S512x64_0_192 (by omega) (by omega)⟩

theorem DGL_apply {x4 x6 : Vec Ideal S512x256 .f32} {x7 : Vec Ideal S1x4x512 .f32} {E : Fin 2048 → ℝ} (hE : ∀ r, DGT x4 x6 x7 (ix2 0 r) = cE (E r)) (g : Fin 4) (t : Fin 512) :
    View.canon (DGL x4 x6 x7) (ix3 0 g t) = cE (E (rr g t)) := by
  refine View.canon_apply_of_pieces (fun y : S1x4x512.Idx => (cE (E (rr (y 1) (y 2))) : EReal)) (DGL x4 x6 x7) ?_ (ix3 0 g t) ?_
  · have key : ∀ (g : Fin 4) (w : Vec Ideal S1x1x512 .f32) (off : Fin 3 → Nat) (inb)
        (ho : off = ![0, g.val, 0]) (hw : ∀ t, w (ix3 0 0 t) = DGT x4 x6 x7 (ix2 0 (rr g t))),
        ∀ x : (Rect.unit (s := S1x4x512) off ![1, 1, 512] inb).shape.Idx, w x
          = (cE (E (rr (((Rect.unit (s := S1x4x512) off ![1, 1, 512] inb).emb x) 1) (((Rect.unit (s := S1x4x512) off ![1, 1, 512] inb).emb x) 2))) : EReal) := by
      intro g w off inb ho hw x
      subst ho
      obtain ⟨t, rfl⟩ : ∃ (t : Fin 512), x = (ix3 (0 : Fin 1) (0 : Fin 1) t) := ⟨x 2, by
        funext a
        match a with
        | ⟨0, h⟩ => have := (x ⟨0, h⟩).isLt; apply Fin.ext; show (x ⟨0, h⟩).val = 0; change (x ⟨0, h⟩).val < 1 at this; omega
        | ⟨1, h⟩ => have := (x ⟨1, h⟩).isLt; apply Fin.ext; show (x ⟨1, h⟩).val = 0; change (x ⟨1, h⟩).val < 1 at this; omega
        | ⟨2, _⟩ => rfl⟩
      have e1 : ((Rect.unit (s := S1x4x512) ![0, g.val, 0] ![1, 1, 512] inb).emb (ix3 0 0 t)) 1 = g := Fin.ext (by show g.val + 1 * 0 = g.val; omega)
      have e2 : ((Rect.unit (s := S1x4x512) ![0, g.val, 0] ![1, 1, 512] inb).emb (ix3 0 0 t)) 2 = t := Fin.ext (by show 0 + 1 * t.val = t.val; omega)
      rw [e1, e2]
      exact (hw t).trans (hE _)
    intro p hp
    simp only [DGL, List.mem_cons, List.not_mem_nil, or_false] at hp
    rcases hp with rfl | rfl | rfl | rfl
    · exact key 3 (k0_pay17 (DGT x4 x6 x7)) ![0, 3, 0] inb_S1x4x512_S1x1x512_0_3_0 rfl (pay17_apply (DGT x4 x6 x7))
    · exact key 2 (k0_pay16 (DGT x4 x6 x7)) ![0, 2, 0] inb_S1x4x512_S1x1x512_0_2_0 rfl (pay16_apply (DGT x4 x6 x7))
    · exact key 1 _ ![0, 1, 0] inb_S1x4x512_S1x1x512_0_1_0 rfl (pay15_apply _ _ _ _ _ _ _ _ _)
    · exact key 0 _ ![0, 0, 0] inb_S1x4x512_S1x1x512_0_0_0 rfl (pay13_apply _ _ _ _ _ _ _ _ _)
  · have mem : ∀ (n : Nat) (inb), g.val = n → (ix3 0 g t : S1x4x512.Idx) ∈ (Rect.unit (s := S1x4x512) ![0, n, 0] ![1, 1, 512] inb).set := by
      intro n inb h1
      rw [Rect.mem_set_unit]
      intro a
      match a with
      | ⟨0, _⟩ => exact ⟨Nat.zero_le _, by show 0 < 0 + 1; omega⟩
      | ⟨1, _⟩ => exact ⟨by show n ≤ g.val; omega, by show g.val < n + 1; omega⟩
      | ⟨2, _⟩ => exact ⟨Nat.zero_le _, by show t.val < 0 + 512; omega⟩
    have hc := g.isLt
    by_cases h1 : g.val = 0
    · exact ⟨_, List.mem_cons_of_mem _ (List.mem_cons_of_mem _ (List.mem_cons_of_mem _ List.mem_cons_self)), mem 0 inb_S1x4x512_S1x1x512_0_0_0 (by omega)⟩
    by_cases h2 : g.val = 1
    · exact ⟨_, List.mem_cons_of_mem _ (List.mem_cons_of_mem _ List.mem_cons_self), mem 1 inb_S1x4x512_S1x1x512_0_1_0 (by omega)⟩
    by_cases h3 : g.val = 2
    · exact ⟨_, List.mem_cons_of_mem _ List.mem_cons_self, mem 2 inb_S1x4x512_S1x1x512_0_2_0 (by omega)⟩
    · exact ⟨_, List.mem_cons_self, mem 3 inb_S1x4x512_S1x1x512_0_3_0 (by omega)⟩

end Cert.KernelIdeal.Hand
-- ==== Proof.Fold.lean ====
module

public import proofs.«01_k».proof.Proof.BlkReal

@[expose] public section

set_option maxRecDepth 16384

noncomputable section

namespace Cert.KernelIdeal.Hand

open Idealize.ShloMosaic.TcCoe Idealize.SL.Sem
open Idealize.ShloMosaic.Pipeline (Dat)
open Cert.KernelIdeal Cert.KernelIdeal.Gen Idealize.ShloMosaic

/-! ## The arrays as real numbers -/

/-- What the call's input arrays hold: by key head, query head of the group, position and channel. -/
structure Arr where
  q : Fin 4 → Fin 4 → Fin 4096 → Fin 64 → ℝ
  k : Fin 4 → Fin 256 → Fin 64 → ℝ
  v : Fin 4 → Fin 256 → Fin 64 → ℝ
  o : Fin 4 → Fin 4 → Fin 4096 → Fin 64 → ℝ
  l : Fin 4 → Fin 4 → Fin 4096 → ℝ
  dy : Fin 4 → Fin 4 → Fin 4096 → Fin 64 → ℝ
  g : Fin 4 → Fin 4 → Fin 4096 → ℝ

/-- Position `t` of block `b`. -/
def pos (b : Nat) (t : Fin 512) : Fin 4096 := ⟨(512 * b + t.val) % 4096, Nat.mod_lt _ (by decide)⟩

/-- The block of key head `h` and positions `512 b …`. -/
def Arr.blk (A : Arr) (h : Fin 4) (b : Nat) : Blk where
  q g t d := A.q h g (pos b t) d
  k i d := A.k h i d
  v i d := A.v h i d
  o g t d := A.o h g (pos b t) d
  l g t := A.l h g (pos b t)
  dy g t d := A.dy h g (pos b t) d
  g g t := A.g h g (pos b t)

/-- Column `256 h + 64 g + d` of the 1024 attention columns. -/
def acol (h g : Fin 4) (d : Fin 64) : Fin 1024 := ⟨256 * h.val + 64 * g.val + d.val, by omega⟩

variable (m : (ℓ : Loc nD τ sig) → Buf (Elt Ideal) ℓ)

/-- The arrays the region finds hold the real numbers. -/
structure Arr.Holds (A : Arr) (c : Dev nD) : Prop where
  h0 : ∀ h g s d, (V m c main_arg0 : Vec Ideal S4096x5120 .f32) (ix2 s ⟨2560 + (acol h g d).val, by have := (acol h g d).isLt; omega⟩) = cE (A.q h g s d)
  h1 : ∀ h i d, (V m c main_arg1 : Vec Ideal S4x256x64 .bf16) (ix3 h i d) = cE (A.k h i d)
  h2 : ∀ h d i, (V m c main_v51 : Vec Ideal S4x1x64x256 .bf16) (ix4 h 0 d i) = cE (A.k h i d)
  h3 : ∀ h i d, (V m c main_arg2 : Vec Ideal S4x256x64 .bf16) (ix3 h i d) = cE (A.v h i d)
  h4 : ∀ h g s d, (V m c main_v49 : Vec Ideal S4096x1024 .f32) (ix2 s (acol h g d)) = cE (A.o h g s d)
  h5 : ∀ h g s, (V m c main_v28 : Vec Ideal S4x4x4096 .f32) (ix3 h g s) = cE (A.l h g s)
  h6 : ∀ h g s d, (V m c main_arg4 : Vec Ideal S4096x2048 .f32) (ix2 s ⟨1024 + (acol h g d).val, by have := (acol h g d).isLt; omega⟩) = cE (A.dy h g s d)
  h7 : ∀ h g s, (V m c main_arg3 : Vec Ideal S4x4x4096 .f32) (ix3 h g s) = cE (A.g h g s)

/-! ## The windows' index maps, decided over the 32 points -/

theorem ix0 : ∀ t : Fin grid0.N, win0_0.index t 0 = t.val % 8 ∧ win0_0.index t 1 = 10 + t.val / 8 := by decide +kernel
theorem ix1 : ∀ t : Fin grid0.N, win0_1.index t 0 = t.val / 8 ∧ win0_1.index t 1 = 0 ∧ win0_1.index t 2 = 0 := by decide +kernel
theorem ix2' : ∀ t : Fin cfg0.N, win0_2.index t 0 = t.val / 8 ∧ win0_2.index t 1 = 0 ∧ win0_2.index t 2 = 0 ∧ win0_2.index t 3 = 0 :=
  (by decide +kernel : ∀ t : Fin grid0.N, win0_2.index t 0 = t.val / 8 ∧ win0_2.index t 1 = 0 ∧ win0_2.index t 2 = 0 ∧ win0_2.index t 3 = 0)
theorem ix3' : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem ix4' : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
theorem ix5 : ∀ t : Fin grid0.N, win0_5.index t 0 = t.val / 8 ∧ win0_5.index t 1 = 0 ∧ win0_5.index t 2 = t.val % 8 := by decide +kernel
theorem ix6 : ∀ t : Fin grid0.N, win0_6.index t 0 = t.val % 8 ∧ win0_6.index t 1 = 4 + t.val / 8 := by decide +kernel
theorem ix7 : ∀ t : Fin grid0.N, win0_7.index t 0 = t.val / 8 ∧ win0_7.index t 1 = 0 ∧ win0_7.index t 2 = t.val % 8 := by decide +kernel
theorem ix8 : ∀ t : Fin grid0.N, win0_8.index t 0 = t.val % 8 ∧ win0_8.index t 1 = t.val / 8 := by decide +kernel
theorem ix9 : ∀ t : Fin grid0.N, win0_9.index t 0 = t.val / 8 ∧ win0_9.index t 1 = 0 ∧ win0_9.index t 2 = 0 := by decide +kernel
theorem ix10 : ∀ t : Fin grid0.N, win0_10.index t 0 = t.val / 8 ∧ win0_10.index t 1 = 0 ∧ win0_10.index t 2 = 0 := by decide +kernel
theorem ix11 : ∀ t : Fin grid0.N, win0_11.index t 0 = t.val / 8 ∧ win0_11.index t 1 = 0 ∧ win0_11.index t 2 = t.val % 8 := by decide +kernel
theorem crd : ∀ t : Fin grid0.N, ((grid0.coords t) 1).val = t.val % 8 := by decide +kernel

/-- The key head of a point. -/
def hOf (t : Fin cfg0.N) : Fin 4 := ⟨t.val / 8, by have := lt_of_lt_of_eq t.isLt N_0; omega⟩
/-- The block of positions of a point. -/
def bOf (t : Fin cfg0.N) : Nat := t.val % 8

theorem bOf_lt (t : Fin cfg0.N) : bOf t < 8 := Nat.mod_lt _ (by decide)
theorem pos_val {b : Nat} (hb : b < 8) (t : Fin 512) : (pos b t).val = 512 * b + t.val := Nat.mod_eq_of_lt (by have := t.isLt; omega)

theorem blk0_eq (t : Fin cfg0.N) : blk0 (grid0.coords t) = BitVec.ofNat 32 (512 * bOf t) := by
  have hb := bOf_lt t
  have h : ((grid0.coords t) 1).val = bOf t := crd t
  show BitVec.ofNat 32 ((grid0.coords t) 1).val * 512#32 = _
  rw [h]
  apply BitVec.eq_of_toNat_eq
  simp only [BitVec.toNat_mul, BitVec.toNat_ofNat]
  omega

/-- Block 0 of a point, read out of any contents `X` of its array. -/
theorem rd0 (X : Vec Ideal S4096x5120 .f32) (t : Fin cfg0.N) (g : Fin 4) (u : Fin 512) (d : Fin 64) :
    ((cfg0.win 0).blk t).view.read (Elt Ideal) X (ix2 u (col g d)) = X (ix2 (pos (bOf t) u) ⟨2560 + (acol (hOf t) g d).val, by have := (acol (hOf t) g d).isLt; omega⟩) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_0.index t 0 * 512 + 1 * u.val = (pos (bOf t) u).val; rw [(ix0 t).1, pos_val hb]; omega
  | ⟨1, _⟩ => show win0_0.index t 1 * 256 + 1 * (64 * g.val + d.val) = 2560 + (256 * (hOf t).val + 64 * g.val + d.val); rw [(ix0 t).2]; omega

/-- Block 1 of a point, read out of any contents `X` of its array. -/
theorem rd1 (X : Vec Ideal S4x256x64 .bf16) (t : Fin cfg0.N) (i : Fin 256) (d : Fin 64) :
    ((cfg0.win 1).blk t).view.read (Elt Ideal) X (ix3 0 i d) = X (ix3 (hOf t) i d) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_1.index t 0 * 1 + 1 * 0 = (hOf t).val; rw [(ix1 t).1]; omega
  | ⟨1, _⟩ => show win0_1.index t 1 * 256 + 1 * i.val = i.val; rw [(ix1 t).2.1]; omega
  | ⟨2, _⟩ => show win0_1.index t 2 * 64 + 1 * d.val = d.val; rw [(ix1 t).2.2]; omega

/-- Block 2 of a point, read out of any contents `X` of its array. -/
theorem rd2 (X : Vec Ideal S4x1x64x256 .bf16) (t : Fin cfg0.N) (d : Fin 64) (i : Fin 256) :
    ((cfg0.win 2).blk t).view.read (Elt Ideal) X (ix4 0 0 d i) = X (ix4 (hOf t) 0 d i) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_2.index t 0 * 1 + 1 * 0 = (hOf t).val; rw [(ix2' t).1]; omega
  | ⟨1, _⟩ => show win0_2.index t 1 * 1 + 1 * 0 = 0; rw [(ix2' t).2.1]
  | ⟨2, _⟩ => show win0_2.index t 2 * 64 + 1 * d.val = d.val; rw [(ix2' t).2.2.1]; omega
  | ⟨3, _⟩ => show win0_2.index t 3 * 256 + 1 * i.val = i.val; rw [(ix2' t).2.2.2]; omega

/-- Block 3 of a point, read out of any contents `X` of its array. -/
theorem rd3 (X : Vec Ideal S4x256x64 .bf16) (t : Fin cfg0.N) (i : Fin 256) (d : Fin 64) :
    ((cfg0.win 3).blk t).view.read (Elt Ideal) X (ix3 0 i d) = X (ix3 (hOf t) i d) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_3.index t 0 * 1 + 1 * 0 = (hOf t).val; rw [(ix3' t).1]; omega
  | ⟨1, _⟩ => show win0_3.index t 1 * 256 + 1 * i.val = i.val; rw [(ix3' t).2.1]; omega
  | ⟨2, _⟩ => show win0_3.index t 2 * 64 + 1 * d.val = d.val; rw [(ix3' t).2.2]; omega

/-- Block 4 of a point, read out of any contents `X` of its array. -/
theorem rd4 (X : Vec Ideal S4096x1024 .f32) (t : Fin cfg0.N) (g : Fin 4) (u : Fin 512) (d : Fin 64) :
    ((cfg0.win 4).blk t).view.read (Elt Ideal) X (ix2 u (col g d)) = X (ix2 (pos (bOf t) u) (acol (hOf t) g d)) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_4.index t 0 * 512 + 1 * u.val = (pos (bOf t) u).val; rw [(ix4' t).1, pos_val hb]; omega
  | ⟨1, _⟩ => show win0_4.index t 1 * 256 + 1 * (64 * g.val + d.val) = 256 * (hOf t).val + 64 * g.val + d.val; rw [(ix4' t).2]; omega

/-- Block 5 of a point, read out of any contents `X` of its array. -/
theorem rd5 (X : Vec Ideal S4x4x4096 .f32) (t : Fin cfg0.N) (g : Fin 4) (u : Fin 512) :
    ((cfg0.win 5).blk t).view.read (Elt Ideal) X (ix3 0 g u) = X (ix3 (hOf t) g (pos (bOf t) u)) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_5.index t 0 * 1 + 1 * 0 = (hOf t).val; rw [(ix5 t).1]; omega
  | ⟨1, _⟩ => show win0_5.index t 1 * 4 + 1 * g.val = g.val; rw [(ix5 t).2.1]; omega
  | ⟨2, _⟩ => show win0_5.index t 2 * 512 + 1 * u.val = (pos (bOf t) u).val; rw [(ix5 t).2.2, pos_val hb]; omega

/-- Block 6 of a point, read out of any contents `X` of its array. -/
theorem rd6 (X : Vec Ideal S4096x2048 .f32) (t : Fin cfg0.N) (g : Fin 4) (u : Fin 512) (d : Fin 64) :
    ((cfg0.win 6).blk t).view.read (Elt Ideal) X (ix2 u (col g d)) = X (ix2 (pos (bOf t) u) ⟨1024 + (acol (hOf t) g d).val, by have := (acol (hOf t) g d).isLt; omega⟩) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_6.index t 0 * 512 + 1 * u.val = (pos (bOf t) u).val; rw [(ix6 t).1, pos_val hb]; omega
  | ⟨1, _⟩ => show win0_6.index t 1 * 256 + 1 * (64 * g.val + d.val) = 1024 + (256 * (hOf t).val + 64 * g.val + d.val); rw [(ix6 t).2]; omega

/-- Block 7 of a point, read out of any contents `X` of its array. -/
theorem rd7 (X : Vec Ideal S4x4x4096 .f32) (t : Fin cfg0.N) (g : Fin 4) (u : Fin 512) :
    ((cfg0.win 7).blk t).view.read (Elt Ideal) X (ix3 0 g u) = X (ix3 (hOf t) g (pos (bOf t) u)) := by
  have hb := bOf_lt t
  have hbt : bOf t = t.val % 8 := rfl
  have hht : (hOf t).val = t.val / 8 := rfl
  rw [View.read_apply]
  refine congrArg X ?_
  funext a
  apply Fin.ext
  match a with
  | ⟨0, _⟩ => show win0_7.index t 0 * 1 + 1 * 0 = (hOf t).val; rw [(ix7 t).1]; omega
  | ⟨1, _⟩ => show win0_7.index t 1 * 4 + 1 * g.val = g.val; rw [(ix7 t).2.1]; omega
  | ⟨2, _⟩ => show win0_7.index t 2 * 512 + 1 * u.val = (pos (bOf t) u).val; rw [(ix7 t).2.2, pos_val hb]; omega

/-- The eight blocks a point is given hold its block of the arrays. -/
theorem holds_blk {A : Arr} {c : Dev nD} (H : A.Holds m c) (t : Fin cfg0.N) :
    (A.blk (hOf t) (bOf t)).Holds (iblk m c 0 t) (iblk m c 1 t) (iblk m c 2 t) (iblk m c 3 t) (iblk m c 4 t) (iblk m c 5 t) (iblk m c 6 t) (iblk m c 7 t) where
  h0 g u d := (rd0 (V m c main_arg0) t g u d).trans (H.h0 (hOf t) g (pos (bOf t) u) d)
  h1 i d := (rd1 (V m c main_arg1) t i d).trans (H.h1 (hOf t) i d)
  h2 d i := (rd2 (V m c main_v51) t d i).trans (H.h2 (hOf t) d i)
  h3 i d := (rd3 (V m c main_arg2) t i d).trans (H.h3 (hOf t) i d)
  h4 g u d := (rd4 (V m c main_v49) t g u d).trans (H.h4 (hOf t) g (pos (bOf t) u) d)
  h5 g u := (rd5 (V m c main_v28) t g u).trans (H.h5 (hOf t) g (pos (bOf t) u))
  h6 g u d := (rd6 (V m c main_arg4) t g u d).trans (H.h6 (hOf t) g (pos (bOf t) u) d)
  h7 g u := (rd7 (V m c main_arg3) t g u).trans (H.h7 (hOf t) g (pos (bOf t) u))

/-! ## What the output buffers hold after a point -/

theorem fst_of {α β γ δ : Type} {x : α × β × γ × δ} {a b c d} (h : x = (a, b, c, d)) : x.1 = a := by rw [h]
theorem last_of {α β γ δ : Type} {x : α × β × γ × δ} {a b c d} (h : x = (a, b, c, d)) : x.2.2.2 = d := by rw [h]

variable {m} {A : Arr} {c : Dev nD} (H : A.Holds m c)
include H

/-- The query gradient's block and the gate gradient's block, at every point. -/
theorem outs_dq_dg (t : Fin cfg0.N) :
    (∀ u cc, (outsAt0 m c t.val t.isLt).1 (ix2 u cc) = cE ((A.blk (hOf t) (bOf t)).dq (bOf t) (rr (chead cc) u) (ccol cc)))
    ∧ (∀ g u, (outsAt0 m c t.val t.isLt).2.2.2 (ix3 0 g u) = cE ((A.blk (hOf t) (bOf t)).dg g u)) := by
  have hH := holds_blk m H t
  have hb := bOf_lt t
  have e1 : ∀ u cc, View.canon (DQL (DQT (blk0 (grid0.coords t)) (iblk m c 0 t) (iblk m c 1 t) (iblk m c 2 t) (iblk m c 3 t) (iblk m c 4 t) (iblk m c 5 t) (iblk m c 6 t) (iblk m c 7 t))) (ix2 u cc)
      = cE ((A.blk (hOf t) (bOf t)).dq (bOf t) (rr (chead cc) u) (ccol cc)) := by
    intro u cc
    rw [blk0_eq]
    exact DQL_apply (DQT_apply hH _ hb) u cc
  have e2 : ∀ g u, View.canon (DGL (iblk m c 4 t) (iblk m c 6 t) (iblk m c 7 t)) (ix3 0 g u) = cE ((A.blk (hOf t) (bOf t)).dg g u) := by
    intro g u
    refine (DGL_apply (DGT_apply hH) g u).trans ?_
    rw [gr_rr, tr_rr]
  by_cases h0 : t.val % 8 = 0
  · have e := outsAt0_A m c t h0
    rw [out0_A_8_eq, out0_A_11_eq] at e
    exact ⟨fun u cc => (congrFun (fst_of e) _).trans (e1 u cc), fun g u => (congrFun (last_of e) _).trans (e2 g u)⟩
  · have e := outsAt0_B m c t h0
    rw [out0_B_8_eq, out0_B_11_eq] at e
    exact ⟨fun u cc => (congrFun (fst_of e) _).trans (e1 u cc), fun g u => (congrFun (last_of e) _).trans (e2 g u)⟩

/-- The key and value gradients' blocks: the sum over the blocks of positions visited so far. -/
theorem outs_dk_dv : ∀ (n : ℕ) (hn : n < cfg0.N),
    (∀ i d, (outsAt0 m c n hn).2.1 (ix3 0 i d) = cE (∑ b ∈ Finset.range (n % 8 + 1), (A.blk (hOf ⟨n, hn⟩) b).dk b i d))
    ∧ (∀ i d, (outsAt0 m c n hn).2.2.1 (ix3 0 i d) = cE (∑ b ∈ Finset.range (n % 8 + 1), (A.blk (hOf ⟨n, hn⟩) b).dv b i d)) := by
  intro n
  induction n with
  | zero =>
    intro hn
    have hH := holds_blk m H ⟨0, hn⟩
    have e := outsAt0_A m c ⟨0, hn⟩ rfl
    rw [out0_A_9_eq, out0_A_10_eq, blk0_eq] at e
    rw [show outsAt0 m c 0 hn = _ from e]
    constructor
    · intro i d
      refine (DKT_apply hH 0 (by decide) pay1_apply i d).trans ?_
      simp only [Nat.zero_mod, zero_add, Finset.sum_range_one]
      rfl
    · intro i d
      refine (DVT_apply hH 0 (by decide) pay2_apply i d).trans ?_
      simp only [Nat.zero_mod, zero_add, Finset.sum_range_one]
      rfl
  | succ n ih =>
    intro hn
    have hH := holds_blk m H ⟨n + 1, hn⟩
    have hb := bOf_lt ⟨n + 1, hn⟩
    by_cases h0 : (n + 1) % 8 = 0
    · have e := outsAt0_A m c ⟨n + 1, hn⟩ h0
      rw [out0_A_9_eq, out0_A_10_eq, blk0_eq] at e
      rw [show outsAt0 m c (n + 1) hn = _ from e]
      have hb0 : bOf ⟨n + 1, hn⟩ = 0 := h0
      constructor
      · intro i d
        refine (DKT_apply hH _ hb pay1_apply i d).trans ?_
        simp only [hb0, h0, zero_add, Finset.sum_range_one]
      · intro i d
        refine (DVT_apply hH _ hb pay2_apply i d).trans ?_
        simp only [hb0, h0, zero_add, Finset.sum_range_one]
    · have e := outsAt0_B m c ⟨n + 1, hn⟩ h0
      rw [out0_B_9_eq, out0_B_10_eq, blk0_eq] at e
      rw [show outsAt0 m c (n + 1) hn = _ from e]
      have ih' := ih (Nat.lt_of_succ_lt hn)
      have hb1 : bOf ⟨n + 1, hn⟩ = n % 8 + 1 := by show (n + 1) % 8 = _; omega
      have hh : hOf ⟨n, Nat.lt_of_succ_lt hn⟩ = hOf ⟨n + 1, hn⟩ := Fin.ext (by show n / 8 = (n + 1) / 8; omega)
      have hr : (n + 1) % 8 = n % 8 + 1 := by omega
      rw [hh] at ih'
      constructor
      · intro i d
        refine (DKT_apply hH _ hb (a := whf (outsAt0 m c n (Nat.lt_of_succ_lt hn)).2.1) (fun i d => by rw [whf_eq]; exact ih'.1 i d) i d).trans ?_
        rw [hr, Finset.sum_range_succ _ (n % 8 + 1), hb1]
      · intro i d
        refine (DVT_apply hH _ hb (a := whf (outsAt0 m c n (Nat.lt_of_succ_lt hn)).2.2.1) (fun i d => by rw [whf_eq]; exact ih'.2 i d) i d).trans ?_
        rw [hr, Finset.sum_range_succ _ (n % 8 + 1), hb1]

/-! ## The arrays after the run -/

omit H in
theorem t_lt' (t : Fin cfg0.N) : t.val < 32 := lt_of_lt_of_eq t.isLt N_0

/-- The query gradient by position and column. -/
def Arr.dqArr (A : Arr) (s : Fin 4096) (c : Fin 1024) : ℝ :=
  (A.blk ⟨c.val / 256, by omega⟩ (s.val / 512)).dq (s.val / 512) (rr ⟨c.val % 256 / 64, by omega⟩ ⟨s.val % 512, by omega⟩) ⟨c.val % 64, by omega⟩
def Arr.dgArr (A : Arr) (h g : Fin 4) (s : Fin 4096) : ℝ := (A.blk h (s.val / 512)).dg g ⟨s.val % 512, by omega⟩
def Arr.dkArr (A : Arr) (h : Fin 4) (i : Fin 256) (d : Fin 64) : ℝ := ∑ b ∈ Finset.range 8, (A.blk h b).dk b i d
def Arr.dvArr (A : Arr) (h : Fin 4) (i : Fin 256) (d : Fin 64) : ℝ := ∑ b ∈ Finset.range 8, (A.blk h b).dv b i d

theorem final_dq : (dats m 0 c).arrAt 8 cfg0.N = (fun y : S4096x1024.Idx => (cE (A.dqArr (y 0) (y 1)) : EReal)) := by
  refine (dats m 0 c).arrAt_eq_of_cover 8 _ ?_ ?_
  · intro t _
    rw [Value.flushed8]
    funext y
    obtain ⟨u, cc, rfl⟩ : ∃ (u : Fin 512) (cc : Fin 256), y = (ix2 u cc : S512x256.Idx) := ⟨y 0, y 1, by funext a; match a with | ⟨0, _⟩ => rfl | ⟨1, _⟩ => rfl⟩
    rw [View.read_apply]
    refine ((outs_dq_dg H t).1 u cc).trans ?_
    have ht := t_lt' t
    have hu := u.isLt
    have hcc := cc.isLt
    have hi := ix8 t
    have e0 : ((((cfg0.win 8).blk t).view.emb (ix2 u cc : S512x256.Idx) : S4096x1024.Idx) 0).val = 512 * (t.val % 8) + u.val := by
      show win0_8.index t 0 * 512 + 1 * u.val = _; rw [hi.1]; omega
    have e1 : ((((cfg0.win 8).blk t).view.emb (ix2 u cc : S512x256.Idx) : S4096x1024.Idx) 1).val = 256 * (t.val / 8) + cc.val := by
      show win0_8.index t 1 * 256 + 1 * cc.val = _; rw [hi.2]; omega
    show cE _ = cE (A.dqArr ((((cfg0.win 8).blk t).view.emb (ix2 u cc : S512x256.Idx) : S4096x1024.Idx) 0) ((((cfg0.win 8).blk t).view.emb (ix2 u cc : S512x256.Idx) : S4096x1024.Idx) 1))
    generalize ((((cfg0.win 8).blk t).view.emb (ix2 u cc : S512x256.Idx) : S4096x1024.Idx) 0) = s at e0 ⊢
    generalize ((((cfg0.win 8).blk t).view.emb (ix2 u cc : S512x256.Idx) : S4096x1024.Idx) 1) = z at e1 ⊢
    unfold Arr.dqArr
    have a0 : (⟨z.val / 256, by omega⟩ : Fin 4) = hOf t := Fin.ext (by show z.val / 256 = t.val / 8; omega)
    have a1 : s.val / 512 = bOf t := by show _ = t.val % 8; omega
    have a2 : (⟨z.val % 256 / 64, by omega⟩ : Fin 4) = chead cc := Fin.ext (by show z.val % 256 / 64 = cc.val / 64; omega)
    have a3 : (⟨s.val % 512, by omega⟩ : Fin 512) = u := Fin.ext (by show s.val % 512 = u.val; omega)
    have a4 : (⟨z.val % 64, by omega⟩ : Fin 64) = ccol cc := Fin.ext (by show z.val % 64 = cc.val % 64; omega)
    rw [a0, a1, a2, a3, a4]
  · intro i
    have h0 : (i 0).val < 4096 := (i 0).isLt
    have h1 : (i 1).val < 1024 := (i 1).isLt
    refine ⟨⟨8 * ((i 1).val / 256) + (i 0).val / 512, lt_of_lt_of_eq (by omega : _ < 32) N_0.symm⟩, flush0_8 _, ?_⟩
    generalize ht : (⟨8 * ((i 1).val / 256) + (i 0).val / 512, _⟩ : Fin cfg0.N) = t
    have htv : t.val = 8 * ((i 1).val / 256) + (i 0).val / 512 := by rw [← ht]
    have hi := ix8 t
    show i ∈ ((View.whole main_v52_0).slice (win0_8.rect t)).set
    rw [View.set_slice_whole, Rect.mem_set_unit]
    intro a
    match a with
    | ⟨0, _⟩ => show win0_8.index t 0 * 512 ≤ (i 0).val ∧ (i 0).val < win0_8.index t 0 * 512 + 512; rw [hi.1]; omega
    | ⟨1, _⟩ => show win0_8.index t 1 * 256 ≤ (i 1).val ∧ (i 1).val < win0_8.index t 1 * 256 + 256; rw [hi.2]; omega

theorem final_dg : (dats m 0 c).arrAt 11 cfg0.N = (fun y : S4x4x4096.Idx => (cE (A.dgArr (y 0) (y 1) (y 2)) : EReal)) := by
  refine (dats m 0 c).arrAt_eq_of_cover 11 _ ?_ ?_
  · intro t _
    rw [Value.flushed11]
    funext y
    obtain ⟨g, u, rfl⟩ : ∃ (g : Fin 4) (u : Fin 512), y = (ix3 0 g u : S1x4x512.Idx) := ⟨y 1, y 2, by
      funext a
      match a with
      | ⟨0, h⟩ => have := (y ⟨0, h⟩).isLt; apply Fin.ext; show (y ⟨0, h⟩).val = 0; change (y ⟨0, h⟩).val < 1 at this; omega
      | ⟨1, _⟩ => rfl
      | ⟨2, _⟩ => rfl⟩
    rw [View.read_apply]
    refine ((outs_dq_dg H t).2 g u).trans ?_
    have ht := t_lt' t
    have hu := u.isLt
    have hi := ix11 t
    have e0 : ((((cfg0.win 11).blk t).view.emb (ix3 0 g u : S1x4x512.Idx) : S4x4x4096.Idx) 0).val = t.val / 8 := by
      show win0_11.index t 0 * 1 + 1 * 0 = _; rw [hi.1]; omega
    have e1 : ((((cfg0.win 11).blk t).view.emb (ix3 0 g u : S1x4x512.Idx) : S4x4x4096.Idx) 1).val = g.val := by
      show win0_11.index t 1 * 4 + 1 * g.val = _; rw [hi.2.1]; omega
    have e2 : ((((cfg0.win 11).blk t).view.emb (ix3 0 g u : S1x4x512.Idx) : S4x4x4096.Idx) 2).val = 512 * (t.val % 8) + u.val := by
      show win0_11.index t 2 * 512 + 1 * u.val = _; rw [hi.2.2]; omega
    show cE _ = cE (A.dgArr ((((cfg0.win 11).blk t).view.emb (ix3 0 g u : S1x4x512.Idx) : S4x4x4096.Idx) 0) ((((cfg0.win 11).blk t).view.emb (ix3 0 g u : S1x4x512.Idx) : S4x4x4096.Idx) 1) ((((cfg0.win 11).blk t).view.emb (ix3 0 g u : S1x4x512.Idx) : S4x4x4096.Idx) 2))
    generalize ((((cfg0.win 11).blk t).view.emb (ix3 0 g u : S1x4x512.Idx) : S4x4x4096.Idx) 0) = z at e0 ⊢
    generalize ((((cfg0.win 11).blk t).view.emb (ix3 0 g u : S1x4x512.Idx) : S4x4x4096.Idx) 1) = g' at e1 ⊢
    generalize ((((cfg0.win 11).blk t).view.emb (ix3 0 g u : S1x4x512.Idx) : S4x4x4096.Idx) 2) = s at e2 ⊢
    unfold Arr.dgArr
    have a0 : z = hOf t := Fin.ext e0
    have a1 : s.val / 512 = bOf t := by show _ = t.val % 8; omega
    have a2 : g' = g := Fin.ext e1
    have a3 : (⟨s.val % 512, by omega⟩ : Fin 512) = u := Fin.ext (by show s.val % 512 = u.val; omega)
    rw [a0, a1, a2, a3]
  · intro i
    have h0 : (i 0).val < 4 := (i 0).isLt
    have h1 : (i 1).val < 4 := (i 1).isLt
    have h2 : (i 2).val < 4096 := (i 2).isLt
    refine ⟨⟨8 * (i 0).val + (i 2).val / 512, lt_of_lt_of_eq (by omega : _ < 32) N_0.symm⟩, flush0_11 _, ?_⟩
    generalize ht : (⟨8 * (i 0).val + (i 2).val / 512, _⟩ : Fin cfg0.N) = t
    have htv : t.val = 8 * (i 0).val + (i 2).val / 512 := by rw [← ht]
    have hi := ix11 t
    show i ∈ ((View.whole main_v52_3).slice (win0_11.rect t)).set
    rw [View.set_slice_whole, Rect.mem_set_unit]
    intro a
    match a with
    | ⟨0, _⟩ => show win0_11.index t 0 * 1 ≤ (i 0).val ∧ (i 0).val < win0_11.index t 0 * 1 + 1; rw [hi.1]; omega
    | ⟨1, _⟩ => show win0_11.index t 1 * 4 ≤ (i 1).val ∧ (i 1).val < win0_11.index t 1 * 4 + 4; rw [hi.2.1]; omega
    | ⟨2, _⟩ => show win0_11.index t 2 * 512 ≤ (i 2).val ∧ (i 2).val < win0_11.index t 2 * 512 + 512; rw [hi.2.2]; omega

theorem final_dk : (dats m 0 c).arrAt 9 cfg0.N = (fun y : S4x256x64.Idx => (cE (A.dkArr (y 0) (y 1) (y 2)) : EReal)) := by
  refine (dats m 0 c).arrAt_eq_of_cover 9 _ ?_ ?_
  · intro t hf
    have h7 := (flush0_9 t).mp hf
    rw [Value.flushed9]
    funext y
    obtain ⟨j, d, rfl⟩ : ∃ (j : Fin 256) (d : Fin 64), y = (ix3 0 j d : S1x256x64.Idx) := ⟨y 1, y 2, by
      funext a
      match a with
      | ⟨0, h⟩ => have := (y ⟨0, h⟩).isLt; apply Fin.ext; show (y ⟨0, h⟩).val = 0; change (y ⟨0, h⟩).val < 1 at this; omega
      | ⟨1, _⟩ => rfl
      | ⟨2, _⟩ => rfl⟩
    rw [View.read_apply]
    refine ((outs_dk_dv H t.val t.isLt).1 j d).trans ?_
    have hi := ix9 t
    have e0 : ((((cfg0.win 9).blk t).view.emb (ix3 0 j d : S1x256x64.Idx) : S4x256x64.Idx) 0) = hOf t := by
      apply Fin.ext
      show win0_9.index t 0 * 1 + 1 * 0 = t.val / 8; rw [hi.1]; omega
    have e1 : ((((cfg0.win 9).blk t).view.emb (ix3 0 j d : S1x256x64.Idx) : S4x256x64.Idx) 1) = j := by
      apply Fin.ext
      show win0_9.index t 1 * 256 + 1 * j.val = j.val; rw [hi.2.1]; omega
    have e2 : ((((cfg0.win 9).blk t).view.emb (ix3 0 j d : S1x256x64.Idx) : S4x256x64.Idx) 2) = d := by
      apply Fin.ext
      show win0_9.index t 2 * 64 + 1 * d.val = d.val; rw [hi.2.2]; omega
    show cE _ = cE (A.dkArr ((((cfg0.win 9).blk t).view.emb (ix3 0 j d : S1x256x64.Idx) : S4x256x64.Idx) 0) ((((cfg0.win 9).blk t).view.emb (ix3 0 j d : S1x256x64.Idx) : S4x256x64.Idx) 1) ((((cfg0.win 9).blk t).view.emb (ix3 0 j d : S1x256x64.Idx) : S4x256x64.Idx) 2))
    rw [e0, e1, e2, h7]
    rfl
  · intro i
    have h0 : (i 0).val < 4 := (i 0).isLt
    have h1 : (i 1).val < 256 := (i 1).isLt
    have h2 : (i 2).val < 64 := (i 2).isLt
    refine ⟨⟨8 * (i 0).val + 7, lt_of_lt_of_eq (by omega : _ < 32) N_0.symm⟩, (flush0_9 _).mpr (by show (8 * (i 0).val + 7) % 8 = 7; omega), ?_⟩
    generalize ht : (⟨8 * (i 0).val + 7, _⟩ : Fin cfg0.N) = t
    have htv : t.val = 8 * (i 0).val + 7 := by rw [← ht]
    have hi := ix9 t
    show i ∈ ((View.whole main_v52_1).slice (win0_9.rect t)).set
    rw [View.set_slice_whole, Rect.mem_set_unit]
    intro a
    match a with
    | ⟨0, _⟩ => show win0_9.index t 0 * 1 ≤ (i 0).val ∧ (i 0).val < win0_9.index t 0 * 1 + 1; rw [hi.1]; omega
    | ⟨1, _⟩ => show win0_9.index t 1 * 256 ≤ (i 1).val ∧ (i 1).val < win0_9.index t 1 * 256 + 256; rw [hi.2.1]; omega
    | ⟨2, _⟩ => show win0_9.index t 2 * 64 ≤ (i 2).val ∧ (i 2).val < win0_9.index t 2 * 64 + 64; rw [hi.2.2]; omega

theorem final_dv : (dats m 0 c).arrAt 10 cfg0.N = (fun y : S4x256x64.Idx => (cE (A.dvArr (y 0) (y 1) (y 2)) : EReal)) := by
  refine (dats m 0 c).arrAt_eq_of_cover 10 _ ?_ ?_
  · intro t hf
    have h7 := (flush0_10 t).mp hf
    rw [Value.flushed10]
    funext y
    obtain ⟨j, d, rfl⟩ : ∃ (j : Fin 256) (d : Fin 64), y = (ix3 0 j d : S1x256x64.Idx) := ⟨y 1, y 2, by
      funext a
      match a with
      | ⟨0, h⟩ => have := (y ⟨0, h⟩).isLt; apply Fin.ext; show (y ⟨0, h⟩).val = 0; change (y ⟨0, h⟩).val < 1 at this; omega
      | ⟨1, _⟩ => rfl
      | ⟨2, _⟩ => rfl⟩
    rw [View.read_apply]
    refine ((outs_dk_dv H t.val t.isLt).2 j d).trans ?_
    have hi := ix10 t
    have e0 : ((((cfg0.win 10).blk t).view.emb (ix3 0 j d : S1x256x64.Idx) : S4x256x64.Idx) 0) = hOf t := by
      apply Fin.ext
      show win0_10.index t 0 * 1 + 1 * 0 = t.val / 8; rw [hi.1]; omega
    have e1 : ((((cfg0.win 10).blk t).view.emb (ix3 0 j d : S1x256x64.Idx) : S4x256x64.Idx) 1) = j := by
      apply Fin.ext
      show win0_10.index t 1 * 256 + 1 * j.val = j.val; rw [hi.2.1]; omega
    have e2 : ((((cfg0.win 10).blk t).view.emb (ix3 0 j d : S1x256x64.Idx) : S4x256x64.Idx) 2) = d := by
      apply Fin.ext
      show win0_10.index t 2 * 64 + 1 * d.val = d.val; rw [hi.2.2]; omega
    show cE _ = cE (A.dvArr ((((cfg0.win 10).blk t).view.emb (ix3 0 j d : S1x256x64.Idx) : S4x256x64.Idx) 0) ((((cfg0.win 10).blk t).view.emb (ix3 0 j d : S1x256x64.Idx) : S4x256x64.Idx) 1) ((((cfg0.win 10).blk t).view.emb (ix3 0 j d : S1x256x64.Idx) : S4x256x64.Idx) 2))
    rw [e0, e1, e2, h7]
    rfl
  · intro i
    have h0 : (i 0).val < 4 := (i 0).isLt
    have h1 : (i 1).val < 256 := (i 1).isLt
    have h2 : (i 2).val < 64 := (i 2).isLt
    refine ⟨⟨8 * (i 0).val + 7, lt_of_lt_of_eq (by omega : _ < 32) N_0.symm⟩, (flush0_10 _).mpr (by show (8 * (i 0).val + 7) % 8 = 7; omega), ?_⟩
    generalize ht : (⟨8 * (i 0).val + 7, _⟩ : Fin cfg0.N) = t
    have htv : t.val = 8 * (i 0).val + 7 := by rw [← ht]
    have hi := ix10 t
    show i ∈ ((View.whole main_v52_2).slice (win0_10.rect t)).set
    rw [View.set_slice_whole, Rect.mem_set_unit]
    intro a
    match a with
    | ⟨0, _⟩ => show win0_10.index t 0 * 1 ≤ (i 0).val ∧ (i 0).val < win0_10.index t 0 * 1 + 1; rw [hi.1]; omega
    | ⟨1, _⟩ => show win0_10.index t 1 * 256 ≤ (i 1).val ∧ (i 1).val < win0_10.index t 1 * 256 + 256; rw [hi.2.1]; omega
    | ⟨2, _⟩ => show win0_10.index t 2 * 64 ≤ (i 2).val ∧ (i 2).val < win0_10.index t 2 * 64 + 64; rw [hi.2.2]; omega

end Cert.KernelIdeal.Hand
-- ==== Proof.Spec.lean ====
module

public import proofs.«01_k».proof.Proof.Fold

@[expose] public section

set_option maxRecDepth 16384

noncomputable section

namespace Cert.KernelIdeal.Hand

/-! ## The gradient over the reals -/

/-- The inputs as real numbers: query, key, value, gradient of the mixed output, gate before the sigmoid. -/
structure Inp where
  q : Fin 4 → Fin 4 → Fin 4096 → Fin 64 → ℝ
  k : Fin 4 → Fin 256 → Fin 64 → ℝ
  v : Fin 4 → Fin 256 → Fin 64 → ℝ
  dy : Fin 4 → Fin 4 → Fin 4096 → Fin 64 → ℝ
  g : Fin 4 → Fin 4 → Fin 4096 → ℝ

namespace Inp

/-- Compressed block `i` has ended at position `s`. -/
abbrev seen (i : Fin 256) (s : Fin 4096) : Prop := 16 * i.val + 31 ≤ s.val

variable (I : Inp)

def S (h g : Fin 4) (s : Fin 4096) (i : Fin 256) : ℝ := if seen i s then (∑ d, I.k h i d * I.q h g s d) * (1 / 8) else neg
def Z (h g : Fin 4) (s : Fin 4096) : ℝ := ∑ i, Real.exp (I.S h g s i)
def P (h g : Fin 4) (s : Fin 4096) (i : Fin 256) : ℝ := if seen i s then Real.exp (I.S h g s i) / I.Z h g s else 0
def O (h g : Fin 4) (s : Fin 4096) (d : Fin 64) : ℝ := ∑ i, I.v h i d * I.P h g s i
def dO (h g : Fin 4) (s : Fin 4096) (d : Fin 64) : ℝ := I.dy h g s d * sgm (I.g h g s)
def dP (h g : Fin 4) (s : Fin 4096) (i : Fin 256) : ℝ := ∑ d, I.v h i d * I.dO h g s d
def dS (h g : Fin 4) (s : Fin 4096) (i : Fin 256) : ℝ := I.P h g s i * (I.dP h g s i - ∑ j, I.P h g s j * I.dP h g s j)
def dq (h g : Fin 4) (s : Fin 4096) (d : Fin 64) : ℝ := (∑ i, I.k h i d * I.dS h g s i) * (1 / 8)
def dk (h : Fin 4) (i : Fin 256) (d : Fin 64) : ℝ := ∑ g, ∑ s, I.dS h g s i * (I.q h g s d * (1 / 8))
def dv (h : Fin 4) (i : Fin 256) (d : Fin 64) : ℝ := ∑ g, ∑ s, I.P h g s i * I.dO h g s d
def dg (h g : Fin 4) (s : Fin 4096) : ℝ := (∑ d, I.dy h g s d * I.O h g s d) * (sgm (I.g h g s) * (1 - sgm (I.g h g s)))

theorem Z_pos (h g : Fin 4) (s : Fin 4096) : 0 < I.Z h g s :=
  Finset.sum_pos (fun i _ => Real.exp_pos _) ⟨0, Finset.mem_univ _⟩

/-- The softmax does not see a shift of its row. -/
theorem P_shift (M : ℝ) (h g : Fin 4) (s : Fin 4096) (i : Fin 256) :
    Real.exp (I.S h g s i - M) / ∑ j, Real.exp (I.S h g s j - M) = Real.exp (I.S h g s i) / I.Z h g s := by
  have hZ := I.Z_pos h g s
  have e : ∑ j, Real.exp (I.S h g s j - M) = I.Z h g s * Real.exp (-M) := by
    unfold Z
    rw [Finset.sum_mul]
    refine Finset.sum_congr rfl fun j _ => ?_
    rw [← Real.exp_add, sub_eq_add_neg]
  rw [e, sub_eq_add_neg, Real.exp_add]
  have := Real.exp_pos (-M)
  field_simp

/-- The arrays of the call: the inputs, the attention output, and `L` as the logarithm of the row sums. -/
def arr (L : Fin 4 → Fin 4 → Fin 4096 → ℝ) : Arr where
  q := I.q
  k := I.k
  v := I.v
  o := I.O
  l := L
  dy := I.dy
  g := I.g

variable {L : Fin 4 → Fin 4 → Fin 4096 → ℝ} (hL : ∀ h g s, Real.exp (L h g s) = I.Z h g s)
include hL

theorem blk_pr (h : Fin 4) (b : Nat) (hb : b < 8) (i : Fin 256) (r : Fin 2048) :
    ((I.arr L).blk h b).pr b i r = I.P h (gr r) (pos b (tr r)) i := by
  have hv : vis b i (tr r) ↔ seen i (pos b (tr r)) := by
    unfold vis seen
    rw [pos_val hb]
  unfold Blk.pr mkf P
  by_cases hs : seen i (pos b (tr r))
  · rw [if_pos (hv.mpr hs), if_pos hs, mul_one, Real.exp_sub]
    have e : ((I.arr L).blk h b).sc b i r = I.S h (gr r) (pos b (tr r)) i := by
      unfold Blk.sc bias S
      rw [if_pos (hv.mpr hs), if_pos hs, add_zero, Finset.sum_mul]
      refine Finset.sum_congr rfl fun d _ => ?_
      show I.k h i d * (I.q h (gr r) (pos b (tr r)) d * (1 / 8)) = _
      ring
    rw [e]
    show _ / Real.exp (L h (gr r) (pos b (tr r))) = _
    rw [hL]
  · rw [if_neg (fun h => hs (hv.mp h)), if_neg hs, mul_zero]

omit hL in
theorem del_eq (h g : Fin 4) (s : Fin 4096) :
    sgm (I.g h g s) * ∑ d, I.dy h g s d * I.O h g s d = ∑ j, I.P h g s j * I.dP h g s j := by
  unfold O dP dO
  simp only [Finset.mul_sum]
  rw [Finset.sum_comm]
  refine Finset.sum_congr rfl fun j _ => Finset.sum_congr rfl fun d _ => ?_
  ring

theorem blk_ds (h : Fin 4) (b : Nat) (hb : b < 8) (i : Fin 256) (r : Fin 2048) :
    ((I.arr L).blk h b).ds b i r = I.dS h (gr r) (pos b (tr r)) i := by
  unfold Blk.ds dS
  rw [I.blk_pr hL h b hb, ← I.del_eq]
  rfl

omit hL in
theorem sum_rows (F : Fin 4 → Fin 512 → ℝ) : ∑ r : Fin 2048, F (gr r) (tr r) = ∑ g, ∑ t, F g t := by
  rw [← Fintype.sum_prod_type' (f := F)]
  refine Finset.sum_bij' (fun r _ => (gr r, tr r)) (fun p _ => rr p.1 p.2) (fun _ _ => Finset.mem_univ _) (fun _ _ => Finset.mem_univ _) ?_ ?_ (fun _ _ => rfl)
  · intro r _
    exact Fin.ext (by show 512 * (r.val / 512) + r.val % 512 = r.val; omega)
  · intro p _
    exact Prod.ext (gr_rr _ _) (tr_rr _ _)

omit hL in
theorem sum_blocks (F : Fin 4096 → ℝ) : ∑ b ∈ Finset.range 8, ∑ t : Fin 512, F (pos b t) = ∑ s, F s := by
  rw [Finset.sum_range (fun b => ∑ t : Fin 512, F (pos b t)), ← Fintype.sum_prod_type' (f := fun (b : Fin 8) (t : Fin 512) => F (pos b.val t))]
  refine Finset.sum_bij' (fun p _ => pos p.1.val p.2) (fun s _ => ((⟨s.val / 512, by omega⟩ : Fin 8), (⟨s.val % 512, by omega⟩ : Fin 512)))
    (fun _ _ => Finset.mem_univ _) (fun _ _ => Finset.mem_univ _) ?_ ?_ (fun _ _ => rfl)
  · intro p _
    have hp := pos_val p.1.isLt p.2
    have h2 := p.2.isLt
    exact Prod.ext (Fin.ext (by show (pos p.1.val p.2).val / 512 = p.1.val; rw [hp]; omega)) (Fin.ext (by show (pos p.1.val p.2).val % 512 = p.2.val; rw [hp]; omega))
  · intro s _
    have hs := s.isLt
    exact Fin.ext (by show (pos (s.val / 512) ⟨s.val % 512, by omega⟩).val = s.val; rw [pos_val (by omega)]; show 512 * (s.val / 512) + s.val % 512 = s.val; omega)

omit hL in
theorem sum_all (F : Fin 4 → Fin 4096 → ℝ) : ∑ b ∈ Finset.range 8, ∑ r : Fin 2048, F (gr r) (pos b (tr r)) = ∑ g, ∑ s, F g s := by
  calc ∑ b ∈ Finset.range 8, ∑ r : Fin 2048, F (gr r) (pos b (tr r))
      = ∑ b ∈ Finset.range 8, ∑ g, ∑ t, F g (pos b t) := Finset.sum_congr rfl fun b _ => sum_rows (fun g t => F g (pos b t))
    _ = ∑ g, ∑ b ∈ Finset.range 8, ∑ t, F g (pos b t) := Finset.sum_comm
    _ = ∑ g, ∑ s, F g s := Finset.sum_congr rfl fun g _ => sum_blocks (F g)

theorem arr_dk (h : Fin 4) (i : Fin 256) (d : Fin 64) : (I.arr L).dkArr h i d = I.dk h i d := by
  unfold Arr.dkArr dk
  rw [← sum_all]
  refine Finset.sum_congr rfl fun b hb => Finset.sum_congr rfl fun r _ => ?_
  rw [I.blk_ds hL h b (Finset.mem_range.mp hb)]
  rfl

theorem arr_dv (h : Fin 4) (i : Fin 256) (d : Fin 64) : (I.arr L).dvArr h i d = I.dv h i d := by
  unfold Arr.dvArr dv
  rw [← sum_all]
  refine Finset.sum_congr rfl fun b hb => Finset.sum_congr rfl fun r _ => ?_
  rw [I.blk_pr hL h b (Finset.mem_range.mp hb)]
  rfl

omit hL in
theorem pos_eq (s : Fin 4096) : pos (s.val / 512) ⟨s.val % 512, by omega⟩ = s := by
  have hs := s.isLt
  exact Fin.ext (by rw [pos_val (by omega)]; show 512 * (s.val / 512) + s.val % 512 = s.val; omega)

omit hL in
theorem arr_dg (h g : Fin 4) (s : Fin 4096) : (I.arr L).dgArr h g s = I.dg h g s := by
  unfold Arr.dgArr Blk.dg dg dyo
  show (∑ d, I.dy h g (pos (s.val / 512) ⟨s.val % 512, _⟩) d * I.O h g (pos (s.val / 512) ⟨s.val % 512, _⟩) d) * (sgm (I.g h g (pos (s.val / 512) ⟨s.val % 512, _⟩)) * (1 - sgm (I.g h g (pos (s.val / 512) ⟨s.val % 512, _⟩)))) = _
  rw [pos_eq]

theorem arr_dq (h g : Fin 4) (s : Fin 4096) (d : Fin 64) : (I.arr L).dqArr s (acol h g d) = I.dq h g s d := by
  have hs := s.isLt
  have hg := g.isLt
  have hd := d.isLt
  have e0 : (⟨(acol h g d).val / 256, by omega⟩ : Fin 4) = h := Fin.ext (by show (256 * h.val + 64 * g.val + d.val) / 256 = h.val; omega)
  have e1 : (⟨(acol h g d).val % 256 / 64, by omega⟩ : Fin 4) = g := Fin.ext (by show (256 * h.val + 64 * g.val + d.val) % 256 / 64 = g.val; omega)
  have e2 : (⟨(acol h g d).val % 64, by omega⟩ : Fin 64) = d := Fin.ext (by show (256 * h.val + 64 * g.val + d.val) % 64 = d.val; omega)
  unfold Arr.dqArr Blk.dq dq
  rw [e0, e1, e2]
  congr 1
  refine Finset.sum_congr rfl fun i _ => ?_
  rw [I.blk_ds hL h (s.val / 512) (by omega), gr_rr, tr_rr, pos_eq]
  rfl

end Inp
end Cert.KernelIdeal.Hand
-- ==== Proof.Lem.lean ====
module

public import proofs.«01_k».proof.Proof.Spec
public import Idealize.ShloMosaic.Lib.Pointwise

@[expose] public section

set_option maxRecDepth 16384

noncomputable section

namespace Cert.KernelIdeal.Hand

open Idealize.ShloMosaic.TcCoe Idealize.SL.Sem
open Cert.KernelIdeal Cert.KernelIdeal.Gen Idealize.ShloMosaic

/-! ## Ideal operations on real numbers -/

theorem lit_ninf : Ideal.ofBits .f32 0xFF800000#32 = (⊥ : EReal) := by
  simp [Ideal.ofBits, Ideal.ieee]

theorem div_real (a b : ℝ) (hb : b ≠ 0) : Ideal.div (cE a) (cE b) = cE (a / b) := by
  show Ideal.div (a : EReal) (b : EReal) = _
  rw [Ideal.div_coe hb, ← EReal.coe_mul]
  congr 1
  ring

theorem exp_real (a : ℝ) : Ideal.exp (cE a) = cE (Real.exp a) := rfl

theorem log_real (a : ℝ) (ha : 0 < a) : Ideal.log (cE a) = cE (Real.log a) := by
  show (if a ≤ 0 then (⊥ : EReal) else (Real.log a : EReal)) = _
  rw [if_neg (not_le.mpr ha)]

theorem neg_real (a : ℝ) : -(cE a) = cE (-a) := rfl

theorem max_real (a b : ℝ) : max (cE a) (cE b) = cE (max a b) := (EReal.coe_strictMono.monotone.map_max).symm

/-- The maximum of a row of reals, from the bottom, is a real. -/
theorem fold_max_real (f : Fin 256 → ℝ) : ∃ M : ℝ, Finset.fold max (⊥ : EReal) (fun i => cE (f i)) Finset.univ = cE M := by
  have key : ∀ s : Finset (Fin 256), (s = ∅ ∨ ∃ M : ℝ, Finset.fold max (⊥ : EReal) (fun i => cE (f i)) s = cE M) := by
    intro s
    induction s using Finset.induction_on with
    | empty => exact Or.inl rfl
    | insert a s ha ih =>
      refine Or.inr ?_
      rw [Finset.fold_insert ha]
      rcases ih with rfl | ⟨M, hM⟩
      · exact ⟨f a, by rw [Finset.fold_empty]; exact max_bot_right _⟩
      · exact ⟨max (f a) M, by rw [hM, max_real]⟩
  rcases key Finset.univ with h | h
  · exact absurd (Finset.mem_univ (0 : Fin 256)) (by rw [h]; exact Finset.notMem_empty _)
  · exact h

/-- The row maxima of a real array are real. -/
theorem rowmax (X : FVec Ideal S4x4x4096x256 .f32) (u : FVec Ideal S_ .f32) (hu : ∀ i, u i = (⊥ : EReal)) (f : Fin 4 → Fin 4 → Fin 4096 → Fin 256 → ℝ)
    (hX : ∀ h g s i, X (ix4 h g s i) = cE (f h g s i)) :
    ∃ M : Fin 4 → Fin 4 → Fin 4096 → ℝ, ∀ h g s, Host.reduce FloatOps.maximumf X u reducesTo_S4x4x4096x256_S4x4x4096_d3 h_S_ (ix3 h g s) = cE (M h g s) := by
  have : ∀ h g s, ∃ M : ℝ, Host.reduce FloatOps.maximumf X u reducesTo_S4x4x4096x256_S4x4x4096_d3 h_S_ (ix3 h g s) = cE M := by
    intro h g s
    obtain ⟨M, hM⟩ := fold_max_real (f h g s)
    refine ⟨M, ?_⟩
    pointwise
    simp only [hX, hu]
    exact hM
  choose M hM using this
  exact ⟨M, hM⟩

/-! ## The mask over all positions -/

theorem seen_bit (i : Fin 256) (s : Fin 4096) (x y : BitVec 32) (hx : x = BitVec.ofNat 32 (16 * i.val + 31)) (hy : y = BitVec.ofNat 32 s.val) :
    IntOp.cmpi CmpIPredicate.sle x y = if Inp.seen i s then 1#1 else 0#1 := by
  have hi := i.isLt
  have hs := s.isLt
  subst hx hy
  have e3 : ∀ n : Nat, n < 2^31 → (BitVec.ofNat 32 n).toInt = (n : Int) := by
    intro n hn
    rw [BitVec.toInt_ofNat', ]
    simp only [Int.bmod_def]
    omega
  simp only [IntOp.cmpi, BitVec.sle, e3 (16 * i.val + 31) (by omega), e3 s.val (by omega)]
  unfold Inp.seen
  split_ifs with h
  · simp only [Nat.cast_le.mpr h, decide_true]; rfl
  · have : ¬ ((16 * i.val + 31 : Nat) : Int) ≤ ((s.val : Nat) : Int) := by omega
    simp only [this, decide_false]; rfl

theorem blk_end (i : Fin 256) : IntOp.addi (IntOp.muli (BitVec.ofNat 32 i.val) 16#32) 31#32 = BitVec.ofNat 32 (16 * i.val + 31) := by
  have hi := i.isLt
  apply BitVec.eq_of_toNat_eq
  simp only [IntOp.addi, IntOp.muli, BitVec.toNat_add, BitVec.toNat_mul, BitVec.toNat_ofNat]
  omega

theorem seen_float (i : Fin 256) (s : Fin 4096) :
    (FloatOps.uitofp FTy.f32 (if Inp.seen i s then 1#1 else 0#1) : Ideal .f32) = cE (if Inp.seen i s then 1 else 0) := by
  split_ifs
  · show (((1 : ℕ) : ℝ) : EReal) = _; norm_num
  · show (((0 : ℕ) : ℝ) : EReal) = _; norm_num

theorem select_seen {α : Type} (i : Fin 256) (s : Fin 4096) (a b : α) :
    Scalar.select (if Inp.seen i s then 1#1 else 0#1) a b = if Inp.seen i s then a else b := by
  split_ifs <;> rfl

end Cert.KernelIdeal.Hand
-- ==== Proof.Pre.lean ====
module

public import proofs.«01_k».proof.Defs
public import proofs.«01_k».proof.Proof.Gen.Pre_finite
public import proofs.«01_k».proof.Proof.Spec
public import proofs.«01_k».proof.Proof.Lem
public import Idealize.ShloMosaic.Lib.ReduceAll
public import Idealize.ShloMosaic.Lib.KernelVsHost
public import Idealize.ShloMosaic.Lib.Pointwise

@[expose] public section

set_option maxRecDepth 16384

noncomputable section

namespace Cert.Pre_finite.Hand

open Idealize.ShloMosaic Cert.Pre_finite
open Cert.KernelIdeal.Hand (cE acol Inp)

/-- A value whose absolute value is less than positive infinity is a real number. -/
theorem real_of_lt (x : Ideal .f32)
    (h : FloatOps.cmpf (F := Ideal) .olt (FloatOps.hostAbsf x) (FloatOps.ofBits (F := Ideal) .f32 0x7F800000#32) = 1#1) :
    ∃ r : ℝ, x = cE r := by
  rw [← Ideal.xori_weird_eq_hostAbsf_olt_inf] at h
  have h2 : ¬ ((x : EReal) = ⊤ ∨ (x : EReal) = ⊥) := by
    intro hx
    have e : FloatOps.weird (F := Ideal) x = 1#1 := by
      show BitVec.ofBool (decide ((x : EReal) = ⊤ ∨ (x : EReal) = ⊥)) = 1#1
      rw [decide_eq_true hx]; rfl
    rw [e] at h
    exact absurd h (by decide)
  push Not at h2
  exact ⟨(x : EReal).toReal, (EReal.coe_toReal h2.1 h2.2).symm⟩

instance : Subsingleton S_.Idx := ⟨fun _ _ => funext fun k => k.elim0⟩

/-- The conjunction over an array of "less than infinity" says that each element is a real number. -/
theorem all_real {s : Shape} {dims : List (Fin s.rank)} (x : FVec Ideal s .f32) (hb : S_.BroadcastsInDim s (![] : Fin 0 → Fin s.rank))
    (hr : s.ReducesTo dims S_) (hs : 0 < S_.numel) (j : S_.Idx)
    (h : Host.reduce IntOp.andi (cmpf .olt (Host.absf x) (broadcastInDim s ![] hb (constant (F := Ideal) S_ .f32 0x7F800000#32)))
      (constantI S_ 1 1#1) hr hs j = 1#1) (i : s.Idx) : ∃ r : ℝ, x i = cE r :=
  real_of_lt (x i) (Host.reduce_andi_all _ _ _ _ j h i)

variable (x0 : FVec Ideal S4096x5120 .f32) (x1 x2 : FVec Ideal S4x256x64 .bf16) (x3 : FVec Ideal S4x4x4096 .f32) (x4 : FVec Ideal S4096x2048 .f32)

/-- The five arrays the computation reads hold the real inputs. -/
structure Reals (I : Inp) : Prop where
  h0 : ∀ h g s d, x0 (ix2 s ⟨2560 + (acol h g d).val, by have := (acol h g d).isLt; omega⟩) = cE (I.q h g s d)
  h1 : ∀ h i d, x1 (ix3 h i d) = cE (I.k h i d)
  h2 : ∀ h i d, x2 (ix3 h i d) = cE (I.v h i d)
  h3 : ∀ h g s, x3 (ix3 h g s) = cE (I.g h g s)
  h4 : ∀ h g s d, x4 (ix2 s ⟨1024 + (acol h g d).val, by have := (acol h g d).isLt; omega⟩) = cE (I.dy h g s d)

theorem reals_of_fn (H : fn (F := Ideal) x0 x1 x2 x3 x4 = fun _ => 1#1) : ∃ I : Inp, Reals x0 x1 x2 x3 x4 I := by
  have H0 := congrFun H ix0
  unfold fn fn_part1 at H0
  change IntOp.andi (IntOp.andi (IntOp.andi (IntOp.andi _ _) _) _) _ = 1#1 at H0
  obtain ⟨H1, r4⟩ := IntOp.andi_eq_one.1 H0
  obtain ⟨H2, r3⟩ := IntOp.andi_eq_one.1 H1
  obtain ⟨H3, r2⟩ := IntOp.andi_eq_one.1 H2
  obtain ⟨r0, r1⟩ := IntOp.andi_eq_one.1 H3
  have q0 : ∀ h g s d, ∃ r : ℝ, x0 (ix2 s ⟨2560 + (acol h g d).val, by have := (acol h g d).isLt; omega⟩) = cE r := by
    intro h g s d
    obtain ⟨r, e⟩ := all_real _ _ _ _ _ r0 (ix2 s (acol h g d))
    refine ⟨r, Eq.trans ?_ e⟩
    pointwise
  have q4 : ∀ h g s d, ∃ r : ℝ, x4 (ix2 s ⟨1024 + (acol h g d).val, by have := (acol h g d).isLt; omega⟩) = cE r := by
    intro h g s d
    obtain ⟨r, e⟩ := all_real _ _ _ _ _ r4 (ix2 s (acol h g d))
    refine ⟨r, Eq.trans ?_ e⟩
    pointwise
  have q1 : ∀ h i d, ∃ r : ℝ, x1 (ix3 h i d) = cE r := by
    intro h i d
    obtain ⟨r, e⟩ := all_real _ _ _ _ _ r1 (ix3 h i d)
    exact ⟨r, e⟩
  have q2 : ∀ h i d, ∃ r : ℝ, x2 (ix3 h i d) = cE r := by
    intro h i d
    obtain ⟨r, e⟩ := all_real _ _ _ _ _ r2 (ix3 h i d)
    exact ⟨r, e⟩
  have q3 : ∀ h g s, ∃ r : ℝ, x3 (ix3 h g s) = cE r := by
    intro h g s
    obtain ⟨r, e⟩ := all_real _ _ _ _ _ r3 (ix3 h g s)
    exact ⟨r, e⟩
  choose q hq using q0
  choose k hk using q1
  choose v hv using q2
  choose g hg using q3
  choose dy hdy using q4
  exact ⟨⟨q, k, v, dy, g⟩, ⟨hq, hk, hv, hg, hdy⟩⟩

end Cert.Pre_finite.Hand
-- ==== Proof.HostVals.lean ====
module

public import proofs.«01_k».proof.Proof.Lem

@[expose] public section

set_option maxRecDepth 16384

noncomputable section

namespace Cert.KernelIdeal.Hand

open Idealize.ShloMosaic.TcCoe Idealize.SL.Sem
open Cert.KernelIdeal Cert.KernelIdeal.Gen Idealize.ShloMosaic

variable (m : (ℓ : Loc nD τ sig) → Buf (Elt Ideal) ℓ) (c : Dev nD)

/-! ## The saved values, as the host computes them -/

variable (a0 : (⟨S4096x5120, .f32⟩ : BufTy).Contents (Elt Ideal)) (a1 a2 : (⟨S4x256x64, .bf16⟩ : BufTy).Contents (Elt Ideal))

def kmask : IVec S4096x256 1 :=
  cmpi CmpIPredicate.sle
    (broadcastInDim S4096x256 ![0, 1] bcast_S1x256_S4096x256_0_1
      (broadcastInDim S1x256 ![1] bcast_S256_S1x256_1
        (addi (muli (iotaInDim S256 32 0) (broadcastInDim S256 ![] bcast_S_S256 (constantI S_ 32 16#32)))
          (broadcastInDim S256 ![] bcast_S_S256 (constantI S_ 32 31#32)))))
    (broadcastInDim S4096x256 ![0, 1] bcast_S4096x1_S4096x256_0_1
      (broadcastInDim S4096x1 ![0] bcast_S4096_S4096x1_0 (iotaInDim S4096 32 0)))
def kdot : FVec Ideal S4x4x4096x256 .f32 :=
  mulf
    (transpose S4x4x4096x256 [0, 3, 2, 1]
      (Host.dotGeneral dot_S4x256x64_S4096x4x4x64_S4x256x4096x4_2_3_1_02_0_1 none
        (extf FTy.f32 a1 bitsLt_bf16_f32)
        (shapeCast (α := Ideal .f32) S4096x4x4x64 (extractStridedSlice (α := Ideal .f32) S4096x1024 ![0, 2560] a0 slices_S4096x5120_S4096x1024_0_2560)
          shapeCasts_S4096x1024_S4096x4x4x64))
      transposes_S4x256x4096x4_S4x4x4096x256_0_3_2_1)
    (broadcastInDim S4x4x4096x256 ![] bcast_S_S4x4x4096x256 (constant (F := Ideal) S_ FTy.f32 0x3E000000#32))
def kS : FVec Ideal S4x4x4096x256 .f32 :=
  select (broadcastInDim S4x4x4096x256 ![2, 3] bcast_S4096x256_S4x4x4096x256_2_3 kmask) (kdot a0 a1)
    (broadcastInDim S4x4x4096x256 ![] bcast_S_S4x4x4096x256 (constant (F := Ideal) S_ FTy.f32 0xF149F2CA#32))
def kninf : FVec Ideal S_ .f32 := constant (F := Ideal) S_ FTy.f32 0xFF800000#32
def kM : FVec Ideal S4x4x4096 .f32 :=
  Host.reduce FloatOps.maximumf (kS a0 a1) kninf reducesTo_S4x4x4096x256_S4x4x4096_d3 h_S_
def kMb : FVec Ideal S4x4x4096x1 .f32 := broadcastInDim S4x4x4096x1 ![0, 1, 2] bcast_S4x4x4096_S4x4x4096x1_0_1_2 (kM a0 a1)
def kE : FVec Ideal S4x4x4096x256 .f32 :=
  Host.exp (subf (kS a0 a1) (broadcastInDim S4x4x4096x256 ![0, 1, 2, 3] bcast_S4x4x4096x1_S4x4x4096x256_0_1_2_3 (kMb a0 a1)))
def kZ : FVec Ideal S4x4x4096x1 .f32 :=
  broadcastInDim S4x4x4096x1 ![0, 1, 2] bcast_S4x4x4096_S4x4x4096x1_0_1_2
    (Host.reduceAdd (kE a0 a1) (constant (F := Ideal) S_ FTy.f32 0x00000000#32) reducesTo_S4x4x4096x256_S4x4x4096_d3 h_S_)
def klse : FVec Ideal S4x4x4096 .f32 :=
  shapeCast S4x4x4096 (addf (kMb a0 a1) (Host.log (kZ a0 a1))) shapeCasts_S4x4x4096x1_S4x4x4096
def kP : FVec Ideal S4x4x4096x256 .f32 :=
  mulf (Host.divf (kE a0 a1) (broadcastInDim S4x4x4096x256 ![0, 1, 2, 3] bcast_S4x4x4096x1_S4x4x4096x256_0_1_2_3 (kZ a0 a1)))
    (broadcastInDim S4x4x4096x256 ![0, 1, 2, 3] bcast_S1x1x4096x256_S4x4x4096x256_0_1_2_3
      (broadcastInDim S1x1x4096x256 ![2, 3] bcast_S4096x256_S1x1x4096x256_2_3 (uitofp FTy.f32 kmask)))
def ko : FVec Ideal S4096x1024 .f32 :=
  shapeCast S4096x1024
    (transpose S4096x4x4x64 [3, 0, 2, 1]
      (Host.dotGeneral dot_S4x256x64_S4x4x4096x256_S4x64x4x4096_1_3_2_12_0_0 none (extf FTy.f32 a2 bitsLt_bf16_f32) (kP a0 a1))
      transposes_S4x64x4x4096_S4096x4x4x64_3_0_2_1)
    shapeCasts_S4096x4x4x64_S4096x1024
def kkt : FVec Ideal S4x1x64x256 .bf16 :=
  transpose S4x1x64x256 [0, 1, 3, 2] (shapeCast S4x1x256x64 a1 shapeCasts_S4x256x64_S4x1x256x64) transposes_S4x1x256x64_S4x1x64x256_0_1_3_2

theorem V_v51 : V m c main_v51 = kkt (m ((c : Thread nD τ).loc main_arg1)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
theorem V_v28 : V m c main_v28 = klse (m ((c : Thread nD τ).loc main_arg0)) (m ((c : Thread nD τ).loc main_arg1)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
theorem V_v49 : V m c main_v49 = ko (m ((c : Thread nD τ).loc main_arg0)) (m ((c : Thread nD τ).loc main_arg1)) (m ((c : Thread nD τ).loc main_arg2)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl

/-! ## Their real values -/

theorem kmask_apply (s : Fin 4096) (i : Fin 256) : kmask (ix2 s i) = if Inp.seen i s then 1#1 else 0#1 := by
  pointwise [kmask]
  exact seen_bit i s _ _ (blk_end i) rfl

/-- The arguments hold the real inputs (those that the saved values are computed from). -/
structure In3 (I : Inp) : Prop where
  h0 : ∀ h g s d, a0 (ix2 s ⟨2560 + (acol h g d).val, by have := (acol h g d).isLt; omega⟩) = cE (I.q h g s d)
  h1 : ∀ h i d, a1 (ix3 h i d) = cE (I.k h i d)
  h2 : ∀ h i d, a2 (ix3 h i d) = cE (I.v h i d)

variable {a0 a1 a2} {I : Inp} (H : In3 a0 a1 a2 I)
include H

theorem kS_apply (h g : Fin 4) (s : Fin 4096) (i : Fin 256) : kS a0 a1 (ix4 h g s i) = cE (I.S h g s i) := by
  have hq : ∀ d, a0 (ix2 s ⟨2560 + (h.val * 256 + g.val * 64 + d.val), by have := h.isLt; have := g.isLt; have := d.isLt; omega⟩) = cE (I.q h g s d) := by
    intro d
    refine Eq.trans ?_ (H.h0 h g s d)
    congr 2
    apply Fin.ext
    show 2560 + (h.val * 256 + g.val * 64 + d.val) = 2560 + (256 * h.val + 64 * g.val + d.val)
    omega
  have e7 : kdot a0 a1 (ix4 h g s i) = cE ((∑ d, I.k h i d * I.q h g s d) * (1 / 8)) := by
    pointwise [kdot]
    simp only [H.h1, hq, lit_eighth, ← EReal.coe_mul, cE_sum]
  pointwise [kS]
  rw [kmask_apply, select_seen, e7, lit_neg]
  unfold Inp.S
  split_ifs <;> rfl

theorem exM : ∃ M : Fin 4 → Fin 4 → Fin 4096 → ℝ, ∀ h g s, kM a0 a1 (ix3 h g s) = cE (M h g s) := by
  unfold kM
  exact rowmax (kS a0 a1) kninf (fun _ => lit_ninf) I.S (kS_apply H)

section
variable {M : Fin 4 → Fin 4 → Fin 4096 → ℝ} (hM : ∀ h g s, kM a0 a1 (ix3 h g s) = cE (M h g s))
include hM

theorem kE_apply (h g : Fin 4) (s : Fin 4096) (i : Fin 256) : kE a0 a1 (ix4 h g s i) = cE (Real.exp (I.S h g s i - M h g s)) := by
  pointwise [kE, kMb]
  rw [kS_apply H, hM, ← EReal.coe_sub]
  exact exp_real _
theorem kZ_apply (h g : Fin 4) (s : Fin 4096) : kZ a0 a1 (ix4 h g s 0) = cE (∑ i, Real.exp (I.S h g s i - M h g s)) := by
  pointwise [kZ]
  simp only [kE_apply H hM, cE_sum]
omit H hM in
theorem Zm_pos (I : Inp) (M : Fin 4 → Fin 4 → Fin 4096 → ℝ) (h g : Fin 4) (s : Fin 4096) : 0 < ∑ i, Real.exp (I.S h g s i - M h g s) :=
  Finset.sum_pos (fun i _ => Real.exp_pos _) ⟨0, Finset.mem_univ _⟩
omit H hM in
theorem lse_read (x y : FVec Ideal S4x4x4096x1 .f32) (h g : Fin 4) (s : Fin 4096) :
    shapeCast S4x4x4096 (addf x (Host.log y)) shapeCasts_S4x4x4096x1_S4x4x4096 (ix3 h g s) = x (ix4 h g s 0) + Ideal.log (y (ix4 h g s 0)) := by
  pointwise
omit H hM in
theorem bcast_read (x : FVec Ideal S4x4x4096 .f32) (h g : Fin 4) (s : Fin 4096) :
    broadcastInDim S4x4x4096x1 ![0, 1, 2] bcast_S4x4x4096_S4x4x4096x1_0_1_2 x (ix4 h g s 0) = x (ix3 h g s) := by
  pointwise
omit H hM in
theorem kMb_read (h g : Fin 4) (s : Fin 4096) : kMb a0 a1 (ix4 h g s 0) = kM a0 a1 (ix3 h g s) := by
  unfold kMb
  exact bcast_read _ h g s
theorem klse_apply (h g : Fin 4) (s : Fin 4096) : klse a0 a1 (ix3 h g s) = cE (M h g s + Real.log (∑ i, Real.exp (I.S h g s i - M h g s))) := by
  unfold klse
  rw [lse_read, kMb_read, hM, kZ_apply H hM, log_real _ (Zm_pos I M h g s), ← EReal.coe_add]
omit H hM in
theorem exp_lse (I : Inp) (M : Fin 4 → Fin 4 → Fin 4096 → ℝ) (h g : Fin 4) (s : Fin 4096) :
    Real.exp (M h g s + Real.log (∑ i, Real.exp (I.S h g s i - M h g s))) = I.Z h g s := by
  rw [Real.exp_add, Real.exp_log (Zm_pos I M h g s), Finset.mul_sum]
  unfold Inp.Z
  refine Finset.sum_congr rfl fun i _ => ?_
  rw [← Real.exp_add]
  congr 1
  ring
theorem kP_apply (h g : Fin 4) (s : Fin 4096) (i : Fin 256) : kP a0 a1 (ix4 h g s i) = cE (I.P h g s i) := by
  pointwise [kP]
  rw [kmask_apply, seen_float, kE_apply H hM, kZ_apply H hM, div_real _ _ (Zm_pos I M h g s).ne', ← EReal.coe_mul, I.P_shift]
  unfold Inp.P
  split_ifs
  · rw [mul_one]
  · rw [mul_zero]
theorem ko_apply (h g : Fin 4) (s : Fin 4096) (d : Fin 64) : ko a0 a1 a2 (ix2 s (acol h g d)) = cE (I.O h g s d) := by
  have hh := h.isLt
  have hg := g.isLt
  have hd := d.isLt
  have e0 : ∀ p, (⟨(acol h g d).val / 256, p⟩ : Fin 4) = h := fun p => Fin.ext (by show (256 * h.val + 64 * g.val + d.val) / 256 = h.val; omega)
  have e1 : ∀ p, (⟨(acol h g d).val / 64 % 4, p⟩ : Fin 4) = g := fun p => Fin.ext (by show (256 * h.val + 64 * g.val + d.val) / 64 % 4 = g.val; omega)
  have e2 : ∀ p, (⟨(acol h g d).val % 64, p⟩ : Fin 64) = d := fun p => Fin.ext (by show (256 * h.val + 64 * g.val + d.val) % 64 = d.val; omega)
  pointwise [ko]
  simp only [e0, e1, e2, H.h2, kP_apply H hM, ← EReal.coe_mul, cE_sum]
  rfl
omit hM in
theorem kkt_apply (h : Fin 4) (d : Fin 64) (i : Fin 256) : kkt a1 (ix4 h 0 d i) = cE (I.k h i d) := by
  refine Eq.trans ?_ (H.h1 h i d)
  pointwise [kkt]
end

end Cert.KernelIdeal.Hand
-- ==== Proof.RefValue.lean ====
module

public import proofs.«01_k».proof.Proof.Lem
public import proofs.«01_k».proof.Proof.Gen.ReferenceIdeal.Read
public import Idealize.ShloMosaic.Lib.Pointwise

@[expose] public section

set_option maxRecDepth 16384

noncomputable section

namespace Cert.ReferenceIdeal.Hand

open Idealize.ShloMosaic.TcCoe Idealize.SL.Sem
open Cert.ReferenceIdeal Cert.ReferenceIdeal.Gen Cert.ReferenceIdeal.Read Idealize.ShloMosaic
open Cert.KernelIdeal.Hand (cE cE_sum lit_eighth lit_one lit_zero lit_neg neg sgm sgm_eq acol Inp lit_ninf div_real exp_real neg_real max_real rowmax seen_bit blk_end seen_float select_seen)

variable (x0 : (⟨S4096x5120, .f32⟩ : BufTy).Contents (Elt Ideal)) (x1 x2 : (⟨S4x256x64, .bf16⟩ : BufTy).Contents (Elt Ideal))
  (x3 : (⟨S4x4x4096, .f32⟩ : BufTy).Contents (Elt Ideal)) (x4 : (⟨S4096x2048, .f32⟩ : BufTy).Contents (Elt Ideal))

/-- The reference's arguments hold the real inputs. -/
structure Holds (I : Inp) : Prop where
  h0 : ∀ h g s d, x0 (ix2 s ⟨2560 + (acol h g d).val, by have := (acol h g d).isLt; omega⟩) = cE (I.q h g s d)
  h1 : ∀ h i d, x1 (ix3 h i d) = cE (I.k h i d)
  h2 : ∀ h i d, x2 (ix3 h i d) = cE (I.v h i d)
  h3 : ∀ h g s, x3 (ix3 h g s) = cE (I.g h g s)
  h4 : ∀ h g s d, x4 (ix2 s ⟨1024 + (acol h g d).val, by have := (acol h g d).isLt; omega⟩) = cE (I.dy h g s d)

theorem v18 (s : Fin 4096) (i : Fin 256) : val_main_v18 (F := Ideal) (ix2 s i) = if Inp.seen i s then 1#1 else 0#1 := by
  pointwise [val_main_v18, val_main_v16, val_main_v13, val_main_v12, val_main_v11, val_main_v10, val_main_v9, val_main_v8, val_main_v17, val_main_v15, val_main_v14, val_main_c, val_main_c_0]
  exact seen_bit i s _ _ (blk_end i) rfl
theorem v58 (s : Fin 4096) (i : Fin 256) : val_main_v58 (F := Ideal) (ix2 s i) = if Inp.seen i s then 1#1 else 0#1 := by
  pointwise [val_main_v58, val_main_v57, val_main_v56, val_main_v55, val_main_v54, val_main_v53, val_main_v52, val_main_v51, val_main_v50, val_main_v49, val_main_v48, val_main_c_12, val_main_c_13]
  exact seen_bit i s _ _ (blk_end i) rfl
theorem v19m (h g : Fin 4) (s : Fin 4096) (i : Fin 256) : val_main_v19_1 (F := Ideal) (ix4 h g s i) = if Inp.seen i s then 1#1 else 0#1 := by
  pointwise [val_main_v19_1]
  exact v18 s i
theorem ninf2 (i) : val_main_cst_2 (F := Ideal) i = (⊥ : EReal) := lit_ninf
theorem ninf26 (h g : Fin 4) (s : Fin 4096) : val_main_v26 (F := Ideal) (ix3 h g s) = (⊥ : EReal) := by
  pointwise [val_main_v26]
  exact lit_ninf
theorem negc : val_main_call0_v0 (F := Ideal) ix0 = cE neg := lit_neg

theorem v27max (i) : val_main_v27 (F := Ideal) x0 x1 i = max (val_main_v26 (F := Ideal) i) (val_main_v20 (F := Ideal) x0 x1 i) := val_main_v27_apply x0 x1 i
theorem v20red : val_main_v20 (F := Ideal) x0 x1
    = Host.reduce (α := Ideal .f32) (FloatOps.maximumf (F := Ideal) (φ := .f32)) (val_main_v19_0 (F := Ideal) x0 x1) (val_main_cst_2 (F := Ideal)) reducesTo_S4x4x4096x256_S4x4x4096_d3 h_S_ := by
  unfold val_main_v20
  rfl
theorem max_cE (y : EReal) (M : ℝ) (h : y = cE M) : max ⊥ y = cE M := by rw [h]; exact max_bot_left _

variable {x0 x1 x2 x3 x4} {I : Inp} (H : Holds x0 x1 x2 x3 x4 I)
include H

theorem v3 (h g : Fin 4) (s : Fin 4096) (d : Fin 64) : val_main_v3 (F := Ideal) x0 (ix4 s h g d) = cE (I.q h g s d) := by
  refine Eq.trans ?_ (H.h0 h g s d)
  pointwise [val_main_v3, val_main_v0]
  congr 2
  apply Fin.ext
  show 2560 + (h.val * 256 + g.val * 64 + d.val) = 2560 + (256 * h.val + 64 * g.val + d.val)
  omega

theorem v19 (h g : Fin 4) (s : Fin 4096) (i : Fin 256) : val_main_v19_0 (F := Ideal) x0 x1 (ix4 h g s i) = cE (I.S h g s i) := by
  have e7 : val_main_v7 (F := Ideal) x0 x1 (ix4 h g s i) = cE ((∑ d, I.k h i d * I.q h g s d) * (1 / 8)) := by
    pointwise [val_main_v7, val_main_v5, val_main_v6, val_main_v4, val_main_v1, val_main_cst]
    simp only [H.h1, v3 H, lit_eighth, ← EReal.coe_mul, cE_sum]
  pointwise [val_main_v19_0, val_main_v19_1, val_main_call0_v2]
  rw [v18, select_seen, e7, negc]
  unfold Inp.S
  split_ifs <;> rfl

theorem exM : ∃ M : Fin 4 → Fin 4 → Fin 4096 → ℝ, ∀ h g s, val_main_v27 (F := Ideal) x0 x1 (ix3 h g s) = cE (M h g s) := by
  obtain ⟨M, hM⟩ := rowmax (val_main_v19_0 (F := Ideal) x0 x1) (val_main_cst_2 (F := Ideal)) ninf2 I.S (v19 H)
  refine ⟨M, fun h g s => ?_⟩
  rw [v27max, ninf26]
  exact max_cE _ _ ((congrFun (v20red x0 x1) _).trans (hM h g s))

section
variable {M : Fin 4 → Fin 4 → Fin 4096 → ℝ} (hM : ∀ h g s, val_main_v27 (F := Ideal) x0 x1 (ix3 h g s) = cE (M h g s))
include hM

theorem v40 (h g : Fin 4) (s : Fin 4096) (i : Fin 256) : val_main_v40 (F := Ideal) x0 x1 (ix4 h g s i) = cE (Real.exp (I.S h g s i - M h g s)) := by
  pointwise [val_main_v40, val_main_v39, val_main_v38, val_main_v37]
  rw [v19 H, hM, ← EReal.coe_sub]
  exact exp_real _
theorem v42 (h g : Fin 4) (s : Fin 4096) : val_main_v42 (F := Ideal) x0 x1 (ix4 h g s 0) = cE (∑ i, Real.exp (I.S h g s i - M h g s)) := by
  pointwise [val_main_v42, val_main_v41, val_main_cst_10]
  simp only [v40 H hM, cE_sum]

omit H hM in
theorem Zm_pos (I : Inp) (M : Fin 4 → Fin 4 → Fin 4096 → ℝ) (h g : Fin 4) (s : Fin 4096) : 0 < ∑ i, Real.exp (I.S h g s i - M h g s) :=
  Finset.sum_pos (fun i _ => Real.exp_pos _) ⟨0, Finset.mem_univ _⟩

theorem v62 (h g : Fin 4) (s : Fin 4096) (i : Fin 256) : val_main_v62 (F := Ideal) x0 x1 (ix4 h g s i) = cE (I.P h g s i) := by
  pointwise [val_main_v62, val_main_v61, val_main_v60, val_main_v59, val_main_v44, val_main_v43]
  rw [v58, seen_float, v40 H hM, v42 H hM, div_real _ _ (Zm_pos I M h g s).ne', ← EReal.coe_mul, I.P_shift]
  unfold Inp.P
  split_ifs
  · rw [mul_one]
  · rw [mul_zero]

theorem v47 (h g : Fin 4) (s : Fin 4096) :
    val_main_v47 (F := Ideal) x0 x1 (ix4 h g s 0) = cE (1 / ((∑ i, Real.exp (I.S h g s i - M h g s)) * ∑ i, Real.exp (I.S h g s i - M h g s))) := by
  have hz := Zm_pos I M h g s
  pointwise [val_main_v47, val_main_v46, val_main_v45, val_main_cst_11]
  rw [v42 H hM, ← EReal.coe_mul, ← div_real _ _ (mul_pos hz hz).ne']
  first | rfl | rw [← lit_one]

theorem v64 (h g : Fin 4) (s : Fin 4096) (d : Fin 64) : val_main_v64 (F := Ideal) x0 x1 x2 (ix4 s h g d) = cE (I.O h g s d) := by
  pointwise [val_main_v64, val_main_v63, val_main_v2]
  simp only [H.h2, v62 H hM, ← EReal.coe_mul, cE_sum]
  rfl

omit hM in
theorem v70 (h g : Fin 4) (s : Fin 4096) : val_main_v70 (F := Ideal) x3 (ix3 h g s) = cE (sgm (I.g h g s)) := by
  pointwise [val_main_v70, val_main_v69, val_main_v68, val_main_v67, val_main_v66, val_main_v65, val_main_cst_14, val_main_cst_15]
  rw [H.h3]
  refine Eq.trans ?_ (sgm_eq _)
  rw [zero_sub]

omit hM in
theorem v80 (h g : Fin 4) (s : Fin 4096) (d : Fin 64) : val_main_v80 (F := Ideal) x4 (ix4 s h g d) = cE (I.dy h g s d) := by
  refine Eq.trans ?_ (H.h4 h g s d)
  pointwise [val_main_v80, val_main_v79]
  congr 2
  apply Fin.ext
  show 1024 + (h.val * 256 + g.val * 64 + d.val) = 1024 + (256 * h.val + 64 * g.val + d.val)
  omega

omit hM in
theorem v82 (h g : Fin 4) (s : Fin 4096) (d : Fin 64) : val_main_v82 (F := Ideal) x3 x4 (ix4 s h g d) = cE (I.dO h g s d) := by
  pointwise [val_main_v82, val_main_v81, val_main_v75, val_main_v74]
  rw [v70 H, v80 H, ← EReal.coe_mul, mul_comm]
  rfl

theorem v88 (h g : Fin 4) (s : Fin 4096) : val_main_v88 (F := Ideal) x0 x1 x2 x3 x4 (ix3 h g s) = cE (I.dg h g s) := by
  pointwise [val_main_v88, val_main_v87, val_main_v86, val_main_v85, val_main_v84, val_main_v83, val_main_v73, val_main_v72, val_main_v71, val_main_cst_16, val_main_cst_17, val_main_cst_18]
  simp only [v70 H, v80 H, v64 H hM, ← EReal.coe_mul, cE_sum]
  have e1 : (1 : EReal) = cE 1 := rfl
  simp only [e1, ← EReal.coe_sub, ← EReal.coe_mul, cE_sum, Fin.sum_univ_one, Finset.univ_unique, Finset.sum_singleton]
  rfl

omit hM in
theorem v94 (h g : Fin 4) (s : Fin 4096) (i : Fin 256) : val_main_v94 (F := Ideal) x2 x3 x4 (ix4 h g s i) = cE (I.dP h g s i * if Inp.seen i s then 1 else 0) := by
  pointwise [val_main_v94, val_main_v93, val_main_v60, val_main_v59, val_main_v90, val_main_v89, val_main_v2]
  rw [v58, seen_float]
  simp only [v82 H, H.h2, ← EReal.coe_mul, cE_sum]
  congr 2
  unfold Inp.dP
  exact Finset.sum_congr rfl fun d _ => by ring

theorem v92 (h : Fin 4) (i : Fin 256) (d : Fin 64) : val_main_v92 (F := Ideal) x0 x1 x3 x4 (ix3 h i d) = cE (I.dv h i d) := by
  pointwise [val_main_v92, val_main_v91, val_main_v89]
  simp only [v82 H, v62 H hM, ← EReal.coe_mul, cE_sum]
  unfold Inp.dv
  congr 1
  exact Finset.sum_congr rfl fun g _ => Finset.sum_congr rfl fun s _ => by ring

omit H hM in
/-- The softmax's gradient as the reference writes it, over the reals. -/
theorem ds_real (I : Inp) (M : ℝ) (h g : Fin 4) (s : Fin 4096) (i : Fin 256) (hi : Inp.seen i s) :
    (I.dP h g s i * (if Inp.seen i s then 1 else 0) / (∑ j, Real.exp (I.S h g s j - M))
      + -(∑ j, I.dP h g s j * (if Inp.seen j s then 1 else 0) * (1 / ((∑ j, Real.exp (I.S h g s j - M)) * ∑ j, Real.exp (I.S h g s j - M))) * Real.exp (I.S h g s j - M)))
      * Real.exp (I.S h g s i - M) = I.dS h g s i := by
  have hz : 0 < ∑ j, Real.exp (I.S h g s j - M) := Finset.sum_pos (fun i _ => Real.exp_pos _) ⟨0, Finset.mem_univ _⟩
  have hp : ∀ j, I.P h g s j = (if Inp.seen j s then 1 else 0) * (Real.exp (I.S h g s j - M) / ∑ j, Real.exp (I.S h g s j - M)) := by
    intro j
    rw [I.P_shift]
    unfold Inp.P
    split_ifs
    · rw [one_mul]
    · rw [zero_mul]
  unfold Inp.dS
  simp only [hp, if_pos hi]
  generalize hZ : ∑ j, Real.exp (I.S h g s j - M) = Z at hz
  have e : ∑ j, I.dP h g s j * (if Inp.seen j s then 1 else 0) * (1 / (Z * Z)) * Real.exp (I.S h g s j - M)
      = (∑ j, (if Inp.seen j s then 1 else 0) * (Real.exp (I.S h g s j - M) / Z) * I.dP h g s j) * (1 / Z) := by
    rw [Finset.sum_mul]
    refine Finset.sum_congr rfl fun j _ => ?_
    field_simp
  rw [e]
  field_simp
  ring

theorem v109 (h g : Fin 4) (s : Fin 4096) (i : Fin 256) : val_main_v109 (F := Ideal) x0 x1 x2 x3 x4 (ix4 h g s i) = cE (I.dS h g s i * (1 / 8)) := by
  pointwise [val_main_v109, val_main_v107, val_main_v106, val_main_v105, val_main_v104, val_main_v103, val_main_v102, val_main_v101, val_main_v100, val_main_v99, val_main_v98, val_main_v97, val_main_v96, val_main_v95,
    val_main_v108, val_main_cst_19, val_main_cst_20, val_main_cst_21]
  rw [v19m, select_seen]
  simp only [v94 H, v42 H hM, v47 H hM, v40 H hM, lit_eighth, div_real _ _ (Zm_pos I M h g s).ne', ← EReal.coe_mul, cE_sum, neg_real, Fin.sum_univ_one, Finset.univ_unique, Finset.sum_singleton, ← EReal.coe_add]
  by_cases hs : Inp.seen i s
  · rw [if_pos hs, ← EReal.coe_mul]
    congr 2
    exact ds_real I (M h g s) h g s i hs
  · rw [if_neg hs]
    have e0 : val_main_call1_v0 (F := Ideal) (ix4 h g s i) = cE 0 := by
      pointwise [val_main_call1_v0, val_main_call1_cst]
      rfl
    rw [e0, ← EReal.coe_mul]
    have ep : I.P h g s i = 0 := by unfold Inp.P; rw [if_neg hs]
    unfold Inp.dS
    rw [ep, zero_mul, zero_mul, zero_mul]
    try rfl

theorem v113 (h : Fin 4) (i : Fin 256) (d : Fin 64) : val_main_v113 (F := Ideal) x0 x1 x2 x3 x4 (ix3 h i d) = cE (I.dk h i d) := by
  pointwise [val_main_v113, val_main_v110]
  simp only [v109 H hM, v3 H, ← EReal.coe_mul, cE_sum]
  unfold Inp.dk
  congr 1
  rw [Finset.sum_comm]
  exact Finset.sum_congr rfl fun g _ => Finset.sum_congr rfl fun s _ => by ring

theorem v112 (h g : Fin 4) (s : Fin 4096) (d : Fin 64) : val_main_v112 (F := Ideal) x0 x1 x2 x3 x4 (ix4 s h g d) = cE (I.dq h g s d) := by
  pointwise [val_main_v112, val_main_v111, val_main_v110, val_main_v1]
  simp only [v109 H hM, H.h1, ← EReal.coe_mul, cE_sum]
  unfold Inp.dq
  congr 1
  rw [Finset.sum_mul]
  exact Finset.sum_congr rfl fun g _ => by ring

theorem v114 (h g : Fin 4) (s : Fin 4096) (d : Fin 64) : val_main_v114 (F := Ideal) x0 x1 x2 x3 x4 (ix2 s (acol h g d)) = cE (I.dq h g s d) := by
  refine Eq.trans ?_ (v112 H hM h g s d)
  pointwise [val_main_v114]
  have hh := h.isLt
  have hg := g.isLt
  have hd := d.isLt
  have e0 : ∀ p, (⟨(acol h g d).val / 256, p⟩ : Fin 4) = h := fun p => Fin.ext (by show (256 * h.val + 64 * g.val + d.val) / 256 = h.val; omega)
  have e1 : ∀ p, (⟨(acol h g d).val / 64 % 4, p⟩ : Fin 4) = g := fun p => Fin.ext (by show (256 * h.val + 64 * g.val + d.val) / 64 % 4 = g.val; omega)
  have e2 : ∀ p, (⟨(acol h g d).val % 64, p⟩ : Fin 64) = d := fun p => Fin.ext (by show (256 * h.val + 64 * g.val + d.val) % 64 = d.val; omega)
  rw [e0, e1, e2]
end

end Cert.ReferenceIdeal.Hand
-- ==== Proof.Alg.lean ====
module

public import proofs.«01_k».proof.Proof.Pre
public import proofs.«01_k».proof.Proof.Fold
public import proofs.«01_k».proof.Proof.HostVals
public import proofs.«01_k».proof.Proof.RefValue
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.KernelIdeal.Hand

open Idealize.ShloMosaic.TcCoe Idealize.SL.Sem
open Cert.KernelIdeal Cert.KernelIdeal.Gen Idealize.ShloMosaic
open Cert.Pre_finite.Hand (Reals)

variable (m : (ℓ : Loc nD τ sig) → Buf (Elt Ideal) ℓ)

/-- The argument arrays of device `c` hold the real inputs. -/
abbrev Ins (c : Dev nD) (I : Inp) : Prop :=
  Reals (m ((c : Thread nD τ).loc main_arg0)) (m ((c : Thread nD τ).loc main_arg1)) (m ((c : Thread nD τ).loc main_arg2))
    (m ((c : Thread nD τ).loc main_arg3)) (m ((c : Thread nD τ).loc main_arg4)) I

/-- The kernel's arrays hold the inputs, the attention output and the logarithm of each row's sum of weights. -/
theorem arr_holds {c : Dev nD} {I : Inp} (R : Ins m c I) :
    ∃ L : Fin 4 → Fin 4 → Fin 4096 → ℝ, (∀ h g s, Real.exp (L h g s) = I.Z h g s) ∧ (I.arr L).Holds m c := by
  have H : In3 (m ((c : Thread nD τ).loc main_arg0)) (m ((c : Thread nD τ).loc main_arg1)) (m ((c : Thread nD τ).loc main_arg2)) I :=
    ⟨R.h0, R.h1, R.h2⟩
  obtain ⟨M, hM⟩ := exM H
  refine ⟨fun h g s => M h g s + Real.log (∑ i, Real.exp (I.S h g s i - M h g s)), exp_lse I M, ?_⟩
  exact
    { h0 := fun h g s d => (congrFun (V_main_arg0 m c) _).trans (R.h0 h g s d)
      h1 := fun h i d => (congrFun (V_main_arg1 m c) _).trans (R.h1 h i d)
      h2 := fun h d i => (congrFun (V_v51 m c) _).trans (kkt_apply H h d i)
      h3 := fun h i d => (congrFun (V_main_arg2 m c) _).trans (R.h2 h i d)
      h4 := fun h g s d => (congrFun (V_v49 m c) _).trans (ko_apply H hM h g s d)
      h5 := fun h g s => (congrFun (V_v28 m c) _).trans (klse_apply H hM h g s)
      h6 := fun h g s d => (congrFun (V_main_arg4 m c) _).trans (R.h4 h g s d)
      h7 := fun h g s => (congrFun (V_main_arg3 m c) _).trans (R.h3 h g s) }

/-- Every column of the joined heads is a head, a query of its group and a channel. -/
theorem exists_acol (x : Fin 1024) : ∃ h g d, x = acol h g d := by
  have hx := x.isLt
  refine ⟨⟨x.val / 256, by omega⟩, ⟨x.val % 256 / 64, by omega⟩, ⟨x.val % 64, by omega⟩, ?_⟩
  apply Fin.ext
  show x.val = 256 * (x.val / 256) + 64 * (x.val % 256 / 64) + x.val % 64
  omega

section
variable {m} {c : Dev nD} {I : Inp} (R : Ins m c I)
include R

theorem ref_holds : Cert.ReferenceIdeal.Hand.Holds (m ((c : Thread nD τ).loc main_arg0)) (m ((c : Thread nD τ).loc main_arg1))
    (m ((c : Thread nD τ).loc main_arg2)) (m ((c : Thread nD τ).loc main_arg3)) (m ((c : Thread nD τ).loc main_arg4)) I :=
  ⟨R.h0, R.h1, R.h2, R.h3, R.h4⟩

theorem eq_dq : (dats m 0 c).arrAt 8 cfg0.N = Cert.ReferenceIdeal.Read.val_main_v114 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  obtain ⟨L, hL, HA⟩ := arr_holds m R
  obtain ⟨M, hM⟩ := Cert.ReferenceIdeal.Hand.exM (ref_holds R)
  rw [final_dq HA]
  funext y
  obtain ⟨s, x, rfl⟩ : ∃ (s : Fin 4096) (x : Fin 1024), y = ix2 s x := ⟨y 0, y 1, eq_ix2 y⟩
  obtain ⟨h, g, d, rfl⟩ := exists_acol x
  rw [Cert.ReferenceIdeal.Hand.v114 (ref_holds R) hM h g s d]
  exact congrArg cE (I.arr_dq hL h g s d)

theorem eq_dk : (dats m 0 c).arrAt 9 cfg0.N = Cert.ReferenceIdeal.Read.val_main_v113 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  obtain ⟨L, hL, HA⟩ := arr_holds m R
  obtain ⟨M, hM⟩ := Cert.ReferenceIdeal.Hand.exM (ref_holds R)
  rw [final_dk HA]
  funext y
  obtain ⟨h, i, d, rfl⟩ : ∃ (h : Fin 4) (i : Fin 256) (d : Fin 64), y = ix3 h i d := ⟨y 0, y 1, y 2, eq_ix3 y⟩
  rw [Cert.ReferenceIdeal.Hand.v113 (ref_holds R) hM h i d]
  exact congrArg cE (I.arr_dk hL h i d)

theorem eq_dv : (dats m 0 c).arrAt 10 cfg0.N = Cert.ReferenceIdeal.Read.val_main_v92 (F := Ideal) (m ((c : Thread nD τ).loc main_arg0))
    (m ((c : Thread nD τ).loc main_arg1)) (m ((c : Thread nD τ).loc main_arg3)) (m ((c : Thread nD τ).loc main_arg4)) := by
  obtain ⟨L, hL, HA⟩ := arr_holds m R
  obtain ⟨M, hM⟩ := Cert.ReferenceIdeal.Hand.exM (ref_holds R)
  rw [final_dv HA]
  funext y
  obtain ⟨h, i, d, rfl⟩ : ∃ (h : Fin 4) (i : Fin 256) (d : Fin 64), y = ix3 h i d := ⟨y 0, y 1, y 2, eq_ix3 y⟩
  rw [Cert.ReferenceIdeal.Hand.v92 (ref_holds R) hM h i d]
  exact congrArg cE (I.arr_dv hL h i d)

theorem eq_dg : (dats m 0 c).arrAt 11 cfg0.N = Cert.ReferenceIdeal.Read.val_main_v88 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  obtain ⟨L, hL, HA⟩ := arr_holds m R
  obtain ⟨M, hM⟩ := Cert.ReferenceIdeal.Hand.exM (ref_holds R)
  rw [final_dg HA]
  funext y
  obtain ⟨h, g, s, rfl⟩ : ∃ (h g : Fin 4) (s : Fin 4096), y = ix3 h g s := ⟨y 0, y 1, y 2, eq_ix3 y⟩
  rw [Cert.ReferenceIdeal.Hand.v88 (ref_holds R) hM h g s]
  exact congrArg cE (I.arr_dg h g s)
end

/-- The precondition gives the real inputs of every device. -/
theorem exists_ins (hpre : Cert.Pre_KernelIdeal_finite m) (c : Dev nD) : ∃ I : Inp, Ins m c I := by
  unfold Cert.Pre_KernelIdeal_finite at hpre
  have h := hpre c
  exact Cert.Pre_finite.Hand.reals_of_fn _ _ _ _ _ h

set_option maxHeartbeats 2000000 in
/-- The kernel's gradients and the reference's are equal, on finite arguments. -/
theorem algebraic : Cert.algebraic_KernelIdeal_ReferenceIdeal_pre_finite := by
  intro m ρ m' ρ' hpre hagree
  have hI : ∀ c : Dev nD, ∃ I : Inp, Ins m c I := exists_ins m hpre
  refine ⟨fun c => (dats m 0 c).arrAt 8 cfg0.N, fun c => (dats m 0 c).arrAt 9 cfg0.N, fun c => (dats m 0 c).arrAt 10 cfg0.N,
    fun c => (dats m 0 c).arrAt 11 cfg0.N, ?_, ?_⟩
  · exact Value.run_blocks m ρ
  · refine (θ_run Cert.ReferenceIdeal.defs _ _).mono (fun r h c => ?_) (Cert.ReferenceIdeal.Value.run (F := Ideal) m' ρ')
    obtain ⟨I, R⟩ := hI c
    obtain ⟨a0, a1, a2, a3, a4⟩ := hagree c
    obtain ⟨w0, w1, w2, w3, w4⟩ := h c
    refine ⟨w0.trans ?_, w1.trans ?_, w2.trans ?_, w3.trans ?_, w4⟩
    · rw [Cert.ReferenceIdeal.Read.val_main_v114_eq, a0, a1, a2, a3, a4]; exact (eq_dq R).symm
    · rw [Cert.ReferenceIdeal.Read.val_main_v113_eq, a0, a1, a2, a3, a4]; exact (eq_dk R).symm
    · rw [Cert.ReferenceIdeal.Read.val_main_v92_eq, a0, a1, a3, a4]; exact (eq_dv R).symm
    · rw [Cert.ReferenceIdeal.Read.val_main_v88_eq, a0, a1, a2, a3, a4]; exact (eq_dg R).symm

end Cert.KernelIdeal.Hand
-- ==== Proof.Sums.lean ====
module

public import Mathlib.Algebra.BigOperators.Fin
public import Mathlib.Data.EReal.Operations
public import proofs.«01_k».proof.Defs
public import Idealize.ShloMosaic.Lib.Pointwise
public import Idealize.ShloMosaic.Lib.Pipeline.Value
public import Idealize.ShloMosaic.Lib.IdealHost
public import Idealize.ShloMosaic.Lib.VecWindow
public import Idealize.ShloMosaic.Lib.Pipeline.ValueKit.Tiles
public import Idealize.ShloMosaic.Lib.Claim

@[expose] public section

namespace Cert.Sums

open Idealize.ShloMosaic

/-- Position `j` of block `b`, in an axis of length `n` cut into blocks of length `t`. -/
def at' {n : ℕ} (hn : 0 < n) (t b j : ℕ) : Fin n := ⟨(t * b + j) % n, Nat.mod_lt _ hn⟩

theorem at'_val {n : ℕ} (hn : 0 < n) {t b j : ℕ} (h : t * b + j < n) : (at' hn t b j).val = t * b + j := Nat.mod_eq_of_lt h

/-- A sum over an axis is the sum over its blocks of the sums within each block. -/
theorem sum_blocks {n : ℕ} (hn : 0 < n) (t K : ℕ) (h : K * t = n) (f : Fin n → EReal) :
    ∑ b ∈ Finset.range K, ∑ j : Fin t, f (at' hn t b j.val) = ∑ k, f k := by
  subst h
  rw [Finset.sum_range, ← Fintype.sum_prod_type', ← Equiv.sum_comp finProdFinEquiv]
  refine Fintype.sum_congr _ _ fun x => congrArg f (Fin.ext ?_)
  have hb := x.1.isLt
  have hj := x.2.isLt
  have e : (finProdFinEquiv x).val = x.2.val + t * x.1.val := rfl
  have hl := (finProdFinEquiv x).isLt
  rw [e] at hl
  rw [at'_val hn (by omega), e]
  omega

/-- Every position of an axis is a position of one of its blocks. -/
theorem exists_at {n : ℕ} (hn : 0 < n) (t : ℕ) (x : Fin n) : x = at' hn t (x.val / t) (x.val % t) := by
  apply Fin.ext
  have h := Nat.div_add_mod x.val t
  rw [at'_val hn (by have := x.isLt; omega)]
  exact h.symm

theorem off0 : (![0, 0] : Fin 2 → Nat) = fun _ => 0 := funext fun a => by fin_cases a <;> rfl

theorem off00 : (![0, 0, 0] : Fin 3 → Nat) = fun _ => 0 := funext fun a => by fin_cases a <;> rfl

/-- A load of a whole block reads it, and the last store of a whole block leaves what it stored. -/
theorem ld2 {a b : ℕ} {e : EltTy} {inb : ∀ i, (![0, 0] : Fin 2 → ℕ) i + (⟨2, ![a, b]⟩ : Shape).size i ≤ (⟨2, ![a, b]⟩ : Shape).size i}
    (x : Vec Ideal ⟨2, ![a, b]⟩ e) : View.ld x (Rect.unit (s := ⟨2, ![a, b]⟩) ![0, 0] ![a, b] inb) = x :=
  View.ld_unit_zero (S := ⟨2, ![a, b]⟩) off0 inb x

theorem ld3 {a b c : ℕ} {e : EltTy} {inb : ∀ i, (![0, 0, 0] : Fin 3 → ℕ) i + (⟨3, ![a, b, c]⟩ : Shape).size i ≤ (⟨3, ![a, b, c]⟩ : Shape).size i}
    (x : Vec Ideal ⟨3, ![a, b, c]⟩ e) : View.ld x (Rect.unit (s := ⟨3, ![a, b, c]⟩) ![0, 0, 0] ![a, b, c] inb) = x :=
  View.ld_unit_zero (S := ⟨3, ![a, b, c]⟩) off00 inb x

theorem canon2 {a b : ℕ} {e : EltTy} {inb : ∀ i, (![0, 0] : Fin 2 → ℕ) i + (⟨2, ![a, b]⟩ : Shape).size i ≤ (⟨2, ![a, b]⟩ : Shape).size i}
    (w : Vec Ideal ⟨2, ![a, b]⟩ e) (L : List (View.Piece (Elt Ideal) ⟨2, ![a, b]⟩ e)) :
    View.canon ((⟨Rect.unit (s := ⟨2, ![a, b]⟩) ![0, 0] ![a, b] inb, w⟩ : View.Piece (Elt Ideal) ⟨2, ![a, b]⟩ e) :: L) = w :=
  View.canon_cons_unit_zero (S := ⟨2, ![a, b]⟩) off0 inb w L

theorem canon3 {a b c : ℕ} {e : EltTy} {inb : ∀ i, (![0, 0, 0] : Fin 3 → ℕ) i + (⟨3, ![a, b, c]⟩ : Shape).size i ≤ (⟨3, ![a, b, c]⟩ : Shape).size i}
    (w : Vec Ideal ⟨3, ![a, b, c]⟩ e) (L : List (View.Piece (Elt Ideal) ⟨3, ![a, b, c]⟩ e)) :
    View.canon ((⟨Rect.unit (s := ⟨3, ![a, b, c]⟩) ![0, 0, 0] ![a, b, c] inb, w⟩ : View.Piece (Elt Ideal) ⟨3, ![a, b, c]⟩ e) :: L) = w :=
  View.canon_cons_unit_zero (S := ⟨3, ![a, b, c]⟩) off00 inb w L

end Cert.Sums
-- ==== Proof.Gate.lean ====
module

public import Idealize.ShloMosaic.Lib.Pointwise
public import Idealize.ShloMosaic.Lib.IdealHost
public import Idealize.ShloMosaic.Lib.ReduceAll
public import Idealize.ShloMosaic.Lib.KernelVsHost

/-! The logistic function on the extended reals, and the two forms of the gradient of `g ↦ g · logi g`. -/

@[expose] public section

noncomputable section

namespace Cert.Gate

open Idealize.ShloMosaic

/-- The logistic function. -/
def logi (g : EReal) : EReal := Ideal.div 1 (1 + Ideal.exp (-g))

theorem logi_sub (g : EReal) : logi g = Ideal.div 1 (1 + Ideal.exp (0 - g)) := by
  unfold logi
  rw [sub_eq_add_neg (0 : EReal) g, zero_add]

theorem logi_top : logi ⊤ = 1 := by
  unfold logi
  rw [EReal.neg_top, show Ideal.exp (⊥ : EReal) = 0 from rfl, add_zero, ← EReal.coe_one, Ideal.div_coe one_ne_zero]
  norm_num

theorem logi_bot : logi ⊥ = 0 := by
  unfold logi
  rw [EReal.neg_bot, show Ideal.exp (⊤ : EReal) = ⊤ from rfl, ← EReal.coe_one, EReal.coe_add_top]
  unfold Ideal.div
  rw [if_neg EReal.top_ne_zero, EReal.inv_top, mul_zero]

/-- The logistic function of a real. -/
def logiR (g : ℝ) : ℝ := 1 / (1 + Real.exp (-g))

theorem logi_real (g : ℝ) : logi (g : EReal) = (logiR g : EReal) := by
  have h : (1 + Real.exp (-g) : ℝ) ≠ 0 := by have := Real.exp_pos (-g); linarith
  unfold logi logiR
  rw [← EReal.coe_neg, show Ideal.exp ((-g : ℝ) : EReal) = (Real.exp (-g) : EReal) from rfl, ← EReal.coe_one, ← EReal.coe_add,
    Ideal.div_coe h, ← EReal.coe_mul, one_mul]

/-- The gradient of `g ↦ g · logi g` factored, and as the product rule gives it: equal for a real factor `x` and any gate. -/
theorem gate_grad (x : ℝ) (g : EReal) :
    (x : EReal) * (logi g * (1 + g * (1 - logi g))) = (x : EReal) * logi g + g * (x : EReal) * (logi g * (1 - logi g)) := by
  have z : (1 : EReal) - 1 = 0 := by rw [← EReal.coe_one, ← EReal.coe_sub, sub_self, EReal.coe_zero]
  induction g with
  | bot => rw [logi_bot]; simp only [zero_mul, mul_zero, add_zero]
  | top => rw [logi_top, z]; simp only [mul_zero, add_zero, one_mul, mul_one]
  | coe g =>
    rw [logi_real, ← EReal.coe_one]
    simp only [← EReal.coe_sub, ← EReal.coe_mul, ← EReal.coe_add]
    refine congrArg _ ?_
    ring

/-- A finite sum of products of reals is a real. -/
theorem sum_mul_real {ι : Type} [Fintype ι] (f g : ι → EReal) (hf : ∀ i, ∃ r : ℝ, f i = (r : EReal)) (hg : ∀ i, ∃ r : ℝ, g i = (r : EReal)) :
    ∃ r : ℝ, ∑ i, f i * g i = (r : EReal) := by
  choose a ha using hf
  choose b hb using hg
  refine ⟨∑ i, a i * b i, ?_⟩
  have key : ∀ s : Finset ι, ∑ i ∈ s, f i * g i = ((∑ i ∈ s, a i * b i : ℝ) : EReal) := by
    intro s
    induction s using Finset.cons_induction with
    | empty => simp
    | cons i s hi ih => rw [Finset.sum_cons, Finset.sum_cons, ih, EReal.coe_add, ha, hb, EReal.coe_mul]
  exact key _

/-- A value whose absolute value is less than positive infinity is a real number. -/
theorem real_of_lt (x : Ideal .f32)
    (h : FloatOps.cmpf (F := Ideal) .olt (FloatOps.hostAbsf x) (FloatOps.ofBits (F := Ideal) .f32 0x7F800000#32) = 1#1) :
    ∃ r : ℝ, (x : EReal) = (r : EReal) := by
  rw [← Ideal.xori_weird_eq_hostAbsf_olt_inf] at h
  have h2 : ¬ ((x : EReal) = ⊤ ∨ (x : EReal) = ⊥) := by
    intro hx
    have e : FloatOps.weird (F := Ideal) x = 1#1 := by
      show BitVec.ofBool (decide ((x : EReal) = ⊤ ∨ (x : EReal) = ⊥)) = 1#1
      rw [decide_eq_true hx]; rfl
    rw [e] at h
    exact absurd h (by decide)
  push Not at h2
  exact ⟨(x : EReal).toReal, (EReal.coe_toReal h2.1 h2.2).symm⟩

abbrev Sc : Shape := ⟨0, ![]⟩
instance : Subsingleton Sc.Idx := ⟨fun _ _ => funext fun k => k.elim0⟩

/-- The conjunction over an array of "less than infinity" says that each element is a real number. -/
theorem all_real {s : Shape} {dims : List (Fin s.rank)} (x : FVec Ideal s .f32) (hb : Sc.BroadcastsInDim s (![] : Fin 0 → Fin s.rank))
    (hr : s.ReducesTo dims Sc) (hs : 0 < Sc.numel) (j : Sc.Idx)
    (h : Host.reduce IntOp.andi (cmpf .olt (Host.absf x) (broadcastInDim s ![] hb (constant (F := Ideal) Sc .f32 0x7F800000#32)))
      (constantI Sc 1 1#1) hr hs j = 1#1) (i : s.Idx) : ∃ r : ℝ, (x i : EReal) = (r : EReal) :=
  real_of_lt (x i) (Host.reduce_andi_all _ _ _ _ j h i)

end Cert.Gate
-- ==== Proof.Dact.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Sums
public import proofs.«01_k».proof.Proof.Gate
public import proofs.«01_k».proof.Proof.Gen.Pre_finite2

/-! The gradient of the gated product of the feed-forward layer in its two factors. -/

@[expose] public section

set_option maxRecDepth 16384

noncomputable section

namespace Cert.Kernel2Ideal.Hand

open Idealize.ShloMosaic.TcCoe Idealize.SL.Sem
open Cert.Kernel2Ideal Cert.Kernel2Ideal.Gen Idealize.ShloMosaic
open Cert.Sums Cert.Reference2Ideal.Read
open Cert.Gate

/-! ## What the body stores -/

/-- The gradient in the gate, for the product `d` of the output's gradient with the weights, the gate `g` and the other factor `u`. -/
def gateVal (d g u : EReal) : EReal := d * u * (logi g * (1 + g * (1 - logi g)))

theorem out0_4_eq (x0 : Vec Ideal S1024x2048 .bf16) (x1 : Vec Ideal S512x2048 .bf16) (x2 : Vec Ideal S1024x512 .bf16) (x3 : Vec Ideal S1024x512 .bf16) : out0_4 (F := Ideal) x0 x1 x2 x3 = k0_pay4 x0 x1 x2 x3 := by
  unfold out0_4
  refine (canon2 _ _).trans ?_
  show k0_pay4 (View.ld x0 (Rect.unit (s := S1024x2048) ![0, 0] ![1024, 2048] inb_S1024x2048_S1024x2048_0_0)) (View.ld x1 (Rect.unit (s := S512x2048) ![0, 0] ![512, 2048] inb_S512x2048_S512x2048_0_0)) (View.ld x2 (Rect.unit (s := S1024x512) ![0, 0] ![1024, 512] inb_S1024x512_S1024x512_0_0)) (View.ld x3 (Rect.unit (s := S1024x512) ![0, 0] ![1024, 512] inb_S1024x512_S1024x512_0_0)) = _
  simp only [ld2]

theorem pay4_apply (x0 : Vec Ideal S1024x2048 .bf16) (x1 : Vec Ideal S512x2048 .bf16) (x2 : Vec Ideal S1024x512 .bf16) (x3 : Vec Ideal S1024x512 .bf16) (p : Fin 1024) (q : Fin 512) :
    k0_pay4 (F := Ideal) x0 x1 x2 x3 (ix2 p q) = gateVal (∑ j : Fin 2048, x0 (ix2 p j) * x1 (ix2 q j)) (x2 (ix2 p q)) (x3 (ix2 p q)) := by
  unfold gateVal
  simp only [logi_sub]
  pointwise [k0_pay4, k0_pay3, k0_pay2, k0_pay1]

theorem out0_5_eq (x0 : Vec Ideal S1024x2048 .bf16) (x1 : Vec Ideal S512x2048 .bf16) (x2 : Vec Ideal S1024x512 .bf16) (x3 : Vec Ideal S1024x512 .bf16) : out0_5 (F := Ideal) x0 x1 x2 x3 = k0_pay5 x0 x1 x2 := by
  unfold out0_5
  refine (canon2 _ _).trans ?_
  show k0_pay5 (View.ld x0 (Rect.unit (s := S1024x2048) ![0, 0] ![1024, 2048] inb_S1024x2048_S1024x2048_0_0)) (View.ld x1 (Rect.unit (s := S512x2048) ![0, 0] ![512, 2048] inb_S512x2048_S512x2048_0_0)) (View.ld x2 (Rect.unit (s := S1024x512) ![0, 0] ![1024, 512] inb_S1024x512_S1024x512_0_0)) = _
  simp only [ld2]

theorem pay5_apply (x0 : Vec Ideal S1024x2048 .bf16) (x1 : Vec Ideal S512x2048 .bf16) (x2 : Vec Ideal S1024x512 .bf16) (x3 : Vec Ideal S1024x512 .bf16) (p : Fin 1024) (q : Fin 512) :
    k0_pay5 (F := Ideal) x0 x1 x2 (ix2 p q) = (∑ j : Fin 2048, x0 (ix2 p j) * x1 (ix2 q j)) * (x2 (ix2 p q) * logi (x2 (ix2 p q))) := by
  simp only [logi_sub]
  pointwise [k0_pay5, k0_pay3, k0_pay2, k0_pay1]

/-! ## The blocks of the arrays -/

/-- The row and the column that a point's block and a place in it stand for: point `t` is block `t / 11` of rows and block
    `t % 11` of columns. -/
def row (t : ℕ) (p : Fin 1024) : Fin 4096 := at' (by decide) 1024 (t / 11) p.val
def col (t : ℕ) (q : Fin 512) : Fin 5632 := at' (by decide) 512 (t % 11) q.val

theorem idx0 : ∀ t : Fin grid0.N, win0_0.index t 0 = t.val / 11 ∧ win0_0.index t 1 = 0 := by decide +kernel
theorem idx1 : ∀ t : Fin grid0.N, win0_1.index t 0 = t.val % 11 ∧ win0_1.index t 1 = 0 := by decide +kernel
theorem idx2 : ∀ t : Fin grid0.N, win0_2.index t 0 = t.val / 11 ∧ win0_2.index t 1 = t.val % 11 := by decide +kernel
theorem idx3 : ∀ t : Fin grid0.N, win0_3.index t 0 = t.val / 11 ∧ win0_3.index t 1 = t.val % 11 := by decide +kernel
theorem idx4 : ∀ t : Fin grid0.N, win0_4.index t 0 = t.val / 11 ∧ win0_4.index t 1 = t.val % 11 := by decide +kernel
theorem idx5 : ∀ t : Fin grid0.N, win0_5.index t 0 = t.val / 11 ∧ win0_5.index t 1 = t.val % 11 := by decide +kernel
theorem t_lt (t : Fin cfg0.N) : t.val < 44 := lt_of_lt_of_eq t.isLt N_0
theorem row_val {t : ℕ} (ht : t < 44) (p : Fin 1024) : (row t p).val = 1024 * (t / 11) + p.val := at'_val _ (by have := p.isLt; omega)
theorem col_val (t : ℕ) (q : Fin 512) : (col t q).val = 512 * (t % 11) + q.val := at'_val _ (by have := q.isLt; omega)

theorem rd0 (X : Vec Ideal S4096x2048 .bf16) (t : Fin cfg0.N) (p : Fin 1024) (j : Fin 2048) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 2048 + 1 * j.val = (j).val; rw [(idx0 t).2]; omega

theorem rd1 (X : Vec Ideal S5632x2048 .bf16) (t : Fin cfg0.N) (q : Fin 512) (j : Fin 2048) :
    ((cfg0.win 1).blk t).view.read (Elt Ideal) X (ix2 q j) = X (ix2 (col t.val q) j) := by
  have ht := t_lt t
  rw [View.read_apply]
  refine congrArg X ?_
  funext a
  apply Fin.ext
  match a with
  | ⟨0, _⟩ => show win0_1.index t 0 * 512 + 1 * q.val = ((col t.val q)).val; rw [(idx1 t).1, col_val _ q]; omega
  | ⟨1, _⟩ => show win0_1.index t 1 * 2048 + 1 * j.val = (j).val; rw [(idx1 t).2]; omega

theorem rd2 (X : Vec Ideal S4096x5632 .bf16) (t : Fin cfg0.N) (p : Fin 1024) (q : Fin 512) :
    ((cfg0.win 2).blk t).view.read (Elt Ideal) X (ix2 p q) = X (ix2 (row t.val p) (col t.val q)) := by
  have ht := t_lt t
  rw [View.read_apply]
  refine congrArg X ?_
  funext a
  apply Fin.ext
  match a with
  | ⟨0, _⟩ => show win0_2.index t 0 * 1024 + 1 * p.val = ((row t.val p)).val; rw [(idx2 t).1, row_val ht p]; omega
  | ⟨1, _⟩ => show win0_2.index t 1 * 512 + 1 * q.val = ((col t.val q)).val; rw [(idx2 t).2, col_val _ q]; omega

theorem rd3 (X : Vec Ideal S4096x5632 .bf16) (t : Fin cfg0.N) (p : Fin 1024) (q : Fin 512) :
    ((cfg0.win 3).blk t).view.read (Elt Ideal) X (ix2 p q) = X (ix2 (row t.val p) (col t.val q)) := by
  have ht := t_lt t
  rw [View.read_apply]
  refine congrArg X ?_
  funext a
  apply Fin.ext
  match a with
  | ⟨0, _⟩ => show win0_3.index t 0 * 1024 + 1 * p.val = ((row t.val p)).val; rw [(idx3 t).1, row_val ht p]; omega
  | ⟨1, _⟩ => show win0_3.index t 1 * 512 + 1 * q.val = ((col t.val q)).val; rw [(idx3 t).2, col_val _ q]; omega

/-- Output 4 of the whole computation at an index. -/
def full4 (X0 : Vec Ideal S4096x2048 .bf16) (X1 : Vec Ideal S5632x2048 .bf16) (X2 : Vec Ideal S4096x5632 .bf16) (X3 : Vec Ideal S4096x5632 .bf16) (p : Fin 4096) (q : Fin 5632) : EReal :=
  gateVal (∑ j : Fin 2048, X0 (ix2 p j) * X1 (ix2 q j)) (X2 (ix2 p q)) (X3 (ix2 p q))

/-- Output 5 of the whole computation at an index. -/
def full5 (X0 : Vec Ideal S4096x2048 .bf16) (X1 : Vec Ideal S5632x2048 .bf16) (X2 : Vec Ideal S4096x5632 .bf16) (X3 : Vec Ideal S4096x5632 .bf16) (p : Fin 4096) (q : Fin 5632) : EReal :=
  (∑ j : Fin 2048, X0 (ix2 p j) * X1 (ix2 q j)) * (X2 (ix2 p q) * logi (X2 (ix2 p q)))

variable (m : (ℓ : Loc nD τ sig) → Buf (Elt Ideal) ℓ) (c : Dev nD)

theorem out4_eq (t : Fin cfg0.N) (p : Fin 1024) (q : Fin 512) :
    out0_4 (F := Ideal) (iblk m c 0 t) (iblk m c 1 t) (iblk m c 2 t) (iblk m c 3 t) (ix2 p q) = full4 (V m c main_arg0) (V m c main_arg1) (V m c main_arg2) (V m c main_arg3) (row t.val p) (col t.val q) := by
  rw [out0_4_eq]
  refine (pay4_apply (iblk m c 0 t) (iblk m c 1 t) (iblk m c 2 t) (iblk m c 3 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 q j) = V m c main_arg1 (ix2 (col t.val q) j) := fun j => rd1 (V m c main_arg1) t q j
  have h2 : iblk m c 2 t (ix2 p q) = V m c main_arg2 (ix2 (row t.val p) (col t.val q)) := rd2 (V m c main_arg2) t p q
  have h3 : iblk m c 3 t (ix2 p q) = V m c main_arg3 (ix2 (row t.val p) (col t.val q)) := rd3 (V m c main_arg3) t p q
  unfold full4
  simp only [h0, h1, h2, h3]

theorem final4 : (dats m 0 c).arrAt 4 cfg0.N = (fun y : S4096x5632.Idx => full4 (V m c main_arg0) (V m c main_arg1) (V m c main_arg2) (V m c main_arg3) (y 0) (y 1)) := by
  refine (dats m 0 c).arrAt_eq_of_cover 4 _ ?_ ?_
  · intro t _
    rw [Value.flushed4]
    funext y
    obtain ⟨p, q, rfl⟩ : ∃ (p : Fin 1024) (q : Fin 512), y = (ix2 p q : S1024x512.Idx) := ⟨y 0, y 1, by funext a; match a with | ⟨0, _⟩ => rfl | ⟨1, _⟩ => rfl⟩
    rw [View.read_apply]
    refine (out4_eq m c t p q).trans ?_
    have htl := t_lt t
    have hi := idx4 t
    have e0 : ((((cfg0.win 4).blk t).view.emb (ix2 p q : S1024x512.Idx) : S4096x5632.Idx) 0) = row t.val p := by
      apply Fin.ext
      rw [row_val htl]
      show win0_4.index t 0 * 1024 + 1 * p.val = _; rw [hi.1]; omega
    have e1 : ((((cfg0.win 4).blk t).view.emb (ix2 p q : S1024x512.Idx) : S4096x5632.Idx) 1) = col t.val q := by
      apply Fin.ext
      rw [col_val]
      show win0_4.index t 1 * 512 + 1 * q.val = _; rw [hi.2]; omega
    show _ = full4 (V m c main_arg0) (V m c main_arg1) (V m c main_arg2) (V m c main_arg3) ((((cfg0.win 4).blk t).view.emb (ix2 p q : S1024x512.Idx) : S4096x5632.Idx) 0) ((((cfg0.win 4).blk t).view.emb (ix2 p q : S1024x512.Idx) : S4096x5632.Idx) 1)
    rw [e0, e1]
  · intro i
    have h0 : (i 0).val < 4096 := (i 0).isLt
    have h1 : (i 1).val < 5632 := (i 1).isLt
    refine ⟨⟨11 * ((i 0).val / 1024) + (i 1).val / 512, lt_of_lt_of_eq (by omega : _ < 44) N_0.symm⟩, flush0_4 _, ?_⟩
    generalize ht : (⟨11 * ((i 0).val / 1024) + (i 1).val / 512, _⟩ : Fin cfg0.N) = t
    have tv : t.val = 11 * ((i 0).val / 1024) + (i 1).val / 512 := by rw [← ht]
    have hi := idx4 t
    show i ∈ ((View.whole main_v0_0).slice (win0_4.rect t)).set
    rw [View.set_slice_whole, Rect.mem_set_unit]
    intro a
    match a with
    | ⟨0, _⟩ => show win0_4.index t 0 * 1024 ≤ (i 0).val ∧ (i 0).val < win0_4.index t 0 * 1024 + 1024; rw [hi.1]; omega
    | ⟨1, _⟩ => show win0_4.index t 1 * 512 ≤ (i 1).val ∧ (i 1).val < win0_4.index t 1 * 512 + 512; rw [hi.2]; omega

theorem out5_eq (t : Fin cfg0.N) (p : Fin 1024) (q : Fin 512) :
    out0_5 (F := Ideal) (iblk m c 0 t) (iblk m c 1 t) (iblk m c 2 t) (iblk m c 3 t) (ix2 p q) = full5 (V m c main_arg0) (V m c main_arg1) (V m c main_arg2) (V m c main_arg3) (row t.val p) (col t.val q) := by
  rw [out0_5_eq]
  refine (pay5_apply (iblk m c 0 t) (iblk m c 1 t) (iblk m c 2 t) (iblk m c 3 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 q j) = V m c main_arg1 (ix2 (col t.val q) j) := fun j => rd1 (V m c main_arg1) t q j
  have h2 : iblk m c 2 t (ix2 p q) = V m c main_arg2 (ix2 (row t.val p) (col t.val q)) := rd2 (V m c main_arg2) t p q
  unfold full5
  simp only [h0, h1, h2]

theorem final5 : (dats m 0 c).arrAt 5 cfg0.N = (fun y : S4096x5632.Idx => full5 (V m c main_arg0) (V m c main_arg1) (V m c main_arg2) (V m c main_arg3) (y 0) (y 1)) := by
  refine (dats m 0 c).arrAt_eq_of_cover 5 _ ?_ ?_
  · intro t _
    rw [Value.flushed5]
    funext y
    obtain ⟨p, q, rfl⟩ : ∃ (p : Fin 1024) (q : Fin 512), y = (ix2 p q : S1024x512.Idx) := ⟨y 0, y 1, by funext a; match a with | ⟨0, _⟩ => rfl | ⟨1, _⟩ => rfl⟩
    rw [View.read_apply]
    refine (out5_eq m c t p q).trans ?_
    have htl := t_lt t
    have hi := idx5 t
    have e0 : ((((cfg0.win 5).blk t).view.emb (ix2 p q : S1024x512.Idx) : S4096x5632.Idx) 0) = row t.val p := by
      apply Fin.ext
      rw [row_val htl]
      show win0_5.index t 0 * 1024 + 1 * p.val = _; rw [hi.1]; omega
    have e1 : ((((cfg0.win 5).blk t).view.emb (ix2 p q : S1024x512.Idx) : S4096x5632.Idx) 1) = col t.val q := by
      apply Fin.ext
      rw [col_val]
      show win0_5.index t 1 * 512 + 1 * q.val = _; rw [hi.2]; omega
    show _ = full5 (V m c main_arg0) (V m c main_arg1) (V m c main_arg2) (V m c main_arg3) ((((cfg0.win 5).blk t).view.emb (ix2 p q : S1024x512.Idx) : S4096x5632.Idx) 0) ((((cfg0.win 5).blk t).view.emb (ix2 p q : S1024x512.Idx) : S4096x5632.Idx) 1)
    rw [e0, e1]
  · intro i
    have h0 : (i 0).val < 4096 := (i 0).isLt
    have h1 : (i 1).val < 5632 := (i 1).isLt
    refine ⟨⟨11 * ((i 0).val / 1024) + (i 1).val / 512, lt_of_lt_of_eq (by omega : _ < 44) N_0.symm⟩, flush0_5 _, ?_⟩
    generalize ht : (⟨11 * ((i 0).val / 1024) + (i 1).val / 512, _⟩ : Fin cfg0.N) = t
    have tv : t.val = 11 * ((i 0).val / 1024) + (i 1).val / 512 := by rw [← ht]
    have hi := idx5 t
    show i ∈ ((View.whole main_v0_1).slice (win0_5.rect t)).set
    rw [View.set_slice_whole, Rect.mem_set_unit]
    intro a
    match a with
    | ⟨0, _⟩ => show win0_5.index t 0 * 1024 ≤ (i 0).val ∧ (i 0).val < win0_5.index t 0 * 1024 + 1024; rw [hi.1]; omega
    | ⟨1, _⟩ => show win0_5.index t 1 * 512 ≤ (i 1).val ∧ (i 1).val < win0_5.index t 1 * 512 + 512; rw [hi.2]; omega

/-! ## The precondition: the output's gradient, the weights and the other factor hold reals -/

theorem reals (x0 : Vec Ideal S4096x2048 .bf16) (x1 : Vec Ideal S5632x2048 .bf16) (x2 x3 : Vec Ideal S4096x5632 .bf16)
    (H : Cert.Pre_finite2.fn (F := Ideal) x0 x1 x2 x3 = fun _ => 1#1) :
    (∀ i, ∃ r : ℝ, x0 i = (r : EReal)) ∧ (∀ i, ∃ r : ℝ, x1 i = (r : EReal)) ∧ (∀ i, ∃ r : ℝ, x3 i = (r : EReal)) := by
  have H0 := congrFun H ix0
  unfold Cert.Pre_finite2.fn at H0
  change IntOp.andi (IntOp.andi _ _) _ = 1#1 at H0
  obtain ⟨H1, r3⟩ := IntOp.andi_eq_one.1 H0
  obtain ⟨r0, r1⟩ := IntOp.andi_eq_one.1 H1
  exact ⟨fun i => all_real _ _ _ _ _ r0 i, fun i => all_real _ _ _ _ _ r1 i, fun i => all_real _ _ _ _ _ r3 i⟩

/-! ## The reference at an index -/

theorem ref4 (x0 : Vec Ideal S4096x2048 .bf16) (x1 : Vec Ideal S5632x2048 .bf16) (x2 x3 : Vec Ideal S4096x5632 .bf16)
    (h0 : ∀ i, ∃ r : ℝ, x0 i = (r : EReal)) (h1 : ∀ i, ∃ r : ℝ, x1 i = (r : EReal)) (h3 : ∀ i, ∃ r : ℝ, x3 i = (r : EReal)) :
    (fun y : S4096x5632.Idx => full4 x0 x1 x2 x3 (y 0) (y 1)) = val_main_v11 (F := Ideal) x0 x1 x2 x3 := by
  funext y
  obtain ⟨p, q, rfl⟩ : ∃ (p : Fin 4096) (q : Fin 5632), y = ix2 p q := ⟨y 0, y 1, eq_ix2 y⟩
  have e : val_main_v11 (F := Ideal) x0 x1 x2 x3 (ix2 p q)
      = (∑ j : Fin 2048, x0 (ix2 p j) * x1 (ix2 q j)) * x3 (ix2 p q) * logi (x2 (ix2 p q))
        + x2 (ix2 p q) * ((∑ j : Fin 2048, x0 (ix2 p j) * x1 (ix2 q j)) * x3 (ix2 p q)) * (logi (x2 (ix2 p q)) * (1 - logi (x2 (ix2 p q)))) := by
    unfold logi
    pointwise [val_main_v11, val_main_v10, val_main_call1_v2, val_main_call1_v1, val_main_call1_v0, val_main_v9, val_main_v7, val_main_v6, val_main_v3_1, val_main_v3_2, val_main_call0_v7, val_main_call0_v6, val_main_call0_cst_1, val_main_call0_v4, val_main_call0_cst_0, val_main_call0_v3, val_main_call0_v2, val_main_call0_cst, val_main_call0_v1, val_main_call0_v0, val_main_v2, val_main_v1, val_main_v0]
  refine Eq.trans ?_ e.symm
  show gateVal (∑ j : Fin 2048, x0 (ix2 p j) * x1 (ix2 q j)) (x2 (ix2 p q)) (x3 (ix2 p q)) = _
  obtain ⟨d, hd⟩ := sum_mul_real (fun j : Fin 2048 => x0 (ix2 p j)) (fun j => x1 (ix2 q j)) (fun j => h0 _) (fun j => h1 _)
  obtain ⟨u, hu⟩ := h3 (ix2 p q)
  unfold gateVal
  rw [hd, hu, ← EReal.coe_mul]
  exact gate_grad (d * u) _

theorem ref5 (x0 : Vec Ideal S4096x2048 .bf16) (x1 : Vec Ideal S5632x2048 .bf16) (x2 x3 : Vec Ideal S4096x5632 .bf16) :
    (fun y : S4096x5632.Idx => full5 x0 x1 x2 x3 (y 0) (y 1)) = val_main_v12 (F := Ideal) x0 x1 x2 := by
  funext y
  obtain ⟨p, q, rfl⟩ : ∃ (p : Fin 4096) (q : Fin 5632), y = ix2 p q := ⟨y 0, y 1, eq_ix2 y⟩
  have e : val_main_v12 (F := Ideal) x0 x1 x2 (ix2 p q)
      = x2 (ix2 p q) * logi (x2 (ix2 p q)) * ∑ j : Fin 2048, x0 (ix2 p j) * x1 (ix2 q j) := by
    unfold logi
    pointwise [val_main_v12, val_main_v8, val_main_v7, val_main_v6, val_main_v3_0, val_main_v3_2, val_main_call0_v4, val_main_call0_cst_0, val_main_call0_v3, val_main_call0_v2, val_main_call0_cst, val_main_call0_v1, val_main_call0_v0, val_main_v2, val_main_v0]
  refine Eq.trans ?_ e.symm
  exact mul_comm _ _

set_option maxHeartbeats 2000000 in
/-- The kernel's two gradients and the reference's are equal where the output's gradient, the weights and the other factor are finite. -/
theorem algebraic : Cert.algebraic_Kernel2Ideal_Reference2Ideal_pre_finite2 := by
  intro m ρ m' ρ' hpre hagree
  refine ⟨fun c => (dats m 0 c).arrAt 4 cfg0.N, fun c => (dats m 0 c).arrAt 5 cfg0.N, ?_, ?_⟩
  · exact Value.run_blocks m ρ
  · refine (θ_run Cert.Reference2Ideal.defs _ _).mono (fun r h c => ?_) (Cert.Reference2Ideal.Value.run (F := Ideal) m' ρ')
    obtain ⟨h0, h1, h3⟩ := reals _ _ _ _ (hpre c)
    obtain ⟨a0, a1, a2, a3⟩ := hagree c
    obtain ⟨w0, w1, w2⟩ := h c
    refine ⟨w0.trans ?_, w1.trans ?_, w2⟩
    · rw [val_main_v11_eq, a0, a1, a2, a3]
      exact (ref4 _ _ _ _ h0 h1 h3).symm.trans (final4 m c).symm
    · rw [val_main_v12_eq, a0, a1, a2]
      exact (ref5 _ _ _ (V m c main_arg3)).symm.trans (final5 m c).symm

end Cert.Kernel2Ideal.Hand
-- ==== Proof.Dv.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Sums

/-! The gradient of the normalised input of the gated projections, `dgt w_gateᵀ + dup w_upᵀ`, summed over the hidden channels in four blocks. -/

@[expose] public section

set_option maxRecDepth 16384

noncomputable section

namespace Cert.Kernel3Ideal.Hand

open Idealize.ShloMosaic.TcCoe Idealize.SL.Sem
open Cert.Kernel3Ideal Cert.Kernel3Ideal.Gen Idealize.ShloMosaic
open Cert.Sums Cert.Reference3Ideal.Read

/-! ## What the body stores, in each of its three cases -/

section
variable (c : Dev nD) (i : grid0.Coords) (arg3 : Memref sig .tc .vmem S1024x1408 .bf16) (harg3 : arg3.IsWhole)
  (arg4 : Memref sig .tc .vmem S1024x1408 .bf16) (harg4 : arg4.IsWhole)
  (arg5 : Memref sig .tc .vmem S1024x1408 .bf16) (harg5 : arg5.IsWhole)
  (arg6 : Memref sig .tc .vmem S1024x1408 .bf16) (harg6 : arg6.IsWhole)
  (arg7 : Memref sig .tc .vmem S1024x1024 .f32) (harg7 : arg7.IsWhole)
  (arg8 : Memref sig .tc .vmem S1024x1024 .f32) (harg8 : arg8.IsWhole)
  (x0 : Vec Ideal S1024x1408 .bf16) (x1 : Vec Ideal S1024x1408 .bf16) (x2 : Vec Ideal S1024x1408 .bf16) (x3 : Vec Ideal S1024x1408 .bf16)

set_option maxHeartbeats 1000000 in
theorem sout0_A_0_eq (hc0 : cond0_0 i) (hc1 : ¬cond0_1 i) :
    sout0_A_0 c i arg3 harg3 arg4 harg4 arg5 harg5 arg6 harg6 arg7 harg7 arg8 harg8 hc0 hc1 x0 x1 x2 x3 = k0_pay2 (k0_pay1 (F := Ideal)) x0 x2 x1 x3 := by
  unfold sout0_A_0
  rw [View.read_writes_eq_canon _ _ _ (scover0_A_0 _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : ¬cond0_1 i) (xs0 : Vec Ideal S1024x1024 .f32) :
    sout0_B_0 c i arg3 harg3 arg4 harg4 arg5 harg5 arg6 harg6 arg7 harg7 arg8 harg8 hc0 hc1 x0 x1 x2 x3 xs0 = k0_pay2 (xs0) x0 x2 x1 x3 := by
  unfold sout0_B_0
  rw [View.read_writes_eq_canon _ _ _ (scover0_B_0 _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem sout0_C_0_eq (hc0 : ¬cond0_0 i) (hc1 : cond0_1 i) (xs0 : Vec Ideal S1024x1024 .f32) :
    sout0_C_0 c i arg3 harg3 arg4 harg4 arg5 harg5 arg6 harg6 arg7 harg7 arg8 harg8 hc0 hc1 x0 x1 x2 x3 xs0 = k0_pay2 (xs0) x0 x2 x1 x3 := by
  unfold sout0_C_0
  rw [View.read_writes_eq_canon _ _ _ (scover0_C_0 _ _ _ _ _ _ _ _ _ _ _ _ _ _ _ _ _ _ _ _ _)]
  unfold kernelRun0_C
  dsimp only
  sl_unfold_words
  simp only [View.readAt_eq_ld, Memref.IsWhole.read_unread, View.readCov_cons_toLoadRect, canon2, ld2]

set_option maxHeartbeats 1000000 in
theorem out0_C_4_eq (hc0 : ¬cond0_0 i) (hc1 : cond0_1 i) (xs0 : Vec Ideal S1024x1024 .f32) :
    out0_C_4 c i arg3 harg3 arg4 harg4 arg5 harg5 arg6 harg6 arg7 harg7 arg8 harg8 hc0 hc1 x0 x1 x2 x3 xs0 = k0_pay2 (xs0) x0 x2 x1 x3 := by
  unfold out0_C_4
  rw [View.read_writes_eq_canon _ _ _ (cover0_C_4 _ _ _ _ _ _ _ _ _ _ _ _ _ _ _ _ _ _ _ _ _)]
  unfold kernelRun0_C
  dsimp only
  sl_unfold_words
  simp only [View.readAt_eq_ld, Memref.IsWhole.read_unread, View.readCov_cons_toLoadRect, canon2, ld2]

end

theorem pay1_apply (p : Fin 1024) (q : Fin 1024) : k0_pay1 (F := Ideal) (ix2 p q) = (0 : EReal) := by
  pointwise [k0_pay1]

theorem pay2_apply (a : Vec Ideal S1024x1024 .f32) (x0 : Vec Ideal S1024x1408 .bf16) (x1 : Vec Ideal S1024x1408 .bf16) (x2 : Vec Ideal S1024x1408 .bf16) (x3 : Vec Ideal S1024x1408 .bf16) (p : Fin 1024) (q : Fin 1024) :
    k0_pay2 a x0 x2 x1 x3 (ix2 p q) = a (ix2 p q) + ((∑ j : Fin 1408, x0 (ix2 p j) * x2 (ix2 q j)) + (∑ j : Fin 1408, x1 (ix2 p j) * x3 (ix2 q j))) := by
  pointwise [k0_pay2]

/-! ## The blocks of the arrays -/

/-- The row, the column and the summed position that a point's block and a place in it stand for: run `r` of the grid is
    block `r / 2` of rows and block `r % 2` of columns. -/
def row (r : ℕ) (p : Fin 1024) : Fin 4096 := at' (by decide) 1024 (r / 2) p.val
def col (r : ℕ) (q : Fin 1024) : Fin 2048 := at' (by decide) 1024 (r % 2) q.val
def kk (b j : ℕ) : Fin 5632 := at' (by decide) 1408 b j

theorem idx0 : ∀ t : Fin grid0.N, win0_0.index t 0 = t.val / 4 / 2 ∧ win0_0.index t 1 = t.val % 4 := by decide +kernel
theorem idx1 : ∀ t : Fin grid0.N, win0_1.index t 0 = t.val / 4 / 2 ∧ win0_1.index t 1 = t.val % 4 := by decide +kernel
theorem idx2 : ∀ t : Fin grid0.N, win0_2.index t 0 = t.val / 4 % 2 ∧ win0_2.index t 1 = t.val % 4 := by decide +kernel
theorem idx3 : ∀ t : Fin grid0.N, win0_3.index t 0 = t.val / 4 % 2 ∧ win0_3.index t 1 = t.val % 4 := by decide +kernel
theorem idx4 : ∀ t : Fin grid0.N, win0_4.index t 0 = t.val / 4 / 2 ∧ win0_4.index t 1 = t.val / 4 % 2 := by decide +kernel
theorem t_lt (t : Fin cfg0.N) : t.val < 32 := lt_of_lt_of_eq t.isLt N_0
theorem row_val {r : ℕ} (hr : r < 8) (p : Fin 1024) : (row r p).val = 1024 * (r / 2) + p.val := at'_val _ (by have := p.isLt; omega)
theorem col_val (r : ℕ) (q : Fin 1024) : (col r q).val = 1024 * (r % 2) + q.val := at'_val _ (by have := q.isLt; omega)
theorem kk_val {b : ℕ} (hb : b < 4) (j : Fin 1408) : (kk b j.val).val = 1408 * b + j.val := at'_val _ (by have := j.isLt; omega)

theorem rd0 (X : Vec Ideal S4096x5632 .bf16) (t : Fin cfg0.N) (p : Fin 1024) (j : Fin 1408) :
    ((cfg0.win 0).blk t).view.read (Elt Ideal) X (ix2 p j) = X (ix2 (row (t.val / 4) p) (kk (t.val % 4) j.val)) := by
  have ht := t_lt t
  have hr : t.val / 4 < 8 := by omega
  have hk : t.val % 4 < 4 := Nat.mod_lt _ (by decide)
  rw [View.read_apply]
  refine congrArg X ?_
  funext a
  apply Fin.ext
  match a with
  | ⟨0, _⟩ => show win0_0.index t 0 * 1024 + 1 * p.val = (row (t.val / 4) p).val; rw [(idx0 t).1, row_val hr p]; omega
  | ⟨1, _⟩ => show win0_0.index t 1 * 1408 + 1 * j.val = (kk (t.val % 4) j.val).val; rw [(idx0 t).2, kk_val hk j]; omega

theorem rd1 (X : Vec Ideal S4096x5632 .bf16) (t : Fin cfg0.N) (p : Fin 1024) (j : Fin 1408) :
    ((cfg0.win 1).blk t).view.read (Elt Ideal) X (ix2 p j) = X (ix2 (row (t.val / 4) p) (kk (t.val % 4) j.val)) := by
  have ht := t_lt t
  have hr : t.val / 4 < 8 := by omega
  have hk : t.val % 4 < 4 := Nat.mod_lt _ (by decide)
  rw [View.read_apply]
  refine congrArg X ?_
  funext a
  apply Fin.ext
  match a with
  | ⟨0, _⟩ => show win0_1.index t 0 * 1024 + 1 * p.val = (row (t.val / 4) p).val; rw [(idx1 t).1, row_val hr p]; omega
  | ⟨1, _⟩ => show win0_1.index t 1 * 1408 + 1 * j.val = (kk (t.val % 4) j.val).val; rw [(idx1 t).2, kk_val hk j]; omega

theorem rd2 (X : Vec Ideal S2048x5632 .bf16) (t : Fin cfg0.N) (q : Fin 1024) (j : Fin 1408) :
    ((cfg0.win 2).blk t).view.read (Elt Ideal) X (ix2 q j) = X (ix2 (col (t.val / 4) q) (kk (t.val % 4) j.val)) := by
  have ht := t_lt t
  have hr : t.val / 4 < 8 := by omega
  have hk : t.val % 4 < 4 := Nat.mod_lt _ (by decide)
  rw [View.read_apply]
  refine congrArg X ?_
  funext a
  apply Fin.ext
  match a with
  | ⟨0, _⟩ => show win0_2.index t 0 * 1024 + 1 * q.val = (col (t.val / 4) q).val; rw [(idx2 t).1, col_val _ q]; omega
  | ⟨1, _⟩ => show win0_2.index t 1 * 1408 + 1 * j.val = (kk (t.val % 4) j.val).val; rw [(idx2 t).2, kk_val hk j]; omega

theorem rd3 (X : Vec Ideal S2048x5632 .bf16) (t : Fin cfg0.N) (q : Fin 1024) (j : Fin 1408) :
    ((cfg0.win 3).blk t).view.read (Elt Ideal) X (ix2 q j) = X (ix2 (col (t.val / 4) q) (kk (t.val % 4) j.val)) := by
  have ht := t_lt t
  have hr : t.val / 4 < 8 := by omega
  have hk : t.val % 4 < 4 := Nat.mod_lt _ (by decide)
  rw [View.read_apply]
  refine congrArg X ?_
  funext a
  apply Fin.ext
  match a with
  | ⟨0, _⟩ => show win0_3.index t 0 * 1024 + 1 * q.val = (col (t.val / 4) q).val; rw [(idx3 t).1, col_val _ q]; omega
  | ⟨1, _⟩ => show win0_3.index t 1 * 1408 + 1 * j.val = (kk (t.val % 4) j.val).val; rw [(idx3 t).2, kk_val hk j]; omega

/-- What block `b` of the summed axis adds to a place of run `r`'s block. -/
def term (X0 : Vec Ideal S4096x5632 .bf16) (X1 : Vec Ideal S4096x5632 .bf16) (X2 : Vec Ideal S2048x5632 .bf16) (X3 : Vec Ideal S2048x5632 .bf16) (r b : ℕ) (p : Fin 1024) (q : Fin 1024) : EReal :=
  (∑ j : Fin 1408, X0 (ix2 (row r p) (kk b j.val)) * X2 (ix2 (col r q) (kk b j.val))) + (∑ j : Fin 1408, X1 (ix2 (row r p) (kk b j.val)) * X3 (ix2 (col r q) (kk b j.val)))

variable (m : (ℓ : Loc nD τ sig) → Buf (Elt Ideal) ℓ) (c : Dev nD)

theorem step_eq (t : Fin cfg0.N) (a : Vec Ideal S1024x1024 .f32) (p : Fin 1024) (q : Fin 1024) :
    k0_pay2 a (iblk m c 0 t) (iblk m c 2 t) (iblk m c 1 t) (iblk m c 3 t) (ix2 p q) = a (ix2 p q) + term (V m c main_arg0) (V m c main_arg1) (V m c main_arg2) (V m c main_arg3) (t.val / 4) (t.val % 4) p q := by
  refine (pay2_apply a _ _ _ _ p q).trans ?_
  refine congrArg (a (ix2 p q) + ·) ?_
  unfold term
  refine congrArg₂ (· + ·) ?_ ?_
  · exact Finset.sum_congr rfl fun j _ => congrArg₂ (· * ·) (rd0 (V m c main_arg0) t p j) (rd2 (V m c main_arg2) t q j)
  · exact Finset.sum_congr rfl fun j _ => congrArg₂ (· * ·) (rd1 (V m c main_arg1) t p j) (rd3 (V m c main_arg3) t q j)

/-- The running sum after a point: the blocks of the summed axis visited so far. -/
theorem acc_eq : ∀ (n : ℕ) (hn : n < cfg0.N) (p : Fin 1024) (q : Fin 1024),
    (outsAt0 m c n hn).2 (ix2 p q) = ∑ b ∈ Finset.range (n % 4 + 1), term (V m c main_arg0) (V m c main_arg1) (V m c main_arg2) (V m c main_arg3) (n / 4) b p q := by
  intro n
  induction n with
  | zero =>
    intro hn p q
    have e := outsAt0_A m c ⟨0, hn⟩ rfl (show ¬(0 % 4 = 3) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 4 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 4 = n % 4 + 1 := by omega
      have h2 : (n + 1) / 4 = n / 4 := by omega
      have key : (outsAt0 m c (n + 1) hn).2 = k0_pay2 ((outsAt0 m c n (Nat.lt_of_succ_lt hn)).2) (iblk m c 0 ⟨n + 1, hn⟩) (iblk m c 2 ⟨n + 1, hn⟩) (iblk m c 1 ⟨n + 1, hn⟩) (iblk m c 3 ⟨n + 1, hn⟩) := by
        by_cases h3 : (n + 1) % 4 = 3
        · have e := outsAt0_C m c ⟨n + 1, hn⟩ h0 h3
          rw [sout0_C_0_eq] at e
          exact congrArg Prod.snd e
        · have e := outsAt0_B m c ⟨n + 1, hn⟩ h0 h3
          rw [sout0_B_0_eq] at e
          exact congrArg Prod.snd e
      refine (congrFun key _).trans ((step_eq m c ⟨n + 1, hn⟩ _ p q).trans ?_)
      rw [ih]
      show _ + term (V m c main_arg0) (V m c main_arg1) (V m c main_arg2) (V m c main_arg3) ((n + 1) / 4) ((n + 1) % 4) p q = _
      rw [h1, h2, Finset.sum_range_succ _ (n % 4 + 1)]

/-- The whole product at an index. -/
def full (X0 : Vec Ideal S4096x5632 .bf16) (X1 : Vec Ideal S4096x5632 .bf16) (X2 : Vec Ideal S2048x5632 .bf16) (X3 : Vec Ideal S2048x5632 .bf16) (p : Fin 4096) (q : Fin 2048) : EReal :=
  (∑ k : Fin 5632, X0 (ix2 p k) * X2 (ix2 q k)) + (∑ k : Fin 5632, X1 (ix2 p k) * X3 (ix2 q k))

theorem sum_term (X0 : Vec Ideal S4096x5632 .bf16) (X1 : Vec Ideal S4096x5632 .bf16) (X2 : Vec Ideal S2048x5632 .bf16) (X3 : Vec Ideal S2048x5632 .bf16) (r : ℕ) (p : Fin 1024) (q : Fin 1024) :
    ∑ b ∈ Finset.range 4, term X0 X1 X2 X3 r b p q = full X0 X1 X2 X3 (row r p) (col r q) := by
  unfold term full
  rw [Finset.sum_add_distrib]
  refine congrArg₂ (· + ·) ?_ ?_
  · exact sum_blocks (by decide) 1408 4 (by decide) (fun k : Fin 5632 => X0 (ix2 (row r p) k) * X2 (ix2 (col r q) k))
  · exact sum_blocks (by decide) 1408 4 (by decide) (fun k : Fin 5632 => X1 (ix2 (row r p) k) * X3 (ix2 (col r q) k))

/-- What the last point of a run leaves in the output's block. -/
theorem out_eq (t : Fin cfg0.N) (ht : t.val % 4 = 3) (p : Fin 1024) (q : Fin 1024) :
    (outsAt0 m c t.val t.isLt).1 (ix2 p q) = full (V m c main_arg0) (V m c main_arg1) (V m c main_arg2) (V m c main_arg3) (row (t.val / 4) p) (col (t.val / 4) q) := by
  have h0 : ¬t.val % 4 = 0 := by omega
  have e := outsAt0_C m c t h0 ht
  have a := acc_eq m c t.val t.isLt p q
  rw [e] at a ⊢
  rw [out0_C_4_eq]
  rw [sout0_C_0_eq] at a
  refine a.trans ?_
  rw [ht]
  exact sum_term (V m c main_arg0) (V m c main_arg1) (V m c main_arg2) (V m c main_arg3) (t.val / 4) p q

/-- The output array after the run. -/
theorem final_out : (dats m 0 c).arrAt 4 cfg0.N = (fun y : S4096x2048.Idx => full (V m c main_arg0) (V m c main_arg1) (V m c main_arg2) (V m c main_arg3) (y 0) (y 1)) := by
  refine (dats m 0 c).arrAt_eq_of_cover 4 _ ?_ ?_
  · intro t hf
    have ht : t.val % 4 = 3 := (flush0_4 t).mp hf
    rw [Value.flushed4]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out_eq m c t ht p q).trans ?_
    have htl := t_lt t
    have hi := idx4 t
    have e0 : ((((cfg0.win 4).blk t).view.emb (ix2 p q : S1024x1024.Idx) : S4096x2048.Idx) 0) = row (t.val / 4) p := by
      apply Fin.ext
      rw [row_val (by omega)]
      show win0_4.index t 0 * 1024 + 1 * p.val = _; rw [hi.1]; omega
    have e1 : ((((cfg0.win 4).blk t).view.emb (ix2 p q : S1024x1024.Idx) : S4096x2048.Idx) 1) = col (t.val / 4) q := by
      apply Fin.ext
      rw [col_val]
      show win0_4.index t 1 * 1024 + 1 * q.val = _; rw [hi.2]; omega
    show _ = full (V m c main_arg0) (V m c main_arg1) (V m c main_arg2) (V m c main_arg3) ((((cfg0.win 4).blk t).view.emb (ix2 p q : S1024x1024.Idx) : S4096x2048.Idx) 0) ((((cfg0.win 4).blk t).view.emb (ix2 p q : S1024x1024.Idx) : S4096x2048.Idx) 1)
    rw [e0, e1]
  · intro i
    exact (Value.covered_iff4 i).2 (by have h0 : (i 0).val < 4096 := (i 0).isLt; have h1 : (i 1).val < 2048 := (i 1).isLt; omega)

/-! ## The reference's product, and the claim -/

theorem ref_eq : (dats m 0 c).arrAt 4 cfg0.N = val_main_v9 (F := Ideal) (m ((c : Thread nD τ).loc main_arg0)) (m ((c : Thread nD τ).loc main_arg1)) (m ((c : Thread nD τ).loc main_arg2)) (m ((c : Thread nD τ).loc main_arg3)) := by
  rw [final_out]
  funext y
  obtain ⟨p, q, rfl⟩ : ∃ (p : Fin 4096) (q : Fin 2048), y = ix2 p q := ⟨y 0, y 1, eq_ix2 y⟩
  have hV : full (V m c main_arg0) (V m c main_arg1) (V m c main_arg2) (V m c main_arg3) p q = full (m ((c : Thread nD τ).loc main_arg0)) (m ((c : Thread nD τ).loc main_arg1)) (m ((c : Thread nD τ).loc main_arg2)) (m ((c : Thread nD τ).loc main_arg3)) p q := by rw [V_main_arg0, V_main_arg1, V_main_arg2, V_main_arg3]
  refine hV.trans ?_
  unfold full
  pointwise [val_main_v9, val_main_v8, val_main_v7, val_main_v6, val_main_v5, val_main_v3, val_main_v1]
  exact add_comm _ _

set_option maxHeartbeats 2000000 in
/-- The kernel's product and the reference's are equal, on any arguments. -/
theorem algebraic : Cert.algebraic_Kernel3Ideal_Reference3Ideal := by
  intro m ρ m' ρ' _ hagree
  refine ⟨fun c => (dats m 0 c).arrAt 4 cfg0.N, ?_, ?_⟩
  · exact Value.run_blocks m ρ
  · refine (θ_run Cert.Reference3Ideal.defs _ _).mono (fun r h c => ?_) (Cert.Reference3Ideal.Value.run (F := Ideal) m' ρ')
    obtain ⟨a0, a1, a2, a3⟩ := hagree c
    obtain ⟨w0, w1⟩ := h c
    refine ⟨w0.trans ?_, w1⟩
    rw [val_main_v9_eq, a0, a1, a2, a3]
    exact (ref_eq m c).symm

end Cert.Kernel3Ideal.Hand
-- ==== Proof.DwGate.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Sums

/-! The gradient of the gate projection's weights, `vᵀ dgt`, summed over the positions in four blocks. -/

@[expose] public section

set_option maxRecDepth 16384

noncomputable section

namespace Cert.Kernel4Ideal.Hand

open Idealize.ShloMosaic.TcCoe Idealize.SL.Sem
open Cert.Kernel4Ideal Cert.Kernel4Ideal.Gen Idealize.ShloMosaic
open Cert.Sums Cert.Reference4Ideal.Read

/-! ## What the body stores, in each of its three cases -/

section
variable (c : Dev nD) (i : grid0.Coords) (arg3 : Memref sig .tc .vmem S1024x2048 .bf16) (harg3 : arg3.IsWhole)
  (arg4 : Memref sig .tc .vmem S1024x1408 .bf16) (harg4 : arg4.IsWhole)
  (arg5 : Memref sig .tc .vmem S2048x1408 .bf16) (harg5 : arg5.IsWhole)
  (arg6 : Memref sig .tc .vmem S2048x1408 .f32) (harg6 : arg6.IsWhole)
  (x0 : Vec Ideal S1024x2048 .bf16) (x1 : Vec Ideal S1024x1408 .bf16)

set_option maxHeartbeats 1000000 in
theorem sout0_A_0_eq (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : ¬cond0_1 i) (xs0 : Vec Ideal S2048x1408 .f32) :
    sout0_B_0 c i arg3 harg3 arg4 harg4 arg5 harg5 arg6 harg6 hc0 hc1 x0 x1 xs0 = k0_pay2 (xs0) x0 x1 := by
  unfold sout0_B_0
  rw [View.read_writes_eq_canon _ _ _ (scover0_B_0 _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem sout0_C_0_eq (hc0 : ¬cond0_0 i) (hc1 : cond0_1 i) (xs0 : Vec Ideal S2048x1408 .f32) :
    sout0_C_0 c i arg3 harg3 arg4 harg4 arg5 harg5 arg6 harg6 hc0 hc1 x0 x1 xs0 = k0_pay2 (xs0) x0 x1 := by
  unfold sout0_C_0
  rw [View.read_writes_eq_canon _ _ _ (scover0_C_0 _ _ _ _ _ _ _ _ _ _ _ _ _ _ _)]
  unfold kernelRun0_C
  dsimp only
  sl_unfold_words
  simp only [View.readAt_eq_ld, Memref.IsWhole.read_unread, View.readCov_cons_toLoadRect, canon2, ld2]

set_option maxHeartbeats 1000000 in
theorem out0_C_2_eq (hc0 : ¬cond0_0 i) (hc1 : cond0_1 i) (xs0 : Vec Ideal S2048x1408 .f32) :
    out0_C_2 c i arg3 harg3 arg4 harg4 arg5 harg5 arg6 harg6 hc0 hc1 x0 x1 xs0 = k0_pay3 (k0_pay2 (xs0) x0 x1) := by
  unfold out0_C_2
  rw [View.read_writes_eq_canon _ _ _ (cover0_C_2 _ _ _ _ _ _ _ _ _ _ _ _ _ _ _)]
  unfold kernelRun0_C
  dsimp only
  sl_unfold_words
  simp only [View.readAt_eq_ld, Memref.IsWhole.read_unread, View.readCov_cons_toLoadRect, canon2, ld2]

end

theorem pay1_apply (p : Fin 2048) (q : Fin 1408) : k0_pay1 (F := Ideal) (ix2 p q) = (0 : EReal) := by
  pointwise [k0_pay1]

theorem pay2_apply (a : Vec Ideal S2048x1408 .f32) (x0 : Vec Ideal S1024x2048 .bf16) (x1 : Vec Ideal S1024x1408 .bf16) (p : Fin 2048) (q : Fin 1408) :
    k0_pay2 a x0 x1 (ix2 p q) = a (ix2 p q) + ((∑ j : Fin 1024, x0 (ix2 j p) * x1 (ix2 j q))) := by
  pointwise [k0_pay2]

theorem pay3_apply (a : Vec Ideal S2048x1408 .f32) (p : Fin 2048) (q : Fin 1408) : k0_pay3 a (ix2 p q) = a (ix2 p q) := by
  pointwise [k0_pay3]

/-! ## The blocks of the arrays -/

/-- The row, the column and the summed position that a point's block and a place in it stand for: run `r` of the grid is
    block `r / 4` of rows and block `r % 4` of columns. -/
def row (r : ℕ) (p : Fin 2048) : Fin 2048 := at' (by decide) 2048 (r / 4) p.val
def col (r : ℕ) (q : Fin 1408) : Fin 5632 := at' (by decide) 1408 (r % 4) q.val
def kk (b j : ℕ) : Fin 4096 := at' (by decide) 1024 b j

theorem idx0 : ∀ t : Fin grid0.N, win0_0.index t 0 = t.val % 4 ∧ win0_0.index t 1 = t.val / 4 / 4 := by decide +kernel
theorem idx1 : ∀ t : Fin grid0.N, win0_1.index t 0 = t.val % 4 ∧ win0_1.index t 1 = t.val / 4 % 4 := by decide +kernel
theorem idx2 : ∀ t : Fin grid0.N, win0_2.index t 0 = t.val / 4 / 4 ∧ win0_2.index t 1 = t.val / 4 % 4 := by decide +kernel
theorem t_lt (t : Fin cfg0.N) : t.val < 16 := lt_of_lt_of_eq t.isLt N_0
theorem row_val {r : ℕ} (hr : r < 4) (p : Fin 2048) : (row r p).val = 2048 * (r / 4) + p.val := at'_val _ (by have := p.isLt; omega)
theorem col_val (r : ℕ) (q : Fin 1408) : (col r q).val = 1408 * (r % 4) + q.val := at'_val _ (by have := q.isLt; omega)
theorem kk_val {b : ℕ} (hb : b < 4) (j : Fin 1024) : (kk b j.val).val = 1024 * b + j.val := at'_val _ (by have := j.isLt; omega)

theorem rd0 (X : Vec Ideal S4096x2048 .bf16) (t : Fin cfg0.N) (j : Fin 1024) (p : Fin 2048) :
    ((cfg0.win 0).blk t).view.read (Elt Ideal) X (ix2 j p) = X (ix2 (kk (t.val % 4) j.val) (row (t.val / 4) p)) := by
  have ht := t_lt t
  have hr : t.val / 4 < 4 := by omega
  have hk : t.val % 4 < 4 := Nat.mod_lt _ (by decide)
  rw [View.read_apply]
  refine congrArg X ?_
  funext a
  apply Fin.ext
  match a with
  | ⟨0, _⟩ => show win0_0.index t 0 * 1024 + 1 * j.val = (kk (t.val % 4) j.val).val; rw [(idx0 t).1, kk_val hk j]; omega
  | ⟨1, _⟩ => show win0_0.index t 1 * 2048 + 1 * p.val = (row (t.val / 4) p).val; rw [(idx0 t).2, row_val hr p]; omega

theorem rd1 (X : Vec Ideal S4096x5632 .bf16) (t : Fin cfg0.N) (j : Fin 1024) (q : Fin 1408) :
    ((cfg0.win 1).blk t).view.read (Elt Ideal) X (ix2 j q) = X (ix2 (kk (t.val % 4) j.val) (col (t.val / 4) q)) := by
  have ht := t_lt t
  have hr : t.val / 4 < 4 := by omega
  have hk : t.val % 4 < 4 := Nat.mod_lt _ (by decide)
  rw [View.read_apply]
  refine congrArg X ?_
  funext a
  apply Fin.ext
  match a with
  | ⟨0, _⟩ => show win0_1.index t 0 * 1024 + 1 * j.val = (kk (t.val % 4) j.val).val; rw [(idx1 t).1, kk_val hk j]; omega
  | ⟨1, _⟩ => show win0_1.index t 1 * 1408 + 1 * q.val = (col (t.val / 4) q).val; rw [(idx1 t).2, col_val _ q]; omega

/-- What block `b` of the summed axis adds to a place of run `r`'s block. -/
def term (X0 : Vec Ideal S4096x2048 .bf16) (X1 : Vec Ideal S4096x5632 .bf16) (r b : ℕ) (p : Fin 2048) (q : Fin 1408) : EReal :=
  (∑ j : Fin 1024, X0 (ix2 (kk b j.val) (row r p)) * X1 (ix2 (kk b j.val) (col r q)))

variable (m : (ℓ : Loc nD τ sig) → Buf (Elt Ideal) ℓ) (c : Dev nD)

theorem step_eq (t : Fin cfg0.N) (a : Vec Ideal S2048x1408 .f32) (p : Fin 2048) (q : Fin 1408) :
    k0_pay2 a (iblk m c 0 t) (iblk m c 1 t) (ix2 p q) = a (ix2 p q) + term (V m c main_arg0) (V m c main_arg1) (t.val / 4) (t.val % 4) p q := by
  refine (pay2_apply a _ _ p q).trans ?_
  refine congrArg (a (ix2 p q) + ·) ?_
  unfold term
  exact Finset.sum_congr rfl fun j _ => congrArg₂ (· * ·) (rd0 (V m c main_arg0) t j p) (rd1 (V m c main_arg1) t j q)

/-- The running sum after a point: the blocks of the summed axis visited so far. -/
theorem acc_eq : ∀ (n : ℕ) (hn : n < cfg0.N) (p : Fin 2048) (q : Fin 1408),
    (outsAt0 m c n hn).2 (ix2 p q) = ∑ b ∈ Finset.range (n % 4 + 1), term (V m c main_arg0) (V m c main_arg1) (n / 4) b p q := by
  intro n
  induction n with
  | zero =>
    intro hn p q
    have e := outsAt0_A m c ⟨0, hn⟩ rfl (show ¬(0 % 4 = 3) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 4 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 4 = n % 4 + 1 := by omega
      have h2 : (n + 1) / 4 = n / 4 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 4 = 3
        · have e := outsAt0_C m c ⟨n + 1, hn⟩ h0 h3
          rw [sout0_C_0_eq] at e
          exact congrArg Prod.snd e
        · have e := outsAt0_B m c ⟨n + 1, hn⟩ h0 h3
          rw [sout0_B_0_eq] at e
          exact congrArg Prod.snd e
      refine (congrFun key _).trans ((step_eq m c ⟨n + 1, hn⟩ _ p q).trans ?_)
      rw [ih]
      show _ + term (V m c main_arg0) (V m c main_arg1) ((n + 1) / 4) ((n + 1) % 4) p q = _
      rw [h1, h2, Finset.sum_range_succ _ (n % 4 + 1)]

/-- The whole product at an index. -/
def full (X0 : Vec Ideal S4096x2048 .bf16) (X1 : Vec Ideal S4096x5632 .bf16) (p : Fin 2048) (q : Fin 5632) : EReal :=
  (∑ k : Fin 4096, X0 (ix2 k p) * X1 (ix2 k q))

theorem sum_term (X0 : Vec Ideal S4096x2048 .bf16) (X1 : Vec Ideal S4096x5632 .bf16) (r : ℕ) (p : Fin 2048) (q : Fin 1408) :
    ∑ b ∈ Finset.range 4, term X0 X1 r b p q = full X0 X1 (row r p) (col r q) := by
  unfold term full
  exact sum_blocks (by decide) 1024 4 (by decide) (fun k : Fin 4096 => X0 (ix2 k (row r p)) * X1 (ix2 k (col r q)))

/-- What the last point of a run leaves in the output's block. -/
theorem out_eq (t : Fin cfg0.N) (ht : t.val % 4 = 3) (p : Fin 2048) (q : Fin 1408) :
    (outsAt0 m c t.val t.isLt).1 (ix2 p q) = full (V m c main_arg0) (V m c main_arg1) (row (t.val / 4) p) (col (t.val / 4) q) := by
  have h0 : ¬t.val % 4 = 0 := by omega
  have e := outsAt0_C m c t h0 ht
  have a := acc_eq m c t.val t.isLt p q
  rw [e] at a ⊢
  rw [out0_C_2_eq]
  rw [sout0_C_0_eq] at a
  refine (pay3_apply _ p q).trans (a.trans ?_)
  rw [ht]
  exact sum_term (V m c main_arg0) (V m c main_arg1) (t.val / 4) p q

/-- The output array after the run. -/
theorem final_out : (dats m 0 c).arrAt 2 cfg0.N = (fun y : S2048x5632.Idx => full (V m c main_arg0) (V m c main_arg1) (y 0) (y 1)) := by
  refine (dats m 0 c).arrAt_eq_of_cover 2 _ ?_ ?_
  · intro t hf
    have ht : t.val % 4 = 3 := (flush0_2 t).mp hf
    rw [Value.flushed2]
    funext y
    obtain ⟨p, q, rfl⟩ : ∃ (p : Fin 2048) (q : Fin 1408), y = (ix2 p q : S2048x1408.Idx) := ⟨y 0, y 1, by funext a; match a with | ⟨0, _⟩ => rfl | ⟨1, _⟩ => rfl⟩
    rw [View.read_apply]
    refine (out_eq m c t ht p q).trans ?_
    have htl := t_lt t
    have hi := idx2 t
    have e0 : ((((cfg0.win 2).blk t).view.emb (ix2 p q : S2048x1408.Idx) : S2048x5632.Idx) 0) = row (t.val / 4) p := by
      apply Fin.ext
      rw [row_val (by omega)]
      show win0_2.index t 0 * 2048 + 1 * p.val = _; rw [hi.1]; omega
    have e1 : ((((cfg0.win 2).blk t).view.emb (ix2 p q : S2048x1408.Idx) : S2048x5632.Idx) 1) = col (t.val / 4) q := by
      apply Fin.ext
      rw [col_val]
      show win0_2.index t 1 * 1408 + 1 * q.val = _; rw [hi.2]; omega
    show _ = full (V m c main_arg0) (V m c main_arg1) ((((cfg0.win 2).blk t).view.emb (ix2 p q : S2048x1408.Idx) : S2048x5632.Idx) 0) ((((cfg0.win 2).blk t).view.emb (ix2 p q : S2048x1408.Idx) : S2048x5632.Idx) 1)
    rw [e0, e1]
  · intro i
    exact (Value.covered_iff2 i).2 (by have h0 : (i 0).val < 2048 := (i 0).isLt; have h1 : (i 1).val < 5632 := (i 1).isLt; omega)

/-! ## The reference's product, and the claim -/

theorem ref_eq : (dats m 0 c).arrAt 2 cfg0.N = val_main_v6 (F := Ideal) (m ((c : Thread nD τ).loc main_arg0)) (m ((c : Thread nD τ).loc main_arg1)) := by
  rw [final_out]
  funext y
  obtain ⟨p, q, rfl⟩ : ∃ (p : Fin 2048) (q : Fin 5632), y = ix2 p q := ⟨y 0, y 1, eq_ix2 y⟩
  have hV : full (V m c main_arg0) (V m c main_arg1) p q = full (m ((c : Thread nD τ).loc main_arg0)) (m ((c : Thread nD τ).loc main_arg1)) p q := by rw [V_main_arg0, V_main_arg1]
  refine hV.trans ?_
  unfold full
  pointwise [val_main_v6, val_main_v5, val_main_v4, val_main_v3, val_main_v1]
  exact Finset.sum_congr rfl fun k _ => mul_comm _ _

set_option maxHeartbeats 2000000 in
/-- The kernel's product and the reference's are equal, on any arguments. -/
theorem algebraic : Cert.algebraic_Kernel4Ideal_Reference4Ideal := by
  intro m ρ m' ρ' _ hagree
  refine ⟨fun c => (dats m 0 c).arrAt 2 cfg0.N, ?_, ?_⟩
  · exact Value.run_blocks m ρ
  · refine (θ_run Cert.Reference4Ideal.defs _ _).mono (fun r h c => ?_) (Cert.Reference4Ideal.Value.run (F := Ideal) m' ρ')
    obtain ⟨a0, a1⟩ := hagree c
    obtain ⟨w0, w1⟩ := h c
    refine ⟨w0.trans ?_, w1⟩
    rw [val_main_v6_eq, a0, a1]
    exact (ref_eq m c).symm

end Cert.Kernel4Ideal.Hand
-- ==== Proof.DwDown.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Sums

/-! The gradient of the down projection's weights, `actᵀ dh`, summed over the positions in four blocks. -/

@[expose] public section

set_option maxRecDepth 16384

noncomputable section

namespace Cert.Kernel5Ideal.Hand

open Idealize.ShloMosaic.TcCoe Idealize.SL.Sem
open Cert.Kernel5Ideal Cert.Kernel5Ideal.Gen Idealize.ShloMosaic
open Cert.Sums Cert.Reference5Ideal.Read

/-! ## What the body stores, in each of its three cases -/

section
variable (c : Dev nD) (i : grid0.Coords) (arg3 : Memref sig .tc .vmem S1024x1408 .bf16) (harg3 : arg3.IsWhole)
  (arg4 : Memref sig .tc .vmem S1024x2048 .bf16) (harg4 : arg4.IsWhole)
  (arg5 : Memref sig .tc .vmem S1408x2048 .bf16) (harg5 : arg5.IsWhole)
  (arg6 : Memref sig .tc .vmem S1408x2048 .f32) (harg6 : arg6.IsWhole)
  (x0 : Vec Ideal S1024x1408 .bf16) (x1 : Vec Ideal S1024x2048 .bf16)

set_option maxHeartbeats 1000000 in
theorem sout0_A_0_eq (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : ¬cond0_1 i) (xs0 : Vec Ideal S1408x2048 .f32) :
    sout0_B_0 c i arg3 harg3 arg4 harg4 arg5 harg5 arg6 harg6 hc0 hc1 x0 x1 xs0 = k0_pay2 (xs0) x0 x1 := by
  unfold sout0_B_0
  rw [View.read_writes_eq_canon _ _ _ (scover0_B_0 _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem sout0_C_0_eq (hc0 : ¬cond0_0 i) (hc1 : cond0_1 i) (xs0 : Vec Ideal S1408x2048 .f32) :
    sout0_C_0 c i arg3 harg3 arg4 harg4 arg5 harg5 arg6 harg6 hc0 hc1 x0 x1 xs0 = k0_pay2 (xs0) x0 x1 := by
  unfold sout0_C_0
  rw [View.read_writes_eq_canon _ _ _ (scover0_C_0 _ _ _ _ _ _ _ _ _ _ _ _ _ _ _)]
  unfold kernelRun0_C
  dsimp only
  sl_unfold_words
  simp only [View.readAt_eq_ld, Memref.IsWhole.read_unread, View.readCov_cons_toLoadRect, canon2, ld2]

set_option maxHeartbeats 1000000 in
theorem out0_C_2_eq (hc0 : ¬cond0_0 i) (hc1 : cond0_1 i) (xs0 : Vec Ideal S1408x2048 .f32) :
    out0_C_2 c i arg3 harg3 arg4 harg4 arg5 harg5 arg6 harg6 hc0 hc1 x0 x1 xs0 = k0_pay3 (k0_pay2 (xs0) x0 x1) := by
  unfold out0_C_2
  rw [View.read_writes_eq_canon _ _ _ (cover0_C_2 _ _ _ _ _ _ _ _ _ _ _ _ _ _ _)]
  unfold kernelRun0_C
  dsimp only
  sl_unfold_words
  simp only [View.readAt_eq_ld, Memref.IsWhole.read_unread, View.readCov_cons_toLoadRect, canon2, ld2]

end

theorem pay1_apply (p : Fin 1408) (q : Fin 2048) : k0_pay1 (F := Ideal) (ix2 p q) = (0 : EReal) := by
  pointwise [k0_pay1]

theorem pay2_apply (a : Vec Ideal S1408x2048 .f32) (x0 : Vec Ideal S1024x1408 .bf16) (x1 : Vec Ideal S1024x2048 .bf16) (p : Fin 1408) (q : Fin 2048) :
    k0_pay2 a x0 x1 (ix2 p q) = a (ix2 p q) + ((∑ j : Fin 1024, x0 (ix2 j p) * x1 (ix2 j q))) := by
  pointwise [k0_pay2]

theorem pay3_apply (a : Vec Ideal S1408x2048 .f32) (p : Fin 1408) (q : Fin 2048) : k0_pay3 a (ix2 p q) = a (ix2 p q) := by
  pointwise [k0_pay3]

/-! ## The blocks of the arrays -/

/-- The row, the column and the summed position that a point's block and a place in it stand for: run `r` of the grid is
    block `r / 1` of rows and block `r % 1` of columns. -/
def row (r : ℕ) (p : Fin 1408) : Fin 5632 := at' (by decide) 1408 (r / 1) p.val
def col (r : ℕ) (q : Fin 2048) : Fin 2048 := at' (by decide) 2048 (r % 1) q.val
def kk (b j : ℕ) : Fin 4096 := at' (by decide) 1024 b j

theorem idx0 : ∀ t : Fin grid0.N, win0_0.index t 0 = t.val % 4 ∧ win0_0.index t 1 = t.val / 4 / 1 := by decide +kernel
theorem idx1 : ∀ t : Fin grid0.N, win0_1.index t 0 = t.val % 4 ∧ win0_1.index t 1 = t.val / 4 % 1 := by decide +kernel
theorem idx2 : ∀ t : Fin grid0.N, win0_2.index t 0 = t.val / 4 / 1 ∧ win0_2.index t 1 = t.val / 4 % 1 := by decide +kernel
theorem t_lt (t : Fin cfg0.N) : t.val < 16 := lt_of_lt_of_eq t.isLt N_0
theorem row_val {r : ℕ} (hr : r < 4) (p : Fin 1408) : (row r p).val = 1408 * (r / 1) + p.val := at'_val _ (by have := p.isLt; omega)
theorem col_val (r : ℕ) (q : Fin 2048) : (col r q).val = 2048 * (r % 1) + q.val := at'_val _ (by have := q.isLt; omega)
theorem kk_val {b : ℕ} (hb : b < 4) (j : Fin 1024) : (kk b j.val).val = 1024 * b + j.val := at'_val _ (by have := j.isLt; omega)

theorem rd0 (X : Vec Ideal S4096x5632 .bf16) (t : Fin cfg0.N) (j : Fin 1024) (p : Fin 1408) :
    ((cfg0.win 0).blk t).view.read (Elt Ideal) X (ix2 j p) = X (ix2 (kk (t.val % 4) j.val) (row (t.val / 4) p)) := by
  have ht := t_lt t
  have hr : t.val / 4 < 4 := by omega
  have hk : t.val % 4 < 4 := Nat.mod_lt _ (by decide)
  rw [View.read_apply]
  refine congrArg X ?_
  funext a
  apply Fin.ext
  match a with
  | ⟨0, _⟩ => show win0_0.index t 0 * 1024 + 1 * j.val = (kk (t.val % 4) j.val).val; rw [(idx0 t).1, kk_val hk j]; omega
  | ⟨1, _⟩ => show win0_0.index t 1 * 1408 + 1 * p.val = (row (t.val / 4) p).val; rw [(idx0 t).2, row_val hr p]; omega

theorem rd1 (X : Vec Ideal S4096x2048 .bf16) (t : Fin cfg0.N) (j : Fin 1024) (q : Fin 2048) :
    ((cfg0.win 1).blk t).view.read (Elt Ideal) X (ix2 j q) = X (ix2 (kk (t.val % 4) j.val) (col (t.val / 4) q)) := by
  have ht := t_lt t
  have hr : t.val / 4 < 4 := by omega
  have hk : t.val % 4 < 4 := Nat.mod_lt _ (by decide)
  rw [View.read_apply]
  refine congrArg X ?_
  funext a
  apply Fin.ext
  match a with
  | ⟨0, _⟩ => show win0_1.index t 0 * 1024 + 1 * j.val = (kk (t.val % 4) j.val).val; rw [(idx1 t).1, kk_val hk j]; omega
  | ⟨1, _⟩ => show win0_1.index t 1 * 2048 + 1 * q.val = (col (t.val / 4) q).val; rw [(idx1 t).2, col_val _ q]; omega

/-- What block `b` of the summed axis adds to a place of run `r`'s block. -/
def term (X0 : Vec Ideal S4096x5632 .bf16) (X1 : Vec Ideal S4096x2048 .bf16) (r b : ℕ) (p : Fin 1408) (q : Fin 2048) : EReal :=
  (∑ j : Fin 1024, X0 (ix2 (kk b j.val) (row r p)) * X1 (ix2 (kk b j.val) (col r q)))

variable (m : (ℓ : Loc nD τ sig) → Buf (Elt Ideal) ℓ) (c : Dev nD)

theorem step_eq (t : Fin cfg0.N) (a : Vec Ideal S1408x2048 .f32) (p : Fin 1408) (q : Fin 2048) :
    k0_pay2 a (iblk m c 0 t) (iblk m c 1 t) (ix2 p q) = a (ix2 p q) + term (V m c main_arg0) (V m c main_arg1) (t.val / 4) (t.val % 4) p q := by
  refine (pay2_apply a _ _ p q).trans ?_
  refine congrArg (a (ix2 p q) + ·) ?_
  unfold term
  exact Finset.sum_congr rfl fun j _ => congrArg₂ (· * ·) (rd0 (V m c main_arg0) t j p) (rd1 (V m c main_arg1) t j q)

/-- The running sum after a point: the blocks of the summed axis visited so far. -/
theorem acc_eq : ∀ (n : ℕ) (hn : n < cfg0.N) (p : Fin 1408) (q : Fin 2048),
    (outsAt0 m c n hn).2 (ix2 p q) = ∑ b ∈ Finset.range (n % 4 + 1), term (V m c main_arg0) (V m c main_arg1) (n / 4) b p q := by
  intro n
  induction n with
  | zero =>
    intro hn p q
    have e := outsAt0_A m c ⟨0, hn⟩ rfl (show ¬(0 % 4 = 3) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 4 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 4 = n % 4 + 1 := by omega
      have h2 : (n + 1) / 4 = n / 4 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 4 = 3
        · have e := outsAt0_C m c ⟨n + 1, hn⟩ h0 h3
          rw [sout0_C_0_eq] at e
          exact congrArg Prod.snd e
        · have e := outsAt0_B m c ⟨n + 1, hn⟩ h0 h3
          rw [sout0_B_0_eq] at e
          exact congrArg Prod.snd e
      refine (congrFun key _).trans ((step_eq m c ⟨n + 1, hn⟩ _ p q).trans ?_)
      rw [ih]
      show _ + term (V m c main_arg0) (V m c main_arg1) ((n + 1) / 4) ((n + 1) % 4) p q = _
      rw [h1, h2, Finset.sum_range_succ _ (n % 4 + 1)]

/-- The whole product at an index. -/
def full (X0 : Vec Ideal S4096x5632 .bf16) (X1 : Vec Ideal S4096x2048 .bf16) (p : Fin 5632) (q : Fin 2048) : EReal :=
  (∑ k : Fin 4096, X0 (ix2 k p) * X1 (ix2 k q))

theorem sum_term (X0 : Vec Ideal S4096x5632 .bf16) (X1 : Vec Ideal S4096x2048 .bf16) (r : ℕ) (p : Fin 1408) (q : Fin 2048) :
    ∑ b ∈ Finset.range 4, term X0 X1 r b p q = full X0 X1 (row r p) (col r q) := by
  unfold term full
  exact sum_blocks (by decide) 1024 4 (by decide) (fun k : Fin 4096 => X0 (ix2 k (row r p)) * X1 (ix2 k (col r q)))

/-- What the last point of a run leaves in the output's block. -/
theorem out_eq (t : Fin cfg0.N) (ht : t.val % 4 = 3) (p : Fin 1408) (q : Fin 2048) :
    (outsAt0 m c t.val t.isLt).1 (ix2 p q) = full (V m c main_arg0) (V m c main_arg1) (row (t.val / 4) p) (col (t.val / 4) q) := by
  have h0 : ¬t.val % 4 = 0 := by omega
  have e := outsAt0_C m c t h0 ht
  have a := acc_eq m c t.val t.isLt p q
  rw [e] at a ⊢
  rw [out0_C_2_eq]
  rw [sout0_C_0_eq] at a
  refine (pay3_apply _ p q).trans (a.trans ?_)
  rw [ht]
  exact sum_term (V m c main_arg0) (V m c main_arg1) (t.val / 4) p q

/-- The output array after the run. -/
theorem final_out : (dats m 0 c).arrAt 2 cfg0.N = (fun y : S5632x2048.Idx => full (V m c main_arg0) (V m c main_arg1) (y 0) (y 1)) := by
  refine (dats m 0 c).arrAt_eq_of_cover 2 _ ?_ ?_
  · intro t hf
    have ht : t.val % 4 = 3 := (flush0_2 t).mp hf
    rw [Value.flushed2]
    funext y
    obtain ⟨p, q, rfl⟩ : ∃ (p : Fin 1408) (q : Fin 2048), y = (ix2 p q : S1408x2048.Idx) := ⟨y 0, y 1, by funext a; match a with | ⟨0, _⟩ => rfl | ⟨1, _⟩ => rfl⟩
    rw [View.read_apply]
    refine (out_eq m c t ht p q).trans ?_
    have htl := t_lt t
    have hi := idx2 t
    have e0 : ((((cfg0.win 2).blk t).view.emb (ix2 p q : S1408x2048.Idx) : S5632x2048.Idx) 0) = row (t.val / 4) p := by
      apply Fin.ext
      rw [row_val (by omega)]
      show win0_2.index t 0 * 1408 + 1 * p.val = _; rw [hi.1]; omega
    have e1 : ((((cfg0.win 2).blk t).view.emb (ix2 p q : S1408x2048.Idx) : S5632x2048.Idx) 1) = col (t.val / 4) q := by
      apply Fin.ext
      rw [col_val]
      show win0_2.index t 1 * 2048 + 1 * q.val = _; rw [hi.2]; omega
    show _ = full (V m c main_arg0) (V m c main_arg1) ((((cfg0.win 2).blk t).view.emb (ix2 p q : S1408x2048.Idx) : S5632x2048.Idx) 0) ((((cfg0.win 2).blk t).view.emb (ix2 p q : S1408x2048.Idx) : S5632x2048.Idx) 1)
    rw [e0, e1]
  · intro i
    exact (Value.covered_iff2 i).2 (by have h0 : (i 0).val < 5632 := (i 0).isLt; have h1 : (i 1).val < 2048 := (i 1).isLt; omega)

/-! ## The reference's product, and the claim -/

theorem ref_eq : (dats m 0 c).arrAt 2 cfg0.N = val_main_v6 (F := Ideal) (m ((c : Thread nD τ).loc main_arg0)) (m ((c : Thread nD τ).loc main_arg1)) := by
  rw [final_out]
  funext y
  obtain ⟨p, q, rfl⟩ : ∃ (p : Fin 5632) (q : Fin 2048), y = ix2 p q := ⟨y 0, y 1, eq_ix2 y⟩
  have hV : full (V m c main_arg0) (V m c main_arg1) p q = full (m ((c : Thread nD τ).loc main_arg0)) (m ((c : Thread nD τ).loc main_arg1)) p q := by rw [V_main_arg0, V_main_arg1]
  refine hV.trans ?_
  unfold full
  pointwise [val_main_v6, val_main_v5, val_main_v4, val_main_v3, val_main_v1]
  exact Finset.sum_congr rfl fun k _ => mul_comm _ _

set_option maxHeartbeats 2000000 in
/-- The kernel's product and the reference's are equal, on any arguments. -/
theorem algebraic : Cert.algebraic_Kernel5Ideal_Reference5Ideal := by
  intro m ρ m' ρ' _ hagree
  refine ⟨fun c => (dats m 0 c).arrAt 2 cfg0.N, ?_, ?_⟩
  · exact Value.run_blocks m ρ
  · refine (θ_run Cert.Reference5Ideal.defs _ _).mono (fun r h c => ?_) (Cert.Reference5Ideal.Value.run (F := Ideal) m' ρ')
    obtain ⟨a0, a1⟩ := hagree c
    obtain ⟨w0, w1⟩ := h c
    refine ⟨w0.trans ?_, w1⟩
    rw [val_main_v6_eq, a0, a1]
    exact (ref_eq m c).symm

end Cert.Kernel5Ideal.Hand
-- ==== Proof.FfnUp.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Sums
public import proofs.«01_k».proof.Proof.Gate

/-! The two up projections of the feed-forward layer and their gated product. -/

@[expose] public section

set_option maxRecDepth 16384

noncomputable section

namespace Cert.Kernel6Ideal.Hand

open Idealize.ShloMosaic.TcCoe Idealize.SL.Sem
open Cert.Kernel6Ideal Cert.Kernel6Ideal.Gen Idealize.ShloMosaic
open Cert.Sums Cert.Reference6Ideal.Read
open Cert.Gate

/-! ## What the body stores -/

theorem out0_3_eq (x0 : Vec Ideal S1024x2048 .bf16) (x1 : Vec Ideal S2048x512 .bf16) (x2 : Vec Ideal S2048x512 .bf16) : out0_3 (F := Ideal) x0 x1 x2 = k0_pay3 x0 x1 := by
  unfold out0_3
  refine (canon2 _ _).trans ?_
  show k0_pay3 (View.ld x0 (Rect.unit (s := S1024x2048) ![0, 0] ![1024, 2048] inb_S1024x2048_S1024x2048_0_0)) (View.ld x1 (Rect.unit (s := S2048x512) ![0, 0] ![2048, 512] inb_S2048x512_S2048x512_0_0)) = _
  simp only [ld2]

theorem pay3_apply (x0 : Vec Ideal S1024x2048 .bf16) (x1 : Vec Ideal S2048x512 .bf16) (x2 : Vec Ideal S2048x512 .bf16) (p : Fin 1024) (q : Fin 512) :
    k0_pay3 (F := Ideal) x0 x1 (ix2 p q) = (∑ j : Fin 2048, x0 (ix2 p j) * x1 (ix2 j q)) := by
  pointwise [k0_pay3, k0_pay2, k0_pay1]

theorem out0_4_eq (x0 : Vec Ideal S1024x2048 .bf16) (x1 : Vec Ideal S2048x512 .bf16) (x2 : Vec Ideal S2048x512 .bf16) : out0_4 (F := Ideal) x0 x1 x2 = k0_pay4 x0 x2 := by
  unfold out0_4
  refine (canon2 _ _).trans ?_
  show k0_pay4 (View.ld x0 (Rect.unit (s := S1024x2048) ![0, 0] ![1024, 2048] inb_S1024x2048_S1024x2048_0_0)) (View.ld x2 (Rect.unit (s := S2048x512) ![0, 0] ![2048, 512] inb_S2048x512_S2048x512_0_0)) = _
  simp only [ld2]

theorem pay4_apply (x0 : Vec Ideal S1024x2048 .bf16) (x1 : Vec Ideal S2048x512 .bf16) (x2 : Vec Ideal S2048x512 .bf16) (p : Fin 1024) (q : Fin 512) :
    k0_pay4 (F := Ideal) x0 x2 (ix2 p q) = (∑ j : Fin 2048, x0 (ix2 p j) * x2 (ix2 j q)) := by
  pointwise [k0_pay4, k0_pay2, k0_pay1]

theorem out0_5_eq (x0 : Vec Ideal S1024x2048 .bf16) (x1 : Vec Ideal S2048x512 .bf16) (x2 : Vec Ideal S2048x512 .bf16) : out0_5 (F := Ideal) x0 x1 x2 = k0_pay5 x0 x1 x2 := by
  unfold out0_5
  refine (canon2 _ _).trans ?_
  show k0_pay5 (View.ld x0 (Rect.unit (s := S1024x2048) ![0, 0] ![1024, 2048] inb_S1024x2048_S1024x2048_0_0)) (View.ld x1 (Rect.unit (s := S2048x512) ![0, 0] ![2048, 512] inb_S2048x512_S2048x512_0_0)) (View.ld x2 (Rect.unit (s := S2048x512) ![0, 0] ![2048, 512] inb_S2048x512_S2048x512_0_0)) = _
  simp only [ld2]

theorem pay5_apply (x0 : Vec Ideal S1024x2048 .bf16) (x1 : Vec Ideal S2048x512 .bf16) (x2 : Vec Ideal S2048x512 .bf16) (p : Fin 1024) (q : Fin 512) :
    k0_pay5 (F := Ideal) x0 x1 x2 (ix2 p q) = (∑ j : Fin 2048, x0 (ix2 p j) * x1 (ix2 j q)) * logi (∑ j : Fin 2048, x0 (ix2 p j) * x1 (ix2 j q)) * (∑ j : Fin 2048, x0 (ix2 p j) * x2 (ix2 j q)) := by
  simp only [logi_sub]
  pointwise [k0_pay5, k0_pay2, k0_pay1]

/-! ## The blocks of the arrays -/

/-- The row and the column that a point's block and a place in it stand for: point `t` is block `t / 11` of rows and block
    `t % 11` of columns. -/
def row (t : ℕ) (p : Fin 1024) : Fin 4096 := at' (by decide) 1024 (t / 11) p.val
def col (t : ℕ) (q : Fin 512) : Fin 5632 := at' (by decide) 512 (t % 11) q.val

theorem idx0 : ∀ t : Fin grid0.N, win0_0.index t 0 = t.val / 11 ∧ win0_0.index t 1 = 0 := by decide +kernel
theorem idx1 : ∀ t : Fin grid0.N, win0_1.index t 0 = 0 ∧ win0_1.index t 1 = t.val % 11 := by decide +kernel
theorem idx2 : ∀ t : Fin grid0.N, win0_2.index t 0 = 0 ∧ win0_2.index t 1 = t.val % 11 := by decide +kernel
theorem idx3 : ∀ t : Fin grid0.N, win0_3.index t 0 = t.val / 11 ∧ win0_3.index t 1 = t.val % 11 := by decide +kernel
theorem idx4 : ∀ t : Fin grid0.N, win0_4.index t 0 = t.val / 11 ∧ win0_4.index t 1 = t.val % 11 := by decide +kernel
theorem idx5 : ∀ t : Fin grid0.N, win0_5.index t 0 = t.val / 11 ∧ win0_5.index t 1 = t.val % 11 := by decide +kernel
theorem t_lt (t : Fin cfg0.N) : t.val < 44 := lt_of_lt_of_eq t.isLt N_0
theorem row_val {t : ℕ} (ht : t < 44) (p : Fin 1024) : (row t p).val = 1024 * (t / 11) + p.val := at'_val _ (by have := p.isLt; omega)
theorem col_val (t : ℕ) (q : Fin 512) : (col t q).val = 512 * (t % 11) + q.val := at'_val _ (by have := q.isLt; omega)

theorem rd0 (X : Vec Ideal S4096x2048 .bf16) (t : Fin cfg0.N) (p : Fin 1024) (j : Fin 2048) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 2048 + 1 * j.val = (j).val; rw [(idx0 t).2]; omega

theorem rd1 (X : Vec Ideal S2048x5632 .bf16) (t : Fin cfg0.N) (j : Fin 2048) (q : Fin 512) :
    ((cfg0.win 1).blk t).view.read (Elt Ideal) X (ix2 j q) = X (ix2 j (col t.val q)) := by
  have ht := t_lt t
  rw [View.read_apply]
  refine congrArg X ?_
  funext a
  apply Fin.ext
  match a with
  | ⟨0, _⟩ => show win0_1.index t 0 * 2048 + 1 * j.val = (j).val; rw [(idx1 t).1]; omega
  | ⟨1, _⟩ => show win0_1.index t 1 * 512 + 1 * q.val = ((col t.val q)).val; rw [(idx1 t).2, col_val _ q]; omega

theorem rd2 (X : Vec Ideal S2048x5632 .bf16) (t : Fin cfg0.N) (j : Fin 2048) (q : Fin 512) :
    ((cfg0.win 2).blk t).view.read (Elt Ideal) X (ix2 j q) = X (ix2 j (col t.val q)) := by
  have ht := t_lt t
  rw [View.read_apply]
  refine congrArg X ?_
  funext a
  apply Fin.ext
  match a with
  | ⟨0, _⟩ => show win0_2.index t 0 * 2048 + 1 * j.val = (j).val; rw [(idx2 t).1]; omega
  | ⟨1, _⟩ => show win0_2.index t 1 * 512 + 1 * q.val = ((col t.val q)).val; rw [(idx2 t).2, col_val _ q]; omega

/-- Output 3 of the whole computation at an index. -/
def full3 (X0 : Vec Ideal S4096x2048 .bf16) (X1 : Vec Ideal S2048x5632 .bf16) (X2 : Vec Ideal S2048x5632 .bf16) (p : Fin 4096) (q : Fin 5632) : EReal :=
  (∑ j : Fin 2048, X0 (ix2 p j) * X1 (ix2 j q))

/-- Output 4 of the whole computation at an index. -/
def full4 (X0 : Vec Ideal S4096x2048 .bf16) (X1 : Vec Ideal S2048x5632 .bf16) (X2 : Vec Ideal S2048x5632 .bf16) (p : Fin 4096) (q : Fin 5632) : EReal :=
  (∑ j : Fin 2048, X0 (ix2 p j) * X2 (ix2 j q))

/-- Output 5 of the whole computation at an index. -/
def full5 (X0 : Vec Ideal S4096x2048 .bf16) (X1 : Vec Ideal S2048x5632 .bf16) (X2 : Vec Ideal S2048x5632 .bf16) (p : Fin 4096) (q : Fin 5632) : EReal :=
  (∑ j : Fin 2048, X0 (ix2 p j) * X1 (ix2 j q)) * logi (∑ j : Fin 2048, X0 (ix2 p j) * X1 (ix2 j q)) * (∑ j : Fin 2048, X0 (ix2 p j) * X2 (ix2 j q))

variable (m : (ℓ : Loc nD τ sig) → Buf (Elt Ideal) ℓ) (c : Dev nD)

theorem out3_eq (t : Fin cfg0.N) (p : Fin 1024) (q : Fin 512) :
    out0_3 (F := Ideal) (iblk m c 0 t) (iblk m c 1 t) (iblk m c 2 t) (ix2 p q) = full3 (V m c main_arg0) (V m c main_arg1) (V m c main_arg2) (row t.val p) (col t.val q) := by
  rw [out0_3_eq]
  refine (pay3_apply (iblk m c 0 t) (iblk m c 1 t) (iblk m c 2 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 j q) = V m c main_arg1 (ix2 j (col t.val q)) := fun j => rd1 (V m c main_arg1) t j q
  unfold full3
  simp only [h0, h1]

theorem final3 : (dats m 0 c).arrAt 3 cfg0.N = (fun y : S4096x5632.Idx => full3 (V m c main_arg0) (V m c main_arg1) (V m c main_arg2) (y 0) (y 1)) := by
  refine (dats m 0 c).arrAt_eq_of_cover 3 _ ?_ ?_
  · intro t _
    rw [Value.flushed3]
    funext y
    obtain ⟨p, q, rfl⟩ : ∃ (p : Fin 1024) (q : Fin 512), y = (ix2 p q : S1024x512.Idx) := ⟨y 0, y 1, by funext a; match a with | ⟨0, _⟩ => rfl | ⟨1, _⟩ => rfl⟩
    rw [View.read_apply]
    refine (out3_eq m c t p q).trans ?_
    have htl := t_lt t
    have hi := idx3 t
    have e0 : ((((cfg0.win 3).blk t).view.emb (ix2 p q : S1024x512.Idx) : S4096x5632.Idx) 0) = row t.val p := by
      apply Fin.ext
      rw [row_val htl]
      show win0_3.index t 0 * 1024 + 1 * p.val = _; rw [hi.1]; omega
    have e1 : ((((cfg0.win 3).blk t).view.emb (ix2 p q : S1024x512.Idx) : S4096x5632.Idx) 1) = col t.val q := by
      apply Fin.ext
      rw [col_val]
      show win0_3.index t 1 * 512 + 1 * q.val = _; rw [hi.2]; omega
    show _ = full3 (V m c main_arg0) (V m c main_arg1) (V m c main_arg2) ((((cfg0.win 3).blk t).view.emb (ix2 p q : S1024x512.Idx) : S4096x5632.Idx) 0) ((((cfg0.win 3).blk t).view.emb (ix2 p q : S1024x512.Idx) : S4096x5632.Idx) 1)
    rw [e0, e1]
  · intro i
    have h0 : (i 0).val < 4096 := (i 0).isLt
    have h1 : (i 1).val < 5632 := (i 1).isLt
    refine ⟨⟨11 * ((i 0).val / 1024) + (i 1).val / 512, lt_of_lt_of_eq (by omega : _ < 44) N_0.symm⟩, flush0_3 _, ?_⟩
    generalize ht : (⟨11 * ((i 0).val / 1024) + (i 1).val / 512, _⟩ : Fin cfg0.N) = t
    have tv : t.val = 11 * ((i 0).val / 1024) + (i 1).val / 512 := by rw [← ht]
    have hi := idx3 t
    show i ∈ ((View.whole main_v0_0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [hi.1]; omega
    | ⟨1, _⟩ => show win0_3.index t 1 * 512 ≤ (i 1).val ∧ (i 1).val < win0_3.index t 1 * 512 + 512; rw [hi.2]; omega

theorem out4_eq (t : Fin cfg0.N) (p : Fin 1024) (q : Fin 512) :
    out0_4 (F := Ideal) (iblk m c 0 t) (iblk m c 1 t) (iblk m c 2 t) (ix2 p q) = full4 (V m c main_arg0) (V m c main_arg1) (V m c main_arg2) (row t.val p) (col t.val q) := by
  rw [out0_4_eq]
  refine (pay4_apply (iblk m c 0 t) (iblk m c 1 t) (iblk m c 2 t) p q).trans ?_
  have h0 : ∀ j : Fin 2048, iblk m c 0 t (ix2 p j) = V m c main_arg0 (ix2 (row t.val p) j) := fun j => rd0 (V m c main_arg0) t p j
  have h2 : ∀ j : Fin 2048, iblk m c 2 t (ix2 j q) = V m c main_arg2 (ix2 j (col t.val q)) := fun j => rd2 (V m c main_arg2) t j q
  unfold full4
  simp only [h0, h2]

theorem final4 : (dats m 0 c).arrAt 4 cfg0.N = (fun y : S4096x5632.Idx => full4 (V m c main_arg0) (V m c main_arg1) (V m c main_arg2) (y 0) (y 1)) := by
  refine (dats m 0 c).arrAt_eq_of_cover 4 _ ?_ ?_
  · intro t _
    rw [Value.flushed4]
    funext y
    obtain ⟨p, q, rfl⟩ : ∃ (p : Fin 1024) (q : Fin 512), y = (ix2 p q : S1024x512.Idx) := ⟨y 0, y 1, by funext a; match a with | ⟨0, _⟩ => rfl | ⟨1, _⟩ => rfl⟩
    rw [View.read_apply]
    refine (out4_eq m c t p q).trans ?_
    have htl := t_lt t
    have hi := idx4 t
    have e0 : ((((cfg0.win 4).blk t).view.emb (ix2 p q : S1024x512.Idx) : S4096x5632.Idx) 0) = row t.val p := by
      apply Fin.ext
      rw [row_val htl]
      show win0_4.index t 0 * 1024 + 1 * p.val = _; rw [hi.1]; omega
    have e1 : ((((cfg0.win 4).blk t).view.emb (ix2 p q : S1024x512.Idx) : S4096x5632.Idx) 1) = col t.val q := by
      apply Fin.ext
      rw [col_val]
      show win0_4.index t 1 * 512 + 1 * q.val = _; rw [hi.2]; omega
    show _ = full4 (V m c main_arg0) (V m c main_arg1) (V m c main_arg2) ((((cfg0.win 4).blk t).view.emb (ix2 p q : S1024x512.Idx) : S4096x5632.Idx) 0) ((((cfg0.win 4).blk t).view.emb (ix2 p q : S1024x512.Idx) : S4096x5632.Idx) 1)
    rw [e0, e1]
  · intro i
    have h0 : (i 0).val < 4096 := (i 0).isLt
    have h1 : (i 1).val < 5632 := (i 1).isLt
    refine ⟨⟨11 * ((i 0).val / 1024) + (i 1).val / 512, lt_of_lt_of_eq (by omega : _ < 44) N_0.symm⟩, flush0_4 _, ?_⟩
    generalize ht : (⟨11 * ((i 0).val / 1024) + (i 1).val / 512, _⟩ : Fin cfg0.N) = t
    have tv : t.val = 11 * ((i 0).val / 1024) + (i 1).val / 512 := by rw [← ht]
    have hi := idx4 t
    show i ∈ ((View.whole main_v0_1).slice (win0_4.rect t)).set
    rw [View.set_slice_whole, Rect.mem_set_unit]
    intro a
    match a with
    | ⟨0, _⟩ => show win0_4.index t 0 * 1024 ≤ (i 0).val ∧ (i 0).val < win0_4.index t 0 * 1024 + 1024; rw [hi.1]; omega
    | ⟨1, _⟩ => show win0_4.index t 1 * 512 ≤ (i 1).val ∧ (i 1).val < win0_4.index t 1 * 512 + 512; rw [hi.2]; omega

theorem out5_eq (t : Fin cfg0.N) (p : Fin 1024) (q : Fin 512) :
    out0_5 (F := Ideal) (iblk m c 0 t) (iblk m c 1 t) (iblk m c 2 t) (ix2 p q) = full5 (V m c main_arg0) (V m c main_arg1) (V m c main_arg2) (row t.val p) (col t.val q) := by
  rw [out0_5_eq]
  refine (pay5_apply (iblk m c 0 t) (iblk m c 1 t) (iblk m c 2 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 j q) = V m c main_arg1 (ix2 j (col t.val q)) := fun j => rd1 (V m c main_arg1) t j q
  have h2 : ∀ j : Fin 2048, iblk m c 2 t (ix2 j q) = V m c main_arg2 (ix2 j (col t.val q)) := fun j => rd2 (V m c main_arg2) t j q
  unfold full5
  simp only [h0, h1, h2]

theorem final5 : (dats m 0 c).arrAt 5 cfg0.N = (fun y : S4096x5632.Idx => full5 (V m c main_arg0) (V m c main_arg1) (V m c main_arg2) (y 0) (y 1)) := by
  refine (dats m 0 c).arrAt_eq_of_cover 5 _ ?_ ?_
  · intro t _
    rw [Value.flushed5]
    funext y
    obtain ⟨p, q, rfl⟩ : ∃ (p : Fin 1024) (q : Fin 512), y = (ix2 p q : S1024x512.Idx) := ⟨y 0, y 1, by funext a; match a with | ⟨0, _⟩ => rfl | ⟨1, _⟩ => rfl⟩
    rw [View.read_apply]
    refine (out5_eq m c t p q).trans ?_
    have htl := t_lt t
    have hi := idx5 t
    have e0 : ((((cfg0.win 5).blk t).view.emb (ix2 p q : S1024x512.Idx) : S4096x5632.Idx) 0) = row t.val p := by
      apply Fin.ext
      rw [row_val htl]
      show win0_5.index t 0 * 1024 + 1 * p.val = _; rw [hi.1]; omega
    have e1 : ((((cfg0.win 5).blk t).view.emb (ix2 p q : S1024x512.Idx) : S4096x5632.Idx) 1) = col t.val q := by
      apply Fin.ext
      rw [col_val]
      show win0_5.index t 1 * 512 + 1 * q.val = _; rw [hi.2]; omega
    show _ = full5 (V m c main_arg0) (V m c main_arg1) (V m c main_arg2) ((((cfg0.win 5).blk t).view.emb (ix2 p q : S1024x512.Idx) : S4096x5632.Idx) 0) ((((cfg0.win 5).blk t).view.emb (ix2 p q : S1024x512.Idx) : S4096x5632.Idx) 1)
    rw [e0, e1]
  · intro i
    have h0 : (i 0).val < 4096 := (i 0).isLt
    have h1 : (i 1).val < 5632 := (i 1).isLt
    refine ⟨⟨11 * ((i 0).val / 1024) + (i 1).val / 512, lt_of_lt_of_eq (by omega : _ < 44) N_0.symm⟩, flush0_5 _, ?_⟩
    generalize ht : (⟨11 * ((i 0).val / 1024) + (i 1).val / 512, _⟩ : Fin cfg0.N) = t
    have tv : t.val = 11 * ((i 0).val / 1024) + (i 1).val / 512 := by rw [← ht]
    have hi := idx5 t
    show i ∈ ((View.whole main_v0_2).slice (win0_5.rect t)).set
    rw [View.set_slice_whole, Rect.mem_set_unit]
    intro a
    match a with
    | ⟨0, _⟩ => show win0_5.index t 0 * 1024 ≤ (i 0).val ∧ (i 0).val < win0_5.index t 0 * 1024 + 1024; rw [hi.1]; omega
    | ⟨1, _⟩ => show win0_5.index t 1 * 512 ≤ (i 1).val ∧ (i 1).val < win0_5.index t 1 * 512 + 512; rw [hi.2]; omega

/-! ## The reference, and the claim -/

theorem ref3 (x0 : Vec Ideal S4096x2048 .bf16) (x1 : Vec Ideal S2048x5632 .bf16) (x2 : Vec Ideal S2048x5632 .bf16) :
    (fun y : S4096x5632.Idx => full3 x0 x1 x2 (y 0) (y 1)) = val_main_v6 (F := Ideal) x0 x1 := by
  funext y
  obtain ⟨p, q, rfl⟩ : ∃ (p : Fin 4096) (q : Fin 5632), y = ix2 p q := ⟨y 0, y 1, eq_ix2 y⟩
  show full3 x0 x1 x2 p q = _
  unfold full3
  pointwise [val_main_v6, val_main_v2, val_main_v1, val_main_v0]

theorem ref4 (x0 : Vec Ideal S4096x2048 .bf16) (x1 : Vec Ideal S2048x5632 .bf16) (x2 : Vec Ideal S2048x5632 .bf16) :
    (fun y : S4096x5632.Idx => full4 x0 x1 x2 (y 0) (y 1)) = val_main_v7 (F := Ideal) x0 x2 := by
  funext y
  obtain ⟨p, q, rfl⟩ : ∃ (p : Fin 4096) (q : Fin 5632), y = ix2 p q := ⟨y 0, y 1, eq_ix2 y⟩
  show full4 x0 x1 x2 p q = _
  unfold full4
  pointwise [val_main_v7, val_main_v5, val_main_v4, val_main_v3, val_main_v0]

theorem ref5 (x0 : Vec Ideal S4096x2048 .bf16) (x1 : Vec Ideal S2048x5632 .bf16) (x2 : Vec Ideal S2048x5632 .bf16) :
    (fun y : S4096x5632.Idx => full5 x0 x1 x2 (y 0) (y 1)) = val_main_v10 (F := Ideal) x0 x1 x2 := by
  funext y
  obtain ⟨p, q, rfl⟩ : ∃ (p : Fin 4096) (q : Fin 5632), y = ix2 p q := ⟨y 0, y 1, eq_ix2 y⟩
  show full5 x0 x1 x2 p q = _
  unfold full5 logi
  pointwise [val_main_v10, val_main_v9, val_main_v8, val_main_call0_v5, val_main_call0_v4, val_main_call0_v3, val_main_call0_v2, val_main_call0_v1, val_main_call0_v0, val_main_call0_cst, val_main_call0_cst_0, val_main_v7, val_main_v6, val_main_v5, val_main_v4, val_main_v3, val_main_v2, val_main_v1, val_main_v0]

set_option maxHeartbeats 2000000 in
/-- The kernel's and the reference's results are equal, on any arguments. -/
theorem algebraic : Cert.algebraic_Kernel6Ideal_Reference6Ideal := by
  intro m ρ m' ρ' _ hagree
  refine ⟨fun c => (dats m 0 c).arrAt 3 cfg0.N, fun c => (dats m 0 c).arrAt 4 cfg0.N, fun c => (dats m 0 c).arrAt 5 cfg0.N, ?_, ?_⟩
  · exact Value.run_blocks m ρ
  · refine (θ_run Cert.Reference6Ideal.defs _ _).mono (fun r h c => ?_) (Cert.Reference6Ideal.Value.run (F := Ideal) m' ρ')
    obtain ⟨a0, a1, a2⟩ := hagree c
    obtain ⟨w0, w1, w2, w3⟩ := h c
    refine ⟨w0.trans ?_, w1.trans ?_, w2.trans ?_, w3⟩
    · rw [val_main_v6_eq, a0, a1]
      refine (ref3 (m ((c : Thread nD τ).loc main_arg0)) (m ((c : Thread nD τ).loc main_arg1)) (m ((c : Thread nD τ).loc main_arg2))).symm.trans ?_
      show _ = (dats m 0 c).arrAt 3 cfg0.N
      rw [final3, V_main_arg0, V_main_arg1, V_main_arg2]
    · rw [val_main_v7_eq, a0, a2]
      refine (ref4 (m ((c : Thread nD τ).loc main_arg0)) (m ((c : Thread nD τ).loc main_arg1)) (m ((c : Thread nD τ).loc main_arg2))).symm.trans ?_
      show _ = (dats m 0 c).arrAt 4 cfg0.N
      rw [final4, V_main_arg0, V_main_arg1, V_main_arg2]
    · rw [val_main_v10_eq, a0, a1, a2]
      refine (ref5 (m ((c : Thread nD τ).loc main_arg0)) (m ((c : Thread nD τ).loc main_arg1)) (m ((c : Thread nD τ).loc main_arg2))).symm.trans ?_
      show _ = (dats m 0 c).arrAt 5 cfg0.N
      rw [final5, V_main_arg0, V_main_arg1, V_main_arg2]

end Cert.Kernel6Ideal.Hand
-- ==== Proof.FfnDown.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Sums

/-! The down projection added to the residual stream, `act w_down + h`, summed over the hidden channels in two blocks. -/

@[expose] public section

set_option maxRecDepth 16384

noncomputable section

namespace Cert.Kernel7Ideal.Hand

open Idealize.ShloMosaic.TcCoe Idealize.SL.Sem
open Cert.Kernel7Ideal Cert.Kernel7Ideal.Gen Idealize.ShloMosaic
open Cert.Sums Cert.Reference7Ideal.Read

/-! ## What the body stores, in each of its three cases -/

section
variable (c : Dev nD) (i : grid0.Coords) (arg3 : Memref sig .tc .vmem S1024x2816 .bf16) (harg3 : arg3.IsWhole)
  (arg4 : Memref sig .tc .vmem S2816x1024 .bf16) (harg4 : arg4.IsWhole)
  (arg5 : Memref sig .tc .vmem S1024x1024 .f32) (harg5 : arg5.IsWhole)
  (arg6 : Memref sig .tc .vmem S1024x1024 .f32) (harg6 : arg6.IsWhole)
  (arg7 : Memref sig .tc .vmem S1024x1024 .f32) (harg7 : arg7.IsWhole)
  (x0 : Vec Ideal S1024x2816 .bf16) (x1 : Vec Ideal S2816x1024 .bf16) (x2 : Vec Ideal S1024x1024 .f32)

set_option maxHeartbeats 1000000 in
theorem sout0_A_0_eq (hc0 : cond0_0 i) (hc1 : ¬cond0_1 i) :
    sout0_A_0 c i arg3 harg3 arg4 harg4 arg5 harg5 arg6 harg6 arg7 harg7 hc0 hc1 x0 x1 x2 = k0_pay2 (k0_pay1 (F := Ideal)) x0 x1 := by
  unfold sout0_A_0
  rw [View.read_writes_eq_canon _ _ _ (scover0_A_0 _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : cond0_1 i) (xs0 : Vec Ideal S1024x1024 .f32) :
    sout0_B_0 c i arg3 harg3 arg4 harg4 arg5 harg5 arg6 harg6 arg7 harg7 hc0 hc1 x0 x1 x2 xs0 = k0_pay2 (xs0) x0 x1 := by
  unfold sout0_B_0
  rw [View.read_writes_eq_canon _ _ _ (scover0_B_0 _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_3_eq (hc0 : ¬cond0_0 i) (hc1 : cond0_1 i) (xs0 : Vec Ideal S1024x1024 .f32) :
    out0_B_3 c i arg3 harg3 arg4 harg4 arg5 harg5 arg6 harg6 arg7 harg7 hc0 hc1 x0 x1 x2 xs0 = k0_pay3 (k0_pay2 (xs0) x0 x1) x2 := by
  unfold out0_B_3
  rw [View.read_writes_eq_canon _ _ _ (cover0_B_3 _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

end

theorem pay1_apply (p : Fin 1024) (q : Fin 1024) : k0_pay1 (F := Ideal) (ix2 p q) = (0 : EReal) := by
  pointwise [k0_pay1]

theorem pay2_apply (a : Vec Ideal S1024x1024 .f32) (x0 : Vec Ideal S1024x2816 .bf16) (x1 : Vec Ideal S2816x1024 .bf16) (p : Fin 1024) (q : Fin 1024) :
    k0_pay2 a x0 x1 (ix2 p q) = a (ix2 p q) + ((∑ j : Fin 2816, x0 (ix2 p j) * x1 (ix2 j q))) := by
  pointwise [k0_pay2]

theorem pay3_apply (a b : Vec Ideal S1024x1024 .f32) (p : Fin 1024) (q : Fin 1024) : k0_pay3 a b (ix2 p q) = a (ix2 p q) + b (ix2 p q) := by
  pointwise [k0_pay3]

/-! ## The blocks of the arrays -/

/-- The row, the column and the summed position that a point's block and a place in it stand for: run `r` of the grid is
    block `r / 2` of rows and block `r % 2` of columns. -/
def row (r : ℕ) (p : Fin 1024) : Fin 4096 := at' (by decide) 1024 (r / 2) p.val
def col (r : ℕ) (q : Fin 1024) : Fin 2048 := at' (by decide) 1024 (r % 2) q.val
def kk (b j : ℕ) : Fin 5632 := at' (by decide) 2816 b j

theorem idx0 : ∀ t : Fin grid0.N, win0_0.index t 0 = t.val / 2 / 2 ∧ win0_0.index t 1 = t.val % 2 := by decide +kernel
theorem idx1 : ∀ t : Fin grid0.N, win0_1.index t 0 = t.val % 2 ∧ win0_1.index t 1 = t.val / 2 % 2 := by decide +kernel
theorem idx2 : ∀ t : Fin grid0.N, win0_2.index t 0 = t.val / 2 / 2 ∧ win0_2.index t 1 = t.val / 2 % 2 := by decide +kernel
theorem idx3 : ∀ t : Fin grid0.N, win0_3.index t 0 = t.val / 2 / 2 ∧ win0_3.index t 1 = t.val / 2 % 2 := by decide +kernel
theorem t_lt (t : Fin cfg0.N) : t.val < 16 := lt_of_lt_of_eq t.isLt N_0
theorem row_val {r : ℕ} (hr : r < 8) (p : Fin 1024) : (row r p).val = 1024 * (r / 2) + p.val := at'_val _ (by have := p.isLt; omega)
theorem col_val (r : ℕ) (q : Fin 1024) : (col r q).val = 1024 * (r % 2) + q.val := at'_val _ (by have := q.isLt; omega)
theorem kk_val {b : ℕ} (hb : b < 2) (j : Fin 2816) : (kk b j.val).val = 2816 * b + j.val := at'_val _ (by have := j.isLt; omega)

theorem rd0 (X : Vec Ideal S4096x5632 .bf16) (t : Fin cfg0.N) (p : Fin 1024) (j : Fin 2816) :
    ((cfg0.win 0).blk t).view.read (Elt Ideal) X (ix2 p j) = X (ix2 (row (t.val / 2) p) (kk (t.val % 2) j.val)) := by
  have ht := t_lt t
  have hr : t.val / 2 < 8 := by omega
  have hk : t.val % 2 < 2 := Nat.mod_lt _ (by decide)
  rw [View.read_apply]
  refine congrArg X ?_
  funext a
  apply Fin.ext
  match a with
  | ⟨0, _⟩ => show win0_0.index t 0 * 1024 + 1 * p.val = (row (t.val / 2) p).val; rw [(idx0 t).1, row_val hr p]; omega
  | ⟨1, _⟩ => show win0_0.index t 1 * 2816 + 1 * j.val = (kk (t.val % 2) j.val).val; rw [(idx0 t).2, kk_val hk j]; omega

theorem rd1 (X : Vec Ideal S5632x2048 .bf16) (t : Fin cfg0.N) (j : Fin 2816) (q : Fin 1024) :
    ((cfg0.win 1).blk t).view.read (Elt Ideal) X (ix2 j q) = X (ix2 (kk (t.val % 2) j.val) (col (t.val / 2) q)) := by
  have ht := t_lt t
  have hr : t.val / 2 < 8 := by omega
  have hk : t.val % 2 < 2 := Nat.mod_lt _ (by decide)
  rw [View.read_apply]
  refine congrArg X ?_
  funext a
  apply Fin.ext
  match a with
  | ⟨0, _⟩ => show win0_1.index t 0 * 2816 + 1 * j.val = (kk (t.val % 2) j.val).val; rw [(idx1 t).1, kk_val hk j]; omega
  | ⟨1, _⟩ => show win0_1.index t 1 * 1024 + 1 * q.val = (col (t.val / 2) q).val; rw [(idx1 t).2, col_val _ q]; omega

theorem rd2 (X : Vec Ideal S4096x2048 .f32) (t : Fin cfg0.N) (p : Fin 1024) (q : Fin 1024) :
    ((cfg0.win 2).blk t).view.read (Elt Ideal) X (ix2 p q) = X (ix2 (row (t.val / 2) p) (col (t.val / 2) q)) := by
  have ht := t_lt t
  have hr : t.val / 2 < 8 := by omega
  have hk : t.val % 2 < 2 := Nat.mod_lt _ (by decide)
  rw [View.read_apply]
  refine congrArg X ?_
  funext a
  apply Fin.ext
  match a with
  | ⟨0, _⟩ => show win0_2.index t 0 * 1024 + 1 * p.val = (row (t.val / 2) p).val; rw [(idx2 t).1, row_val hr p]; omega
  | ⟨1, _⟩ => show win0_2.index t 1 * 1024 + 1 * q.val = (col (t.val / 2) q).val; rw [(idx2 t).2, col_val _ q]; omega

/-- What block `b` of the summed axis adds to a place of run `r`'s block. -/
def term (X0 : Vec Ideal S4096x5632 .bf16) (X1 : Vec Ideal S5632x2048 .bf16) (r b : ℕ) (p : Fin 1024) (q : Fin 1024) : EReal :=
  (∑ j : Fin 2816, X0 (ix2 (row r p) (kk b j.val)) * X1 (ix2 (kk b j.val) (col r q)))

variable (m : (ℓ : Loc nD τ sig) → Buf (Elt Ideal) ℓ) (c : Dev nD)

theorem step_eq (t : Fin cfg0.N) (a : Vec Ideal S1024x1024 .f32) (p : Fin 1024) (q : Fin 1024) :
    k0_pay2 a (iblk m c 0 t) (iblk m c 1 t) (ix2 p q) = a (ix2 p q) + term (V m c main_arg0) (V m c main_arg1) (t.val / 2) (t.val % 2) p q := by
  refine (pay2_apply a _ _ p q).trans ?_
  refine congrArg (a (ix2 p q) + ·) ?_
  unfold term
  exact Finset.sum_congr rfl fun j _ => congrArg₂ (· * ·) (rd0 (V m c main_arg0) t p j) (rd1 (V m c main_arg1) t j q)

/-- The running sum after a point: the blocks of the summed axis visited so far. -/
theorem acc_eq : ∀ (n : ℕ) (hn : n < cfg0.N) (p : Fin 1024) (q : Fin 1024),
    (outsAt0 m c n hn).2 (ix2 p q) = ∑ b ∈ Finset.range (n % 2 + 1), term (V m c main_arg0) (V m c main_arg1) (n / 2) b p q := by
  intro n
  induction n with
  | zero =>
    intro hn p q
    have e := outsAt0_A m c ⟨0, hn⟩ rfl (show ¬(0 % 2 = 1) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 2 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 2 = n % 2 + 1 := by omega
      have h2 : (n + 1) / 2 = n / 2 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 2 = 1
        · have e := outsAt0_B m c ⟨n + 1, hn⟩ h0 h3
          rw [sout0_B_0_eq] at e
          exact congrArg Prod.snd e
        · exfalso; omega

      refine (congrFun key _).trans ((step_eq m c ⟨n + 1, hn⟩ _ p q).trans ?_)
      rw [ih]
      show _ + term (V m c main_arg0) (V m c main_arg1) ((n + 1) / 2) ((n + 1) % 2) p q = _
      rw [h1, h2, Finset.sum_range_succ _ (n % 2 + 1)]

/-- The whole product at an index. -/
def full (X0 : Vec Ideal S4096x5632 .bf16) (X1 : Vec Ideal S5632x2048 .bf16) (p : Fin 4096) (q : Fin 2048) : EReal :=
  (∑ k : Fin 5632, X0 (ix2 p k) * X1 (ix2 k q))

theorem sum_term (X0 : Vec Ideal S4096x5632 .bf16) (X1 : Vec Ideal S5632x2048 .bf16) (r : ℕ) (p : Fin 1024) (q : Fin 1024) :
    ∑ b ∈ Finset.range 2, term X0 X1 r b p q = full X0 X1 (row r p) (col r q) := by
  unfold term full
  exact sum_blocks (by decide) 2816 2 (by decide) (fun k : Fin 5632 => X0 (ix2 (row r p) k) * X1 (ix2 k (col r q)))

/-- What the last point of a run leaves in the output's block. -/
theorem out_eq (t : Fin cfg0.N) (ht : t.val % 2 = 1) (p : Fin 1024) (q : Fin 1024) :
    (outsAt0 m c t.val t.isLt).1 (ix2 p q) = full (V m c main_arg0) (V m c main_arg1) (row (t.val / 2) p) (col (t.val / 2) q) + V m c main_arg2 (ix2 (row (t.val / 2) p) (col (t.val / 2) q)) := by
  have h0 : ¬t.val % 2 = 0 := by omega
  have e := outsAt0_B m c t h0 ht
  have a := acc_eq m c t.val t.isLt p q
  rw [e] at a ⊢
  rw [out0_B_3_eq]
  rw [sout0_B_0_eq] at a
  refine (pay3_apply _ _ p q).trans (congrArg₂ (· + ·) (a.trans ?_) (rd2 (V m c main_arg2) t p q))
  rw [ht]
  exact sum_term (V m c main_arg0) (V m c main_arg1) (t.val / 2) p q

/-- The output array after the run. -/
theorem final_out : (dats m 0 c).arrAt 3 cfg0.N = (fun y : S4096x2048.Idx => full (V m c main_arg0) (V m c main_arg1) (y 0) (y 1) + V m c main_arg2 (ix2 (y 0) (y 1))) := by
  refine (dats m 0 c).arrAt_eq_of_cover 3 _ ?_ ?_
  · intro t hf
    have ht : t.val % 2 = 1 := (flush0_3 t).mp hf
    rw [Value.flushed3]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out_eq m c t ht p q).trans ?_
    have htl := t_lt t
    have hi := idx3 t
    have e0 : ((((cfg0.win 3).blk t).view.emb (ix2 p q : S1024x1024.Idx) : S4096x2048.Idx) 0) = row (t.val / 2) p := by
      apply Fin.ext
      rw [row_val (by omega)]
      show win0_3.index t 0 * 1024 + 1 * p.val = _; rw [hi.1]; omega
    have e1 : ((((cfg0.win 3).blk t).view.emb (ix2 p q : S1024x1024.Idx) : S4096x2048.Idx) 1) = col (t.val / 2) q := by
      apply Fin.ext
      rw [col_val]
      show win0_3.index t 1 * 1024 + 1 * q.val = _; rw [hi.2]; omega
    show _ = full (V m c main_arg0) (V m c main_arg1) ((((cfg0.win 3).blk t).view.emb (ix2 p q : S1024x1024.Idx) : S4096x2048.Idx) 0) ((((cfg0.win 3).blk t).view.emb (ix2 p q : S1024x1024.Idx) : S4096x2048.Idx) 1) + V m c main_arg2 (ix2 ((((cfg0.win 3).blk t).view.emb (ix2 p q : S1024x1024.Idx) : S4096x2048.Idx) 0) ((((cfg0.win 3).blk t).view.emb (ix2 p q : S1024x1024.Idx) : S4096x2048.Idx) 1))
    rw [e0, e1]
  · intro i
    exact (Value.covered_iff3 i).2 (by have h0 : (i 0).val < 4096 := (i 0).isLt; have h1 : (i 1).val < 2048 := (i 1).isLt; omega)

/-! ## The reference's product, and the claim -/

theorem ref_eq : (dats m 0 c).arrAt 3 cfg0.N = val_main_v3 (F := Ideal) (m ((c : Thread nD τ).loc main_arg0)) (m ((c : Thread nD τ).loc main_arg1)) (m ((c : Thread nD τ).loc main_arg2)) := by
  rw [final_out]
  funext y
  obtain ⟨p, q, rfl⟩ : ∃ (p : Fin 4096) (q : Fin 2048), y = ix2 p q := ⟨y 0, y 1, eq_ix2 y⟩
  have hV : full (V m c main_arg0) (V m c main_arg1) p q + V m c main_arg2 (ix2 p q) = full (m ((c : Thread nD τ).loc main_arg0)) (m ((c : Thread nD τ).loc main_arg1)) p q + (m ((c : Thread nD τ).loc main_arg2) : Vec Ideal S4096x2048 .f32) (ix2 p q) := by rw [V_main_arg0, V_main_arg1, V_main_arg2]
  refine hV.trans ?_
  unfold full
  pointwise [val_main_v3, val_main_v2, val_main_v1, val_main_v0]
  exact add_comm _ _

set_option maxHeartbeats 2000000 in
/-- The kernel's product and the reference's are equal, on any arguments. -/
theorem algebraic : Cert.algebraic_Kernel7Ideal_Reference7Ideal := by
  intro m ρ m' ρ' _ hagree
  refine ⟨fun c => (dats m 0 c).arrAt 3 cfg0.N, ?_, ?_⟩
  · exact Value.run_blocks m ρ
  · refine (θ_run Cert.Reference7Ideal.defs _ _).mono (fun r h c => ?_) (Cert.Reference7Ideal.Value.run (F := Ideal) m' ρ')
    obtain ⟨a0, a1, a2⟩ := hagree c
    obtain ⟨w0, w1⟩ := h c
    refine ⟨w0.trans ?_, w1⟩
    rw [val_main_v3_eq, a0, a1, a2]
    exact (ref_eq m c).symm

end Cert.Kernel7Ideal.Hand
-- ==== Proof.DwIn.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Sums

/-! The gradient of the input projection's weights, their main columns, `uᵀ dproj`, summed over the positions in four blocks. -/

@[expose] public section

set_option maxRecDepth 16384

noncomputable section

namespace Cert.Kernel8Ideal.Hand

open Idealize.ShloMosaic.TcCoe Idealize.SL.Sem
open Cert.Kernel8Ideal Cert.Kernel8Ideal.Gen Idealize.ShloMosaic
open Cert.Sums Cert.Reference8Ideal.Read

/-! ## What the body stores, in each of its three cases -/

section
variable (c : Dev nD) (i : grid0.Coords) (arg3 : Memref sig .tc .vmem S1024x2048 .bf16) (harg3 : arg3.IsWhole)
  (arg4 : Memref sig .tc .vmem S1024x1280 .bf16) (harg4 : arg4.IsWhole)
  (arg5 : Memref sig .tc .vmem S2048x1280 .bf16) (harg5 : arg5.IsWhole)
  (arg6 : Memref sig .tc .vmem S2048x1280 .f32) (harg6 : arg6.IsWhole)
  (x0 : Vec Ideal S1024x2048 .bf16) (x1 : Vec Ideal S1024x1280 .bf16)

set_option maxHeartbeats 1000000 in
theorem sout0_A_0_eq (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : ¬cond0_1 i) (xs0 : Vec Ideal S2048x1280 .f32) :
    sout0_B_0 c i arg3 harg3 arg4 harg4 arg5 harg5 arg6 harg6 hc0 hc1 x0 x1 xs0 = k0_pay2 (xs0) x0 x1 := by
  unfold sout0_B_0
  rw [View.read_writes_eq_canon _ _ _ (scover0_B_0 _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem sout0_C_0_eq (hc0 : ¬cond0_0 i) (hc1 : cond0_1 i) (xs0 : Vec Ideal S2048x1280 .f32) :
    sout0_C_0 c i arg3 harg3 arg4 harg4 arg5 harg5 arg6 harg6 hc0 hc1 x0 x1 xs0 = k0_pay2 (xs0) x0 x1 := by
  unfold sout0_C_0
  rw [View.read_writes_eq_canon _ _ _ (scover0_C_0 _ _ _ _ _ _ _ _ _ _ _ _ _ _ _)]
  unfold kernelRun0_C
  dsimp only
  sl_unfold_words
  simp only [View.readAt_eq_ld, Memref.IsWhole.read_unread, View.readCov_cons_toLoadRect, canon2, ld2]

set_option maxHeartbeats 1000000 in
theorem out0_C_2_eq (hc0 : ¬cond0_0 i) (hc1 : cond0_1 i) (xs0 : Vec Ideal S2048x1280 .f32) :
    out0_C_2 c i arg3 harg3 arg4 harg4 arg5 harg5 arg6 harg6 hc0 hc1 x0 x1 xs0 = k0_pay3 (k0_pay2 (xs0) x0 x1) := by
  unfold out0_C_2
  rw [View.read_writes_eq_canon _ _ _ (cover0_C_2 _ _ _ _ _ _ _ _ _ _ _ _ _ _ _)]
  unfold kernelRun0_C
  dsimp only
  sl_unfold_words
  simp only [View.readAt_eq_ld, Memref.IsWhole.read_unread, View.readCov_cons_toLoadRect, canon2, ld2]

end

theorem pay1_apply (p : Fin 2048) (q : Fin 1280) : k0_pay1 (F := Ideal) (ix2 p q) = (0 : EReal) := by
  pointwise [k0_pay1]

theorem pay2_apply (a : Vec Ideal S2048x1280 .f32) (x0 : Vec Ideal S1024x2048 .bf16) (x1 : Vec Ideal S1024x1280 .bf16) (p : Fin 2048) (q : Fin 1280) :
    k0_pay2 a x0 x1 (ix2 p q) = a (ix2 p q) + ((∑ j : Fin 1024, x0 (ix2 j p) * x1 (ix2 j q))) := by
  pointwise [k0_pay2]

theorem pay3_apply (a : Vec Ideal S2048x1280 .f32) (p : Fin 2048) (q : Fin 1280) : k0_pay3 a (ix2 p q) = a (ix2 p q) := by
  pointwise [k0_pay3]

/-! ## The blocks of the arrays -/

/-- The row, the column and the summed position that a point's block and a place in it stand for: run `r` of the grid is
    block `r / 4` of rows and block `r % 4` of columns. -/
def row (r : ℕ) (p : Fin 2048) : Fin 2048 := at' (by decide) 2048 (r / 4) p.val
def col (r : ℕ) (q : Fin 1280) : Fin 5120 := at' (by decide) 1280 (r % 4) q.val
def kk (b j : ℕ) : Fin 4096 := at' (by decide) 1024 b j

theorem idx0 : ∀ t : Fin grid0.N, win0_0.index t 0 = t.val % 4 ∧ win0_0.index t 1 = t.val / 4 / 4 := by decide +kernel
theorem idx1 : ∀ t : Fin grid0.N, win0_1.index t 0 = t.val % 4 ∧ win0_1.index t 1 = t.val / 4 % 4 := by decide +kernel
theorem idx2 : ∀ t : Fin grid0.N, win0_2.index t 0 = t.val / 4 / 4 ∧ win0_2.index t 1 = t.val / 4 % 4 := by decide +kernel
theorem t_lt (t : Fin cfg0.N) : t.val < 16 := lt_of_lt_of_eq t.isLt N_0
theorem row_val {r : ℕ} (hr : r < 4) (p : Fin 2048) : (row r p).val = 2048 * (r / 4) + p.val := at'_val _ (by have := p.isLt; omega)
theorem col_val (r : ℕ) (q : Fin 1280) : (col r q).val = 1280 * (r % 4) + q.val := at'_val _ (by have := q.isLt; omega)
theorem kk_val {b : ℕ} (hb : b < 4) (j : Fin 1024) : (kk b j.val).val = 1024 * b + j.val := at'_val _ (by have := j.isLt; omega)

theorem rd0 (X : Vec Ideal S4096x2048 .bf16) (t : Fin cfg0.N) (j : Fin 1024) (p : Fin 2048) :
    ((cfg0.win 0).blk t).view.read (Elt Ideal) X (ix2 j p) = X (ix2 (kk (t.val % 4) j.val) (row (t.val / 4) p)) := by
  have ht := t_lt t
  have hr : t.val / 4 < 4 := by omega
  have hk : t.val % 4 < 4 := Nat.mod_lt _ (by decide)
  rw [View.read_apply]
  refine congrArg X ?_
  funext a
  apply Fin.ext
  match a with
  | ⟨0, _⟩ => show win0_0.index t 0 * 1024 + 1 * j.val = (kk (t.val % 4) j.val).val; rw [(idx0 t).1, kk_val hk j]; omega
  | ⟨1, _⟩ => show win0_0.index t 1 * 2048 + 1 * p.val = (row (t.val / 4) p).val; rw [(idx0 t).2, row_val hr p]; omega

theorem rd1 (X : Vec Ideal S4096x5120 .bf16) (t : Fin cfg0.N) (j : Fin 1024) (q : Fin 1280) :
    ((cfg0.win 1).blk t).view.read (Elt Ideal) X (ix2 j q) = X (ix2 (kk (t.val % 4) j.val) (col (t.val / 4) q)) := by
  have ht := t_lt t
  have hr : t.val / 4 < 4 := by omega
  have hk : t.val % 4 < 4 := Nat.mod_lt _ (by decide)
  rw [View.read_apply]
  refine congrArg X ?_
  funext a
  apply Fin.ext
  match a with
  | ⟨0, _⟩ => show win0_1.index t 0 * 1024 + 1 * j.val = (kk (t.val % 4) j.val).val; rw [(idx1 t).1, kk_val hk j]; omega
  | ⟨1, _⟩ => show win0_1.index t 1 * 1280 + 1 * q.val = (col (t.val / 4) q).val; rw [(idx1 t).2, col_val _ q]; omega

/-- What block `b` of the summed axis adds to a place of run `r`'s block. -/
def term (X0 : Vec Ideal S4096x2048 .bf16) (X1 : Vec Ideal S4096x5120 .bf16) (r b : ℕ) (p : Fin 2048) (q : Fin 1280) : EReal :=
  (∑ j : Fin 1024, X0 (ix2 (kk b j.val) (row r p)) * X1 (ix2 (kk b j.val) (col r q)))

variable (m : (ℓ : Loc nD τ sig) → Buf (Elt Ideal) ℓ) (c : Dev nD)

theorem step_eq (t : Fin cfg0.N) (a : Vec Ideal S2048x1280 .f32) (p : Fin 2048) (q : Fin 1280) :
    k0_pay2 a (iblk m c 0 t) (iblk m c 1 t) (ix2 p q) = a (ix2 p q) + term (V m c main_arg0) (V m c main_arg1) (t.val / 4) (t.val % 4) p q := by
  refine (pay2_apply a _ _ p q).trans ?_
  refine congrArg (a (ix2 p q) + ·) ?_
  unfold term
  exact Finset.sum_congr rfl fun j _ => congrArg₂ (· * ·) (rd0 (V m c main_arg0) t j p) (rd1 (V m c main_arg1) t j q)

/-- The running sum after a point: the blocks of the summed axis visited so far. -/
theorem acc_eq : ∀ (n : ℕ) (hn : n < cfg0.N) (p : Fin 2048) (q : Fin 1280),
    (outsAt0 m c n hn).2 (ix2 p q) = ∑ b ∈ Finset.range (n % 4 + 1), term (V m c main_arg0) (V m c main_arg1) (n / 4) b p q := by
  intro n
  induction n with
  | zero =>
    intro hn p q
    have e := outsAt0_A m c ⟨0, hn⟩ rfl (show ¬(0 % 4 = 3) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 4 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 4 = n % 4 + 1 := by omega
      have h2 : (n + 1) / 4 = n / 4 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 4 = 3
        · have e := outsAt0_C m c ⟨n + 1, hn⟩ h0 h3
          rw [sout0_C_0_eq] at e
          exact congrArg Prod.snd e
        · have e := outsAt0_B m c ⟨n + 1, hn⟩ h0 h3
          rw [sout0_B_0_eq] at e
          exact congrArg Prod.snd e
      refine (congrFun key _).trans ((step_eq m c ⟨n + 1, hn⟩ _ p q).trans ?_)
      rw [ih]
      show _ + term (V m c main_arg0) (V m c main_arg1) ((n + 1) / 4) ((n + 1) % 4) p q = _
      rw [h1, h2, Finset.sum_range_succ _ (n % 4 + 1)]

/-- The whole product at an index. -/
def full (X0 : Vec Ideal S4096x2048 .bf16) (X1 : Vec Ideal S4096x5120 .bf16) (p : Fin 2048) (q : Fin 5120) : EReal :=
  (∑ k : Fin 4096, X0 (ix2 k p) * X1 (ix2 k q))

theorem sum_term (X0 : Vec Ideal S4096x2048 .bf16) (X1 : Vec Ideal S4096x5120 .bf16) (r : ℕ) (p : Fin 2048) (q : Fin 1280) :
    ∑ b ∈ Finset.range 4, term X0 X1 r b p q = full X0 X1 (row r p) (col r q) := by
  unfold term full
  exact sum_blocks (by decide) 1024 4 (by decide) (fun k : Fin 4096 => X0 (ix2 k (row r p)) * X1 (ix2 k (col r q)))

/-- What the last point of a run leaves in the output's block. -/
theorem out_eq (t : Fin cfg0.N) (ht : t.val % 4 = 3) (p : Fin 2048) (q : Fin 1280) :
    (outsAt0 m c t.val t.isLt).1 (ix2 p q) = full (V m c main_arg0) (V m c main_arg1) (row (t.val / 4) p) (col (t.val / 4) q) := by
  have h0 : ¬t.val % 4 = 0 := by omega
  have e := outsAt0_C m c t h0 ht
  have a := acc_eq m c t.val t.isLt p q
  rw [e] at a ⊢
  rw [out0_C_2_eq]
  rw [sout0_C_0_eq] at a
  refine (pay3_apply _ p q).trans (a.trans ?_)
  rw [ht]
  exact sum_term (V m c main_arg0) (V m c main_arg1) (t.val / 4) p q

/-- The output array after the run. -/
theorem final_out : (dats m 0 c).arrAt 2 cfg0.N = (fun y : S2048x5120.Idx => full (V m c main_arg0) (V m c main_arg1) (y 0) (y 1)) := by
  refine (dats m 0 c).arrAt_eq_of_cover 2 _ ?_ ?_
  · intro t hf
    have ht : t.val % 4 = 3 := (flush0_2 t).mp hf
    rw [Value.flushed2]
    funext y
    obtain ⟨p, q, rfl⟩ : ∃ (p : Fin 2048) (q : Fin 1280), y = (ix2 p q : S2048x1280.Idx) := ⟨y 0, y 1, by funext a; match a with | ⟨0, _⟩ => rfl | ⟨1, _⟩ => rfl⟩
    rw [View.read_apply]
    refine (out_eq m c t ht p q).trans ?_
    have htl := t_lt t
    have hi := idx2 t
    have e0 : ((((cfg0.win 2).blk t).view.emb (ix2 p q : S2048x1280.Idx) : S2048x5120.Idx) 0) = row (t.val / 4) p := by
      apply Fin.ext
      rw [row_val (by omega)]
      show win0_2.index t 0 * 2048 + 1 * p.val = _; rw [hi.1]; omega
    have e1 : ((((cfg0.win 2).blk t).view.emb (ix2 p q : S2048x1280.Idx) : S2048x5120.Idx) 1) = col (t.val / 4) q := by
      apply Fin.ext
      rw [col_val]
      show win0_2.index t 1 * 1280 + 1 * q.val = _; rw [hi.2]; omega
    show _ = full (V m c main_arg0) (V m c main_arg1) ((((cfg0.win 2).blk t).view.emb (ix2 p q : S2048x1280.Idx) : S2048x5120.Idx) 0) ((((cfg0.win 2).blk t).view.emb (ix2 p q : S2048x1280.Idx) : S2048x5120.Idx) 1)
    rw [e0, e1]
  · intro i
    exact (Value.covered_iff2 i).2 (by have h0 : (i 0).val < 2048 := (i 0).isLt; have h1 : (i 1).val < 5120 := (i 1).isLt; omega)

/-! ## The reference's product, and the claim -/

theorem ref_eq : (dats m 0 c).arrAt 2 cfg0.N = val_main_v6 (F := Ideal) (m ((c : Thread nD τ).loc main_arg0)) (m ((c : Thread nD τ).loc main_arg1)) := by
  rw [final_out]
  funext y
  obtain ⟨p, q, rfl⟩ : ∃ (p : Fin 2048) (q : Fin 5120), y = ix2 p q := ⟨y 0, y 1, eq_ix2 y⟩
  have hV : full (V m c main_arg0) (V m c main_arg1) p q = full (m ((c : Thread nD τ).loc main_arg0)) (m ((c : Thread nD τ).loc main_arg1)) p q := by rw [V_main_arg0, V_main_arg1]
  refine hV.trans ?_
  unfold full
  pointwise [val_main_v6, val_main_v5, val_main_v4, val_main_v3, val_main_v1]
  exact Finset.sum_congr rfl fun k _ => mul_comm _ _

set_option maxHeartbeats 2000000 in
/-- The kernel's product and the reference's are equal, on any arguments. -/
theorem algebraic : Cert.algebraic_Kernel8Ideal_Reference8Ideal := by
  intro m ρ m' ρ' _ hagree
  refine ⟨fun c => (dats m 0 c).arrAt 2 cfg0.N, ?_, ?_⟩
  · exact Value.run_blocks m ρ
  · refine (θ_run Cert.Reference8Ideal.defs _ _).mono (fun r h c => ?_) (Cert.Reference8Ideal.Value.run (F := Ideal) m' ρ')
    obtain ⟨a0, a1⟩ := hagree c
    obtain ⟨w0, w1⟩ := h c
    refine ⟨w0.trans ?_, w1⟩
    rw [val_main_v6_eq, a0, a1]
    exact (ref_eq m c).symm

end Cert.Kernel8Ideal.Hand
-- ==== Proof.DwInSmall.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Sums

/-! The gradient of the input projection's weights, the columns of the steps and the gates, summed over the positions in four blocks. -/

@[expose] public section

set_option maxRecDepth 16384

noncomputable section

namespace Cert.Kernel9Ideal.Hand

open Idealize.ShloMosaic.TcCoe Idealize.SL.Sem
open Cert.Kernel9Ideal Cert.Kernel9Ideal.Gen Idealize.ShloMosaic
open Cert.Sums Cert.Reference9Ideal.Read

/-! ## What the body stores, in each of its three cases -/

section
variable (c : Dev nD) (i : grid0.Coords) (arg3 : Memref sig .tc .vmem S1024x2048 .bf16) (harg3 : arg3.IsWhole)
  (arg4 : Memref sig .tc .vmem S1024x128 .bf16) (harg4 : arg4.IsWhole)
  (arg5 : Memref sig .tc .vmem S2048x128 .f32) (harg5 : arg5.IsWhole)
  (arg6 : Memref sig .tc .vmem S2048x128 .f32) (harg6 : arg6.IsWhole)
  (x0 : Vec Ideal S1024x2048 .bf16) (x1 : Vec Ideal S1024x128 .bf16)

set_option maxHeartbeats 1000000 in
theorem sout0_A_0_eq (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : ¬cond0_1 i) (xs0 : Vec Ideal S2048x128 .f32) :
    sout0_B_0 c i arg3 harg3 arg4 harg4 arg5 harg5 arg6 harg6 hc0 hc1 x0 x1 xs0 = k0_pay2 (xs0) x0 x1 := by
  unfold sout0_B_0
  rw [View.read_writes_eq_canon _ _ _ (scover0_B_0 _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem sout0_C_0_eq (hc0 : ¬cond0_0 i) (hc1 : cond0_1 i) (xs0 : Vec Ideal S2048x128 .f32) :
    sout0_C_0 c i arg3 harg3 arg4 harg4 arg5 harg5 arg6 harg6 hc0 hc1 x0 x1 xs0 = k0_pay2 (xs0) x0 x1 := by
  unfold sout0_C_0
  rw [View.read_writes_eq_canon _ _ _ (scover0_C_0 _ _ _ _ _ _ _ _ _ _ _ _ _ _ _)]
  unfold kernelRun0_C
  dsimp only
  sl_unfold_words
  simp only [View.readAt_eq_ld, Memref.IsWhole.read_unread, View.readCov_cons_toLoadRect, canon2, ld2]

set_option maxHeartbeats 1000000 in
theorem out0_C_2_eq (hc0 : ¬cond0_0 i) (hc1 : cond0_1 i) (xs0 : Vec Ideal S2048x128 .f32) :
    out0_C_2 c i arg3 harg3 arg4 harg4 arg5 harg5 arg6 harg6 hc0 hc1 x0 x1 xs0 = k0_pay2 (xs0) x0 x1 := by
  unfold out0_C_2
  rw [View.read_writes_eq_canon _ _ _ (cover0_C_2 _ _ _ _ _ _ _ _ _ _ _ _ _ _ _)]
  unfold kernelRun0_C
  dsimp only
  sl_unfold_words
  simp only [View.readAt_eq_ld, Memref.IsWhole.read_unread, View.readCov_cons_toLoadRect, canon2, ld2]

end

theorem pay1_apply (p : Fin 2048) (q : Fin 128) : k0_pay1 (F := Ideal) (ix2 p q) = (0 : EReal) := by
  pointwise [k0_pay1]

theorem pay2_apply (a : Vec Ideal S2048x128 .f32) (x0 : Vec Ideal S1024x2048 .bf16) (x1 : Vec Ideal S1024x128 .bf16) (p : Fin 2048) (q : Fin 128) :
    k0_pay2 a x0 x1 (ix2 p q) = a (ix2 p q) + ((∑ j : Fin 1024, x0 (ix2 j p) * x1 (ix2 j q))) := by
  pointwise [k0_pay2]

/-! ## The blocks of the arrays -/

/-- The row, the column and the summed position that a point's block and a place in it stand for: run `r` of the grid is
    block `r / 1` of rows and block `r % 1` of columns. -/
def row (r : ℕ) (p : Fin 2048) : Fin 2048 := at' (by decide) 2048 (r / 1) p.val
def col (r : ℕ) (q : Fin 128) : Fin 128 := at' (by decide) 128 (r % 1) q.val
def kk (b j : ℕ) : Fin 4096 := at' (by decide) 1024 b j

theorem idx0 : ∀ t : Fin grid0.N, win0_0.index t 0 = t.val % 4 ∧ win0_0.index t 1 = t.val / 4 / 1 := by decide +kernel
theorem idx1 : ∀ t : Fin grid0.N, win0_1.index t 0 = t.val % 4 ∧ win0_1.index t 1 = t.val / 4 % 1 := by decide +kernel
theorem idx2 : ∀ t : Fin grid0.N, win0_2.index t 0 = t.val / 4 / 1 ∧ win0_2.index t 1 = t.val / 4 % 1 := by decide +kernel
theorem t_lt (t : Fin cfg0.N) : t.val < 4 := lt_of_lt_of_eq t.isLt N_0
theorem row_val {r : ℕ} (hr : r < 1) (p : Fin 2048) : (row r p).val = 2048 * (r / 1) + p.val := at'_val _ (by have := p.isLt; omega)
theorem col_val (r : ℕ) (q : Fin 128) : (col r q).val = 128 * (r % 1) + q.val := at'_val _ (by have := q.isLt; omega)
theorem kk_val {b : ℕ} (hb : b < 4) (j : Fin 1024) : (kk b j.val).val = 1024 * b + j.val := at'_val _ (by have := j.isLt; omega)

theorem rd0 (X : Vec Ideal S4096x2048 .bf16) (t : Fin cfg0.N) (j : Fin 1024) (p : Fin 2048) :
    ((cfg0.win 0).blk t).view.read (Elt Ideal) X (ix2 j p) = X (ix2 (kk (t.val % 4) j.val) (row (t.val / 4) p)) := by
  have ht := t_lt t
  have hr : t.val / 4 < 1 := by omega
  have hk : t.val % 4 < 4 := Nat.mod_lt _ (by decide)
  rw [View.read_apply]
  refine congrArg X ?_
  funext a
  apply Fin.ext
  match a with
  | ⟨0, _⟩ => show win0_0.index t 0 * 1024 + 1 * j.val = (kk (t.val % 4) j.val).val; rw [(idx0 t).1, kk_val hk j]; omega
  | ⟨1, _⟩ => show win0_0.index t 1 * 2048 + 1 * p.val = (row (t.val / 4) p).val; rw [(idx0 t).2, row_val hr p]; omega

theorem rd1 (X : Vec Ideal S4096x128 .bf16) (t : Fin cfg0.N) (j : Fin 1024) (q : Fin 128) :
    ((cfg0.win 1).blk t).view.read (Elt Ideal) X (ix2 j q) = X (ix2 (kk (t.val % 4) j.val) (col (t.val / 4) q)) := by
  have ht := t_lt t
  have hr : t.val / 4 < 1 := by omega
  have hk : t.val % 4 < 4 := Nat.mod_lt _ (by decide)
  rw [View.read_apply]
  refine congrArg X ?_
  funext a
  apply Fin.ext
  match a with
  | ⟨0, _⟩ => show win0_1.index t 0 * 1024 + 1 * j.val = (kk (t.val % 4) j.val).val; rw [(idx1 t).1, kk_val hk j]; omega
  | ⟨1, _⟩ => show win0_1.index t 1 * 128 + 1 * q.val = (col (t.val / 4) q).val; rw [(idx1 t).2, col_val _ q]; omega

/-- What block `b` of the summed axis adds to a place of run `r`'s block. -/
def term (X0 : Vec Ideal S4096x2048 .bf16) (X1 : Vec Ideal S4096x128 .bf16) (r b : ℕ) (p : Fin 2048) (q : Fin 128) : EReal :=
  (∑ j : Fin 1024, X0 (ix2 (kk b j.val) (row r p)) * X1 (ix2 (kk b j.val) (col r q)))

variable (m : (ℓ : Loc nD τ sig) → Buf (Elt Ideal) ℓ) (c : Dev nD)

theorem step_eq (t : Fin cfg0.N) (a : Vec Ideal S2048x128 .f32) (p : Fin 2048) (q : Fin 128) :
    k0_pay2 a (iblk m c 0 t) (iblk m c 1 t) (ix2 p q) = a (ix2 p q) + term (V m c main_arg0) (V m c main_arg1) (t.val / 4) (t.val % 4) p q := by
  refine (pay2_apply a _ _ p q).trans ?_
  refine congrArg (a (ix2 p q) + ·) ?_
  unfold term
  exact Finset.sum_congr rfl fun j _ => congrArg₂ (· * ·) (rd0 (V m c main_arg0) t j p) (rd1 (V m c main_arg1) t j q)

/-- The running sum after a point: the blocks of the summed axis visited so far. -/
theorem acc_eq : ∀ (n : ℕ) (hn : n < cfg0.N) (p : Fin 2048) (q : Fin 128),
    (outsAt0 m c n hn).2 (ix2 p q) = ∑ b ∈ Finset.range (n % 4 + 1), term (V m c main_arg0) (V m c main_arg1) (n / 4) b p q := by
  intro n
  induction n with
  | zero =>
    intro hn p q
    have e := outsAt0_A m c ⟨0, hn⟩ rfl (show ¬(0 % 4 = 3) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 4 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 4 = n % 4 + 1 := by omega
      have h2 : (n + 1) / 4 = n / 4 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 4 = 3
        · have e := outsAt0_C m c ⟨n + 1, hn⟩ h0 h3
          rw [sout0_C_0_eq] at e
          exact congrArg Prod.snd e
        · have e := outsAt0_B m c ⟨n + 1, hn⟩ h0 h3
          rw [sout0_B_0_eq] at e
          exact congrArg Prod.snd e
      refine (congrFun key _).trans ((step_eq m c ⟨n + 1, hn⟩ _ p q).trans ?_)
      rw [ih]
      show _ + term (V m c main_arg0) (V m c main_arg1) ((n + 1) / 4) ((n + 1) % 4) p q = _
      rw [h1, h2, Finset.sum_range_succ _ (n % 4 + 1)]

/-- The whole product at an index. -/
def full (X0 : Vec Ideal S4096x2048 .bf16) (X1 : Vec Ideal S4096x128 .bf16) (p : Fin 2048) (q : Fin 128) : EReal :=
  (∑ k : Fin 4096, X0 (ix2 k p) * X1 (ix2 k q))

theorem sum_term (X0 : Vec Ideal S4096x2048 .bf16) (X1 : Vec Ideal S4096x128 .bf16) (r : ℕ) (p : Fin 2048) (q : Fin 128) :
    ∑ b ∈ Finset.range 4, term X0 X1 r b p q = full X0 X1 (row r p) (col r q) := by
  unfold term full
  exact sum_blocks (by decide) 1024 4 (by decide) (fun k : Fin 4096 => X0 (ix2 k (row r p)) * X1 (ix2 k (col r q)))

/-- What the last point of a run leaves in the output's block. -/
theorem out_eq (t : Fin cfg0.N) (ht : t.val % 4 = 3) (p : Fin 2048) (q : Fin 128) :
    (outsAt0 m c t.val t.isLt).1 (ix2 p q) = full (V m c main_arg0) (V m c main_arg1) (row (t.val / 4) p) (col (t.val / 4) q) := by
  have h0 : ¬t.val % 4 = 0 := by omega
  have e := outsAt0_C m c t h0 ht
  have a := acc_eq m c t.val t.isLt p q
  rw [e] at a ⊢
  rw [out0_C_2_eq]
  rw [sout0_C_0_eq] at a
  refine a.trans ?_
  rw [ht]
  exact sum_term (V m c main_arg0) (V m c main_arg1) (t.val / 4) p q

/-- The output array after the run. -/
theorem final_out : (dats m 0 c).arrAt 2 cfg0.N = (fun y : S2048x128.Idx => full (V m c main_arg0) (V m c main_arg1) (y 0) (y 1)) := by
  refine (dats m 0 c).arrAt_eq_of_cover 2 _ ?_ ?_
  · intro t hf
    have ht : t.val % 4 = 3 := (flush0_2 t).mp hf
    rw [Value.flushed2]
    funext y
    obtain ⟨p, q, rfl⟩ : ∃ (p : Fin 2048) (q : Fin 128), y = (ix2 p q : S2048x128.Idx) := ⟨y 0, y 1, by funext a; match a with | ⟨0, _⟩ => rfl | ⟨1, _⟩ => rfl⟩
    rw [View.read_apply]
    refine (out_eq m c t ht p q).trans ?_
    have htl := t_lt t
    have hi := idx2 t
    have e0 : ((((cfg0.win 2).blk t).view.emb (ix2 p q : S2048x128.Idx) : S2048x128.Idx) 0) = row (t.val / 4) p := by
      apply Fin.ext
      rw [row_val (by omega)]
      show win0_2.index t 0 * 2048 + 1 * p.val = _; rw [hi.1]; omega
    have e1 : ((((cfg0.win 2).blk t).view.emb (ix2 p q : S2048x128.Idx) : S2048x128.Idx) 1) = col (t.val / 4) q := by
      apply Fin.ext
      rw [col_val]
      show win0_2.index t 1 * 128 + 1 * q.val = _; rw [hi.2]; omega
    show _ = full (V m c main_arg0) (V m c main_arg1) ((((cfg0.win 2).blk t).view.emb (ix2 p q : S2048x128.Idx) : S2048x128.Idx) 0) ((((cfg0.win 2).blk t).view.emb (ix2 p q : S2048x128.Idx) : S2048x128.Idx) 1)
    rw [e0, e1]
  · intro i
    exact (Value.covered_iff2 i).2 (by have h0 : (i 0).val < 2048 := (i 0).isLt; have h1 : (i 1).val < 128 := (i 1).isLt; omega)

/-! ## The reference's product, and the claim -/

theorem ref_eq : (dats m 0 c).arrAt 2 cfg0.N = val_main_v5 (F := Ideal) (m ((c : Thread nD τ).loc main_arg0)) (m ((c : Thread nD τ).loc main_arg1)) := by
  rw [final_out]
  funext y
  obtain ⟨p, q, rfl⟩ : ∃ (p : Fin 2048) (q : Fin 128), y = ix2 p q := ⟨y 0, y 1, eq_ix2 y⟩
  have hV : full (V m c main_arg0) (V m c main_arg1) p q = full (m ((c : Thread nD τ).loc main_arg0)) (m ((c : Thread nD τ).loc main_arg1)) p q := by rw [V_main_arg0, V_main_arg1]
  refine hV.trans ?_
  unfold full
  pointwise [val_main_v5, val_main_v4, val_main_v3, val_main_v1]
  exact Finset.sum_congr rfl fun k _ => mul_comm _ _

set_option maxHeartbeats 2000000 in
/-- The kernel's product and the reference's are equal, on any arguments. -/
theorem algebraic : Cert.algebraic_Kernel9Ideal_Reference9Ideal := by
  intro m ρ m' ρ' _ hagree
  refine ⟨fun c => (dats m 0 c).arrAt 2 cfg0.N, ?_, ?_⟩
  · exact Value.run_blocks m ρ
  · refine (θ_run Cert.Reference9Ideal.defs _ _).mono (fun r h c => ?_) (Cert.Reference9Ideal.Value.run (F := Ideal) m' ρ')
    obtain ⟨a0, a1⟩ := hagree c
    obtain ⟨w0, w1⟩ := h c
    refine ⟨w0.trans ?_, w1⟩
    rw [val_main_v5_eq, a0, a1]
    exact (ref_eq m c).symm

end Cert.Kernel9Ideal.Hand
-- ==== Proof.DuMain.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Sums

/-! The gradient of the input projection's input, `dproj w_mainᵀ`, summed over the columns in two blocks. -/

@[expose] public section

set_option maxRecDepth 16384

noncomputable section

namespace Cert.Kernel10Ideal.Hand

open Idealize.ShloMosaic.TcCoe Idealize.SL.Sem
open Cert.Kernel10Ideal Cert.Kernel10Ideal.Gen Idealize.ShloMosaic
open Cert.Sums Cert.Reference10Ideal.Read

/-! ## What the body stores, in each of its three cases -/

section
variable (c : Dev nD) (i : grid0.Coords) (arg3 : Memref sig .tc .vmem S1024x2560 .bf16) (harg3 : arg3.IsWhole)
  (arg4 : Memref sig .tc .vmem S1024x2560 .bf16) (harg4 : arg4.IsWhole)
  (arg5 : Memref sig .tc .vmem S1024x1024 .f32) (harg5 : arg5.IsWhole)
  (arg6 : Memref sig .tc .vmem S1024x1024 .f32) (harg6 : arg6.IsWhole)
  (x0 : Vec Ideal S1024x2560 .bf16) (x1 : Vec Ideal S1024x2560 .bf16)

set_option maxHeartbeats 1000000 in
theorem sout0_A_0_eq (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : cond0_1 i) (xs0 : Vec Ideal S1024x1024 .f32) :
    sout0_B_0 c i arg3 harg3 arg4 harg4 arg5 harg5 arg6 harg6 hc0 hc1 x0 x1 xs0 = k0_pay2 (xs0) x0 x1 := by
  unfold sout0_B_0
  rw [View.read_writes_eq_canon _ _ _ (scover0_B_0 _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_2_eq (hc0 : ¬cond0_0 i) (hc1 : cond0_1 i) (xs0 : Vec Ideal S1024x1024 .f32) :
    out0_B_2 c i arg3 harg3 arg4 harg4 arg5 harg5 arg6 harg6 hc0 hc1 x0 x1 xs0 = k0_pay2 (xs0) x0 x1 := by
  unfold out0_B_2
  rw [View.read_writes_eq_canon _ _ _ (cover0_B_2 _ _ _ _ _ _ _ _ _ _ _ _ _ _ _)]
  unfold kernelRun0_B
  dsimp only
  sl_unfold_words
  simp only [View.readAt_eq_ld, Memref.IsWhole.read_unread, View.readCov_cons_toLoadRect, canon2, ld2]

end

theorem pay1_apply (p : Fin 1024) (q : Fin 1024) : k0_pay1 (F := Ideal) (ix2 p q) = (0 : EReal) := by
  pointwise [k0_pay1]

theorem pay2_apply (a : Vec Ideal S1024x1024 .f32) (x0 : Vec Ideal S1024x2560 .bf16) (x1 : Vec Ideal S1024x2560 .bf16) (p : Fin 1024) (q : Fin 1024) :
    k0_pay2 a x0 x1 (ix2 p q) = a (ix2 p q) + ((∑ j : Fin 2560, x0 (ix2 p j) * x1 (ix2 q j))) := by
  pointwise [k0_pay2]

/-! ## The blocks of the arrays -/

/-- The row, the column and the summed position that a point's block and a place in it stand for: run `r` of the grid is
    block `r / 2` of rows and block `r % 2` of columns. -/
def row (r : ℕ) (p : Fin 1024) : Fin 4096 := at' (by decide) 1024 (r / 2) p.val
def col (r : ℕ) (q : Fin 1024) : Fin 2048 := at' (by decide) 1024 (r % 2) q.val
def kk (b j : ℕ) : Fin 5120 := at' (by decide) 2560 b j

theorem idx0 : ∀ t : Fin grid0.N, win0_0.index t 0 = t.val / 2 / 2 ∧ win0_0.index t 1 = t.val % 2 := by decide +kernel
theorem idx1 : ∀ t : Fin grid0.N, win0_1.index t 0 = t.val / 2 % 2 ∧ win0_1.index t 1 = t.val % 2 := by decide +kernel
theorem idx2 : ∀ t : Fin grid0.N, win0_2.index t 0 = t.val / 2 / 2 ∧ win0_2.index t 1 = t.val / 2 % 2 := by decide +kernel
theorem t_lt (t : Fin cfg0.N) : t.val < 16 := lt_of_lt_of_eq t.isLt N_0
theorem row_val {r : ℕ} (hr : r < 8) (p : Fin 1024) : (row r p).val = 1024 * (r / 2) + p.val := at'_val _ (by have := p.isLt; omega)
theorem col_val (r : ℕ) (q : Fin 1024) : (col r q).val = 1024 * (r % 2) + q.val := at'_val _ (by have := q.isLt; omega)
theorem kk_val {b : ℕ} (hb : b < 2) (j : Fin 2560) : (kk b j.val).val = 2560 * b + j.val := at'_val _ (by have := j.isLt; omega)

theorem rd0 (X : Vec Ideal S4096x5120 .bf16) (t : Fin cfg0.N) (p : Fin 1024) (j : Fin 2560) :
    ((cfg0.win 0).blk t).view.read (Elt Ideal) X (ix2 p j) = X (ix2 (row (t.val / 2) p) (kk (t.val % 2) j.val)) := by
  have ht := t_lt t
  have hr : t.val / 2 < 8 := by omega
  have hk : t.val % 2 < 2 := Nat.mod_lt _ (by decide)
  rw [View.read_apply]
  refine congrArg X ?_
  funext a
  apply Fin.ext
  match a with
  | ⟨0, _⟩ => show win0_0.index t 0 * 1024 + 1 * p.val = (row (t.val / 2) p).val; rw [(idx0 t).1, row_val hr p]; omega
  | ⟨1, _⟩ => show win0_0.index t 1 * 2560 + 1 * j.val = (kk (t.val % 2) j.val).val; rw [(idx0 t).2, kk_val hk j]; omega

theorem rd1 (X : Vec Ideal S2048x5120 .bf16) (t : Fin cfg0.N) (q : Fin 1024) (j : Fin 2560) :
    ((cfg0.win 1).blk t).view.read (Elt Ideal) X (ix2 q j) = X (ix2 (col (t.val / 2) q) (kk (t.val % 2) j.val)) := by
  have ht := t_lt t
  have hr : t.val / 2 < 8 := by omega
  have hk : t.val % 2 < 2 := Nat.mod_lt _ (by decide)
  rw [View.read_apply]
  refine congrArg X ?_
  funext a
  apply Fin.ext
  match a with
  | ⟨0, _⟩ => show win0_1.index t 0 * 1024 + 1 * q.val = (col (t.val / 2) q).val; rw [(idx1 t).1, col_val _ q]; omega
  | ⟨1, _⟩ => show win0_1.index t 1 * 2560 + 1 * j.val = (kk (t.val % 2) j.val).val; rw [(idx1 t).2, kk_val hk j]; omega

/-- What block `b` of the summed axis adds to a place of run `r`'s block. -/
def term (X0 : Vec Ideal S4096x5120 .bf16) (X1 : Vec Ideal S2048x5120 .bf16) (r b : ℕ) (p : Fin 1024) (q : Fin 1024) : EReal :=
  (∑ j : Fin 2560, X0 (ix2 (row r p) (kk b j.val)) * X1 (ix2 (col r q) (kk b j.val)))

variable (m : (ℓ : Loc nD τ sig) → Buf (Elt Ideal) ℓ) (c : Dev nD)

theorem step_eq (t : Fin cfg0.N) (a : Vec Ideal S1024x1024 .f32) (p : Fin 1024) (q : Fin 1024) :
    k0_pay2 a (iblk m c 0 t) (iblk m c 1 t) (ix2 p q) = a (ix2 p q) + term (V m c main_arg0) (V m c main_arg1) (t.val / 2) (t.val % 2) p q := by
  refine (pay2_apply a _ _ p q).trans ?_
  refine congrArg (a (ix2 p q) + ·) ?_
  unfold term
  exact Finset.sum_congr rfl fun j _ => congrArg₂ (· * ·) (rd0 (V m c main_arg0) t p j) (rd1 (V m c main_arg1) t q j)

/-- The running sum after a point: the blocks of the summed axis visited so far. -/
theorem acc_eq : ∀ (n : ℕ) (hn : n < cfg0.N) (p : Fin 1024) (q : Fin 1024),
    (outsAt0 m c n hn).2 (ix2 p q) = ∑ b ∈ Finset.range (n % 2 + 1), term (V m c main_arg0) (V m c main_arg1) (n / 2) b p q := by
  intro n
  induction n with
  | zero =>
    intro hn p q
    have e := outsAt0_A m c ⟨0, hn⟩ rfl (show ¬(0 % 2 = 1) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 2 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 2 = n % 2 + 1 := by omega
      have h2 : (n + 1) / 2 = n / 2 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 2 = 1
        · have e := outsAt0_B m c ⟨n + 1, hn⟩ h0 h3
          rw [sout0_B_0_eq] at e
          exact congrArg Prod.snd e
        · exfalso; omega

      refine (congrFun key _).trans ((step_eq m c ⟨n + 1, hn⟩ _ p q).trans ?_)
      rw [ih]
      show _ + term (V m c main_arg0) (V m c main_arg1) ((n + 1) / 2) ((n + 1) % 2) p q = _
      rw [h1, h2, Finset.sum_range_succ _ (n % 2 + 1)]

/-- The whole product at an index. -/
def full (X0 : Vec Ideal S4096x5120 .bf16) (X1 : Vec Ideal S2048x5120 .bf16) (p : Fin 4096) (q : Fin 2048) : EReal :=
  (∑ k : Fin 5120, X0 (ix2 p k) * X1 (ix2 q k))

theorem sum_term (X0 : Vec Ideal S4096x5120 .bf16) (X1 : Vec Ideal S2048x5120 .bf16) (r : ℕ) (p : Fin 1024) (q : Fin 1024) :
    ∑ b ∈ Finset.range 2, term X0 X1 r b p q = full X0 X1 (row r p) (col r q) := by
  unfold term full
  exact sum_blocks (by decide) 2560 2 (by decide) (fun k : Fin 5120 => X0 (ix2 (row r p) k) * X1 (ix2 (col r q) k))

/-- What the last point of a run leaves in the output's block. -/
theorem out_eq (t : Fin cfg0.N) (ht : t.val % 2 = 1) (p : Fin 1024) (q : Fin 1024) :
    (outsAt0 m c t.val t.isLt).1 (ix2 p q) = full (V m c main_arg0) (V m c main_arg1) (row (t.val / 2) p) (col (t.val / 2) q) := by
  have h0 : ¬t.val % 2 = 0 := by omega
  have e := outsAt0_B m c t h0 ht
  have a := acc_eq m c t.val t.isLt p q
  rw [e] at a ⊢
  rw [out0_B_2_eq]
  rw [sout0_B_0_eq] at a
  refine a.trans ?_
  rw [ht]
  exact sum_term (V m c main_arg0) (V m c main_arg1) (t.val / 2) p q

/-- The output array after the run. -/
theorem final_out : (dats m 0 c).arrAt 2 cfg0.N = (fun y : S4096x2048.Idx => full (V m c main_arg0) (V m c main_arg1) (y 0) (y 1)) := by
  refine (dats m 0 c).arrAt_eq_of_cover 2 _ ?_ ?_
  · intro t hf
    have ht : t.val % 2 = 1 := (flush0_2 t).mp hf
    rw [Value.flushed2]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out_eq m c t ht p q).trans ?_
    have htl := t_lt t
    have hi := idx2 t
    have e0 : ((((cfg0.win 2).blk t).view.emb (ix2 p q : S1024x1024.Idx) : S4096x2048.Idx) 0) = row (t.val / 2) p := by
      apply Fin.ext
      rw [row_val (by omega)]
      show win0_2.index t 0 * 1024 + 1 * p.val = _; rw [hi.1]; omega
    have e1 : ((((cfg0.win 2).blk t).view.emb (ix2 p q : S1024x1024.Idx) : S4096x2048.Idx) 1) = col (t.val / 2) q := by
      apply Fin.ext
      rw [col_val]
      show win0_2.index t 1 * 1024 + 1 * q.val = _; rw [hi.2]; omega
    show _ = full (V m c main_arg0) (V m c main_arg1) ((((cfg0.win 2).blk t).view.emb (ix2 p q : S1024x1024.Idx) : S4096x2048.Idx) 0) ((((cfg0.win 2).blk t).view.emb (ix2 p q : S1024x1024.Idx) : S4096x2048.Idx) 1)
    rw [e0, e1]
  · intro i
    exact (Value.covered_iff2 i).2 (by have h0 : (i 0).val < 4096 := (i 0).isLt; have h1 : (i 1).val < 2048 := (i 1).isLt; omega)

/-! ## The reference's product, and the claim -/

theorem ref_eq : (dats m 0 c).arrAt 2 cfg0.N = val_main_v4 (F := Ideal) (m ((c : Thread nD τ).loc main_arg0)) (m ((c : Thread nD τ).loc main_arg1)) := by
  rw [final_out]
  funext y
  obtain ⟨p, q, rfl⟩ : ∃ (p : Fin 4096) (q : Fin 2048), y = ix2 p q := ⟨y 0, y 1, eq_ix2 y⟩
  have hV : full (V m c main_arg0) (V m c main_arg1) p q = full (m ((c : Thread nD τ).loc main_arg0)) (m ((c : Thread nD τ).loc main_arg1)) p q := by rw [V_main_arg0, V_main_arg1]
  refine hV.trans ?_
  unfold full
  pointwise [val_main_v4, val_main_v3, val_main_v2, val_main_v1]

set_option maxHeartbeats 2000000 in
/-- The kernel's product and the reference's are equal, on any arguments. -/
theorem algebraic : Cert.algebraic_Kernel10Ideal_Reference10Ideal := by
  intro m ρ m' ρ' _ hagree
  refine ⟨fun c => (dats m 0 c).arrAt 2 cfg0.N, ?_, ?_⟩
  · exact Value.run_blocks m ρ
  · refine (θ_run Cert.Reference10Ideal.defs _ _).mono (fun r h c => ?_) (Cert.Reference10Ideal.Value.run (F := Ideal) m' ρ')
    obtain ⟨a0, a1⟩ := hagree c
    obtain ⟨w0, w1⟩ := h c
    refine ⟨w0.trans ?_, w1⟩
    rw [val_main_v4_eq, a0, a1]
    exact (ref_eq m c).symm

end Cert.Kernel10Ideal.Hand
-- ==== Proof.DuSmall.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Sums

/-! The gradient of the input projection's input, `dproj_small w_smallᵀ` added to the part of the main columns. -/

@[expose] public section

set_option maxRecDepth 16384

noncomputable section

namespace Cert.Kernel11Ideal.Hand

open Idealize.ShloMosaic.TcCoe Idealize.SL.Sem
open Cert.Kernel11Ideal Cert.Kernel11Ideal.Gen Idealize.ShloMosaic
open Cert.Sums Cert.Reference11Ideal.Read

/-! ## What the body stores -/

theorem out0_3_eq (x0 : Vec Ideal S1024x128 .bf16) (x1 : Vec Ideal S1024x128 .bf16) (x2 : Vec Ideal S1024x1024 .f32) : out0_3 (F := Ideal) x0 x1 x2 = k0_pay1 x0 x1 x2 := by
  unfold out0_3
  refine (canon2 _ _).trans ?_
  show k0_pay1 (View.ld x0 (Rect.unit (s := S1024x128) ![0, 0] ![1024, 128] inb_S1024x128_S1024x128_0_0)) (View.ld x1 (Rect.unit (s := S1024x128) ![0, 0] ![1024, 128] inb_S1024x128_S1024x128_0_0)) (View.ld x2 (Rect.unit (s := S1024x1024) ![0, 0] ![1024, 1024] inb_S1024x1024_S1024x1024_0_0)) = _
  simp only [ld2]

theorem pay3_apply (x0 : Vec Ideal S1024x128 .bf16) (x1 : Vec Ideal S1024x128 .bf16) (x2 : Vec Ideal S1024x1024 .f32) (p : Fin 1024) (q : Fin 1024) :
    k0_pay1 (F := Ideal) x0 x1 x2 (ix2 p q) = (∑ j : Fin 128, x0 (ix2 p j) * x1 (ix2 q j)) + x2 (ix2 p q) := by
  pointwise [k0_pay1]

/-! ## The blocks of the arrays -/

/-- The row and the column that a point's block and a place in it stand for: point `t` is block `t / 2` of rows and block
    `t % 2` of columns. -/
def row (t : ℕ) (p : Fin 1024) : Fin 4096 := at' (by decide) 1024 (t / 2) p.val
def col (t : ℕ) (q : Fin 1024) : Fin 2048 := at' (by decide) 1024 (t % 2) q.val

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel
theorem t_lt (t : Fin cfg0.N) : t.val < 8 := lt_of_lt_of_eq t.isLt N_0
theorem row_val {t : ℕ} (ht : t < 8) (p : Fin 1024) : (row t p).val = 1024 * (t / 2) + p.val := at'_val _ (by have := p.isLt; omega)
theorem col_val (t : ℕ) (q : Fin 1024) : (col t q).val = 1024 * (t % 2) + q.val := at'_val _ (by have := q.isLt; omega)

theorem rd0 (X : Vec Ideal S4096x128 .bf16) (t : Fin cfg0.N) (p : Fin 1024) (j : Fin 128) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 128 + 1 * j.val = (j).val; rw [(idx0 t).2]; omega

theorem rd1 (X : Vec Ideal S2048x128 .bf16) (t : Fin cfg0.N) (q : Fin 1024) (j : Fin 128) :
    ((cfg0.win 1).blk t).view.read (Elt Ideal) X (ix2 q j) = X (ix2 (col t.val q) j) := by
  have ht := t_lt t
  rw [View.read_apply]
  refine congrArg X ?_
  funext a
  apply Fin.ext
  match a with
  | ⟨0, _⟩ => show win0_1.index t 0 * 1024 + 1 * q.val = ((col t.val q)).val; rw [(idx1 t).1, col_val _ q]; omega
  | ⟨1, _⟩ => show win0_1.index t 1 * 128 + 1 * j.val = (j).val; rw [(idx1 t).2]; omega

theorem rd2 (X : Vec Ideal S4096x2048 .f32) (t : Fin cfg0.N) (p : Fin 1024) (q : Fin 1024) :
    ((cfg0.win 2).blk t).view.read (Elt Ideal) X (ix2 p q) = X (ix2 (row t.val p) (col t.val q)) := by
  have ht := t_lt t
  rw [View.read_apply]
  refine congrArg X ?_
  funext a
  apply Fin.ext
  match a with
  | ⟨0, _⟩ => show win0_2.index t 0 * 1024 + 1 * p.val = ((row t.val p)).val; rw [(idx2 t).1, row_val ht p]; omega
  | ⟨1, _⟩ => show win0_2.index t 1 * 1024 + 1 * q.val = ((col t.val q)).val; rw [(idx2 t).2, col_val _ q]; omega

/-- Output 3 of the whole computation at an index. -/
def full3 (X0 : Vec Ideal S4096x128 .bf16) (X1 : Vec Ideal S2048x128 .bf16) (X2 : Vec Ideal S4096x2048 .f32) (p : Fin 4096) (q : Fin 2048) : EReal :=
  (∑ j : Fin 128, X0 (ix2 p j) * X1 (ix2 q j)) + X2 (ix2 p q)

variable (m : (ℓ : Loc nD τ sig) → Buf (Elt Ideal) ℓ) (c : Dev nD)

theorem out3_eq (t : Fin cfg0.N) (p : Fin 1024) (q : Fin 1024) :
    out0_3 (F := Ideal) (iblk m c 0 t) (iblk m c 1 t) (iblk m c 2 t) (ix2 p q) = full3 (V m c main_arg0) (V m c main_arg1) (V m c main_arg2) (row t.val p) (col t.val q) := by
  rw [out0_3_eq]
  refine (pay3_apply (iblk m c 0 t) (iblk m c 1 t) (iblk m c 2 t) p q).trans ?_
  have h0 : ∀ j : Fin 128, iblk m c 0 t (ix2 p j) = V m c main_arg0 (ix2 (row t.val p) j) := fun j => rd0 (V m c main_arg0) t p j
  have h1 : ∀ j : Fin 128, iblk m c 1 t (ix2 q j) = V m c main_arg1 (ix2 (col t.val q) j) := fun j => rd1 (V m c main_arg1) t q j
  have h2 : iblk m c 2 t (ix2 p q) = V m c main_arg2 (ix2 (row t.val p) (col t.val q)) := rd2 (V m c main_arg2) t p q
  unfold full3
  simp only [h0, h1, h2]

theorem final3 : (dats m 0 c).arrAt 3 cfg0.N = (fun y : S4096x2048.Idx => full3 (V m c main_arg0) (V m c main_arg1) (V m c main_arg2) (y 0) (y 1)) := by
  refine (dats m 0 c).arrAt_eq_of_cover 3 _ ?_ ?_
  · intro t _
    rw [Value.flushed3]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out3_eq m c t p q).trans ?_
    have htl := t_lt t
    have hi := idx3 t
    have e0 : ((((cfg0.win 3).blk t).view.emb (ix2 p q : S1024x1024.Idx) : S4096x2048.Idx) 0) = row t.val p := by
      apply Fin.ext
      rw [row_val htl]
      show win0_3.index t 0 * 1024 + 1 * p.val = _; rw [hi.1]; omega
    have e1 : ((((cfg0.win 3).blk t).view.emb (ix2 p q : S1024x1024.Idx) : S4096x2048.Idx) 1) = col t.val q := by
      apply Fin.ext
      rw [col_val]
      show win0_3.index t 1 * 1024 + 1 * q.val = _; rw [hi.2]; omega
    show _ = full3 (V m c main_arg0) (V m c main_arg1) (V m c main_arg2) ((((cfg0.win 3).blk t).view.emb (ix2 p q : S1024x1024.Idx) : S4096x2048.Idx) 0) ((((cfg0.win 3).blk t).view.emb (ix2 p q : S1024x1024.Idx) : S4096x2048.Idx) 1)
    rw [e0, e1]
  · intro i
    have h0 : (i 0).val < 4096 := (i 0).isLt
    have h1 : (i 1).val < 2048 := (i 1).isLt
    refine ⟨⟨2 * ((i 0).val / 1024) + (i 1).val / 1024, lt_of_lt_of_eq (by omega : _ < 8) N_0.symm⟩, flush0_3 _, ?_⟩
    generalize ht : (⟨2 * ((i 0).val / 1024) + (i 1).val / 1024, _⟩ : Fin cfg0.N) = t
    have tv : t.val = 2 * ((i 0).val / 1024) + (i 1).val / 1024 := by rw [← ht]
    have hi := idx3 t
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [hi.1]; omega
    | ⟨1, _⟩ => show win0_3.index t 1 * 1024 ≤ (i 1).val ∧ (i 1).val < win0_3.index t 1 * 1024 + 1024; rw [hi.2]; omega

/-! ## The reference, and the claim -/

theorem ref3 (x0 : Vec Ideal S4096x128 .bf16) (x1 : Vec Ideal S2048x128 .bf16) (x2 : Vec Ideal S4096x2048 .f32) :
    (fun y : S4096x2048.Idx => full3 x0 x1 x2 (y 0) (y 1)) = val_main_v5 (F := Ideal) x0 x1 x2 := by
  funext y
  obtain ⟨p, q, rfl⟩ : ∃ (p : Fin 4096) (q : Fin 2048), y = ix2 p q := ⟨y 0, y 1, eq_ix2 y⟩
  show full3 x0 x1 x2 p q = _
  unfold full3
  pointwise [val_main_v5, val_main_v4, val_main_v3, val_main_v2, val_main_v1]
  exact add_comm _ _

set_option maxHeartbeats 2000000 in
/-- The kernel's and the reference's results are equal, on any arguments. -/
theorem algebraic : Cert.algebraic_Kernel11Ideal_Reference11Ideal := by
  intro m ρ m' ρ' _ hagree
  refine ⟨fun c => (dats m 0 c).arrAt 3 cfg0.N, ?_, ?_⟩
  · exact Value.run_blocks m ρ
  · refine (θ_run Cert.Reference11Ideal.defs _ _).mono (fun r h c => ?_) (Cert.Reference11Ideal.Value.run (F := Ideal) m' ρ')
    obtain ⟨a0, a1, a2⟩ := hagree c
    obtain ⟨w0, w1⟩ := h c
    refine ⟨w0.trans ?_, w1⟩
    · rw [val_main_v5_eq, a0, a1, a2]
      refine (ref3 (m ((c : Thread nD τ).loc main_arg0)) (m ((c : Thread nD τ).loc main_arg1)) (m ((c : Thread nD τ).loc main_arg2))).symm.trans ?_
      show _ = (dats m 0 c).arrAt 3 cfg0.N
      rw [final3, V_main_arg0, V_main_arg1, V_main_arg2]

end Cert.Kernel11Ideal.Hand
-- ==== Proof.DwOut.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Sums

/-! The gradient of the output projection's weights, `mixedᵀ dh`, summed over the positions in four blocks. -/

@[expose] public section

set_option maxRecDepth 16384

noncomputable section

namespace Cert.Kernel12Ideal.Hand

open Idealize.ShloMosaic.TcCoe Idealize.SL.Sem
open Cert.Kernel12Ideal Cert.Kernel12Ideal.Gen Idealize.ShloMosaic
open Cert.Sums Cert.Reference12Ideal.Read

/-! ## What the body stores, in each of its three cases -/

section
variable (c : Dev nD) (i : grid0.Coords) (arg3 : Memref sig .tc .vmem S1024x2048 .bf16) (harg3 : arg3.IsWhole)
  (arg4 : Memref sig .tc .vmem S1024x1024 .bf16) (harg4 : arg4.IsWhole)
  (arg5 : Memref sig .tc .vmem S2048x1024 .bf16) (harg5 : arg5.IsWhole)
  (arg6 : Memref sig .tc .vmem S2048x1024 .f32) (harg6 : arg6.IsWhole)
  (x0 : Vec Ideal S1024x2048 .bf16) (x1 : Vec Ideal S1024x1024 .bf16)

set_option maxHeartbeats 1000000 in
theorem sout0_A_0_eq (hc0 : cond0_0 i) (hc1 : ¬cond0_1 i) :
    sout0_A_0 c i arg3 harg3 arg4 harg4 arg5 harg5 arg6 harg6 hc0 hc1 x0 x1 = k0_pay2 (k0_pay1 (F := Ideal)) x0 x1 := by
  unfold sout0_A_0
  rw [View.read_writes_eq_canon _ _ _ (scover0_A_0 _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem sout0_B_0_eq (hc0 : ¬cond0_0 i) (hc1 : ¬cond0_1 i) (xs0 : Vec Ideal S2048x1024 .f32) :
    sout0_B_0 c i arg3 harg3 arg4 harg4 arg5 harg5 arg6 harg6 hc0 hc1 x0 x1 xs0 = k0_pay2 (xs0) x0 x1 := by
  unfold sout0_B_0
  rw [View.read_writes_eq_canon _ _ _ (scover0_B_0 _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem sout0_C_0_eq (hc0 : ¬cond0_0 i) (hc1 : cond0_1 i) (xs0 : Vec Ideal S2048x1024 .f32) :
    sout0_C_0 c i arg3 harg3 arg4 harg4 arg5 harg5 arg6 harg6 hc0 hc1 x0 x1 xs0 = k0_pay2 (xs0) x0 x1 := by
  unfold sout0_C_0
  rw [View.read_writes_eq_canon _ _ _ (scover0_C_0 _ _ _ _ _ _ _ _ _ _ _ _ _ _ _)]
  unfold kernelRun0_C
  dsimp only
  sl_unfold_words
  simp only [View.readAt_eq_ld, Memref.IsWhole.read_unread, View.readCov_cons_toLoadRect, canon2, ld2]

set_option maxHeartbeats 1000000 in
theorem out0_C_2_eq (hc0 : ¬cond0_0 i) (hc1 : cond0_1 i) (xs0 : Vec Ideal S2048x1024 .f32) :
    out0_C_2 c i arg3 harg3 arg4 harg4 arg5 harg5 arg6 harg6 hc0 hc1 x0 x1 xs0 = k0_pay3 (k0_pay2 (xs0) x0 x1) := by
  unfold out0_C_2
  rw [View.read_writes_eq_canon _ _ _ (cover0_C_2 _ _ _ _ _ _ _ _ _ _ _ _ _ _ _)]
  unfold kernelRun0_C
  dsimp only
  sl_unfold_words
  simp only [View.readAt_eq_ld, Memref.IsWhole.read_unread, View.readCov_cons_toLoadRect, canon2, ld2]

end

theorem pay1_apply (p : Fin 2048) (q : Fin 1024) : k0_pay1 (F := Ideal) (ix2 p q) = (0 : EReal) := by
  pointwise [k0_pay1]

theorem pay2_apply (a : Vec Ideal S2048x1024 .f32) (x0 : Vec Ideal S1024x2048 .bf16) (x1 : Vec Ideal S1024x1024 .bf16) (p : Fin 2048) (q : Fin 1024) :
    k0_pay2 a x0 x1 (ix2 p q) = a (ix2 p q) + ((∑ j : Fin 1024, x0 (ix2 j p) * x1 (ix2 j q))) := by
  pointwise [k0_pay2]

theorem pay3_apply (a : Vec Ideal S2048x1024 .f32) (p : Fin 2048) (q : Fin 1024) : k0_pay3 a (ix2 p q) = a (ix2 p q) := by
  pointwise [k0_pay3]

/-! ## The blocks of the arrays -/

/-- The row, the column and the summed position that a point's block and a place in it stand for: run `r` of the grid is
    block `r / 2` of rows and block `r % 2` of columns. -/
def row (r : ℕ) (p : Fin 2048) : Fin 2048 := at' (by decide) 2048 (r / 2) p.val
def col (r : ℕ) (q : Fin 1024) : Fin 2048 := at' (by decide) 1024 (r % 2) q.val
def kk (b j : ℕ) : Fin 4096 := at' (by decide) 1024 b j

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = t.val / 4 % 2 := by decide +kernel
theorem idx2 : ∀ t : Fin grid0.N, win0_2.index t 0 = t.val / 4 / 2 ∧ win0_2.index t 1 = t.val / 4 % 2 := by decide +kernel
theorem t_lt (t : Fin cfg0.N) : t.val < 8 := lt_of_lt_of_eq t.isLt N_0
theorem row_val {r : ℕ} (hr : r < 2) (p : Fin 2048) : (row r p).val = 2048 * (r / 2) + p.val := at'_val _ (by have := p.isLt; omega)
theorem col_val (r : ℕ) (q : Fin 1024) : (col r q).val = 1024 * (r % 2) + q.val := at'_val _ (by have := q.isLt; omega)
theorem kk_val {b : ℕ} (hb : b < 4) (j : Fin 1024) : (kk b j.val).val = 1024 * b + j.val := at'_val _ (by have := j.isLt; omega)

theorem rd0 (X : Vec Ideal S4096x2048 .bf16) (t : Fin cfg0.N) (j : Fin 1024) (p : Fin 2048) :
    ((cfg0.win 0).blk t).view.read (Elt Ideal) X (ix2 j p) = X (ix2 (kk (t.val % 4) j.val) (row (t.val / 4) p)) := by
  have ht := t_lt t
  have hr : t.val / 4 < 2 := by omega
  have hk : t.val % 4 < 4 := Nat.mod_lt _ (by decide)
  rw [View.read_apply]
  refine congrArg X ?_
  funext a
  apply Fin.ext
  match a with
  | ⟨0, _⟩ => show win0_0.index t 0 * 1024 + 1 * j.val = (kk (t.val % 4) j.val).val; rw [(idx0 t).1, kk_val hk j]; omega
  | ⟨1, _⟩ => show win0_0.index t 1 * 2048 + 1 * p.val = (row (t.val / 4) p).val; rw [(idx0 t).2, row_val hr p]; omega

theorem rd1 (X : Vec Ideal S4096x2048 .bf16) (t : Fin cfg0.N) (j : Fin 1024) (q : Fin 1024) :
    ((cfg0.win 1).blk t).view.read (Elt Ideal) X (ix2 j q) = X (ix2 (kk (t.val % 4) j.val) (col (t.val / 4) q)) := by
  have ht := t_lt t
  have hr : t.val / 4 < 2 := by omega
  have hk : t.val % 4 < 4 := Nat.mod_lt _ (by decide)
  rw [View.read_apply]
  refine congrArg X ?_
  funext a
  apply Fin.ext
  match a with
  | ⟨0, _⟩ => show win0_1.index t 0 * 1024 + 1 * j.val = (kk (t.val % 4) j.val).val; rw [(idx1 t).1, kk_val hk j]; omega
  | ⟨1, _⟩ => show win0_1.index t 1 * 1024 + 1 * q.val = (col (t.val / 4) q).val; rw [(idx1 t).2, col_val _ q]; omega

/-- What block `b` of the summed axis adds to a place of run `r`'s block. -/
def term (X0 : Vec Ideal S4096x2048 .bf16) (X1 : Vec Ideal S4096x2048 .bf16) (r b : ℕ) (p : Fin 2048) (q : Fin 1024) : EReal :=
  (∑ j : Fin 1024, X0 (ix2 (kk b j.val) (row r p)) * X1 (ix2 (kk b j.val) (col r q)))

variable (m : (ℓ : Loc nD τ sig) → Buf (Elt Ideal) ℓ) (c : Dev nD)

theorem step_eq (t : Fin cfg0.N) (a : Vec Ideal S2048x1024 .f32) (p : Fin 2048) (q : Fin 1024) :
    k0_pay2 a (iblk m c 0 t) (iblk m c 1 t) (ix2 p q) = a (ix2 p q) + term (V m c main_arg0) (V m c main_arg1) (t.val / 4) (t.val % 4) p q := by
  refine (pay2_apply a _ _ p q).trans ?_
  refine congrArg (a (ix2 p q) + ·) ?_
  unfold term
  exact Finset.sum_congr rfl fun j _ => congrArg₂ (· * ·) (rd0 (V m c main_arg0) t j p) (rd1 (V m c main_arg1) t j q)

/-- The running sum after a point: the blocks of the summed axis visited so far. -/
theorem acc_eq : ∀ (n : ℕ) (hn : n < cfg0.N) (p : Fin 2048) (q : Fin 1024),
    (outsAt0 m c n hn).2 (ix2 p q) = ∑ b ∈ Finset.range (n % 4 + 1), term (V m c main_arg0) (V m c main_arg1) (n / 4) b p q := by
  intro n
  induction n with
  | zero =>
    intro hn p q
    have e := outsAt0_A m c ⟨0, hn⟩ rfl (show ¬(0 % 4 = 3) by decide)
    rw [sout0_A_0_eq] at e
    rw [show outsAt0 m c 0 hn = _ from e]
    refine (step_eq m c ⟨0, hn⟩ _ p q).trans ?_
    rw [pay1_apply, zero_add]
    simp only [Nat.zero_mod, zero_add, Finset.sum_range_one]
  | succ n ih =>
    intro hn p q
    have hN := t_lt ⟨n + 1, hn⟩
    have hv : (⟨n + 1, hn⟩ : Fin cfg0.N).val = n + 1 := rfl
    by_cases h0 : (n + 1) % 4 = 0
    · have e := outsAt0_A m c ⟨n + 1, hn⟩ h0 (by rw [hv]; omega)
      rw [sout0_A_0_eq] at e
      rw [show outsAt0 m c (n + 1) hn = _ from e]
      refine (step_eq m c ⟨n + 1, hn⟩ _ p q).trans ?_
      rw [pay1_apply, zero_add]
      simp only [h0, zero_add, Finset.sum_range_one]
    · have h1 : (n + 1) % 4 = n % 4 + 1 := by omega
      have h2 : (n + 1) / 4 = n / 4 := by omega
      have key : (outsAt0 m c (n + 1) hn).2 = k0_pay2 ((outsAt0 m c n (Nat.lt_of_succ_lt hn)).2) (iblk m c 0 ⟨n + 1, hn⟩) (iblk m c 1 ⟨n + 1, hn⟩) := by
        by_cases h3 : (n + 1) % 4 = 3
        · have e := outsAt0_C m c ⟨n + 1, hn⟩ h0 h3
          rw [sout0_C_0_eq] at e
          exact congrArg Prod.snd e
        · have e := outsAt0_B m c ⟨n + 1, hn⟩ h0 h3
          rw [sout0_B_0_eq] at e
          exact congrArg Prod.snd e
      refine (congrFun key _).trans ((step_eq m c ⟨n + 1, hn⟩ _ p q).trans ?_)
      rw [ih]
      show _ + term (V m c main_arg0) (V m c main_arg1) ((n + 1) / 4) ((n + 1) % 4) p q = _
      rw [h1, h2, Finset.sum_range_succ _ (n % 4 + 1)]

/-- The whole product at an index. -/
def full (X0 : Vec Ideal S4096x2048 .bf16) (X1 : Vec Ideal S4096x2048 .bf16) (p : Fin 2048) (q : Fin 2048) : EReal :=
  (∑ k : Fin 4096, X0 (ix2 k p) * X1 (ix2 k q))

theorem sum_term (X0 : Vec Ideal S4096x2048 .bf16) (X1 : Vec Ideal S4096x2048 .bf16) (r : ℕ) (p : Fin 2048) (q : Fin 1024) :
    ∑ b ∈ Finset.range 4, term X0 X1 r b p q = full X0 X1 (row r p) (col r q) := by
  unfold term full
  exact sum_blocks (by decide) 1024 4 (by decide) (fun k : Fin 4096 => X0 (ix2 k (row r p)) * X1 (ix2 k (col r q)))

/-- What the last point of a run leaves in the output's block. -/
theorem out_eq (t : Fin cfg0.N) (ht : t.val % 4 = 3) (p : Fin 2048) (q : Fin 1024) :
    (outsAt0 m c t.val t.isLt).1 (ix2 p q) = full (V m c main_arg0) (V m c main_arg1) (row (t.val / 4) p) (col (t.val / 4) q) := by
  have h0 : ¬t.val % 4 = 0 := by omega
  have e := outsAt0_C m c t h0 ht
  have a := acc_eq m c t.val t.isLt p q
  rw [e] at a ⊢
  rw [out0_C_2_eq]
  rw [sout0_C_0_eq] at a
  refine (pay3_apply _ p q).trans (a.trans ?_)
  rw [ht]
  exact sum_term (V m c main_arg0) (V m c main_arg1) (t.val / 4) p q

/-- The output array after the run. -/
theorem final_out : (dats m 0 c).arrAt 2 cfg0.N = (fun y : S2048x2048.Idx => full (V m c main_arg0) (V m c main_arg1) (y 0) (y 1)) := by
  refine (dats m 0 c).arrAt_eq_of_cover 2 _ ?_ ?_
  · intro t hf
    have ht : t.val % 4 = 3 := (flush0_2 t).mp hf
    rw [Value.flushed2]
    funext y
    obtain ⟨p, q, rfl⟩ : ∃ (p : Fin 2048) (q : Fin 1024), y = (ix2 p q : S2048x1024.Idx) := ⟨y 0, y 1, by funext a; match a with | ⟨0, _⟩ => rfl | ⟨1, _⟩ => rfl⟩
    rw [View.read_apply]
    refine (out_eq m c t ht p q).trans ?_
    have htl := t_lt t
    have hi := idx2 t
    have e0 : ((((cfg0.win 2).blk t).view.emb (ix2 p q : S2048x1024.Idx) : S2048x2048.Idx) 0) = row (t.val / 4) p := by
      apply Fin.ext
      rw [row_val (by omega)]
      show win0_2.index t 0 * 2048 + 1 * p.val = _; rw [hi.1]; omega
    have e1 : ((((cfg0.win 2).blk t).view.emb (ix2 p q : S2048x1024.Idx) : S2048x2048.Idx) 1) = col (t.val / 4) q := by
      apply Fin.ext
      rw [col_val]
      show win0_2.index t 1 * 1024 + 1 * q.val = _; rw [hi.2]; omega
    show _ = full (V m c main_arg0) (V m c main_arg1) ((((cfg0.win 2).blk t).view.emb (ix2 p q : S2048x1024.Idx) : S2048x2048.Idx) 0) ((((cfg0.win 2).blk t).view.emb (ix2 p q : S2048x1024.Idx) : S2048x2048.Idx) 1)
    rw [e0, e1]
  · intro i
    exact (Value.covered_iff2 i).2 (by have h0 : (i 0).val < 2048 := (i 0).isLt; have h1 : (i 1).val < 2048 := (i 1).isLt; omega)

/-! ## The reference's product, and the claim -/

theorem ref_eq : (dats m 0 c).arrAt 2 cfg0.N = val_main_v6 (F := Ideal) (m ((c : Thread nD τ).loc main_arg0)) (m ((c : Thread nD τ).loc main_arg1)) := by
  rw [final_out]
  funext y
  obtain ⟨p, q, rfl⟩ : ∃ (p : Fin 2048) (q : Fin 2048), y = ix2 p q := ⟨y 0, y 1, eq_ix2 y⟩
  have hV : full (V m c main_arg0) (V m c main_arg1) p q = full (m ((c : Thread nD τ).loc main_arg0)) (m ((c : Thread nD τ).loc main_arg1)) p q := by rw [V_main_arg0, V_main_arg1]
  refine hV.trans ?_
  unfold full
  pointwise [val_main_v6, val_main_v5, val_main_v4, val_main_v3, val_main_v1]
  exact Finset.sum_congr rfl fun k _ => mul_comm _ _

set_option maxHeartbeats 2000000 in
/-- The kernel's product and the reference's are equal, on any arguments. -/
theorem algebraic : Cert.algebraic_Kernel12Ideal_Reference12Ideal := by
  intro m ρ m' ρ' _ hagree
  refine ⟨fun c => (dats m 0 c).arrAt 2 cfg0.N, ?_, ?_⟩
  · exact Value.run_blocks m ρ
  · refine (θ_run Cert.Reference12Ideal.defs _ _).mono (fun r h c => ?_) (Cert.Reference12Ideal.Value.run (F := Ideal) m' ρ')
    obtain ⟨a0, a1⟩ := hagree c
    obtain ⟨w0, w1⟩ := h c
    refine ⟨w0.trans ?_, w1⟩
    rw [val_main_v6_eq, a0, a1]
    exact (ref_eq m c).symm

end Cert.Kernel12Ideal.Hand
-- ==== Proof.Dmixed.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Sums

/-! The gradient of the output projection's input, `dh w_outᵀ`. -/

@[expose] public section

set_option maxRecDepth 16384

noncomputable section

namespace Cert.Kernel13Ideal.Hand

open Idealize.ShloMosaic.TcCoe Idealize.SL.Sem
open Cert.Kernel13Ideal Cert.Kernel13Ideal.Gen Idealize.ShloMosaic
open Cert.Sums Cert.Reference13Ideal.Read

/-! ## What the body stores -/

theorem out0_2_eq (x0 : Vec Ideal S1024x2048 .bf16) (x1 : Vec Ideal S1024x2048 .bf16) : out0_2 (F := Ideal) x0 x1 = k0_pay1 x0 x1 := by
  unfold out0_2
  refine (canon2 _ _).trans ?_
  show k0_pay1 (View.ld x0 (Rect.unit (s := S1024x2048) ![0, 0] ![1024, 2048] inb_S1024x2048_S1024x2048_0_0)) (View.ld x1 (Rect.unit (s := S1024x2048) ![0, 0] ![1024, 2048] inb_S1024x2048_S1024x2048_0_0)) = _
  simp only [ld2]

theorem pay2_apply (x0 : Vec Ideal S1024x2048 .bf16) (x1 : Vec Ideal S1024x2048 .bf16) (p : Fin 1024) (q : Fin 1024) :
    k0_pay1 (F := Ideal) x0 x1 (ix2 p q) = (∑ j : Fin 2048, x0 (ix2 p j) * x1 (ix2 q j)) := by
  pointwise [k0_pay1]

/-! ## The blocks of the arrays -/

/-- The row and the column that a point's block and a place in it stand for: point `t` is block `t / 2` of rows and block
    `t % 2` of columns. -/
def row (t : ℕ) (p : Fin 1024) : Fin 4096 := at' (by decide) 1024 (t / 2) p.val
def col (t : ℕ) (q : Fin 1024) : Fin 2048 := at' (by decide) 1024 (t % 2) q.val

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel
theorem t_lt (t : Fin cfg0.N) : t.val < 8 := lt_of_lt_of_eq t.isLt N_0
theorem row_val {t : ℕ} (ht : t < 8) (p : Fin 1024) : (row t p).val = 1024 * (t / 2) + p.val := at'_val _ (by have := p.isLt; omega)
theorem col_val (t : ℕ) (q : Fin 1024) : (col t q).val = 1024 * (t % 2) + q.val := at'_val _ (by have := q.isLt; omega)

theorem rd0 (X : Vec Ideal S4096x2048 .bf16) (t : Fin cfg0.N) (p : Fin 1024) (j : Fin 2048) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 2048 + 1 * j.val = (j).val; rw [(idx0 t).2]; omega

theorem rd1 (X : Vec Ideal S2048x2048 .bf16) (t : Fin cfg0.N) (q : Fin 1024) (j : Fin 2048) :
    ((cfg0.win 1).blk t).view.read (Elt Ideal) X (ix2 q j) = X (ix2 (col t.val q) j) := by
  have ht := t_lt t
  rw [View.read_apply]
  refine congrArg X ?_
  funext a
  apply Fin.ext
  match a with
  | ⟨0, _⟩ => show win0_1.index t 0 * 1024 + 1 * q.val = ((col t.val q)).val; rw [(idx1 t).1, col_val _ q]; omega
  | ⟨1, _⟩ => show win0_1.index t 1 * 2048 + 1 * j.val = (j).val; rw [(idx1 t).2]; omega

/-- Output 2 of the whole computation at an index. -/
def full2 (X0 : Vec Ideal S4096x2048 .bf16) (X1 : Vec Ideal S2048x2048 .bf16) (p : Fin 4096) (q : Fin 2048) : EReal :=
  (∑ j : Fin 2048, X0 (ix2 p j) * X1 (ix2 q j))

variable (m : (ℓ : Loc nD τ sig) → Buf (Elt Ideal) ℓ) (c : Dev nD)

theorem out2_eq (t : Fin cfg0.N) (p : Fin 1024) (q : Fin 1024) :
    out0_2 (F := Ideal) (iblk m c 0 t) (iblk m c 1 t) (ix2 p q) = full2 (V m c main_arg0) (V m c main_arg1) (row t.val p) (col t.val q) := by
  rw [out0_2_eq]
  refine (pay2_apply (iblk m c 0 t) (iblk m c 1 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 q j) = V m c main_arg1 (ix2 (col t.val q) j) := fun j => rd1 (V m c main_arg1) t q j
  unfold full2
  simp only [h0, h1]

theorem final2 : (dats m 0 c).arrAt 2 cfg0.N = (fun y : S4096x2048.Idx => full2 (V m c main_arg0) (V m c main_arg1) (y 0) (y 1)) := by
  refine (dats m 0 c).arrAt_eq_of_cover 2 _ ?_ ?_
  · intro t _
    rw [Value.flushed2]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out2_eq m c t p q).trans ?_
    have htl := t_lt t
    have hi := idx2 t
    have e0 : ((((cfg0.win 2).blk t).view.emb (ix2 p q : S1024x1024.Idx) : S4096x2048.Idx) 0) = row t.val p := by
      apply Fin.ext
      rw [row_val htl]
      show win0_2.index t 0 * 1024 + 1 * p.val = _; rw [hi.1]; omega
    have e1 : ((((cfg0.win 2).blk t).view.emb (ix2 p q : S1024x1024.Idx) : S4096x2048.Idx) 1) = col t.val q := by
      apply Fin.ext
      rw [col_val]
      show win0_2.index t 1 * 1024 + 1 * q.val = _; rw [hi.2]; omega
    show _ = full2 (V m c main_arg0) (V m c main_arg1) ((((cfg0.win 2).blk t).view.emb (ix2 p q : S1024x1024.Idx) : S4096x2048.Idx) 0) ((((cfg0.win 2).blk t).view.emb (ix2 p q : S1024x1024.Idx) : S4096x2048.Idx) 1)
    rw [e0, e1]
  · intro i
    have h0 : (i 0).val < 4096 := (i 0).isLt
    have h1 : (i 1).val < 2048 := (i 1).isLt
    refine ⟨⟨2 * ((i 0).val / 1024) + (i 1).val / 1024, lt_of_lt_of_eq (by omega : _ < 8) N_0.symm⟩, flush0_2 _, ?_⟩
    generalize ht : (⟨2 * ((i 0).val / 1024) + (i 1).val / 1024, _⟩ : Fin cfg0.N) = t
    have tv : t.val = 2 * ((i 0).val / 1024) + (i 1).val / 1024 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1]; omega
    | ⟨1, _⟩ => show win0_2.index t 1 * 1024 ≤ (i 1).val ∧ (i 1).val < win0_2.index t 1 * 1024 + 1024; rw [hi.2]; omega

/-! ## The reference, and the claim -/

theorem ref2 (x0 : Vec Ideal S4096x2048 .bf16) (x1 : Vec Ideal S2048x2048 .bf16) :
    (fun y : S4096x2048.Idx => full2 x0 x1 (y 0) (y 1)) = val_main_v4 (F := Ideal) x0 x1 := by
  funext y
  obtain ⟨p, q, rfl⟩ : ∃ (p : Fin 4096) (q : Fin 2048), y = ix2 p q := ⟨y 0, y 1, eq_ix2 y⟩
  show full2 x0 x1 p q = _
  unfold full2
  pointwise [val_main_v4, val_main_v3, val_main_v2, val_main_v1]

set_option maxHeartbeats 2000000 in
/-- The kernel's and the reference's results are equal, on any arguments. -/
theorem algebraic : Cert.algebraic_Kernel13Ideal_Reference13Ideal := by
  intro m ρ m' ρ' _ hagree
  refine ⟨fun c => (dats m 0 c).arrAt 2 cfg0.N, ?_, ?_⟩
  · exact Value.run_blocks m ρ
  · refine (θ_run Cert.Reference13Ideal.defs _ _).mono (fun r h c => ?_) (Cert.Reference13Ideal.Value.run (F := Ideal) m' ρ')
    obtain ⟨a0, a1⟩ := hagree c
    obtain ⟨w0, w1⟩ := h c
    refine ⟨w0.trans ?_, w1⟩
    · rw [val_main_v4_eq, a0, a1]
      refine (ref2 (m ((c : Thread nD τ).loc main_arg0)) (m ((c : Thread nD τ).loc main_arg1))).symm.trans ?_
      show _ = (dats m 0 c).arrAt 2 cfg0.N
      rw [final2, V_main_arg0, V_main_arg1]

end Cert.Kernel13Ideal.Hand
-- ==== Proof.OutProj.lean ====
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Sums

/-! The output projection added to the residual stream, `mixed w_out + x`. -/

@[expose] public section

set_option maxRecDepth 16384

noncomputable section

namespace Cert.Kernel14Ideal.Hand

open Idealize.ShloMosaic.TcCoe Idealize.SL.Sem
open Cert.Kernel14Ideal Cert.Kernel14Ideal.Gen Idealize.ShloMosaic
open Cert.Sums Cert.Reference14Ideal.Read

/-! ## What the body stores -/

theorem out0_3_eq (x0 : Vec Ideal S1024x2048 .bf16) (x1 : Vec Ideal S2048x1024 .bf16) (x2 : Vec Ideal S1024x1024 .f32) : out0_3 (F := Ideal) x0 x1 x2 = k0_pay1 x0 x1 x2 := by
  unfold out0_3
  refine (canon2 _ _).trans ?_
  show k0_pay1 (View.ld x0 (Rect.unit (s := S1024x2048) ![0, 0] ![1024, 2048] inb_S1024x2048_S1024x2048_0_0)) (View.ld x1 (Rect.unit (s := S2048x1024) ![0, 0] ![2048, 1024] inb_S2048x1024_S2048x1024_0_0)) (View.ld x2 (Rect.unit (s := S1024x1024) ![0, 0] ![1024, 1024] inb_S1024x1024_S1024x1024_0_0)) = _
  simp only [ld2]

theorem pay3_apply (x0 : Vec Ideal S1024x2048 .bf16) (x1 : Vec Ideal S2048x1024 .bf16) (x2 : Vec Ideal S1024x1024 .f32) (p : Fin 1024) (q : Fin 1024) :
    k0_pay1 (F := Ideal) x0 x1 x2 (ix2 p q) = (∑ j : Fin 2048, x0 (ix2 p j) * x1 (ix2 j q)) + x2 (ix2 p q) := by
  pointwise [k0_pay1]

/-! ## The blocks of the arrays -/

/-- The row and the column that a point's block and a place in it stand for: point `t` is block `t / 2` of rows and block
    `t % 2` of columns. -/
def row (t : ℕ) (p : Fin 1024) : Fin 4096 := at' (by decide) 1024 (t / 2) p.val
def col (t : ℕ) (q : Fin 1024) : Fin 2048 := at' (by decide) 1024 (t % 2) q.val

theorem idx0 : ∀ t : Fin grid0.N, win0_0.index t 0 = t.val / 2 ∧ win0_0.index t 1 = 0 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = t.val % 2 := by decide +kernel
theorem idx3 : ∀ t : Fin grid0.N, win0_3.index t 0 = t.val / 2 ∧ win0_3.index t 1 = t.val % 2 := by decide +kernel
theorem t_lt (t : Fin cfg0.N) : t.val < 8 := lt_of_lt_of_eq t.isLt N_0
theorem row_val {t : ℕ} (ht : t < 8) (p : Fin 1024) : (row t p).val = 1024 * (t / 2) + p.val := at'_val _ (by have := p.isLt; omega)
theorem col_val (t : ℕ) (q : Fin 1024) : (col t q).val = 1024 * (t % 2) + q.val := at'_val _ (by have := q.isLt; omega)

theorem rd0 (X : Vec Ideal S4096x2048 .bf16) (t : Fin cfg0.N) (p : Fin 1024) (j : Fin 2048) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 2048 + 1 * j.val = (j).val; rw [(idx0 t).2]; omega

theorem rd1 (X : Vec Ideal S2048x2048 .bf16) (t : Fin cfg0.N) (j : Fin 2048) (q : Fin 1024) :
    ((cfg0.win 1).blk t).view.read (Elt Ideal) X (ix2 j q) = X (ix2 j (col t.val q)) := by
  have ht := t_lt t
  rw [View.read_apply]
  refine congrArg X ?_
  funext a
  apply Fin.ext
  match a with
  | ⟨0, _⟩ => show win0_1.index t 0 * 2048 + 1 * j.val = (j).val; rw [(idx1 t).1]; omega
  | ⟨1, _⟩ => show win0_1.index t 1 * 1024 + 1 * q.val = ((col t.val q)).val; rw [(idx1 t).2, col_val _ q]; omega

theorem rd2 (X : Vec Ideal S4096x2048 .f32) (t : Fin cfg0.N) (p : Fin 1024) (q : Fin 1024) :
    ((cfg0.win 2).blk t).view.read (Elt Ideal) X (ix2 p q) = X (ix2 (row t.val p) (col t.val q)) := by
  have ht := t_lt t
  rw [View.read_apply]
  refine congrArg X ?_
  funext a
  apply Fin.ext
  match a with
  | ⟨0, _⟩ => show win0_2.index t 0 * 1024 + 1 * p.val = ((row t.val p)).val; rw [(idx2 t).1, row_val ht p]; omega
  | ⟨1, _⟩ => show win0_2.index t 1 * 1024 + 1 * q.val = ((col t.val q)).val; rw [(idx2 t).2, col_val _ q]; omega

/-- Output 3 of the whole computation at an index. -/
def full3 (X0 : Vec Ideal S4096x2048 .bf16) (X1 : Vec Ideal S2048x2048 .bf16) (X2 : Vec Ideal S4096x2048 .f32) (p : Fin 4096) (q : Fin 2048) : EReal :=
  (∑ j : Fin 2048, X0 (ix2 p j) * X1 (ix2 j q)) + X2 (ix2 p q)

variable (m : (ℓ : Loc nD τ sig) → Buf (Elt Ideal) ℓ) (c : Dev nD)

theorem out3_eq (t : Fin cfg0.N) (p : Fin 1024) (q : Fin 1024) :
    out0_3 (F := Ideal) (iblk m c 0 t) (iblk m c 1 t) (iblk m c 2 t) (ix2 p q) = full3 (V m c main_arg0) (V m c main_arg1) (V m c main_arg2) (row t.val p) (col t.val q) := by
  rw [out0_3_eq]
  refine (pay3_apply (iblk m c 0 t) (iblk m c 1 t) (iblk m c 2 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 j q) = V m c main_arg1 (ix2 j (col t.val q)) := fun j => rd1 (V m c main_arg1) t j q
  have h2 : iblk m c 2 t (ix2 p q) = V m c main_arg2 (ix2 (row t.val p) (col t.val q)) := rd2 (V m c main_arg2) t p q
  unfold full3
  simp only [h0, h1, h2]

theorem final3 : (dats m 0 c).arrAt 3 cfg0.N = (fun y : S4096x2048.Idx => full3 (V m c main_arg0) (V m c main_arg1) (V m c main_arg2) (y 0) (y 1)) := by
  refine (dats m 0 c).arrAt_eq_of_cover 3 _ ?_ ?_
  · intro t _
    rw [Value.flushed3]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out3_eq m c t p q).trans ?_
    have htl := t_lt t
    have hi := idx3 t
    have e0 : ((((cfg0.win 3).blk t).view.emb (ix2 p q : S1024x1024.Idx) : S4096x2048.Idx) 0) = row t.val p := by
      apply Fin.ext
      rw [row_val htl]
      show win0_3.index t 0 * 1024 + 1 * p.val = _; rw [hi.1]; omega
    have e1 : ((((cfg0.win 3).blk t).view.emb (ix2 p q : S1024x1024.Idx) : S4096x2048.Idx) 1) = col t.val q := by
      apply Fin.ext
      rw [col_val]
      show win0_3.index t 1 * 1024 + 1 * q.val = _; rw [hi.2]; omega
    show _ = full3 (V m c main_arg0) (V m c main_arg1) (V m c main_arg2) ((((cfg0.win 3).blk t).view.emb (ix2 p q : S1024x1024.Idx) : S4096x2048.Idx) 0) ((((cfg0.win 3).blk t).view.emb (ix2 p q : S1024x1024.Idx) : S4096x2048.Idx) 1)
    rw [e0, e1]
  · intro i
    have h0 : (i 0).val < 4096 := (i 0).isLt
    have h1 : (i 1).val < 2048 := (i 1).isLt
    refine ⟨⟨2 * ((i 0).val / 1024) + (i 1).val / 1024, lt_of_lt_of_eq (by omega : _ < 8) N_0.symm⟩, flush0_3 _, ?_⟩
    generalize ht : (⟨2 * ((i 0).val / 1024) + (i 1).val / 1024, _⟩ : Fin cfg0.N) = t
    have tv : t.val = 2 * ((i 0).val / 1024) + (i 1).val / 1024 := by rw [← ht]
    have hi := idx3 t
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [hi.1]; omega
    | ⟨1, _⟩ => show win0_3.index t 1 * 1024 ≤ (i 1).val ∧ (i 1).val < win0_3.index t 1 * 1024 + 1024; rw [hi.2]; omega

/-! ## The reference, and the claim -/

theorem ref3 (x0 : Vec Ideal S4096x2048 .bf16) (x1 : Vec Ideal S2048x2048 .bf16) (x2 : Vec Ideal S4096x2048 .f32) :
    (fun y : S4096x2048.Idx => full3 x0 x1 x2 (y 0) (y 1)) = val_main_v3 (F := Ideal) x0 x1 x2 := by
  funext y
  obtain ⟨p, q, rfl⟩ : ∃ (p : Fin 4096) (q : Fin 2048), y = ix2 p q := ⟨y 0, y 1, eq_ix2 y⟩
  show full3 x0 x1 x2 p q = _
  unfold full3
  pointwise [val_main_v3, val_main_v2, val_main_v1, val_main_v0]
  exact add_comm _ _

set_option maxHeartbeats 2000000 in
/-- The kernel's and the reference's results are equal, on any arguments. -/
theorem algebraic : Cert.algebraic_Kernel14Ideal_Reference14Ideal := by
  intro m ρ m' ρ' _ hagree
  refine ⟨fun c => (dats m 0 c).arrAt 3 cfg0.N, ?_, ?_⟩
  · exact Value.run_blocks m ρ
  · refine (θ_run Cert.Reference14Ideal.defs _ _).mono (fun r h c => ?_) (Cert.Reference14Ideal.Value.run (F := Ideal) m' ρ')
    obtain ⟨a0, a1, a2⟩ := hagree c
    obtain ⟨w0, w1⟩ := h c
    refine ⟨w0.trans ?_, w1⟩
    · rw [val_main_v3_eq, a0, a1, a2]
      refine (ref3 (m ((c : Thread nD τ).loc main_arg0)) (m ((c : Thread nD τ).loc main_arg1)) (m ((c : Thread nD τ).loc main_arg2))).symm.trans ?_
      show _ = (dats m 0 c).arrAt 3 cfg0.N
      rw [final3, V_main_arg0, V_main_arg1, V_main_arg2]

end Cert.Kernel14Ideal.Hand
-- ==== Proof.InProj.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Sums

/-! The input projection's main columns. -/

@[expose] public section

set_option maxRecDepth 16384

noncomputable section

namespace Cert.Kernel15Ideal.Hand

open Idealize.ShloMosaic.TcCoe Idealize.SL.Sem
open Cert.Kernel15Ideal Cert.Kernel15Ideal.Gen Idealize.ShloMosaic
open Cert.Sums Cert.Reference15Ideal.Read

/-! ## What the body stores -/

theorem out0_2_eq (x0 : Vec Ideal S1024x2048 .bf16) (x1 : Vec Ideal S2048x1024 .bf16) : out0_2 (F := Ideal) x0 x1 = k0_pay1 x0 x1 := by
  unfold out0_2
  refine (canon2 _ _).trans ?_
  show k0_pay1 (View.ld x0 (Rect.unit (s := S1024x2048) ![0, 0] ![1024, 2048] inb_S1024x2048_S1024x2048_0_0)) (View.ld x1 (Rect.unit (s := S2048x1024) ![0, 0] ![2048, 1024] inb_S2048x1024_S2048x1024_0_0)) = _
  simp only [ld2]

theorem pay2_apply (x0 : Vec Ideal S1024x2048 .bf16) (x1 : Vec Ideal S2048x1024 .bf16) (p : Fin 1024) (q : Fin 1024) :
    k0_pay1 (F := Ideal) x0 x1 (ix2 p q) = (∑ j : Fin 2048, x0 (ix2 p j) * x1 (ix2 j q)) := by
  pointwise [k0_pay1]

/-! ## The blocks of the arrays -/

/-- The row and the column that a point's block and a place in it stand for: point `t` is block `t / 5` of rows and block
    `t % 5` of columns. -/
def row (t : ℕ) (p : Fin 1024) : Fin 4096 := at' (by decide) 1024 (t / 5) p.val
def col (t : ℕ) (q : Fin 1024) : Fin 5120 := at' (by decide) 1024 (t % 5) q.val

theorem idx0 : ∀ t : Fin grid0.N, win0_0.index t 0 = t.val / 5 ∧ win0_0.index t 1 = 0 := by decide +kernel
theorem idx1 : ∀ t : Fin grid0.N, win0_1.index t 0 = 0 ∧ win0_1.index t 1 = t.val % 5 := by decide +kernel
theorem idx2 : ∀ t : Fin grid0.N, win0_2.index t 0 = t.val / 5 ∧ win0_2.index t 1 = t.val % 5 := by decide +kernel
theorem t_lt (t : Fin cfg0.N) : t.val < 20 := lt_of_lt_of_eq t.isLt N_0
theorem row_val {t : ℕ} (ht : t < 20) (p : Fin 1024) : (row t p).val = 1024 * (t / 5) + p.val := at'_val _ (by have := p.isLt; omega)
theorem col_val (t : ℕ) (q : Fin 1024) : (col t q).val = 1024 * (t % 5) + q.val := at'_val _ (by have := q.isLt; omega)

theorem rd0 (X : Vec Ideal S4096x2048 .bf16) (t : Fin cfg0.N) (p : Fin 1024) (j : Fin 2048) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 2048 + 1 * j.val = (j).val; rw [(idx0 t).2]; omega

theorem rd1 (X : Vec Ideal S2048x5120 .bf16) (t : Fin cfg0.N) (j : Fin 2048) (q : Fin 1024) :
    ((cfg0.win 1).blk t).view.read (Elt Ideal) X (ix2 j q) = X (ix2 j (col t.val q)) := by
  have ht := t_lt t
  rw [View.read_apply]
  refine congrArg X ?_
  funext a
  apply Fin.ext
  match a with
  | ⟨0, _⟩ => show win0_1.index t 0 * 2048 + 1 * j.val = (j).val; rw [(idx1 t).1]; omega
  | ⟨1, _⟩ => show win0_1.index t 1 * 1024 + 1 * q.val = ((col t.val q)).val; rw [(idx1 t).2, col_val _ q]; omega

/-- Output 2 of the whole computation at an index. -/
def full2 (X0 : Vec Ideal S4096x2048 .bf16) (X1 : Vec Ideal S2048x5120 .bf16) (p : Fin 4096) (q : Fin 5120) : EReal :=
  (∑ j : Fin 2048, X0 (ix2 p j) * X1 (ix2 j q))

variable (m : (ℓ : Loc nD τ sig) → Buf (Elt Ideal) ℓ) (c : Dev nD)

theorem out2_eq (t : Fin cfg0.N) (p : Fin 1024) (q : Fin 1024) :
    out0_2 (F := Ideal) (iblk m c 0 t) (iblk m c 1 t) (ix2 p q) = full2 (V m c main_arg0) (V m c main_arg1) (row t.val p) (col t.val q) := by
  rw [out0_2_eq]
  refine (pay2_apply (iblk m c 0 t) (iblk m c 1 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 j q) = V m c main_arg1 (ix2 j (col t.val q)) := fun j => rd1 (V m c main_arg1) t j q
  unfold full2
  simp only [h0, h1]

theorem final2 : (dats m 0 c).arrAt 2 cfg0.N = (fun y : S4096x5120.Idx => full2 (V m c main_arg0) (V m c main_arg1) (y 0) (y 1)) := by
  refine (dats m 0 c).arrAt_eq_of_cover 2 _ ?_ ?_
  · intro t _
    rw [Value.flushed2]
    funext y
    obtain ⟨p, q, rfl⟩ : ∃ (p : Fin 1024) (q : Fin 1024), y = (ix2 p q : S1024x1024.Idx) := ⟨y 0, y 1, by funext a; match a with | ⟨0, _⟩ => rfl | ⟨1, _⟩ => rfl⟩
    rw [View.read_apply]
    refine (out2_eq m c t p q).trans ?_
    have htl := t_lt t
    have hi := idx2 t
    have e0 : ((((cfg0.win 2).blk t).view.emb (ix2 p q : S1024x1024.Idx) : S4096x5120.Idx) 0) = row t.val p := by
      apply Fin.ext
      rw [row_val htl]
      show win0_2.index t 0 * 1024 + 1 * p.val = _; rw [hi.1]; omega
    have e1 : ((((cfg0.win 2).blk t).view.emb (ix2 p q : S1024x1024.Idx) : S4096x5120.Idx) 1) = col t.val q := by
      apply Fin.ext
      rw [col_val]
      show win0_2.index t 1 * 1024 + 1 * q.val = _; rw [hi.2]; omega
    show _ = full2 (V m c main_arg0) (V m c main_arg1) ((((cfg0.win 2).blk t).view.emb (ix2 p q : S1024x1024.Idx) : S4096x5120.Idx) 0) ((((cfg0.win 2).blk t).view.emb (ix2 p q : S1024x1024.Idx) : S4096x5120.Idx) 1)
    rw [e0, e1]
  · intro i
    have h0 : (i 0).val < 4096 := (i 0).isLt
    have h1 : (i 1).val < 5120 := (i 1).isLt
    refine ⟨⟨5 * ((i 0).val / 1024) + (i 1).val / 1024, lt_of_lt_of_eq (by omega : _ < 20) N_0.symm⟩, flush0_2 _, ?_⟩
    generalize ht : (⟨5 * ((i 0).val / 1024) + (i 1).val / 1024, _⟩ : Fin cfg0.N) = t
    have tv : t.val = 5 * ((i 0).val / 1024) + (i 1).val / 1024 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1]; omega
    | ⟨1, _⟩ => show win0_2.index t 1 * 1024 ≤ (i 1).val ∧ (i 1).val < win0_2.index t 1 * 1024 + 1024; rw [hi.2]; omega

/-! ## The reference, and the claim -/

theorem ref2 (x0 : Vec Ideal S4096x2048 .bf16) (x1 : Vec Ideal S2048x5120 .bf16) :
    (fun y : S4096x5120.Idx => full2 x0 x1 (y 0) (y 1)) = val_main_v2 (F := Ideal) x0 x1 := by
  funext y
  obtain ⟨p, q, rfl⟩ : ∃ (p : Fin 4096) (q : Fin 5120), y = ix2 p q := ⟨y 0, y 1, eq_ix2 y⟩
  show full2 x0 x1 p q = _
  unfold full2
  pointwise [val_main_v2, val_main_v1, val_main_v0]

set_option maxHeartbeats 2000000 in
/-- The kernel's and the reference's results are equal, on any arguments. -/
theorem algebraic : Cert.algebraic_Kernel15Ideal_Reference15Ideal := by
  intro m ρ m' ρ' _ hagree
  refine ⟨fun c => (dats m 0 c).arrAt 2 cfg0.N, ?_, ?_⟩
  · exact Value.run_blocks m ρ
  · refine (θ_run Cert.Reference15Ideal.defs _ _).mono (fun r h c => ?_) (Cert.Reference15Ideal.Value.run (F := Ideal) m' ρ')
    obtain ⟨a0, a1⟩ := hagree c
    obtain ⟨w0, w1⟩ := h c
    refine ⟨w0.trans ?_, w1⟩
    · rw [val_main_v2_eq, a0, a1]
      refine (ref2 (m ((c : Thread nD τ).loc main_arg0)) (m ((c : Thread nD τ).loc main_arg1))).symm.trans ?_
      show _ = (dats m 0 c).arrAt 2 cfg0.N
      rw [final2, V_main_arg0, V_main_arg1]

end Cert.Kernel15Ideal.Hand
-- ==== Proof.InProjSmall.lean ====
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Sums

/-! The input projection's columns of the steps and the gates. -/

@[expose] public section

set_option maxRecDepth 16384

noncomputable section

namespace Cert.Kernel16Ideal.Hand

open Idealize.ShloMosaic.TcCoe Idealize.SL.Sem
open Cert.Kernel16Ideal Cert.Kernel16Ideal.Gen Idealize.ShloMosaic
open Cert.Sums Cert.Reference16Ideal.Read

/-! ## What the body stores -/

theorem out0_2_eq (x0 : Vec Ideal S1024x2048 .bf16) (x1 : Vec Ideal S2048x128 .bf16) : out0_2 (F := Ideal) x0 x1 = k0_pay1 x0 x1 := by
  unfold out0_2
  refine (canon2 _ _).trans ?_
  show k0_pay1 (View.ld x0 (Rect.unit (s := S1024x2048) ![0, 0] ![1024, 2048] inb_S1024x2048_S1024x2048_0_0)) (View.ld x1 (Rect.unit (s := S2048x128) ![0, 0] ![2048, 128] inb_S2048x128_S2048x128_0_0)) = _
  simp only [ld2]

theorem pay2_apply (x0 : Vec Ideal S1024x2048 .bf16) (x1 : Vec Ideal S2048x128 .bf16) (p : Fin 1024) (q : Fin 128) :
    k0_pay1 (F := Ideal) x0 x1 (ix2 p q) = (∑ j : Fin 2048, x0 (ix2 p j) * x1 (ix2 j q)) := by
  pointwise [k0_pay1]

/-! ## The blocks of the arrays -/

/-- The row and the column that a point's block and a place in it stand for: point `t` is block `t / 1` of rows and block
    `t % 1` of columns. -/
def row (t : ℕ) (p : Fin 1024) : Fin 4096 := at' (by decide) 1024 (t / 1) p.val
def col (t : ℕ) (q : Fin 128) : Fin 128 := at' (by decide) 128 (t % 1) q.val

theorem idx0 : ∀ t : Fin grid0.N, win0_0.index t 0 = t.val / 1 ∧ win0_0.index t 1 = 0 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel
theorem t_lt (t : Fin cfg0.N) : t.val < 4 := lt_of_lt_of_eq t.isLt N_0
theorem row_val {t : ℕ} (ht : t < 4) (p : Fin 1024) : (row t p).val = 1024 * (t / 1) + p.val := at'_val _ (by have := p.isLt; omega)
theorem col_val (t : ℕ) (q : Fin 128) : (col t q).val = 128 * (t % 1) + q.val := at'_val _ (by have := q.isLt; omega)

theorem rd0 (X : Vec Ideal S4096x2048 .bf16) (t : Fin cfg0.N) (p : Fin 1024) (j : Fin 2048) :
    ((cfg0.win 0).blk t).view.read (Elt Ideal) X (ix2 p j) = X (ix2 (row t.val p) j) := by
  have ht := t_lt t
  rw [View.read_apply]
  refine congrArg X ?_
  funext a
  apply Fin.ext
  match a with
  | ⟨0, _⟩ => show win0_0.index t 0 * 1024 + 1 * p.val = ((row t.val p)).val; rw [(idx0 t).1, row_val ht p]; omega
  | ⟨1, _⟩ => show win0_0.index t 1 * 2048 + 1 * j.val = (j).val; rw [(idx0 t).2]; omega

theorem rd1 (X : Vec Ideal S2048x128 .bf16) (t : Fin cfg0.N) (j : Fin 2048) (q : Fin 128) :
    ((cfg0.win 1).blk t).view.read (Elt Ideal) X (ix2 j q) = X (ix2 j (col t.val q)) := by
  have ht := t_lt t
  rw [View.read_apply]
  refine congrArg X ?_
  funext a
  apply Fin.ext
  match a with
  | ⟨0, _⟩ => show win0_1.index t 0 * 2048 + 1 * j.val = (j).val; rw [(idx1 t).1]; omega
  | ⟨1, _⟩ => show win0_1.index t 1 * 128 + 1 * q.val = ((col t.val q)).val; rw [(idx1 t).2, col_val _ q]; omega

/-- Output 2 of the whole computation at an index. -/
def full2 (X0 : Vec Ideal S4096x2048 .bf16) (X1 : Vec Ideal S2048x128 .bf16) (p : Fin 4096) (q : Fin 128) : EReal :=
  (∑ j : Fin 2048, X0 (ix2 p j) * X1 (ix2 j q))

variable (m : (ℓ : Loc nD τ sig) → Buf (Elt Ideal) ℓ) (c : Dev nD)

theorem out2_eq (t : Fin cfg0.N) (p : Fin 1024) (q : Fin 128) :
    out0_2 (F := Ideal) (iblk m c 0 t) (iblk m c 1 t) (ix2 p q) = full2 (V m c main_arg0) (V m c main_arg1) (row t.val p) (col t.val q) := by
  rw [out0_2_eq]
  refine (pay2_apply (iblk m c 0 t) (iblk m c 1 t) p q).trans ?_
  have h0 : ∀ j : Fin 2048, iblk m c 0 t (ix2 p j) = V m c main_arg0 (ix2 (row t.val p) j) := fun j => rd0 (V m c main_arg0) t p j
  have h1 : ∀ j : Fin 2048, iblk m c 1 t (ix2 j q) = V m c main_arg1 (ix2 j (col t.val q)) := fun j => rd1 (V m c main_arg1) t j q
  unfold full2
  simp only [h0, h1]

theorem final2 : (dats m 0 c).arrAt 2 cfg0.N = (fun y : S4096x128.Idx => full2 (V m c main_arg0) (V m c main_arg1) (y 0) (y 1)) := by
  refine (dats m 0 c).arrAt_eq_of_cover 2 _ ?_ ?_
  · intro t _
    rw [Value.flushed2]
    funext y
    obtain ⟨p, q, rfl⟩ : ∃ (p : Fin 1024) (q : Fin 128), y = (ix2 p q : S1024x128.Idx) := ⟨y 0, y 1, by funext a; match a with | ⟨0, _⟩ => rfl | ⟨1, _⟩ => rfl⟩
    rw [View.read_apply]
    refine (out2_eq m c t p q).trans ?_
    have htl := t_lt t
    have hi := idx2 t
    have e0 : ((((cfg0.win 2).blk t).view.emb (ix2 p q : S1024x128.Idx) : S4096x128.Idx) 0) = row t.val p := by
      apply Fin.ext
      rw [row_val htl]
      show win0_2.index t 0 * 1024 + 1 * p.val = _; rw [hi.1]; omega
    have e1 : ((((cfg0.win 2).blk t).view.emb (ix2 p q : S1024x128.Idx) : S4096x128.Idx) 1) = col t.val q := by
      apply Fin.ext
      rw [col_val]
      show win0_2.index t 1 * 128 + 1 * q.val = _; rw [hi.2]; omega
    show _ = full2 (V m c main_arg0) (V m c main_arg1) ((((cfg0.win 2).blk t).view.emb (ix2 p q : S1024x128.Idx) : S4096x128.Idx) 0) ((((cfg0.win 2).blk t).view.emb (ix2 p q : S1024x128.Idx) : S4096x128.Idx) 1)
    rw [e0, e1]
  · intro i
    have h0 : (i 0).val < 4096 := (i 0).isLt
    have h1 : (i 1).val < 128 := (i 1).isLt
    refine ⟨⟨1 * ((i 0).val / 1024) + (i 1).val / 128, lt_of_lt_of_eq (by omega : _ < 4) N_0.symm⟩, flush0_2 _, ?_⟩
    generalize ht : (⟨1 * ((i 0).val / 1024) + (i 1).val / 128, _⟩ : Fin cfg0.N) = t
    have tv : t.val = 1 * ((i 0).val / 1024) + (i 1).val / 128 := by rw [← ht]
    have hi := idx2 t
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1]; omega
    | ⟨1, _⟩ => show win0_2.index t 1 * 128 ≤ (i 1).val ∧ (i 1).val < win0_2.index t 1 * 128 + 128; rw [hi.2]; omega

/-! ## The reference, and the claim -/

theorem ref2 (x0 : Vec Ideal S4096x2048 .bf16) (x1 : Vec Ideal S2048x128 .bf16) :
    (fun y : S4096x128.Idx => full2 x0 x1 (y 0) (y 1)) = val_main_v2 (F := Ideal) x0 x1 := by
  funext y
  obtain ⟨p, q, rfl⟩ : ∃ (p : Fin 4096) (q : Fin 128), y = ix2 p q := ⟨y 0, y 1, eq_ix2 y⟩
  show full2 x0 x1 p q = _
  unfold full2
  pointwise [val_main_v2, val_main_v1, val_main_v0]

set_option maxHeartbeats 2000000 in
/-- The kernel's and the reference's results are equal, on any arguments. -/
theorem algebraic : Cert.algebraic_Kernel16Ideal_Reference16Ideal := by
  intro m ρ m' ρ' _ hagree
  refine ⟨fun c => (dats m 0 c).arrAt 2 cfg0.N, ?_, ?_⟩
  · exact Value.run_blocks m ρ
  · refine (θ_run Cert.Reference16Ideal.defs _ _).mono (fun r h c => ?_) (Cert.Reference16Ideal.Value.run (F := Ideal) m' ρ')
    obtain ⟨a0, a1⟩ := hagree c
    obtain ⟨w0, w1⟩ := h c
    refine ⟨w0.trans ?_, w1⟩
    · rw [val_main_v2_eq, a0, a1]
      refine (ref2 (m ((c : Thread nD τ).loc main_arg0)) (m ((c : Thread nD τ).loc main_arg1))).symm.trans ?_
      show _ = (dats m 0 c).arrAt 2 cfg0.N
      rw [final2, V_main_arg0, V_main_arg1]

end Cert.Kernel16Ideal.Hand
-- ==== Proof.RmsBwd.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Sums

/-! The gradient of a root-mean-square normalisation: the gradient in its input is added to the residual's, block by block, and the
    gradient in its weights is summed over the sixteen blocks of positions in the output's own block. -/

@[expose] public section

set_option maxRecDepth 16384

noncomputable section

namespace Cert.Kernel17Ideal.Hand

open Idealize.ShloMosaic.TcCoe Idealize.SL.Sem
open Cert.Kernel17Ideal Cert.Kernel17Ideal.Gen Idealize.ShloMosaic
open Cert.Sums Cert.Reference17Ideal.Read

/-! ## What the body stores, in each of its two cases -/

section
variable (c : Dev nD) (i : grid0.Coords) (arg1 : Memref sig .tc .vmem S256x2048 .f32) (harg1 : arg1.IsWhole)
  (arg2 : Memref sig .tc .vmem S256x2048 .f32) (harg2 : arg2.IsWhole)
  (arg3 : Memref sig .tc .vmem S256x1 .f32) (harg3 : arg3.IsWhole)
  (arg4 : Memref sig .tc .vmem S1x2048 .f32) (harg4 : arg4.IsWhole)
  (arg5 : Memref sig .tc .vmem S256x2048 .f32) (harg5 : arg5.IsWhole)
  (arg6 : Memref sig .tc .vmem S256x2048 .f32) (harg6 : arg6.IsWhole)
  (arg7 : Memref sig .tc .vmem S256x2048 .bf16) (harg7 : arg7.IsWhole)
  (arg8 : Memref sig .tc .vmem S1x2048 .f32) (harg8 : arg8.IsWhole)
  (x0 : Vec Ideal S256x2048 .f32) (x1 : Vec Ideal S256x2048 .f32) (x2 : Vec Ideal S256x1 .f32) (x3 : Vec Ideal S1x2048 .f32) (x4 : Vec Ideal S256x2048 .f32)

set_option maxHeartbeats 1000000 in
theorem out0_A_5_eq (hc0 : cond0_0 i) :
    out0_A_5 c i arg1 harg1 arg2 harg2 arg3 harg3 arg4 harg4 arg5 harg5 arg6 harg6 arg7 harg7 arg8 harg8 hc0 x0 x1 x2 x3 x4 = k0_pay5 x0 x2 x1 x3 x4 := by
  unfold out0_A_5
  rw [View.read_writes_eq_canon _ _ _ (cover0_A_5 _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_A_6_eq (hc0 : cond0_0 i) :
    out0_A_6 c i arg1 harg1 arg2 harg2 arg3 harg3 arg4 harg4 arg5 harg5 arg6 harg6 arg7 harg7 arg8 harg8 hc0 x0 x1 x2 x3 x4 = k0_pay6 x0 x2 x1 x3 x4 := by
  unfold out0_A_6
  rw [View.read_writes_eq_canon _ _ _ (cover0_A_6 _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_A_7_eq (hc0 : cond0_0 i) :
    out0_A_7 c i arg1 harg1 arg2 harg2 arg3 harg3 arg4 harg4 arg5 harg5 arg6 harg6 arg7 harg7 arg8 harg8 hc0 x0 x1 x2 x3 x4 = k0_pay4 x0 x2 x1 (k0_pay1 (F := Ideal)) := by
  unfold out0_A_7
  rw [View.read_writes_eq_canon _ _ _ (cover0_A_7 _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_B_5_eq (hc0 : ¬cond0_0 i) (xo7 : Vec Ideal S1x2048 .f32) :
    out0_B_5 c i arg1 harg1 arg2 harg2 arg3 harg3 arg4 harg4 arg5 harg5 arg6 harg6 arg7 harg7 arg8 harg8 hc0 x0 x1 x2 x3 x4 xo7 = k0_pay5 x0 x2 x1 x3 x4 := by
  unfold out0_B_5
  rw [View.read_writes_eq_canon _ _ _ (cover0_B_5 _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_6_eq (hc0 : ¬cond0_0 i) (xo7 : Vec Ideal S1x2048 .f32) :
    out0_B_6 c i arg1 harg1 arg2 harg2 arg3 harg3 arg4 harg4 arg5 harg5 arg6 harg6 arg7 harg7 arg8 harg8 hc0 x0 x1 x2 x3 x4 xo7 = k0_pay6 x0 x2 x1 x3 x4 := by
  unfold out0_B_6
  rw [View.read_writes_eq_canon _ _ _ (cover0_B_6 _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_7_eq (hc0 : ¬cond0_0 i) (xo7 : Vec Ideal S1x2048 .f32) :
    out0_B_7 c i arg1 harg1 arg2 harg2 arg3 harg3 arg4 harg4 arg5 harg5 arg6 harg6 arg7 harg7 arg8 harg8 hc0 x0 x1 x2 x3 x4 xo7 = k0_pay4 x0 x2 x1 xo7 := by
  unfold out0_B_7
  rw [View.read_writes_eq_canon _ _ _ (cover0_B_7 _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

end

/-- The gradient in the input at a place: the residual's gradient `s`, the output's gradient times the weights `g`, the input `x`, the
    reciprocal root `r`, and the row's sum `u` of `g · (x · r)`. -/
def dxVal (s r g x u : EReal) : EReal := s + r * (g - x * r * Ideal.div u ((2048 : ℝ) : EReal))

theorem pay1_apply (p : Fin 1) (q : Fin 2048) : k0_pay1 (F := Ideal) (ix2 p q) = (0 : EReal) := by
  pointwise [k0_pay1]

theorem pay4_apply (x0 : Vec Ideal S256x2048 .f32) (x2 : Vec Ideal S256x1 .f32) (x1 : Vec Ideal S256x2048 .f32) (a : Vec Ideal S1x2048 .f32) (q : Fin 2048) :
    k0_pay4 x0 x2 x1 a (ix2 0 q) = a (ix2 0 q) + ∑ p : Fin 256, x0 (ix2 p q) * (x1 (ix2 p q) * x2 (ix2 p 0)) := by
  pointwise [k0_pay4, k0_pay3, k0_pay2]

theorem c2048 : Ideal.ofBits .f32 0x45000000#32 = ((2048 : ℝ) : EReal) := by
  simp [Ideal.ofBits, Ideal.ieee, -EReal.coe_mul]; norm_num

theorem cHalf : Ideal.ofBits .f32 0xBF000000#32 = ((-1/2 : ℝ) : EReal) := by
  simp [Ideal.ofBits, Ideal.ieee, -EReal.coe_mul, -EReal.coe_neg]; norm_num

theorem cEps : Ideal.ofBits .f32 0x358637BD#32 = ((8796093 / 2 ^ 43 : ℝ) : EReal) := by
  simp [Ideal.ofBits, Ideal.ieee, -EReal.coe_mul]; norm_num

theorem pay5_apply (x0 : Vec Ideal S256x2048 .f32) (x2 : Vec Ideal S256x1 .f32) (x1 : Vec Ideal S256x2048 .f32) (x3 : Vec Ideal S1x2048 .f32) (x4 : Vec Ideal S256x2048 .f32) (p : Fin 256) (q : Fin 2048) :
    k0_pay5 x0 x2 x1 x3 x4 (ix2 p q) = dxVal (x4 (ix2 p q)) (x2 (ix2 p 0)) (x0 (ix2 p q) * x3 (ix2 0 q)) (x1 (ix2 p q))
      (∑ j : Fin 2048, x0 (ix2 p j) * x3 (ix2 0 j) * (x1 (ix2 p j) * x2 (ix2 p 0))) := by
  unfold dxVal
  pointwise [k0_pay5, k0_pay3, k0_pay2]
  simp only [c2048]

theorem pay6_apply (x0 : Vec Ideal S256x2048 .f32) (x2 : Vec Ideal S256x1 .f32) (x1 : Vec Ideal S256x2048 .f32) (x3 : Vec Ideal S1x2048 .f32) (x4 : Vec Ideal S256x2048 .f32) (p : Fin 256) (q : Fin 2048) :
    k0_pay6 x0 x2 x1 x3 x4 (ix2 p q) = k0_pay5 x0 x2 x1 x3 x4 (ix2 p q) := by
  pointwise [k0_pay6]

/-! ## The blocks of the arrays -/

/-- The row of the arrays that row `p` of block `t` is. -/
def row (t : ℕ) (p : ℕ) : Fin 4096 := at' (by decide) 256 t p

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem idx3 : ∀ t : Fin grid0.N, win0_3.index t 0 = 0 ∧ win0_3.index t 1 = 0 := by decide +kernel
theorem idx7 : ∀ t : Fin grid0.N, win0_7.index t 0 = 0 ∧ win0_7.index t 1 = 0 := by decide +kernel
theorem t_lt (t : Fin cfg0.N) : t.val < 16 := lt_of_lt_of_eq t.isLt N_0
theorem row_val {t : ℕ} (ht : t < 16) (p : Fin 256) : (row t p.val).val = 256 * t + p.val := at'_val _ (by have := p.isLt; omega)

theorem rd0 (X : Vec Ideal S4096x2048 .f32) (t : Fin cfg0.N) (p : Fin 256) (q : Fin 2048) :
    ((cfg0.win 0).blk t).view.read (Elt Ideal) X (ix2 p q) = X (ix2 (row t.val p.val) q) := by
  have ht := t_lt t
  rw [View.read_apply]
  refine congrArg X ?_
  funext a
  apply Fin.ext
  match a with
  | ⟨0, _⟩ => show win0_0.index t 0 * 256 + 1 * p.val = (row t.val p.val).val; rw [(idx0 t).1, row_val ht p]; omega
  | ⟨1, _⟩ => show win0_0.index t 1 * 2048 + 1 * q.val = q.val; rw [(idx0 t).2]; omega

theorem rd1 (X : Vec Ideal S4096x2048 .f32) (t : Fin cfg0.N) (p : Fin 256) (q : Fin 2048) :
    ((cfg0.win 1).blk t).view.read (Elt Ideal) X (ix2 p q) = X (ix2 (row t.val p.val) q) := by
  have ht := t_lt t
  rw [View.read_apply]
  refine congrArg X ?_
  funext a
  apply Fin.ext
  match a with
  | ⟨0, _⟩ => show win0_1.index t 0 * 256 + 1 * p.val = (row t.val p.val).val; rw [(idx1 t).1, row_val ht p]; omega
  | ⟨1, _⟩ => show win0_1.index t 1 * 2048 + 1 * q.val = q.val; rw [(idx1 t).2]; omega

theorem rd2 (X : Vec Ideal S4096x1 .f32) (t : Fin cfg0.N) (p : Fin 256) (q : Fin 1) :
    ((cfg0.win 2).blk t).view.read (Elt Ideal) X (ix2 p q) = X (ix2 (row t.val p.val) q) := by
  have ht := t_lt t
  rw [View.read_apply]
  refine congrArg X ?_
  funext a
  apply Fin.ext
  match a with
  | ⟨0, _⟩ => show win0_2.index t 0 * 256 + 1 * p.val = (row t.val p.val).val; rw [(idx2 t).1, row_val ht p]; omega
  | ⟨1, _⟩ => show win0_2.index t 1 * 1 + 1 * q.val = q.val; rw [(idx2 t).2]; omega

theorem rd4 (X : Vec Ideal S4096x2048 .f32) (t : Fin cfg0.N) (p : Fin 256) (q : Fin 2048) :
    ((cfg0.win 4).blk t).view.read (Elt Ideal) X (ix2 p q) = X (ix2 (row t.val p.val) q) := by
  have ht := t_lt t
  rw [View.read_apply]
  refine congrArg X ?_
  funext a
  apply Fin.ext
  match a with
  | ⟨0, _⟩ => show win0_4.index t 0 * 256 + 1 * p.val = (row t.val p.val).val; rw [(idx4 t).1, row_val ht p]; omega
  | ⟨1, _⟩ => show win0_4.index t 1 * 2048 + 1 * q.val = q.val; rw [(idx4 t).2]; omega

theorem rd3 (X : Vec Ideal S1x2048 .f32) (t : Fin cfg0.N) (p : Fin 1) (q : Fin 2048) :
    ((cfg0.win 3).blk t).view.read (Elt Ideal) X (ix2 p q) = X (ix2 p q) := by
  rw [View.read_apply]
  refine congrArg X ?_
  funext a
  apply Fin.ext
  match a with
  | ⟨0, _⟩ => show win0_3.index t 0 * 1 + 1 * p.val = p.val; rw [(idx3 t).1]; omega
  | ⟨1, _⟩ => show win0_3.index t 1 * 2048 + 1 * q.val = q.val; rw [(idx3 t).2]; omega

/-- The gradient in the input, with the residual's gradient added, at an index. -/
def full5 (X0 X1 : Vec Ideal S4096x2048 .f32) (R : Vec Ideal S4096x1 .f32) (X3 : Vec Ideal S1x2048 .f32) (X4 : Vec Ideal S4096x2048 .f32) (p : Fin 4096) (q : Fin 2048) : EReal :=
  dxVal (X4 (ix2 p q)) (R (ix2 p 0)) (X0 (ix2 p q) * X3 (ix2 0 q)) (X1 (ix2 p q)) (∑ j : Fin 2048, X0 (ix2 p j) * X3 (ix2 0 j) * (X1 (ix2 p j) * R (ix2 p 0)))

/-- What block `b` of positions adds to the gradient in a weight. -/
def term (X0 X1 : Vec Ideal S4096x2048 .f32) (R : Vec Ideal S4096x1 .f32) (b : ℕ) (q : Fin 2048) : EReal :=
  ∑ p : Fin 256, X0 (ix2 (row b p.val) q) * (X1 (ix2 (row b p.val) q) * R (ix2 (row b p.val) 0))

/-- The gradient in a weight. -/
def full7 (X0 X1 : Vec Ideal S4096x2048 .f32) (R : Vec Ideal S4096x1 .f32) (q : Fin 2048) : EReal :=
  ∑ p : Fin 4096, X0 (ix2 p q) * (X1 (ix2 p q) * R (ix2 p 0))

theorem sum_term (X0 X1 : Vec Ideal S4096x2048 .f32) (R : Vec Ideal S4096x1 .f32) (q : Fin 2048) :
    ∑ b ∈ Finset.range 16, term X0 X1 R b q = full7 X0 X1 R q := by
  unfold term full7
  exact sum_blocks (by decide) 256 16 (by decide) (fun k : Fin 4096 => X0 (ix2 k q) * (X1 (ix2 k q) * R (ix2 k 0)))

variable (m : (ℓ : Loc nD τ sig) → Buf (Elt Ideal) ℓ) (c : Dev nD)

theorem blk5_eq (t : Fin cfg0.N) (p : Fin 256) (q : Fin 2048) :
    k0_pay5 (iblk m c 0 t) (iblk m c 2 t) (iblk m c 1 t) (iblk m c 3 t) (iblk m c 4 t) (ix2 p q)
      = full5 (V m c main_arg0) (V m c main_arg1) (V m c main_v7) (V m c main_arg2) (V m c main_arg3) (row t.val p.val) q := by
  refine (pay5_apply (iblk m c 0 t) (iblk m c 2 t) (iblk m c 1 t) (iblk m c 3 t) (iblk m c 4 t) p q).trans ?_
  have h0 : ∀ j : Fin 2048, iblk m c 0 t (ix2 p j) = V m c main_arg0 (ix2 (row t.val p.val) j) := fun j => rd0 (V m c main_arg0) t p j
  have h1 : ∀ j : Fin 2048, iblk m c 1 t (ix2 p j) = V m c main_arg1 (ix2 (row t.val p.val) j) := fun j => rd1 (V m c main_arg1) t p j
  have h2 : iblk m c 2 t (ix2 p 0) = V m c main_v7 (ix2 (row t.val p.val) 0) := rd2 (V m c main_v7) t p 0
  have h3 : ∀ j : Fin 2048, iblk m c 3 t (ix2 0 j) = V m c main_arg2 (ix2 0 j) := fun j => rd3 (V m c main_arg2) t 0 j
  have h4 : iblk m c 4 t (ix2 p q) = V m c main_arg3 (ix2 (row t.val p.val) q) := rd4 (V m c main_arg3) t p q
  unfold full5
  simp only [h0, h1, h2, h3, h4]

theorem out5_eq (t : Fin cfg0.N) : (outsAt0 m c t.val t.isLt).1 = k0_pay5 (iblk m c 0 t) (iblk m c 2 t) (iblk m c 1 t) (iblk m c 3 t) (iblk m c 4 t) := by
  by_cases h : t.val % 16 = 0
  · rw [outsAt0_A m c t h]; dsimp only; rw [out0_A_5_eq]
  · rw [outsAt0_B m c t h]; dsimp only; rw [out0_B_5_eq]

theorem out6_eq (t : Fin cfg0.N) : (outsAt0 m c t.val t.isLt).2.1 = k0_pay6 (iblk m c 0 t) (iblk m c 2 t) (iblk m c 1 t) (iblk m c 3 t) (iblk m c 4 t) := by
  by_cases h : t.val % 16 = 0
  · rw [outsAt0_A m c t h]; dsimp only; rw [out0_A_6_eq]
  · rw [outsAt0_B m c t h]; dsimp only; rw [out0_B_6_eq]

theorem step_eq (t : Fin cfg0.N) (a : Vec Ideal S1x2048 .f32) (q : Fin 2048) :
    k0_pay4 (iblk m c 0 t) (iblk m c 2 t) (iblk m c 1 t) a (ix2 0 q) = a (ix2 0 q) + term (V m c main_arg0) (V m c main_arg1) (V m c main_v7) t.val q := by
  refine (pay4_apply (iblk m c 0 t) (iblk m c 2 t) (iblk m c 1 t) a q).trans ?_
  refine congrArg (a (ix2 0 q) + ·) ?_
  unfold term
  exact Finset.sum_congr rfl fun p _ => congrArg₂ (· * ·) (rd0 (V m c main_arg0) t p q) (congrArg₂ (· * ·) (rd1 (V m c main_arg1) t p q) (rd2 (V m c main_v7) t p 0))

/-- The running sum after a point: the blocks of positions visited so far. -/
theorem acc_eq : ∀ (n : ℕ) (hn : n < cfg0.N) (q : Fin 2048),
    (outsAt0 m c n hn).2.2 (ix2 0 q) = ∑ b ∈ Finset.range (n + 1), term (V m c main_arg0) (V m c main_arg1) (V m c main_v7) b q := by
  intro n
  induction n with
  | zero =>
    intro hn q
    have e := outsAt0_A m c ⟨0, hn⟩ rfl
    rw [out0_A_7_eq] at e
    rw [show outsAt0 m c 0 hn = _ from e]
    refine (step_eq m c ⟨0, hn⟩ _ q).trans ?_
    rw [pay1_apply, zero_add, Finset.sum_range_one]
  | succ n ih =>
    intro hn q
    have hN := t_lt ⟨n + 1, hn⟩
    have hv : (⟨n + 1, hn⟩ : Fin cfg0.N).val = n + 1 := rfl
    have e := outsAt0_B m c ⟨n + 1, hn⟩ (by rw [hv] at hN ⊢; omega)
    rw [out0_B_7_eq] at e
    rw [show outsAt0 m c (n + 1) hn = _ from e]
    refine (step_eq m c ⟨n + 1, hn⟩ _ q).trans ?_
    rw [Finset.sum_range_succ _ (n + 1)]
    exact congrArg (· + _) (ih _ q)

theorem final5 : (dats m 0 c).arrAt 5 cfg0.N = (fun y : S4096x2048.Idx => full5 (V m c main_arg0) (V m c main_arg1) (V m c main_v7) (V m c main_arg2) (V m c main_arg3) (y 0) (y 1)) := by
  refine (dats m 0 c).arrAt_eq_of_cover 5 _ ?_ ?_
  · intro t _
    rw [Value.flushed5]
    funext y
    obtain ⟨p, q, rfl⟩ : ∃ (p : Fin 256) (q : Fin 2048), y = (ix2 p q : S256x2048.Idx) := ⟨y 0, y 1, by funext a; match a with | ⟨0, _⟩ => rfl | ⟨1, _⟩ => rfl⟩
    rw [View.read_apply, out5_eq]
    refine (blk5_eq m c t p q).trans ?_
    have htl := t_lt t
    have hi := idx5 t
    have e0 : ((((cfg0.win 5).blk t).view.emb (ix2 p q : S256x2048.Idx) : S4096x2048.Idx) 0) = row t.val p.val := by
      apply Fin.ext
      rw [row_val htl]
      show win0_5.index t 0 * 256 + 1 * p.val = _; rw [hi.1]; omega
    have e1 : ((((cfg0.win 5).blk t).view.emb (ix2 p q : S256x2048.Idx) : S4096x2048.Idx) 1) = q := by
      apply Fin.ext
      show win0_5.index t 1 * 2048 + 1 * q.val = _; rw [hi.2]; omega
    show _ = full5 (V m c main_arg0) (V m c main_arg1) (V m c main_v7) (V m c main_arg2) (V m c main_arg3) ((((cfg0.win 5).blk t).view.emb (ix2 p q : S256x2048.Idx) : S4096x2048.Idx) 0) ((((cfg0.win 5).blk t).view.emb (ix2 p q : S256x2048.Idx) : S4096x2048.Idx) 1)
    rw [e0, e1]
  · intro i
    have h0 : (i 0).val < 4096 := (i 0).isLt
    have h1 : (i 1).val < 2048 := (i 1).isLt
    refine ⟨⟨(i 0).val / 256, lt_of_lt_of_eq (by omega : _ < 16) N_0.symm⟩, flush0_5 _, ?_⟩
    generalize ht : (⟨(i 0).val / 256, _⟩ : Fin cfg0.N) = t
    have tv : t.val = (i 0).val / 256 := by rw [← ht]
    have hi := idx5 t
    show i ∈ ((View.whole main_v8_0).slice (win0_5.rect t)).set
    rw [View.set_slice_whole, Rect.mem_set_unit]
    intro a
    match a with
    | ⟨0, _⟩ => show win0_5.index t 0 * 256 ≤ (i 0).val ∧ (i 0).val < win0_5.index t 0 * 256 + 256; rw [hi.1]; omega
    | ⟨1, _⟩ => show win0_5.index t 1 * 2048 ≤ (i 1).val ∧ (i 1).val < win0_5.index t 1 * 2048 + 2048; rw [hi.2]; omega

theorem final6 : (dats m 0 c).arrAt 6 cfg0.N = (fun y : S4096x2048.Idx => full5 (V m c main_arg0) (V m c main_arg1) (V m c main_v7) (V m c main_arg2) (V m c main_arg3) (y 0) (y 1)) := by
  refine (dats m 0 c).arrAt_eq_of_cover 6 _ ?_ ?_
  · intro t _
    rw [Value.flushed6]
    funext y
    obtain ⟨p, q, rfl⟩ : ∃ (p : Fin 256) (q : Fin 2048), y = (ix2 p q : S256x2048.Idx) := ⟨y 0, y 1, by funext a; match a with | ⟨0, _⟩ => rfl | ⟨1, _⟩ => rfl⟩
    rw [View.read_apply, out6_eq]
    refine ((pay6_apply _ _ _ _ _ p q).trans (blk5_eq m c t p q)).trans ?_
    have htl := t_lt t
    have hi := idx6 t
    have e0 : ((((cfg0.win 6).blk t).view.emb (ix2 p q : S256x2048.Idx) : S4096x2048.Idx) 0) = row t.val p.val := by
      apply Fin.ext
      rw [row_val htl]
      show win0_6.index t 0 * 256 + 1 * p.val = _; rw [hi.1]; omega
    have e1 : ((((cfg0.win 6).blk t).view.emb (ix2 p q : S256x2048.Idx) : S4096x2048.Idx) 1) = q := by
      apply Fin.ext
      show win0_6.index t 1 * 2048 + 1 * q.val = _; rw [hi.2]; omega
    show _ = full5 (V m c main_arg0) (V m c main_arg1) (V m c main_v7) (V m c main_arg2) (V m c main_arg3) ((((cfg0.win 6).blk t).view.emb (ix2 p q : S256x2048.Idx) : S4096x2048.Idx) 0) ((((cfg0.win 6).blk t).view.emb (ix2 p q : S256x2048.Idx) : S4096x2048.Idx) 1)
    rw [e0, e1]
  · intro i
    have h0 : (i 0).val < 4096 := (i 0).isLt
    have h1 : (i 1).val < 2048 := (i 1).isLt
    refine ⟨⟨(i 0).val / 256, lt_of_lt_of_eq (by omega : _ < 16) N_0.symm⟩, flush0_6 _, ?_⟩
    generalize ht : (⟨(i 0).val / 256, _⟩ : Fin cfg0.N) = t
    have tv : t.val = (i 0).val / 256 := by rw [← ht]
    have hi := idx6 t
    show i ∈ ((View.whole main_v8_1).slice (win0_6.rect t)).set
    rw [View.set_slice_whole, Rect.mem_set_unit]
    intro a
    match a with
    | ⟨0, _⟩ => show win0_6.index t 0 * 256 ≤ (i 0).val ∧ (i 0).val < win0_6.index t 0 * 256 + 256; rw [hi.1]; omega
    | ⟨1, _⟩ => show win0_6.index t 1 * 2048 ≤ (i 1).val ∧ (i 1).val < win0_6.index t 1 * 2048 + 2048; rw [hi.2]; omega

theorem final7 : (dats m 0 c).arrAt 7 cfg0.N = (fun y : S1x2048.Idx => full7 (V m c main_arg0) (V m c main_arg1) (V m c main_v7) (y 1)) := by
  refine (dats m 0 c).arrAt_eq_of_cover 7 _ ?_ ?_
  · intro t hf
    have ht : t.val % 16 = 15 := (flush0_7 t).mp hf
    have htl := t_lt t
    have hi := idx7 t
    rw [Value.flushed7]
    funext y
    obtain ⟨q, rfl⟩ : ∃ (q : Fin 2048), y = (ix2 0 q : S1x2048.Idx) := ⟨y 1, by funext a; match a with | ⟨0, _⟩ => exact Subsingleton.elim (α := Fin 1) _ _ | ⟨1, _⟩ => rfl⟩
    rw [View.read_apply]
    refine (acc_eq m c t.val t.isLt q).trans ?_
    rw [show t.val + 1 = 16 by omega, sum_term]
    have e1 : ((((cfg0.win 7).blk t).view.emb (ix2 0 q : S1x2048.Idx) : S1x2048.Idx) 1) = q := by
      apply Fin.ext
      show win0_7.index t 1 * 2048 + 1 * q.val = _; rw [hi.2]; omega
    show _ = full7 (V m c main_arg0) (V m c main_arg1) (V m c main_v7) ((((cfg0.win 7).blk t).view.emb (ix2 0 q : S1x2048.Idx) : S1x2048.Idx) 1)
    rw [e1]
  · intro i
    have h0 : (i 0).val < 1 := (i 0).isLt
    have h1 : (i 1).val < 2048 := (i 1).isLt
    obtain ⟨t, tv⟩ : ∃ t : Fin cfg0.N, t.val = 15 := ⟨⟨15, lt_of_lt_of_eq (by omega : _ < 16) N_0.symm⟩, rfl⟩
    refine ⟨t, (flush0_7 t).mpr (by rw [tv]), ?_⟩
    have hi := idx7 t
    show i ∈ ((View.whole main_v8_2).slice (win0_7.rect t)).set
    rw [View.set_slice_whole, Rect.mem_set_unit]
    intro a
    match a with
    | ⟨0, _⟩ => show win0_7.index t 0 * 1 ≤ (i 0).val ∧ (i 0).val < win0_7.index t 0 * 1 + 1; rw [hi.1]; omega
    | ⟨1, _⟩ => show win0_7.index t 1 * 2048 ≤ (i 1).val ∧ (i 1).val < win0_7.index t 1 * 2048 + 2048; rw [hi.2]; omega

/-- The saved reciprocal root is the one that the reference computes. -/
theorem V_v7 : V m c main_v7 = val_main_v7 (F := Ideal) (m ((c : Thread nD τ).loc main_arg1)) := by
  simp only [V, hostOps0, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

/-! ## The reference at an index -/

section
open Cert.Reference17Ideal.Read

/-- The mean square plus the small constant, of row `p`. -/
def meanSq (x1 : Vec Ideal S4096x2048 .f32) (p : Fin 4096) : EReal := val_main_v6 (F := Ideal) x1 (ix2 p 0)

theorem rs_apply (x1 : Vec Ideal S4096x2048 .f32) (p : Fin 4096) : val_main_v7 (F := Ideal) x1 (ix2 p 0) = Ideal.rsqrt (meanSq x1 p) := rfl

theorem meanSq_eq (x1 : Vec Ideal S4096x2048 .f32) (p : Fin 4096) :
    meanSq x1 p = Ideal.div (∑ j : Fin 2048, x1 (ix2 p j) * x1 (ix2 p j)) ((2048 : ℝ) : EReal) + Ideal.ofBits .f32 0x358637BD#32 := by
  unfold meanSq
  pointwise [val_main_v6, val_main_v5, val_main_cst_1, val_main_v4, val_main_v3, val_main_cst_0, val_main_v2, val_main_v1, val_main_v0, val_main_cst]
  simp only [c2048]

theorem ref17_apply (x0 x1 : Vec Ideal S4096x2048 .f32) (q : Fin 2048) :
    val_main_v17 (F := Ideal) x0 x1 (ix2 0 q) = ∑ p : Fin 4096, x1 (ix2 p q) * val_main_v7 (F := Ideal) x1 (ix2 p 0) * x0 (ix2 p q) := by
  pointwise [val_main_v17, val_main_v16, val_main_v15, val_main_v12, val_main_v11, val_main_cst_3]

theorem ref34_apply (x0 x1 : Vec Ideal S4096x2048 .f32) (x2 : Vec Ideal S1x2048 .f32) (x3 : Vec Ideal S4096x2048 .f32) (p : Fin 4096) (q : Fin 2048) :
    val_main_v34 (F := Ideal) x0 x1 x2 x3 (ix2 p q) = x3 (ix2 p q)
      + (x0 (ix2 p q) * x2 (ix2 0 q) * val_main_v7 (F := Ideal) x1 (ix2 p 0)
        + x1 (ix2 p q) * Ideal.div ((∑ j : Fin 2048, x1 (ix2 p j) * (x0 (ix2 p j) * x2 (ix2 0 j))) * (((-1/2 : ℝ) : EReal) * Ideal.div (val_main_v7 (F := Ideal) x1 (ix2 p 0)) (meanSq x1 p))) ((2048 : ℝ) : EReal)
        + Ideal.div ((∑ j : Fin 2048, x1 (ix2 p j) * (x0 (ix2 p j) * x2 (ix2 0 j))) * (((-1/2 : ℝ) : EReal) * Ideal.div (val_main_v7 (F := Ideal) x1 (ix2 p 0)) (meanSq x1 p))) ((2048 : ℝ) : EReal) * x1 (ix2 p q)) := by
  unfold meanSq
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_cst_2, val_main_cst_4, val_main_cst_5, val_main_cst_6]
  simp only [Fin.sum_univ_one, c2048, cHalf]

end

/-! ## Both are the same real number added to the residual's gradient -/

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem div_real (a b : ℝ) (h : b ≠ 0) : Ideal.div (a : EReal) (b : EReal) = ((a / b : ℝ) : EReal) := by
  rw [Ideal.div_coe h, ← EReal.coe_mul, mul_one_div]

theorem mul_sum_real {ι : Type} (s : Finset ι) (c : ℝ) (hc : 0 ≤ c) (f : ι → EReal) : ∑ j ∈ s, (c : EReal) * f j = (c : EReal) * ∑ j ∈ s, f j := by
  classical
  induction s using Finset.induction_on with
  | empty => simp
  | insert a s ha ih => rw [Finset.sum_insert ha, Finset.sum_insert ha, ih, EReal.left_distrib_of_nonneg_of_ne_top (EReal.coe_nonneg.2 hc) (EReal.coe_ne_top c)]

theorem sq_nonneg' (x : EReal) : 0 ≤ x * x := by
  induction x with
  | bot => simp
  | top => simp
  | coe r => rw [← EReal.coe_mul]; exact EReal.coe_nonneg.2 (mul_self_nonneg r)

/-- The mean square plus the small constant is above zero. -/
theorem ms_pos (X : Fin 2048 → EReal) : 0 < Ideal.div (∑ j, X j * X j) ((2048 : ℝ) : EReal) + Ideal.ofBits .f32 0x358637BD#32 := by
  have h1 : 0 ≤ Ideal.div (∑ j, X j * X j) ((2048 : ℝ) : EReal) := by
    rw [Ideal.div_coe (by norm_num)]
    exact mul_nonneg (Finset.sum_nonneg fun j _ => sq_nonneg' (X j)) (EReal.coe_nonneg.2 (by norm_num))
  have h2 : (0 : EReal) < Ideal.ofBits .f32 0x358637BD#32 := by
    rw [cEps]
    exact EReal.coe_pos.2 (by norm_num)
  exact lt_of_lt_of_le h2 (le_add_of_nonneg_left h1)

/-- The closed form of the norm's gradient is the product rule's, on all extended reals: `A` is the mean square. -/
theorem core (G X : Fin 2048 → EReal) (A : EReal) (hA : 0 < A) (r g x : EReal) :
    dxVal r (Ideal.rsqrt A) g x (∑ j, G j * (X j * Ideal.rsqrt A))
      = r + (g * Ideal.rsqrt A
        + x * Ideal.div ((∑ j, X j * G j) * (((-1/2 : ℝ) : EReal) * Ideal.div (Ideal.rsqrt A) A)) ((2048 : ℝ) : EReal)
        + Ideal.div ((∑ j, X j * G j) * (((-1/2 : ℝ) : EReal) * Ideal.div (Ideal.rsqrt A) A)) ((2048 : ℝ) : EReal) * x) := by
  have h2 : (2048 : ℝ) ≠ 0 := by norm_num
  unfold dxVal
  refine congrArg (r + ·) ?_
  simp only [Ideal.div_coe h2]
  induction A with
  | bot => exact absurd hA (by simp)
  | top =>
    have hd : Ideal.div (0 : EReal) ⊤ = 0 := by simp [Ideal.div]
    rw [Ideal.rsqrt_top, hd]
    simp only [mul_zero, zero_mul, add_zero]
  | coe a =>
    have ha : 0 < a := EReal.coe_pos.1 hA
    have hs : (√a)⁻¹ * (√a)⁻¹ = 1 / a := by
      rw [← mul_inv, Real.mul_self_sqrt ha.le, one_div]
    have h0 : 0 ≤ (√a)⁻¹ := by positivity
    rw [Ideal.rsqrt_coe, if_neg (not_lt.2 ha.le), if_neg ha.ne']
    generalize (√a)⁻¹ = s at hs h0
    have e : (∑ j, G j * (X j * (s : EReal))) = (s : EReal) * ∑ j, X j * G j := by
      rw [← mul_sum_real _ s h0]
      exact Finset.sum_congr rfl fun j _ => by rw [mul_left_comm, ← mul_assoc, mul_comm]
    rw [e, div_real _ a ha.ne']
    generalize (∑ j, X j * G j) = T
    have p0 : 0 ≤ s * (s * s) / 4096 := by positivity
    have e1 : x * (s : EReal) * ((s : EReal) * T * ((1 / 2048 : ℝ) : EReal)) = ((s * s * (1 / 2048) : ℝ) : EReal) * (x * T) := by
      rw [EReal.coe_mul, EReal.coe_mul]
      ac_rfl
    have e2 : T * (((-1/2 : ℝ) : EReal) * ((s / a : ℝ) : EReal)) * ((1 / 2048 : ℝ) : EReal) = ((s * (s * s) / 4096 : ℝ) : EReal) * -T := by
      rw [mul_assoc, ← EReal.coe_mul, ← EReal.coe_mul, mul_neg, ← neg_mul, ← EReal.coe_neg, mul_comm T]
      refine congrArg (fun z : ℝ => (z : EReal) * T) ?_
      rw [hs]
      ring
    have e3 : x * (((s * (s * s) / 4096 : ℝ) : EReal) * -T) = ((s * (s * s) / 4096 : ℝ) : EReal) * -(x * T) := by
      rw [mul_left_comm, mul_neg x]
    rw [e2, mul_comm _ x, e3, e1]
    generalize x * T = y
    rw [sub_eq_add_neg, EReal.left_distrib_of_nonneg_of_ne_top (EReal.coe_nonneg.2 h0) (EReal.coe_ne_top s), mul_comm _ g, add_assoc,
      ← EReal.right_distrib_of_nonneg (EReal.coe_nonneg.2 p0) (EReal.coe_nonneg.2 p0), ← mul_neg, ← mul_assoc, ← EReal.coe_mul, ← EReal.coe_add]
    refine congrArg (fun z : ℝ => g * (s : EReal) + (z : EReal) * -y) ?_
    ring

theorem ref34 (x0 x1 : Vec Ideal S4096x2048 .f32) (x2 : Vec Ideal S1x2048 .f32) (x3 : Vec Ideal S4096x2048 .f32) :
    (fun y : S4096x2048.Idx => full5 x0 x1 (val_main_v7 (F := Ideal) x1) x2 x3 (y 0) (y 1))
      = val_main_v34 (F := Ideal) x0 x1 x2 x3 := by
  funext y
  obtain ⟨p, q, rfl⟩ : ∃ (p : Fin 4096) (q : Fin 2048), y = ix2 p q := ⟨y 0, y 1, eq_ix2 y⟩
  refine Eq.trans ?_ (ref34_apply x0 x1 x2 x3 p q).symm
  show full5 x0 x1 (val_main_v7 (F := Ideal) x1) x2 x3 p q = _
  unfold full5
  rw [rs_apply]
  exact core (fun j => x0 (ix2 p j) * x2 (ix2 0 j)) (fun j => x1 (ix2 p j)) (meanSq x1 p) (by rw [meanSq_eq]; exact ms_pos fun j => x1 (ix2 p j)) _ _ _

theorem ref36 (x0 x1 : Vec Ideal S4096x2048 .f32) (x2 : Vec Ideal S1x2048 .f32) (x3 : Vec Ideal S4096x2048 .f32) :
    val_main_v36 (F := Ideal) x0 x1 x2 x3 = val_main_v34 (F := Ideal) x0 x1 x2 x3 := rfl

theorem ref17 (x0 x1 : Vec Ideal S4096x2048 .f32) :
    (fun y : S1x2048.Idx => full7 x0 x1 (val_main_v7 (F := Ideal) x1) (y 1))
      = val_main_v17 (F := Ideal) x0 x1 := by
  funext y
  obtain ⟨q, rfl⟩ : ∃ (q : Fin 2048), y = (ix2 0 q : S1x2048.Idx) := ⟨y 1, by funext a; match a with | ⟨0, _⟩ => exact Subsingleton.elim (α := Fin 1) _ _ | ⟨1, _⟩ => rfl⟩
  refine Eq.trans ?_ (ref17_apply x0 x1 q).symm
  show full7 x0 x1 (val_main_v7 (F := Ideal) x1) q = _
  unfold full7
  exact Finset.sum_congr rfl fun p _ => mul_comm _ _

set_option maxHeartbeats 2000000 in
/-- The kernel's gradients and the reference's are equal on any arguments. -/
theorem algebraic : Cert.algebraic_Kernel17Ideal_Reference17Ideal := by
  intro m ρ m' ρ' _ hagree
  refine ⟨fun c => (dats m 0 c).arrAt 5 cfg0.N, fun c => (dats m 0 c).arrAt 6 cfg0.N, fun c => (dats m 0 c).arrAt 7 cfg0.N, ?_, ?_⟩
  · exact Value.run_blocks m ρ
  · refine (θ_run Cert.Reference17Ideal.defs _ _).mono (fun r h c => ?_) (Cert.Reference17Ideal.Value.run (F := Ideal) m' ρ')
    obtain ⟨a0, a1, a2, a3⟩ := hagree c
    obtain ⟨w0, w1, w2, w3⟩ := h c
    refine ⟨w0.trans ?_, w1.trans ?_, w2.trans ?_, w3⟩
    · rw [val_main_v34_eq, a0, a1, a2, a3]
      show _ = (dats m 0 c).arrAt 5 cfg0.N
      rw [final5, V_v7]
      exact (ref34 _ _ _ (V m c main_arg3)).symm
    · rw [val_main_v36_eq, a0, a1, a2, a3]
      show _ = (dats m 0 c).arrAt 6 cfg0.N
      rw [final6, V_v7]
      exact (ref36 _ _ _ _).trans (ref34 _ _ _ (V m c main_arg3)).symm
    · rw [val_main_v17_eq, a0, a1]
      show _ = (dats m 0 c).arrAt 7 cfg0.N
      rw [final7, V_v7]
      exact (ref17 (V m c main_arg0) (V m c main_arg1)).symm

end Cert.Kernel17Ideal.Hand
-- ==== Proof.ConvBwd.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Sums
public import proofs.«01_k».proof.Proof.Gate
public import proofs.«01_k».proof.Proof.Gen.Pre_finite18
public import Idealize.ShloMosaic.Lib.KernelVsHost
public import Idealize.ShloMosaic.Lib.WordCmp

/-! The gradient of the causal convolution of width four and of its gate, in the convolution's input, weights and bias. -/

@[expose] public section

set_option maxRecDepth 16384

noncomputable section

namespace Cert.Kernel18Ideal.Hand

open Idealize.ShloMosaic.TcCoe Idealize.SL.Sem
open Cert.Kernel18Ideal Cert.Kernel18Ideal.Gen Idealize.ShloMosaic
open Cert.Sums Cert.Reference18Ideal.Read
open Cert.Gate

/-! ## A column moved later or earlier in time, and the gradients of a column -/

/-- The column `k` positions later: zero before the first. -/
def sh (k : ℕ) (u : Fin 4096 → EReal) (p : Fin 4096) : EReal := if k ≤ p.val then u ⟨p.val - k, by have := p.isLt; omega⟩ else 0

/-- The column `k` positions earlier: zero after the last. -/
def bk (k : ℕ) (u : Fin 4096 → EReal) (p : Fin 4096) : EReal := if h : p.val + k < 4096 then u ⟨p.val + k, h⟩ else 0

/-- The convolution of a column with its bias. -/
def pre (w0 w1 w2 w3 b : EReal) (u : Fin 4096 → EReal) (p : Fin 4096) : EReal :=
  b + w3 * u p + w2 * sh 1 u p + w1 * sh 2 u p + w0 * sh 3 u p

/-- The gradient in the gate's argument `a`, for the gradient `d` of its value. -/
def dga (d a : EReal) : EReal := d * (logi a * (1 + a * (1 - logi a)))

/-- The gradient in the convolution's value. -/
def da (w0 w1 w2 w3 b : EReal) (u d : Fin 4096 → EReal) (p : Fin 4096) : EReal := dga (d p) (pre w0 w1 w2 w3 b u p)

/-- The gradient in the convolution's input, for the gradient `g` in its value. -/
def dxv (w0 w1 w2 w3 : EReal) (g : Fin 4096 → EReal) (p : Fin 4096) : EReal :=
  w3 * g p + w2 * bk 1 g p + w1 * bk 2 g p + w0 * bk 3 g p

/-! ## What the body stores -/

theorem row0 (x : Vec Ideal S4x128 .f32) (q : Fin 128) : View.ld x r0_5 (ix2 0 q) = x (ix2 0 q) := by
  refine congrArg x (funext fun a => Fin.ext ?_)
  match a with
  | ⟨0, _⟩ => rfl
  | ⟨1, _⟩ => show 0 + 1 * q.val = q.val; omega
theorem row1 (x : Vec Ideal S4x128 .f32) (q : Fin 128) : View.ld x r0_4 (ix2 0 q) = x (ix2 1 q) := by
  refine congrArg x (funext fun a => Fin.ext ?_)
  match a with
  | ⟨0, _⟩ => rfl
  | ⟨1, _⟩ => show 0 + 1 * q.val = q.val; omega
theorem row2 (x : Vec Ideal S4x128 .f32) (q : Fin 128) : View.ld x r0_3 (ix2 0 q) = x (ix2 2 q) := by
  refine congrArg x (funext fun a => Fin.ext ?_)
  match a with
  | ⟨0, _⟩ => rfl
  | ⟨1, _⟩ => show 0 + 1 * q.val = q.val; omega
theorem row3 (x : Vec Ideal S4x128 .f32) (q : Fin 128) : View.ld x r0_2 (ix2 0 q) = x (ix2 3 q) := by
  refine congrArg x (funext fun a => Fin.ext ?_)
  match a with
  | ⟨0, _⟩ => rfl
  | ⟨1, _⟩ => show 0 + 1 * q.val = q.val; omega
theorem whole (x : Vec Ideal S4096x128 .f32) : View.ld x r0_0 = x :=
  View.ld_unit_zero (S := S4096x128) off0 inb_S4096x128_S4096x128_0_0 x
theorem bias (x : Vec Ideal S1x128 .f32) : View.ld x r0_1 = x :=
  View.ld_unit_zero (S := S1x128) off0 inb_S1x128_S1x128_0_0 x

theorem iota_at' (hi : S4096x128.Iotas .tc 32 [0]) (p : Fin 4096) (q : Fin 128) : iota .tc S4096x128 32 [0] hi (ix2 p q) = BitVec.ofNat 32 p.val := by
  show BitVec.ofNat 32 (0 * 4096 + p.val) = _
  rw [Nat.zero_mul, Nat.zero_add]

theorem sel_sh (k : ℕ) (hk : k < 4096) (x : Vec Ideal S4096x128 .f32) (hr : S4096x128.Rotates 0 none) (hi : S4096x128.Iotas .tc 32 [0]) (p : Fin 4096) (q : Fin 128) :
    select (cmpi .sge (iota .tc S4096x128 32 [0] hi) (broadcast S4096x128 (BitVec.ofNat 32 k))) (dynamicRotate 0 (BitVec.ofNat 32 k) none x hr)
      (broadcast S4096x128 (Scalar.ofBits (F := Ideal) .f32 0x00000000#32)) (ix2 p q) = sh k (fun r => x (ix2 r q)) p := by
  have hp := p.isLt
  show Scalar.select (IntOp.cmpi .sge (iota .tc S4096x128 32 [0] hi (ix2 p q)) (BitVec.ofNat 32 k)) (dynamicRotate 0 (BitVec.ofNat 32 k) none x hr (ix2 p q)) (Ideal.ofBits .f32 0x00000000#32) = _
  rw [iota_at', WordCmp.cmpi_sge_ofNat (by omega) (by omega), Ideal.ofBits_zero_f32]
  unfold sh
  by_cases h : k ≤ p.val
  · rw [if_pos h, decide_eq_true h]
    refine Eq.trans (if_pos rfl) ?_
    refine dynamicRotate_apply _ _ x hr _ (ix2 ⟨p.val - k, by omega⟩ q) fun b => ?_
    match b with
    | ⟨0, _⟩ => show p.val - k = (p.val + 4096 - (BitVec.ofNat 32 k).toNat % 4096) % 4096; rw [BitVec.toNat_ofNat]; omega
    | ⟨1, _⟩ => rfl
  · rw [if_neg h, decide_eq_false h]
    exact if_neg (by decide)

theorem sel_bk (k s : ℕ) (hs : s + k = 4096) (hk : 0 < k) (x : Vec Ideal S4096x128 .f32) (hr : S4096x128.Rotates 0 none) (hi : S4096x128.Iotas .tc 32 [0]) (p : Fin 4096) (q : Fin 128) :
    select (cmpi .slt (iota .tc S4096x128 32 [0] hi) (broadcast S4096x128 (BitVec.ofNat 32 s))) (dynamicRotate 0 (BitVec.ofNat 32 s) none x hr)
      (broadcast S4096x128 (Scalar.ofBits (F := Ideal) .f32 0x00000000#32)) (ix2 p q) = bk k (fun r => x (ix2 r q)) p := by
  have hp := p.isLt
  show Scalar.select (IntOp.cmpi .slt (iota .tc S4096x128 32 [0] hi (ix2 p q)) (BitVec.ofNat 32 s)) (dynamicRotate 0 (BitVec.ofNat 32 s) none x hr (ix2 p q)) (Ideal.ofBits .f32 0x00000000#32) = _
  rw [iota_at', WordCmp.cmpi_slt_ofNat (by omega) (by omega), Ideal.ofBits_zero_f32]
  unfold bk
  by_cases h : p.val + k < 4096
  · rw [dif_pos h, decide_eq_true (by omega : p.val < s)]
    refine Eq.trans (if_pos rfl) ?_
    refine dynamicRotate_apply _ _ x hr _ (ix2 ⟨p.val + k, h⟩ q) fun b => ?_
    match b with
    | ⟨0, _⟩ => show p.val + k = (p.val + 4096 - (BitVec.ofNat 32 s).toNat % 4096) % 4096; rw [BitVec.toNat_ofNat]; omega
    | ⟨1, _⟩ => rfl
  · rw [dif_neg h, decide_eq_false (by omega : ¬ p.val < s)]
    exact if_neg (by decide)

theorem pay7_apply (x : Vec Ideal S4096x128 .f32) (p : Fin 4096) (q : Fin 128) : k0_pay7 x (ix2 p q) = sh 1 (fun r => x (ix2 r q)) p :=
  sel_sh 1 (by decide) x _ _ p q
theorem pay8_apply (x : Vec Ideal S4096x128 .f32) (p : Fin 4096) (q : Fin 128) : k0_pay8 x (ix2 p q) = sh 2 (fun r => x (ix2 r q)) p :=
  sel_sh 2 (by decide) x _ _ p q
theorem pay9_apply (x : Vec Ideal S4096x128 .f32) (p : Fin 4096) (q : Fin 128) : k0_pay9 x (ix2 p q) = sh 3 (fun r => x (ix2 r q)) p :=
  sel_sh 3 (by decide) x _ _ p q

theorem pay10_apply (x : Vec Ideal S4096x128 .f32) (b w3 w2 w1 w0 : Vec Ideal S1x128 .f32) (p : Fin 4096) (q : Fin 128) :
    k0_pay10 x b w3 w2 w1 w0 (ix2 p q) = pre (w0 (ix2 0 q)) (w1 (ix2 0 q)) (w2 (ix2 0 q)) (w3 (ix2 0 q)) (b (ix2 0 q)) (fun r => x (ix2 r q)) p := by
  unfold pre
  rw [← pay7_apply, ← pay8_apply, ← pay9_apply]
  unfold k0_pay10
  dsimp only
  generalize k0_pay7 x = y7
  generalize k0_pay8 x = y8
  generalize k0_pay9 x = y9
  pointwise []

theorem pay12_apply (a n d : Vec Ideal S4096x128 .f32) (p : Fin 4096) (q : Fin 128) (hn : n (ix2 p q) = 0 - a (ix2 p q)) :
    k0_pay12 a n d (ix2 p q) = dga (d (ix2 p q)) (a (ix2 p q)) := by
  unfold dga
  simp only [logi_sub]
  rw [← hn]
  pointwise [k0_pay12]

theorem pay11_apply (x : Vec Ideal S4096x128 .f32) (b w3 w2 w1 w0 : Vec Ideal S1x128 .f32) (p : Fin 4096) (q : Fin 128) :
    k0_pay11 x b w3 w2 w1 w0 (ix2 p q) = 0 - k0_pay10 x b w3 w2 w1 w0 (ix2 p q) := by
  unfold k0_pay11
  generalize k0_pay10 x b w3 w2 w1 w0 = y
  pointwise []

/-- The gradient in the convolution's value, of the block's column `q`. -/
def daB (x0 : Vec Ideal S4096x128 .f32) (x1 : Vec Ideal S4x128 .f32) (x2 : Vec Ideal S1x128 .f32) (x3 : Vec Ideal S4096x128 .f32) (q : Fin 128) (p : Fin 4096) : EReal :=
  da (x1 (ix2 0 q)) (x1 (ix2 1 q)) (x1 (ix2 2 q)) (x1 (ix2 3 q)) (x2 (ix2 0 q)) (fun r => x0 (ix2 r q)) (fun r => x3 (ix2 r q)) p

theorem pay19_apply (x0 : Vec Ideal S4096x128 .f32) (x1 : Vec Ideal S4x128 .f32) (x2 : Vec Ideal S1x128 .f32) (x3 : Vec Ideal S4096x128 .f32) (p : Fin 4096) (q : Fin 128) :
    k0_pay19 x0 x1 x2 x3 (ix2 p q) = daB x0 x1 x2 x3 q p := by
  unfold k0_pay19 k0_pay18 k0_pay17
  rw [pay12_apply _ _ _ p q (pay11_apply _ _ _ _ _ _ p q), pay10_apply, row0, row1, row2, row3, whole, whole, bias]
  rfl

theorem lin3 (a b c : Vec Ideal S1x128 .f32) (x y z : Vec Ideal S4096x128 .f32) (p : Fin 4096) (q : Fin 128) :
    (addf (F := Ideal) (addf (mulf (broadcastTo S4096x128 a broadcasts_S1x128_S4096x128) x) (mulf (broadcastTo S4096x128 b broadcasts_S1x128_S4096x128) y)) (mulf (broadcastTo S4096x128 c broadcasts_S1x128_S4096x128) z) : FVec Ideal S4096x128 .f32) (ix2 p q)
      = a (ix2 0 q) * x (ix2 p q) + b (ix2 0 q) * y (ix2 p q) + c (ix2 0 q) * z (ix2 p q) := by
  pointwise []

theorem lin1 (a : Vec Ideal S1x128 .f32) (s x : Vec Ideal S4096x128 .f32) (p : Fin 4096) (q : Fin 128) :
    truncf (F := Ideal) .bf16 (addf s (mulf (broadcastTo S4096x128 a broadcasts_S1x128_S4096x128) x)) bitsLt_bf16_f32 (ix2 p q)
      = s (ix2 p q) + a (ix2 0 q) * x (ix2 p q) := by
  pointwise []

theorem out4_apply (x0 : Vec Ideal S4096x128 .f32) (x1 : Vec Ideal S4x128 .f32) (x2 : Vec Ideal S1x128 .f32) (x3 : Vec Ideal S4096x128 .f32) (p : Fin 4096) (q : Fin 128) :
    out0_4 x0 x1 x2 x3 (ix2 p q) = dxv (x1 (ix2 0 q)) (x1 (ix2 1 q)) (x1 (ix2 2 q)) (x1 (ix2 3 q)) (daB x0 x1 x2 x3 q) p := by
  have hd : k0_pay12 (k0_pay17 x0 x1 x2 x3) (k0_pay18 x0 x1 x2 x3) (View.ld x3 r0_0) = k0_pay19 x0 x1 x2 x3 := rfl
  unfold out0_4
  refine (congrFun (View.canon_cons_unit_zero (S := S4096x128) off0 inb_S4096x128_S4096x128_0_0 _ _) (ix2 p q)).trans ?_
  unfold k0_pay1 k0_pay13 k0_pay14 k0_pay15 k0_pay16
  dsimp only
  rw [hd]
  refine (lin1 _ _ _ p q).trans ?_
  rw [lin3, sel_bk 3 4093 rfl (by decide), sel_bk 2 4094 rfl (by decide), sel_bk 1 4095 rfl (by decide), row0, row1, row2, row3]
  have e : (fun r => k0_pay19 x0 x1 x2 x3 (ix2 r q)) = daB x0 x1 x2 x3 q := funext fun r => pay19_apply x0 x1 x2 x3 r q
  rw [e, pay19_apply]
  rfl

theorem pay2_apply (x g : Vec Ideal S4096x128 .f32) (q : Fin 128) : k0_pay2 (F := Ideal) x g (ix2 0 q) = ∑ p : Fin 4096, g (ix2 p q) * x (ix2 p q) := by
  pointwise [k0_pay2]
theorem pay3_apply (x g : Vec Ideal S4096x128 .f32) (q : Fin 128) : k0_pay3 (F := Ideal) x g (ix2 0 q) = ∑ p : Fin 4096, g (ix2 p q) * x (ix2 p q) := by
  pointwise [k0_pay3]
theorem pay4_apply (x g : Vec Ideal S4096x128 .f32) (q : Fin 128) : k0_pay4 (F := Ideal) x g (ix2 0 q) = ∑ p : Fin 4096, g (ix2 p q) * x (ix2 p q) := by
  pointwise [k0_pay4]
theorem pay5_apply (x g : Vec Ideal S4096x128 .f32) (q : Fin 128) : k0_pay5 (F := Ideal) x g (ix2 0 q) = ∑ p : Fin 4096, g (ix2 p q) * x (ix2 p q) := by
  pointwise [k0_pay5]
theorem pay6_apply (g : Vec Ideal S4096x128 .f32) (q : Fin 128) : k0_pay6 (F := Ideal) g (ix2 0 q) = ∑ p : Fin 4096, g (ix2 p q) := by
  pointwise [k0_pay6]

theorem out6_apply (x0 : Vec Ideal S4096x128 .f32) (x1 : Vec Ideal S4x128 .f32) (x2 : Vec Ideal S1x128 .f32) (x3 : Vec Ideal S4096x128 .f32) (q : Fin 128) :
    out0_6 x0 x1 x2 x3 (ix2 0 q) = ∑ p : Fin 4096, daB x0 x1 x2 x3 q p := by
  unfold out0_6
  refine (congrFun (View.canon_cons_unit_zero (S := S1x128) off0 inb_S1x128_S1x128_0_0 _ _) (ix2 0 q)).trans ?_
  rw [pay6_apply]
  exact Finset.sum_congr rfl fun p _ => pay19_apply x0 x1 x2 x3 p q

/-- The gradient in the weight of tap `k`: the input `3 - k` positions earlier meets the gradient. -/
def dwv (g u : Fin 4096 → EReal) (k : Fin 4) : EReal := ∑ p : Fin 4096, g p * sh (3 - k.val) u p

theorem sh_zero (u : Fin 4096 → EReal) (p : Fin 4096) : sh 0 u p = u p := if_pos (Nat.zero_le _)

theorem out5_apply (x0 : Vec Ideal S4096x128 .f32) (x1 : Vec Ideal S4x128 .f32) (x2 : Vec Ideal S1x128 .f32) (x3 : Vec Ideal S4096x128 .f32) (y : S4x128.Idx) :
    out0_5 x0 x1 x2 x3 y = dwv (daB x0 x1 x2 x3 (y 1)) (fun r => x0 (ix2 r (y 1))) (y 0) := by
  unfold out0_5
  refine View.canon_apply_of_pieces (Val := Elt Ideal) (e := .f32) (fun y : S4x128.Idx => dwv (daB x0 x1 x2 x3 (y 1)) (fun r => x0 (ix2 r (y 1))) (y 0)) _ ?_ y (cover0_5 _ _ _ _ y)
  have key : ∀ (x : Vec Ideal S4096x128 .f32) (k : Fin 4) (q : Fin 128), (∀ p, x (ix2 p q) = sh (3 - k.val) (fun r => x0 (ix2 r q)) p) →
      (∑ p : Fin 4096, k0_pay19 x0 x1 x2 x3 (ix2 p q) * x (ix2 p q)) = dwv (daB x0 x1 x2 x3 q) (fun r => x0 (ix2 r q)) k := by
    intro x k q hx
    unfold dwv
    exact Finset.sum_congr rfl fun p _ => by rw [pay19_apply, hx]
  have ey : ∀ z : S1x128.Idx, ∃ q : Fin 128, z = (ix2 0 q : S1x128.Idx) := fun z =>
    ⟨z 1, by funext a; match a with | ⟨0, _⟩ => exact Subsingleton.elim (α := Fin 1) _ _ | ⟨1, _⟩ => rfl⟩
  have emb : ∀ (k : Fin 4) (q : Fin 128) (j : S4x128.Idx), (j 0).val = k.val → (j 1).val = q.val → j = (ix2 k q : S4x128.Idx) := by
    intro k q j e0 e1
    funext a
    match a with
    | ⟨0, _⟩ => exact Fin.ext e0
    | ⟨1, _⟩ => exact Fin.ext e1
  intro pc hpc
  simp only [List.mem_cons, List.not_mem_nil, or_false] at hpc
  rcases hpc with rfl | rfl | rfl | rfl
  · intro z
    obtain ⟨q, rfl⟩ := ey z
    have e : r0_5.emb (ix2 0 q : S1x128.Idx) = (ix2 0 q : S4x128.Idx) := emb 0 q _ rfl (show 0 + 1 * q.val = q.val by omega)
    show k0_pay5 (F := Ideal) _ _ (ix2 0 q) = (fun y : S4x128.Idx => dwv (daB x0 x1 x2 x3 (y 1)) (fun r => x0 (ix2 r (y 1))) (y 0)) (r0_5.emb (ix2 0 q : S1x128.Idx))
    rw [e, pay5_apply]
    exact key _ 0 q fun p => by rw [pay9_apply, whole]; rfl
  · intro z
    obtain ⟨q, rfl⟩ := ey z
    have e : r0_4.emb (ix2 0 q : S1x128.Idx) = (ix2 1 q : S4x128.Idx) := emb 1 q _ rfl (show 0 + 1 * q.val = q.val by omega)
    show k0_pay4 (F := Ideal) _ _ (ix2 0 q) = (fun y : S4x128.Idx => dwv (daB x0 x1 x2 x3 (y 1)) (fun r => x0 (ix2 r (y 1))) (y 0)) (r0_4.emb (ix2 0 q : S1x128.Idx))
    rw [e, pay4_apply]
    exact key _ 1 q fun p => by rw [pay8_apply, whole]; rfl
  · intro z
    obtain ⟨q, rfl⟩ := ey z
    have e : r0_3.emb (ix2 0 q : S1x128.Idx) = (ix2 2 q : S4x128.Idx) := emb 2 q _ rfl (show 0 + 1 * q.val = q.val by omega)
    show k0_pay3 (F := Ideal) _ _ (ix2 0 q) = (fun y : S4x128.Idx => dwv (daB x0 x1 x2 x3 (y 1)) (fun r => x0 (ix2 r (y 1))) (y 0)) (r0_3.emb (ix2 0 q : S1x128.Idx))
    rw [e, pay3_apply]
    exact key _ 2 q fun p => by rw [pay7_apply, whole]; rfl
  · intro z
    obtain ⟨q, rfl⟩ := ey z
    have e : r0_2.emb (ix2 0 q : S1x128.Idx) = (ix2 3 q : S4x128.Idx) := emb 3 q _ rfl (show 0 + 1 * q.val = q.val by omega)
    show k0_pay2 (F := Ideal) _ _ (ix2 0 q) = (fun y : S4x128.Idx => dwv (daB x0 x1 x2 x3 (y 1)) (fun r => x0 (ix2 r (y 1))) (y 0)) (r0_2.emb (ix2 0 q : S1x128.Idx))
    rw [e, pay2_apply]
    exact key _ 3 q fun p => by rw [whole]; exact (sh_zero (fun r => x0 (ix2 r q)) p).symm

/-! ## The blocks of the arrays -/

/-- The column that a place in point `t`'s block stands for. -/
def col (t : ℕ) (q : Fin 128) : Fin 1536 := at' (by decide) 128 t q.val

/-- The column of the projection that holds column `q` of the convolution's input. -/
def pcol (q : Fin 1536) : Fin 5120 := ⟨1024 + q.val, by have := q.isLt; omega⟩

theorem idx0 : ∀ t : Fin grid0.N, win0_0.index t 0 = 0 ∧ win0_0.index t 1 = t.val + 8 := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem idx3 : ∀ t : Fin grid0.N, win0_3.index t 0 = 0 ∧ win0_3.index t 1 = t.val := by decide +kernel
theorem idx4 : ∀ t : Fin grid0.N, win0_4.index t 0 = 0 ∧ win0_4.index t 1 = t.val := by decide +kernel
theorem idx5 : ∀ t : Fin grid0.N, win0_5.index t 0 = 0 ∧ win0_5.index t 1 = t.val := by decide +kernel
theorem idx6 : ∀ t : Fin grid0.N, win0_6.index t 0 = 0 ∧ win0_6.index t 1 = t.val := by decide +kernel
theorem t_lt (t : Fin cfg0.N) : t.val < 12 := lt_of_lt_of_eq t.isLt N_0
theorem col_val {t : ℕ} (ht : t < 12) (q : Fin 128) : (col t q).val = 128 * t + q.val := at'_val _ (by have := q.isLt; omega)

theorem rd0 (X : Vec Ideal S4096x5120 .f32) (t : Fin cfg0.N) (p : Fin 4096) (q : Fin 128) :
    ((cfg0.win 0).blk t).view.read (Elt Ideal) X (ix2 p q) = X (ix2 p (pcol (col t.val q))) := by
  have ht := t_lt t
  rw [View.read_apply]
  refine congrArg X ?_
  funext a
  apply Fin.ext
  match a with
  | ⟨0, _⟩ => show win0_0.index t 0 * 4096 + 1 * p.val = p.val; rw [(idx0 t).1]; omega
  | ⟨1, _⟩ => show win0_0.index t 1 * 128 + 1 * q.val = 1024 + (col t.val q).val; rw [(idx0 t).2, col_val ht q]; omega

theorem rd1 (X : Vec Ideal S4x1536 .f32) (t : Fin cfg0.N) (p : Fin 4) (q : Fin 128) :
    ((cfg0.win 1).blk t).view.read (Elt Ideal) X (ix2 p q) = X (ix2 p (col t.val q)) := by
  have ht := t_lt t
  rw [View.read_apply]
  refine congrArg X ?_
  funext a
  apply Fin.ext
  match a with
  | ⟨0, _⟩ => show win0_1.index t 0 * 4 + 1 * p.val = p.val; rw [(idx1 t).1]; omega
  | ⟨1, _⟩ => show win0_1.index t 1 * 128 + 1 * q.val = (col t.val q).val; rw [(idx1 t).2, col_val ht q]; omega

theorem rd2 (X : Vec Ideal S1x1536 .f32) (t : Fin cfg0.N) (p : Fin 1) (q : Fin 128) :
    ((cfg0.win 2).blk t).view.read (Elt Ideal) X (ix2 p q) = X (ix2 p (col t.val q)) := by
  have ht := t_lt t
  rw [View.read_apply]
  refine congrArg X ?_
  funext a
  apply Fin.ext
  match a with
  | ⟨0, _⟩ => show win0_2.index t 0 * 1 + 1 * p.val = p.val; rw [(idx2 t).1]; omega
  | ⟨1, _⟩ => show win0_2.index t 1 * 128 + 1 * q.val = (col t.val q).val; rw [(idx2 t).2, col_val ht q]; omega

theorem rd3 (X : Vec Ideal S4096x1536 .f32) (t : Fin cfg0.N) (p : Fin 4096) (q : Fin 128) :
    ((cfg0.win 3).blk t).view.read (Elt Ideal) X (ix2 p q) = X (ix2 p (col t.val q)) := by
  have ht := t_lt t
  rw [View.read_apply]
  refine congrArg X ?_
  funext a
  apply Fin.ext
  match a with
  | ⟨0, _⟩ => show win0_3.index t 0 * 4096 + 1 * p.val = p.val; rw [(idx3 t).1]; omega
  | ⟨1, _⟩ => show win0_3.index t 1 * 128 + 1 * q.val = (col t.val q).val; rw [(idx3 t).2, col_val ht q]; omega

/-- The gradient in the convolution's value, of column `q`. -/
def daF (X0 : Vec Ideal S4096x5120 .f32) (X1 : Vec Ideal S4x1536 .f32) (X2 : Vec Ideal S1x1536 .f32) (X3 : Vec Ideal S4096x1536 .f32) (q : Fin 1536) (p : Fin 4096) : EReal :=
  da (X1 (ix2 0 q)) (X1 (ix2 1 q)) (X1 (ix2 2 q)) (X1 (ix2 3 q)) (X2 (ix2 0 q)) (fun r => X0 (ix2 r (pcol q))) (fun r => X3 (ix2 r q)) p

/-- The gradient in the convolution's input. -/
def full4 (X0 : Vec Ideal S4096x5120 .f32) (X1 : Vec Ideal S4x1536 .f32) (X2 : Vec Ideal S1x1536 .f32) (X3 : Vec Ideal S4096x1536 .f32) (p : Fin 4096) (q : Fin 1536) : EReal :=
  dxv (X1 (ix2 0 q)) (X1 (ix2 1 q)) (X1 (ix2 2 q)) (X1 (ix2 3 q)) (daF X0 X1 X2 X3 q) p

/-- The gradient in the weights. -/
def full5 (X0 : Vec Ideal S4096x5120 .f32) (X1 : Vec Ideal S4x1536 .f32) (X2 : Vec Ideal S1x1536 .f32) (X3 : Vec Ideal S4096x1536 .f32) (k : Fin 4) (q : Fin 1536) : EReal :=
  dwv (daF X0 X1 X2 X3 q) (fun r => X0 (ix2 r (pcol q))) k

/-- The gradient in the bias. -/
def full6 (X0 : Vec Ideal S4096x5120 .f32) (X1 : Vec Ideal S4x1536 .f32) (X2 : Vec Ideal S1x1536 .f32) (X3 : Vec Ideal S4096x1536 .f32) (q : Fin 1536) : EReal := ∑ p : Fin 4096, daF X0 X1 X2 X3 q p

variable (m : (ℓ : Loc nD τ sig) → Buf (Elt Ideal) ℓ) (c : Dev nD)

theorem c0 (t : Fin cfg0.N) (q : Fin 128) : (fun r => iblk m c 0 t (ix2 r q)) = fun r => V m c main_arg0 (ix2 r (pcol (col t.val q))) :=
  funext fun r => rd0 (V m c main_arg0) t r q
theorem c1 (t : Fin cfg0.N) (k : Fin 4) (q : Fin 128) : iblk m c 1 t (ix2 k q) = V m c main_arg1 (ix2 k (col t.val q)) := rd1 (V m c main_arg1) t k q
theorem c2 (t : Fin cfg0.N) (q : Fin 128) : iblk m c 2 t (ix2 0 q) = V m c main_arg2 (ix2 0 (col t.val q)) := rd2 (V m c main_arg2) t 0 q
theorem c3 (t : Fin cfg0.N) (q : Fin 128) : (fun r => iblk m c 3 t (ix2 r q)) = fun r => V m c main_arg3 (ix2 r (col t.val q)) :=
  funext fun r => rd3 (V m c main_arg3) t r q

theorem daB_eq (t : Fin cfg0.N) (q : Fin 128) : daB (iblk m c 0 t) (iblk m c 1 t) (iblk m c 2 t) (iblk m c 3 t) q = daF (V m c main_arg0) (V m c main_arg1) (V m c main_arg2) (V m c main_arg3) (col t.val q) := by
  funext p
  unfold daB daF
  have e0 := c0 m c t q
  have e1 := fun k => c1 m c t k q
  have e2 := c2 m c t q
  have e3 := c3 m c t q
  simp only [e1, e2]
  exact congrArg₂ (fun u d => da _ _ _ _ _ u d p) e0 e3

theorem final4 : (dats m 0 c).arrAt 4 cfg0.N = (fun y : S4096x1536.Idx => full4 (V m c main_arg0) (V m c main_arg1) (V m c main_arg2) (V m c main_arg3) (y 0) (y 1)) := by
  refine (dats m 0 c).arrAt_eq_of_cover 4 _ ?_ ?_
  · intro t _
    rw [Value.flushed4]
    funext y
    obtain ⟨p, q, rfl⟩ : ∃ (p : Fin 4096) (q : Fin 128), y = (ix2 p q : S4096x128.Idx) := ⟨y 0, y 1, by funext a; match a with | ⟨0, _⟩ => rfl | ⟨1, _⟩ => rfl⟩
    rw [View.read_apply]
    have e : (((cfg0.win 4).blk t).view.emb (ix2 p q : S4096x128.Idx) : S4096x1536.Idx) = ix2 p (col t.val q) := by
      funext a
      apply Fin.ext
      match a with
      | ⟨0, _⟩ => show win0_4.index t 0 * 4096 + 1 * p.val = p.val; rw [(idx4 t).1]; omega
      | ⟨1, _⟩ => show win0_4.index t 1 * 128 + 1 * q.val = (col t.val q).val; rw [(idx4 t).2, col_val (t_lt t) q]; omega
    refine Eq.trans ?_ (congrArg (fun y : S4096x1536.Idx => full4 (V m c main_arg0) (V m c main_arg1) (V m c main_arg2) (V m c main_arg3) (y 0) (y 1)) e.symm)
    show out0_4 (iblk m c 0 t) (iblk m c 1 t) (iblk m c 2 t) (iblk m c 3 t) (ix2 p q) = full4 (V m c main_arg0) (V m c main_arg1) (V m c main_arg2) (V m c main_arg3) p (col t.val q)
    have e1 := fun k => c1 m c t k q
    rw [out4_apply, daB_eq]
    unfold full4
    simp only [e1]
  · intro i
    have h0 : (i 0).val < 4096 := (i 0).isLt
    have h1 : (i 1).val < 1536 := (i 1).isLt
    refine ⟨⟨(i 1).val / 128, lt_of_lt_of_eq (by omega : _ < 12) N_0.symm⟩, flush0_4 _, ?_⟩
    generalize ht : (⟨(i 1).val / 128, _⟩ : Fin cfg0.N) = t
    have tv : t.val = (i 1).val / 128 := by rw [← ht]
    have hi := idx4 t
    show i ∈ ((View.whole main_v0_0).slice (win0_4.rect t)).set
    rw [View.set_slice_whole, Rect.mem_set_unit]
    intro a
    match a with
    | ⟨0, _⟩ => show win0_4.index t 0 * 4096 ≤ (i 0).val ∧ (i 0).val < win0_4.index t 0 * 4096 + 4096; rw [hi.1]; omega
    | ⟨1, _⟩ => show win0_4.index t 1 * 128 ≤ (i 1).val ∧ (i 1).val < win0_4.index t 1 * 128 + 128; rw [hi.2]; omega

theorem final5 : (dats m 0 c).arrAt 5 cfg0.N = (fun y : S4x1536.Idx => full5 (V m c main_arg0) (V m c main_arg1) (V m c main_arg2) (V m c main_arg3) (y 0) (y 1)) := by
  refine (dats m 0 c).arrAt_eq_of_cover 5 _ ?_ ?_
  · intro t _
    rw [Value.flushed5]
    funext y
    obtain ⟨p, q, rfl⟩ : ∃ (p : Fin 4) (q : Fin 128), y = (ix2 p q : S4x128.Idx) := ⟨y 0, y 1, by funext a; match a with | ⟨0, _⟩ => rfl | ⟨1, _⟩ => rfl⟩
    rw [View.read_apply]
    have e : (((cfg0.win 5).blk t).view.emb (ix2 p q : S4x128.Idx) : S4x1536.Idx) = ix2 p (col t.val q) := by
      funext a
      apply Fin.ext
      match a with
      | ⟨0, _⟩ => show win0_5.index t 0 * 4 + 1 * p.val = p.val; rw [(idx5 t).1]; omega
      | ⟨1, _⟩ => show win0_5.index t 1 * 128 + 1 * q.val = (col t.val q).val; rw [(idx5 t).2, col_val (t_lt t) q]; omega
    refine Eq.trans ?_ (congrArg (fun y : S4x1536.Idx => full5 (V m c main_arg0) (V m c main_arg1) (V m c main_arg2) (V m c main_arg3) (y 0) (y 1)) e.symm)
    show out0_5 (iblk m c 0 t) (iblk m c 1 t) (iblk m c 2 t) (iblk m c 3 t) (ix2 p q) = full5 (V m c main_arg0) (V m c main_arg1) (V m c main_arg2) (V m c main_arg3) p (col t.val q)
    rw [out5_apply]
    show dwv (daB (iblk m c 0 t) (iblk m c 1 t) (iblk m c 2 t) (iblk m c 3 t) q) (fun r => iblk m c 0 t (ix2 r q)) p = _
    rw [daB_eq]
    exact congrArg (fun u => dwv _ u p) (c0 m c t q)
  · intro i
    have h0 : (i 0).val < 4 := (i 0).isLt
    have h1 : (i 1).val < 1536 := (i 1).isLt
    refine ⟨⟨(i 1).val / 128, lt_of_lt_of_eq (by omega : _ < 12) N_0.symm⟩, flush0_5 _, ?_⟩
    generalize ht : (⟨(i 1).val / 128, _⟩ : Fin cfg0.N) = t
    have tv : t.val = (i 1).val / 128 := by rw [← ht]
    have hi := idx5 t
    show i ∈ ((View.whole main_v0_1).slice (win0_5.rect t)).set
    rw [View.set_slice_whole, Rect.mem_set_unit]
    intro a
    match a with
    | ⟨0, _⟩ => show win0_5.index t 0 * 4 ≤ (i 0).val ∧ (i 0).val < win0_5.index t 0 * 4 + 4; rw [hi.1]; omega
    | ⟨1, _⟩ => show win0_5.index t 1 * 128 ≤ (i 1).val ∧ (i 1).val < win0_5.index t 1 * 128 + 128; rw [hi.2]; omega

theorem final6 : (dats m 0 c).arrAt 6 cfg0.N = (fun y : S1x1536.Idx => full6 (V m c main_arg0) (V m c main_arg1) (V m c main_arg2) (V m c main_arg3) (y 1)) := by
  refine (dats m 0 c).arrAt_eq_of_cover 6 _ ?_ ?_
  · intro t _
    rw [Value.flushed6]
    funext y
    obtain ⟨p, q, rfl⟩ : ∃ (p : Fin 1) (q : Fin 128), y = (ix2 p q : S1x128.Idx) := ⟨y 0, y 1, by funext a; match a with | ⟨0, _⟩ => rfl | ⟨1, _⟩ => rfl⟩
    rw [View.read_apply]
    have e : (((cfg0.win 6).blk t).view.emb (ix2 p q : S1x128.Idx) : S1x1536.Idx) = ix2 p (col t.val q) := by
      funext a
      apply Fin.ext
      match a with
      | ⟨0, _⟩ => show win0_6.index t 0 * 1 + 1 * p.val = p.val; rw [(idx6 t).1]; omega
      | ⟨1, _⟩ => show win0_6.index t 1 * 128 + 1 * q.val = (col t.val q).val; rw [(idx6 t).2, col_val (t_lt t) q]; omega
    refine Eq.trans ?_ (congrArg (fun y : S1x1536.Idx => full6 (V m c main_arg0) (V m c main_arg1) (V m c main_arg2) (V m c main_arg3) (y 1)) e.symm)
    show out0_6 (iblk m c 0 t) (iblk m c 1 t) (iblk m c 2 t) (iblk m c 3 t) (ix2 p q) = full6 (V m c main_arg0) (V m c main_arg1) (V m c main_arg2) (V m c main_arg3) (col t.val q)
    obtain rfl : p = 0 := Subsingleton.elim _ _
    rw [out6_apply, daB_eq]
    rfl
  · intro i
    have h0 : (i 0).val < 1 := (i 0).isLt
    have h1 : (i 1).val < 1536 := (i 1).isLt
    refine ⟨⟨(i 1).val / 128, lt_of_lt_of_eq (by omega : _ < 12) N_0.symm⟩, flush0_6 _, ?_⟩
    generalize ht : (⟨(i 1).val / 128, _⟩ : Fin cfg0.N) = t
    have tv : t.val = (i 1).val / 128 := by rw [← ht]
    have hi := idx6 t
    show i ∈ ((View.whole main_v0_2).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 128 ≤ (i 1).val ∧ (i 1).val < win0_6.index t 1 * 128 + 128; rw [hi.2]; omega

/-! ## The reference at an index -/

section
open Cert.Reference18Ideal.Read

theorem first_zero (v : Vec Ideal Cert.Reference18Ideal.S_ .f32) (hv : v = constant (F := Ideal) Cert.Reference18Ideal.S_ .f32 0x00000000#32) (hu : 0 < Cert.Reference18Ideal.S_.numel) : v (Shape.Idx.first hu) = 0 := by
  rw [hv]
  exact Ideal.ofBits_zero_f32

/-- The padded input, `j` positions on: the input `3 - j` positions later. -/
theorem cat_apply (x0 : Vec Ideal S4096x5120 .f32) (j : ℕ) (hj : j ≤ 3) (p : Fin 4096) (q : Fin 1536) (i : Cert.Reference18Ideal.S4099x1536.Idx) (h0 : (i 0).val = p.val + j) (h1 : (i 1).val = q.val) :
    val_main_v2 (F := Ideal) x0 i = sh (3 - j) (fun r => x0 (ix2 r (pcol q))) p := by
  have hp := p.isLt
  unfold val_main_v2 sh
  by_cases h : 3 - j ≤ p.val
  · rw [if_pos h]
    refine (concatenate_pair_apply_right (t := Cert.Reference18Ideal.S4099x1536) (s₁ := Cert.Reference18Ideal.S3x1536) (s₂ := S4096x1536) (0 : Fin 2) _ _ _ i rfl rfl (ix2 (⟨p.val - (3 - j), by omega⟩ : Fin 4096) q : S4096x1536.Idx) ?_ ?_).trans ?_
    · intro b hb
      match b with
      | ⟨0, _⟩ => exact absurd rfl hb
      | ⟨1, _⟩ => exact h1.symm
    · show p.val - (3 - j) + 3 = (i 0).val; omega
    · rw [val_main_v0_apply]
      refine congrArg x0 (funext fun a => Fin.ext ?_)
      match a with
      | ⟨0, _⟩ => rfl
      | ⟨1, _⟩ => rfl
  · rw [if_neg h]
    refine (concatenate_pair_apply_left (t := Cert.Reference18Ideal.S4099x1536) (s₁ := Cert.Reference18Ideal.S3x1536) (s₂ := S4096x1536) (0 : Fin 2) _ _ _ i rfl (ix2 (⟨p.val + j, by omega⟩ : Fin 3) q : Cert.Reference18Ideal.S3x1536.Idx) ?_).trans ?_
    · intro b
      match b with
      | ⟨0, _⟩ => exact h0.symm
      | ⟨1, _⟩ => exact h1.symm
    · rw [val_main_v1_apply]
      exact Ideal.ofBits_zero_f32

theorem v4_at (x0 : Vec Ideal S4096x5120 .f32) (p : Fin 4096) (q : Fin 1536) : val_main_v4 (F := Ideal) x0 (ix2 p q) = sh 3 (fun r => x0 (ix2 r (pcol q))) p := by
  rw [val_main_v4_apply]
  exact cat_apply x0 0 (by decide) p q _ rfl rfl
theorem v10_at (x0 : Vec Ideal S4096x5120 .f32) (p : Fin 4096) (q : Fin 1536) : val_main_v10 (F := Ideal) x0 (ix2 p q) = sh 2 (fun r => x0 (ix2 r (pcol q))) p := by
  rw [val_main_v10_apply]
  exact cat_apply x0 1 (by decide) p q _ (Nat.add_comm 1 p.val) rfl
theorem v15_at (x0 : Vec Ideal S4096x5120 .f32) (p : Fin 4096) (q : Fin 1536) : val_main_v15 (F := Ideal) x0 (ix2 p q) = sh 1 (fun r => x0 (ix2 r (pcol q))) p := by
  rw [val_main_v15_apply]
  exact cat_apply x0 2 (by decide) p q _ (Nat.add_comm 2 p.val) rfl
theorem v20_at (x0 : Vec Ideal S4096x5120 .f32) (p : Fin 4096) (q : Fin 1536) : val_main_v20 (F := Ideal) x0 (ix2 p q) = sh 0 (fun r => x0 (ix2 r (pcol q))) p := by
  rw [val_main_v20_apply]
  exact cat_apply x0 3 (by decide) p q _ (Nat.add_comm 3 p.val) rfl

theorem v26_at (x0 : Vec Ideal S4096x5120 .f32) (x1 : Vec Ideal S4x1536 .f32) (x2 : Vec Ideal S1x1536 .f32) (p : Fin 4096) (q : Fin 1536) :
    val_main_v26 (F := Ideal) x0 x1 x2 (ix2 p q) = pre (x1 (ix2 0 q)) (x1 (ix2 1 q)) (x1 (ix2 2 q)) (x1 (ix2 3 q)) (x2 (ix2 0 q)) (fun r => x0 (ix2 r (pcol q))) p := by
  have e : val_main_v26 (F := Ideal) x0 x1 x2 (ix2 p q) = 0 + val_main_v4 (F := Ideal) x0 (ix2 p q) * x1 (ix2 0 q) + val_main_v10 (F := Ideal) x0 (ix2 p q) * x1 (ix2 1 q)
      + val_main_v15 (F := Ideal) x0 (ix2 p q) * x1 (ix2 2 q) + val_main_v20 (F := Ideal) x0 (ix2 p q) * x1 (ix2 3 q) + x2 (ix2 0 q) := by
    unfold val_main_v26 val_main_v24 val_main_v23 val_main_v19 val_main_v18 val_main_v14 val_main_v13 val_main_v9 val_main_v7
    generalize val_main_v4 (F := Ideal) x0 = y4
    generalize val_main_v10 (F := Ideal) x0 = y10
    generalize val_main_v15 (F := Ideal) x0 = y15
    generalize val_main_v20 (F := Ideal) x0 = y20
    pointwise [val_main_v25, val_main_v22, val_main_v21, val_main_v17, val_main_v16, val_main_v12, val_main_v11, val_main_v8, val_main_cst_1, val_main_v6, val_main_v5]
  rw [e, v4_at, v10_at, v15_at, v20_at, sh_zero, zero_add]
  unfold pre
  rw [mul_comm (x1 (ix2 0 q)), mul_comm (x1 (ix2 1 q)), mul_comm (x1 (ix2 2 q)), mul_comm (x1 (ix2 3 q))]
  abel

theorem v28_at (x0 : Vec Ideal S4096x5120 .f32) (x1 : Vec Ideal S4x1536 .f32) (x2 : Vec Ideal S1x1536 .f32) (x3 : Vec Ideal S4096x1536 .f32)
    (h3 : ∀ i, ∃ r : ℝ, x3 i = (r : EReal)) (p : Fin 4096) (q : Fin 1536) :
    val_main_v28 (F := Ideal) x0 x1 x2 x3 (ix2 p q) = daF x0 x1 x2 x3 q p := by
  have e : val_main_v28 (F := Ideal) x0 x1 x2 x3 (ix2 p q) = x3 (ix2 p q) * logi (val_main_v26 (F := Ideal) x0 x1 x2 (ix2 p q))
      + val_main_v26 (F := Ideal) x0 x1 x2 (ix2 p q) * x3 (ix2 p q) * (logi (val_main_v26 (F := Ideal) x0 x1 x2 (ix2 p q)) * (1 - logi (val_main_v26 (F := Ideal) x0 x1 x2 (ix2 p q)))) := by
    unfold logi val_main_v28 val_main_call1_v1 val_main_call1_v2 val_main_call1_v0 val_main_v27_1 val_main_call0_v7 val_main_v27_2 val_main_call0_v3 val_main_call0_v1 val_main_call0_v0
    generalize val_main_v26 (F := Ideal) x0 x1 x2 = y
    pointwise [val_main_call0_v6, val_main_call0_cst_1, val_main_call0_v4, val_main_call0_cst_0, val_main_call0_v2, val_main_call0_cst]
  rw [e, v26_at]
  unfold daF da dga
  obtain ⟨d, hd⟩ := h3 (ix2 p q)
  show _ = x3 (ix2 p q) * _
  rw [hd]
  exact (gate_grad d _).symm

theorem v33_at (x0 : Vec Ideal S4096x5120 .f32) (x1 : Vec Ideal S4x1536 .f32) (x2 : Vec Ideal S1x1536 .f32) (x3 : Vec Ideal S4096x1536 .f32) (q : Fin 1536) :
    val_main_v33 (F := Ideal) x0 x1 x2 x3 (ix2 0 q) = ∑ p : Fin 4096, val_main_v20 (F := Ideal) x0 (ix2 p q) * val_main_v28 (F := Ideal) x0 x1 x2 x3 (ix2 p q) := by
  unfold val_main_v33 val_main_v32 val_main_v31
  generalize val_main_v20 (F := Ideal) x0 = y
  generalize val_main_v28 (F := Ideal) x0 x1 x2 x3 = z
  pointwise [val_main_cst_3]
theorem v40_at (x0 : Vec Ideal S4096x5120 .f32) (x1 : Vec Ideal S4x1536 .f32) (x2 : Vec Ideal S1x1536 .f32) (x3 : Vec Ideal S4096x1536 .f32) (q : Fin 1536) :
    val_main_v40 (F := Ideal) x0 x1 x2 x3 (ix2 0 q) = ∑ p : Fin 4096, val_main_v15 (F := Ideal) x0 (ix2 p q) * val_main_v28 (F := Ideal) x0 x1 x2 x3 (ix2 p q) := by
  unfold val_main_v40 val_main_v39 val_main_v38
  generalize val_main_v15 (F := Ideal) x0 = y
  generalize val_main_v28 (F := Ideal) x0 x1 x2 x3 = z
  pointwise [val_main_cst_6]
theorem v49_at (x0 : Vec Ideal S4096x5120 .f32) (x1 : Vec Ideal S4x1536 .f32) (x2 : Vec Ideal S1x1536 .f32) (x3 : Vec Ideal S4096x1536 .f32) (q : Fin 1536) :
    val_main_v49 (F := Ideal) x0 x1 x2 x3 (ix2 0 q) = ∑ p : Fin 4096, val_main_v10 (F := Ideal) x0 (ix2 p q) * val_main_v28 (F := Ideal) x0 x1 x2 x3 (ix2 p q) := by
  unfold val_main_v49 val_main_v48 val_main_v47
  generalize val_main_v10 (F := Ideal) x0 = y
  generalize val_main_v28 (F := Ideal) x0 x1 x2 x3 = z
  pointwise [val_main_cst_9]
theorem v58_at (x0 : Vec Ideal S4096x5120 .f32) (x1 : Vec Ideal S4x1536 .f32) (x2 : Vec Ideal S1x1536 .f32) (x3 : Vec Ideal S4096x1536 .f32) (q : Fin 1536) :
    val_main_v58 (F := Ideal) x0 x1 x2 x3 (ix2 0 q) = ∑ p : Fin 4096, val_main_v4 (F := Ideal) x0 (ix2 p q) * val_main_v28 (F := Ideal) x0 x1 x2 x3 (ix2 p q) := by
  unfold val_main_v58 val_main_v57 val_main_v56
  generalize val_main_v4 (F := Ideal) x0 = y
  generalize val_main_v28 (F := Ideal) x0 x1 x2 x3 = z
  pointwise [val_main_cst_12]
theorem v30_at (x0 : Vec Ideal S4096x5120 .f32) (x1 : Vec Ideal S4x1536 .f32) (x2 : Vec Ideal S1x1536 .f32) (x3 : Vec Ideal S4096x1536 .f32) (q : Fin 1536) :
    val_main_v30 (F := Ideal) x0 x1 x2 x3 (ix2 0 q) = ∑ p : Fin 4096, val_main_v28 (F := Ideal) x0 x1 x2 x3 (ix2 p q) := by
  unfold val_main_v30 val_main_v29
  generalize val_main_v28 (F := Ideal) x0 x1 x2 x3 = z
  pointwise [val_main_cst_2]

theorem pad_row (j j' : ℕ) (x : Vec Ideal S1x1536 .f32) (v : Vec Ideal Cert.Reference18Ideal.S_ .f32) (hv : v = constant (F := Ideal) Cert.Reference18Ideal.S_ .f32 0x00000000#32)
    (h : S1x1536.Pads ![j, 0] ![j', 0] ![0, 0] S4x1536) (hu : 0 < Cert.Reference18Ideal.S_.numel) (k : Fin 4) (q : Fin 1536) :
    pad S4x1536 ![j, 0] ![j', 0] ![0, 0] x v h hu (ix2 k q) = if k.val = j then x (ix2 0 q) else 0 := by
  by_cases e : k.val = j
  · rw [if_pos e]
    refine pad_apply_of_inside _ _ _ x v h hu _ (ix2 0 q) fun a => ?_
    match a with
    | ⟨0, _⟩ => show k.val = j + 0 * (0 + 1); omega
    | ⟨1, _⟩ => show q.val = 0 + q.val * (0 + 1); omega
  · rw [if_neg e]
    refine (pad_apply_of_not_inside _ _ _ x v h hu _ (0 : Fin 2) ?_).trans (first_zero v hv hu)
    rintro ⟨a, _, b⟩
    have a' : j ≤ k.val := a
    have b' : (k.val - j) / (0 + 1) < 1 := b
    rw [Nat.zero_add, Nat.div_one] at b'
    omega

theorem pad_blk (j j' k : ℕ) (hj : j + k = 3) (x : Vec Ideal S4096x1536 .f32) (v : Vec Ideal Cert.Reference18Ideal.S_ .f32) (hv : v = constant (F := Ideal) Cert.Reference18Ideal.S_ .f32 0x00000000#32)
    (h : S4096x1536.Pads ![j, 0] ![j', 0] ![0, 0] Cert.Reference18Ideal.S4099x1536) (hu : 0 < Cert.Reference18Ideal.S_.numel) (p : Fin 4096) (q : Fin 1536) :
    pad Cert.Reference18Ideal.S4099x1536 ![j, 0] ![j', 0] ![0, 0] x v h hu (ix2 ⟨3 + p.val, by have := p.isLt; omega⟩ q) = bk k (fun r => x (ix2 r q)) p := by
  unfold bk
  by_cases e : p.val + k < 4096
  · rw [dif_pos e]
    refine pad_apply_of_inside _ _ _ x v h hu _ (ix2 ⟨p.val + k, e⟩ q) fun a => ?_
    match a with
    | ⟨0, _⟩ => show 3 + p.val = j + (p.val + k) * (0 + 1); omega
    | ⟨1, _⟩ => show q.val = 0 + q.val * (0 + 1); omega
  · rw [dif_neg e]
    refine (pad_apply_of_not_inside _ _ _ x v h hu _ (0 : Fin 2) ?_).trans (first_zero v hv hu)
    rintro ⟨_, _, b⟩
    have b' : (3 + p.val - j) / (0 + 1) < 4096 := b
    rw [Nat.zero_add, Nat.div_one] at b'
    omega

theorem bk_mul (k : ℕ) (g : Fin 4096 → EReal) (w : EReal) (p : Fin 4096) : bk k (fun r => g r * w) p = w * bk k g p := by
  unfold bk
  split
  · exact mul_comm _ _
  · exact (mul_zero w).symm

theorem bk_zero (g : Fin 4096 → EReal) (p : Fin 4096) : bk 0 g p = g p := dif_pos p.isLt

theorem v35_at (x0 : Vec Ideal S4096x5120 .f32) (x1 : Vec Ideal S4x1536 .f32) (x2 : Vec Ideal S1x1536 .f32) (x3 : Vec Ideal S4096x1536 .f32) (p : Fin 4096) (q : Fin 1536) :
    val_main_v35 (F := Ideal) x0 x1 x2 x3 (ix2 p q) = val_main_v28 (F := Ideal) x0 x1 x2 x3 (ix2 p q) * x1 (ix2 3 q) := by
  unfold val_main_v35
  generalize val_main_v28 (F := Ideal) x0 x1 x2 x3 = z
  pointwise [val_main_v34, val_main_v21]
theorem v42_at (x0 : Vec Ideal S4096x5120 .f32) (x1 : Vec Ideal S4x1536 .f32) (x2 : Vec Ideal S1x1536 .f32) (x3 : Vec Ideal S4096x1536 .f32) (p : Fin 4096) (q : Fin 1536) :
    val_main_v42 (F := Ideal) x0 x1 x2 x3 (ix2 p q) = val_main_v28 (F := Ideal) x0 x1 x2 x3 (ix2 p q) * x1 (ix2 2 q) := by
  unfold val_main_v42
  generalize val_main_v28 (F := Ideal) x0 x1 x2 x3 = z
  pointwise [val_main_v41, val_main_v16]
theorem v51_at (x0 : Vec Ideal S4096x5120 .f32) (x1 : Vec Ideal S4x1536 .f32) (x2 : Vec Ideal S1x1536 .f32) (x3 : Vec Ideal S4096x1536 .f32) (p : Fin 4096) (q : Fin 1536) :
    val_main_v51 (F := Ideal) x0 x1 x2 x3 (ix2 p q) = val_main_v28 (F := Ideal) x0 x1 x2 x3 (ix2 p q) * x1 (ix2 1 q) := by
  unfold val_main_v51
  generalize val_main_v28 (F := Ideal) x0 x1 x2 x3 = z
  pointwise [val_main_v50, val_main_v11]
theorem v60_at (x0 : Vec Ideal S4096x5120 .f32) (x1 : Vec Ideal S4x1536 .f32) (x2 : Vec Ideal S1x1536 .f32) (x3 : Vec Ideal S4096x1536 .f32) (p : Fin 4096) (q : Fin 1536) :
    val_main_v60 (F := Ideal) x0 x1 x2 x3 (ix2 p q) = val_main_v28 (F := Ideal) x0 x1 x2 x3 (ix2 p q) * x1 (ix2 0 q) := by
  unfold val_main_v60
  generalize val_main_v28 (F := Ideal) x0 x1 x2 x3 = z
  pointwise [val_main_v59, val_main_v5]

theorem ref67 (x0 : Vec Ideal S4096x5120 .f32) (x1 : Vec Ideal S4x1536 .f32) (x2 : Vec Ideal S1x1536 .f32) (x3 : Vec Ideal S4096x1536 .f32)
    (h3 : ∀ i, ∃ r : ℝ, x3 i = (r : EReal)) :
    (fun y : S4096x1536.Idx => full4 x0 x1 x2 x3 (y 0) (y 1)) = val_main_v67 (F := Ideal) x0 x1 x2 x3 := by
  funext y
  obtain ⟨p, q, rfl⟩ : ∃ (p : Fin 4096) (q : Fin 1536), y = ix2 p q := ⟨y 0, y 1, eq_ix2 y⟩
  show full4 x0 x1 x2 x3 p q = val_main_v66 (F := Ideal) x0 x1 x2 x3 (ix2 p q)
  have ei : idx_main_v66 (ix2 p q) = (ix2 ⟨3 + p.val, by have := p.isLt; omega⟩ q : Cert.Reference18Ideal.S4099x1536.Idx) := by
    funext a
    match a with
    | ⟨0, _⟩ => rfl
    | ⟨1, _⟩ => rfl
  rw [val_main_v66_apply, ei]
  show _ = val_main_v37 (F := Ideal) x0 x1 x2 x3 _ + val_main_v45 (F := Ideal) x0 x1 x2 x3 _ + val_main_v54 (F := Ideal) x0 x1 x2 x3 _ + val_main_v63 (F := Ideal) x0 x1 x2 x3 _
  unfold val_main_v37 val_main_v45 val_main_v54 val_main_v63 val_main_cst_5 val_main_cst_8 val_main_cst_11 val_main_cst_14
  rw [pad_blk 3 0 0 rfl _ _ rfl, pad_blk 2 1 1 rfl _ _ rfl, pad_blk 1 2 2 rfl _ _ rfl, pad_blk 0 3 3 rfl _ _ rfl]
  simp only [v35_at, v42_at, v51_at, v60_at, v28_at x0 x1 x2 x3 h3]
  rw [bk_mul, bk_mul, bk_mul, bk_mul, bk_zero]
  rfl

theorem ref62 (x0 : Vec Ideal S4096x5120 .f32) (x1 : Vec Ideal S4x1536 .f32) (x2 : Vec Ideal S1x1536 .f32) (x3 : Vec Ideal S4096x1536 .f32)
    (h3 : ∀ i, ∃ r : ℝ, x3 i = (r : EReal)) :
    (fun y : S4x1536.Idx => full5 x0 x1 x2 x3 (y 0) (y 1)) = val_main_v62 (F := Ideal) x0 x1 x2 x3 := by
  funext y
  obtain ⟨k, q, rfl⟩ : ∃ (k : Fin 4) (q : Fin 1536), y = ix2 k q := ⟨y 0, y 1, eq_ix2 y⟩
  show full5 x0 x1 x2 x3 k q = val_main_v36 (F := Ideal) x0 x1 x2 x3 (ix2 k q) + val_main_v43 (F := Ideal) x0 x1 x2 x3 (ix2 k q) + val_main_v52 (F := Ideal) x0 x1 x2 x3 (ix2 k q) + val_main_v61 (F := Ideal) x0 x1 x2 x3 (ix2 k q)
  unfold val_main_v36 val_main_v43 val_main_v52 val_main_v61 val_main_cst_4 val_main_cst_7 val_main_cst_10 val_main_cst_13
  rw [pad_row 3 0 _ _ rfl, pad_row 2 1 _ _ rfl, pad_row 1 2 _ _ rfl, pad_row 0 3 _ _ rfl, v33_at, v40_at, v49_at, v58_at]
  simp only [v4_at, v10_at, v15_at, v20_at, v28_at x0 x1 x2 x3 h3]
  unfold full5 dwv
  match k with
  | ⟨0, _⟩ =>
    rw [if_neg (show ¬(0 : ℕ) = 3 by decide), if_neg (show ¬(0 : ℕ) = 2 by decide), if_neg (show ¬(0 : ℕ) = 1 by decide), if_pos rfl, zero_add, zero_add, zero_add]
    exact Finset.sum_congr rfl fun p _ => mul_comm _ _
  | ⟨1, _⟩ =>
    rw [if_neg (show ¬(1 : ℕ) = 3 by decide), if_neg (show ¬(1 : ℕ) = 2 by decide), if_pos rfl, if_neg (show ¬(1 : ℕ) = 0 by decide), zero_add, zero_add, add_zero]
    exact Finset.sum_congr rfl fun p _ => mul_comm _ _
  | ⟨2, _⟩ =>
    rw [if_neg (show ¬(2 : ℕ) = 3 by decide), if_pos rfl, if_neg (show ¬(2 : ℕ) = 1 by decide), if_neg (show ¬(2 : ℕ) = 0 by decide), zero_add, add_zero, add_zero]
    exact Finset.sum_congr rfl fun p _ => mul_comm _ _
  | ⟨3, _⟩ =>
    rw [if_pos rfl, if_neg (show ¬(3 : ℕ) = 2 by decide), if_neg (show ¬(3 : ℕ) = 1 by decide), if_neg (show ¬(3 : ℕ) = 0 by decide), add_zero, add_zero, add_zero]
    exact Finset.sum_congr rfl fun p _ => mul_comm _ _

theorem ref30 (x0 : Vec Ideal S4096x5120 .f32) (x1 : Vec Ideal S4x1536 .f32) (x2 : Vec Ideal S1x1536 .f32) (x3 : Vec Ideal S4096x1536 .f32)
    (h3 : ∀ i, ∃ r : ℝ, x3 i = (r : EReal)) :
    (fun y : S1x1536.Idx => full6 x0 x1 x2 x3 (y 1)) = val_main_v30 (F := Ideal) x0 x1 x2 x3 := by
  funext y
  obtain ⟨q, rfl⟩ : ∃ (q : Fin 1536), y = (ix2 0 q : S1x1536.Idx) := ⟨y 1, by funext a; match a with | ⟨0, _⟩ => exact Subsingleton.elim (α := Fin 1) _ _ | ⟨1, _⟩ => rfl⟩
  rw [v30_at]
  simp only [v28_at x0 x1 x2 x3 h3]
  rfl

end

theorem reals (x0 : Vec Ideal S4096x5120 .f32) (x1 : Vec Ideal S4x1536 .f32) (x2 : Vec Ideal S1x1536 .f32) (x3 : Vec Ideal S4096x1536 .f32)
    (H : Cert.Pre_finite18.fn (F := Ideal) x0 x1 x2 x3 = fun _ => 1#1) : ∀ i, ∃ r : ℝ, x3 i = (r : EReal) := by
  have H0 := congrFun H ix0
  unfold Cert.Pre_finite18.fn at H0
  exact fun i => all_real _ _ _ _ _ H0 i

set_option maxHeartbeats 2000000 in
/-- The kernel's gradients and the reference's are equal where the gate's gradient is finite. -/
theorem algebraic : Cert.algebraic_Kernel18Ideal_Reference18Ideal_pre_finite18 := by
  intro m ρ m' ρ' hpre hagree
  refine ⟨fun c => (dats m 0 c).arrAt 4 cfg0.N, fun c => (dats m 0 c).arrAt 5 cfg0.N, fun c => (dats m 0 c).arrAt 6 cfg0.N, ?_, ?_⟩
  · exact Value.run_blocks m ρ
  · refine (θ_run Cert.Reference18Ideal.defs _ _).mono (fun r h c => ?_) (Cert.Reference18Ideal.Value.run (F := Ideal) m' ρ')
    have h3 := reals _ _ _ _ (hpre c)
    obtain ⟨a0, a1, a2, a3⟩ := hagree c
    obtain ⟨w0, w1, w2, w3⟩ := h c
    refine ⟨w0.trans ?_, w1.trans ?_, w2.trans ?_, w3⟩
    · rw [val_main_v67_eq, a0, a1, a2, a3]
      exact (ref67 _ _ _ _ h3).symm.trans (final4 m c).symm
    · rw [val_main_v62_eq, a0, a1, a2, a3]
      exact (ref62 _ _ _ _ h3).symm.trans (final5 m c).symm
    · rw [val_main_v30_eq, a0, a1, a2, a3]
      exact (ref30 _ _ _ _ h3).symm.trans (final6 m c).symm

end Cert.Kernel18Ideal.Hand
-- ==== Proof.CmpMlp.lean ====
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Sums
public import proofs.«01_k».proof.Proof.Gate
public import proofs.«01_k».proof.Proof.Gen.Pre_finite19
public import Idealize.ShloMosaic.Lib.KernelVsHost
public import Idealize.ShloMosaic.Lib.WordCmp

/-! The gradient of the compressed keys (or values): a linear layer on overlapping windows of sixteen pairs of rows, a gate and a second
    layer, differentiated in the rows, in both layers' weights and in the embedding, head by head. -/

@[expose] public section

set_option maxRecDepth 16384

noncomputable section

namespace Cert.Kernel19Ideal.Hand

open Idealize.ShloMosaic.TcCoe Idealize.SL.Sem
open Cert.Kernel19Ideal Cert.Kernel19Ideal.Gen Idealize.ShloMosaic
open Cert.Sums Cert.Reference19Ideal.Read
open Cert.Gate

/-! ## The gradients of one head -/

/-- The two halves of the 2048 places of a window: those of its first row and those of its second. -/
def lo (d : Fin 1024) : Fin 2048 := ⟨d.val, by have := d.isLt; omega⟩
def hi (d : Fin 1024) : Fin 2048 := ⟨1024 + d.val, by have := d.isLt; omega⟩

/-- The gradient in the gate's argument, at window `i`: from the second layer `W`, the gate's argument `H` and the gradient `O`. -/
def gg (W : Fin 256 → Fin 64 → EReal) (H : Fin 256 → Fin 256 → EReal) (O : Fin 256 → Fin 64 → EReal) (i : Fin 255) (c : Fin 256) : EReal :=
  (∑ e, O i.castSucc e * W c e) * (logi (H i.castSucc c) * (1 + H i.castSucc c * (1 - logi (H i.castSucc c))))

/-- A function of the windows as one of the rows: zero at the last row; and the same moved one row later: zero at the first. -/
def ex (u : Fin 255 → EReal) (i : Fin 256) : EReal := if h : i.val < 255 then u ⟨i.val, h⟩ else 0
def dn (u : Fin 255 → EReal) (i : Fin 256) : EReal := if h : 1 ≤ i.val then u ⟨i.val - 1, by have := i.isLt; omega⟩ else 0

theorem ex_cast (u : Fin 255 → EReal) (i : Fin 255) : ex u i.castSucc = u i := dif_pos i.isLt
theorem ex_last (u : Fin 255 → EReal) : ex u (Fin.last 255) = 0 := dif_neg (by decide)
theorem dn_succ (u : Fin 255 → EReal) (i : Fin 255) : dn u i.succ = u i := dif_pos (Nat.le_add_left 1 i.val)
theorem dn_zero (u : Fin 255 → EReal) : dn u 0 = 0 := dif_neg (by decide)

/-- Window `i` of the rows: row `i` and row `i + 1` side by side. -/
def win (R : Fin 256 → Fin 1024 → EReal) (i : Fin 255) (d : Fin 2048) : EReal :=
  if h : d.val < 1024 then R i.castSucc ⟨d.val, h⟩ else R i.succ ⟨d.val - 1024, by have := d.isLt; omega⟩

theorem win_lo (R : Fin 256 → Fin 1024 → EReal) (i : Fin 255) (d : Fin 1024) : win R i (lo d) = R i.castSucc d := dif_pos d.isLt
theorem win_hi (R : Fin 256 → Fin 1024 → EReal) (i : Fin 255) (d : Fin 1024) : win R i (hi d) = R i.succ d := by
  unfold win hi
  rw [dif_neg (by show ¬(1024 + d.val < 1024); omega)]
  exact congrArg _ (Fin.ext (show 1024 + d.val - 1024 = d.val by omega))

theorem lo_or_hi (d : Fin 2048) : (∃ e, d = lo e) ∨ ∃ e, d = hi e := by
  by_cases h : d.val < 1024
  · exact Or.inl ⟨⟨d.val, h⟩, rfl⟩
  · exact Or.inr ⟨⟨d.val - 1024, by have := d.isLt; omega⟩, Fin.ext (show d.val = 1024 + (d.val - 1024) by omega)⟩

/-- The gradients of one head in the rows, in the first layer, in the second layer and in the embedding. -/
def g6 (W1 : Fin 2048 → Fin 256 → EReal) (G : Fin 255 → Fin 256 → EReal) (i : Fin 256) (d : Fin 1024) : EReal :=
  ex (fun k => ∑ c, G k c * W1 (lo d) c) i + dn (fun k => ∑ c, G k c * W1 (hi d) c) i
def g7 (R : Fin 256 → Fin 1024 → EReal) (P : Fin 2048 → EReal) (G : Fin 255 → Fin 256 → EReal) (d : Fin 2048) (c : Fin 256) : EReal :=
  ∑ i : Fin 255, (win R i d + P d) * G i c
def g8 (H : Fin 256 → Fin 256 → EReal) (O : Fin 256 → Fin 64 → EReal) (c : Fin 256) (e : Fin 64) : EReal :=
  ∑ i : Fin 256, (H i c * logi (H i c)) * O i e
def g9 (W1 : Fin 2048 → Fin 256 → EReal) (G : Fin 255 → Fin 256 → EReal) (d : Fin 2048) : EReal := ∑ i : Fin 255, ∑ c, G i c * W1 d c

theorem sum_ex (f : Fin 256 → EReal) (u : Fin 255 → EReal) : ∑ i, f i * ex u i = ∑ i : Fin 255, f i.castSucc * u i := by
  rw [Fin.sum_univ_castSucc, ex_last, mul_zero, add_zero]
  exact Finset.sum_congr rfl fun i _ => by rw [ex_cast]
theorem sum_dn (f : Fin 256 → EReal) (u : Fin 255 → EReal) : ∑ i, f i * dn u i = ∑ i : Fin 255, f i.succ * u i := by
  rw [Fin.sum_univ_succ, dn_zero, mul_zero, zero_add]
  exact Finset.sum_congr rfl fun i _ => by rw [dn_succ]
theorem sum_ex_one (u : Fin 255 → EReal) : ∑ i, ex u i = ∑ i, u i := by
  rw [Fin.sum_univ_castSucc, ex_last, add_zero]
  exact Finset.sum_congr rfl fun i _ => ex_cast u i
theorem sum_dn_one (u : Fin 255 → EReal) : ∑ i, dn u i = ∑ i, u i := by
  rw [Fin.sum_univ_succ, dn_zero, zero_add]
  exact Finset.sum_congr rfl fun i _ => dn_succ u i
theorem ex_sum (G : Fin 255 → Fin 256 → EReal) (w : Fin 256 → EReal) (i : Fin 256) : ∑ c, ex (fun k => G k c) i * w c = ex (fun k => ∑ c, G k c * w c) i := by
  unfold ex
  by_cases h : i.val < 255
  · simp only [dif_pos h]
  · simp only [dif_neg h, zero_mul, Finset.sum_const_zero]
theorem dn_sum (G : Fin 255 → Fin 256 → EReal) (w : Fin 256 → EReal) (i : Fin 256) : ∑ c, dn (fun k => G k c) i * w c = dn (fun k => ∑ c, G k c * w c) i := by
  unfold dn
  by_cases h : 1 ≤ i.val
  · simp only [dif_pos h]
  · simp only [dif_neg h, zero_mul, Finset.sum_const_zero]

/-! ## What the body stores, in each of its two cases -/

/-! ## The two halves of an output that is stored in two pieces -/

theorem ld7_lo {e : EltTy} (x : Vec Ideal S2048x256 e) (d : Fin 1024) (c : Fin 256) : View.ld x (Rect.unit (s := S2048x256) ![0, 0] ![1024, 256] inb_S2048x256_S1024x256_0_0) (ix2 d c) = x (ix2 (lo d) c) := by
  refine congrArg x (funext fun a => Fin.ext ?_)
  match a with
  | ⟨0, _⟩ => show 0 + 1 * _ = _; rw [Nat.zero_add, Nat.one_mul]; rfl
  | ⟨1, _⟩ => show 0 + 1 * _ = _; rw [Nat.zero_add, Nat.one_mul]; rfl
theorem ld7_hi {e : EltTy} (x : Vec Ideal S2048x256 e) (d : Fin 1024) (c : Fin 256) : View.ld x (Rect.unit (s := S2048x256) ![1024, 0] ![1024, 256] inb_S2048x256_S1024x256_1024_0) (ix2 d c) = x (ix2 (hi d) c) := by
  refine congrArg x (funext fun a => Fin.ext ?_)
  match a with
  | ⟨0, _⟩ => show 1024 + 1 * _ = _; rw [Nat.one_mul]; rfl
  | ⟨1, _⟩ => show 0 + 1 * _ = _; rw [Nat.one_mul]; exact Nat.zero_add _
theorem canon7_hi (w : Vec Ideal S1024x256 .f32) (L : List (View.Piece (Elt Ideal) S2048x256 .f32)) (d : Fin 1024) (c : Fin 256) : View.canon ((⟨(Rect.unit (s := S2048x256) ![1024, 0] ![1024, 256] inb_S2048x256_S1024x256_1024_0), w⟩ : View.Piece (Elt Ideal) S2048x256 .f32) :: L) (ix2 (hi d) c) = w (ix2 d c) := by
  have e : (Rect.unit (s := S2048x256) ![1024, 0] ![1024, 256] inb_S2048x256_S1024x256_1024_0).emb (ix2 d c : S1024x256.Idx) = (ix2 (hi d) c : S2048x256.Idx) := by
    funext a
    apply Fin.ext
    match a with
    | ⟨0, _⟩ => show 1024 + 1 * _ = _; rw [Nat.one_mul]; rfl
    | ⟨1, _⟩ => show 0 + 1 * _ = _; rw [Nat.one_mul]; exact Nat.zero_add _
  rw [← e]
  exact View.canon_cons_emb _ _ _ _
theorem canon7_skip (p : View.Piece (Elt Ideal) S2048x256 .f32) (hp : p.1 = (Rect.unit (s := S2048x256) ![1024, 0] ![1024, 256] inb_S2048x256_S1024x256_1024_0)) (L : List (View.Piece (Elt Ideal) S2048x256 .f32)) (d : Fin 1024) (c : Fin 256) : View.canon (p :: L) (ix2 (lo d) c) = View.canon L (ix2 (lo d) c) := by
  refine View.canon_cons_of_not_mem p L ?_
  rw [hp, Rect.mem_set_unit]
  intro h
  have := (h 0).1
  have hd := d.isLt
  have : 1024 ≤ d.val := this
  omega
theorem canon7_lo (w : Vec Ideal S1024x256 .f32) (L : List (View.Piece (Elt Ideal) S2048x256 .f32)) (d : Fin 1024) (c : Fin 256) : View.canon ((⟨(Rect.unit (s := S2048x256) ![0, 0] ![1024, 256] inb_S2048x256_S1024x256_0_0), w⟩ : View.Piece (Elt Ideal) S2048x256 .f32) :: L) (ix2 (lo d) c) = w (ix2 d c) := by
  have e : (Rect.unit (s := S2048x256) ![0, 0] ![1024, 256] inb_S2048x256_S1024x256_0_0).emb (ix2 d c : S1024x256.Idx) = (ix2 (lo d) c : S2048x256.Idx) := by
    funext a
    apply Fin.ext
    match a with
    | ⟨0, _⟩ => show 0 + 1 * _ = _; rw [Nat.zero_add, Nat.one_mul]; rfl
    | ⟨1, _⟩ => show 0 + 1 * _ = _; rw [Nat.zero_add, Nat.one_mul]; rfl
  rw [← e]
  exact View.canon_cons_emb _ _ _ _
theorem canon7_not_lo (w : Vec Ideal S1024x256 .f32) (L : List (View.Piece (Elt Ideal) S2048x256 .f32)) (d : Fin 1024) (c : Fin 256) : View.canon ((⟨(Rect.unit (s := S2048x256) ![0, 0] ![1024, 256] inb_S2048x256_S1024x256_0_0), w⟩ : View.Piece (Elt Ideal) S2048x256 .f32) :: L) (ix2 (hi d) c) = View.canon L (ix2 (hi d) c) := by
  refine View.canon_cons_of_not_mem _ L ?_
  show _ ∉ (Rect.unit (s := S2048x256) ![0, 0] ![1024, 256] inb_S2048x256_S1024x256_0_0).set
  rw [Rect.mem_set_unit]
  intro h
  have := (h 0).2
  have : 1024 + d.val < 0 + 1024 := this
  omega
theorem idx7 (y : S1024x256.Idx) : ∃ (d : Fin 1024) (c : Fin 256), y = ix2 d c := by
  exact ⟨y 0, y 1, by funext a; match a with | ⟨0, _⟩ => rfl | ⟨1, _⟩ => rfl⟩
theorem rc7_lo (a : Memref sig .tc .vmem S2048x256 .f32) (w : Vec Ideal S2048x256 .f32) :
    a.view.readCov [(⟨(Rect.unit (s := S2048x256) ![0, 0] ![2048, 256] inb_S2048x256_S2048x256_0_0), w⟩ : View.Piece (Elt Ideal) S2048x256 .f32)] (Rect.unit (s := S2048x256) ![0, 0] ![1024, 256] inb_S2048x256_S1024x256_0_0).toLoadRect = View.ld w (Rect.unit (s := S2048x256) ![0, 0] ![1024, 256] inb_S2048x256_S1024x256_0_0) := by
  rw [View.readCov_eq_canon', canon2]
theorem rc7_hi (a : Memref sig .tc .vmem S2048x256 .f32) (u : Vec Ideal S1024x256 .f32) (w : Vec Ideal S2048x256 .f32) :
    a.view.readCov [(⟨(Rect.unit (s := S2048x256) ![0, 0] ![1024, 256] inb_S2048x256_S1024x256_0_0), u⟩ : View.Piece (Elt Ideal) S2048x256 .f32), ⟨(Rect.unit (s := S2048x256) ![0, 0] ![2048, 256] inb_S2048x256_S2048x256_0_0), w⟩] (Rect.unit (s := S2048x256) ![1024, 0] ![1024, 256] inb_S2048x256_S1024x256_1024_0).toLoadRect = View.ld w (Rect.unit (s := S2048x256) ![1024, 0] ![1024, 256] inb_S2048x256_S1024x256_1024_0) := by
  rw [View.readCov_eq_canon']
  funext y
  obtain ⟨d, c, rfl⟩ := idx7 y
  rw [ld7_hi]
  have e : (Rect.unit (s := S2048x256) ![1024, 0] ![1024, 256] inb_S2048x256_S1024x256_1024_0).toLoadRect.idx (ix2 d c : S1024x256.Idx) = (ix2 (hi d) c : S2048x256.Idx) := by
    funext a
    apply Fin.ext
    match a with
    | ⟨0, _⟩ => show 1024 + 1 * _ = _; rw [Nat.one_mul]; rfl
    | ⟨1, _⟩ => show 0 + 1 * _ = _; rw [Nat.one_mul]; exact Nat.zero_add _
  show View.canon _ ((Rect.unit (s := S2048x256) ![1024, 0] ![1024, 256] inb_S2048x256_S1024x256_1024_0).toLoadRect.idx (ix2 d c : S1024x256.Idx)) = _
  rw [e, canon7_not_lo, canon2]
theorem two7 (u v : Vec Ideal S1024x256 .f32) (L : List (View.Piece (Elt Ideal) S2048x256 .f32)) :
    View.canon ((⟨(Rect.unit (s := S2048x256) ![1024, 0] ![1024, 256] inb_S2048x256_S1024x256_1024_0), u⟩ : View.Piece (Elt Ideal) S2048x256 .f32) :: ⟨(Rect.unit (s := S2048x256) ![0, 0] ![1024, 256] inb_S2048x256_S1024x256_0_0), v⟩ :: L) = View.canon [(⟨(Rect.unit (s := S2048x256) ![1024, 0] ![1024, 256] inb_S2048x256_S1024x256_1024_0), u⟩ : View.Piece (Elt Ideal) S2048x256 .f32), ⟨(Rect.unit (s := S2048x256) ![0, 0] ![1024, 256] inb_S2048x256_S1024x256_0_0), v⟩] := by
  funext y
  obtain ⟨d, c, rfl⟩ : ∃ (d : Fin 2048) (c : Fin 256), y = ix2 d c := by
    exact ⟨y 0, y 1, by funext a; match a with | ⟨0, _⟩ => rfl | ⟨1, _⟩ => rfl⟩
  rcases lo_or_hi d with ⟨e, rfl⟩ | ⟨e, rfl⟩
  · exact ((canon7_skip _ rfl _ e c).trans (canon7_lo v L e c)).trans ((canon7_skip _ rfl _ e c).trans (canon7_lo v [] e c)).symm
  · rw [canon7_hi, canon7_hi]

theorem ld9_lo {e : EltTy} (x : Vec Ideal S1x2048 e) (d : Fin 1024) : View.ld x (Rect.unit (s := S1x2048) ![0, 0] ![1, 1024] inb_S1x2048_S1x1024_0_0) (ix2 0 d) = x (ix2 0 (lo d)) := by
  refine congrArg x (funext fun a => Fin.ext ?_)
  match a with
  | ⟨0, _⟩ => show 0 + 1 * _ = _; rw [Nat.zero_add, Nat.one_mul]; rfl
  | ⟨1, _⟩ => show 0 + 1 * _ = _; rw [Nat.zero_add, Nat.one_mul]; rfl
theorem ld9_hi {e : EltTy} (x : Vec Ideal S1x2048 e) (d : Fin 1024) : View.ld x (Rect.unit (s := S1x2048) ![0, 1024] ![1, 1024] inb_S1x2048_S1x1024_0_1024) (ix2 0 d) = x (ix2 0 (hi d)) := by
  refine congrArg x (funext fun a => Fin.ext ?_)
  match a with
  | ⟨0, _⟩ => show 0 + 1 * _ = _; rw [Nat.one_mul]; exact Nat.zero_add _
  | ⟨1, _⟩ => show 1024 + 1 * _ = _; rw [Nat.one_mul]; rfl
theorem canon9_hi (w : Vec Ideal S1x1024 .f32) (L : List (View.Piece (Elt Ideal) S1x2048 .f32)) (d : Fin 1024) : View.canon ((⟨(Rect.unit (s := S1x2048) ![0, 1024] ![1, 1024] inb_S1x2048_S1x1024_0_1024), w⟩ : View.Piece (Elt Ideal) S1x2048 .f32) :: L) (ix2 0 (hi d)) = w (ix2 0 d) := by
  have e : (Rect.unit (s := S1x2048) ![0, 1024] ![1, 1024] inb_S1x2048_S1x1024_0_1024).emb (ix2 0 d : S1x1024.Idx) = (ix2 0 (hi d) : S1x2048.Idx) := by
    funext a
    apply Fin.ext
    match a with
    | ⟨0, _⟩ => show 0 + 1 * _ = _; rw [Nat.one_mul]; exact Nat.zero_add _
    | ⟨1, _⟩ => show 1024 + 1 * _ = _; rw [Nat.one_mul]; rfl
  rw [← e]
  exact View.canon_cons_emb _ _ _ _
theorem canon9_skip (p : View.Piece (Elt Ideal) S1x2048 .f32) (hp : p.1 = (Rect.unit (s := S1x2048) ![0, 1024] ![1, 1024] inb_S1x2048_S1x1024_0_1024)) (L : List (View.Piece (Elt Ideal) S1x2048 .f32)) (d : Fin 1024) : View.canon (p :: L) (ix2 0 (lo d)) = View.canon L (ix2 0 (lo d)) := by
  refine View.canon_cons_of_not_mem p L ?_
  rw [hp, Rect.mem_set_unit]
  intro h
  have := (h 1).1
  have hd := d.isLt
  have : 1024 ≤ d.val := this
  omega
theorem canon9_lo (w : Vec Ideal S1x1024 .f32) (L : List (View.Piece (Elt Ideal) S1x2048 .f32)) (d : Fin 1024) : View.canon ((⟨(Rect.unit (s := S1x2048) ![0, 0] ![1, 1024] inb_S1x2048_S1x1024_0_0), w⟩ : View.Piece (Elt Ideal) S1x2048 .f32) :: L) (ix2 0 (lo d)) = w (ix2 0 d) := by
  have e : (Rect.unit (s := S1x2048) ![0, 0] ![1, 1024] inb_S1x2048_S1x1024_0_0).emb (ix2 0 d : S1x1024.Idx) = (ix2 0 (lo d) : S1x2048.Idx) := by
    funext a
    apply Fin.ext
    match a with
    | ⟨0, _⟩ => show 0 + 1 * _ = _; rw [Nat.zero_add, Nat.one_mul]; rfl
    | ⟨1, _⟩ => show 0 + 1 * _ = _; rw [Nat.zero_add, Nat.one_mul]; rfl
  rw [← e]
  exact View.canon_cons_emb _ _ _ _
theorem canon9_not_lo (w : Vec Ideal S1x1024 .f32) (L : List (View.Piece (Elt Ideal) S1x2048 .f32)) (d : Fin 1024) : View.canon ((⟨(Rect.unit (s := S1x2048) ![0, 0] ![1, 1024] inb_S1x2048_S1x1024_0_0), w⟩ : View.Piece (Elt Ideal) S1x2048 .f32) :: L) (ix2 0 (hi d)) = View.canon L (ix2 0 (hi d)) := by
  refine View.canon_cons_of_not_mem _ L ?_
  show _ ∉ (Rect.unit (s := S1x2048) ![0, 0] ![1, 1024] inb_S1x2048_S1x1024_0_0).set
  rw [Rect.mem_set_unit]
  intro h
  have := (h 1).2
  have : 1024 + d.val < 0 + 1024 := this
  omega
theorem idx9 (y : S1x1024.Idx) : ∃ (d : Fin 1024), y = ix2 0 d := by
  exact ⟨y 1, by funext a; match a with | ⟨0, _⟩ => exact Subsingleton.elim (α := Fin 1) _ _ | ⟨1, _⟩ => rfl⟩
theorem rc9_lo (a : Memref sig .tc .vmem S1x2048 .f32) (w : Vec Ideal S1x2048 .f32) :
    a.view.readCov [(⟨(Rect.unit (s := S1x2048) ![0, 0] ![1, 2048] inb_S1x2048_S1x2048_0_0), w⟩ : View.Piece (Elt Ideal) S1x2048 .f32)] (Rect.unit (s := S1x2048) ![0, 0] ![1, 1024] inb_S1x2048_S1x1024_0_0).toLoadRect = View.ld w (Rect.unit (s := S1x2048) ![0, 0] ![1, 1024] inb_S1x2048_S1x1024_0_0) := by
  rw [View.readCov_eq_canon', canon2]
theorem rc9_hi (a : Memref sig .tc .vmem S1x2048 .f32) (u : Vec Ideal S1x1024 .f32) (w : Vec Ideal S1x2048 .f32) :
    a.view.readCov [(⟨(Rect.unit (s := S1x2048) ![0, 0] ![1, 1024] inb_S1x2048_S1x1024_0_0), u⟩ : View.Piece (Elt Ideal) S1x2048 .f32), ⟨(Rect.unit (s := S1x2048) ![0, 0] ![1, 2048] inb_S1x2048_S1x2048_0_0), w⟩] (Rect.unit (s := S1x2048) ![0, 1024] ![1, 1024] inb_S1x2048_S1x1024_0_1024).toLoadRect = View.ld w (Rect.unit (s := S1x2048) ![0, 1024] ![1, 1024] inb_S1x2048_S1x1024_0_1024) := by
  rw [View.readCov_eq_canon']
  funext y
  obtain ⟨d, rfl⟩ := idx9 y
  rw [ld9_hi]
  have e : (Rect.unit (s := S1x2048) ![0, 1024] ![1, 1024] inb_S1x2048_S1x1024_0_1024).toLoadRect.idx (ix2 0 d : S1x1024.Idx) = (ix2 0 (hi d) : S1x2048.Idx) := by
    funext a
    apply Fin.ext
    match a with
    | ⟨0, _⟩ => show 0 + 1 * _ = _; rw [Nat.one_mul]; exact Nat.zero_add _
    | ⟨1, _⟩ => show 1024 + 1 * _ = _; rw [Nat.one_mul]; rfl
  show View.canon _ ((Rect.unit (s := S1x2048) ![0, 1024] ![1, 1024] inb_S1x2048_S1x1024_0_1024).toLoadRect.idx (ix2 0 d : S1x1024.Idx)) = _
  rw [e, canon9_not_lo, canon2]
theorem two9 (u v : Vec Ideal S1x1024 .f32) (L : List (View.Piece (Elt Ideal) S1x2048 .f32)) :
    View.canon ((⟨(Rect.unit (s := S1x2048) ![0, 1024] ![1, 1024] inb_S1x2048_S1x1024_0_1024), u⟩ : View.Piece (Elt Ideal) S1x2048 .f32) :: ⟨(Rect.unit (s := S1x2048) ![0, 0] ![1, 1024] inb_S1x2048_S1x1024_0_0), v⟩ :: L) = View.canon [(⟨(Rect.unit (s := S1x2048) ![0, 1024] ![1, 1024] inb_S1x2048_S1x1024_0_1024), u⟩ : View.Piece (Elt Ideal) S1x2048 .f32), ⟨(Rect.unit (s := S1x2048) ![0, 0] ![1, 1024] inb_S1x2048_S1x1024_0_0), v⟩] := by
  funext y
  obtain ⟨d, rfl⟩ : ∃ (d : Fin 2048), y = ix2 0 d := by
    exact ⟨y 1, by funext a; match a with | ⟨0, _⟩ => exact Subsingleton.elim (α := Fin 1) _ _ | ⟨1, _⟩ => rfl⟩
  rcases lo_or_hi d with ⟨e, rfl⟩ | ⟨e, rfl⟩
  · exact ((canon9_skip _ rfl _ e).trans (canon9_lo v L e)).trans ((canon9_skip _ rfl _ e).trans (canon9_lo v [] e)).symm
  · rw [canon9_hi, canon9_hi]

/-! ## What the body computes, at an index -/

/-- The gradient in the gate's argument, from a head's blocks. -/
def bg (x3 : Vec Ideal S256x64 .bf16) (x4 : Vec Ideal S1x256x256 .f32) (x5 : Vec Ideal S1x256x64 .f32) : Fin 255 → Fin 256 → EReal :=
  gg (fun c e => x3 (ix2 c e)) (fun i c => x4 (ix3 0 i c)) (fun i e => x5 (ix3 0 i e))

theorem pay1_apply (v : FVec Ideal S256x1024 .f32) (i : Fin 256) (d : Fin 1024) : k0_pay1 (F := Ideal) v (ix3 0 i d) = v (ix2 i d) := by
  pointwise [k0_pay1]
theorem pay7_apply (x : Vec Ideal S1x256x1024 .f32) (i : Fin 256) (d : Fin 1024) : k0_pay7 (F := Ideal) x (ix2 i d) = x (ix3 0 i d) := by
  pointwise [k0_pay7]
theorem pay8_apply (x : Vec Ideal S1x256x256 .f32) (i : Fin 256) (c : Fin 256) : k0_pay8 (F := Ideal) x (ix2 i c) = x (ix3 0 i c) := by
  pointwise [k0_pay8]
theorem pay9_apply (x : Vec Ideal S1x256x64 .f32) (i : Fin 256) (e : Fin 64) : k0_pay9 (F := Ideal) x (ix2 i e) = x (ix3 0 i e) := by
  pointwise [k0_pay9]
theorem pay10_apply (x : Vec Ideal S1x256x256 .f32) (i : Fin 256) (c : Fin 256) : k0_pay10 (F := Ideal) x (ix2 i c) = logi (x (ix3 0 i c)) := by
  rw [logi_sub, ← pay8_apply x i c]
  unfold k0_pay10
  generalize k0_pay8 (F := Ideal) x = z
  pointwise []
theorem pay11_apply (x4 : Vec Ideal S1x256x256 .f32) (x5 : Vec Ideal S1x256x64 .f32) (v : Vec Ideal S256x64 .f32) (c : Fin 256) (e : Fin 64) :
    k0_pay11 (F := Ideal) x4 x5 v (ix2 c e) = v (ix2 c e) + g8 (fun i c => x4 (ix3 0 i c)) (fun i e => x5 (ix3 0 i e)) c e := by
  unfold g8
  simp only [← pay10_apply]
  simp only [← pay8_apply, ← pay9_apply]
  unfold k0_pay11
  generalize k0_pay8 (F := Ideal) x4 = z
  generalize k0_pay10 (F := Ideal) x4 = y
  generalize k0_pay9 (F := Ideal) x5 = w
  pointwise []
theorem pay12_apply (x5 : Vec Ideal S1x256x64 .f32) (x3 : Vec Ideal S256x64 .bf16) (i c : Fin 256) :
    k0_pay12 (F := Ideal) x5 x3 (ix2 i c) = ∑ e : Fin 64, x5 (ix3 0 i e) * x3 (ix2 c e) := by
  simp only [← pay9_apply]
  unfold k0_pay12
  generalize k0_pay9 (F := Ideal) x5 = w
  pointwise []
theorem pay13_apply (x4 : Vec Ideal S1x256x256 .f32) (i c : Fin 256) :
    k0_pay13 (F := Ideal) x4 (ix2 i c) = logi (x4 (ix3 0 i c)) * (1 + x4 (ix3 0 i c) * (1 - logi (x4 (ix3 0 i c)))) := by
  simp only [← pay10_apply]
  simp only [← pay8_apply]
  unfold k0_pay13
  generalize k0_pay8 (F := Ideal) x4 = z
  generalize k0_pay10 (F := Ideal) x4 = y
  pointwise []

theorem iota_at' (hi : S256x256.Iotas .tc 32 [0]) (p q : Fin 256) : iota .tc S256x256 32 [0] hi (ix2 p q) = BitVec.ofNat 32 p.val := by
  show BitVec.ofNat 32 (0 * 256 + p.val) = _
  rw [Nat.zero_mul, Nat.zero_add]

theorem pay14_raw (a b : FVec Ideal S256x256 .f32) (i c : Fin 256) : k0_pay14 (F := Ideal) a b (ix2 i c) = if i.val < 255 then a (ix2 i c) * b (ix2 i c) else 0 := by
  unfold k0_pay14
  dsimp only
  show Scalar.select (IntOp.cmpi .slt (iota .tc S256x256 32 [0] iota_S256x256_d0_w32 (ix2 i c)) (BitVec.ofNat 32 255)) (a (ix2 i c) * b (ix2 i c)) (Ideal.ofBits .f32 0x00000000#32) = _
  have hi := i.isLt
  rw [iota_at', WordCmp.cmpi_slt_ofNat (by omega) (by omega), Ideal.ofBits_zero_f32]
  by_cases h : i.val < 255
  · rw [if_pos h, decide_eq_true h]
    exact if_pos rfl
  · rw [if_neg h, decide_eq_false h]
    exact if_neg (by decide)

theorem pay14_apply (x3 : Vec Ideal S256x64 .bf16) (x4 : Vec Ideal S1x256x256 .f32) (x5 : Vec Ideal S1x256x64 .f32) (i c : Fin 256) :
    k0_pay14 (F := Ideal) (k0_pay12 x5 x3) (k0_pay13 x4) (ix2 i c) = ex (fun k => bg x3 x4 x5 k c) i := by
  rw [pay14_raw, pay12_apply, pay13_apply]
  unfold ex
  by_cases h : i.val < 255
  · rw [if_pos h, dif_pos h]
    rfl
  · rw [if_neg h, dif_neg h]

theorem pay15_apply (x3 : Vec Ideal S256x64 .bf16) (x4 : Vec Ideal S1x256x256 .f32) (x5 : Vec Ideal S1x256x64 .f32) (i c : Fin 256) :
    k0_pay15 (F := Ideal) (k0_pay12 x5 x3) (k0_pay13 x4) (ix2 i c) = dn (fun k => bg x3 x4 x5 k c) i := by
  have hi := i.isLt
  have key : ∀ j : Fin 256, j.val = (i.val + 255) % 256 →
      k0_pay15 (F := Ideal) (k0_pay12 x5 x3) (k0_pay13 x4) (ix2 i c) = ex (fun k => bg x3 x4 x5 k c) j := fun j hj => by
    rw [← pay14_apply]
    unfold k0_pay15
    refine dynamicRotate_apply _ _ _ rotates_S256x256_d0 _ (ix2 j c) fun b => ?_
    match b with
    | ⟨0, _⟩ => show j.val = (i.val + 256 - (BitVec.ofNat 32 1).toNat % 256) % 256; rw [BitVec.toNat_ofNat, hj]; omega
    | ⟨1, _⟩ => rfl
  by_cases h : 1 ≤ i.val
  · rw [key ⟨i.val - 1, by omega⟩ (by show i.val - 1 = _; omega)]
    unfold dn ex
    rw [dif_pos h, dif_pos (show i.val - 1 < 255 by omega)]
  · rw [key (Fin.last 255) (by show 255 = _; omega), ex_last]
    unfold dn
    rw [dif_neg h]

theorem pay16_raw (v : FVec Ideal S256x1024 .f32) (a b : FVec Ideal S256x256 .f32) (w : Vec Ideal S1024x256 .f32) (p : Vec Ideal S1x1024 .f32) (d : Fin 1024) (c : Fin 256) :
    k0_pay16 (F := Ideal) v a b w p (ix2 d c) = w (ix2 d c) + ∑ i : Fin 256, (v (ix2 i d) + p (ix2 0 d)) * k0_pay14 a b (ix2 i c) := by
  unfold k0_pay16
  generalize k0_pay14 (F := Ideal) a b = z
  pointwise []
theorem pay17_raw (v : FVec Ideal S256x1024 .f32) (a b : FVec Ideal S256x256 .f32) (w : Vec Ideal S1024x256 .f32) (p : Vec Ideal S1x1024 .f32) (d : Fin 1024) (c : Fin 256) :
    k0_pay17 (F := Ideal) v a b w p (ix2 d c) = w (ix2 d c) + ∑ i : Fin 256, (v (ix2 i d) + p (ix2 0 d)) * k0_pay15 a b (ix2 i c) := by
  unfold k0_pay17
  generalize k0_pay15 (F := Ideal) a b = z
  pointwise []
theorem pay18_raw (a b : FVec Ideal S256x256 .f32) (w : Vec Ideal S1024x256 .bf16) (i : Fin 256) (d : Fin 1024) :
    k0_pay18 (F := Ideal) a b w (ix2 i d) = ∑ c : Fin 256, k0_pay14 a b (ix2 i c) * w (ix2 d c) := by
  unfold k0_pay18
  generalize k0_pay14 (F := Ideal) a b = z
  pointwise []
theorem pay19_raw (a b : FVec Ideal S256x256 .f32) (w : Vec Ideal S1024x256 .bf16) (i : Fin 256) (d : Fin 1024) :
    k0_pay19 (F := Ideal) a b w (ix2 i d) = ∑ c : Fin 256, k0_pay15 a b (ix2 i c) * w (ix2 d c) := by
  unfold k0_pay19
  generalize k0_pay15 (F := Ideal) a b = z
  pointwise []
theorem pay20_raw (a b : FVec Ideal S256x256 .f32) (v w : Vec Ideal S1024x256 .bf16) (i : Fin 256) (d : Fin 1024) :
    k0_pay20 (F := Ideal) a b v w (ix2 i d) = k0_pay18 a b v (ix2 i d) + k0_pay19 a b w (ix2 i d) := rfl
theorem pay2_raw (v : FVec Ideal S256x1024 .f32) (w : Vec Ideal S1x1024 .f32) (d : Fin 1024) :
    k0_pay2 (F := Ideal) v w (ix2 0 d) = w (ix2 0 d) + ∑ i : Fin 256, v (ix2 i d) := by
  pointwise [k0_pay2]
theorem pay3_raw (v : FVec Ideal S256x1024 .f32) (w : Vec Ideal S1x1024 .f32) (d : Fin 1024) :
    k0_pay3 (F := Ideal) v w (ix2 0 d) = w (ix2 0 d) + ∑ i : Fin 256, v (ix2 i d) := by
  pointwise [k0_pay3]
theorem pay4_apply (d : Fin 2048) (c : Fin 256) : k0_pay4 (F := Ideal) (ix2 d c) = 0 := by
  pointwise [k0_pay4]
theorem pay5_apply (c : Fin 256) (e : Fin 64) : k0_pay5 (F := Ideal) (ix2 c e) = 0 := by
  pointwise [k0_pay5]
theorem pay6_apply (d : Fin 2048) : k0_pay6 (F := Ideal) (ix2 0 d) = 0 := by
  pointwise [k0_pay6]

/-- What the body leaves in the outputs, from the blocks and from what the accumulated outputs held. -/
@[irreducible] def up6 (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) : Vec Ideal S1x256x1024 .f32 := k0_pay1 (F := Ideal) (k0_pay20 (k0_pay12 x5 x3) (k0_pay13 x4) (View.ld x2 (Rect.unit (s := S2048x256) ![0, 0] ![1024, 256] inb_S2048x256_S1024x256_0_0)) (View.ld x2 (Rect.unit (s := S2048x256) ![1024, 0] ![1024, 256] inb_S2048x256_S1024x256_1024_0)))
@[irreducible] def up7 (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (v : Vec Ideal S2048x256 .f32) : Vec Ideal S2048x256 .f32 :=
  View.canon [(⟨(Rect.unit (s := S2048x256) ![1024, 0] ![1024, 256] inb_S2048x256_S1024x256_1024_0), k0_pay17 (k0_pay7 x0) (k0_pay12 x5 x3) (k0_pay13 x4) (View.ld v (Rect.unit (s := S2048x256) ![1024, 0] ![1024, 256] inb_S2048x256_S1024x256_1024_0)) (View.ld x1 (Rect.unit (s := S1x2048) ![0, 1024] ![1, 1024] inb_S1x2048_S1x1024_0_1024))⟩ : View.Piece (Elt Ideal) S2048x256 .f32), ⟨(Rect.unit (s := S2048x256) ![0, 0] ![1024, 256] inb_S2048x256_S1024x256_0_0), k0_pay16 (k0_pay7 x0) (k0_pay12 x5 x3) (k0_pay13 x4) (View.ld v (Rect.unit (s := S2048x256) ![0, 0] ![1024, 256] inb_S2048x256_S1024x256_0_0)) (View.ld x1 (Rect.unit (s := S1x2048) ![0, 0] ![1, 1024] inb_S1x2048_S1x1024_0_0))⟩]
@[irreducible] def up9 (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (v : Vec Ideal S1x2048 .f32) : Vec Ideal S1x2048 .f32 :=
  View.canon [(⟨(Rect.unit (s := S1x2048) ![0, 1024] ![1, 1024] inb_S1x2048_S1x1024_0_1024), k0_pay3 (k0_pay19 (k0_pay12 x5 x3) (k0_pay13 x4) (View.ld x2 (Rect.unit (s := S2048x256) ![1024, 0] ![1024, 256] inb_S2048x256_S1024x256_1024_0))) (View.ld v (Rect.unit (s := S1x2048) ![0, 1024] ![1, 1024] inb_S1x2048_S1x1024_0_1024))⟩ : View.Piece (Elt Ideal) S1x2048 .f32), ⟨(Rect.unit (s := S1x2048) ![0, 0] ![1, 1024] inb_S1x2048_S1x1024_0_0), k0_pay2 (k0_pay18 (k0_pay12 x5 x3) (k0_pay13 x4) (View.ld x2 (Rect.unit (s := S2048x256) ![0, 0] ![1024, 256] inb_S2048x256_S1024x256_0_0))) (View.ld v (Rect.unit (s := S1x2048) ![0, 0] ![1, 1024] inb_S1x2048_S1x1024_0_0))⟩]

theorem pay18_apply (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (i : Fin 256) (d : Fin 1024) :
    k0_pay18 (F := Ideal) (k0_pay12 x5 x3) (k0_pay13 x4) (View.ld x2 (Rect.unit (s := S2048x256) ![0, 0] ![1024, 256] inb_S2048x256_S1024x256_0_0)) (ix2 i d) = ex (fun k => ∑ c, bg x3 x4 x5 k c * x2 (ix2 (lo d) c)) i := by
  rw [pay18_raw]
  refine (Finset.sum_congr rfl fun c _ => congrArg₂ (· * ·) (pay14_apply x3 x4 x5 i c) (ld7_lo x2 d c)).trans ?_
  exact ex_sum (bg x3 x4 x5) (fun c => x2 (ix2 (lo d) c)) i
theorem pay19_apply (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (i : Fin 256) (d : Fin 1024) :
    k0_pay19 (F := Ideal) (k0_pay12 x5 x3) (k0_pay13 x4) (View.ld x2 (Rect.unit (s := S2048x256) ![1024, 0] ![1024, 256] inb_S2048x256_S1024x256_1024_0)) (ix2 i d) = dn (fun k => ∑ c, bg x3 x4 x5 k c * x2 (ix2 (hi d) c)) i := by
  rw [pay19_raw]
  refine (Finset.sum_congr rfl fun c _ => congrArg₂ (· * ·) (pay15_apply x3 x4 x5 i c) (ld7_hi x2 d c)).trans ?_
  exact dn_sum (bg x3 x4 x5) (fun c => x2 (ix2 (hi d) c)) i

theorem up6_apply (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (i : Fin 256) (d : Fin 1024) : up6 x0 x1 x2 x3 x4 x5 (ix3 0 i d) = g6 (fun d c => x2 (ix2 d c)) (bg x3 x4 x5) i d := by
  unfold up6
  rw [pay1_apply, pay20_raw, pay18_apply x0 x1 x2 x3 x4 x5, pay19_apply x0 x1 x2 x3 x4 x5]
  rfl
theorem up7_apply (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (v : Vec Ideal S2048x256 .f32) (d : Fin 2048) (c : Fin 256) :
    up7 x0 x1 x2 x3 x4 x5 v (ix2 d c) = v (ix2 d c) + g7 (fun i d => x0 (ix3 0 i d)) (fun d => x1 (ix2 0 d)) (bg x3 x4 x5) d c := by
  unfold up7 g7
  rcases lo_or_hi d with ⟨e, rfl⟩ | ⟨e, rfl⟩
  · rw [canon7_skip _ rfl, canon7_lo, pay16_raw, ld7_lo, ld9_lo]
    simp only [pay14_apply, pay7_apply, win_lo]
    exact congrArg _ (sum_ex (fun i => x0 (ix3 0 i e) + x1 (ix2 0 (lo e))) _)
  · rw [canon7_hi, pay17_raw, ld7_hi, ld9_hi]
    simp only [pay15_apply, pay7_apply, win_hi]
    exact congrArg _ (sum_dn (fun i => x0 (ix3 0 i e) + x1 (ix2 0 (hi e))) _)
theorem up9_apply (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32) (v : Vec Ideal S1x2048 .f32) (d : Fin 2048) :
    up9 x0 x1 x2 x3 x4 x5 v (ix2 0 d) = v (ix2 0 d) + g9 (fun d c => x2 (ix2 d c)) (bg x3 x4 x5) d := by
  unfold up9 g9
  rcases lo_or_hi d with ⟨e, rfl⟩ | ⟨e, rfl⟩
  · rw [canon9_skip _ rfl, canon9_lo, pay2_raw, ld9_lo]
    simp only [pay18_apply x0 x1 x2 x3 x4 x5]
    exact congrArg _ (sum_ex_one _)
  · rw [canon9_hi, pay3_raw, ld9_hi]
    simp only [pay19_apply x0 x1 x2 x3 x4 x5]
    exact congrArg _ (sum_dn_one _)

/-! ## What each point stores -/
section
variable (c : Dev nD) (i : grid0.Coords) (arg1 : Memref sig .tc .vmem S1x256x1024 .f32) (harg1 : arg1.IsWhole)
  (arg2 : Memref sig .tc .vmem S1x2048 .f32) (harg2 : arg2.IsWhole)
  (arg3 : Memref sig .tc .vmem S2048x256 .bf16) (harg3 : arg3.IsWhole)
  (arg4 : Memref sig .tc .vmem S256x64 .bf16) (harg4 : arg4.IsWhole)
  (arg5 : Memref sig .tc .vmem S1x256x256 .f32) (harg5 : arg5.IsWhole)
  (arg6 : Memref sig .tc .vmem S1x256x64 .f32) (harg6 : arg6.IsWhole)
  (arg7 : Memref sig .tc .vmem S1x256x1024 .f32) (harg7 : arg7.IsWhole)
  (arg8 : Memref sig .tc .vmem S2048x256 .f32) (harg8 : arg8.IsWhole)
  (arg9 : Memref sig .tc .vmem S256x64 .f32) (harg9 : arg9.IsWhole)
  (arg10 : Memref sig .tc .vmem S1x2048 .f32) (harg10 : arg10.IsWhole)
  (x0 : Vec Ideal S1x256x1024 .f32) (x1 : Vec Ideal S1x2048 .f32) (x2 : Vec Ideal S2048x256 .bf16) (x3 : Vec Ideal S256x64 .bf16) (x4 : Vec Ideal S1x256x256 .f32) (x5 : Vec Ideal S1x256x64 .f32)

set_option maxHeartbeats 1000000 in
theorem out0_A_6_eq (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5 = up6 x0 x1 x2 x3 x4 x5 := by
  unfold out0_A_6
  rw [View.read_writes_eq_canon _ _ _ (cover0_A_6 _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon3, canon2, ld3, ld2]
  unfold up6
  rfl

set_option maxHeartbeats 1000000 in
theorem out0_A_7_eq (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 = up7 x0 x1 x2 x3 x4 x5 (k0_pay4 (F := Ideal)) := by
  unfold out0_A_7
  rw [View.read_writes_eq_canon _ _ _ (cover0_A_7 _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon3, canon2, ld3, ld2]
  unfold up7
  rw [rc7_lo, rc7_hi]
  exact two7 _ _ _

set_option maxHeartbeats 1000000 in
theorem out0_A_8_eq (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 = k0_pay11 x4 x5 (k0_pay5 (F := Ideal)) := by
  unfold out0_A_8
  rw [View.read_writes_eq_canon _ _ _ (cover0_A_8 _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon3, canon2, ld3, ld2]

set_option maxHeartbeats 1000000 in
theorem out0_A_9_eq (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 = up9 x0 x1 x2 x3 x4 x5 (k0_pay6 (F := Ideal)) := by
  unfold out0_A_9
  rw [View.read_writes_eq_canon _ _ _ (cover0_A_9 _ _ _ _ _ _ _ _ _ _ _ _ _ _ _ _ _ _ _ _ _ _ _ _ _ _ _ _ _)]
  unfold kernelRun0_A
  dsimp only
  sl_unfold_words
  simp only [View.readAt_eq_ld, Memref.IsWhole.read_unread, View.readCov_cons_toLoadRect, canon3, canon2, ld3, ld2]
  unfold up9
  rw [rc9_lo, rc9_hi]
  exact two9 _ _ _

set_option maxHeartbeats 1000000 in
theorem out0_B_6_eq (hc0 : ¬cond0_0 i) (xo7 : Vec Ideal S2048x256 .f32) (xo8 : Vec Ideal S256x64 .f32) (xo9 : Vec Ideal S1x2048 .f32) :
    out0_B_6 c i arg1 harg1 arg2 harg2 arg3 harg3 arg4 harg4 arg5 harg5 arg6 harg6 arg7 harg7 arg8 harg8 arg9 harg9 arg10 harg10 hc0 x0 x1 x2 x3 x4 x5 xo7 xo8 xo9 = up6 x0 x1 x2 x3 x4 x5 := by
  unfold out0_B_6
  rw [View.read_writes_eq_canon _ _ _ (cover0_B_6 _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon3, canon2, ld3, ld2]
  unfold up6
  rfl

set_option maxHeartbeats 1000000 in
theorem out0_B_7_eq (hc0 : ¬cond0_0 i) (xo7 : Vec Ideal S2048x256 .f32) (xo8 : Vec Ideal S256x64 .f32) (xo9 : Vec Ideal S1x2048 .f32) :
    out0_B_7 c i arg1 harg1 arg2 harg2 arg3 harg3 arg4 harg4 arg5 harg5 arg6 harg6 arg7 harg7 arg8 harg8 arg9 harg9 arg10 harg10 hc0 x0 x1 x2 x3 x4 x5 xo7 xo8 xo9 = up7 x0 x1 x2 x3 x4 x5 xo7 := by
  unfold out0_B_7
  rw [View.read_writes_eq_canon _ _ _ (cover0_B_7 _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon3, canon2, ld3, ld2]
  unfold up7
  rfl

set_option maxHeartbeats 1000000 in
theorem out0_B_8_eq (hc0 : ¬cond0_0 i) (xo7 : Vec Ideal S2048x256 .f32) (xo8 : Vec Ideal S256x64 .f32) (xo9 : Vec Ideal S1x2048 .f32) :
    out0_B_8 c i arg1 harg1 arg2 harg2 arg3 harg3 arg4 harg4 arg5 harg5 arg6 harg6 arg7 harg7 arg8 harg8 arg9 harg9 arg10 harg10 hc0 x0 x1 x2 x3 x4 x5 xo7 xo8 xo9 = k0_pay11 x4 x5 xo8 := by
  unfold out0_B_8
  rw [View.read_writes_eq_canon _ _ _ (cover0_B_8 _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon3, canon2, ld3, ld2]

set_option maxHeartbeats 1000000 in
theorem out0_B_9_eq (hc0 : ¬cond0_0 i) (xo7 : Vec Ideal S2048x256 .f32) (xo8 : Vec Ideal S256x64 .f32) (xo9 : Vec Ideal S1x2048 .f32) :
    out0_B_9 c i arg1 harg1 arg2 harg2 arg3 harg3 arg4 harg4 arg5 harg5 arg6 harg6 arg7 harg7 arg8 harg8 arg9 harg9 arg10 harg10 hc0 x0 x1 x2 x3 x4 x5 xo7 xo8 xo9 = up9 x0 x1 x2 x3 x4 x5 xo9 := by
  unfold out0_B_9
  rw [View.read_writes_eq_canon _ _ _ (cover0_B_9 _ _ _ _ _ _ _ _ _ _ _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon3, canon2, ld3, ld2]
  unfold up9
  rfl

end

/-! ## The blocks of the arrays -/

/-- The head that point `b` works on. -/
def hd (b : ℕ) : Fin 4 := ⟨b % 4, Nat.mod_lt _ (by decide)⟩
theorem t_lt (t : Fin cfg0.N) : t.val < 4 := lt_of_lt_of_eq t.isLt N_0
theorem idx0 : ∀ t : Fin grid0.N, win0_0.index t 0 = t.val ∧ win0_0.index t 1 = 0 ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 ∧ win0_4.index t 2 = 0 := by decide +kernel
theorem idx5 : ∀ t : Fin grid0.N, win0_5.index t 0 = t.val ∧ win0_5.index t 1 = 0 ∧ win0_5.index t 2 = 0 := by decide +kernel
theorem idx6 : ∀ t : Fin grid0.N, win0_6.index t 0 = t.val ∧ win0_6.index t 1 = 0 ∧ win0_6.index t 2 = 0 := by decide +kernel
theorem idxw7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idxw9 : ∀ t : Fin grid0.N, win0_9.index t 0 = 0 ∧ win0_9.index t 1 = 0 := by decide +kernel
theorem rd0 (X : Vec Ideal S4x256x1024 .f32) (t : Fin cfg0.N) (p : Fin 256) (q : Fin 1024) :
    ((cfg0.win 0).blk t).view.read (Elt Ideal) X (ix3 0 p q) = X (ix3 (hd t.val) p q) := by
  have ht := t_lt t
  rw [View.read_apply]
  refine congrArg X ?_
  funext a
  apply Fin.ext
  match a with
  | ⟨0, _⟩ => show win0_0.index t 0 * 1 + 1 * 0 = t.val % 4; rw [(idx0 t).1]; omega
  | ⟨1, _⟩ => show win0_0.index t 1 * 256 + 1 * p.val = p.val; rw [(idx0 t).2.1]; omega
  | ⟨2, _⟩ => show win0_0.index t 2 * 1024 + 1 * q.val = q.val; rw [(idx0 t).2.2]; omega
theorem rd1 (X : Vec Ideal S1x2048 .f32) (t : Fin cfg0.N) (p : Fin 1) (q : Fin 2048) :
    ((cfg0.win 1).blk t).view.read (Elt Ideal) X (ix2 p q) = X (ix2 p q) := by
  rw [View.read_apply]
  refine congrArg X ?_
  funext a
  apply Fin.ext
  match a with
  | ⟨0, _⟩ => show win0_1.index t 0 * 1 + 1 * p.val = p.val; rw [(idx1 t).1]; omega
  | ⟨1, _⟩ => show win0_1.index t 1 * 2048 + 1 * q.val = q.val; rw [(idx1 t).2]; omega
theorem rd2 (X : Vec Ideal S2048x256 .bf16) (t : Fin cfg0.N) (p : Fin 2048) (q : Fin 256) :
    ((cfg0.win 2).blk t).view.read (Elt Ideal) X (ix2 p q) = X (ix2 p q) := by
  rw [View.read_apply]
  refine congrArg X ?_
  funext a
  apply Fin.ext
  match a with
  | ⟨0, _⟩ => show win0_2.index t 0 * 2048 + 1 * p.val = p.val; rw [(idx2 t).1]; omega
  | ⟨1, _⟩ => show win0_2.index t 1 * 256 + 1 * q.val = q.val; rw [(idx2 t).2]; omega
theorem rd3 (X : Vec Ideal S256x64 .bf16) (t : Fin cfg0.N) (p : Fin 256) (q : Fin 64) :
    ((cfg0.win 3).blk t).view.read (Elt Ideal) X (ix2 p q) = X (ix2 p q) := by
  rw [View.read_apply]
  refine congrArg X ?_
  funext a
  apply Fin.ext
  match a with
  | ⟨0, _⟩ => show win0_3.index t 0 * 256 + 1 * p.val = p.val; rw [(idx3 t).1]; omega
  | ⟨1, _⟩ => show win0_3.index t 1 * 64 + 1 * q.val = q.val; rw [(idx3 t).2]; omega
theorem rd4 (X : Vec Ideal S4x256x256 .f32) (t : Fin cfg0.N) (p : Fin 256) (q : Fin 256) :
    ((cfg0.win 4).blk t).view.read (Elt Ideal) X (ix3 0 p q) = X (ix3 (hd t.val) p q) := by
  have ht := t_lt t
  rw [View.read_apply]
  refine congrArg X ?_
  funext a
  apply Fin.ext
  match a with
  | ⟨0, _⟩ => show win0_4.index t 0 * 1 + 1 * 0 = t.val % 4; rw [(idx4 t).1]; omega
  | ⟨1, _⟩ => show win0_4.index t 1 * 256 + 1 * p.val = p.val; rw [(idx4 t).2.1]; omega
  | ⟨2, _⟩ => show win0_4.index t 2 * 256 + 1 * q.val = q.val; rw [(idx4 t).2.2]; omega
theorem rd5 (X : Vec Ideal S4x256x64 .f32) (t : Fin cfg0.N) (p : Fin 256) (q : Fin 64) :
    ((cfg0.win 5).blk t).view.read (Elt Ideal) X (ix3 0 p q) = X (ix3 (hd t.val) p q) := by
  have ht := t_lt t
  rw [View.read_apply]
  refine congrArg X ?_
  funext a
  apply Fin.ext
  match a with
  | ⟨0, _⟩ => show win0_5.index t 0 * 1 + 1 * 0 = t.val % 4; rw [(idx5 t).1]; omega
  | ⟨1, _⟩ => show win0_5.index t 1 * 256 + 1 * p.val = p.val; rw [(idx5 t).2.1]; omega
  | ⟨2, _⟩ => show win0_5.index t 2 * 64 + 1 * q.val = q.val; rw [(idx5 t).2.2]; omega

/-- The gradient in the gate's argument, of head `h`. -/
def GF (X3 : Vec Ideal S256x64 .bf16) (H : Vec Ideal S4x256x256 .f32) (O : Vec Ideal S4x256x64 .f32) (h : Fin 4) : Fin 255 → Fin 256 → EReal :=
  gg (fun c e => X3 (ix2 c e)) (fun i c => H (ix3 h i c)) (fun i e => O (ix3 h i e))

/-- The gradients of head `h`, from the arrays. -/
def h6 (X2 : Vec Ideal S2048x256 .bf16) (X3 : Vec Ideal S256x64 .bf16) (H : Vec Ideal S4x256x256 .f32) (O : Vec Ideal S4x256x64 .f32) (h : Fin 4) (i : Fin 256) (d : Fin 1024) : EReal :=
  g6 (fun d c => X2 (ix2 d c)) (GF X3 H O h) i d
def h7 (X0 : Vec Ideal S4x256x1024 .f32) (X1 : Vec Ideal S1x2048 .f32) (X3 : Vec Ideal S256x64 .bf16) (H : Vec Ideal S4x256x256 .f32) (O : Vec Ideal S4x256x64 .f32) (h : Fin 4) (d : Fin 2048) (c : Fin 256) : EReal :=
  g7 (fun i d => X0 (ix3 h i d)) (fun d => X1 (ix2 0 d)) (GF X3 H O h) d c
def h8 (H : Vec Ideal S4x256x256 .f32) (O : Vec Ideal S4x256x64 .f32) (h : Fin 4) (c : Fin 256) (e : Fin 64) : EReal :=
  g8 (fun i c => H (ix3 h i c)) (fun i e => O (ix3 h i e)) c e
def h9 (X2 : Vec Ideal S2048x256 .bf16) (X3 : Vec Ideal S256x64 .bf16) (H : Vec Ideal S4x256x256 .f32) (O : Vec Ideal S4x256x64 .f32) (h : Fin 4) (d : Fin 2048) : EReal :=
  g9 (fun d c => X2 (ix2 d c)) (GF X3 H O h) d

/-- The sum over the points is the sum over the heads. -/
theorem sum_heads (f : Fin 4 → EReal) : ∑ b ∈ Finset.range 4, f (hd b) = ∑ h, f h := by
  rw [Finset.sum_range]
  exact Finset.sum_congr rfl fun h _ => congrArg f (Fin.ext (Nat.mod_eq_of_lt h.isLt))

variable (m : (ℓ : Loc nD τ sig) → Buf (Elt Ideal) ℓ) (c : Dev nD)

/-- The saved argument of the gate. -/
@[irreducible] def H0 : Vec Ideal S4x256x256 .f32 := V m c main_v8
theorem H0_eq : H0 m c = V m c main_v8 := by
  unfold H0
  rfl

theorem fn0 (t : Fin cfg0.N) : (fun (i : Fin 256) (d : Fin 1024) => (iblk m c 0 t : Vec Ideal S1x256x1024 .f32) (ix3 0 i d)) = fun i d => V m c main_arg0 (ix3 (hd t.val) i d) :=
  funext fun i => funext fun d => rd0 (V m c main_arg0) t i d
theorem fn1 (t : Fin cfg0.N) : (fun (d : Fin 2048) => (iblk m c 1 t : Vec Ideal S1x2048 .f32) (ix2 0 d)) = fun d => V m c main_arg1 (ix2 0 d) :=
  funext fun d => rd1 (V m c main_arg1) t 0 d
theorem fn2 (t : Fin cfg0.N) : (fun (d : Fin 2048) (k : Fin 256) => (iblk m c 2 t : Vec Ideal S2048x256 .bf16) (ix2 d k)) = fun d k => V m c main_arg2 (ix2 d k) :=
  funext fun d => funext fun k => rd2 (V m c main_arg2) t d k
theorem fn3 (t : Fin cfg0.N) : (fun (k : Fin 256) (e : Fin 64) => (iblk m c 3 t : Vec Ideal S256x64 .bf16) (ix2 k e)) = fun k e => V m c main_arg3 (ix2 k e) :=
  funext fun k => funext fun e => rd3 (V m c main_arg3) t k e
theorem fn4 (t : Fin cfg0.N) : (fun (i k : Fin 256) => (iblk m c 4 t : Vec Ideal S1x256x256 .f32) (ix3 0 i k)) = fun i k => H0 m c (ix3 (hd t.val) i k) :=
  funext fun i => funext fun k => (rd4 (V m c main_v8) t i k).trans (congrFun (H0_eq m c).symm _)
theorem fn5 (t : Fin cfg0.N) : (fun (i : Fin 256) (e : Fin 64) => (iblk m c 5 t : Vec Ideal S1x256x64 .f32) (ix3 0 i e)) = fun i e => V m c main_arg4 (ix3 (hd t.val) i e) :=
  funext fun i => funext fun e => rd5 (V m c main_arg4) t i e

theorem bg_eq (t : Fin cfg0.N) : bg (iblk m c 3 t) (iblk m c 4 t) (iblk m c 5 t) = GF (V m c main_arg3) (H0 m c) (V m c main_arg4) (hd t.val) := by
  unfold bg GF
  rw [fn3, fn4, fn5]

theorem blk6_eq (t : Fin cfg0.N) (i : Fin 256) (d : Fin 1024) :
    up6 (iblk m c 0 t) (iblk m c 1 t) (iblk m c 2 t) (iblk m c 3 t) (iblk m c 4 t) (iblk m c 5 t) (ix3 0 i d)
      = h6 (V m c main_arg2) (V m c main_arg3) (H0 m c) (V m c main_arg4) (hd t.val) i d := by
  refine (up6_apply (iblk m c 0 t) (iblk m c 1 t) (iblk m c 2 t) (iblk m c 3 t) (iblk m c 4 t) (iblk m c 5 t) i d).trans ?_
  unfold h6
  rw [bg_eq, fn2]
theorem step7_eq (t : Fin cfg0.N) (v : Vec Ideal S2048x256 .f32) (d : Fin 2048) (k : Fin 256) :
    up7 (iblk m c 0 t) (iblk m c 1 t) (iblk m c 2 t) (iblk m c 3 t) (iblk m c 4 t) (iblk m c 5 t) v (ix2 d k)
      = v (ix2 d k) + h7 (V m c main_arg0) (V m c main_arg1) (V m c main_arg3) (H0 m c) (V m c main_arg4) (hd t.val) d k := by
  refine (up7_apply (iblk m c 0 t) (iblk m c 1 t) (iblk m c 2 t) (iblk m c 3 t) (iblk m c 4 t) (iblk m c 5 t) v d k).trans ?_
  unfold h7
  rw [bg_eq, fn0, fn1]
theorem step8_eq (t : Fin cfg0.N) (v : Vec Ideal S256x64 .f32) (k : Fin 256) (e : Fin 64) :
    k0_pay11 (iblk m c 4 t) (iblk m c 5 t) v (ix2 k e) = v (ix2 k e) + h8 (H0 m c) (V m c main_arg4) (hd t.val) k e := by
  refine (pay11_apply (iblk m c 4 t) (iblk m c 5 t) v k e).trans ?_
  unfold h8
  rw [fn4, fn5]
theorem step9_eq (t : Fin cfg0.N) (v : Vec Ideal S1x2048 .f32) (d : Fin 2048) :
    up9 (iblk m c 0 t) (iblk m c 1 t) (iblk m c 2 t) (iblk m c 3 t) (iblk m c 4 t) (iblk m c 5 t) v (ix2 0 d)
      = v (ix2 0 d) + h9 (V m c main_arg2) (V m c main_arg3) (H0 m c) (V m c main_arg4) (hd t.val) d := by
  refine (up9_apply (iblk m c 0 t) (iblk m c 1 t) (iblk m c 2 t) (iblk m c 3 t) (iblk m c 4 t) (iblk m c 5 t) v d).trans ?_
  unfold h9
  rw [bg_eq, fn2]

theorem out6_eq (t : Fin cfg0.N) : (outsAt0 m c t.val t.isLt).1 = up6 (iblk m c 0 t) (iblk m c 1 t) (iblk m c 2 t) (iblk m c 3 t) (iblk m c 4 t) (iblk m c 5 t) := by
  by_cases h : t.val % 4 = 0
  · rw [outsAt0_A m c t h]; dsimp only; rw [out0_A_6_eq]
  · rw [outsAt0_B m c t h]; dsimp only; rw [out0_B_6_eq]

/-- The running sums after a point: the heads visited so far. -/
theorem acc_eq : ∀ (n : ℕ) (hn : n < cfg0.N), (∀ (d : Fin 2048) (k : Fin 256), (outsAt0 m c n hn).2.1 (ix2 d k) = ∑ b ∈ Finset.range (n + 1), h7 (V m c main_arg0) (V m c main_arg1) (V m c main_arg3) (H0 m c) (V m c main_arg4) (hd b) d k) ∧
    (∀ (k : Fin 256) (e : Fin 64), (outsAt0 m c n hn).2.2.1 (ix2 k e) = ∑ b ∈ Finset.range (n + 1), h8 (H0 m c) (V m c main_arg4) (hd b) k e) ∧
    (∀ (d : Fin 2048), (outsAt0 m c n hn).2.2.2 (ix2 0 d) = ∑ b ∈ Finset.range (n + 1), h9 (V m c main_arg2) (V m c main_arg3) (H0 m c) (V m c main_arg4) (hd b) d) := by
  intro n
  induction n with
  | zero =>
    intro hn
    have e := outsAt0_A m c ⟨0, hn⟩ rfl
    rw [out0_A_7_eq, out0_A_8_eq, out0_A_9_eq] at e
    rw [show outsAt0 m c 0 hn = _ from e]
    dsimp only
    refine ⟨fun d k => (step7_eq m c ⟨0, hn⟩ _ d k).trans ?_, fun k e => (step8_eq m c ⟨0, hn⟩ _ k e).trans ?_, fun d => (step9_eq m c ⟨0, hn⟩ _ d).trans ?_⟩
    · rw [pay4_apply, zero_add, Finset.sum_range_one]
    · rw [pay5_apply, zero_add, Finset.sum_range_one]
    · rw [pay6_apply, zero_add, Finset.sum_range_one]
  | succ n ih =>
    intro hn
    have hN := t_lt ⟨n + 1, hn⟩
    have hv : (⟨n + 1, hn⟩ : Fin cfg0.N).val = n + 1 := rfl
    have e := outsAt0_B m c ⟨n + 1, hn⟩ (by rw [hv] at hN ⊢; omega)
    rw [out0_B_7_eq, out0_B_8_eq, out0_B_9_eq] at e
    rw [show outsAt0 m c (n + 1) hn = _ from e]
    dsimp only
    have hi := ih (Nat.lt_of_succ_lt hn)
    refine ⟨fun d k => (step7_eq m c ⟨n + 1, hn⟩ _ d k).trans ?_, fun k e => (step8_eq m c ⟨n + 1, hn⟩ _ k e).trans ?_, fun d => (step9_eq m c ⟨n + 1, hn⟩ _ d).trans ?_⟩
    · rw [Finset.sum_range_succ _ (n + 1)]; exact congrArg (· + _) (hi.1 d k)
    · rw [Finset.sum_range_succ _ (n + 1)]; exact congrArg (· + _) (hi.2.1 k e)
    · rw [Finset.sum_range_succ _ (n + 1)]; exact congrArg (· + _) (hi.2.2 d)

/-- What the grid leaves in output 6. -/
@[irreducible] def full6 : Vec Ideal S4x256x1024 .f32 := fun y => h6 (V m c main_arg2) (V m c main_arg3) (H0 m c) (V m c main_arg4) (y 0) (y 1) (y 2)
theorem full6_eq : full6 m c = fun y => h6 (V m c main_arg2) (V m c main_arg3) (H0 m c) (V m c main_arg4) (y 0) (y 1) (y 2) := by
  unfold full6
  rfl

theorem final6 : (dats m 0 c).arrAt 6 cfg0.N = full6 m c := by
  refine (dats m 0 c).arrAt_eq_of_cover 6 _ ?_ ?_
  · intro t _
    rw [Value.flushed6]
    funext y
    obtain ⟨p, q, rfl⟩ : ∃ (p : Fin 256) (q : Fin 1024), y = (ix3 0 p q : S1x256x1024.Idx) := ⟨y 1, y 2, by funext a; match a with | ⟨0, _⟩ => exact Subsingleton.elim (α := Fin 1) _ _ | ⟨1, _⟩ => rfl | ⟨2, _⟩ => rfl⟩
    rw [View.read_apply, out6_eq]
    refine (blk6_eq m c t p q).trans ?_
    have htl := t_lt t
    have e : (((cfg0.win 6).blk t).view.emb (ix3 0 p q : S1x256x1024.Idx) : S4x256x1024.Idx) = ix3 (hd t.val) p q := by
      funext a
      apply Fin.ext
      match a with
      | ⟨0, _⟩ => show win0_6.index t 0 * 1 + 1 * 0 = t.val % 4; rw [(idx6 t).1]; omega
      | ⟨1, _⟩ => show win0_6.index t 1 * 256 + 1 * p.val = p.val; rw [(idx6 t).2.1]; omega
      | ⟨2, _⟩ => show win0_6.index t 2 * 1024 + 1 * q.val = q.val; rw [(idx6 t).2.2]; omega
    exact ((congrArg (full6 m c) e).trans (congrFun (full6_eq m c) _)).symm
  · intro i
    have h0 : (i 0).val < 4 := (i 0).isLt
    have h1 : (i 1).val < 256 := (i 1).isLt
    have h2 : (i 2).val < 1024 := (i 2).isLt
    refine ⟨⟨(i 0).val, lt_of_lt_of_eq h0 N_0.symm⟩, flush0_6 _, ?_⟩
    generalize ht : (⟨(i 0).val, _⟩ : Fin cfg0.N) = t
    have tv : t.val = (i 0).val := by rw [← ht]
    have hi := idx6 t
    show i ∈ ((View.whole main_v9_0).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 256 ≤ (i 1).val ∧ (i 1).val < win0_6.index t 1 * 256 + 256; rw [hi.2.1]; omega
    | ⟨2, _⟩ => show win0_6.index t 2 * 1024 ≤ (i 2).val ∧ (i 2).val < win0_6.index t 2 * 1024 + 1024; rw [hi.2.2]; omega

/-- What the grid leaves in output 7. -/
@[irreducible] def full7 : Vec Ideal S2048x256 .f32 := fun y => ∑ h, h7 (V m c main_arg0) (V m c main_arg1) (V m c main_arg3) (H0 m c) (V m c main_arg4) h (y 0) (y 1)
theorem full7_eq : full7 m c = fun y => ∑ h, h7 (V m c main_arg0) (V m c main_arg1) (V m c main_arg3) (H0 m c) (V m c main_arg4) h (y 0) (y 1) := by
  unfold full7
  rfl

theorem final7 : (dats m 0 c).arrAt 7 cfg0.N = full7 m c := by
  refine (dats m 0 c).arrAt_eq_of_cover 7 _ ?_ ?_
  · intro t hf
    have ht : t.val % 4 = 3 := (flush0_7 t).mp hf
    have htl := t_lt t
    rw [Value.flushed7]
    funext y
    obtain ⟨d, k, rfl⟩ : ∃ (d : Fin 2048) (k : Fin 256), y = (ix2 d k : S2048x256.Idx) := ⟨y 0, y 1, by funext a; match a with | ⟨0, _⟩ => rfl | ⟨1, _⟩ => rfl⟩
    rw [View.read_apply]
    refine ((acc_eq m c t.val t.isLt).1 d k).trans ?_
    rw [show t.val + 1 = 4 by omega, sum_heads (fun h => h7 (V m c main_arg0) (V m c main_arg1) (V m c main_arg3) (H0 m c) (V m c main_arg4) h d k)]
    have e : (((cfg0.win 7).blk t).view.emb (ix2 d k : S2048x256.Idx) : S2048x256.Idx) = ix2 d k := by
      funext a
      apply Fin.ext
      match a with
      | ⟨0, _⟩ => show win0_7.index t 0 * 2048 + 1 * d.val = d.val; rw [(idxw7 t).1]; omega
      | ⟨1, _⟩ => show win0_7.index t 1 * 256 + 1 * k.val = k.val; rw [(idxw7 t).2]; omega
    exact ((congrArg (full7 m c) e).trans (congrFun (full7_eq m c) _)).symm
  · intro i
    have h0 : (i 0).val < 2048 := (i 0).isLt
    have h1 : (i 1).val < 256 := (i 1).isLt
    obtain ⟨t, tv⟩ : ∃ t : Fin cfg0.N, t.val = 3 := ⟨⟨3, lt_of_lt_of_eq (by omega : _ < 4) N_0.symm⟩, rfl⟩
    refine ⟨t, (flush0_7 t).mpr (by rw [tv]), ?_⟩
    have hi := idxw7 t
    show i ∈ ((View.whole main_v9_1).slice (win0_7.rect t)).set
    rw [View.set_slice_whole, Rect.mem_set_unit]
    intro a
    match a with
    | ⟨0, _⟩ => show win0_7.index t 0 * 2048 ≤ (i 0).val ∧ (i 0).val < win0_7.index t 0 * 2048 + 2048; rw [hi.1]; omega
    | ⟨1, _⟩ => show win0_7.index t 1 * 256 ≤ (i 1).val ∧ (i 1).val < win0_7.index t 1 * 256 + 256; rw [hi.2]; omega

/-- What the grid leaves in output 8. -/
@[irreducible] def full8 : Vec Ideal S256x64 .f32 := fun y => ∑ h, h8 (H0 m c) (V m c main_arg4) h (y 0) (y 1)
theorem full8_eq : full8 m c = fun y => ∑ h, h8 (H0 m c) (V m c main_arg4) h (y 0) (y 1) := by
  unfold full8
  rfl

theorem final8 : (dats m 0 c).arrAt 8 cfg0.N = full8 m c := by
  refine (dats m 0 c).arrAt_eq_of_cover 8 _ ?_ ?_
  · intro t hf
    have ht : t.val % 4 = 3 := (flush0_8 t).mp hf
    have htl := t_lt t
    rw [Value.flushed8]
    funext y
    obtain ⟨k, e, rfl⟩ : ∃ (k : Fin 256) (e : Fin 64), y = (ix2 k e : S256x64.Idx) := ⟨y 0, y 1, by funext a; match a with | ⟨0, _⟩ => rfl | ⟨1, _⟩ => rfl⟩
    rw [View.read_apply]
    refine ((acc_eq m c t.val t.isLt).2.1 k e).trans ?_
    rw [show t.val + 1 = 4 by omega, sum_heads (fun h => h8 (H0 m c) (V m c main_arg4) h k e)]
    have e : (((cfg0.win 8).blk t).view.emb (ix2 k e : S256x64.Idx) : S256x64.Idx) = ix2 k e := by
      funext a
      apply Fin.ext
      match a with
      | ⟨0, _⟩ => show win0_8.index t 0 * 256 + 1 * k.val = k.val; rw [(idx8 t).1]; omega
      | ⟨1, _⟩ => show win0_8.index t 1 * 64 + 1 * e.val = e.val; rw [(idx8 t).2]; omega
    exact ((congrArg (full8 m c) e).trans (congrFun (full8_eq m c) _)).symm
  · intro i
    have h0 : (i 0).val < 256 := (i 0).isLt
    have h1 : (i 1).val < 64 := (i 1).isLt
    obtain ⟨t, tv⟩ : ∃ t : Fin cfg0.N, t.val = 3 := ⟨⟨3, lt_of_lt_of_eq (by omega : _ < 4) N_0.symm⟩, rfl⟩
    refine ⟨t, (flush0_8 t).mpr (by rw [tv]), ?_⟩
    have hi := idx8 t
    show i ∈ ((View.whole main_v9_2).slice (win0_8.rect t)).set
    rw [View.set_slice_whole, Rect.mem_set_unit]
    intro a
    match a with
    | ⟨0, _⟩ => show win0_8.index t 0 * 256 ≤ (i 0).val ∧ (i 0).val < win0_8.index t 0 * 256 + 256; rw [hi.1]; omega
    | ⟨1, _⟩ => show win0_8.index t 1 * 64 ≤ (i 1).val ∧ (i 1).val < win0_8.index t 1 * 64 + 64; rw [hi.2]; omega

/-- What the grid leaves in output 9. -/
@[irreducible] def full9 : Vec Ideal S1x2048 .f32 := fun y => ∑ h, h9 (V m c main_arg2) (V m c main_arg3) (H0 m c) (V m c main_arg4) h (y 1)
theorem full9_eq : full9 m c = fun y => ∑ h, h9 (V m c main_arg2) (V m c main_arg3) (H0 m c) (V m c main_arg4) h (y 1) := by
  unfold full9
  rfl

theorem final9 : (dats m 0 c).arrAt 9 cfg0.N = full9 m c := by
  refine (dats m 0 c).arrAt_eq_of_cover 9 _ ?_ ?_
  · intro t hf
    have ht : t.val % 4 = 3 := (flush0_9 t).mp hf
    have htl := t_lt t
    rw [Value.flushed9]
    funext y
    obtain ⟨d, rfl⟩ : ∃ (d : Fin 2048), y = (ix2 0 d : S1x2048.Idx) := ⟨y 1, by funext a; match a with | ⟨0, _⟩ => exact Subsingleton.elim (α := Fin 1) _ _ | ⟨1, _⟩ => rfl⟩
    rw [View.read_apply]
    refine ((acc_eq m c t.val t.isLt).2.2 d).trans ?_
    rw [show t.val + 1 = 4 by omega, sum_heads (fun h => h9 (V m c main_arg2) (V m c main_arg3) (H0 m c) (V m c main_arg4) h d)]
    have e : (((cfg0.win 9).blk t).view.emb (ix2 0 d : S1x2048.Idx) : S1x2048.Idx) = ix2 0 d := by
      funext a
      apply Fin.ext
      match a with
      | ⟨0, _⟩ => show win0_9.index t 0 * 1 + 1 * 0 = 0; rw [(idxw9 t).1]
      | ⟨1, _⟩ => show win0_9.index t 1 * 2048 + 1 * d.val = d.val; rw [(idxw9 t).2]; omega
    exact ((congrArg (full9 m c) e).trans (congrFun (full9_eq m c) _)).symm
  · intro i
    have h0 : (i 0).val < 1 := (i 0).isLt
    have h1 : (i 1).val < 2048 := (i 1).isLt
    obtain ⟨t, tv⟩ : ∃ t : Fin cfg0.N, t.val = 3 := ⟨⟨3, lt_of_lt_of_eq (by omega : _ < 4) N_0.symm⟩, rfl⟩
    refine ⟨t, (flush0_9 t).mpr (by rw [tv]), ?_⟩
    have hi := idxw9 t
    show i ∈ ((View.whole main_v9_3).slice (win0_9.rect t)).set
    rw [View.set_slice_whole, Rect.mem_set_unit]
    intro a
    match a with
    | ⟨0, _⟩ => show win0_9.index t 0 * 1 ≤ (i 0).val ∧ (i 0).val < win0_9.index t 0 * 1 + 1; rw [hi.1]; omega
    | ⟨1, _⟩ => show win0_9.index t 1 * 2048 ≤ (i 1).val ∧ (i 1).val < win0_9.index t 1 * 2048 + 2048; rw [hi.2]; omega

/-! ## The precondition: the output's gradient and the second layer's weights hold reals -/

theorem reals (x0 : Vec Ideal S4x256x1024 .f32) (x1 : Vec Ideal S1x2048 .f32) (x2 : Vec Ideal S2048x256 .bf16) (x3 : Vec Ideal S256x64 .bf16) (x4 : Vec Ideal S4x256x64 .f32)
    (H : Cert.Pre_finite19.fn (F := Ideal) x0 x1 x2 x3 x4 = fun _ => 1#1) :
    (∀ i, ∃ r : ℝ, x4 i = (r : EReal)) ∧ ∀ i, ∃ r : ℝ, x3 i = (r : EReal) := by
  have H0 := congrFun H ix0
  unfold Cert.Pre_finite19.fn at H0
  change IntOp.andi _ _ = 1#1 at H0
  obtain ⟨r0, r1⟩ := IntOp.andi_eq_one.1 H0
  exact ⟨fun i => all_real _ _ _ _ _ r0 i, fun i => all_real _ _ _ _ _ r1 i⟩

/-! ## The reference at an index -/

section
open Cert.Reference19Ideal.Read

/-- A sum over the first two axes. -/
theorem red01 {n0 n1 n2 : ℕ} (h : (⟨3, ![n0, n1, n2]⟩ : Shape).ReducesTo [0, 1] ⟨1, ![n2]⟩) (x : (⟨3, ![n0, n1, n2]⟩ : Shape).Idx → EReal) (z : EReal) (d : Fin n2) :
    Ideal.hostReduceAdd h x z (ix1 d) = z + ∑ a, ∑ b, x (ix3 a b d) := by
  show z + ∑ i ∈ Finset.univ.filter (fun i => h.drop i = ix1 d), x i = _
  refine congrArg (z + ·) ?_
  rw [← Finset.sum_product' Finset.univ Finset.univ fun a b => x (ix3 a b d)]
  refine Finset.sum_nbij' (fun i => (i 0, i 1)) (fun p => ix3 p.1 p.2 d) (fun _ _ => Finset.mem_product.2 ⟨Finset.mem_univ _, Finset.mem_univ _⟩) ?_ ?_ (fun _ _ => rfl) ?_
  · intro p _
    refine Finset.mem_filter.2 ⟨Finset.mem_univ _, ?_⟩
    funext a
    apply Fin.ext
    match a with
    | ⟨0, _⟩ => rfl
  all_goals
    intro i hi
    have e : (i 2).val = d.val := congrArg Fin.val (congrFun (Finset.mem_filter.1 hi).2 ⟨0, Nat.one_pos⟩)
    have e' : i = ix3 (i 0) (i 1) d := by
      funext a
      apply Fin.ext
      match a with
      | ⟨0, _⟩ => rfl
      | ⟨1, _⟩ => rfl
      | ⟨2, _⟩ => exact e
  · exact e'.symm
  · exact congrArg x e'

theorem v4_at (x0 : Vec Ideal S4x256x1024 .f32) (h : Fin 4) (i : Fin 255) (d : Fin 2048) : val_main_v4 (F := Ideal) x0 (ix3 h i d) = win (fun i d => x0 (ix3 h i d)) i d := by
  unfold val_main_v4
  rcases lo_or_hi d with ⟨e, rfl⟩ | ⟨e, rfl⟩
  · rw [win_lo]
    refine (concatenate_pair_apply_left (t := Cert.Reference19Ideal.S4x255x2048) (s₁ := Cert.Reference19Ideal.S4x255x1024) (s₂ := Cert.Reference19Ideal.S4x255x1024) (2 : Fin 3) _ _ _ (ix3 h i (lo e)) rfl (ix3 h i e : Cert.Reference19Ideal.S4x255x1024.Idx) (fun b => ?_)).trans ?_
    · match b with
      | ⟨0, _⟩ => rfl
      | ⟨1, _⟩ => rfl
      | ⟨2, _⟩ => rfl
    · pointwise [val_main_v2]
      rfl
  · rw [win_hi]
    refine (concatenate_pair_apply_right (t := Cert.Reference19Ideal.S4x255x2048) (s₁ := Cert.Reference19Ideal.S4x255x1024) (s₂ := Cert.Reference19Ideal.S4x255x1024) (2 : Fin 3) _ _ _ (ix3 h i (hi e)) rfl rfl (ix3 h i e : Cert.Reference19Ideal.S4x255x1024.Idx) ?_ ?_).trans ?_
    · intro b hb
      match b with
      | ⟨0, _⟩ => rfl
      | ⟨1, _⟩ => rfl
      | ⟨2, _⟩ => exact absurd rfl hb
    · show e.val + 1024 = 1024 + e.val; omega
    · pointwise [val_main_v3]
      exact congrArg x0 (by funext a; apply Fin.ext; match a with | ⟨0, _⟩ => rfl | ⟨1, _⟩ => exact Nat.add_comm 1 i.val | ⟨2, _⟩ => rfl)

theorem v7_at (x0 : Vec Ideal S4x256x1024 .f32) (x1 : Vec Ideal S1x2048 .f32) (h : Fin 4) (i : Fin 255) (d : Fin 2048) :
    val_main_v7 (F := Ideal) x0 x1 (ix3 h i d) = win (fun i d => x0 (ix3 h i d)) i d + x1 (ix2 0 d) := by
  rw [← v4_at]
  unfold val_main_v7
  generalize val_main_v4 (F := Ideal) x0 = y
  pointwise [val_main_v6, val_main_v5]

theorem v14_at (x3 : Vec Ideal S256x64 .bf16) (x4 : Vec Ideal S4x256x64 .f32) (h : Fin 4) (i : Fin 255) (k : Fin 256) :
    val_main_v14 (F := Ideal) x3 x4 (ix3 h i k) = ∑ e, x4 (ix3 h i.castSucc e) * x3 (ix2 k e) := by
  unfold val_main_v14
  pointwise [val_main_v11, val_main_v1]
  rfl

theorem v9_at (x0 : Vec Ideal S4x256x1024 .f32) (x1 : Vec Ideal S1x2048 .f32) (x2 : Vec Ideal S2048x256 .bf16) (h : Fin 4) (i : Fin 255) (k : Fin 256) :
    val_main_v9_0 (F := Ideal) x0 x1 x2 (ix3 h i k) = val_main_v8 (F := Ideal) x0 x1 x2 (ix3 h i k) * logi (val_main_v8 (F := Ideal) x0 x1 x2 (ix3 h i k)) := by
  unfold logi val_main_v9_0 val_main_v9_2 val_main_call0_v3 val_main_call0_v1 val_main_call0_v0
  generalize val_main_v8 (F := Ideal) x0 x1 x2 = y
  pointwise [val_main_call0_v4, val_main_call0_cst_0, val_main_call0_v2, val_main_call0_cst]

theorem v15_at (x0 : Vec Ideal S4x256x1024 .f32) (x1 : Vec Ideal S1x2048 .f32) (x2 : Vec Ideal S2048x256 .bf16) (x3 : Vec Ideal S256x64 .bf16) (x4 : Vec Ideal S4x256x64 .f32) (r3 : ∀ i, ∃ r : ℝ, x3 i = (r : EReal)) (r4 : ∀ i, ∃ r : ℝ, x4 i = (r : EReal)) (H : Vec Ideal S4x256x256 .f32) (hH : ∀ (h : Fin 4) (i : Fin 255) (k : Fin 256), H (ix3 h i.castSucc k) = val_main_v8 (F := Ideal) x0 x1 x2 (ix3 h i k)) (hL : ∀ (h : Fin 4) (k : Fin 256), H (ix3 h (Fin.last 255) k) = 0) (h : Fin 4) (i : Fin 255) (k : Fin 256) :
    val_main_v15 (F := Ideal) x0 x1 x2 x3 x4 (ix3 h i k) = GF x3 H x4 h i k := by
  have e : val_main_v15 (F := Ideal) x0 x1 x2 x3 x4 (ix3 h i k) = val_main_v14 (F := Ideal) x3 x4 (ix3 h i k) * logi (val_main_v8 (F := Ideal) x0 x1 x2 (ix3 h i k))
      + val_main_v8 (F := Ideal) x0 x1 x2 (ix3 h i k) * val_main_v14 (F := Ideal) x3 x4 (ix3 h i k) * (logi (val_main_v8 (F := Ideal) x0 x1 x2 (ix3 h i k)) * (1 - logi (val_main_v8 (F := Ideal) x0 x1 x2 (ix3 h i k)))) := by
    unfold logi val_main_v15 val_main_call1_v1 val_main_call1_v2 val_main_call1_v0 val_main_v9_1 val_main_call0_v7 val_main_v9_2 val_main_call0_v3 val_main_call0_v1 val_main_call0_v0
    generalize val_main_v8 (F := Ideal) x0 x1 x2 = y
    generalize val_main_v14 (F := Ideal) x3 x4 = z
    pointwise [val_main_call0_v6, val_main_call0_cst_1, val_main_call0_v4, val_main_call0_cst_0, val_main_call0_v2, val_main_call0_cst]
  rw [e, v14_at]
  unfold GF gg
  dsimp only
  rw [hH]
  obtain ⟨d, hd⟩ := sum_mul_real (fun e : Fin 64 => x4 (ix3 h i.castSucc e)) (fun e => x3 (ix2 k e)) (fun e => r4 _) (fun e => r3 _)
  rw [show ∑ e : Fin 64, x4 (ix3 h i.castSucc e) * x3 (ix2 k e) = (d : EReal) from hd]
  exact (gate_grad d _).symm

theorem v18_at (x0 : Vec Ideal S4x256x1024 .f32) (x1 : Vec Ideal S1x2048 .f32) (x2 : Vec Ideal S2048x256 .bf16) (x3 : Vec Ideal S256x64 .bf16) (x4 : Vec Ideal S4x256x64 .f32) (r3 : ∀ i, ∃ r : ℝ, x3 i = (r : EReal)) (r4 : ∀ i, ∃ r : ℝ, x4 i = (r : EReal)) (H : Vec Ideal S4x256x256 .f32) (hH : ∀ (h : Fin 4) (i : Fin 255) (k : Fin 256), H (ix3 h i.castSucc k) = val_main_v8 (F := Ideal) x0 x1 x2 (ix3 h i k)) (hL : ∀ (h : Fin 4) (k : Fin 256), H (ix3 h (Fin.last 255) k) = 0) (h : Fin 4) (i : Fin 255) (d : Fin 2048) :
    val_main_v18 (F := Ideal) x0 x1 x2 x3 x4 (ix3 h i d) = ∑ k, GF x3 H x4 h i k * x2 (ix2 d k) := by
  simp only [← v15_at x0 x1 x2 x3 x4 r3 r4 H hH hL]
  unfold val_main_v18
  generalize val_main_v15 (F := Ideal) x0 x1 x2 x3 x4 = y
  pointwise [val_main_v0]

theorem ref17 (x0 : Vec Ideal S4x256x1024 .f32) (x1 : Vec Ideal S1x2048 .f32) (x2 : Vec Ideal S2048x256 .bf16) (x3 : Vec Ideal S256x64 .bf16) (x4 : Vec Ideal S4x256x64 .f32) (r3 : ∀ i, ∃ r : ℝ, x3 i = (r : EReal)) (r4 : ∀ i, ∃ r : ℝ, x4 i = (r : EReal)) (H : Vec Ideal S4x256x256 .f32) (hH : ∀ (h : Fin 4) (i : Fin 255) (k : Fin 256), H (ix3 h i.castSucc k) = val_main_v8 (F := Ideal) x0 x1 x2 (ix3 h i k)) (hL : ∀ (h : Fin 4) (k : Fin 256), H (ix3 h (Fin.last 255) k) = 0) :
    (fun y : S2048x256.Idx => ∑ h, h7 x0 x1 x3 H x4 h (y 0) (y 1)) = val_main_v17 (F := Ideal) x0 x1 x2 x3 x4 := by
  funext y
  obtain ⟨d, k, rfl⟩ : ∃ (d : Fin 2048) (k : Fin 256), y = (ix2 d k : S2048x256.Idx) := ⟨y 0, y 1, by funext a; match a with | ⟨0, _⟩ => rfl | ⟨1, _⟩ => rfl⟩
  have e : val_main_v17 (F := Ideal) x0 x1 x2 x3 x4 (ix2 d k) = ∑ h : Fin 4, ∑ i : Fin 255, val_main_v15 (F := Ideal) x0 x1 x2 x3 x4 (ix3 h i k) * val_main_v7 (F := Ideal) x0 x1 (ix3 h i d) := by
    unfold val_main_v17 val_main_v16
    generalize val_main_v15 (F := Ideal) x0 x1 x2 x3 x4 = y
    generalize val_main_v7 (F := Ideal) x0 x1 = z
    pointwise []
  rw [e]
  refine Finset.sum_congr rfl fun h _ => ?_
  show ∑ i : Fin 255, (win (fun i d => x0 (ix3 h i d)) i d + x1 (ix2 0 d)) * GF x3 H x4 h i k = _
  refine Finset.sum_congr rfl fun i _ => ?_
  rw [v15_at x0 x1 x2 x3 x4 r3 r4 H hH hL, v7_at, mul_comm]

theorem ref13 (x0 : Vec Ideal S4x256x1024 .f32) (x1 : Vec Ideal S1x2048 .f32) (x2 : Vec Ideal S2048x256 .bf16) (x4 : Vec Ideal S4x256x64 .f32) (H : Vec Ideal S4x256x256 .f32) (hH : ∀ (h : Fin 4) (i : Fin 255) (k : Fin 256), H (ix3 h i.castSucc k) = val_main_v8 (F := Ideal) x0 x1 x2 (ix3 h i k)) (hL : ∀ (h : Fin 4) (k : Fin 256), H (ix3 h (Fin.last 255) k) = 0) :
    (fun y : S256x64.Idx => ∑ h, h8 H x4 h (y 0) (y 1)) = val_main_v13 (F := Ideal) x0 x1 x2 x4 := by
  funext y
  obtain ⟨k, f, rfl⟩ : ∃ (k : Fin 256) (f : Fin 64), y = (ix2 k f : S256x64.Idx) := ⟨y 0, y 1, by funext a; match a with | ⟨0, _⟩ => rfl | ⟨1, _⟩ => rfl⟩
  have e : val_main_v13 (F := Ideal) x0 x1 x2 x4 (ix2 k f) = ∑ h : Fin 4, ∑ i : Fin 255, x4 (ix3 h i.castSucc f) * val_main_v9_0 (F := Ideal) x0 x1 x2 (ix3 h i k) := by
    unfold val_main_v13 val_main_v12
    generalize val_main_v9_0 (F := Ideal) x0 x1 x2 = z
    pointwise [val_main_v11]
    rfl
  rw [e]
  refine Finset.sum_congr rfl fun h _ => ?_
  show ∑ i : Fin 256, (H (ix3 h i k) * logi (H (ix3 h i k))) * x4 (ix3 h i f) = _
  rw [Fin.sum_univ_castSucc, hL, zero_mul, zero_mul, add_zero]
  refine Finset.sum_congr rfl fun i _ => ?_
  rw [hH, v9_at, mul_comm]

theorem ref22 (x0 : Vec Ideal S4x256x1024 .f32) (x1 : Vec Ideal S1x2048 .f32) (x2 : Vec Ideal S2048x256 .bf16) (x3 : Vec Ideal S256x64 .bf16) (x4 : Vec Ideal S4x256x64 .f32) (r3 : ∀ i, ∃ r : ℝ, x3 i = (r : EReal)) (r4 : ∀ i, ∃ r : ℝ, x4 i = (r : EReal)) (H : Vec Ideal S4x256x256 .f32) (hH : ∀ (h : Fin 4) (i : Fin 255) (k : Fin 256), H (ix3 h i.castSucc k) = val_main_v8 (F := Ideal) x0 x1 x2 (ix3 h i k)) (hL : ∀ (h : Fin 4) (k : Fin 256), H (ix3 h (Fin.last 255) k) = 0) :
    (fun y : S1x2048.Idx => ∑ h, h9 x2 x3 H x4 h (y 1)) = val_main_v22 (F := Ideal) x0 x1 x2 x3 x4 := by
  funext y
  obtain ⟨d, rfl⟩ : ∃ (d : Fin 2048), y = (ix2 0 d : S1x2048.Idx) := ⟨y 1, by funext a; match a with | ⟨0, _⟩ => exact Subsingleton.elim (α := Fin 1) _ _ | ⟨1, _⟩ => rfl⟩
  have e1 : val_main_v22 (F := Ideal) x0 x1 x2 x3 x4 (ix2 0 d) = Ideal.hostReduceAdd Cert.Reference19Ideal.Gen.reducesTo_S1x1x2048_S2048_d0_1 (val_main_v20 (F := Ideal) x0 x1 x2 x3 x4) 0 (ix1 d) := by
    unfold val_main_v22 val_main_v21
    generalize val_main_v20 (F := Ideal) x0 x1 x2 x3 x4 = y
    pointwise [val_main_cst_0]
  have e2 : val_main_v20 (F := Ideal) x0 x1 x2 x3 x4 (ix3 0 0 d) = Ideal.hostReduceAdd Cert.Reference19Ideal.Gen.reducesTo_S4x255x2048_S2048_d0_1 (val_main_v18 (F := Ideal) x0 x1 x2 x3 x4) 0 (ix1 d) := by
    unfold val_main_v20 val_main_v19
    generalize val_main_v18 (F := Ideal) x0 x1 x2 x3 x4 = y
    pointwise [val_main_cst]
  rw [e1, red01, Fin.sum_univ_one, Fin.sum_univ_one, e2, red01, zero_add, zero_add]
  refine Finset.sum_congr rfl fun h _ => ?_
  show ∑ i : Fin 255, ∑ k, GF x3 H x4 h i k * x2 (ix2 d k) = _
  refine Finset.sum_congr rfl fun i _ => ?_
  exact (v18_at x0 x1 x2 x3 x4 r3 r4 H hH hL h i d).symm

theorem first_zero (v : Vec Ideal Cert.Reference19Ideal.S_ .f32) (hv : v = constant (F := Ideal) Cert.Reference19Ideal.S_ .f32 0x00000000#32) (hu : 0 < Cert.Reference19Ideal.S_.numel) : v (Shape.Idx.first hu) = 0 := by
  rw [hv]
  exact Ideal.ofBits_zero_f32

theorem v25_at (x0 : Vec Ideal S4x256x1024 .f32) (x1 : Vec Ideal S1x2048 .f32) (x2 : Vec Ideal S2048x256 .bf16) (x3 : Vec Ideal S256x64 .bf16) (x4 : Vec Ideal S4x256x64 .f32) (h : Fin 4) (i : Fin 256) (d : Fin 1024) :
    val_main_v25 (F := Ideal) x0 x1 x2 x3 x4 (ix3 h i d) = dn (fun k => val_main_v18 (F := Ideal) x0 x1 x2 x3 x4 (ix3 h k (hi d))) i := by
  have hi' := i.isLt
  unfold val_main_v25 dn
  by_cases e : 1 ≤ i.val
  · rw [dif_pos e]
    refine (pad_apply_of_inside _ _ _ _ _ _ _ _ (ix3 h ⟨i.val - 1, by omega⟩ d : Cert.Reference19Ideal.S4x255x1024.Idx) fun a => ?_).trans ?_
    · match a with
      | ⟨0, _⟩ => show h.val = 0 + h.val * 1; omega
      | ⟨1, _⟩ => show i.val = 1 + (i.val - 1) * 1; omega
      | ⟨2, _⟩ => show d.val = 0 + d.val * 1; omega
    · unfold val_main_v24
      generalize val_main_v18 (F := Ideal) x0 x1 x2 x3 x4 = y
      pointwise []
      rfl
  · rw [dif_neg e]
    refine (pad_apply_of_not_inside _ _ _ _ _ _ _ _ (1 : Fin 3) ?_).trans (first_zero _ rfl _)
    intro q
    have : 1 ≤ i.val := q.1
    omega

theorem v26_at (x0 : Vec Ideal S4x256x1024 .f32) (x1 : Vec Ideal S1x2048 .f32) (x2 : Vec Ideal S2048x256 .bf16) (x3 : Vec Ideal S256x64 .bf16) (x4 : Vec Ideal S4x256x64 .f32) (h : Fin 4) (i : Fin 256) (d : Fin 1024) :
    val_main_v26 (F := Ideal) x0 x1 x2 x3 x4 (ix3 h i d) = ex (fun k => val_main_v18 (F := Ideal) x0 x1 x2 x3 x4 (ix3 h k (lo d))) i := by
  have hi' := i.isLt
  unfold val_main_v26 ex
  by_cases e : i.val < 255
  · rw [dif_pos e]
    refine (pad_apply_of_inside _ _ _ _ _ _ _ _ (ix3 h ⟨i.val, e⟩ d : Cert.Reference19Ideal.S4x255x1024.Idx) fun a => ?_).trans ?_
    · match a with
      | ⟨0, _⟩ => show h.val = 0 + h.val * 1; omega
      | ⟨1, _⟩ => show i.val = 0 + i.val * 1; omega
      | ⟨2, _⟩ => show d.val = 0 + d.val * 1; omega
    · unfold val_main_v23
      generalize val_main_v18 (F := Ideal) x0 x1 x2 x3 x4 = y
      pointwise []
      rfl
  · rw [dif_neg e]
    refine (pad_apply_of_not_inside _ _ _ _ _ _ _ _ (1 : Fin 3) ?_).trans (first_zero _ rfl _)
    intro q
    have : (i.val - 0) / 1 < 255 := q.2.2
    omega

theorem ref27 (x0 : Vec Ideal S4x256x1024 .f32) (x1 : Vec Ideal S1x2048 .f32) (x2 : Vec Ideal S2048x256 .bf16) (x3 : Vec Ideal S256x64 .bf16) (x4 : Vec Ideal S4x256x64 .f32) (r3 : ∀ i, ∃ r : ℝ, x3 i = (r : EReal)) (r4 : ∀ i, ∃ r : ℝ, x4 i = (r : EReal)) (H : Vec Ideal S4x256x256 .f32) (hH : ∀ (h : Fin 4) (i : Fin 255) (k : Fin 256), H (ix3 h i.castSucc k) = val_main_v8 (F := Ideal) x0 x1 x2 (ix3 h i k)) (hL : ∀ (h : Fin 4) (k : Fin 256), H (ix3 h (Fin.last 255) k) = 0) :
    (fun y : S4x256x1024.Idx => h6 x2 x3 H x4 (y 0) (y 1) (y 2)) = val_main_v27 (F := Ideal) x0 x1 x2 x3 x4 := by
  funext y
  obtain ⟨h, i, d, rfl⟩ : ∃ (h : Fin 4) (i : Fin 256) (d : Fin 1024), y = (ix3 h i d : S4x256x1024.Idx) := ⟨y 0, y 1, y 2, by funext a; match a with | ⟨0, _⟩ => rfl | ⟨1, _⟩ => rfl | ⟨2, _⟩ => rfl⟩
  show _ = val_main_v25 (F := Ideal) x0 x1 x2 x3 x4 (ix3 h i d) + val_main_v26 (F := Ideal) x0 x1 x2 x3 x4 (ix3 h i d)
  rw [v25_at, v26_at, add_comm]
  simp only [v18_at x0 x1 x2 x3 x4 r3 r4 H hH hL]
  rfl

/-! ## The saved argument of the gate -/

theorem V_v8 : V m c main_v8 = pad S4x256x256 ![0, 0, 0] ![0, 1, 0] ![0, 0, 0] (val_main_v8 (F := Ideal) (m ((c : Thread nD τ).loc main_arg0)) (m ((c : Thread nD τ).loc main_arg1)) (m ((c : Thread nD τ).loc main_arg2)))
    (sitofp (F := Ideal) .f32 (constantI S_ 32 0#32)) pads_S4x255x256_S4x256x256_000_010_000 h_S_ := by
  simp only [V, hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

theorem H0_at (h : Fin 4) (i : Fin 255) (k : Fin 256) : H0 m c (ix3 h i.castSucc k) = val_main_v8 (F := Ideal) (m ((c : Thread nD τ).loc main_arg0)) (m ((c : Thread nD τ).loc main_arg1)) (m ((c : Thread nD τ).loc main_arg2)) (ix3 h i k) := by
  rw [H0_eq, V_v8]
  refine pad_apply_of_inside _ _ _ _ _ _ _ _ (ix3 h i k : S4x255x256.Idx) fun a => ?_
  match a with
  | ⟨0, _⟩ => show h.val = 0 + h.val * 1; omega
  | ⟨1, _⟩ => show i.val = 0 + i.val * 1; omega
  | ⟨2, _⟩ => show k.val = 0 + k.val * 1; omega

theorem H0_last (h : Fin 4) (k : Fin 256) : H0 m c (ix3 h (Fin.last 255) k) = 0 := by
  rw [H0_eq, V_v8]
  refine (pad_apply_of_not_inside _ _ _ _ _ _ _ _ (1 : Fin 3) ?_).trans ?_
  · intro q
    have : (255 - 0) / 1 < 255 := q.2.2
    omega
  · show (((0#32 : BitVec 32).toInt : ℝ) : EReal) = 0
    simp

end

set_option maxHeartbeats 2000000 in
/-- The kernel's gradients and the reference's are equal where the output's gradient and the second layer's weights are finite. -/
theorem algebraic : Cert.algebraic_Kernel19Ideal_Reference19Ideal_pre_finite19 := by
  intro m ρ m' ρ' hpre hagree
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact Value.run_blocks m ρ
  · refine (θ_run Cert.Reference19Ideal.defs _ _).mono (fun r h c => ?_) (Cert.Reference19Ideal.Value.run (F := Ideal) m' ρ')
    obtain ⟨r4, r3⟩ := reals _ _ _ _ _ (hpre c)
    obtain ⟨a0, a1, a2, a3, a4⟩ := hagree c
    obtain ⟨w0, w1, w2, w3, w4⟩ := h c
    refine ⟨w0.trans ?_, w1.trans ?_, w2.trans ?_, w3.trans ?_, w4⟩
    · rw [val_main_v27_eq, a0, a1, a2, a3, a4]
      exact (ref27 _ _ _ _ _ r3 r4 _ (H0_at m c) (H0_last m c)).symm.trans ((final6 m c).trans (full6_eq m c)).symm
    · rw [val_main_v17_eq, a0, a1, a2, a3, a4]
      exact (ref17 _ _ _ _ _ r3 r4 _ (H0_at m c) (H0_last m c)).symm.trans ((final7 m c).trans (full7_eq m c)).symm
    · rw [val_main_v13_eq, a0, a1, a2, a4]
      exact (ref13 _ _ _ _ _ (H0_at m c) (H0_last m c)).symm.trans ((final8 m c).trans (full8_eq m c)).symm
    · rw [val_main_v22_eq, a0, a1, a2, a3, a4]
      exact (ref22 _ _ _ _ _ r3 r4 _ (H0_at m c) (H0_last m c)).symm.trans ((final9 m c).trans (full9_eq m c)).symm

end Cert.Kernel19Ideal.Hand
-- ==== Proof.FinalLoss.lean ====
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Sums
public import proofs.«01_k».proof.Proof.RmsBwd

/-! The head of the loss: the last normalisation, half the mean of the squared errors, and their gradients in the normalisation's input
    and in its weights. The loss and the weights' gradient are summed over the sixteen blocks of positions in the outputs' own blocks. -/

@[expose] public section

set_option maxRecDepth 16384

noncomputable section

namespace Cert.Kernel20Ideal.Hand

open Cert.Kernel17Ideal.Hand (dxVal core mul_sum_real ms_pos div_real c2048 cHalf cEps)
open Idealize.ShloMosaic.TcCoe Idealize.SL.Sem
open Cert.Kernel20Ideal Cert.Kernel20Ideal.Gen Idealize.ShloMosaic
open Cert.Sums Cert.Reference20Ideal.Read

/-! ## What the body stores, in each of its two cases -/

section
variable (c : Dev nD) (i : grid0.Coords) (arg1 : Memref sig .tc .vmem S256x2048 .f32) (harg1 : arg1.IsWhole)
  (arg2 : Memref sig .tc .vmem S1x2048 .f32) (harg2 : arg2.IsWhole)
  (arg3 : Memref sig .tc .vmem S256x2048 .f32) (harg3 : arg3.IsWhole)
  (arg4 : Memref sig .tc .vmem S1x128 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (x0 : Vec Ideal S256x2048 .f32) (x1 : Vec Ideal S1x2048 .f32) (x2 : Vec Ideal S256x2048 .f32)

set_option maxHeartbeats 1000000 in
theorem out0_A_3_eq (hc0 : cond0_0 i) :
    out0_A_3 c i arg1 harg1 arg2 harg2 arg3 harg3 arg4 harg4 arg5 harg5 arg6 harg6 arg7 harg7 hc0 x0 x1 x2 = k0_pay9 x0 x1 x2 (k0_pay5 (F := Ideal)) := by
  unfold out0_A_3
  rw [View.read_writes_eq_canon _ _ _ (cover0_A_3 _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_A_4_eq (hc0 : cond0_0 i) :
    out0_A_4 c i arg1 harg1 arg2 harg2 arg3 harg3 arg4 harg4 arg5 harg5 arg6 harg6 arg7 harg7 hc0 x0 x1 x2 = k0_pay2 x1 (k0_pay6 x0) (k0_pay7 x0) (k0_pay10 x0 x1 x2) := by
  unfold out0_A_4
  rw [View.read_writes_eq_canon _ _ _ (cover0_A_4 _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_A_5_eq (hc0 : cond0_0 i) :
    out0_A_5 c i arg1 harg1 arg2 harg2 arg3 harg3 arg4 harg4 arg5 harg5 arg6 harg6 arg7 harg7 hc0 x0 x1 x2 = k0_pay3 x1 (k0_pay6 x0) (k0_pay7 x0) (k0_pay10 x0 x1 x2) := by
  unfold out0_A_5
  rw [View.read_writes_eq_canon _ _ _ (cover0_A_5 _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_A_6_eq (hc0 : cond0_0 i) :
    out0_A_6 c i arg1 harg1 arg2 harg2 arg3 harg3 arg4 harg4 arg5 harg5 arg6 harg6 arg7 harg7 hc0 x0 x1 x2 = k0_pay1 (k0_pay7 x0) (k0_pay10 x0 x1 x2) (k0_pay4 (F := Ideal)) := by
  unfold out0_A_6
  rw [View.read_writes_eq_canon _ _ _ (cover0_A_6 _ _ _ _ _ _ _ _ _ _ _ _ _ _ _ _ _ _ _ _)]
  unfold kernelRun0_A
  dsimp only
  sl_unfold_words
  simp only [View.readAt_eq_ld, Memref.IsWhole.read_unread, View.readCov_cons_toLoadRect, canon2, ld2]

set_option maxHeartbeats 1000000 in
theorem out0_B_3_eq (hc0 : ¬cond0_0 i) (xo3 : Vec Ideal S1x128 .f32) (xo6 : Vec Ideal S1x2048 .f32) :
    out0_B_3 c i arg1 harg1 arg2 harg2 arg3 harg3 arg4 harg4 arg5 harg5 arg6 harg6 arg7 harg7 hc0 x0 x1 x2 xo3 xo6 = k0_pay9 x0 x1 x2 xo3 := by
  unfold out0_B_3
  rw [View.read_writes_eq_canon _ _ _ (cover0_B_3 _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_4_eq (hc0 : ¬cond0_0 i) (xo3 : Vec Ideal S1x128 .f32) (xo6 : Vec Ideal S1x2048 .f32) :
    out0_B_4 c i arg1 harg1 arg2 harg2 arg3 harg3 arg4 harg4 arg5 harg5 arg6 harg6 arg7 harg7 hc0 x0 x1 x2 xo3 xo6 = k0_pay2 x1 (k0_pay6 x0) (k0_pay7 x0) (k0_pay10 x0 x1 x2) := by
  unfold out0_B_4
  rw [View.read_writes_eq_canon _ _ _ (cover0_B_4 _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_5_eq (hc0 : ¬cond0_0 i) (xo3 : Vec Ideal S1x128 .f32) (xo6 : Vec Ideal S1x2048 .f32) :
    out0_B_5 c i arg1 harg1 arg2 harg2 arg3 harg3 arg4 harg4 arg5 harg5 arg6 harg6 arg7 harg7 hc0 x0 x1 x2 xo3 xo6 = k0_pay3 x1 (k0_pay6 x0) (k0_pay7 x0) (k0_pay10 x0 x1 x2) := by
  unfold out0_B_5
  rw [View.read_writes_eq_canon _ _ _ (cover0_B_5 _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

set_option maxHeartbeats 1000000 in
theorem out0_B_6_eq (hc0 : ¬cond0_0 i) (xo3 : Vec Ideal S1x128 .f32) (xo6 : Vec Ideal S1x2048 .f32) :
    out0_B_6 c i arg1 harg1 arg2 harg2 arg3 harg3 arg4 harg4 arg5 harg5 arg6 harg6 arg7 harg7 hc0 x0 x1 x2 xo3 xo6 = k0_pay1 (k0_pay7 x0) (k0_pay10 x0 x1 x2) xo6 := by
  unfold out0_B_6
  rw [View.read_writes_eq_canon _ _ _ (cover0_B_6 _ _ _ _ _ _ _ _ _ _ _ _ _ _ _ _ _ _ _ _ _ _)]
  unfold kernelRun0_B
  dsimp only
  sl_unfold_words
  simp only [View.readAt_eq_ld, Memref.IsWhole.read_unread, View.readCov_cons_toLoadRect, canon2, ld2]

end

/-! ## One row of positions -/

/-- The mean square of a row plus the small constant. -/
def msF (X : Fin 2048 → EReal) : EReal := Ideal.div (∑ j, X j * X j) ((2048 : ℝ) : EReal) + Ideal.ofBits .f32 0x358637BD#32
/-- A row's reciprocal root. -/
def rsF (X : Fin 2048 → EReal) : EReal := Ideal.rsqrt (msF X)
/-- A row's error: the normalised row times the weights, less the target. -/
def dfF (X W T : Fin 2048 → EReal) (j : Fin 2048) : EReal := X j * rsF X * W j - T j
/-- The loss's gradient in a row of the normalisation's output. -/
def dyF (X W T : Fin 2048 → EReal) (j : Fin 2048) : EReal := dfF X W T j * ((1 / 2048 : ℝ) : EReal)
/-- A row's mean squared error. -/
def lsF (X W T : Fin 2048 → EReal) : EReal := Ideal.div (∑ j, dfF X W T j * dfF X W T j) ((2048 : ℝ) : EReal)
/-- The gradient in a row of the input. -/
def dhF (X W T : Fin 2048 → EReal) (q : Fin 2048) : EReal :=
  dxVal 0 (rsF X) (dyF X W T q * W q) (X q) (∑ j, dyF X W T j * W j * (X j * rsF X))

theorem c1 : Ideal.ofBits .f32 0x3A000000#32 = ((1 / 2048 : ℝ) : EReal) := by
  simp [Ideal.ofBits, Ideal.ieee, -EReal.coe_mul]; norm_num
theorem cH : Ideal.ofBits .f32 0x3F000000#32 = ((1 / 2 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num

/-! ## What the body computes, at an index -/

theorem pay4_apply (q : Fin 2048) : k0_pay4 (F := Ideal) (ix2 0 q) = (0 : EReal) := by
  pointwise [k0_pay4]
theorem pay5_apply (q : Fin 128) : k0_pay5 (F := Ideal) (ix2 0 q) = (0 : EReal) := by
  pointwise [k0_pay5]

section
variable (x0 : Vec Ideal S256x2048 .f32) (x1 : Vec Ideal S1x2048 .f32) (x2 : Vec Ideal S256x2048 .f32)

theorem pay6_apply (p : Fin 256) : k0_pay6 (F := Ideal) x0 (ix2 p 0) = rsF (fun j => x0 (ix2 p j)) := by
  unfold rsF msF
  pointwise [k0_pay6]
  simp only [c2048]

theorem pay7_apply (p : Fin 256) (q : Fin 2048) : k0_pay7 (F := Ideal) x0 (ix2 p q) = x0 (ix2 p q) * rsF (fun j => x0 (ix2 p j)) := by
  rw [← pay6_apply]
  pointwise [k0_pay7]

theorem pay8_apply (p : Fin 256) (q : Fin 2048) :
    k0_pay8 (F := Ideal) x0 x1 x2 (ix2 p q) = dfF (fun j => x0 (ix2 p j)) (fun j => x1 (ix2 0 j)) (fun j => x2 (ix2 p j)) q := by
  unfold dfF
  dsimp only
  rw [← pay7_apply x0 p q]
  pointwise [k0_pay8]

theorem pay10_apply (p : Fin 256) (q : Fin 2048) :
    k0_pay10 (F := Ideal) x0 x1 x2 (ix2 p q) = dyF (fun j => x0 (ix2 p j)) (fun j => x1 (ix2 0 j)) (fun j => x2 (ix2 p j)) q := by
  unfold dyF
  rw [← pay8_apply x0 x1 x2 p q]
  pointwise [k0_pay10]
  simp only [c1]

theorem pay9_apply (a : Vec Ideal S1x128 .f32) (q : Fin 128) :
    k0_pay9 (F := Ideal) x0 x1 x2 a (ix2 0 q) = a (ix2 0 q) + ((1 / 2 : ℝ) : EReal) * ∑ p : Fin 256, lsF (fun j => x0 (ix2 p j)) (fun j => x1 (ix2 0 j)) (fun j => x2 (ix2 p j)) := by
  unfold lsF
  simp only [← pay8_apply]
  pointwise [k0_pay9]
  simp only [c2048, cH]

theorem pay1_apply (a : Vec Ideal S1x2048 .f32) (q : Fin 2048) :
    k0_pay1 (F := Ideal) (k0_pay7 x0) (k0_pay10 x0 x1 x2) a (ix2 0 q) = a (ix2 0 q)
      + ∑ p : Fin 256, dyF (fun j => x0 (ix2 p j)) (fun j => x1 (ix2 0 j)) (fun j => x2 (ix2 p j)) q * (x0 (ix2 p q) * rsF (fun j => x0 (ix2 p j))) := by
  simp only [← pay10_apply]
  pointwise [k0_pay1]
  simp only [pay7_apply]

theorem pay2_apply (p : Fin 256) (q : Fin 2048) :
    k0_pay2 (F := Ideal) x1 (k0_pay6 x0) (k0_pay7 x0) (k0_pay10 x0 x1 x2) (ix2 p q) = dhF (fun j => x0 (ix2 p j)) (fun j => x1 (ix2 0 j)) (fun j => x2 (ix2 p j)) q := by
  unfold dhF dxVal
  rw [zero_add]
  dsimp only
  simp only [← pay10_apply]
  pointwise [k0_pay2]
  simp only [c2048, pay7_apply, pay6_apply]

theorem pay3_apply (p : Fin 256) (q : Fin 2048) :
    k0_pay3 (F := Ideal) x1 (k0_pay6 x0) (k0_pay7 x0) (k0_pay10 x0 x1 x2) (ix2 p q) = dhF (fun j => x0 (ix2 p j)) (fun j => x1 (ix2 0 j)) (fun j => x2 (ix2 p j)) q := by
  rw [← pay2_apply]
  pointwise [k0_pay3]

end

/-! ## The blocks of the arrays -/

/-- The row of the arrays that row `p` of block `t` is. -/
def row (t : ℕ) (p : ℕ) : Fin 4096 := at' (by decide) 256 t p

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx1 : ∀ t : Fin grid0.N, win0_1.index t 0 = 0 ∧ win0_1.index t 1 = 0 := by decide +kernel
theorem idx3 : ∀ t : Fin grid0.N, win0_3.index t 0 = 0 ∧ win0_3.index t 1 = 0 := by decide +kernel
theorem idx6 : ∀ t : Fin grid0.N, win0_6.index t 0 = 0 ∧ win0_6.index t 1 = 0 := by decide +kernel
theorem t_lt (t : Fin cfg0.N) : t.val < 16 := lt_of_lt_of_eq t.isLt N_0
theorem row_val {t : ℕ} (ht : t < 16) (p : Fin 256) : (row t p.val).val = 256 * t + p.val := at'_val _ (by have := p.isLt; omega)

/-- A row of an array of positions. -/
def rw' (x : Vec Ideal S4096x2048 .f32) (p : Fin 4096) : Fin 2048 → EReal := fun j => x (ix2 p j)
/-- The weights as a row. -/
def ww (x : Vec Ideal S1x2048 .f32) : Fin 2048 → EReal := fun j => x (ix2 0 j)

variable (m : (ℓ : Loc nD τ sig) → Buf (Elt Ideal) ℓ) (c : Dev nD)

theorem rd0 (X : Vec Ideal S4096x2048 .f32) (t : Fin cfg0.N) (p : Fin 256) (q : Fin 2048) :
    ((cfg0.win 0).blk t).view.read (Elt Ideal) X (ix2 p q) = X (ix2 (row t.val p.val) q) := by
  have ht := t_lt t
  rw [View.read_apply]
  refine congrArg X ?_
  funext a
  apply Fin.ext
  match a with
  | ⟨0, _⟩ => show win0_0.index t 0 * 256 + 1 * p.val = (row t.val p.val).val; rw [(idx0 t).1, row_val ht p]; omega
  | ⟨1, _⟩ => show win0_0.index t 1 * 2048 + 1 * q.val = q.val; rw [(idx0 t).2]; omega

theorem fn0 (t : Fin cfg0.N) (p : Fin 256) : (fun j : Fin 2048 => (iblk m c 0 t : Vec Ideal S256x2048 .f32) (ix2 p j)) = rw' (V m c main_arg0) (row t.val p.val) :=
  funext fun j => rd0 (V m c main_arg0) t p j

theorem rd2 (X : Vec Ideal S4096x2048 .f32) (t : Fin cfg0.N) (p : Fin 256) (q : Fin 2048) :
    ((cfg0.win 2).blk t).view.read (Elt Ideal) X (ix2 p q) = X (ix2 (row t.val p.val) q) := by
  have ht := t_lt t
  rw [View.read_apply]
  refine congrArg X ?_
  funext a
  apply Fin.ext
  match a with
  | ⟨0, _⟩ => show win0_2.index t 0 * 256 + 1 * p.val = (row t.val p.val).val; rw [(idx2 t).1, row_val ht p]; omega
  | ⟨1, _⟩ => show win0_2.index t 1 * 2048 + 1 * q.val = q.val; rw [(idx2 t).2]; omega

theorem fn2 (t : Fin cfg0.N) (p : Fin 256) : (fun j : Fin 2048 => (iblk m c 2 t : Vec Ideal S256x2048 .f32) (ix2 p j)) = rw' (V m c main_arg2) (row t.val p.val) :=
  funext fun j => rd2 (V m c main_arg2) t p j

theorem rd1 (X : Vec Ideal S1x2048 .f32) (t : Fin cfg0.N) (q : Fin 2048) :
    ((cfg0.win 1).blk t).view.read (Elt Ideal) X (ix2 0 q) = X (ix2 0 q) := by
  rw [View.read_apply]
  refine congrArg X ?_
  funext a
  apply Fin.ext
  match a with
  | ⟨0, _⟩ => show win0_1.index t 0 * 1 + 1 * 0 = 0; rw [(idx1 t).1]
  | ⟨1, _⟩ => show win0_1.index t 1 * 2048 + 1 * q.val = q.val; rw [(idx1 t).2]; omega

theorem fn1 (t : Fin cfg0.N) : (fun j : Fin 2048 => (iblk m c 1 t : Vec Ideal S1x2048 .f32) (ix2 0 j)) = ww (V m c main_arg1) :=
  funext fun j => rd1 (V m c main_arg1) t j

section
variable (x0 : Vec Ideal S4096x2048 .f32) (x1 : Vec Ideal S1x2048 .f32) (x2 : Vec Ideal S4096x2048 .f32)

/-- The loss, in every lane. -/
@[irreducible] def full3 : Vec Ideal S1x128 .f32 := fun _ => ((1 / 2 : ℝ) : EReal) * ∑ p : Fin 4096, lsF (rw' x0 p) (ww x1) (rw' x2 p)
theorem full3_eq (i : S1x128.Idx) : full3 x0 x1 x2 i = ((1 / 2 : ℝ) : EReal) * ∑ p : Fin 4096, lsF (rw' x0 p) (ww x1) (rw' x2 p) := by
  unfold full3
  rfl
/-- The gradient in the input. -/
@[irreducible] def full4 : Vec Ideal S4096x2048 .f32 := fun y => dhF (rw' x0 (y 0)) (ww x1) (rw' x2 (y 0)) (y 1)
theorem full4_eq (p : Fin 4096) (q : Fin 2048) : full4 x0 x1 x2 (ix2 p q) = dhF (rw' x0 p) (ww x1) (rw' x2 p) q := by
  unfold full4
  rfl
/-- The gradient in the weights. -/
@[irreducible] def full6 : Vec Ideal S1x2048 .f32 := fun y => ∑ p : Fin 4096, dyF (rw' x0 p) (ww x1) (rw' x2 p) (y 1) * (rw' x0 p (y 1) * rsF (rw' x0 p))
theorem full6_eq (q : Fin 2048) : full6 x0 x1 x2 (ix2 0 q) = ∑ p : Fin 4096, dyF (rw' x0 p) (ww x1) (rw' x2 p) q * (rw' x0 p q * rsF (rw' x0 p)) := by
  unfold full6
  rfl

/-- What block `b` of positions adds to the loss. -/
def term3 (b : ℕ) : EReal := ((1 / 2 : ℝ) : EReal) * ∑ p : Fin 256, lsF (rw' x0 (row b p.val)) (ww x1) (rw' x2 (row b p.val))
/-- What block `b` of positions adds to the gradient in a weight. -/
def term6 (b : ℕ) (q : Fin 2048) : EReal :=
  ∑ p : Fin 256, dyF (rw' x0 (row b p.val)) (ww x1) (rw' x2 (row b p.val)) q * (rw' x0 (row b p.val) q * rsF (rw' x0 (row b p.val)))

theorem sum_term6 (q : Fin 2048) : ∑ b ∈ Finset.range 16, term6 x0 x1 x2 b q = full6 x0 x1 x2 (ix2 0 q) := by
  rw [full6_eq]
  unfold term6
  exact sum_blocks (by decide) 256 16 (by decide) (fun k : Fin 4096 => dyF (rw' x0 k) (ww x1) (rw' x2 k) q * (rw' x0 k q * rsF (rw' x0 k)))

theorem sum_term3 (i : S1x128.Idx) : ∑ b ∈ Finset.range 16, term3 x0 x1 x2 b = full3 x0 x1 x2 i := by
  rw [full3_eq]
  unfold term3
  rw [mul_sum_real _ _ (by norm_num)]
  exact congrArg _ (sum_blocks (by decide) 256 16 (by decide) (fun k : Fin 4096 => lsF (rw' x0 k) (ww x1) (rw' x2 k)))

end

/-! ## What each point leaves -/

theorem out4_eq (t : Fin cfg0.N) : (outsAt0 m c t.val t.isLt).2.1 = k0_pay2 (iblk m c 1 t) (k0_pay6 (iblk m c 0 t)) (k0_pay7 (iblk m c 0 t)) (k0_pay10 (iblk m c 0 t) (iblk m c 1 t) (iblk m c 2 t)) := by
  by_cases h : t.val % 16 = 0
  · rw [outsAt0_A m c t h]; dsimp only; rw [out0_A_4_eq]
  · rw [outsAt0_B m c t h]; dsimp only; rw [out0_B_4_eq]

theorem blk4_eq (t : Fin cfg0.N) (p : Fin 256) (q : Fin 2048) :
    k0_pay2 (F := Ideal) (iblk m c 1 t) (k0_pay6 (iblk m c 0 t)) (k0_pay7 (iblk m c 0 t)) (k0_pay10 (iblk m c 0 t) (iblk m c 1 t) (iblk m c 2 t)) (ix2 p q) = full4 (V m c main_arg0) (V m c main_arg1) (V m c main_arg2) (ix2 (row t.val p.val) q) := by
  refine (pay2_apply (iblk m c 0 t) (iblk m c 1 t) (iblk m c 2 t) p q).trans ?_
  rw [full4_eq, fn0, fn1, fn2]

theorem out5_eq (t : Fin cfg0.N) : (outsAt0 m c t.val t.isLt).2.2.1 = k0_pay3 (iblk m c 1 t) (k0_pay6 (iblk m c 0 t)) (k0_pay7 (iblk m c 0 t)) (k0_pay10 (iblk m c 0 t) (iblk m c 1 t) (iblk m c 2 t)) := by
  by_cases h : t.val % 16 = 0
  · rw [outsAt0_A m c t h]; dsimp only; rw [out0_A_5_eq]
  · rw [outsAt0_B m c t h]; dsimp only; rw [out0_B_5_eq]

theorem blk5_eq (t : Fin cfg0.N) (p : Fin 256) (q : Fin 2048) :
    k0_pay3 (F := Ideal) (iblk m c 1 t) (k0_pay6 (iblk m c 0 t)) (k0_pay7 (iblk m c 0 t)) (k0_pay10 (iblk m c 0 t) (iblk m c 1 t) (iblk m c 2 t)) (ix2 p q) = full4 (V m c main_arg0) (V m c main_arg1) (V m c main_arg2) (ix2 (row t.val p.val) q) := by
  refine (pay3_apply (iblk m c 0 t) (iblk m c 1 t) (iblk m c 2 t) p q).trans ?_
  rw [full4_eq, fn0, fn1, fn2]

theorem step3_eq (t : Fin cfg0.N) (a : Vec Ideal S1x128 .f32) (q : Fin 128) :
    k0_pay9 (F := Ideal) (iblk m c 0 t) (iblk m c 1 t) (iblk m c 2 t) a (ix2 0 q) = a (ix2 0 q) + term3 (V m c main_arg0) (V m c main_arg1) (V m c main_arg2) t.val := by
  refine (pay9_apply (iblk m c 0 t) (iblk m c 1 t) (iblk m c 2 t) a q).trans ?_
  unfold term3
  simp only [fn0, fn1, fn2]

theorem step6_eq (t : Fin cfg0.N) (a : Vec Ideal S1x2048 .f32) (q : Fin 2048) :
    k0_pay1 (F := Ideal) (k0_pay7 (iblk m c 0 t)) (k0_pay10 (iblk m c 0 t) (iblk m c 1 t) (iblk m c 2 t)) a (ix2 0 q) = a (ix2 0 q) + term6 (V m c main_arg0) (V m c main_arg1) (V m c main_arg2) t.val q := by
  refine (pay1_apply (iblk m c 0 t) (iblk m c 1 t) (iblk m c 2 t) a q).trans ?_
  unfold term6
  refine congrArg (a (ix2 0 q) + ·) (Finset.sum_congr rfl fun p _ => ?_)
  rw [fn0, fn1, fn2]
  exact congrArg₂ (· * ·) rfl (congrArg₂ (· * ·) (congrFun (fn0 m c t p) q) rfl)

/-- The running sums after a point: the blocks of positions visited so far. -/
theorem acc_eq : ∀ (n : ℕ) (hn : n < cfg0.N),
    (∀ q : Fin 128, (outsAt0 m c n hn).1 (ix2 0 q) = ∑ b ∈ Finset.range (n + 1), term3 (V m c main_arg0) (V m c main_arg1) (V m c main_arg2) b)
    ∧ ∀ q : Fin 2048, (outsAt0 m c n hn).2.2.2 (ix2 0 q) = ∑ b ∈ Finset.range (n + 1), term6 (V m c main_arg0) (V m c main_arg1) (V m c main_arg2) b q := by
  intro n
  induction n with
  | zero =>
    intro hn
    have e := outsAt0_A m c ⟨0, hn⟩ rfl
    rw [out0_A_3_eq, out0_A_6_eq] at e
    rw [show outsAt0 m c 0 hn = _ from e]
    dsimp only
    refine ⟨fun q => (step3_eq m c ⟨0, hn⟩ _ q).trans ?_, fun q => (step6_eq m c ⟨0, hn⟩ _ q).trans ?_⟩
    · rw [pay5_apply, zero_add, Finset.sum_range_one]
    · rw [pay4_apply, zero_add, Finset.sum_range_one]
  | succ n ih =>
    intro hn
    have hN := t_lt ⟨n + 1, hn⟩
    have hv : (⟨n + 1, hn⟩ : Fin cfg0.N).val = n + 1 := rfl
    have e := outsAt0_B m c ⟨n + 1, hn⟩ (by rw [hv] at hN ⊢; omega)
    rw [out0_B_3_eq, out0_B_6_eq] at e
    rw [show outsAt0 m c (n + 1) hn = _ from e]
    dsimp only
    refine ⟨fun q => (step3_eq m c ⟨n + 1, hn⟩ _ q).trans ?_, fun q => (step6_eq m c ⟨n + 1, hn⟩ _ q).trans ?_⟩
    · rw [Finset.sum_range_succ _ (n + 1)]
      exact congrArg (· + _) ((ih _).1 q)
    · rw [Finset.sum_range_succ _ (n + 1)]
      exact congrArg (· + _) ((ih _).2 q)

theorem final4 : (dats m 0 c).arrAt 4 cfg0.N = full4 (V m c main_arg0) (V m c main_arg1) (V m c main_arg2) := by
  refine (dats m 0 c).arrAt_eq_of_cover 4 _ ?_ ?_
  · intro t _
    rw [Value.flushed4]
    funext y
    obtain ⟨p, q, rfl⟩ : ∃ (p : Fin 256) (q : Fin 2048), y = (ix2 p q : S256x2048.Idx) := ⟨y 0, y 1, by funext a; match a with | ⟨0, _⟩ => rfl | ⟨1, _⟩ => rfl⟩
    rw [View.read_apply, out4_eq]
    refine (blk4_eq m c t p q).trans ?_
    have htl := t_lt t
    have hi := idx4 t
    have e : (((cfg0.win 4).blk t).view.emb (ix2 p q : S256x2048.Idx) : S4096x2048.Idx) = ix2 (row t.val p.val) q := by
      funext a
      apply Fin.ext
      match a with
      | ⟨0, _⟩ => show win0_4.index t 0 * 256 + 1 * p.val = (row t.val p.val).val; rw [hi.1, row_val htl]; omega
      | ⟨1, _⟩ => show win0_4.index t 1 * 2048 + 1 * q.val = q.val; rw [hi.2]; omega
    exact (congrArg (full4 (V m c main_arg0) (V m c main_arg1) (V m c main_arg2)) e).symm
  · intro i
    have h0 : (i 0).val < 4096 := (i 0).isLt
    have h1 : (i 1).val < 2048 := (i 1).isLt
    refine ⟨⟨(i 0).val / 256, lt_of_lt_of_eq (by omega : _ < 16) N_0.symm⟩, flush0_4 _, ?_⟩
    generalize ht : (⟨(i 0).val / 256, _⟩ : Fin cfg0.N) = t
    have tv : t.val = (i 0).val / 256 := by rw [← ht]
    have hi := idx4 t
    show i ∈ ((View.whole main_v0_1).slice (win0_4.rect t)).set
    rw [View.set_slice_whole, Rect.mem_set_unit]
    intro a
    match a with
    | ⟨0, _⟩ => show win0_4.index t 0 * 256 ≤ (i 0).val ∧ (i 0).val < win0_4.index t 0 * 256 + 256; rw [hi.1]; omega
    | ⟨1, _⟩ => show win0_4.index t 1 * 2048 ≤ (i 1).val ∧ (i 1).val < win0_4.index t 1 * 2048 + 2048; rw [hi.2]; omega

theorem final5 : (dats m 0 c).arrAt 5 cfg0.N = full4 (V m c main_arg0) (V m c main_arg1) (V m c main_arg2) := by
  refine (dats m 0 c).arrAt_eq_of_cover 5 _ ?_ ?_
  · intro t _
    rw [Value.flushed5]
    funext y
    obtain ⟨p, q, rfl⟩ : ∃ (p : Fin 256) (q : Fin 2048), y = (ix2 p q : S256x2048.Idx) := ⟨y 0, y 1, by funext a; match a with | ⟨0, _⟩ => rfl | ⟨1, _⟩ => rfl⟩
    rw [View.read_apply, out5_eq]
    refine (blk5_eq m c t p q).trans ?_
    have htl := t_lt t
    have hi := idx5 t
    have e : (((cfg0.win 5).blk t).view.emb (ix2 p q : S256x2048.Idx) : S4096x2048.Idx) = ix2 (row t.val p.val) q := by
      funext a
      apply Fin.ext
      match a with
      | ⟨0, _⟩ => show win0_5.index t 0 * 256 + 1 * p.val = (row t.val p.val).val; rw [hi.1, row_val htl]; omega
      | ⟨1, _⟩ => show win0_5.index t 1 * 2048 + 1 * q.val = q.val; rw [hi.2]; omega
    exact (congrArg (full4 (V m c main_arg0) (V m c main_arg1) (V m c main_arg2)) e).symm
  · intro i
    have h0 : (i 0).val < 4096 := (i 0).isLt
    have h1 : (i 1).val < 2048 := (i 1).isLt
    refine ⟨⟨(i 0).val / 256, lt_of_lt_of_eq (by omega : _ < 16) N_0.symm⟩, flush0_5 _, ?_⟩
    generalize ht : (⟨(i 0).val / 256, _⟩ : Fin cfg0.N) = t
    have tv : t.val = (i 0).val / 256 := by rw [← ht]
    have hi := idx5 t
    show i ∈ ((View.whole main_v0_2).slice (win0_5.rect t)).set
    rw [View.set_slice_whole, Rect.mem_set_unit]
    intro a
    match a with
    | ⟨0, _⟩ => show win0_5.index t 0 * 256 ≤ (i 0).val ∧ (i 0).val < win0_5.index t 0 * 256 + 256; rw [hi.1]; omega
    | ⟨1, _⟩ => show win0_5.index t 1 * 2048 ≤ (i 1).val ∧ (i 1).val < win0_5.index t 1 * 2048 + 2048; rw [hi.2]; omega

theorem final3 : (dats m 0 c).arrAt 3 cfg0.N = full3 (V m c main_arg0) (V m c main_arg1) (V m c main_arg2) := by
  refine (dats m 0 c).arrAt_eq_of_cover 3 _ ?_ ?_
  · intro t hf
    have ht : t.val % 16 = 15 := (flush0_3 t).mp hf
    have htl := t_lt t
    have hi := idx3 t
    rw [Value.flushed3]
    funext y
    obtain ⟨q, rfl⟩ : ∃ (q : Fin 128), y = (ix2 0 q : S1x128.Idx) := ⟨y 1, by funext a; match a with | ⟨0, _⟩ => exact Subsingleton.elim (α := Fin 1) _ _ | ⟨1, _⟩ => rfl⟩
    rw [View.read_apply]
    refine ((acc_eq m c t.val t.isLt).1 q).trans ?_
    rw [show t.val + 1 = 16 by omega, sum_term3 (V m c main_arg0) (V m c main_arg1) (V m c main_arg2) (ix2 0 q)]
    have e : (((cfg0.win 3).blk t).view.emb (ix2 0 q : S1x128.Idx) : S1x128.Idx) = ix2 0 q := by
      funext a
      apply Fin.ext
      match a with
      | ⟨0, _⟩ => show win0_3.index t 0 * 1 + 1 * 0 = 0; rw [hi.1]
      | ⟨1, _⟩ => show win0_3.index t 1 * 128 + 1 * q.val = q.val; rw [hi.2]; omega
    exact (congrArg (full3 (V m c main_arg0) (V m c main_arg1) (V m c main_arg2)) e).symm
  · intro i
    have h0 : (i 0).val < 1 := (i 0).isLt
    have h1 : (i 1).val < 128 := (i 1).isLt
    obtain ⟨t, tv⟩ : ∃ t : Fin cfg0.N, t.val = 15 := ⟨⟨15, lt_of_lt_of_eq (by omega : _ < 16) N_0.symm⟩, rfl⟩
    refine ⟨t, (flush0_3 t).mpr (by rw [tv]), ?_⟩
    have hi := idx3 t
    show i ∈ ((View.whole main_v0_0).slice (win0_3.rect t)).set
    rw [View.set_slice_whole, Rect.mem_set_unit]
    intro a
    match a with
    | ⟨0, _⟩ => show win0_3.index t 0 * 1 ≤ (i 0).val ∧ (i 0).val < win0_3.index t 0 * 1 + 1; rw [hi.1]; omega
    | ⟨1, _⟩ => show win0_3.index t 1 * 128 ≤ (i 1).val ∧ (i 1).val < win0_3.index t 1 * 128 + 128; rw [hi.2]; omega

theorem final6 : (dats m 0 c).arrAt 6 cfg0.N = full6 (V m c main_arg0) (V m c main_arg1) (V m c main_arg2) := by
  refine (dats m 0 c).arrAt_eq_of_cover 6 _ ?_ ?_
  · intro t hf
    have ht : t.val % 16 = 15 := (flush0_6 t).mp hf
    have htl := t_lt t
    have hi := idx6 t
    rw [Value.flushed6]
    funext y
    obtain ⟨q, rfl⟩ : ∃ (q : Fin 2048), y = (ix2 0 q : S1x2048.Idx) := ⟨y 1, by funext a; match a with | ⟨0, _⟩ => exact Subsingleton.elim (α := Fin 1) _ _ | ⟨1, _⟩ => rfl⟩
    rw [View.read_apply]
    refine ((acc_eq m c t.val t.isLt).2 q).trans ?_
    rw [show t.val + 1 = 16 by omega, sum_term6 (V m c main_arg0) (V m c main_arg1) (V m c main_arg2) q]
    have e : (((cfg0.win 6).blk t).view.emb (ix2 0 q : S1x2048.Idx) : S1x2048.Idx) = ix2 0 q := by
      funext a
      apply Fin.ext
      match a with
      | ⟨0, _⟩ => show win0_6.index t 0 * 1 + 1 * 0 = 0; rw [hi.1]
      | ⟨1, _⟩ => show win0_6.index t 1 * 2048 + 1 * q.val = q.val; rw [hi.2]; omega
    exact (congrArg (full6 (V m c main_arg0) (V m c main_arg1) (V m c main_arg2)) e).symm
  · intro i
    have h0 : (i 0).val < 1 := (i 0).isLt
    have h1 : (i 1).val < 2048 := (i 1).isLt
    obtain ⟨t, tv⟩ : ∃ t : Fin cfg0.N, t.val = 15 := ⟨⟨15, lt_of_lt_of_eq (by omega : _ < 16) N_0.symm⟩, rfl⟩
    refine ⟨t, (flush0_6 t).mpr (by rw [tv]), ?_⟩
    have hi := idx6 t
    show i ∈ ((View.whole main_v0_3).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 2048 ≤ (i 1).val ∧ (i 1).val < win0_6.index t 1 * 2048 + 2048; rw [hi.2]; omega

/-! ## The reference at an index -/

section
open Cert.Reference20Ideal.Read
variable (x0 : Vec Ideal S4096x2048 .f32) (x1 : Vec Ideal S1x2048 .f32) (x2 : Vec Ideal S4096x2048 .f32)

theorem ref6 (p : Fin 4096) : val_main_v6 (F := Ideal) x0 (ix2 p 0) = msF (rw' x0 p) := by
  unfold msF rw'
  pointwise [val_main_v6, val_main_v5, val_main_cst_1, val_main_v4, val_main_v3, val_main_cst_0, val_main_v2, val_main_v1, val_main_v0, val_main_cst, val_main_cst_2, val_main_cst_3, val_main_cst_4, val_main_cst_5, val_main_cst_6, val_main_cst_7, val_main_cst_8, val_main_cst_9, val_main_cst_10, val_main_cst_11, val_main_cst_12, val_main_cst_13, val_main_cst_14]
  simp only [c2048]

theorem ref7 (p : Fin 4096) : val_main_v7 (F := Ideal) x0 (ix2 p 0) = rsF (rw' x0 p) := by
  unfold rsF
  rw [← ref6]
  rfl

theorem ref15 (p : Fin 4096) (j : Fin 2048) : val_main_v15 (F := Ideal) x0 x1 x2 (ix2 p j) = dfF (rw' x0 p) (ww x1) (rw' x2 p) j := by
  unfold dfF
  rw [← ref7]
  unfold rw' ww
  pointwise [val_main_v15, val_main_v14, val_main_v13, val_main_v12, val_main_v11, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]

theorem ref21 (p : Fin 4096) : val_main_v21 (F := Ideal) x0 x1 x2 (ix1 p) = lsF (rw' x0 p) (ww x1) (rw' x2 p) := by
  unfold lsF
  simp only [← ref15]
  pointwise [val_main_v21, val_main_v20, val_main_v19, val_main_v16, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [c2048]

theorem ref49 (q : Fin 128) : val_main_v49 (F := Ideal) x0 x1 x2 (ix2 0 q) = ((1 / 2 : ℝ) : EReal) * ∑ p : Fin 4096, lsF (rw' x0 p) (ww x1) (rw' x2 p) := by
  simp only [← ref21]
  pointwise [val_main_v49, val_main_v23, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [cH]

theorem ref29 (p : Fin 4096) (j : Fin 2048) : val_main_v29 (F := Ideal) x0 x1 x2 (ix2 p j)
    = Ideal.div (((1 / 2 : ℝ) : EReal) * 1) ((2048 : ℝ) : EReal) * (((2 : ℝ) : EReal) * dfF (rw' x0 p) (ww x1) (rw' x2 p) j) := by
  rw [← ref15]
  pointwise [val_main_v29, val_main_v28, val_main_v27, val_main_v26, val_main_v25, val_main_v24, val_main_v18, val_main_v17, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [c2048, c2, cH]

theorem ref48_apply (p : Fin 4096) (q : Fin 2048) : val_main_v48 (F := Ideal) x0 x1 x2 (ix2 p q)
    = val_main_v29 (F := Ideal) x0 x1 x2 (ix2 p q) * ww x1 q * rsF (rw' x0 p)
        + rw' x0 p q * Ideal.div ((∑ j : Fin 2048, rw' x0 p j * (val_main_v29 (F := Ideal) x0 x1 x2 (ix2 p j) * ww x1 j)) * (((-1/2 : ℝ) : EReal) * Ideal.div (rsF (rw' x0 p)) (msF (rw' x0 p)))) ((2048 : ℝ) : EReal)
        + Ideal.div ((∑ j : Fin 2048, rw' x0 p j * (val_main_v29 (F := Ideal) x0 x1 x2 (ix2 p j) * ww x1 j)) * (((-1/2 : ℝ) : EReal) * Ideal.div (rsF (rw' x0 p)) (msF (rw' x0 p)))) ((2048 : ℝ) : EReal) * rw' x0 p q := by
  rw [← ref7, ← ref6]
  unfold rw' ww
  pointwise [val_main_v48, val_main_v47, val_main_v46, val_main_v45, val_main_v44, val_main_v43, val_main_v42, val_main_v41, val_main_v40, val_main_v39, val_main_v38, val_main_v37, val_main_v36, val_main_v35, val_main_v34, val_main_v33, val_main_v10, val_main_v9, val_main_v8, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  simp only [Fin.sum_univ_one, c2048, cHalf]

theorem ref32_apply (q : Fin 2048) : val_main_v32 (F := Ideal) x0 x1 x2 (ix2 0 q)
    = ∑ p : Fin 4096, rw' x0 p q * rsF (rw' x0 p) * val_main_v29 (F := Ideal) x0 x1 x2 (ix2 p q) := by
  simp only [← ref7]
  unfold rw'
  pointwise [val_main_v32, val_main_v31, val_main_v30, val_main_v12, val_main_v11, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]

/-- The two forms of the loss's gradient in the normalisation's output are the same real. -/
theorem ref29_dy (p : Fin 4096) (j : Fin 2048) : val_main_v29 (F := Ideal) x0 x1 x2 (ix2 p j) = dyF (rw' x0 p) (ww x1) (rw' x2 p) j := by
  rw [ref29]
  unfold dyF
  rw [mul_one, div_real _ _ (by norm_num), ← mul_assoc, ← EReal.coe_mul, mul_comm]
  exact congrArg (fun z : ℝ => dfF (rw' x0 p) (ww x1) (rw' x2 p) j * (z : EReal)) (by norm_num)

theorem ref48 : val_main_v48 (F := Ideal) x0 x1 x2 = full4 x0 x1 x2 := by
  funext y
  obtain ⟨p, q, rfl⟩ : ∃ (p : Fin 4096) (q : Fin 2048), y = ix2 p q := ⟨y 0, y 1, eq_ix2 y⟩
  rw [full4_eq]
  refine (ref48_apply x0 x1 x2 p q).trans ?_
  simp only [ref29_dy x0 x1 x2]
  unfold dhF
  unfold rsF
  exact (zero_add _).symm.trans (core (fun j => dyF (rw' x0 p) (ww x1) (rw' x2 p) j * ww x1 j) (rw' x0 p) (msF (rw' x0 p)) (ms_pos (rw' x0 p)) 0 _ _).symm

theorem ref50 : val_main_v50 (F := Ideal) x0 x1 x2 = full4 x0 x1 x2 :=
  Eq.trans rfl (ref48 x0 x1 x2)

theorem ref32 : val_main_v32 (F := Ideal) x0 x1 x2 = full6 x0 x1 x2 := by
  funext y
  obtain ⟨q, rfl⟩ : ∃ (q : Fin 2048), y = (ix2 0 q : S1x2048.Idx) := ⟨y 1, by funext a; match a with | ⟨0, _⟩ => exact Subsingleton.elim (α := Fin 1) _ _ | ⟨1, _⟩ => rfl⟩
  rw [full6_eq]
  refine (ref32_apply x0 x1 x2 q).trans (Finset.sum_congr rfl fun p _ => ?_)
  rw [ref29_dy x0 x1 x2]
  exact mul_comm _ _

theorem ref49' : val_main_v49 (F := Ideal) x0 x1 x2 = full3 x0 x1 x2 := by
  funext y
  obtain ⟨q, rfl⟩ : ∃ (q : Fin 128), y = (ix2 0 q : S1x128.Idx) := ⟨y 1, by funext a; match a with | ⟨0, _⟩ => exact Subsingleton.elim (α := Fin 1) _ _ | ⟨1, _⟩ => rfl⟩
  rw [full3_eq]
  exact ref49 x0 x1 x2 q

end

set_option maxHeartbeats 2000000 in
/-- The kernel's loss and gradients and the reference's are equal on any arguments. -/
theorem algebraic : Cert.algebraic_Kernel20Ideal_Reference20Ideal := by
  intro m ρ m' ρ' _ hagree
  refine ⟨fun c => (dats m 0 c).arrAt 3 cfg0.N, fun c => (dats m 0 c).arrAt 4 cfg0.N, fun c => (dats m 0 c).arrAt 5 cfg0.N, fun c => (dats m 0 c).arrAt 6 cfg0.N, ?_, ?_⟩
  · exact Value.run_blocks m ρ
  · refine (θ_run Cert.Reference20Ideal.defs _ _).mono (fun r h c => ?_) (Cert.Reference20Ideal.Value.run (F := Ideal) m' ρ')
    obtain ⟨a0, a1, a2⟩ := hagree c
    obtain ⟨w0, w1, w2, w3, w4⟩ := h c
    refine ⟨w0.trans ?_, w1.trans ?_, w2.trans ?_, w3.trans ?_, w4⟩
    · rw [val_main_v49_eq, a0, a1, a2]
      exact (ref49' _ _ _).trans (final3 m c).symm
    · rw [val_main_v48_eq, a0, a1, a2]
      exact (ref48 _ _ _).trans (final4 m c).symm
    · rw [val_main_v50_eq, a0, a1, a2]
      exact (ref50 _ _ _).trans (final5 m c).symm
    · rw [val_main_v32_eq, a0, a1, a2]
      exact (ref32 _ _ _).trans (final6 m c).symm

end Cert.Kernel20Ideal.Hand
-- ==== Proof.AdamIn.lean ====
module

public import proofs.«01_k».proof.Proof.Gen.Kernel21Ideal.Value
public import proofs.«01_k».proof.Proof.Gen.Reference21Ideal.Run
public import proofs.«01_k».proof.Proof.Gen.Reference21Ideal.Read
public import proofs.«01_k».proof.Proof.Sums

/-! The optimiser's step of the input product's weights: the sum of the devices' gradients, and the step's change and moments from it. -/

@[expose] public section

set_option maxRecDepth 16384

noncomputable section

namespace Cert.Kernel21Ideal.Hand

open Idealize.ShloMosaic.TcCoe Idealize.SL.Sem
open Cert.Kernel21Ideal Cert.Kernel21Ideal.Gen Idealize.ShloMosaic
open Cert.Sums Cert.Reference21Ideal.Read

/-! ## What the body stores -/

theorem part (d : ℕ) (hd : d < 8) (h : ∀ a, (![d, 0, 0] : Fin 3 → ℕ) a + S1x256x648.size a ≤ S8x256x648.size a) (x : Vec Ideal S8x256x648 .bf16) (p : Fin 256) (q : Fin 648) :
    View.ld x (Rect.unit (s := S8x256x648) ![d, 0, 0] ![1, 256, 648] h) (ix3 0 p q) = x (ix3 ⟨d, hd⟩ p q) := by
  refine congrArg x (funext fun a => Fin.ext ?_)
  match a with
  | ⟨0, _⟩ => rfl
  | ⟨1, _⟩ => show 0 + 1 * p.val = p.val; omega
  | ⟨2, _⟩ => show 0 + 1 * q.val = q.val; omega

/-- The sum of the devices' parts of the gradient, as the body forms it from a block of them. -/
def gsum (x0 : Vec Ideal S8x256x648 .bf16) : Vec Ideal S256x648 .f32 := k0_pay4 (View.ld x0 (Rect.unit (s := S8x256x648) ![0, 0, 0] ![1, 256, 648] inb_S8x256x648_S1x256x648_0_0_0)) (View.ld x0 (Rect.unit (s := S8x256x648) ![1, 0, 0] ![1, 256, 648] inb_S8x256x648_S1x256x648_1_0_0)) (View.ld x0 (Rect.unit (s := S8x256x648) ![2, 0, 0] ![1, 256, 648] inb_S8x256x648_S1x256x648_2_0_0)) (View.ld x0 (Rect.unit (s := S8x256x648) ![3, 0, 0] ![1, 256, 648] inb_S8x256x648_S1x256x648_3_0_0)) (View.ld x0 (Rect.unit (s := S8x256x648) ![4, 0, 0] ![1, 256, 648] inb_S8x256x648_S1x256x648_4_0_0)) (View.ld x0 (Rect.unit (s := S8x256x648) ![5, 0, 0] ![1, 256, 648] inb_S8x256x648_S1x256x648_5_0_0)) (View.ld x0 (Rect.unit (s := S8x256x648) ![6, 0, 0] ![1, 256, 648] inb_S8x256x648_S1x256x648_6_0_0)) (View.ld x0 (Rect.unit (s := S8x256x648) ![7, 0, 0] ![1, 256, 648] inb_S8x256x648_S1x256x648_7_0_0))

theorem gsum_apply (x0 : Vec Ideal S8x256x648 .bf16) (p : Fin 256) (q : Fin 648) :
    gsum x0 (ix2 p q) = ∑ d : Fin 8, x0 (ix3 d p q) := by
  have e : ∀ a0 a1 a2 a3 a4 a5 a6 a7 : Vec Ideal S1x256x648 .bf16, k0_pay4 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q) + a7 (ix3 0 p q) := by
    intro a0 a1 a2 a3 a4 a5 a6 a7
    pointwise [k0_pay4]
  refine (e _ _ _ _ _ _ _ _).trans ?_
  rw [Fin.sum_univ_eight, part 0 (by decide), part 1 (by decide), part 2 (by decide), part 3 (by decide), part 4 (by decide), part 5 (by decide), part 6 (by decide), part 7 (by decide)] <;> rfl

theorem out4 (x0 : Vec Ideal S8x256x648 .bf16) (x1 x2 x3 : Vec Ideal S256x648 .f32) : out0_4 (F := Ideal) x0 x1 x2 x3 = gsum x0 := by
  unfold out0_4
  exact canon2 _ _

theorem out5 (x0 : Vec Ideal S8x256x648 .bf16) (x1 x2 x3 : Vec Ideal S256x648 .f32) : out0_5 (F := Ideal) x0 x1 x2 x3 = k0_pay3 (gsum x0) x2 x3 x1 := by
  unfold out0_5
  refine (canon2 _ _).trans ?_
  show k0_pay3 (gsum x0) (View.ld x2 (Rect.unit (s := S256x648) ![0, 0] ![256, 648] inb_S256x648_S256x648_0_0)) (View.ld x3 (Rect.unit (s := S256x648) ![0, 0] ![256, 648] inb_S256x648_S256x648_0_0)) (View.ld x1 (Rect.unit (s := S256x648) ![0, 0] ![256, 648] inb_S256x648_S256x648_0_0)) = _
  simp only [ld2]

theorem out6 (x0 : Vec Ideal S8x256x648 .bf16) (x1 x2 x3 : Vec Ideal S256x648 .f32) : out0_6 (F := Ideal) x0 x1 x2 x3 = k0_pay1 (gsum x0) x2 := by
  unfold out0_6
  refine (canon2 _ _).trans ?_
  show k0_pay1 (gsum x0) (View.ld x2 (Rect.unit (s := S256x648) ![0, 0] ![256, 648] inb_S256x648_S256x648_0_0)) = _
  simp only [ld2]

theorem out7 (x0 : Vec Ideal S8x256x648 .bf16) (x1 x2 x3 : Vec Ideal S256x648 .f32) : out0_7 (F := Ideal) x0 x1 x2 x3 = k0_pay2 (gsum x0) x3 := by
  unfold out0_7
  refine (canon2 _ _).trans ?_
  show k0_pay2 (gsum x0) (View.ld x3 (Rect.unit (s := S256x648) ![0, 0] ![256, 648] inb_S256x648_S256x648_0_0)) = _
  simp only [ld2]

/-! ## The blocks of the arrays -/

/-- The row that a place in point `t`'s block stands for. -/
def row (t : ℕ) (p : Fin 256) : Fin 2048 := at' (by decide) 256 t p.val

theorem idx0 : ∀ t : Fin grid0.N, win0_0.index t 0 = 0 ∧ win0_0.index t 1 = t.val ∧ win0_0.index t 2 = 0 := by decide +kernel
theorem idx1 : ∀ t : Fin grid0.N, win0_1.index t 0 = t.val ∧ win0_1.index t 1 = 0 := by decide +kernel
theorem t_lt (t : Fin cfg0.N) : t.val < 8 := lt_of_lt_of_eq t.isLt N_0
theorem row_val {t : ℕ} (ht : t < 8) (p : Fin 256) : (row t p).val = 256 * t + p.val := at'_val _ (by have := p.isLt; omega)

theorem rd0 (X : Vec Ideal S8x2048x648 .bf16) (t : Fin cfg0.N) (d : Fin 8) (p : Fin 256) (q : Fin 648) :
    ((cfg0.win 0).blk t).view.read (Elt Ideal) X (ix3 d p q) = X (ix3 d (row t.val p) q) := by
  have ht := t_lt t
  rw [View.read_apply]
  refine congrArg X ?_
  funext a
  apply Fin.ext
  match a with
  | ⟨0, _⟩ => show win0_0.index t 0 * 8 + 1 * d.val = d.val; rw [(idx0 t).1]; omega
  | ⟨1, _⟩ => show win0_0.index t 1 * 256 + 1 * p.val = (row t.val p).val; rw [(idx0 t).2.1, row_val ht p]; omega
  | ⟨2, _⟩ => show win0_0.index t 2 * 648 + 1 * q.val = q.val; rw [(idx0 t).2.2]; omega

/-- The windows of the weights, of the moments and of the results all move by one block of rows a point. -/
theorem at0 (t : Fin cfg0.N) (p : Fin 256) : win0_1.index t 0 * 256 + 1 * p.val = (row t.val p).val := by
  rw [(idx1 t).1, row_val (t_lt t) p]; omega
theorem at1 (t : Fin cfg0.N) (q : Fin 648) : win0_1.index t 1 * 648 + 1 * q.val = q.val := by
  rw [(idx1 t).2]; omega
theorem cov (i : S2048x648.Idx) : ∃ t : Fin cfg0.N, i ∈ (win0_1.rect t).set := by
  have h0 : (i 0).val < 2048 := (i 0).isLt
  have h1 : (i 1).val < 648 := (i 1).isLt
  refine ⟨⟨(i 0).val / 256, lt_of_lt_of_eq (by omega : _ < 8) N_0.symm⟩, ?_⟩
  generalize ht : (⟨(i 0).val / 256, _⟩ : Fin cfg0.N) = t
  have tv : t.val = (i 0).val / 256 := by rw [← ht]
  have hi := idx1 t
  rw [Rect.mem_set_unit]
  intro a
  match a with
  | ⟨0, _⟩ => show win0_1.index t 0 * 256 ≤ (i 0).val ∧ (i 0).val < win0_1.index t 0 * 256 + 256; rw [hi.1]; omega
  | ⟨1, _⟩ => show win0_1.index t 1 * 648 ≤ (i 1).val ∧ (i 1).val < win0_1.index t 1 * 648 + 648; rw [hi.2]; omega

theorem rd1 (X : Vec Ideal S2048x648 .f32) (t : Fin cfg0.N) (p : Fin 256) (q : Fin 648) :
    ((cfg0.win 1).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd2 (X : Vec Ideal S2048x648 .f32) (t : Fin cfg0.N) (p : Fin 256) (q : Fin 648) :
    ((cfg0.win 2).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd3 (X : Vec Ideal S2048x648 .f32) (t : Fin cfg0.N) (p : Fin 256) (q : Fin 648) :
    ((cfg0.win 3).blk t).view.read (Elt Ideal) X (ix2 p q) = X (ix2 (row t.val p) q) :=
  (View.read_apply ..).trans (congrArg X (funext fun a => Fin.ext (match a with | ⟨0, _⟩ => at0 t p | ⟨1, _⟩ => at1 t q)))

/-! ## The step at an index: a block's is the reference's where the block's entries are the arrays' -/

theorem g_eq (X0 : Vec Ideal S8x2048x648 .bf16) (p : Fin 2048) (q : Fin 648) :
    val_main_v1 (F := Ideal) X0 (ix2 p q) = ∑ d : Fin 8, X0 (ix3 d p q) := by
  pointwise [val_main_v1, val_main_cst, val_main_v0]

theorem m_eq (G x2 : Vec Ideal S256x648 .f32) (X0 : Vec Ideal S8x2048x648 .bf16) (X2 : Vec Ideal S2048x648 .f32) (i : Fin 256) (p : Fin 2048) (q : Fin 648)
    (hg : G (ix2 i q) = val_main_v1 (F := Ideal) X0 (ix2 p q)) (h2 : x2 (ix2 i q) = X2 (ix2 p q)) :
    k0_pay1 (F := Ideal) G x2 (ix2 i q) = val_main_v6 (F := Ideal) X0 X2 (ix2 p q) := by
  unfold val_main_v6 val_main_v5
  generalize val_main_v1 (F := Ideal) X0 = Y at hg ⊢
  pointwise [k0_pay1, val_main_v4, val_main_v3, val_main_v2, val_main_cst_0, val_main_cst_1]
  rw [hg, h2]

theorem v_eq (G x3 : Vec Ideal S256x648 .f32) (X0 : Vec Ideal S8x2048x648 .bf16) (X3 : Vec Ideal S2048x648 .f32) (i : Fin 256) (p : Fin 2048) (q : Fin 648)
    (hg : G (ix2 i q) = val_main_v1 (F := Ideal) X0 (ix2 p q)) (h3 : x3 (ix2 i q) = X3 (ix2 p q)) :
    k0_pay2 (F := Ideal) G x3 (ix2 i q) = val_main_v12 (F := Ideal) X0 X3 (ix2 p q) := by
  unfold val_main_v12 val_main_v11 val_main_v9
  generalize val_main_v1 (F := Ideal) X0 = Y at hg ⊢
  pointwise [k0_pay2, val_main_v10, val_main_v8, val_main_v7, val_main_cst_2, val_main_cst_3]
  rw [hg, h3]

theorem d_eq (G x1 x2 x3 : Vec Ideal S256x648 .f32) (X0 : Vec Ideal S8x2048x648 .bf16) (X1 X2 X3 : Vec Ideal S2048x648 .f32) (i : Fin 256) (p : Fin 2048) (q : Fin 648)
    (hg : G (ix2 i q) = val_main_v1 (F := Ideal) X0 (ix2 p q)) (h1 : x1 (ix2 i q) = X1 (ix2 p q)) (h2 : x2 (ix2 i q) = X2 (ix2 p q)) (h3 : x3 (ix2 i q) = X3 (ix2 p q)) :
    k0_pay3 (F := Ideal) G x2 x3 x1 (ix2 i q) = val_main_v25 (F := Ideal) X0 X1 X2 X3 (ix2 p q) := by
  have em := m_eq G x2 X0 X2 i p q hg h2
  have ev := v_eq G x3 X0 X3 i p q hg h3
  unfold k0_pay3 val_main_v25 val_main_v23 val_main_v20 val_main_v19 val_main_v17 val_main_v16 val_main_v14
  generalize val_main_v6 (F := Ideal) X0 X2 = Y at em ⊢
  generalize val_main_v12 (F := Ideal) X0 X3 = Z at ev ⊢
  generalize k0_pay1 (F := Ideal) G x2 = y at em ⊢
  generalize k0_pay2 (F := Ideal) G x3 = z at ev ⊢
  pointwise [val_main_v24, val_main_v22, val_main_v21, val_main_v18, val_main_v15, val_main_v13, val_main_cst_4, val_main_cst_5, val_main_cst_6, val_main_cst_7, val_main_cst_8]
  rw [em, ev, h1]

variable (m : (ℓ : Loc nD τ sig) → Buf (Elt Ideal) ℓ) (c : Dev nD)

theorem gblk (t : Fin cfg0.N) (p : Fin 256) (q : Fin 648) :
    gsum (iblk m c 0 t) (ix2 p q) = val_main_v1 (F := Ideal) (V m c main_arg0) (ix2 (row t.val p) q) := by
  refine (gsum_apply _ p q).trans ((Finset.sum_congr rfl fun d _ => ?_).trans (g_eq (V m c main_arg0) (row t.val p) q).symm)
  exact rd0 (V m c main_arg0) t d p q

theorem final4 : (dats m 0 c).arrAt 4 cfg0.N = val_main_v1 (F := Ideal) (V m c main_arg0) := by
  refine (dats m 0 c).arrAt_eq_of_cover 4 _ ?_ ?_
  · intro t _
    rw [Value.flushed4]
    funext y
    obtain ⟨p, q, rfl⟩ : ∃ (p : Fin 256) (q : Fin 648), y = (ix2 p q : S256x648.Idx) := ⟨y 0, y 1, by funext a; match a with | ⟨0, _⟩ => rfl | ⟨1, _⟩ => rfl⟩
    rw [View.read_apply]
    refine (congrFun (out4 (iblk m c 0 t) (iblk m c 1 t) (iblk m c 2 t) (iblk m c 3 t)) (ix2 p q)).trans ?_
    have e : (((cfg0.win 4).blk t).view.emb (ix2 p q : S256x648.Idx) : S2048x648.Idx) = ix2 (row t.val p) q :=
      funext fun a => Fin.ext (match a with | ⟨0, _⟩ => at0 t p | ⟨1, _⟩ => at1 t q)
    refine Eq.trans ?_ (congrArg (val_main_v1 (F := Ideal) (V m c main_arg0)) e.symm)
    exact gblk m c t p q
  · intro i
    obtain ⟨t, h⟩ := cov i
    refine ⟨t, flush0_4 _, ?_⟩
    show i ∈ ((View.whole main_v0_0).slice (win0_4.rect t)).set
    rw [View.set_slice_whole]
    exact h

theorem final5 : (dats m 0 c).arrAt 5 cfg0.N = val_main_v25 (F := Ideal) (V m c main_arg0) (V m c main_arg1) (V m c main_arg2) (V m c main_arg3) := by
  refine (dats m 0 c).arrAt_eq_of_cover 5 _ ?_ ?_
  · intro t _
    rw [Value.flushed5]
    funext y
    obtain ⟨p, q, rfl⟩ : ∃ (p : Fin 256) (q : Fin 648), y = (ix2 p q : S256x648.Idx) := ⟨y 0, y 1, by funext a; match a with | ⟨0, _⟩ => rfl | ⟨1, _⟩ => rfl⟩
    rw [View.read_apply]
    refine (congrFun (out5 (iblk m c 0 t) (iblk m c 1 t) (iblk m c 2 t) (iblk m c 3 t)) (ix2 p q)).trans ?_
    have e : (((cfg0.win 5).blk t).view.emb (ix2 p q : S256x648.Idx) : S2048x648.Idx) = ix2 (row t.val p) q :=
      funext fun a => Fin.ext (match a with | ⟨0, _⟩ => at0 t p | ⟨1, _⟩ => at1 t q)
    refine Eq.trans ?_ (congrArg (val_main_v25 (F := Ideal) (V m c main_arg0) (V m c main_arg1) (V m c main_arg2) (V m c main_arg3)) e.symm)
    exact d_eq _ _ _ _ _ _ _ _ p (row t.val p) q (gblk m c t p q) (rd1 (V m c main_arg1) t p q) (rd2 (V m c main_arg2) t p q) (rd3 (V m c main_arg3) t p q)
  · intro i
    obtain ⟨t, h⟩ := cov i
    refine ⟨t, flush0_5 _, ?_⟩
    show i ∈ ((View.whole main_v0_1).slice (win0_5.rect t)).set
    rw [View.set_slice_whole]
    exact h

theorem final6 : (dats m 0 c).arrAt 6 cfg0.N = val_main_v6 (F := Ideal) (V m c main_arg0) (V m c main_arg2) := by
  refine (dats m 0 c).arrAt_eq_of_cover 6 _ ?_ ?_
  · intro t _
    rw [Value.flushed6]
    funext y
    obtain ⟨p, q, rfl⟩ : ∃ (p : Fin 256) (q : Fin 648), y = (ix2 p q : S256x648.Idx) := ⟨y 0, y 1, by funext a; match a with | ⟨0, _⟩ => rfl | ⟨1, _⟩ => rfl⟩
    rw [View.read_apply]
    refine (congrFun (out6 (iblk m c 0 t) (iblk m c 1 t) (iblk m c 2 t) (iblk m c 3 t)) (ix2 p q)).trans ?_
    have e : (((cfg0.win 6).blk t).view.emb (ix2 p q : S256x648.Idx) : S2048x648.Idx) = ix2 (row t.val p) q :=
      funext fun a => Fin.ext (match a with | ⟨0, _⟩ => at0 t p | ⟨1, _⟩ => at1 t q)
    refine Eq.trans ?_ (congrArg (val_main_v6 (F := Ideal) (V m c main_arg0) (V m c main_arg2)) e.symm)
    exact m_eq _ _ _ _ p (row t.val p) q (gblk m c t p q) (rd2 (V m c main_arg2) t p q)
  · intro i
    obtain ⟨t, h⟩ := cov i
    refine ⟨t, flush0_6 _, ?_⟩
    show i ∈ ((View.whole main_v0_2).slice (win0_6.rect t)).set
    rw [View.set_slice_whole]
    exact h

theorem final7 : (dats m 0 c).arrAt 7 cfg0.N = val_main_v12 (F := Ideal) (V m c main_arg0) (V m c main_arg3) := by
  refine (dats m 0 c).arrAt_eq_of_cover 7 _ ?_ ?_
  · intro t _
    rw [Value.flushed7]
    funext y
    obtain ⟨p, q, rfl⟩ : ∃ (p : Fin 256) (q : Fin 648), y = (ix2 p q : S256x648.Idx) := ⟨y 0, y 1, by funext a; match a with | ⟨0, _⟩ => rfl | ⟨1, _⟩ => rfl⟩
    rw [View.read_apply]
    refine (congrFun (out7 (iblk m c 0 t) (iblk m c 1 t) (iblk m c 2 t) (iblk m c 3 t)) (ix2 p q)).trans ?_
    have e : (((cfg0.win 7).blk t).view.emb (ix2 p q : S256x648.Idx) : S2048x648.Idx) = ix2 (row t.val p) q :=
      funext fun a => Fin.ext (match a with | ⟨0, _⟩ => at0 t p | ⟨1, _⟩ => at1 t q)
    refine Eq.trans ?_ (congrArg (val_main_v12 (F := Ideal) (V m c main_arg0) (V m c main_arg3)) e.symm)
    exact v_eq _ _ _ _ p (row t.val p) q (gblk m c t p q) (rd3 (V m c main_arg3) t p q)
  · intro i
    obtain ⟨t, h⟩ := cov i
    refine ⟨t, flush0_7 _, ?_⟩
    show i ∈ ((View.whole main_v0_3).slice (win0_7.rect t)).set
    rw [View.set_slice_whole]
    exact h

set_option maxHeartbeats 2000000 in
/-- The kernel's sum, change and moments and the reference's are equal for all arguments. -/
theorem algebraic : Cert.algebraic_Kernel21Ideal_Reference21Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · exact Value.run_blocks m ρ
  · refine (θ_run Cert.Reference21Ideal.defs _ _).mono (fun r h c => ?_) (Cert.Reference21Ideal.Value.run (F := Ideal) m' ρ')
    obtain ⟨a0, a1, a2, a3⟩ := hagree c
    obtain ⟨w0, w1, w2, w3, w4⟩ := h c
    refine ⟨w0.trans ?_, w1.trans ?_, w2.trans ?_, w3.trans ?_, w4⟩
    · show _ = (dats m 0 c).arrAt 4 cfg0.N
      rw [final4 m c, val_main_v1_eq, a0, V_main_arg0]
    · show _ = (dats m 0 c).arrAt 5 cfg0.N
      rw [final5 m c, val_main_v25_eq, a0, a1, a2, a3, V_main_arg0, V_main_arg1, V_main_arg2, V_main_arg3]
    · show _ = (dats m 0 c).arrAt 6 cfg0.N
      rw [final6 m c, val_main_v6_eq, a0, a2, V_main_arg0, V_main_arg2]
    · show _ = (dats m 0 c).arrAt 7 cfg0.N
      rw [final7 m c, val_main_v12_eq, a0, a3, V_main_arg0, V_main_arg3]

end Cert.Kernel21Ideal.Hand
-- ==== Proof.AdamGate.lean ====
module

public import proofs.«01_k».proof.Proof.Gen.Kernel22Ideal.Value
public import proofs.«01_k».proof.Proof.Gen.Reference22Ideal.Run
public import proofs.«01_k».proof.Proof.Gen.Reference22Ideal.Read
public import proofs.«01_k».proof.Proof.Sums

/-! The optimiser's step of the gate's weights, and of the other factor's: the sum of the devices' gradients, and the step's change and moments from it. -/

@[expose] public section

set_option maxRecDepth 16384

noncomputable section

namespace Cert.Kernel22Ideal.Hand

open Idealize.ShloMosaic.TcCoe Idealize.SL.Sem
open Cert.Kernel22Ideal Cert.Kernel22Ideal.Gen Idealize.ShloMosaic
open Cert.Sums Cert.Reference22Ideal.Read

/-! ## What the body stores -/

theorem part (d : ℕ) (hd : d < 8) (h : ∀ a, (![d, 0, 0] : Fin 3 → ℕ) a + S1x256x704.size a ≤ S8x256x704.size a) (x : Vec Ideal S8x256x704 .bf16) (p : Fin 256) (q : Fin 704) :
    View.ld x (Rect.unit (s := S8x256x704) ![d, 0, 0] ![1, 256, 704] h) (ix3 0 p q) = x (ix3 ⟨d, hd⟩ p q) := by
  refine congrArg x (funext fun a => Fin.ext ?_)
  match a with
  | ⟨0, _⟩ => rfl
  | ⟨1, _⟩ => show 0 + 1 * p.val = p.val; omega
  | ⟨2, _⟩ => show 0 + 1 * q.val = q.val; omega

/-- The sum of the devices' parts of the gradient, as the body forms it from a block of them. -/
def gsum (x0 : Vec Ideal S8x256x704 .bf16) : Vec Ideal S256x704 .f32 := k0_pay4 (View.ld x0 (Rect.unit (s := S8x256x704) ![0, 0, 0] ![1, 256, 704] inb_S8x256x704_S1x256x704_0_0_0)) (View.ld x0 (Rect.unit (s := S8x256x704) ![1, 0, 0] ![1, 256, 704] inb_S8x256x704_S1x256x704_1_0_0)) (View.ld x0 (Rect.unit (s := S8x256x704) ![2, 0, 0] ![1, 256, 704] inb_S8x256x704_S1x256x704_2_0_0)) (View.ld x0 (Rect.unit (s := S8x256x704) ![3, 0, 0] ![1, 256, 704] inb_S8x256x704_S1x256x704_3_0_0)) (View.ld x0 (Rect.unit (s := S8x256x704) ![4, 0, 0] ![1, 256, 704] inb_S8x256x704_S1x256x704_4_0_0)) (View.ld x0 (Rect.unit (s := S8x256x704) ![5, 0, 0] ![1, 256, 704] inb_S8x256x704_S1x256x704_5_0_0)) (View.ld x0 (Rect.unit (s := S8x256x704) ![6, 0, 0] ![1, 256, 704] inb_S8x256x704_S1x256x704_6_0_0)) (View.ld x0 (Rect.unit (s := S8x256x704) ![7, 0, 0] ![1, 256, 704] inb_S8x256x704_S1x256x704_7_0_0))

theorem gsum_apply (x0 : Vec Ideal S8x256x704 .bf16) (p : Fin 256) (q : Fin 704) :
    gsum x0 (ix2 p q) = ∑ d : Fin 8, x0 (ix3 d p q) := by
  have e : ∀ a0 a1 a2 a3 a4 a5 a6 a7 : Vec Ideal S1x256x704 .bf16, k0_pay4 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q) + a7 (ix3 0 p q) := by
    intro a0 a1 a2 a3 a4 a5 a6 a7
    pointwise [k0_pay4]
  refine (e _ _ _ _ _ _ _ _).trans ?_
  rw [Fin.sum_univ_eight, part 0 (by decide), part 1 (by decide), part 2 (by decide), part 3 (by decide), part 4 (by decide), part 5 (by decide), part 6 (by decide), part 7 (by decide)] <;> rfl

theorem out4 (x0 : Vec Ideal S8x256x704 .bf16) (x1 x2 x3 : Vec Ideal S256x704 .f32) : out0_4 (F := Ideal) x0 x1 x2 x3 = gsum x0 := by
  unfold out0_4
  exact canon2 _ _

theorem out5 (x0 : Vec Ideal S8x256x704 .bf16) (x1 x2 x3 : Vec Ideal S256x704 .f32) : out0_5 (F := Ideal) x0 x1 x2 x3 = k0_pay3 (gsum x0) x2 x3 x1 := by
  unfold out0_5
  refine (canon2 _ _).trans ?_
  show k0_pay3 (gsum x0) (View.ld x2 (Rect.unit (s := S256x704) ![0, 0] ![256, 704] inb_S256x704_S256x704_0_0)) (View.ld x3 (Rect.unit (s := S256x704) ![0, 0] ![256, 704] inb_S256x704_S256x704_0_0)) (View.ld x1 (Rect.unit (s := S256x704) ![0, 0] ![256, 704] inb_S256x704_S256x704_0_0)) = _
  simp only [ld2]

theorem out6 (x0 : Vec Ideal S8x256x704 .bf16) (x1 x2 x3 : Vec Ideal S256x704 .f32) : out0_6 (F := Ideal) x0 x1 x2 x3 = k0_pay1 (gsum x0) x2 := by
  unfold out0_6
  refine (canon2 _ _).trans ?_
  show k0_pay1 (gsum x0) (View.ld x2 (Rect.unit (s := S256x704) ![0, 0] ![256, 704] inb_S256x704_S256x704_0_0)) = _
  simp only [ld2]

theorem out7 (x0 : Vec Ideal S8x256x704 .bf16) (x1 x2 x3 : Vec Ideal S256x704 .f32) : out0_7 (F := Ideal) x0 x1 x2 x3 = k0_pay2 (gsum x0) x3 := by
  unfold out0_7
  refine (canon2 _ _).trans ?_
  show k0_pay2 (gsum x0) (View.ld x3 (Rect.unit (s := S256x704) ![0, 0] ![256, 704] inb_S256x704_S256x704_0_0)) = _
  simp only [ld2]

/-! ## The blocks of the arrays -/

/-- The row that a place in point `t`'s block stands for. -/
def row (t : ℕ) (p : Fin 256) : Fin 2048 := at' (by decide) 256 t p.val

theorem idx0 : ∀ t : Fin grid0.N, win0_0.index t 0 = 0 ∧ win0_0.index t 1 = t.val ∧ win0_0.index t 2 = 0 := by decide +kernel
theorem idx1 : ∀ t : Fin grid0.N, win0_1.index t 0 = t.val ∧ win0_1.index t 1 = 0 := by decide +kernel
theorem t_lt (t : Fin cfg0.N) : t.val < 8 := lt_of_lt_of_eq t.isLt N_0
theorem row_val {t : ℕ} (ht : t < 8) (p : Fin 256) : (row t p).val = 256 * t + p.val := at'_val _ (by have := p.isLt; omega)

theorem rd0 (X : Vec Ideal S8x2048x704 .bf16) (t : Fin cfg0.N) (d : Fin 8) (p : Fin 256) (q : Fin 704) :
    ((cfg0.win 0).blk t).view.read (Elt Ideal) X (ix3 d p q) = X (ix3 d (row t.val p) q) := by
  have ht := t_lt t
  rw [View.read_apply]
  refine congrArg X ?_
  funext a
  apply Fin.ext
  match a with
  | ⟨0, _⟩ => show win0_0.index t 0 * 8 + 1 * d.val = d.val; rw [(idx0 t).1]; omega
  | ⟨1, _⟩ => show win0_0.index t 1 * 256 + 1 * p.val = (row t.val p).val; rw [(idx0 t).2.1, row_val ht p]; omega
  | ⟨2, _⟩ => show win0_0.index t 2 * 704 + 1 * q.val = q.val; rw [(idx0 t).2.2]; omega

/-- The windows of the weights, of the moments and of the results all move by one block of rows a point. -/
theorem at0 (t : Fin cfg0.N) (p : Fin 256) : win0_1.index t 0 * 256 + 1 * p.val = (row t.val p).val := by
  rw [(idx1 t).1, row_val (t_lt t) p]; omega
theorem at1 (t : Fin cfg0.N) (q : Fin 704) : win0_1.index t 1 * 704 + 1 * q.val = q.val := by
  rw [(idx1 t).2]; omega
theorem cov (i : S2048x704.Idx) : ∃ t : Fin cfg0.N, i ∈ (win0_1.rect t).set := by
  have h0 : (i 0).val < 2048 := (i 0).isLt
  have h1 : (i 1).val < 704 := (i 1).isLt
  refine ⟨⟨(i 0).val / 256, lt_of_lt_of_eq (by omega : _ < 8) N_0.symm⟩, ?_⟩
  generalize ht : (⟨(i 0).val / 256, _⟩ : Fin cfg0.N) = t
  have tv : t.val = (i 0).val / 256 := by rw [← ht]
  have hi := idx1 t
  rw [Rect.mem_set_unit]
  intro a
  match a with
  | ⟨0, _⟩ => show win0_1.index t 0 * 256 ≤ (i 0).val ∧ (i 0).val < win0_1.index t 0 * 256 + 256; rw [hi.1]; omega
  | ⟨1, _⟩ => show win0_1.index t 1 * 704 ≤ (i 1).val ∧ (i 1).val < win0_1.index t 1 * 704 + 704; rw [hi.2]; omega

theorem rd1 (X : Vec Ideal S2048x704 .f32) (t : Fin cfg0.N) (p : Fin 256) (q : Fin 704) :
    ((cfg0.win 1).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd2 (X : Vec Ideal S2048x704 .f32) (t : Fin cfg0.N) (p : Fin 256) (q : Fin 704) :
    ((cfg0.win 2).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd3 (X : Vec Ideal S2048x704 .f32) (t : Fin cfg0.N) (p : Fin 256) (q : Fin 704) :
    ((cfg0.win 3).blk t).view.read (Elt Ideal) X (ix2 p q) = X (ix2 (row t.val p) q) :=
  (View.read_apply ..).trans (congrArg X (funext fun a => Fin.ext (match a with | ⟨0, _⟩ => at0 t p | ⟨1, _⟩ => at1 t q)))

/-! ## The step at an index: a block's is the reference's where the block's entries are the arrays' -/

theorem g_eq (X0 : Vec Ideal S8x2048x704 .bf16) (p : Fin 2048) (q : Fin 704) :
    val_main_v1 (F := Ideal) X0 (ix2 p q) = ∑ d : Fin 8, X0 (ix3 d p q) := by
  pointwise [val_main_v1, val_main_cst, val_main_v0]

theorem m_eq (G x2 : Vec Ideal S256x704 .f32) (X0 : Vec Ideal S8x2048x704 .bf16) (X2 : Vec Ideal S2048x704 .f32) (i : Fin 256) (p : Fin 2048) (q : Fin 704)
    (hg : G (ix2 i q) = val_main_v1 (F := Ideal) X0 (ix2 p q)) (h2 : x2 (ix2 i q) = X2 (ix2 p q)) :
    k0_pay1 (F := Ideal) G x2 (ix2 i q) = val_main_v6 (F := Ideal) X0 X2 (ix2 p q) := by
  unfold val_main_v6 val_main_v5
  generalize val_main_v1 (F := Ideal) X0 = Y at hg ⊢
  pointwise [k0_pay1, val_main_v4, val_main_v3, val_main_v2, val_main_cst_0, val_main_cst_1]
  rw [hg, h2]

theorem v_eq (G x3 : Vec Ideal S256x704 .f32) (X0 : Vec Ideal S8x2048x704 .bf16) (X3 : Vec Ideal S2048x704 .f32) (i : Fin 256) (p : Fin 2048) (q : Fin 704)
    (hg : G (ix2 i q) = val_main_v1 (F := Ideal) X0 (ix2 p q)) (h3 : x3 (ix2 i q) = X3 (ix2 p q)) :
    k0_pay2 (F := Ideal) G x3 (ix2 i q) = val_main_v12 (F := Ideal) X0 X3 (ix2 p q) := by
  unfold val_main_v12 val_main_v11 val_main_v9
  generalize val_main_v1 (F := Ideal) X0 = Y at hg ⊢
  pointwise [k0_pay2, val_main_v10, val_main_v8, val_main_v7, val_main_cst_2, val_main_cst_3]
  rw [hg, h3]

theorem d_eq (G x1 x2 x3 : Vec Ideal S256x704 .f32) (X0 : Vec Ideal S8x2048x704 .bf16) (X1 X2 X3 : Vec Ideal S2048x704 .f32) (i : Fin 256) (p : Fin 2048) (q : Fin 704)
    (hg : G (ix2 i q) = val_main_v1 (F := Ideal) X0 (ix2 p q)) (h1 : x1 (ix2 i q) = X1 (ix2 p q)) (h2 : x2 (ix2 i q) = X2 (ix2 p q)) (h3 : x3 (ix2 i q) = X3 (ix2 p q)) :
    k0_pay3 (F := Ideal) G x2 x3 x1 (ix2 i q) = val_main_v25 (F := Ideal) X0 X1 X2 X3 (ix2 p q) := by
  have em := m_eq G x2 X0 X2 i p q hg h2
  have ev := v_eq G x3 X0 X3 i p q hg h3
  unfold k0_pay3 val_main_v25 val_main_v23 val_main_v20 val_main_v19 val_main_v17 val_main_v16 val_main_v14
  generalize val_main_v6 (F := Ideal) X0 X2 = Y at em ⊢
  generalize val_main_v12 (F := Ideal) X0 X3 = Z at ev ⊢
  generalize k0_pay1 (F := Ideal) G x2 = y at em ⊢
  generalize k0_pay2 (F := Ideal) G x3 = z at ev ⊢
  pointwise [val_main_v24, val_main_v22, val_main_v21, val_main_v18, val_main_v15, val_main_v13, val_main_cst_4, val_main_cst_5, val_main_cst_6, val_main_cst_7, val_main_cst_8]
  rw [em, ev, h1]

variable (m : (ℓ : Loc nD τ sig) → Buf (Elt Ideal) ℓ) (c : Dev nD)

theorem gblk (t : Fin cfg0.N) (p : Fin 256) (q : Fin 704) :
    gsum (iblk m c 0 t) (ix2 p q) = val_main_v1 (F := Ideal) (V m c main_arg0) (ix2 (row t.val p) q) := by
  refine (gsum_apply _ p q).trans ((Finset.sum_congr rfl fun d _ => ?_).trans (g_eq (V m c main_arg0) (row t.val p) q).symm)
  exact rd0 (V m c main_arg0) t d p q

theorem final4 : (dats m 0 c).arrAt 4 cfg0.N = val_main_v1 (F := Ideal) (V m c main_arg0) := by
  refine (dats m 0 c).arrAt_eq_of_cover 4 _ ?_ ?_
  · intro t _
    rw [Value.flushed4]
    funext y
    obtain ⟨p, q, rfl⟩ : ∃ (p : Fin 256) (q : Fin 704), y = (ix2 p q : S256x704.Idx) := ⟨y 0, y 1, by funext a; match a with | ⟨0, _⟩ => rfl | ⟨1, _⟩ => rfl⟩
    rw [View.read_apply]
    refine (congrFun (out4 (iblk m c 0 t) (iblk m c 1 t) (iblk m c 2 t) (iblk m c 3 t)) (ix2 p q)).trans ?_
    have e : (((cfg0.win 4).blk t).view.emb (ix2 p q : S256x704.Idx) : S2048x704.Idx) = ix2 (row t.val p) q :=
      funext fun a => Fin.ext (match a with | ⟨0, _⟩ => at0 t p | ⟨1, _⟩ => at1 t q)
    refine Eq.trans ?_ (congrArg (val_main_v1 (F := Ideal) (V m c main_arg0)) e.symm)
    exact gblk m c t p q
  · intro i
    obtain ⟨t, h⟩ := cov i
    refine ⟨t, flush0_4 _, ?_⟩
    show i ∈ ((View.whole main_v0_0).slice (win0_4.rect t)).set
    rw [View.set_slice_whole]
    exact h

theorem final5 : (dats m 0 c).arrAt 5 cfg0.N = val_main_v25 (F := Ideal) (V m c main_arg0) (V m c main_arg1) (V m c main_arg2) (V m c main_arg3) := by
  refine (dats m 0 c).arrAt_eq_of_cover 5 _ ?_ ?_
  · intro t _
    rw [Value.flushed5]
    funext y
    obtain ⟨p, q, rfl⟩ : ∃ (p : Fin 256) (q : Fin 704), y = (ix2 p q : S256x704.Idx) := ⟨y 0, y 1, by funext a; match a with | ⟨0, _⟩ => rfl | ⟨1, _⟩ => rfl⟩
    rw [View.read_apply]
    refine (congrFun (out5 (iblk m c 0 t) (iblk m c 1 t) (iblk m c 2 t) (iblk m c 3 t)) (ix2 p q)).trans ?_
    have e : (((cfg0.win 5).blk t).view.emb (ix2 p q : S256x704.Idx) : S2048x704.Idx) = ix2 (row t.val p) q :=
      funext fun a => Fin.ext (match a with | ⟨0, _⟩ => at0 t p | ⟨1, _⟩ => at1 t q)
    refine Eq.trans ?_ (congrArg (val_main_v25 (F := Ideal) (V m c main_arg0) (V m c main_arg1) (V m c main_arg2) (V m c main_arg3)) e.symm)
    exact d_eq _ _ _ _ _ _ _ _ p (row t.val p) q (gblk m c t p q) (rd1 (V m c main_arg1) t p q) (rd2 (V m c main_arg2) t p q) (rd3 (V m c main_arg3) t p q)
  · intro i
    obtain ⟨t, h⟩ := cov i
    refine ⟨t, flush0_5 _, ?_⟩
    show i ∈ ((View.whole main_v0_1).slice (win0_5.rect t)).set
    rw [View.set_slice_whole]
    exact h

theorem final6 : (dats m 0 c).arrAt 6 cfg0.N = val_main_v6 (F := Ideal) (V m c main_arg0) (V m c main_arg2) := by
  refine (dats m 0 c).arrAt_eq_of_cover 6 _ ?_ ?_
  · intro t _
    rw [Value.flushed6]
    funext y
    obtain ⟨p, q, rfl⟩ : ∃ (p : Fin 256) (q : Fin 704), y = (ix2 p q : S256x704.Idx) := ⟨y 0, y 1, by funext a; match a with | ⟨0, _⟩ => rfl | ⟨1, _⟩ => rfl⟩
    rw [View.read_apply]
    refine (congrFun (out6 (iblk m c 0 t) (iblk m c 1 t) (iblk m c 2 t) (iblk m c 3 t)) (ix2 p q)).trans ?_
    have e : (((cfg0.win 6).blk t).view.emb (ix2 p q : S256x704.Idx) : S2048x704.Idx) = ix2 (row t.val p) q :=
      funext fun a => Fin.ext (match a with | ⟨0, _⟩ => at0 t p | ⟨1, _⟩ => at1 t q)
    refine Eq.trans ?_ (congrArg (val_main_v6 (F := Ideal) (V m c main_arg0) (V m c main_arg2)) e.symm)
    exact m_eq _ _ _ _ p (row t.val p) q (gblk m c t p q) (rd2 (V m c main_arg2) t p q)
  · intro i
    obtain ⟨t, h⟩ := cov i
    refine ⟨t, flush0_6 _, ?_⟩
    show i ∈ ((View.whole main_v0_2).slice (win0_6.rect t)).set
    rw [View.set_slice_whole]
    exact h

theorem final7 : (dats m 0 c).arrAt 7 cfg0.N = val_main_v12 (F := Ideal) (V m c main_arg0) (V m c main_arg3) := by
  refine (dats m 0 c).arrAt_eq_of_cover 7 _ ?_ ?_
  · intro t _
    rw [Value.flushed7]
    funext y
    obtain ⟨p, q, rfl⟩ : ∃ (p : Fin 256) (q : Fin 704), y = (ix2 p q : S256x704.Idx) := ⟨y 0, y 1, by funext a; match a with | ⟨0, _⟩ => rfl | ⟨1, _⟩ => rfl⟩
    rw [View.read_apply]
    refine (congrFun (out7 (iblk m c 0 t) (iblk m c 1 t) (iblk m c 2 t) (iblk m c 3 t)) (ix2 p q)).trans ?_
    have e : (((cfg0.win 7).blk t).view.emb (ix2 p q : S256x704.Idx) : S2048x704.Idx) = ix2 (row t.val p) q :=
      funext fun a => Fin.ext (match a with | ⟨0, _⟩ => at0 t p | ⟨1, _⟩ => at1 t q)
    refine Eq.trans ?_ (congrArg (val_main_v12 (F := Ideal) (V m c main_arg0) (V m c main_arg3)) e.symm)
    exact v_eq _ _ _ _ p (row t.val p) q (gblk m c t p q) (rd3 (V m c main_arg3) t p q)
  · intro i
    obtain ⟨t, h⟩ := cov i
    refine ⟨t, flush0_7 _, ?_⟩
    show i ∈ ((View.whole main_v0_3).slice (win0_7.rect t)).set
    rw [View.set_slice_whole]
    exact h

set_option maxHeartbeats 2000000 in
/-- The kernel's sum, change and moments and the reference's are equal for all arguments. -/
theorem algebraic : Cert.algebraic_Kernel22Ideal_Reference22Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · exact Value.run_blocks m ρ
  · refine (θ_run Cert.Reference22Ideal.defs _ _).mono (fun r h c => ?_) (Cert.Reference22Ideal.Value.run (F := Ideal) m' ρ')
    obtain ⟨a0, a1, a2, a3⟩ := hagree c
    obtain ⟨w0, w1, w2, w3, w4⟩ := h c
    refine ⟨w0.trans ?_, w1.trans ?_, w2.trans ?_, w3.trans ?_, w4⟩
    · show _ = (dats m 0 c).arrAt 4 cfg0.N
      rw [final4 m c, val_main_v1_eq, a0, V_main_arg0]
    · show _ = (dats m 0 c).arrAt 5 cfg0.N
      rw [final5 m c, val_main_v25_eq, a0, a1, a2, a3, V_main_arg0, V_main_arg1, V_main_arg2, V_main_arg3]
    · show _ = (dats m 0 c).arrAt 6 cfg0.N
      rw [final6 m c, val_main_v6_eq, a0, a2, V_main_arg0, V_main_arg2]
    · show _ = (dats m 0 c).arrAt 7 cfg0.N
      rw [final7 m c, val_main_v12_eq, a0, a3, V_main_arg0, V_main_arg3]

end Cert.Kernel22Ideal.Hand
-- ==== Proof.AdamDown.lean ====
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Sums

/-! The optimiser's step of the second feed-forward product's weights: the sum of the devices' gradients, and the step's change and moments from it. -/

@[expose] public section

set_option maxRecDepth 16384

noncomputable section

namespace Cert.Kernel23Ideal.Hand

open Idealize.ShloMosaic.TcCoe Idealize.SL.Sem
open Cert.Kernel23Ideal Cert.Kernel23Ideal.Gen Idealize.ShloMosaic
open Cert.Sums Cert.Reference23Ideal.Read

/-! ## What the body stores -/

theorem part (d : ℕ) (hd : d < 8) (h : ∀ a, (![d, 0, 0] : Fin 3 → ℕ) a + S1x64x2048.size a ≤ S8x64x2048.size a) (x : Vec Ideal S8x64x2048 .bf16) (p : Fin 64) (q : Fin 2048) :
    View.ld x (Rect.unit (s := S8x64x2048) ![d, 0, 0] ![1, 64, 2048] h) (ix3 0 p q) = x (ix3 ⟨d, hd⟩ p q) := by
  refine congrArg x (funext fun a => Fin.ext ?_)
  match a with
  | ⟨0, _⟩ => rfl
  | ⟨1, _⟩ => show 0 + 1 * p.val = p.val; omega
  | ⟨2, _⟩ => show 0 + 1 * q.val = q.val; omega

/-- The sum of the devices' parts of the gradient, as the body forms it from a block of them. -/
def gsum (x0 : Vec Ideal S8x64x2048 .bf16) : Vec Ideal S64x2048 .f32 := k0_pay4 (View.ld x0 (Rect.unit (s := S8x64x2048) ![0, 0, 0] ![1, 64, 2048] inb_S8x64x2048_S1x64x2048_0_0_0)) (View.ld x0 (Rect.unit (s := S8x64x2048) ![1, 0, 0] ![1, 64, 2048] inb_S8x64x2048_S1x64x2048_1_0_0)) (View.ld x0 (Rect.unit (s := S8x64x2048) ![2, 0, 0] ![1, 64, 2048] inb_S8x64x2048_S1x64x2048_2_0_0)) (View.ld x0 (Rect.unit (s := S8x64x2048) ![3, 0, 0] ![1, 64, 2048] inb_S8x64x2048_S1x64x2048_3_0_0)) (View.ld x0 (Rect.unit (s := S8x64x2048) ![4, 0, 0] ![1, 64, 2048] inb_S8x64x2048_S1x64x2048_4_0_0)) (View.ld x0 (Rect.unit (s := S8x64x2048) ![5, 0, 0] ![1, 64, 2048] inb_S8x64x2048_S1x64x2048_5_0_0)) (View.ld x0 (Rect.unit (s := S8x64x2048) ![6, 0, 0] ![1, 64, 2048] inb_S8x64x2048_S1x64x2048_6_0_0)) (View.ld x0 (Rect.unit (s := S8x64x2048) ![7, 0, 0] ![1, 64, 2048] inb_S8x64x2048_S1x64x2048_7_0_0))

theorem gsum_apply (x0 : Vec Ideal S8x64x2048 .bf16) (p : Fin 64) (q : Fin 2048) :
    gsum x0 (ix2 p q) = ∑ d : Fin 8, x0 (ix3 d p q) := by
  have e : ∀ a0 a1 a2 a3 a4 a5 a6 a7 : Vec Ideal S1x64x2048 .bf16, k0_pay4 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q) + a7 (ix3 0 p q) := by
    intro a0 a1 a2 a3 a4 a5 a6 a7
    pointwise [k0_pay4]
  refine (e _ _ _ _ _ _ _ _).trans ?_
  rw [Fin.sum_univ_eight, part 0 (by decide), part 1 (by decide), part 2 (by decide), part 3 (by decide), part 4 (by decide), part 5 (by decide), part 6 (by decide), part 7 (by decide)] <;> rfl

theorem out4 (x0 : Vec Ideal S8x64x2048 .bf16) (x1 x2 x3 : Vec Ideal S64x2048 .f32) : out0_4 (F := Ideal) x0 x1 x2 x3 = gsum x0 := by
  unfold out0_4
  exact canon2 _ _

theorem out5 (x0 : Vec Ideal S8x64x2048 .bf16) (x1 x2 x3 : Vec Ideal S64x2048 .f32) : out0_5 (F := Ideal) x0 x1 x2 x3 = k0_pay3 (gsum x0) x2 x3 x1 := by
  unfold out0_5
  refine (canon2 _ _).trans ?_
  show k0_pay3 (gsum x0) (View.ld x2 (Rect.unit (s := S64x2048) ![0, 0] ![64, 2048] inb_S64x2048_S64x2048_0_0)) (View.ld x3 (Rect.unit (s := S64x2048) ![0, 0] ![64, 2048] inb_S64x2048_S64x2048_0_0)) (View.ld x1 (Rect.unit (s := S64x2048) ![0, 0] ![64, 2048] inb_S64x2048_S64x2048_0_0)) = _
  simp only [ld2]

theorem out6 (x0 : Vec Ideal S8x64x2048 .bf16) (x1 x2 x3 : Vec Ideal S64x2048 .f32) : out0_6 (F := Ideal) x0 x1 x2 x3 = k0_pay1 (gsum x0) x2 := by
  unfold out0_6
  refine (canon2 _ _).trans ?_
  show k0_pay1 (gsum x0) (View.ld x2 (Rect.unit (s := S64x2048) ![0, 0] ![64, 2048] inb_S64x2048_S64x2048_0_0)) = _
  simp only [ld2]

theorem out7 (x0 : Vec Ideal S8x64x2048 .bf16) (x1 x2 x3 : Vec Ideal S64x2048 .f32) : out0_7 (F := Ideal) x0 x1 x2 x3 = k0_pay2 (gsum x0) x3 := by
  unfold out0_7
  refine (canon2 _ _).trans ?_
  show k0_pay2 (gsum x0) (View.ld x3 (Rect.unit (s := S64x2048) ![0, 0] ![64, 2048] inb_S64x2048_S64x2048_0_0)) = _
  simp only [ld2]

/-! ## The blocks of the arrays -/

/-- The row that a place in point `t`'s block stands for. -/
def row (t : ℕ) (p : Fin 64) : Fin 704 := at' (by decide) 64 t p.val

theorem idx0 : ∀ t : Fin grid0.N, win0_0.index t 0 = 0 ∧ win0_0.index t 1 = t.val ∧ win0_0.index t 2 = 0 := by decide +kernel
theorem idx1 : ∀ t : Fin grid0.N, win0_1.index t 0 = t.val ∧ win0_1.index t 1 = 0 := by decide +kernel
theorem t_lt (t : Fin cfg0.N) : t.val < 11 := lt_of_lt_of_eq t.isLt N_0
theorem row_val {t : ℕ} (ht : t < 11) (p : Fin 64) : (row t p).val = 64 * t + p.val := at'_val _ (by have := p.isLt; omega)

theorem rd0 (X : Vec Ideal S8x704x2048 .bf16) (t : Fin cfg0.N) (d : Fin 8) (p : Fin 64) (q : Fin 2048) :
    ((cfg0.win 0).blk t).view.read (Elt Ideal) X (ix3 d p q) = X (ix3 d (row t.val p) q) := by
  have ht := t_lt t
  rw [View.read_apply]
  refine congrArg X ?_
  funext a
  apply Fin.ext
  match a with
  | ⟨0, _⟩ => show win0_0.index t 0 * 8 + 1 * d.val = d.val; rw [(idx0 t).1]; omega
  | ⟨1, _⟩ => show win0_0.index t 1 * 64 + 1 * p.val = (row t.val p).val; rw [(idx0 t).2.1, row_val ht p]; omega
  | ⟨2, _⟩ => show win0_0.index t 2 * 2048 + 1 * q.val = q.val; rw [(idx0 t).2.2]; omega

/-- The windows of the weights, of the moments and of the results all move by one block of rows a point. -/
theorem at0 (t : Fin cfg0.N) (p : Fin 64) : win0_1.index t 0 * 64 + 1 * p.val = (row t.val p).val := by
  rw [(idx1 t).1, row_val (t_lt t) p]; omega
theorem at1 (t : Fin cfg0.N) (q : Fin 2048) : win0_1.index t 1 * 2048 + 1 * q.val = q.val := by
  rw [(idx1 t).2]; omega
theorem cov (i : S704x2048.Idx) : ∃ t : Fin cfg0.N, i ∈ (win0_1.rect t).set := by
  have h0 : (i 0).val < 704 := (i 0).isLt
  have h1 : (i 1).val < 2048 := (i 1).isLt
  refine ⟨⟨(i 0).val / 64, lt_of_lt_of_eq (by omega : _ < 11) N_0.symm⟩, ?_⟩
  generalize ht : (⟨(i 0).val / 64, _⟩ : Fin cfg0.N) = t
  have tv : t.val = (i 0).val / 64 := by rw [← ht]
  have hi := idx1 t
  rw [Rect.mem_set_unit]
  intro a
  match a with
  | ⟨0, _⟩ => show win0_1.index t 0 * 64 ≤ (i 0).val ∧ (i 0).val < win0_1.index t 0 * 64 + 64; rw [hi.1]; omega
  | ⟨1, _⟩ => show win0_1.index t 1 * 2048 ≤ (i 1).val ∧ (i 1).val < win0_1.index t 1 * 2048 + 2048; rw [hi.2]; omega

theorem rd1 (X : Vec Ideal S704x2048 .f32) (t : Fin cfg0.N) (p : Fin 64) (q : Fin 2048) :
    ((cfg0.win 1).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd2 (X : Vec Ideal S704x2048 .f32) (t : Fin cfg0.N) (p : Fin 64) (q : Fin 2048) :
    ((cfg0.win 2).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd3 (X : Vec Ideal S704x2048 .f32) (t : Fin cfg0.N) (p : Fin 64) (q : Fin 2048) :
    ((cfg0.win 3).blk t).view.read (Elt Ideal) X (ix2 p q) = X (ix2 (row t.val p) q) :=
  (View.read_apply ..).trans (congrArg X (funext fun a => Fin.ext (match a with | ⟨0, _⟩ => at0 t p | ⟨1, _⟩ => at1 t q)))

/-! ## The step at an index: a block's is the reference's where the block's entries are the arrays' -/

theorem g_eq (X0 : Vec Ideal S8x704x2048 .bf16) (p : Fin 704) (q : Fin 2048) :
    val_main_v1 (F := Ideal) X0 (ix2 p q) = ∑ d : Fin 8, X0 (ix3 d p q) := by
  pointwise [val_main_v1, val_main_cst, val_main_v0]

theorem m_eq (G x2 : Vec Ideal S64x2048 .f32) (X0 : Vec Ideal S8x704x2048 .bf16) (X2 : Vec Ideal S704x2048 .f32) (i : Fin 64) (p : Fin 704) (q : Fin 2048)
    (hg : G (ix2 i q) = val_main_v1 (F := Ideal) X0 (ix2 p q)) (h2 : x2 (ix2 i q) = X2 (ix2 p q)) :
    k0_pay1 (F := Ideal) G x2 (ix2 i q) = val_main_v6 (F := Ideal) X0 X2 (ix2 p q) := by
  unfold val_main_v6 val_main_v5
  generalize val_main_v1 (F := Ideal) X0 = Y at hg ⊢
  pointwise [k0_pay1, val_main_v4, val_main_v3, val_main_v2, val_main_cst_0, val_main_cst_1]
  rw [hg, h2]

theorem v_eq (G x3 : Vec Ideal S64x2048 .f32) (X0 : Vec Ideal S8x704x2048 .bf16) (X3 : Vec Ideal S704x2048 .f32) (i : Fin 64) (p : Fin 704) (q : Fin 2048)
    (hg : G (ix2 i q) = val_main_v1 (F := Ideal) X0 (ix2 p q)) (h3 : x3 (ix2 i q) = X3 (ix2 p q)) :
    k0_pay2 (F := Ideal) G x3 (ix2 i q) = val_main_v12 (F := Ideal) X0 X3 (ix2 p q) := by
  unfold val_main_v12 val_main_v11 val_main_v9
  generalize val_main_v1 (F := Ideal) X0 = Y at hg ⊢
  pointwise [k0_pay2, val_main_v10, val_main_v8, val_main_v7, val_main_cst_2, val_main_cst_3]
  rw [hg, h3]

theorem d_eq (G x1 x2 x3 : Vec Ideal S64x2048 .f32) (X0 : Vec Ideal S8x704x2048 .bf16) (X1 X2 X3 : Vec Ideal S704x2048 .f32) (i : Fin 64) (p : Fin 704) (q : Fin 2048)
    (hg : G (ix2 i q) = val_main_v1 (F := Ideal) X0 (ix2 p q)) (h1 : x1 (ix2 i q) = X1 (ix2 p q)) (h2 : x2 (ix2 i q) = X2 (ix2 p q)) (h3 : x3 (ix2 i q) = X3 (ix2 p q)) :
    k0_pay3 (F := Ideal) G x2 x3 x1 (ix2 i q) = val_main_v25 (F := Ideal) X0 X1 X2 X3 (ix2 p q) := by
  have em := m_eq G x2 X0 X2 i p q hg h2
  have ev := v_eq G x3 X0 X3 i p q hg h3
  unfold k0_pay3 val_main_v25 val_main_v23 val_main_v20 val_main_v19 val_main_v17 val_main_v16 val_main_v14
  generalize val_main_v6 (F := Ideal) X0 X2 = Y at em ⊢
  generalize val_main_v12 (F := Ideal) X0 X3 = Z at ev ⊢
  generalize k0_pay1 (F := Ideal) G x2 = y at em ⊢
  generalize k0_pay2 (F := Ideal) G x3 = z at ev ⊢
  pointwise [val_main_v24, val_main_v22, val_main_v21, val_main_v18, val_main_v15, val_main_v13, val_main_cst_4, val_main_cst_5, val_main_cst_6, val_main_cst_7, val_main_cst_8]
  rw [em, ev, h1]

variable (m : (ℓ : Loc nD τ sig) → Buf (Elt Ideal) ℓ) (c : Dev nD)

theorem gblk (t : Fin cfg0.N) (p : Fin 64) (q : Fin 2048) :
    gsum (iblk m c 0 t) (ix2 p q) = val_main_v1 (F := Ideal) (V m c main_arg0) (ix2 (row t.val p) q) := by
  refine (gsum_apply _ p q).trans ((Finset.sum_congr rfl fun d _ => ?_).trans (g_eq (V m c main_arg0) (row t.val p) q).symm)
  exact rd0 (V m c main_arg0) t d p q

theorem final4 : (dats m 0 c).arrAt 4 cfg0.N = val_main_v1 (F := Ideal) (V m c main_arg0) := by
  refine (dats m 0 c).arrAt_eq_of_cover 4 _ ?_ ?_
  · intro t _
    rw [Value.flushed4]
    funext y
    obtain ⟨p, q, rfl⟩ : ∃ (p : Fin 64) (q : Fin 2048), y = (ix2 p q : S64x2048.Idx) := ⟨y 0, y 1, by funext a; match a with | ⟨0, _⟩ => rfl | ⟨1, _⟩ => rfl⟩
    rw [View.read_apply]
    refine (congrFun (out4 (iblk m c 0 t) (iblk m c 1 t) (iblk m c 2 t) (iblk m c 3 t)) (ix2 p q)).trans ?_
    have e : (((cfg0.win 4).blk t).view.emb (ix2 p q : S64x2048.Idx) : S704x2048.Idx) = ix2 (row t.val p) q :=
      funext fun a => Fin.ext (match a with | ⟨0, _⟩ => at0 t p | ⟨1, _⟩ => at1 t q)
    refine Eq.trans ?_ (congrArg (val_main_v1 (F := Ideal) (V m c main_arg0)) e.symm)
    exact gblk m c t p q
  · intro i
    obtain ⟨t, h⟩ := cov i
    refine ⟨t, flush0_4 _, ?_⟩
    show i ∈ ((View.whole main_v0_0).slice (win0_4.rect t)).set
    rw [View.set_slice_whole]
    exact h

theorem final5 : (dats m 0 c).arrAt 5 cfg0.N = val_main_v25 (F := Ideal) (V m c main_arg0) (V m c main_arg1) (V m c main_arg2) (V m c main_arg3) := by
  refine (dats m 0 c).arrAt_eq_of_cover 5 _ ?_ ?_
  · intro t _
    rw [Value.flushed5]
    funext y
    obtain ⟨p, q, rfl⟩ : ∃ (p : Fin 64) (q : Fin 2048), y = (ix2 p q : S64x2048.Idx) := ⟨y 0, y 1, by funext a; match a with | ⟨0, _⟩ => rfl | ⟨1, _⟩ => rfl⟩
    rw [View.read_apply]
    refine (congrFun (out5 (iblk m c 0 t) (iblk m c 1 t) (iblk m c 2 t) (iblk m c 3 t)) (ix2 p q)).trans ?_
    have e : (((cfg0.win 5).blk t).view.emb (ix2 p q : S64x2048.Idx) : S704x2048.Idx) = ix2 (row t.val p) q :=
      funext fun a => Fin.ext (match a with | ⟨0, _⟩ => at0 t p | ⟨1, _⟩ => at1 t q)
    refine Eq.trans ?_ (congrArg (val_main_v25 (F := Ideal) (V m c main_arg0) (V m c main_arg1) (V m c main_arg2) (V m c main_arg3)) e.symm)
    exact d_eq _ _ _ _ _ _ _ _ p (row t.val p) q (gblk m c t p q) (rd1 (V m c main_arg1) t p q) (rd2 (V m c main_arg2) t p q) (rd3 (V m c main_arg3) t p q)
  · intro i
    obtain ⟨t, h⟩ := cov i
    refine ⟨t, flush0_5 _, ?_⟩
    show i ∈ ((View.whole main_v0_1).slice (win0_5.rect t)).set
    rw [View.set_slice_whole]
    exact h

theorem final6 : (dats m 0 c).arrAt 6 cfg0.N = val_main_v6 (F := Ideal) (V m c main_arg0) (V m c main_arg2) := by
  refine (dats m 0 c).arrAt_eq_of_cover 6 _ ?_ ?_
  · intro t _
    rw [Value.flushed6]
    funext y
    obtain ⟨p, q, rfl⟩ : ∃ (p : Fin 64) (q : Fin 2048), y = (ix2 p q : S64x2048.Idx) := ⟨y 0, y 1, by funext a; match a with | ⟨0, _⟩ => rfl | ⟨1, _⟩ => rfl⟩
    rw [View.read_apply]
    refine (congrFun (out6 (iblk m c 0 t) (iblk m c 1 t) (iblk m c 2 t) (iblk m c 3 t)) (ix2 p q)).trans ?_
    have e : (((cfg0.win 6).blk t).view.emb (ix2 p q : S64x2048.Idx) : S704x2048.Idx) = ix2 (row t.val p) q :=
      funext fun a => Fin.ext (match a with | ⟨0, _⟩ => at0 t p | ⟨1, _⟩ => at1 t q)
    refine Eq.trans ?_ (congrArg (val_main_v6 (F := Ideal) (V m c main_arg0) (V m c main_arg2)) e.symm)
    exact m_eq _ _ _ _ p (row t.val p) q (gblk m c t p q) (rd2 (V m c main_arg2) t p q)
  · intro i
    obtain ⟨t, h⟩ := cov i
    refine ⟨t, flush0_6 _, ?_⟩
    show i ∈ ((View.whole main_v0_2).slice (win0_6.rect t)).set
    rw [View.set_slice_whole]
    exact h

theorem final7 : (dats m 0 c).arrAt 7 cfg0.N = val_main_v12 (F := Ideal) (V m c main_arg0) (V m c main_arg3) := by
  refine (dats m 0 c).arrAt_eq_of_cover 7 _ ?_ ?_
  · intro t _
    rw [Value.flushed7]
    funext y
    obtain ⟨p, q, rfl⟩ : ∃ (p : Fin 64) (q : Fin 2048), y = (ix2 p q : S64x2048.Idx) := ⟨y 0, y 1, by funext a; match a with | ⟨0, _⟩ => rfl | ⟨1, _⟩ => rfl⟩
    rw [View.read_apply]
    refine (congrFun (out7 (iblk m c 0 t) (iblk m c 1 t) (iblk m c 2 t) (iblk m c 3 t)) (ix2 p q)).trans ?_
    have e : (((cfg0.win 7).blk t).view.emb (ix2 p q : S64x2048.Idx) : S704x2048.Idx) = ix2 (row t.val p) q :=
      funext fun a => Fin.ext (match a with | ⟨0, _⟩ => at0 t p | ⟨1, _⟩ => at1 t q)
    refine Eq.trans ?_ (congrArg (val_main_v12 (F := Ideal) (V m c main_arg0) (V m c main_arg3)) e.symm)
    exact v_eq _ _ _ _ p (row t.val p) q (gblk m c t p q) (rd3 (V m c main_arg3) t p q)
  · intro i
    obtain ⟨t, h⟩ := cov i
    refine ⟨t, flush0_7 _, ?_⟩
    show i ∈ ((View.whole main_v0_3).slice (win0_7.rect t)).set
    rw [View.set_slice_whole]
    exact h

set_option maxHeartbeats 2000000 in
/-- The kernel's sum, change and moments and the reference's are equal for all arguments. -/
theorem algebraic : Cert.algebraic_Kernel23Ideal_Reference23Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · exact Value.run_blocks m ρ
  · refine (θ_run Cert.Reference23Ideal.defs _ _).mono (fun r h c => ?_) (Cert.Reference23Ideal.Value.run (F := Ideal) m' ρ')
    obtain ⟨a0, a1, a2, a3⟩ := hagree c
    obtain ⟨w0, w1, w2, w3, w4⟩ := h c
    refine ⟨w0.trans ?_, w1.trans ?_, w2.trans ?_, w3.trans ?_, w4⟩
    · show _ = (dats m 0 c).arrAt 4 cfg0.N
      rw [final4 m c, val_main_v1_eq, a0, V_main_arg0]
    · show _ = (dats m 0 c).arrAt 5 cfg0.N
      rw [final5 m c, val_main_v25_eq, a0, a1, a2, a3, V_main_arg0, V_main_arg1, V_main_arg2, V_main_arg3]
    · show _ = (dats m 0 c).arrAt 6 cfg0.N
      rw [final6 m c, val_main_v6_eq, a0, a2, V_main_arg0, V_main_arg2]
    · show _ = (dats m 0 c).arrAt 7 cfg0.N
      rw [final7 m c, val_main_v12_eq, a0, a3, V_main_arg0, V_main_arg3]

end Cert.Kernel23Ideal.Hand
-- ==== Proof.AdamOut.lean ====
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Sums

/-! The optimiser's step of the output product's weights: the sum of the devices' gradients, and the step's change and moments from it. -/

@[expose] public section

set_option maxRecDepth 16384

noncomputable section

namespace Cert.Kernel24Ideal.Hand

open Idealize.ShloMosaic.TcCoe Idealize.SL.Sem
open Cert.Kernel24Ideal Cert.Kernel24Ideal.Gen Idealize.ShloMosaic
open Cert.Sums Cert.Reference24Ideal.Read

/-! ## What the body stores -/

theorem part (d : ℕ) (hd : d < 8) (h : ∀ a, (![d, 0, 0] : Fin 3 → ℕ) a + S1x128x2048.size a ≤ S8x128x2048.size a) (x : Vec Ideal S8x128x2048 .bf16) (p : Fin 128) (q : Fin 2048) :
    View.ld x (Rect.unit (s := S8x128x2048) ![d, 0, 0] ![1, 128, 2048] h) (ix3 0 p q) = x (ix3 ⟨d, hd⟩ p q) := by
  refine congrArg x (funext fun a => Fin.ext ?_)
  match a with
  | ⟨0, _⟩ => rfl
  | ⟨1, _⟩ => show 0 + 1 * p.val = p.val; omega
  | ⟨2, _⟩ => show 0 + 1 * q.val = q.val; omega

/-- The sum of the devices' parts of the gradient, as the body forms it from a block of them. -/
def gsum (x0 : Vec Ideal S8x128x2048 .bf16) : Vec Ideal S128x2048 .f32 := k0_pay4 (View.ld x0 (Rect.unit (s := S8x128x2048) ![0, 0, 0] ![1, 128, 2048] inb_S8x128x2048_S1x128x2048_0_0_0)) (View.ld x0 (Rect.unit (s := S8x128x2048) ![1, 0, 0] ![1, 128, 2048] inb_S8x128x2048_S1x128x2048_1_0_0)) (View.ld x0 (Rect.unit (s := S8x128x2048) ![2, 0, 0] ![1, 128, 2048] inb_S8x128x2048_S1x128x2048_2_0_0)) (View.ld x0 (Rect.unit (s := S8x128x2048) ![3, 0, 0] ![1, 128, 2048] inb_S8x128x2048_S1x128x2048_3_0_0)) (View.ld x0 (Rect.unit (s := S8x128x2048) ![4, 0, 0] ![1, 128, 2048] inb_S8x128x2048_S1x128x2048_4_0_0)) (View.ld x0 (Rect.unit (s := S8x128x2048) ![5, 0, 0] ![1, 128, 2048] inb_S8x128x2048_S1x128x2048_5_0_0)) (View.ld x0 (Rect.unit (s := S8x128x2048) ![6, 0, 0] ![1, 128, 2048] inb_S8x128x2048_S1x128x2048_6_0_0)) (View.ld x0 (Rect.unit (s := S8x128x2048) ![7, 0, 0] ![1, 128, 2048] inb_S8x128x2048_S1x128x2048_7_0_0))

theorem gsum_apply (x0 : Vec Ideal S8x128x2048 .bf16) (p : Fin 128) (q : Fin 2048) :
    gsum x0 (ix2 p q) = ∑ d : Fin 8, x0 (ix3 d p q) := by
  have e : ∀ a0 a1 a2 a3 a4 a5 a6 a7 : Vec Ideal S1x128x2048 .bf16, k0_pay4 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q) + a7 (ix3 0 p q) := by
    intro a0 a1 a2 a3 a4 a5 a6 a7
    pointwise [k0_pay4]
  refine (e _ _ _ _ _ _ _ _).trans ?_
  rw [Fin.sum_univ_eight, part 0 (by decide), part 1 (by decide), part 2 (by decide), part 3 (by decide), part 4 (by decide), part 5 (by decide), part 6 (by decide), part 7 (by decide)] <;> rfl

theorem out4 (x0 : Vec Ideal S8x128x2048 .bf16) (x1 x2 x3 : Vec Ideal S128x2048 .f32) : out0_4 (F := Ideal) x0 x1 x2 x3 = gsum x0 := by
  unfold out0_4
  exact canon2 _ _

theorem out5 (x0 : Vec Ideal S8x128x2048 .bf16) (x1 x2 x3 : Vec Ideal S128x2048 .f32) : out0_5 (F := Ideal) x0 x1 x2 x3 = k0_pay3 (gsum x0) x2 x3 x1 := by
  unfold out0_5
  refine (canon2 _ _).trans ?_
  show k0_pay3 (gsum x0) (View.ld x2 (Rect.unit (s := S128x2048) ![0, 0] ![128, 2048] inb_S128x2048_S128x2048_0_0)) (View.ld x3 (Rect.unit (s := S128x2048) ![0, 0] ![128, 2048] inb_S128x2048_S128x2048_0_0)) (View.ld x1 (Rect.unit (s := S128x2048) ![0, 0] ![128, 2048] inb_S128x2048_S128x2048_0_0)) = _
  simp only [ld2]

theorem out6 (x0 : Vec Ideal S8x128x2048 .bf16) (x1 x2 x3 : Vec Ideal S128x2048 .f32) : out0_6 (F := Ideal) x0 x1 x2 x3 = k0_pay1 (gsum x0) x2 := by
  unfold out0_6
  refine (canon2 _ _).trans ?_
  show k0_pay1 (gsum x0) (View.ld x2 (Rect.unit (s := S128x2048) ![0, 0] ![128, 2048] inb_S128x2048_S128x2048_0_0)) = _
  simp only [ld2]

theorem out7 (x0 : Vec Ideal S8x128x2048 .bf16) (x1 x2 x3 : Vec Ideal S128x2048 .f32) : out0_7 (F := Ideal) x0 x1 x2 x3 = k0_pay2 (gsum x0) x3 := by
  unfold out0_7
  refine (canon2 _ _).trans ?_
  show k0_pay2 (gsum x0) (View.ld x3 (Rect.unit (s := S128x2048) ![0, 0] ![128, 2048] inb_S128x2048_S128x2048_0_0)) = _
  simp only [ld2]

/-! ## The blocks of the arrays -/

/-- The row that a place in point `t`'s block stands for. -/
def row (t : ℕ) (p : Fin 128) : Fin 256 := at' (by decide) 128 t p.val

theorem idx0 : ∀ t : Fin grid0.N, win0_0.index t 0 = 0 ∧ win0_0.index t 1 = t.val ∧ win0_0.index t 2 = 0 := by decide +kernel
theorem idx1 : ∀ t : Fin grid0.N, win0_1.index t 0 = t.val ∧ win0_1.index t 1 = 0 := by decide +kernel
theorem t_lt (t : Fin cfg0.N) : t.val < 2 := lt_of_lt_of_eq t.isLt N_0
theorem row_val {t : ℕ} (ht : t < 2) (p : Fin 128) : (row t p).val = 128 * t + p.val := at'_val _ (by have := p.isLt; omega)

theorem rd0 (X : Vec Ideal S8x256x2048 .bf16) (t : Fin cfg0.N) (d : Fin 8) (p : Fin 128) (q : Fin 2048) :
    ((cfg0.win 0).blk t).view.read (Elt Ideal) X (ix3 d p q) = X (ix3 d (row t.val p) q) := by
  have ht := t_lt t
  rw [View.read_apply]
  refine congrArg X ?_
  funext a
  apply Fin.ext
  match a with
  | ⟨0, _⟩ => show win0_0.index t 0 * 8 + 1 * d.val = d.val; rw [(idx0 t).1]; omega
  | ⟨1, _⟩ => show win0_0.index t 1 * 128 + 1 * p.val = (row t.val p).val; rw [(idx0 t).2.1, row_val ht p]; omega
  | ⟨2, _⟩ => show win0_0.index t 2 * 2048 + 1 * q.val = q.val; rw [(idx0 t).2.2]; omega

/-- The windows of the weights, of the moments and of the results all move by one block of rows a point. -/
theorem at0 (t : Fin cfg0.N) (p : Fin 128) : win0_1.index t 0 * 128 + 1 * p.val = (row t.val p).val := by
  rw [(idx1 t).1, row_val (t_lt t) p]; omega
theorem at1 (t : Fin cfg0.N) (q : Fin 2048) : win0_1.index t 1 * 2048 + 1 * q.val = q.val := by
  rw [(idx1 t).2]; omega
theorem cov (i : S256x2048.Idx) : ∃ t : Fin cfg0.N, i ∈ (win0_1.rect t).set := by
  have h0 : (i 0).val < 256 := (i 0).isLt
  have h1 : (i 1).val < 2048 := (i 1).isLt
  refine ⟨⟨(i 0).val / 128, lt_of_lt_of_eq (by omega : _ < 2) N_0.symm⟩, ?_⟩
  generalize ht : (⟨(i 0).val / 128, _⟩ : Fin cfg0.N) = t
  have tv : t.val = (i 0).val / 128 := by rw [← ht]
  have hi := idx1 t
  rw [Rect.mem_set_unit]
  intro a
  match a with
  | ⟨0, _⟩ => show win0_1.index t 0 * 128 ≤ (i 0).val ∧ (i 0).val < win0_1.index t 0 * 128 + 128; rw [hi.1]; omega
  | ⟨1, _⟩ => show win0_1.index t 1 * 2048 ≤ (i 1).val ∧ (i 1).val < win0_1.index t 1 * 2048 + 2048; rw [hi.2]; omega

theorem rd1 (X : Vec Ideal S256x2048 .f32) (t : Fin cfg0.N) (p : Fin 128) (q : Fin 2048) :
    ((cfg0.win 1).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd2 (X : Vec Ideal S256x2048 .f32) (t : Fin cfg0.N) (p : Fin 128) (q : Fin 2048) :
    ((cfg0.win 2).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd3 (X : Vec Ideal S256x2048 .f32) (t : Fin cfg0.N) (p : Fin 128) (q : Fin 2048) :
    ((cfg0.win 3).blk t).view.read (Elt Ideal) X (ix2 p q) = X (ix2 (row t.val p) q) :=
  (View.read_apply ..).trans (congrArg X (funext fun a => Fin.ext (match a with | ⟨0, _⟩ => at0 t p | ⟨1, _⟩ => at1 t q)))

/-! ## The step at an index: a block's is the reference's where the block's entries are the arrays' -/

theorem g_eq (X0 : Vec Ideal S8x256x2048 .bf16) (p : Fin 256) (q : Fin 2048) :
    val_main_v1 (F := Ideal) X0 (ix2 p q) = ∑ d : Fin 8, X0 (ix3 d p q) := by
  pointwise [val_main_v1, val_main_cst, val_main_v0]

theorem m_eq (G x2 : Vec Ideal S128x2048 .f32) (X0 : Vec Ideal S8x256x2048 .bf16) (X2 : Vec Ideal S256x2048 .f32) (i : Fin 128) (p : Fin 256) (q : Fin 2048)
    (hg : G (ix2 i q) = val_main_v1 (F := Ideal) X0 (ix2 p q)) (h2 : x2 (ix2 i q) = X2 (ix2 p q)) :
    k0_pay1 (F := Ideal) G x2 (ix2 i q) = val_main_v6 (F := Ideal) X0 X2 (ix2 p q) := by
  unfold val_main_v6 val_main_v5
  generalize val_main_v1 (F := Ideal) X0 = Y at hg ⊢
  pointwise [k0_pay1, val_main_v4, val_main_v3, val_main_v2, val_main_cst_0, val_main_cst_1]
  rw [hg, h2]

theorem v_eq (G x3 : Vec Ideal S128x2048 .f32) (X0 : Vec Ideal S8x256x2048 .bf16) (X3 : Vec Ideal S256x2048 .f32) (i : Fin 128) (p : Fin 256) (q : Fin 2048)
    (hg : G (ix2 i q) = val_main_v1 (F := Ideal) X0 (ix2 p q)) (h3 : x3 (ix2 i q) = X3 (ix2 p q)) :
    k0_pay2 (F := Ideal) G x3 (ix2 i q) = val_main_v12 (F := Ideal) X0 X3 (ix2 p q) := by
  unfold val_main_v12 val_main_v11 val_main_v9
  generalize val_main_v1 (F := Ideal) X0 = Y at hg ⊢
  pointwise [k0_pay2, val_main_v10, val_main_v8, val_main_v7, val_main_cst_2, val_main_cst_3]
  rw [hg, h3]

theorem d_eq (G x1 x2 x3 : Vec Ideal S128x2048 .f32) (X0 : Vec Ideal S8x256x2048 .bf16) (X1 X2 X3 : Vec Ideal S256x2048 .f32) (i : Fin 128) (p : Fin 256) (q : Fin 2048)
    (hg : G (ix2 i q) = val_main_v1 (F := Ideal) X0 (ix2 p q)) (h1 : x1 (ix2 i q) = X1 (ix2 p q)) (h2 : x2 (ix2 i q) = X2 (ix2 p q)) (h3 : x3 (ix2 i q) = X3 (ix2 p q)) :
    k0_pay3 (F := Ideal) G x2 x3 x1 (ix2 i q) = val_main_v25 (F := Ideal) X0 X1 X2 X3 (ix2 p q) := by
  have em := m_eq G x2 X0 X2 i p q hg h2
  have ev := v_eq G x3 X0 X3 i p q hg h3
  unfold k0_pay3 val_main_v25 val_main_v23 val_main_v20 val_main_v19 val_main_v17 val_main_v16 val_main_v14
  generalize val_main_v6 (F := Ideal) X0 X2 = Y at em ⊢
  generalize val_main_v12 (F := Ideal) X0 X3 = Z at ev ⊢
  generalize k0_pay1 (F := Ideal) G x2 = y at em ⊢
  generalize k0_pay2 (F := Ideal) G x3 = z at ev ⊢
  pointwise [val_main_v24, val_main_v22, val_main_v21, val_main_v18, val_main_v15, val_main_v13, val_main_cst_4, val_main_cst_5, val_main_cst_6, val_main_cst_7, val_main_cst_8]
  rw [em, ev, h1]

variable (m : (ℓ : Loc nD τ sig) → Buf (Elt Ideal) ℓ) (c : Dev nD)

theorem gblk (t : Fin cfg0.N) (p : Fin 128) (q : Fin 2048) :
    gsum (iblk m c 0 t) (ix2 p q) = val_main_v1 (F := Ideal) (V m c main_arg0) (ix2 (row t.val p) q) := by
  refine (gsum_apply _ p q).trans ((Finset.sum_congr rfl fun d _ => ?_).trans (g_eq (V m c main_arg0) (row t.val p) q).symm)
  exact rd0 (V m c main_arg0) t d p q

theorem final4 : (dats m 0 c).arrAt 4 cfg0.N = val_main_v1 (F := Ideal) (V m c main_arg0) := by
  refine (dats m 0 c).arrAt_eq_of_cover 4 _ ?_ ?_
  · intro t _
    rw [Value.flushed4]
    funext y
    obtain ⟨p, q, rfl⟩ : ∃ (p : Fin 128) (q : Fin 2048), y = (ix2 p q : S128x2048.Idx) := ⟨y 0, y 1, by funext a; match a with | ⟨0, _⟩ => rfl | ⟨1, _⟩ => rfl⟩
    rw [View.read_apply]
    refine (congrFun (out4 (iblk m c 0 t) (iblk m c 1 t) (iblk m c 2 t) (iblk m c 3 t)) (ix2 p q)).trans ?_
    have e : (((cfg0.win 4).blk t).view.emb (ix2 p q : S128x2048.Idx) : S256x2048.Idx) = ix2 (row t.val p) q :=
      funext fun a => Fin.ext (match a with | ⟨0, _⟩ => at0 t p | ⟨1, _⟩ => at1 t q)
    refine Eq.trans ?_ (congrArg (val_main_v1 (F := Ideal) (V m c main_arg0)) e.symm)
    exact gblk m c t p q
  · intro i
    obtain ⟨t, h⟩ := cov i
    refine ⟨t, flush0_4 _, ?_⟩
    show i ∈ ((View.whole main_v0_0).slice (win0_4.rect t)).set
    rw [View.set_slice_whole]
    exact h

theorem final5 : (dats m 0 c).arrAt 5 cfg0.N = val_main_v25 (F := Ideal) (V m c main_arg0) (V m c main_arg1) (V m c main_arg2) (V m c main_arg3) := by
  refine (dats m 0 c).arrAt_eq_of_cover 5 _ ?_ ?_
  · intro t _
    rw [Value.flushed5]
    funext y
    obtain ⟨p, q, rfl⟩ : ∃ (p : Fin 128) (q : Fin 2048), y = (ix2 p q : S128x2048.Idx) := ⟨y 0, y 1, by funext a; match a with | ⟨0, _⟩ => rfl | ⟨1, _⟩ => rfl⟩
    rw [View.read_apply]
    refine (congrFun (out5 (iblk m c 0 t) (iblk m c 1 t) (iblk m c 2 t) (iblk m c 3 t)) (ix2 p q)).trans ?_
    have e : (((cfg0.win 5).blk t).view.emb (ix2 p q : S128x2048.Idx) : S256x2048.Idx) = ix2 (row t.val p) q :=
      funext fun a => Fin.ext (match a with | ⟨0, _⟩ => at0 t p | ⟨1, _⟩ => at1 t q)
    refine Eq.trans ?_ (congrArg (val_main_v25 (F := Ideal) (V m c main_arg0) (V m c main_arg1) (V m c main_arg2) (V m c main_arg3)) e.symm)
    exact d_eq _ _ _ _ _ _ _ _ p (row t.val p) q (gblk m c t p q) (rd1 (V m c main_arg1) t p q) (rd2 (V m c main_arg2) t p q) (rd3 (V m c main_arg3) t p q)
  · intro i
    obtain ⟨t, h⟩ := cov i
    refine ⟨t, flush0_5 _, ?_⟩
    show i ∈ ((View.whole main_v0_1).slice (win0_5.rect t)).set
    rw [View.set_slice_whole]
    exact h

theorem final6 : (dats m 0 c).arrAt 6 cfg0.N = val_main_v6 (F := Ideal) (V m c main_arg0) (V m c main_arg2) := by
  refine (dats m 0 c).arrAt_eq_of_cover 6 _ ?_ ?_
  · intro t _
    rw [Value.flushed6]
    funext y
    obtain ⟨p, q, rfl⟩ : ∃ (p : Fin 128) (q : Fin 2048), y = (ix2 p q : S128x2048.Idx) := ⟨y 0, y 1, by funext a; match a with | ⟨0, _⟩ => rfl | ⟨1, _⟩ => rfl⟩
    rw [View.read_apply]
    refine (congrFun (out6 (iblk m c 0 t) (iblk m c 1 t) (iblk m c 2 t) (iblk m c 3 t)) (ix2 p q)).trans ?_
    have e : (((cfg0.win 6).blk t).view.emb (ix2 p q : S128x2048.Idx) : S256x2048.Idx) = ix2 (row t.val p) q :=
      funext fun a => Fin.ext (match a with | ⟨0, _⟩ => at0 t p | ⟨1, _⟩ => at1 t q)
    refine Eq.trans ?_ (congrArg (val_main_v6 (F := Ideal) (V m c main_arg0) (V m c main_arg2)) e.symm)
    exact m_eq _ _ _ _ p (row t.val p) q (gblk m c t p q) (rd2 (V m c main_arg2) t p q)
  · intro i
    obtain ⟨t, h⟩ := cov i
    refine ⟨t, flush0_6 _, ?_⟩
    show i ∈ ((View.whole main_v0_2).slice (win0_6.rect t)).set
    rw [View.set_slice_whole]
    exact h

theorem final7 : (dats m 0 c).arrAt 7 cfg0.N = val_main_v12 (F := Ideal) (V m c main_arg0) (V m c main_arg3) := by
  refine (dats m 0 c).arrAt_eq_of_cover 7 _ ?_ ?_
  · intro t _
    rw [Value.flushed7]
    funext y
    obtain ⟨p, q, rfl⟩ : ∃ (p : Fin 128) (q : Fin 2048), y = (ix2 p q : S128x2048.Idx) := ⟨y 0, y 1, by funext a; match a with | ⟨0, _⟩ => rfl | ⟨1, _⟩ => rfl⟩
    rw [View.read_apply]
    refine (congrFun (out7 (iblk m c 0 t) (iblk m c 1 t) (iblk m c 2 t) (iblk m c 3 t)) (ix2 p q)).trans ?_
    have e : (((cfg0.win 7).blk t).view.emb (ix2 p q : S128x2048.Idx) : S256x2048.Idx) = ix2 (row t.val p) q :=
      funext fun a => Fin.ext (match a with | ⟨0, _⟩ => at0 t p | ⟨1, _⟩ => at1 t q)
    refine Eq.trans ?_ (congrArg (val_main_v12 (F := Ideal) (V m c main_arg0) (V m c main_arg3)) e.symm)
    exact v_eq _ _ _ _ p (row t.val p) q (gblk m c t p q) (rd3 (V m c main_arg3) t p q)
  · intro i
    obtain ⟨t, h⟩ := cov i
    refine ⟨t, flush0_7 _, ?_⟩
    show i ∈ ((View.whole main_v0_3).slice (win0_7.rect t)).set
    rw [View.set_slice_whole]
    exact h

set_option maxHeartbeats 2000000 in
/-- The kernel's sum, change and moments and the reference's are equal for all arguments. -/
theorem algebraic : Cert.algebraic_Kernel24Ideal_Reference24Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · exact Value.run_blocks m ρ
  · refine (θ_run Cert.Reference24Ideal.defs _ _).mono (fun r h c => ?_) (Cert.Reference24Ideal.Value.run (F := Ideal) m' ρ')
    obtain ⟨a0, a1, a2, a3⟩ := hagree c
    obtain ⟨w0, w1, w2, w3, w4⟩ := h c
    refine ⟨w0.trans ?_, w1.trans ?_, w2.trans ?_, w3.trans ?_, w4⟩
    · show _ = (dats m 0 c).arrAt 4 cfg0.N
      rw [final4 m c, val_main_v1_eq, a0, V_main_arg0]
    · show _ = (dats m 0 c).arrAt 5 cfg0.N
      rw [final5 m c, val_main_v25_eq, a0, a1, a2, a3, V_main_arg0, V_main_arg1, V_main_arg2, V_main_arg3]
    · show _ = (dats m 0 c).arrAt 6 cfg0.N
      rw [final6 m c, val_main_v6_eq, a0, a2, V_main_arg0, V_main_arg2]
    · show _ = (dats m 0 c).arrAt 7 cfg0.N
      rw [final7 m c, val_main_v12_eq, a0, a3, V_main_arg0, V_main_arg3]

end Cert.Kernel24Ideal.Hand
-- ==== Proof.AdamCmp.lean ====
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Sums

/-! The optimiser's step of the compression's first weights: the sum of the devices' gradients, and the step's change and moments from it. -/

@[expose] public section

set_option maxRecDepth 16384

noncomputable section

namespace Cert.Kernel25Ideal.Hand

open Idealize.ShloMosaic.TcCoe Idealize.SL.Sem
open Cert.Kernel25Ideal Cert.Kernel25Ideal.Gen Idealize.ShloMosaic
open Cert.Sums Cert.Reference25Ideal.Read

/-! ## What the body stores -/

theorem part (d : ℕ) (hd : d < 8) (h : ∀ a, (![d, 0, 0] : Fin 3 → ℕ) a + S1x256x256.size a ≤ S8x256x256.size a) (x : Vec Ideal S8x256x256 .f32) (p : Fin 256) (q : Fin 256) :
    View.ld x (Rect.unit (s := S8x256x256) ![d, 0, 0] ![1, 256, 256] h) (ix3 0 p q) = x (ix3 ⟨d, hd⟩ p q) := by
  refine congrArg x (funext fun a => Fin.ext ?_)
  match a with
  | ⟨0, _⟩ => rfl
  | ⟨1, _⟩ => show 0 + 1 * p.val = p.val; omega
  | ⟨2, _⟩ => show 0 + 1 * q.val = q.val; omega

/-- The sum of the devices' parts of the gradient, as the body forms it from a block of them. -/
def gsum (x0 : Vec Ideal S8x256x256 .f32) : Vec Ideal S256x256 .f32 := k0_pay4 (View.ld x0 (Rect.unit (s := S8x256x256) ![0, 0, 0] ![1, 256, 256] inb_S8x256x256_S1x256x256_0_0_0)) (View.ld x0 (Rect.unit (s := S8x256x256) ![1, 0, 0] ![1, 256, 256] inb_S8x256x256_S1x256x256_1_0_0)) (View.ld x0 (Rect.unit (s := S8x256x256) ![2, 0, 0] ![1, 256, 256] inb_S8x256x256_S1x256x256_2_0_0)) (View.ld x0 (Rect.unit (s := S8x256x256) ![3, 0, 0] ![1, 256, 256] inb_S8x256x256_S1x256x256_3_0_0)) (View.ld x0 (Rect.unit (s := S8x256x256) ![4, 0, 0] ![1, 256, 256] inb_S8x256x256_S1x256x256_4_0_0)) (View.ld x0 (Rect.unit (s := S8x256x256) ![5, 0, 0] ![1, 256, 256] inb_S8x256x256_S1x256x256_5_0_0)) (View.ld x0 (Rect.unit (s := S8x256x256) ![6, 0, 0] ![1, 256, 256] inb_S8x256x256_S1x256x256_6_0_0)) (View.ld x0 (Rect.unit (s := S8x256x256) ![7, 0, 0] ![1, 256, 256] inb_S8x256x256_S1x256x256_7_0_0))

theorem gsum_apply (x0 : Vec Ideal S8x256x256 .f32) (p : Fin 256) (q : Fin 256) :
    gsum x0 (ix2 p q) = ∑ d : Fin 8, x0 (ix3 d p q) := by
  have e : ∀ a0 a1 a2 a3 a4 a5 a6 a7 : Vec Ideal S1x256x256 .f32, k0_pay4 (F := Ideal) a0 a1 a2 a3 a4 a5 a6 a7 (ix2 p q)
      = a0 (ix3 0 p q) + a1 (ix3 0 p q) + a2 (ix3 0 p q) + a3 (ix3 0 p q) + a4 (ix3 0 p q) + a5 (ix3 0 p q) + a6 (ix3 0 p q) + a7 (ix3 0 p q) := by
    intro a0 a1 a2 a3 a4 a5 a6 a7
    pointwise [k0_pay4]
  refine (e _ _ _ _ _ _ _ _).trans ?_
  rw [Fin.sum_univ_eight, part 0 (by decide), part 1 (by decide), part 2 (by decide), part 3 (by decide), part 4 (by decide), part 5 (by decide), part 6 (by decide), part 7 (by decide)] <;> rfl

theorem out4 (x0 : Vec Ideal S8x256x256 .f32) (x1 x2 x3 : Vec Ideal S256x256 .f32) : out0_4 (F := Ideal) x0 x1 x2 x3 = gsum x0 := by
  unfold out0_4
  exact canon2 _ _

theorem out5 (x0 : Vec Ideal S8x256x256 .f32) (x1 x2 x3 : Vec Ideal S256x256 .f32) : out0_5 (F := Ideal) x0 x1 x2 x3 = k0_pay3 (gsum x0) (k0_pay5 x2) k0_pay6 x3 x1 := by
  unfold out0_5
  refine (canon2 _ _).trans ?_
  show k0_pay3 (gsum x0) (k0_pay5 (View.ld x2 (Rect.unit (s := S256x256) ![0, 0] ![256, 256] inb_S256x256_S256x256_0_0))) k0_pay6 (View.ld x3 (Rect.unit (s := S256x256) ![0, 0] ![256, 256] inb_S256x256_S256x256_0_0)) (View.ld x1 (Rect.unit (s := S256x256) ![0, 0] ![256, 256] inb_S256x256_S256x256_0_0)) = _
  simp only [ld2]

theorem out6 (x0 : Vec Ideal S8x256x256 .f32) (x1 x2 x3 : Vec Ideal S256x256 .f32) : out0_6 (F := Ideal) x0 x1 x2 x3 = k0_pay1 (gsum x0) (k0_pay5 x2) k0_pay6 := by
  unfold out0_6
  refine (canon2 _ _).trans ?_
  show k0_pay1 (gsum x0) (k0_pay5 (View.ld x2 (Rect.unit (s := S256x256) ![0, 0] ![256, 256] inb_S256x256_S256x256_0_0))) k0_pay6 = _
  simp only [ld2]

theorem out7 (x0 : Vec Ideal S8x256x256 .f32) (x1 x2 x3 : Vec Ideal S256x256 .f32) : out0_7 (F := Ideal) x0 x1 x2 x3 = k0_pay2 (gsum x0) x3 := by
  unfold out0_7
  refine (canon2 _ _).trans ?_
  show k0_pay2 (gsum x0) (View.ld x3 (Rect.unit (s := S256x256) ![0, 0] ![256, 256] inb_S256x256_S256x256_0_0)) = _
  simp only [ld2]

/-! ## The blocks of the arrays -/

/-- The row that a place in point `t`'s block stands for. -/
def row (t : ℕ) (p : Fin 256) : Fin 256 := at' (by decide) 256 t p.val

theorem idx0 : ∀ t : Fin grid0.N, win0_0.index t 0 = 0 ∧ win0_0.index t 1 = t.val ∧ win0_0.index t 2 = 0 := by decide +kernel
theorem idx1 : ∀ t : Fin grid0.N, win0_1.index t 0 = t.val ∧ win0_1.index t 1 = 0 := by decide +kernel
theorem t_lt (t : Fin cfg0.N) : t.val < 1 := lt_of_lt_of_eq t.isLt N_0
theorem row_val {t : ℕ} (ht : t < 1) (p : Fin 256) : (row t p).val = 256 * t + p.val := at'_val _ (by have := p.isLt; omega)

theorem rd0 (X : Vec Ideal S8x256x256 .f32) (t : Fin cfg0.N) (d : Fin 8) (p : Fin 256) (q : Fin 256) :
    ((cfg0.win 0).blk t).view.read (Elt Ideal) X (ix3 d p q) = X (ix3 d (row t.val p) q) := by
  have ht := t_lt t
  rw [View.read_apply]
  refine congrArg X ?_
  funext a
  apply Fin.ext
  match a with
  | ⟨0, _⟩ => show win0_0.index t 0 * 8 + 1 * d.val = d.val; rw [(idx0 t).1]; omega
  | ⟨1, _⟩ => show win0_0.index t 1 * 256 + 1 * p.val = (row t.val p).val; rw [(idx0 t).2.1, row_val ht p]; omega
  | ⟨2, _⟩ => show win0_0.index t 2 * 256 + 1 * q.val = q.val; rw [(idx0 t).2.2]; omega

/-- The windows of the weights, of the moments and of the results all move by one block of rows a point. -/
theorem at0 (t : Fin cfg0.N) (p : Fin 256) : win0_1.index t 0 * 256 + 1 * p.val = (row t.val p).val := by
  rw [(idx1 t).1, row_val (t_lt t) p]; omega
theorem at1 (t : Fin cfg0.N) (q : Fin 256) : win0_1.index t 1 * 256 + 1 * q.val = q.val := by
  rw [(idx1 t).2]; omega
theorem cov (i : S256x256.Idx) : ∃ t : Fin cfg0.N, i ∈ (win0_1.rect t).set := by
  have h0 : (i 0).val < 256 := (i 0).isLt
  have h1 : (i 1).val < 256 := (i 1).isLt
  refine ⟨⟨(i 0).val / 256, lt_of_lt_of_eq (by omega : _ < 1) N_0.symm⟩, ?_⟩
  generalize ht : (⟨(i 0).val / 256, _⟩ : Fin cfg0.N) = t
  have tv : t.val = (i 0).val / 256 := by rw [← ht]
  have hi := idx1 t
  rw [Rect.mem_set_unit]
  intro a
  match a with
  | ⟨0, _⟩ => show win0_1.index t 0 * 256 ≤ (i 0).val ∧ (i 0).val < win0_1.index t 0 * 256 + 256; rw [hi.1]; omega
  | ⟨1, _⟩ => show win0_1.index t 1 * 256 ≤ (i 1).val ∧ (i 1).val < win0_1.index t 1 * 256 + 256; rw [hi.2]; omega

theorem rd1 (X : Vec Ideal S256x256 .f32) (t : Fin cfg0.N) (p : Fin 256) (q : Fin 256) :
    ((cfg0.win 1).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd2 (X : Vec Ideal S256x256 .f32) (t : Fin cfg0.N) (p : Fin 256) (q : Fin 256) :
    ((cfg0.win 2).blk t).view.read (Elt Ideal) X (ix2 p q) = X (ix2 (row t.val p) q) :=
  (View.read_apply ..).trans (congrArg X (funext fun a => Fin.ext (match a with | ⟨0, _⟩ => at0 t p | ⟨1, _⟩ => at1 t q)))

theorem rd3 (X : Vec Ideal S256x256 .f32) (t : Fin cfg0.N) (p : Fin 256) (q : Fin 256) :
    ((cfg0.win 3).blk t).view.read (Elt Ideal) X (ix2 p q) = X (ix2 (row t.val p) q) :=
  (View.read_apply ..).trans (congrArg X (funext fun a => Fin.ext (match a with | ⟨0, _⟩ => at0 t p | ⟨1, _⟩ => at1 t q)))

/-! ## The step at an index: a block's is the reference's where the block's entries are the arrays' -/

theorem g_eq (X0 : Vec Ideal S8x256x256 .f32) (p : Fin 256) (q : Fin 256) :
    val_main_v0 (F := Ideal) X0 (ix2 p q) = ∑ d : Fin 8, X0 (ix3 d p q) := by
  pointwise [val_main_v0, val_main_cst]

theorem m_eq (G x2 : Vec Ideal S256x256 .f32) (X0 : Vec Ideal S8x256x256 .f32) (X2 : Vec Ideal S256x256 .f32) (i : Fin 256) (p : Fin 256) (q : Fin 256)
    (hg : G (ix2 i q) = val_main_v0 (F := Ideal) X0 (ix2 p q)) (h2 : x2 (ix2 i q) = X2 (ix2 p q)) :
    k0_pay1 (F := Ideal) G (k0_pay5 x2) k0_pay6 (ix2 i q) = val_main_v5 (F := Ideal) X0 X2 (ix2 p q) := by
  unfold val_main_v5 val_main_v4
  generalize val_main_v0 (F := Ideal) X0 = Y at hg ⊢
  pointwise [k0_pay1, k0_pay5, k0_pay6, val_main_v3, val_main_v2, val_main_v1, val_main_cst_0, val_main_cst_1]
  rw [hg, h2]

theorem v_eq (G x3 : Vec Ideal S256x256 .f32) (X0 : Vec Ideal S8x256x256 .f32) (X3 : Vec Ideal S256x256 .f32) (i : Fin 256) (p : Fin 256) (q : Fin 256)
    (hg : G (ix2 i q) = val_main_v0 (F := Ideal) X0 (ix2 p q)) (h3 : x3 (ix2 i q) = X3 (ix2 p q)) :
    k0_pay2 (F := Ideal) G x3 (ix2 i q) = val_main_v11 (F := Ideal) X0 X3 (ix2 p q) := by
  unfold val_main_v11 val_main_v10 val_main_v8
  generalize val_main_v0 (F := Ideal) X0 = Y at hg ⊢
  pointwise [k0_pay2, val_main_v9, val_main_v7, val_main_v6, val_main_cst_2, val_main_cst_3]
  rw [hg, h3]

theorem d_eq (G x1 x2 x3 : Vec Ideal S256x256 .f32) (X0 : Vec Ideal S8x256x256 .f32) (X1 X2 X3 : Vec Ideal S256x256 .f32) (i : Fin 256) (p : Fin 256) (q : Fin 256)
    (hg : G (ix2 i q) = val_main_v0 (F := Ideal) X0 (ix2 p q)) (h1 : x1 (ix2 i q) = X1 (ix2 p q)) (h2 : x2 (ix2 i q) = X2 (ix2 p q)) (h3 : x3 (ix2 i q) = X3 (ix2 p q)) :
    k0_pay3 (F := Ideal) G (k0_pay5 x2) k0_pay6 x3 x1 (ix2 i q) = val_main_v24 (F := Ideal) X0 X1 X2 X3 (ix2 p q) := by
  have em := m_eq G x2 X0 X2 i p q hg h2
  have ev := v_eq G x3 X0 X3 i p q hg h3
  unfold k0_pay3 val_main_v24 val_main_v22 val_main_v19 val_main_v18 val_main_v16 val_main_v15 val_main_v13
  generalize val_main_v5 (F := Ideal) X0 X2 = Y at em ⊢
  generalize val_main_v11 (F := Ideal) X0 X3 = Z at ev ⊢
  generalize k0_pay1 (F := Ideal) G (k0_pay5 x2) k0_pay6 = y at em ⊢
  generalize k0_pay2 (F := Ideal) G x3 = z at ev ⊢
  pointwise [val_main_v23, val_main_v21, val_main_v20, val_main_v17, val_main_v14, val_main_v12, val_main_cst_4, val_main_cst_5, val_main_cst_6, val_main_cst_7, val_main_cst_8]
  rw [em, ev, h1]

variable (m : (ℓ : Loc nD τ sig) → Buf (Elt Ideal) ℓ) (c : Dev nD)

theorem gblk (t : Fin cfg0.N) (p : Fin 256) (q : Fin 256) :
    gsum (iblk m c 0 t) (ix2 p q) = val_main_v0 (F := Ideal) (V m c main_arg0) (ix2 (row t.val p) q) := by
  refine (gsum_apply _ p q).trans ((Finset.sum_congr rfl fun d _ => ?_).trans (g_eq (V m c main_arg0) (row t.val p) q).symm)
  exact rd0 (V m c main_arg0) t d p q

theorem final4 : (dats m 0 c).arrAt 4 cfg0.N = val_main_v0 (F := Ideal) (V m c main_arg0) := by
  refine (dats m 0 c).arrAt_eq_of_cover 4 _ ?_ ?_
  · intro t _
    rw [Value.flushed4]
    funext y
    obtain ⟨p, q, rfl⟩ : ∃ (p : Fin 256) (q : Fin 256), y = (ix2 p q : S256x256.Idx) := ⟨y 0, y 1, by funext a; match a with | ⟨0, _⟩ => rfl | ⟨1, _⟩ => rfl⟩
    rw [View.read_apply]
    refine (congrFun (out4 (iblk m c 0 t) (iblk m c 1 t) (iblk m c 2 t) (iblk m c 3 t)) (ix2 p q)).trans ?_
    have e : (((cfg0.win 4).blk t).view.emb (ix2 p q : S256x256.Idx) : S256x256.Idx) = ix2 (row t.val p) q :=
      funext fun a => Fin.ext (match a with | ⟨0, _⟩ => at0 t p | ⟨1, _⟩ => at1 t q)
    refine Eq.trans ?_ (congrArg (val_main_v0 (F := Ideal) (V m c main_arg0)) e.symm)
    exact gblk m c t p q
  · intro i
    obtain ⟨t, h⟩ := cov i
    refine ⟨t, flush0_4 _, ?_⟩
    show i ∈ ((View.whole main_v0_0).slice (win0_4.rect t)).set
    rw [View.set_slice_whole]
    exact h

theorem final5 : (dats m 0 c).arrAt 5 cfg0.N = val_main_v24 (F := Ideal) (V m c main_arg0) (V m c main_arg1) (V m c main_arg2) (V m c main_arg3) := by
  refine (dats m 0 c).arrAt_eq_of_cover 5 _ ?_ ?_
  · intro t _
    rw [Value.flushed5]
    funext y
    obtain ⟨p, q, rfl⟩ : ∃ (p : Fin 256) (q : Fin 256), y = (ix2 p q : S256x256.Idx) := ⟨y 0, y 1, by funext a; match a with | ⟨0, _⟩ => rfl | ⟨1, _⟩ => rfl⟩
    rw [View.read_apply]
    refine (congrFun (out5 (iblk m c 0 t) (iblk m c 1 t) (iblk m c 2 t) (iblk m c 3 t)) (ix2 p q)).trans ?_
    have e : (((cfg0.win 5).blk t).view.emb (ix2 p q : S256x256.Idx) : S256x256.Idx) = ix2 (row t.val p) q :=
      funext fun a => Fin.ext (match a with | ⟨0, _⟩ => at0 t p | ⟨1, _⟩ => at1 t q)
    refine Eq.trans ?_ (congrArg (val_main_v24 (F := Ideal) (V m c main_arg0) (V m c main_arg1) (V m c main_arg2) (V m c main_arg3)) e.symm)
    exact d_eq _ _ _ _ _ _ _ _ p (row t.val p) q (gblk m c t p q) (rd1 (V m c main_arg1) t p q) (rd2 (V m c main_arg2) t p q) (rd3 (V m c main_arg3) t p q)
  · intro i
    obtain ⟨t, h⟩ := cov i
    refine ⟨t, flush0_5 _, ?_⟩
    show i ∈ ((View.whole main_v0_1).slice (win0_5.rect t)).set
    rw [View.set_slice_whole]
    exact h

theorem final6 : (dats m 0 c).arrAt 6 cfg0.N = val_main_v5 (F := Ideal) (V m c main_arg0) (V m c main_arg2) := by
  refine (dats m 0 c).arrAt_eq_of_cover 6 _ ?_ ?_
  · intro t _
    rw [Value.flushed6]
    funext y
    obtain ⟨p, q, rfl⟩ : ∃ (p : Fin 256) (q : Fin 256), y = (ix2 p q : S256x256.Idx) := ⟨y 0, y 1, by funext a; match a with | ⟨0, _⟩ => rfl | ⟨1, _⟩ => rfl⟩
    rw [View.read_apply]
    refine (congrFun (out6 (iblk m c 0 t) (iblk m c 1 t) (iblk m c 2 t) (iblk m c 3 t)) (ix2 p q)).trans ?_
    have e : (((cfg0.win 6).blk t).view.emb (ix2 p q : S256x256.Idx) : S256x256.Idx) = ix2 (row t.val p) q :=
      funext fun a => Fin.ext (match a with | ⟨0, _⟩ => at0 t p | ⟨1, _⟩ => at1 t q)
    refine Eq.trans ?_ (congrArg (val_main_v5 (F := Ideal) (V m c main_arg0) (V m c main_arg2)) e.symm)
    exact m_eq _ _ _ _ p (row t.val p) q (gblk m c t p q) (rd2 (V m c main_arg2) t p q)
  · intro i
    obtain ⟨t, h⟩ := cov i
    refine ⟨t, flush0_6 _, ?_⟩
    show i ∈ ((View.whole main_v0_2).slice (win0_6.rect t)).set
    rw [View.set_slice_whole]
    exact h

theorem final7 : (dats m 0 c).arrAt 7 cfg0.N = val_main_v11 (F := Ideal) (V m c main_arg0) (V m c main_arg3) := by
  refine (dats m 0 c).arrAt_eq_of_cover 7 _ ?_ ?_
  · intro t _
    rw [Value.flushed7]
    funext y
    obtain ⟨p, q, rfl⟩ : ∃ (p : Fin 256) (q : Fin 256), y = (ix2 p q : S256x256.Idx) := ⟨y 0, y 1, by funext a; match a with | ⟨0, _⟩ => rfl | ⟨1, _⟩ => rfl⟩
    rw [View.read_apply]
    refine (congrFun (out7 (iblk m c 0 t) (iblk m c 1 t) (iblk m c 2 t) (iblk m c 3 t)) (ix2 p q)).trans ?_
    have e : (((cfg0.win 7).blk t).view.emb (ix2 p q : S256x256.Idx) : S256x256.Idx) = ix2 (row t.val p) q :=
      funext fun a => Fin.ext (match a with | ⟨0, _⟩ => at0 t p | ⟨1, _⟩ => at1 t q)
    refine Eq.trans ?_ (congrArg (val_main_v11 (F := Ideal) (V m c main_arg0) (V m c main_arg3)) e.symm)
    exact v_eq _ _ _ _ p (row t.val p) q (gblk m c t p q) (rd3 (V m c main_arg3) t p q)
  · intro i
    obtain ⟨t, h⟩ := cov i
    refine ⟨t, flush0_7 _, ?_⟩
    show i ∈ ((View.whole main_v0_3).slice (win0_7.rect t)).set
    rw [View.set_slice_whole]
    exact h

set_option maxHeartbeats 2000000 in
/-- The kernel's sum, change and moments and the reference's are equal for all arguments. -/
theorem algebraic : Cert.algebraic_Kernel25Ideal_Reference25Ideal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, ?_, ?_⟩
  · exact Value.run_blocks m ρ
  · refine (θ_run Cert.Reference25Ideal.defs _ _).mono (fun r h c => ?_) (Cert.Reference25Ideal.Value.run (F := Ideal) m' ρ')
    obtain ⟨a0, a1, a2, a3⟩ := hagree c
    obtain ⟨w0, w1, w2, w3, w4⟩ := h c
    refine ⟨w0.trans ?_, w1.trans ?_, w2.trans ?_, w3.trans ?_, w4⟩
    · show _ = (dats m 0 c).arrAt 4 cfg0.N
      rw [final4 m c, val_main_v0_eq, a0, V_main_arg0]
    · show _ = (dats m 0 c).arrAt 5 cfg0.N
      rw [final5 m c, val_main_v24_eq, a0, a1, a2, a3, V_main_arg0, V_main_arg1, V_main_arg2, V_main_arg3]
    · show _ = (dats m 0 c).arrAt 6 cfg0.N
      rw [final6 m c, val_main_v5_eq, a0, a2, V_main_arg0, V_main_arg2]
    · show _ = (dats m 0 c).arrAt 7 cfg0.N
      rw [final7 m c, val_main_v11_eq, a0, a3, V_main_arg0, V_main_arg3]

end Cert.Kernel25Ideal.Hand
-- ==== Proof.lean ====
module

public import proofs.«01_k».proof.Defs
public import proofs.«01_k».proof.Proof.Gen.Kernel.Frame
public import proofs.«01_k».proof.Proof.Alg
public import proofs.«01_k».proof.Proof.Gen.Kernel2.Frame
public import proofs.«01_k».proof.Proof.Dact
public import proofs.«01_k».proof.Proof.Gen.Kernel3.Frame
public import proofs.«01_k».proof.Proof.Dv
public import proofs.«01_k».proof.Proof.Gen.Kernel4.Frame
public import proofs.«01_k».proof.Proof.DwGate
public import proofs.«01_k».proof.Proof.Gen.Kernel5.Frame
public import proofs.«01_k».proof.Proof.DwDown
public import proofs.«01_k».proof.Proof.Gen.Kernel6.Frame
public import proofs.«01_k».proof.Proof.FfnUp
public import proofs.«01_k».proof.Proof.Gen.Kernel7.Frame
public import proofs.«01_k».proof.Proof.FfnDown
public import proofs.«01_k».proof.Proof.Gen.Kernel8.Frame
public import proofs.«01_k».proof.Proof.DwIn
public import proofs.«01_k».proof.Proof.Gen.Kernel9.Frame
public import proofs.«01_k».proof.Proof.DwInSmall
public import proofs.«01_k».proof.Proof.Gen.Kernel10.Frame
public import proofs.«01_k».proof.Proof.DuMain
public import proofs.«01_k».proof.Proof.Gen.Kernel11.Frame
public import proofs.«01_k».proof.Proof.DuSmall
public import proofs.«01_k».proof.Proof.Gen.Kernel12.Frame
public import proofs.«01_k».proof.Proof.DwOut
public import proofs.«01_k».proof.Proof.Gen.Kernel13.Frame
public import proofs.«01_k».proof.Proof.Dmixed
public import proofs.«01_k».proof.Proof.Gen.Kernel14.Frame
public import proofs.«01_k».proof.Proof.OutProj
public import proofs.«01_k».proof.Proof.Gen.Kernel15.Frame
public import proofs.«01_k».proof.Proof.InProj
public import proofs.«01_k».proof.Proof.Gen.Kernel16.Frame
public import proofs.«01_k».proof.Proof.InProjSmall
public import proofs.«01_k».proof.Proof.Gen.Kernel17.Frame
public import proofs.«01_k».proof.Proof.RmsBwd
public import proofs.«01_k».proof.Proof.Gen.Kernel18.Frame
public import proofs.«01_k».proof.Proof.ConvBwd
public import proofs.«01_k».proof.Proof.Gen.Kernel19.Frame
public import proofs.«01_k».proof.Proof.CmpMlp
public import proofs.«01_k».proof.Proof.Gen.Kernel20.Frame
public import proofs.«01_k».proof.Proof.FinalLoss
public import proofs.«01_k».proof.Proof.Gen.Kernel21.Frame
public import proofs.«01_k».proof.Proof.AdamIn
public import proofs.«01_k».proof.Proof.Gen.Kernel22.Frame
public import proofs.«01_k».proof.Proof.AdamGate
public import proofs.«01_k».proof.Proof.Gen.Kernel23.Frame
public import proofs.«01_k».proof.Proof.AdamDown
public import proofs.«01_k».proof.Proof.Gen.Kernel24.Frame
public import proofs.«01_k».proof.Proof.AdamOut
public import proofs.«01_k».proof.Proof.Gen.Kernel25.Frame
public import proofs.«01_k».proof.Proof.AdamCmp
public import Idealize.ShloMosaic.Adequacy
public import Idealize.ShloMosaic.Init

@[expose] public section

noncomputable section

namespace Cert.Proof

open Idealize.ShloMosaic Idealize.SL.Sem

/-! Each reference runs and leaves its arguments unchanged; it declares no semaphore. -/

theorem frame_r : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_r2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_r5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
theorem frame_r6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)
theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)
theorem frame_r10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem frame_r11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem frame_r12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
theorem frame_r13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
theorem frame_r14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem frame_r15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)
theorem frame_r16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)
theorem frame_r17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)
theorem frame_r18 : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)
theorem frame_r19 : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)
theorem frame_r20 : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)
theorem frame_r21 : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)
theorem frame_r22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)
theorem frame_r23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)
theorem frame_r24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)
theorem frame_r25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Pre_finite.Gen.facts, Cert.Pre_finite2.Gen.facts, Cert.Pre_finite18.Gen.facts, Cert.Pre_finite19.Gen.facts,
  fun m ρ _ => Cert.Kernel.Gen.frame m ρ,
  fun m ρ _ => Cert.KernelIdeal.Gen.frame m ρ,
  fun m ρ _ => Cert.KernelIdeal.Gen.frame m ρ,
  fun m ρ _ => frame_r m ρ True.intro,
  fun m ρ _ => frame_r m ρ True.intro,
  fun m ρ _ => Cert.Kernel2.Gen.frame m ρ,
  fun m ρ _ => Cert.Kernel2Ideal.Gen.frame m ρ,
  fun m ρ _ => Cert.Kernel2Ideal.Gen.frame m ρ,
  fun m ρ _ => frame_r2 m ρ True.intro,
  fun m ρ _ => frame_r2 m ρ True.intro,
  fun m ρ _ => Cert.Kernel3.Gen.frame m ρ,
  fun m ρ _ => Cert.Kernel3Ideal.Gen.frame m ρ,
  fun m ρ _ => frame_r3 m ρ True.intro,
  fun m ρ _ => Cert.Kernel4.Gen.frame m ρ,
  fun m ρ _ => Cert.Kernel4Ideal.Gen.frame m ρ,
  fun m ρ _ => frame_r4 m ρ True.intro,
  fun m ρ _ => Cert.Kernel5.Gen.frame m ρ,
  fun m ρ _ => Cert.Kernel5Ideal.Gen.frame m ρ,
  fun m ρ _ => frame_r5 m ρ True.intro,
  fun m ρ _ => Cert.Kernel6.Gen.frame m ρ,
  fun m ρ _ => Cert.Kernel6Ideal.Gen.frame m ρ,
  fun m ρ _ => frame_r6 m ρ True.intro,
  fun m ρ _ => Cert.Kernel7.Gen.frame m ρ,
  fun m ρ _ => Cert.Kernel7Ideal.Gen.frame m ρ,
  fun m ρ _ => frame_r7 m ρ True.intro,
  fun m ρ _ => Cert.Kernel8.Gen.frame m ρ,
  fun m ρ _ => Cert.Kernel8Ideal.Gen.frame m ρ,
  fun m ρ _ => frame_r8 m ρ True.intro,
  fun m ρ _ => Cert.Kernel9.Gen.frame m ρ,
  fun m ρ _ => Cert.Kernel9Ideal.Gen.frame m ρ,
  fun m ρ _ => frame_r9 m ρ True.intro,
  fun m ρ _ => Cert.Kernel10.Gen.frame m ρ,
  fun m ρ _ => Cert.Kernel10Ideal.Gen.frame m ρ,
  fun m ρ _ => frame_r10 m ρ True.intro,
  fun m ρ _ => Cert.Kernel11.Gen.frame m ρ,
  fun m ρ _ => Cert.Kernel11Ideal.Gen.frame m ρ,
  fun m ρ _ => frame_r11 m ρ True.intro,
  fun m ρ _ => Cert.Kernel12.Gen.frame m ρ,
  fun m ρ _ => Cert.Kernel12Ideal.Gen.frame m ρ,
  fun m ρ _ => frame_r12 m ρ True.intro,
  fun m ρ _ => Cert.Kernel13.Gen.frame m ρ,
  fun m ρ _ => Cert.Kernel13Ideal.Gen.frame m ρ,
  fun m ρ _ => frame_r13 m ρ True.intro,
  fun m ρ _ => Cert.Kernel14.Gen.frame m ρ,
  fun m ρ _ => Cert.Kernel14Ideal.Gen.frame m ρ,
  fun m ρ _ => frame_r14 m ρ True.intro,
  fun m ρ _ => Cert.Kernel15.Gen.frame m ρ,
  fun m ρ _ => Cert.Kernel15Ideal.Gen.frame m ρ,
  fun m ρ _ => frame_r15 m ρ True.intro,
  fun m ρ _ => Cert.Kernel16.Gen.frame m ρ,
  fun m ρ _ => Cert.Kernel16Ideal.Gen.frame m ρ,
  fun m ρ _ => frame_r16 m ρ True.intro,
  fun m ρ _ => Cert.Kernel17.Gen.frame m ρ,
  fun m ρ _ => Cert.Kernel17Ideal.Gen.frame m ρ,
  fun m ρ _ => frame_r17 m ρ True.intro,
  fun m ρ _ => Cert.Kernel18.Gen.frame m ρ,
  fun m ρ _ => Cert.Kernel18Ideal.Gen.frame m ρ,
  fun m ρ _ => Cert.Kernel18Ideal.Gen.frame m ρ,
  fun m ρ _ => frame_r18 m ρ True.intro,
  fun m ρ _ => frame_r18 m ρ True.intro,
  fun m ρ _ => Cert.Kernel19.Gen.frame m ρ,
  fun m ρ _ => Cert.Kernel19Ideal.Gen.frame m ρ,
  fun m ρ _ => Cert.Kernel19Ideal.Gen.frame m ρ,
  fun m ρ _ => frame_r19 m ρ True.intro,
  fun m ρ _ => frame_r19 m ρ True.intro,
  fun m ρ _ => Cert.Kernel20.Gen.frame m ρ,
  fun m ρ _ => Cert.Kernel20Ideal.Gen.frame m ρ,
  fun m ρ _ => frame_r20 m ρ True.intro,
  fun m ρ _ => Cert.Kernel21.Gen.frame m ρ,
  fun m ρ _ => Cert.Kernel21Ideal.Gen.frame m ρ,
  fun m ρ _ => frame_r21 m ρ True.intro,
  fun m ρ _ => Cert.Kernel22.Gen.frame m ρ,
  fun m ρ _ => Cert.Kernel22Ideal.Gen.frame m ρ,
  fun m ρ _ => frame_r22 m ρ True.intro,
  fun m ρ _ => Cert.Kernel23.Gen.frame m ρ,
  fun m ρ _ => Cert.Kernel23Ideal.Gen.frame m ρ,
  fun m ρ _ => frame_r23 m ρ True.intro,
  fun m ρ _ => Cert.Kernel24.Gen.frame m ρ,
  fun m ρ _ => Cert.Kernel24Ideal.Gen.frame m ρ,
  fun m ρ _ => frame_r24 m ρ True.intro,
  fun m ρ _ => Cert.Kernel25.Gen.frame m ρ,
  fun m ρ _ => Cert.Kernel25Ideal.Gen.frame m ρ,
  fun m ρ _ => frame_r25 m ρ True.intro,
  trivial,
  Cert.KernelIdeal.Hand.algebraic,
  trivial,
  Cert.Kernel2Ideal.Hand.algebraic,
  trivial,
  Cert.Kernel3Ideal.Hand.algebraic,
  trivial,
  Cert.Kernel4Ideal.Hand.algebraic,
  trivial,
  Cert.Kernel5Ideal.Hand.algebraic,
  trivial,
  Cert.Kernel6Ideal.Hand.algebraic,
  trivial,
  Cert.Kernel7Ideal.Hand.algebraic,
  trivial,
  Cert.Kernel8Ideal.Hand.algebraic,
  trivial,
  Cert.Kernel9Ideal.Hand.algebraic,
  trivial,
  Cert.Kernel10Ideal.Hand.algebraic,
  trivial,
  Cert.Kernel11Ideal.Hand.algebraic,
  trivial,
  Cert.Kernel12Ideal.Hand.algebraic,
  trivial,
  Cert.Kernel13Ideal.Hand.algebraic,
  trivial,
  Cert.Kernel14Ideal.Hand.algebraic,
  trivial,
  Cert.Kernel15Ideal.Hand.algebraic,
  trivial,
  Cert.Kernel16Ideal.Hand.algebraic,
  trivial,
  Cert.Kernel17Ideal.Hand.algebraic,
  trivial,
  Cert.Kernel18Ideal.Hand.algebraic,
  trivial,
  Cert.Kernel19Ideal.Hand.algebraic,
  trivial,
  Cert.Kernel20Ideal.Hand.algebraic,
  trivial,
  Cert.Kernel21Ideal.Hand.algebraic,
  trivial,
  Cert.Kernel22Ideal.Hand.algebraic,
  trivial,
  Cert.Kernel23Ideal.Hand.algebraic,
  trivial,
  Cert.Kernel24Ideal.Hand.algebraic,
  trivial,
  Cert.Kernel25Ideal.Hand.algebraic⟩

end Cert.Proof

end
